-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 64]⟩ ⟨2, ![1024, 2048]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![64, 1024]⟩ ⟨2, ![2048, 1024]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![64, 1024]⟩ ⟨2, ![2048, 1024]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bcast_S_S2x256x1024 : S_.BroadcastsInDim S2x256x1024 (![] : Fin 0 → Fin S2x256x1024.rank)
  reducesTo_S2x256x1024_S_d0_1_2 : S2x256x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64x1024 : S_.BroadcastsInDim S64x1024 (![] : Fin 0 → Fin S64x1024.rank)
  reducesTo_S64x1024_S_d0_1 : S64x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part1 {F : FTy → Type} [FloatOps F] (main_arg5 : FVec F S1024x512 .bf16) (main_arg6 : FVec F S1024x32 .bf16) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x512 .bf16 := Host.absf main_arg5
  let main_cst_6 : FVec F S_ .bf16 := constant S_ .bf16 0x7F80#16
  let main_v20 : FVec F S1024x512 .bf16 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S1024x32 .bf16 := Host.absf main_arg6
  let main_cst_8 : FVec F S_ .bf16 := constant S_ .bf16 0x7F80#16
  let main_v25 : FVec F S1024x32 .bf16 := broadcastInDim S1024x32 ![] bcast_S_S1024x32 main_cst_8
  let main_v26 : IVec S1024x32 1 := cmpf .olt main_v24 main_v25
  let main_c_9 : IVec S_ 1 := constantI S_ 1 1#1
  let main_v27 : IVec S_ 1 := (fun x v => Host.reduce IntOp.andi x v reducesTo_S1024x32_S_d0_1 h_S_) main_v26 main_c_9
  let main_v28 : IVec S_ 1 := andi main_v23 main_v27
  main_v28

def fn {F : FTy → Type} [FloatOps F] (main_arg0 : FVec F S2x256x1024 .bf16) (main_arg1 : FVec F S1024x64 .bf16) (main_arg2 : FVec F S64x1024 .bf16) (main_arg3 : FVec F S64x1024 .bf16) (main_arg4 : FVec F S1024x1024 .bf16) (main_arg5 : FVec F S1024x512 .bf16) (main_arg6 : FVec F S1024x32 .bf16) (main_arg7 : FVec F S1024x1024 .bf16) : IVec S_ 1 :=
  let main_v0 : FVec F S2x256x1024 .bf16 := Host.absf main_arg0
  let main_cst : FVec F S_ .bf16 := constant S_ .bf16 0x7F80#16
  let main_v1 : FVec F S2x256x1024 .bf16 := broadcastInDim S2x256x1024 ![] bcast_S_S2x256x1024 main_cst
  let main_v2 : IVec S2x256x1024 1 := cmpf .olt main_v0 main_v1
  let main_c : IVec S_ 1 := constantI S_ 1 1#1
  let main_v3 : IVec S_ 1 := (fun x v => Host.reduce IntOp.andi x v reducesTo_S2x256x1024_S_d0_1_2 h_S_) main_v2 main_c
  let main_v4 : FVec F S1024x64 .bf16 := Host.absf main_arg1
  let main_cst_0 : FVec F S_ .bf16 := constant S_ .bf16 0x7F80#16
  let main_v5 : FVec F S1024x64 .bf16 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S64x1024 .bf16 := Host.absf main_arg2
  let main_cst_2 : FVec F S_ .bf16 := constant S_ .bf16 0x7F80#16
  let main_v10 : FVec F S64x1024 .bf16 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S1024x1024 .bf16 := Host.absf main_arg4
  let main_cst_4 : FVec F S_ .bf16 := constant S_ .bf16 0x7F80#16
  let main_v15 : FVec F S1024x1024 .bf16 := broadcastInDim S1024x1024 ![] bcast_S_S1024x1024 main_cst_4
  let main_v16 : IVec S1024x1024 1 := cmpf .olt main_v14 main_v15
  fn_part1 (F := F) main_arg5 main_arg6 main_v13 main_v16
-- ==== Pre_finite_scores_ReferenceIdeal.lean ====
abbrev S2x256x1024 : Shape := ⟨3, ![2, 256, 1024]⟩
abbrev S1024x2048 : Shape := ⟨2, ![1024, 2048]⟩
abbrev S2048x1024 : Shape := ⟨2, ![2048, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bcast_S_S2x256x1024 : S_.BroadcastsInDim S2x256x1024 (![] : Fin 0 → Fin S2x256x1024.rank)
  reducesTo_S2x256x1024_S_d0_1_2 : S2x256x1024.ReducesTo [0, 1, 2] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part1 {F : FTy → Type} [FloatOps F] (main_arg5 : FVec F S1024x512 .bf16) (main_arg6 : FVec F S1024x32 .bf16) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x512 .bf16 := Host.absf main_arg5
  let main_cst_6 : FVec F S_ .bf16 := constant S_ .bf16 0x7F80#16
  let main_v20 : FVec F S1024x512 .bf16 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S1024x32 .bf16 := Host.absf main_arg6
  let main_cst_8 : FVec F S_ .bf16 := constant S_ .bf16 0x7F80#16
  let main_v25 : FVec F S1024x32 .bf16 := broadcastInDim S1024x32 ![] bcast_S_S1024x32 main_cst_8
  let main_v26 : IVec S1024x32 1 := cmpf .olt main_v24 main_v25
  let main_c_9 : IVec S_ 1 := constantI S_ 1 1#1
  let main_v27 : IVec S_ 1 := (fun x v => Host.reduce IntOp.andi x v reducesTo_S1024x32_S_d0_1 h_S_) main_v26 main_c_9
  let main_v28 : IVec S_ 1 := andi main_v23 main_v27
  main_v28

def fn {F : FTy → Type} [FloatOps F] (main_arg0 : FVec F S2x256x1024 .bf16) (main_arg1 : FVec F S1024x2048 .bf16) (main_arg2 : FVec F S2048x1024 .bf16) (main_arg3 : FVec F S2048x1024 .bf16) (main_arg4 : FVec F S1024x1024 .bf16) (main_arg5 : FVec F S1024x512 .bf16) (main_arg6 : FVec F S1024x32 .bf16) (main_arg7 : FVec F S1024x1024 .bf16) : IVec S_ 1 :=
  let main_v0 : FVec F S2x256x1024 .bf16 := Host.absf main_arg0
  let main_cst : FVec F S_ .bf16 := constant S_ .bf16 0x7F80#16
  let main_v1 : FVec F S2x256x1024 .bf16 := broadcastInDim S2x256x1024 ![] bcast_S_S2x256x1024 main_cst
  let main_v2 : IVec S2x256x1024 1 := cmpf .olt main_v0 main_v1
  let main_c : IVec S_ 1 := constantI S_ 1 1#1
  let main_v3 : IVec S_ 1 := (fun x v => Host.reduce IntOp.andi x v reducesTo_S2x256x1024_S_d0_1_2 h_S_) main_v2 main_c
  let main_v4 : FVec F S1024x2048 .bf16 := Host.absf main_arg1
  let main_cst_0 : FVec F S_ .bf16 := constant S_ .bf16 0x7F80#16
  let main_v5 : FVec F S1024x2048 .bf16 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048x1024 .bf16 := Host.absf main_arg2
  let main_cst_2 : FVec F S_ .bf16 := constant S_ .bf16 0x7F80#16
  let main_v10 : FVec F S2048x1024 .bf16 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024x1024 .bf16 := Host.absf main_arg4
  let main_cst_4 : FVec F S_ .bf16 := constant S_ .bf16 0x7F80#16
  let main_v15 : FVec F S1024x1024 .bf16 := broadcastInDim S1024x1024 ![] bcast_S_S1024x1024 main_cst_4
  let main_v16 : IVec S1024x1024 1 := cmpf .olt main_v14 main_v15
  fn_part1 (F := F) main_arg5 main_arg6 main_v13 main_v16
-- ==== Kernel.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S512x1024 : Shape := ⟨2, ![512, 1024]⟩
abbrev S256x1024 : Shape := ⟨2, ![256, 1024]⟩
abbrev S128x1024 : Shape := ⟨2, ![128, 1024]⟩
abbrev S16x1024 : Shape := ⟨2, ![16, 1024]⟩
abbrev S512x512 : Shape := ⟨2, ![512, 512]⟩
abbrev S512x32 : Shape := ⟨2, ![512, 32]⟩
abbrev S512x4096 : Shape := ⟨2, ![512, 4096]⟩
abbrev S6 : Shape := ⟨1, ![6]⟩
abbrev S4 : Shape := ⟨1, ![4]⟩
abbrev S_ : Shape := ⟨0, ![]⟩
abbrev S512x64 : Shape := ⟨2, ![512, 64]⟩
abbrev S1 : Shape := ⟨1, ![1]⟩
abbrev S256x32 : Shape := ⟨2, ![256, 32]⟩
abbrev S256x64 : Shape := ⟨2, ![256, 64]⟩
abbrev S256x256 : Shape := ⟨2, ![256, 256]⟩
abbrev S256 : Shape := ⟨1, ![256]⟩
abbrev S256x1 : Shape := ⟨2, ![256, 1]⟩

abbrev nBuf : Space → Nat
  | .hbm => 9
  | .vmem => 27
  | .smem => 0
  | _ => 0

abbrev bufTy : (tb : Table) → Fin (tcTables nBuf tb) → BufTy
  | .hbm, ⟨0, _⟩ => ⟨S2x256x1024, .bf16⟩
  | .hbm, ⟨1, _⟩ => ⟨S1024x64, .bf16⟩
  | .hbm, ⟨2, _⟩ => ⟨S64x1024, .bf16⟩
  | .hbm, ⟨3, _⟩ => ⟨S64x1024, .bf16⟩
  | .hbm, ⟨4, _⟩ => ⟨S1024x1024, .bf16⟩
  | .hbm, ⟨5, _⟩ => ⟨S1024x512, .bf16⟩
  | .hbm, ⟨6, _⟩ => ⟨S1024x32, .bf16⟩
  | .hbm, ⟨7, _⟩ => ⟨S1024x1024, .bf16⟩
  | .hbm, ⟨8, _⟩ => ⟨S512x1024, .f32⟩
  | .local _ .vmem, ⟨0, _⟩ => ⟨S2x256x1024, .bf16⟩
  | .local _ .vmem, ⟨1, _⟩ => ⟨S1024x64, .bf16⟩
  | .local _ .vmem, ⟨2, _⟩ => ⟨S64x1024, .bf16⟩
  | .local _ .vmem, ⟨3, _⟩ => ⟨S64x1024, .bf16⟩
  | .local _ .vmem, ⟨4, _⟩ => ⟨S1024x1024, .bf16⟩
  | .local _ .vmem, ⟨5, _⟩ => ⟨S1024x512, .bf16⟩
  | .local _ .vmem, ⟨6, _⟩ => ⟨S1024x32, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S256x1024, .bf16⟩
  | .local _ .vmem, ⟨12, _⟩ => ⟨S128x1024, .bf16⟩
  | .local _ .vmem, ⟨13, _⟩ => ⟨S64x1024, .bf16⟩
  | .local _ .vmem, ⟨14, _⟩ => ⟨S256x1024, .bf16⟩
  | .local _ .vmem, ⟨15, _⟩ => ⟨S128x1024, .bf16⟩
  | .local _ .vmem, ⟨16, _⟩ => ⟨S64x1024, .bf16⟩
  | .local _ .vmem, ⟨17, _⟩ => ⟨S16x1024, .bf16⟩
  | .local _ .vmem, ⟨18, _⟩ => ⟨S16x1024, .bf16⟩
  | .local _ .vmem, ⟨19, _⟩ => ⟨S16x1024, .bf16⟩
  | .local _ .vmem, ⟨20, _⟩ => ⟨S16x1024, .bf16⟩
  | .local _ .vmem, ⟨21, _⟩ => ⟨S16x1024, .bf16⟩
  | .local _ .vmem, ⟨22, _⟩ => ⟨S16x1024, .bf16⟩
  | .local _ .vmem, ⟨23, _⟩ => ⟨S512x1024, .bf16⟩
  | .local _ .vmem, ⟨24, _⟩ => ⟨S512x512, .bf16⟩
  | .local _ .vmem, ⟨25, _⟩ => ⟨S512x32, .bf16⟩
  | .local _ .vmem, ⟨26, _⟩ => ⟨S512x4096, .bf16⟩
  | _, _ => ⟨S2x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch8 : Ref sig .tc := ⟨.vmem, 17, rfl⟩
abbrev cc0_scratch9 : Ref sig .tc := ⟨.vmem, 18, rfl⟩
abbrev cc0_scratch10 : Ref sig .tc := ⟨.vmem, 19, rfl⟩
abbrev cc0_scratch11 : Ref sig .tc := ⟨.vmem, 20, rfl⟩
abbrev cc0_scratch12 : Ref sig .tc := ⟨.vmem, 21, rfl⟩
abbrev cc0_scratch13 : Ref sig .tc := ⟨.vmem, 22, rfl⟩
abbrev cc0_scratch14 : Ref sig .tc := ⟨.vmem, 23, rfl⟩
abbrev cc0_scratch15 : Ref sig .tc := ⟨.vmem, 24, rfl⟩
abbrev cc0_scratch16 : Ref sig .tc := ⟨.vmem, 25, rfl⟩
abbrev cc0_scratch17 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_286 : BitVec 32 := 8#32
  let v571 : BitVec 32 := Scalar.muli v19 c8_i32_286
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_287 : BitVec 32 := 2#32
  let v572 : BitVec 32 := Scalar.muli v46 c2_i32_287
  let v573 : BitVec 32 := Scalar.addi v571 v572
  let c1_i32_285 : BitVec 32 := 1#32
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v570 : BitVec 32 := Scalar.subi c1_i32_285 v57
  let v574 : BitVec 32 := Scalar.addi v570 v46
  let c2_i32_288 : BitVec 32 := 2#32
  let c0_i32_289 : BitVec 32 := 0#32
  let v575 : BitVec 1 := Scalar.cmpi .eq c2_i32_288 c0_i32_289
  let c1_i32_290 : BitVec 32 := 1#32
  let v576 : BitVec 32 := Scalar.select v575 c1_i32_290 c2_i32_288
  let v577 : BitVec 32 := Scalar.remsi v574 v576
  let c0_i32_292 : BitVec 32 := 0#32
  let v579 : BitVec 1 := Scalar.cmpi .slt v577 c0_i32_292
  let c0_i32_293 : BitVec 32 := 0#32
  let v580 : BitVec 1 := Scalar.cmpi .slt v576 c0_i32_293
  let v581 : BitVec 1 := Scalar.xori v579 v580
  let c0_i32_291 : BitVec 32 := 0#32
  let v578 : BitVec 1 := Scalar.cmpi .ne v577 c0_i32_291
  let v582 : BitVec 1 := Scalar.andi v581 v578
  let v583 : BitVec 32 := Scalar.addi v577 v576
  let v584 : BitVec 32 := Scalar.select v582 v583 v577
  let v585 : BitVec 32 := Scalar.addi v573 v584
  let c1_i32_344 : BitVec 32 := 1#32
  let v678 : BitVec 32 := Scalar.muli v585 c1_i32_344
  let v679 : BitVec 32 := Scalar.addi c0_i32_345 v678
  v679.toNat
def k0_dev2 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_294 : BitVec 32 := 8#32
  let v586 : BitVec 32 := Scalar.muli v19 c8_i32_294
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v58 : BitVec 32 := Scalar.addi v46 c1_i32_23
  let c2_i32_30 : BitVec 32 := 2#32
  let c2_i32_24 : BitVec 32 := 2#32
  let c0_i32_25 : BitVec 32 := 0#32
  let v59 : BitVec 1 := Scalar.cmpi .eq c2_i32_24 c0_i32_25
  let c1_i32_26 : BitVec 32 := 1#32
  let v60 : BitVec 32 := Scalar.select v59 c1_i32_26 c2_i32_24
  let v61 : BitVec 32 := Scalar.remsi v46 v60
  let c0_i32_28 : BitVec 32 := 0#32
  let v63 : BitVec 1 := Scalar.cmpi .slt v61 c0_i32_28
  let c0_i32_29 : BitVec 32 := 0#32
  let v64 : BitVec 1 := Scalar.cmpi .slt v60 c0_i32_29
  let v65 : BitVec 1 := Scalar.xori v63 v64
  let c0_i32_27 : BitVec 32 := 0#32
  let v62 : BitVec 1 := Scalar.cmpi .ne v61 c0_i32_27
  let v66 : BitVec 1 := Scalar.andi v65 v62
  let v67 : BitVec 32 := Scalar.addi v61 v60
  let v68 : BitVec 32 := Scalar.select v66 v67 v61
  let v69 : BitVec 32 := Scalar.muli c2_i32_30 v68
  let v70 : BitVec 32 := Scalar.subi v58 v69
  let c2_i32_295 : BitVec 32 := 2#32
  let v587 : BitVec 32 := Scalar.muli v70 c2_i32_295
  let v588 : BitVec 32 := Scalar.addi v586 v587
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v589 : BitVec 32 := Scalar.addi v57 v70
  let c2_i32_296 : BitVec 32 := 2#32
  let c0_i32_297 : BitVec 32 := 0#32
  let v590 : BitVec 1 := Scalar.cmpi .eq c2_i32_296 c0_i32_297
  let c1_i32_298 : BitVec 32 := 1#32
  let v591 : BitVec 32 := Scalar.select v590 c1_i32_298 c2_i32_296
  let v592 : BitVec 32 := Scalar.remsi v589 v591
  let c0_i32_300 : BitVec 32 := 0#32
  let v594 : BitVec 1 := Scalar.cmpi .slt v592 c0_i32_300
  let c0_i32_301 : BitVec 32 := 0#32
  let v595 : BitVec 1 := Scalar.cmpi .slt v591 c0_i32_301
  let v596 : BitVec 1 := Scalar.xori v594 v595
  let c0_i32_299 : BitVec 32 := 0#32
  let v593 : BitVec 1 := Scalar.cmpi .ne v592 c0_i32_299
  let v597 : BitVec 1 := Scalar.andi v596 v593
  let v598 : BitVec 32 := Scalar.addi v592 v591
  let v599 : BitVec 32 := Scalar.select v597 v598 v592
  let v600 : BitVec 32 := Scalar.addi v588 v599
  let c1_i32_347 : BitVec 32 := 1#32
  let v680 : BitVec 32 := Scalar.muli v600 c1_i32_347
  let v681 : BitVec 32 := Scalar.addi c0_i32_348 v680
  v681.toNat
def k0_dev3 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_302 : BitVec 32 := 8#32
  let v601 : BitVec 32 := Scalar.muli v19 c8_i32_302
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_39 : BitVec 32 := 2#32
  let v84 : BitVec 32 := Scalar.addi v46 c2_i32_39
  let c4_i32 : BitVec 32 := 4#32
  let c0_i32_40 : BitVec 32 := 0#32
  let v85 : BitVec 1 := Scalar.cmpi .eq c4_i32 c0_i32_40
  let c1_i32_41 : BitVec 32 := 1#32
  let v86 : BitVec 32 := Scalar.select v85 c1_i32_41 c4_i32
  let v87 : BitVec 32 := Scalar.remsi v84 v86
  let c0_i32_43 : BitVec 32 := 0#32
  let v89 : BitVec 1 := Scalar.cmpi .slt v87 c0_i32_43
  let c0_i32_44 : BitVec 32 := 0#32
  let v90 : BitVec 1 := Scalar.cmpi .slt v86 c0_i32_44
  let v91 : BitVec 1 := Scalar.xori v89 v90
  let c0_i32_42 : BitVec 32 := 0#32
  let v88 : BitVec 1 := Scalar.cmpi .ne v87 c0_i32_42
  let v92 : BitVec 1 := Scalar.andi v91 v88
  let v93 : BitVec 32 := Scalar.addi v87 v86
  let v94 : BitVec 32 := Scalar.select v92 v93 v87
  let c2_i32_303 : BitVec 32 := 2#32
  let v602 : BitVec 32 := Scalar.muli v94 c2_i32_303
  let v603 : BitVec 32 := Scalar.addi v601 v602
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v604 : BitVec 32 := Scalar.addi v57 v94
  let c2_i32_304 : BitVec 32 := 2#32
  let c0_i32_305 : BitVec 32 := 0#32
  let v605 : BitVec 1 := Scalar.cmpi .eq c2_i32_304 c0_i32_305
  let c1_i32_306 : BitVec 32 := 1#32
  let v606 : BitVec 32 := Scalar.select v605 c1_i32_306 c2_i32_304
  let v607 : BitVec 32 := Scalar.remsi v604 v606
  let c0_i32_308 : BitVec 32 := 0#32
  let v609 : BitVec 1 := Scalar.cmpi .slt v607 c0_i32_308
  let c0_i32_309 : BitVec 32 := 0#32
  let v610 : BitVec 1 := Scalar.cmpi .slt v606 c0_i32_309
  let v611 : BitVec 1 := Scalar.xori v609 v610
  let c0_i32_307 : BitVec 32 := 0#32
  let v608 : BitVec 1 := Scalar.cmpi .ne v607 c0_i32_307
  let v612 : BitVec 1 := Scalar.andi v611 v608
  let v613 : BitVec 32 := Scalar.addi v607 v606
  let v614 : BitVec 32 := Scalar.select v612 v613 v607
  let v615 : BitVec 32 := Scalar.addi v603 v614
  let c1_i32_350 : BitVec 32 := 1#32
  let v682 : BitVec 32 := Scalar.muli v615 c1_i32_350
  let v683 : BitVec 32 := Scalar.addi c0_i32_351 v682
  v683.toNat
def k0_dev4 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_31 : BitVec 32 := 1#32
  let v71 : BitVec 32 := Scalar.addi v19 c1_i32_31
  let c2_i32_38 : BitVec 32 := 2#32
  let c2_i32_32 : BitVec 32 := 2#32
  let c0_i32_33 : BitVec 32 := 0#32
  let v72 : BitVec 1 := Scalar.cmpi .eq c2_i32_32 c0_i32_33
  let c1_i32_34 : BitVec 32 := 1#32
  let v73 : BitVec 32 := Scalar.select v72 c1_i32_34 c2_i32_32
  let v74 : BitVec 32 := Scalar.remsi v19 v73
  let c0_i32_36 : BitVec 32 := 0#32
  let v76 : BitVec 1 := Scalar.cmpi .slt v74 c0_i32_36
  let c0_i32_37 : BitVec 32 := 0#32
  let v77 : BitVec 1 := Scalar.cmpi .slt v73 c0_i32_37
  let v78 : BitVec 1 := Scalar.xori v76 v77
  let c0_i32_35 : BitVec 32 := 0#32
  let v75 : BitVec 1 := Scalar.cmpi .ne v74 c0_i32_35
  let v79 : BitVec 1 := Scalar.andi v78 v75
  let v80 : BitVec 32 := Scalar.addi v74 v73
  let v81 : BitVec 32 := Scalar.select v79 v80 v74
  let v82 : BitVec 32 := Scalar.muli c2_i32_38 v81
  let v83 : BitVec 32 := Scalar.subi v71 v82
  let c8_i32_310 : BitVec 32 := 8#32
  let v616 : BitVec 32 := Scalar.muli v83 c8_i32_310
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_311 : BitVec 32 := 2#32
  let v617 : BitVec 32 := Scalar.muli v46 c2_i32_311
  let v618 : BitVec 32 := Scalar.addi v616 v617
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v619 : BitVec 32 := Scalar.addi v57 v46
  let c2_i32_312 : BitVec 32 := 2#32
  let c0_i32_313 : BitVec 32 := 0#32
  let v620 : BitVec 1 := Scalar.cmpi .eq c2_i32_312 c0_i32_313
  let c1_i32_314 : BitVec 32 := 1#32
  let v621 : BitVec 32 := Scalar.select v620 c1_i32_314 c2_i32_312
  let v622 : BitVec 32 := Scalar.remsi v619 v621
  let c0_i32_316 : BitVec 32 := 0#32
  let v624 : BitVec 1 := Scalar.cmpi .slt v622 c0_i32_316
  let c0_i32_317 : BitVec 32 := 0#32
  let v625 : BitVec 1 := Scalar.cmpi .slt v621 c0_i32_317
  let v626 : BitVec 1 := Scalar.xori v624 v625
  let c0_i32_315 : BitVec 32 := 0#32
  let v623 : BitVec 1 := Scalar.cmpi .ne v622 c0_i32_315
  let v627 : BitVec 1 := Scalar.andi v626 v623
  let v628 : BitVec 32 := Scalar.addi v622 v621
  let v629 : BitVec 32 := Scalar.select v627 v628 v622
  let v630 : BitVec 32 := Scalar.addi v618 v629
  let c1_i32_353 : BitVec 32 := 1#32
  let v684 : BitVec 32 := Scalar.muli v630 c1_i32_353
  let v685 : BitVec 32 := Scalar.addi c0_i32_354 v684
  v685.toNat
def k0_dev5 (d0 : Dev nD) : Nat :=
  let c0_i32_357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_45 : BitVec 32 := 2#32
  let v95 : BitVec 32 := Scalar.addi v19 c2_i32_45
  let c4_i32_46 : BitVec 32 := 4#32
  let c0_i32_47 : BitVec 32 := 0#32
  let v96 : BitVec 1 := Scalar.cmpi .eq c4_i32_46 c0_i32_47
  let c1_i32_48 : BitVec 32 := 1#32
  let v97 : BitVec 32 := Scalar.select v96 c1_i32_48 c4_i32_46
  let v98 : BitVec 32 := Scalar.remsi v95 v97
  let c0_i32_50 : BitVec 32 := 0#32
  let v100 : BitVec 1 := Scalar.cmpi .slt v98 c0_i32_50
  let c0_i32_51 : BitVec 32 := 0#32
  let v101 : BitVec 1 := Scalar.cmpi .slt v97 c0_i32_51
  let v102 : BitVec 1 := Scalar.xori v100 v101
  let c0_i32_49 : BitVec 32 := 0#32
  let v99 : BitVec 1 := Scalar.cmpi .ne v98 c0_i32_49
  let v103 : BitVec 1 := Scalar.andi v102 v99
  let v104 : BitVec 32 := Scalar.addi v98 v97
  let v105 : BitVec 32 := Scalar.select v103 v104 v98
  let c8_i32_318 : BitVec 32 := 8#32
  let v631 : BitVec 32 := Scalar.muli v105 c8_i32_318
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_319 : BitVec 32 := 2#32
  let v632 : BitVec 32 := Scalar.muli v46 c2_i32_319
  let v633 : BitVec 32 := Scalar.addi v631 v632
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v634 : BitVec 32 := Scalar.addi v57 v46
  let c2_i32_320 : BitVec 32 := 2#32
  let c0_i32_321 : BitVec 32 := 0#32
  let v635 : BitVec 1 := Scalar.cmpi .eq c2_i32_320 c0_i32_321
  let c1_i32_322 : BitVec 32 := 1#32
  let v636 : BitVec 32 := Scalar.select v635 c1_i32_322 c2_i32_320
  let v637 : BitVec 32 := Scalar.remsi v634 v636
  let c0_i32_324 : BitVec 32 := 0#32
  let v639 : BitVec 1 := Scalar.cmpi .slt v637 c0_i32_324
  let c0_i32_325 : BitVec 32 := 0#32
  let v640 : BitVec 1 := Scalar.cmpi .slt v636 c0_i32_325
  let v641 : BitVec 1 := Scalar.xori v639 v640
  let c0_i32_323 : BitVec 32 := 0#32
  let v638 : BitVec 1 := Scalar.cmpi .ne v637 c0_i32_323
  let v642 : BitVec 1 := Scalar.andi v641 v638
  let v643 : BitVec 32 := Scalar.addi v637 v636
  let v644 : BitVec 32 := Scalar.select v642 v643 v637
  let v645 : BitVec 32 := Scalar.addi v633 v644
  let c1_i32_356 : BitVec 32 := 1#32
  let v686 : BitVec 32 := Scalar.muli v645 c1_i32_356
  let v687 : BitVec 32 := Scalar.addi c0_i32_357 v686
  v687.toNat
def k0_dev6 (d0 : Dev nD) : Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_31 : BitVec 32 := 1#32
  let v71 : BitVec 32 := Scalar.addi v19 c1_i32_31
  let c2_i32_38 : BitVec 32 := 2#32
  let c2_i32_32 : BitVec 32 := 2#32
  let c0_i32_33 : BitVec 32 := 0#32
  let v72 : BitVec 1 := Scalar.cmpi .eq c2_i32_32 c0_i32_33
  let c1_i32_34 : BitVec 32 := 1#32
  let v73 : BitVec 32 := Scalar.select v72 c1_i32_34 c2_i32_32
  let v74 : BitVec 32 := Scalar.remsi v19 v73
  let c0_i32_36 : BitVec 32 := 0#32
  let v76 : BitVec 1 := Scalar.cmpi .slt v74 c0_i32_36
  let c0_i32_37 : BitVec 32 := 0#32
  let v77 : BitVec 1 := Scalar.cmpi .slt v73 c0_i32_37
  let v78 : BitVec 1 := Scalar.xori v76 v77
  let c0_i32_35 : BitVec 32 := 0#32
  let v75 : BitVec 1 := Scalar.cmpi .ne v74 c0_i32_35
  let v79 : BitVec 1 := Scalar.andi v78 v75
  let v80 : BitVec 32 := Scalar.addi v74 v73
  let v81 : BitVec 32 := Scalar.select v79 v80 v74
  let v82 : BitVec 32 := Scalar.muli c2_i32_38 v81
  let v83 : BitVec 32 := Scalar.subi v71 v82
  let c2_i32_52 : BitVec 32 := 2#32
  let v106 : BitVec 32 := Scalar.addi v83 c2_i32_52
  let c4_i32_53 : BitVec 32 := 4#32
  let c0_i32_54 : BitVec 32 := 0#32
  let v107 : BitVec 1 := Scalar.cmpi .eq c4_i32_53 c0_i32_54
  let c1_i32_55 : BitVec 32 := 1#32
  let v108 : BitVec 32 := Scalar.select v107 c1_i32_55 c4_i32_53
  let v109 : BitVec 32 := Scalar.remsi v106 v108
  let c0_i32_57 : BitVec 32 := 0#32
  let v111 : BitVec 1 := Scalar.cmpi .slt v109 c0_i32_57
  let c0_i32_58 : BitVec 32 := 0#32
  let v112 : BitVec 1 := Scalar.cmpi .slt v108 c0_i32_58
  let v113 : BitVec 1 := Scalar.xori v111 v112
  let c0_i32_56 : BitVec 32 := 0#32
  let v110 : BitVec 1 := Scalar.cmpi .ne v109 c0_i32_56
  let v114 : BitVec 1 := Scalar.andi v113 v110
  let v115 : BitVec 32 := Scalar.addi v109 v108
  let v116 : BitVec 32 := Scalar.select v114 v115 v109
  let c8_i32_326 : BitVec 32 := 8#32
  let v646 : BitVec 32 := Scalar.muli v116 c8_i32_326
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_327 : BitVec 32 := 2#32
  let v647 : BitVec 32 := Scalar.muli v46 c2_i32_327
  let v648 : BitVec 32 := Scalar.addi v646 v647
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v649 : BitVec 32 := Scalar.addi v57 v46
  let c2_i32_328 : BitVec 32 := 2#32
  let c0_i32_329 : BitVec 32 := 0#32
  let v650 : BitVec 1 := Scalar.cmpi .eq c2_i32_328 c0_i32_329
  let c1_i32_330 : BitVec 32 := 1#32
  let v651 : BitVec 32 := Scalar.select v650 c1_i32_330 c2_i32_328
  let v652 : BitVec 32 := Scalar.remsi v649 v651
  let c0_i32_332 : BitVec 32 := 0#32
  let v654 : BitVec 1 := Scalar.cmpi .slt v652 c0_i32_332
  let c0_i32_333 : BitVec 32 := 0#32
  let v655 : BitVec 1 := Scalar.cmpi .slt v651 c0_i32_333
  let v656 : BitVec 1 := Scalar.xori v654 v655
  let c0_i32_331 : BitVec 32 := 0#32
  let v653 : BitVec 1 := Scalar.cmpi .ne v652 c0_i32_331
  let v657 : BitVec 1 := Scalar.andi v656 v653
  let v658 : BitVec 32 := Scalar.addi v652 v651
  let v659 : BitVec 32 := Scalar.select v657 v658 v652
  let v660 : BitVec 32 := Scalar.addi v648 v659
  let c1_i32_359 : BitVec 32 := 1#32
  let v688 : BitVec 32 := Scalar.muli v660 c1_i32_359
  let v689 : BitVec 32 := Scalar.addi c0_i32_360 v688
  v689.toNat
def k0_dev7 (d0 : Dev nD) : Nat :=
  let c0_i32_363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_335 : BitVec 32 := 8#32
  let v662 : BitVec 32 := Scalar.muli v19 c8_i32_335
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_39 : BitVec 32 := 2#32
  let v84 : BitVec 32 := Scalar.addi v46 c2_i32_39
  let c4_i32 : BitVec 32 := 4#32
  let c0_i32_40 : BitVec 32 := 0#32
  let v85 : BitVec 1 := Scalar.cmpi .eq c4_i32 c0_i32_40
  let c1_i32_41 : BitVec 32 := 1#32
  let v86 : BitVec 32 := Scalar.select v85 c1_i32_41 c4_i32
  let v87 : BitVec 32 := Scalar.remsi v84 v86
  let c0_i32_43 : BitVec 32 := 0#32
  let v89 : BitVec 1 := Scalar.cmpi .slt v87 c0_i32_43
  let c0_i32_44 : BitVec 32 := 0#32
  let v90 : BitVec 1 := Scalar.cmpi .slt v86 c0_i32_44
  let v91 : BitVec 1 := Scalar.xori v89 v90
  let c0_i32_42 : BitVec 32 := 0#32
  let v88 : BitVec 1 := Scalar.cmpi .ne v87 c0_i32_42
  let v92 : BitVec 1 := Scalar.andi v91 v88
  let v93 : BitVec 32 := Scalar.addi v87 v86
  let v94 : BitVec 32 := Scalar.select v92 v93 v87
  let c2_i32_336 : BitVec 32 := 2#32
  let v663 : BitVec 32 := Scalar.muli v94 c2_i32_336
  let v664 : BitVec 32 := Scalar.addi v662 v663
  let c1_i32_334 : BitVec 32 := 1#32
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v661 : BitVec 32 := Scalar.subi c1_i32_334 v57
  let v665 : BitVec 32 := Scalar.addi v661 v94
  let c2_i32_337 : BitVec 32 := 2#32
  let c0_i32_338 : BitVec 32 := 0#32
  let v666 : BitVec 1 := Scalar.cmpi .eq c2_i32_337 c0_i32_338
  let c1_i32_339 : BitVec 32 := 1#32
  let v667 : BitVec 32 := Scalar.select v666 c1_i32_339 c2_i32_337
  let v668 : BitVec 32 := Scalar.remsi v665 v667
  let c0_i32_341 : BitVec 32 := 0#32
  let v670 : BitVec 1 := Scalar.cmpi .slt v668 c0_i32_341
  let c0_i32_342 : BitVec 32 := 0#32
  let v671 : BitVec 1 := Scalar.cmpi .slt v667 c0_i32_342
  let v672 : BitVec 1 := Scalar.xori v670 v671
  let c0_i32_340 : BitVec 32 := 0#32
  let v669 : BitVec 1 := Scalar.cmpi .ne v668 c0_i32_340
  let v673 : BitVec 1 := Scalar.andi v672 v669
  let v674 : BitVec 32 := Scalar.addi v668 v667
  let v675 : BitVec 32 := Scalar.select v673 v674 v668
  let v676 : BitVec 32 := Scalar.addi v664 v675
  let c1_i32_362 : BitVec 32 := 1#32
  let v690 : BitVec 32 := Scalar.muli v676 c1_i32_362
  let v691 : BitVec 32 := Scalar.addi c0_i32_363 v690
  v691.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c16_i32 : BitVec 32 := 16#32
  let v117 : BitVec 32 := Scalar.muli v57 c16_i32
  let c2_i32_59 : BitVec 32 := 2#32
  let c0_i32_60 : BitVec 32 := 0#32
  let v118 : BitVec 1 := Scalar.cmpi .eq c2_i32_59 c0_i32_60
  let c1_i32_61 : BitVec 32 := 1#32
  let v119 : BitVec 32 := Scalar.select v118 c1_i32_61 c2_i32_59
  let v120 : BitVec 32 := Scalar.remsi v46 v119
  let c0_i32_63 : BitVec 32 := 0#32
  let v122 : BitVec 1 := Scalar.cmpi .slt v120 c0_i32_63
  let c0_i32_64 : BitVec 32 := 0#32
  let v123 : BitVec 1 := Scalar.cmpi .slt v119 c0_i32_64
  let v124 : BitVec 1 := Scalar.xori v122 v123
  let c0_i32_62 : BitVec 32 := 0#32
  let v121 : BitVec 1 := Scalar.cmpi .ne v120 c0_i32_62
  let v125 : BitVec 1 := Scalar.andi v124 v121
  let v126 : BitVec 32 := Scalar.addi v120 v119
  let v127 : BitVec 32 := Scalar.select v125 v126 v120
  let c8_i32_65 : BitVec 32 := 8#32
  let v128 : BitVec 32 := Scalar.muli v127 c8_i32_65
  let v129 : BitVec 32 := Scalar.addi v117 v128
  let c0_i32_67 : BitVec 32 := 0#32
  let v131 : BitVec 1 := Scalar.cmpi .sgt v46 c0_i32_67
  let v132 : BitVec 32 := Scalar.extui v131
  let c0_i32_68 : BitVec 32 := 0#32
  let v133 : BitVec 1 := Scalar.cmpi .slt v46 c0_i32_68
  let v134 : BitVec 32 := Scalar.extui v133
  let v135 : BitVec 32 := Scalar.subi v132 v134
  let c2_i32_66 : BitVec 32 := 2#32
  let c0_i32_69 : BitVec 32 := 0#32
  let v136 : BitVec 1 := Scalar.cmpi .sgt c2_i32_66 c0_i32_69
  let v137 : BitVec 32 := Scalar.extui v136
  let c0_i32_70 : BitVec 32 := 0#32
  let v138 : BitVec 1 := Scalar.cmpi .slt c2_i32_66 c0_i32_70
  let v139 : BitVec 32 := Scalar.extui v138
  let v140 : BitVec 32 := Scalar.subi v137 v139
  let v141 : BitVec 1 := Scalar.cmpi .ne v135 v140
  let v142 : BitVec 32 := Scalar.remsi v46 c2_i32_66
  let c0_i32_71 : BitVec 32 := 0#32
  let v143 : BitVec 1 := Scalar.cmpi .ne v142 c0_i32_71
  let v144 : BitVec 1 := Scalar.andi v141 v143
  let v130 : BitVec 32 := Scalar.divsi v46 c2_i32_66
  let c1_i32_72 : BitVec 32 := 1#32
  let v145 : BitVec 32 := Scalar.subi v130 c1_i32_72
  let v146 : BitVec 32 := Scalar.select v144 v145 v130
  let c4_i32_73 : BitVec 32 := 4#32
  let v147 : BitVec 32 := Scalar.muli v146 c4_i32_73
  let v148 : BitVec 32 := Scalar.addi v129 v147
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_74 : BitVec 32 := 2#32
  let c0_i32_75 : BitVec 32 := 0#32
  let v149 : BitVec 1 := Scalar.cmpi .eq c2_i32_74 c0_i32_75
  let c1_i32_76 : BitVec 32 := 1#32
  let v150 : BitVec 32 := Scalar.select v149 c1_i32_76 c2_i32_74
  let v151 : BitVec 32 := Scalar.remsi v19 v150
  let c0_i32_78 : BitVec 32 := 0#32
  let v153 : BitVec 1 := Scalar.cmpi .slt v151 c0_i32_78
  let c0_i32_79 : BitVec 32 := 0#32
  let v154 : BitVec 1 := Scalar.cmpi .slt v150 c0_i32_79
  let v155 : BitVec 1 := Scalar.xori v153 v154
  let c0_i32_77 : BitVec 32 := 0#32
  let v152 : BitVec 1 := Scalar.cmpi .ne v151 c0_i32_77
  let v156 : BitVec 1 := Scalar.andi v155 v152
  let v157 : BitVec 32 := Scalar.addi v151 v150
  let v158 : BitVec 32 := Scalar.select v156 v157 v151
  let c2_i32_80 : BitVec 32 := 2#32
  let v159 : BitVec 32 := Scalar.muli v158 c2_i32_80
  let v160 : BitVec 32 := Scalar.addi v148 v159
  let c0_i32_82 : BitVec 32 := 0#32
  let v162 : BitVec 1 := Scalar.cmpi .sgt v19 c0_i32_82
  let v163 : BitVec 32 := Scalar.extui v162
  let c0_i32_83 : BitVec 32 := 0#32
  let v164 : BitVec 1 := Scalar.cmpi .slt v19 c0_i32_83
  let v165 : BitVec 32 := Scalar.extui v164
  let v166 : BitVec 32 := Scalar.subi v163 v165
  let c2_i32_81 : BitVec 32 := 2#32
  let c0_i32_84 : BitVec 32 := 0#32
  let v167 : BitVec 1 := Scalar.cmpi .sgt c2_i32_81 c0_i32_84
  let v168 : BitVec 32 := Scalar.extui v167
  let c0_i32_85 : BitVec 32 := 0#32
  let v169 : BitVec 1 := Scalar.cmpi .slt c2_i32_81 c0_i32_85
  let v170 : BitVec 32 := Scalar.extui v169
  let v171 : BitVec 32 := Scalar.subi v168 v170
  let v172 : BitVec 1 := Scalar.cmpi .ne v166 v171
  let v173 : BitVec 32 := Scalar.remsi v19 c2_i32_81
  let c0_i32_86 : BitVec 32 := 0#32
  let v174 : BitVec 1 := Scalar.cmpi .ne v173 c0_i32_86
  let v175 : BitVec 1 := Scalar.andi v172 v174
  let v161 : BitVec 32 := Scalar.divsi v19 c2_i32_81
  let c1_i32_87 : BitVec 32 := 1#32
  let v176 : BitVec 32 := Scalar.subi v161 c1_i32_87
  let v177 : BitVec 32 := Scalar.select v175 v176 v161
  let v178 : BitVec 32 := Scalar.addi v160 v177
  let c16_i32_386 : BitVec 32 := 16#32
  let v732 : BitVec 32 := Scalar.addi v178 c16_i32_386
  let c32_i32_394 : BitVec 32 := 32#32
  let c0_i32_388 : BitVec 32 := 0#32
  let v734 : BitVec 1 := Scalar.cmpi .sgt v178 c0_i32_388
  let v735 : BitVec 32 := Scalar.extui v734
  let c0_i32_389 : BitVec 32 := 0#32
  let v736 : BitVec 1 := Scalar.cmpi .slt v178 c0_i32_389
  let v737 : BitVec 32 := Scalar.extui v736
  let v738 : BitVec 32 := Scalar.subi v735 v737
  let c16_i32_387 : BitVec 32 := 16#32
  let c0_i32_390 : BitVec 32 := 0#32
  let v739 : BitVec 1 := Scalar.cmpi .sgt c16_i32_387 c0_i32_390
  let v740 : BitVec 32 := Scalar.extui v739
  let c0_i32_391 : BitVec 32 := 0#32
  let v741 : BitVec 1 := Scalar.cmpi .slt c16_i32_387 c0_i32_391
  let v742 : BitVec 32 := Scalar.extui v741
  let v743 : BitVec 32 := Scalar.subi v740 v742
  let v744 : BitVec 1 := Scalar.cmpi .ne v738 v743
  let v745 : BitVec 32 := Scalar.remsi v178 c16_i32_387
  let c0_i32_392 : BitVec 32 := 0#32
  let v746 : BitVec 1 := Scalar.cmpi .ne v745 c0_i32_392
  let v747 : BitVec 1 := Scalar.andi v744 v746
  let v733 : BitVec 32 := Scalar.divsi v178 c16_i32_387
  let c1_i32_393 : BitVec 32 := 1#32
  let v748 : BitVec 32 := Scalar.subi v733 c1_i32_393
  let v749 : BitVec 32 := Scalar.select v747 v748 v733
  let v750 : BitVec 32 := Scalar.muli c32_i32_394 v749
  let v751 : BitVec 32 := Scalar.subi v732 v750
  let c0_i32_396 : BitVec 32 := 0#32
  let v753 : BitVec 1 := Scalar.cmpi .sgt v751 c0_i32_396
  let v754 : BitVec 32 := Scalar.extui v753
  let c0_i32_397 : BitVec 32 := 0#32
  let v755 : BitVec 1 := Scalar.cmpi .slt v751 c0_i32_397
  let v756 : BitVec 32 := Scalar.extui v755
  let v757 : BitVec 32 := Scalar.subi v754 v756
  let c8_i32_395 : BitVec 32 := 8#32
  let c0_i32_398 : BitVec 32 := 0#32
  let v758 : BitVec 1 := Scalar.cmpi .sgt c8_i32_395 c0_i32_398
  let v759 : BitVec 32 := Scalar.extui v758
  let c0_i32_399 : BitVec 32 := 0#32
  let v760 : BitVec 1 := Scalar.cmpi .slt c8_i32_395 c0_i32_399
  let v761 : BitVec 32 := Scalar.extui v760
  let v762 : BitVec 32 := Scalar.subi v759 v761
  let v763 : BitVec 1 := Scalar.cmpi .ne v757 v762
  let v764 : BitVec 32 := Scalar.remsi v751 c8_i32_395
  let c0_i32_400 : BitVec 32 := 0#32
  let v765 : BitVec 1 := Scalar.cmpi .ne v764 c0_i32_400
  let v766 : BitVec 1 := Scalar.andi v763 v765
  let v752 : BitVec 32 := Scalar.divsi v751 c8_i32_395
  let c1_i32_401 : BitVec 32 := 1#32
  let v767 : BitVec 32 := Scalar.subi v752 c1_i32_401
  let v768 : BitVec 32 := Scalar.select v766 v767 v752
  let c1_i32_402 : BitVec 32 := 1#32
  let v769 : BitVec 32 := Scalar.addi v768 c1_i32_402
  let c2_i32_409 : BitVec 32 := 2#32
  let c2_i32_403 : BitVec 32 := 2#32
  let c0_i32_404 : BitVec 32 := 0#32
  let v770 : BitVec 1 := Scalar.cmpi .eq c2_i32_403 c0_i32_404
  let c1_i32_405 : BitVec 32 := 1#32
  let v771 : BitVec 32 := Scalar.select v770 c1_i32_405 c2_i32_403
  let v772 : BitVec 32 := Scalar.remsi v768 v771
  let c0_i32_407 : BitVec 32 := 0#32
  let v774 : BitVec 1 := Scalar.cmpi .slt v772 c0_i32_407
  let c0_i32_408 : BitVec 32 := 0#32
  let v775 : BitVec 1 := Scalar.cmpi .slt v771 c0_i32_408
  let v776 : BitVec 1 := Scalar.xori v774 v775
  let c0_i32_406 : BitVec 32 := 0#32
  let v773 : BitVec 1 := Scalar.cmpi .ne v772 c0_i32_406
  let v777 : BitVec 1 := Scalar.andi v776 v773
  let v778 : BitVec 32 := Scalar.addi v772 v771
  let v779 : BitVec 32 := Scalar.select v777 v778 v772
  let v780 : BitVec 32 := Scalar.muli c2_i32_409 v779
  let v781 : BitVec 32 := Scalar.subi v769 v780
  let c128_i32 : BitVec 32 := 128#32
  let v782 : BitVec 32 := Scalar.muli v781 c128_i32
  let c256_i32_385 : BitVec 32 := 256#32
  let c0_i32_379 : BitVec 32 := 0#32
  let v714 : BitVec 1 := Scalar.cmpi .sgt v178 c0_i32_379
  let v715 : BitVec 32 := Scalar.extui v714
  let c0_i32_380 : BitVec 32 := 0#32
  let v716 : BitVec 1 := Scalar.cmpi .slt v178 c0_i32_380
  let v717 : BitVec 32 := Scalar.extui v716
  let v718 : BitVec 32 := Scalar.subi v715 v717
  let c16_i32_378 : BitVec 32 := 16#32
  let c0_i32_381 : BitVec 32 := 0#32
  let v719 : BitVec 1 := Scalar.cmpi .sgt c16_i32_378 c0_i32_381
  let v720 : BitVec 32 := Scalar.extui v719
  let c0_i32_382 : BitVec 32 := 0#32
  let v721 : BitVec 1 := Scalar.cmpi .slt c16_i32_378 c0_i32_382
  let v722 : BitVec 32 := Scalar.extui v721
  let v723 : BitVec 32 := Scalar.subi v720 v722
  let v724 : BitVec 1 := Scalar.cmpi .ne v718 v723
  let v725 : BitVec 32 := Scalar.remsi v178 c16_i32_378
  let c0_i32_383 : BitVec 32 := 0#32
  let v726 : BitVec 1 := Scalar.cmpi .ne v725 c0_i32_383
  let v727 : BitVec 1 := Scalar.andi v724 v726
  let v713 : BitVec 32 := Scalar.divsi v178 c16_i32_378
  let c1_i32_384 : BitVec 32 := 1#32
  let v728 : BitVec 32 := Scalar.subi v713 c1_i32_384
  let v729 : BitVec 32 := Scalar.select v727 v728 v713
  let c256_i32 : BitVec 32 := 256#32
  let v730 : BitVec 32 := Scalar.muli v729 c256_i32
  let v731 : BitVec 32 := Scalar.subi c256_i32_385 v730
  let v786 : BitVec 32 := Scalar.subi v782 v731
  let c0_i32_452 : BitVec 32 := 0#32
  ![v786.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c16_i32 : BitVec 32 := 16#32
  let v117 : BitVec 32 := Scalar.muli v57 c16_i32
  let c2_i32_59 : BitVec 32 := 2#32
  let c0_i32_60 : BitVec 32 := 0#32
  let v118 : BitVec 1 := Scalar.cmpi .eq c2_i32_59 c0_i32_60
  let c1_i32_61 : BitVec 32 := 1#32
  let v119 : BitVec 32 := Scalar.select v118 c1_i32_61 c2_i32_59
  let v120 : BitVec 32 := Scalar.remsi v46 v119
  let c0_i32_63 : BitVec 32 := 0#32
  let v122 : BitVec 1 := Scalar.cmpi .slt v120 c0_i32_63
  let c0_i32_64 : BitVec 32 := 0#32
  let v123 : BitVec 1 := Scalar.cmpi .slt v119 c0_i32_64
  let v124 : BitVec 1 := Scalar.xori v122 v123
  let c0_i32_62 : BitVec 32 := 0#32
  let v121 : BitVec 1 := Scalar.cmpi .ne v120 c0_i32_62
  let v125 : BitVec 1 := Scalar.andi v124 v121
  let v126 : BitVec 32 := Scalar.addi v120 v119
  let v127 : BitVec 32 := Scalar.select v125 v126 v120
  let c8_i32_65 : BitVec 32 := 8#32
  let v128 : BitVec 32 := Scalar.muli v127 c8_i32_65
  let v129 : BitVec 32 := Scalar.addi v117 v128
  let c0_i32_67 : BitVec 32 := 0#32
  let v131 : BitVec 1 := Scalar.cmpi .sgt v46 c0_i32_67
  let v132 : BitVec 32 := Scalar.extui v131
  let c0_i32_68 : BitVec 32 := 0#32
  let v133 : BitVec 1 := Scalar.cmpi .slt v46 c0_i32_68
  let v134 : BitVec 32 := Scalar.extui v133
  let v135 : BitVec 32 := Scalar.subi v132 v134
  let c2_i32_66 : BitVec 32 := 2#32
  let c0_i32_69 : BitVec 32 := 0#32
  let v136 : BitVec 1 := Scalar.cmpi .sgt c2_i32_66 c0_i32_69
  let v137 : BitVec 32 := Scalar.extui v136
  let c0_i32_70 : BitVec 32 := 0#32
  let v138 : BitVec 1 := Scalar.cmpi .slt c2_i32_66 c0_i32_70
  let v139 : BitVec 32 := Scalar.extui v138
  let v140 : BitVec 32 := Scalar.subi v137 v139
  let v141 : BitVec 1 := Scalar.cmpi .ne v135 v140
  let v142 : BitVec 32 := Scalar.remsi v46 c2_i32_66
  let c0_i32_71 : BitVec 32 := 0#32
  let v143 : BitVec 1 := Scalar.cmpi .ne v142 c0_i32_71
  let v144 : BitVec 1 := Scalar.andi v141 v143
  let v130 : BitVec 32 := Scalar.divsi v46 c2_i32_66
  let c1_i32_72 : BitVec 32 := 1#32
  let v145 : BitVec 32 := Scalar.subi v130 c1_i32_72
  let v146 : BitVec 32 := Scalar.select v144 v145 v130
  let c4_i32_73 : BitVec 32 := 4#32
  let v147 : BitVec 32 := Scalar.muli v146 c4_i32_73
  let v148 : BitVec 32 := Scalar.addi v129 v147
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_74 : BitVec 32 := 2#32
  let c0_i32_75 : BitVec 32 := 0#32
  let v149 : BitVec 1 := Scalar.cmpi .eq c2_i32_74 c0_i32_75
  let c1_i32_76 : BitVec 32 := 1#32
  let v150 : BitVec 32 := Scalar.select v149 c1_i32_76 c2_i32_74
  let v151 : BitVec 32 := Scalar.remsi v19 v150
  let c0_i32_78 : BitVec 32 := 0#32
  let v153 : BitVec 1 := Scalar.cmpi .slt v151 c0_i32_78
  let c0_i32_79 : BitVec 32 := 0#32
  let v154 : BitVec 1 := Scalar.cmpi .slt v150 c0_i32_79
  let v155 : BitVec 1 := Scalar.xori v153 v154
  let c0_i32_77 : BitVec 32 := 0#32
  let v152 : BitVec 1 := Scalar.cmpi .ne v151 c0_i32_77
  let v156 : BitVec 1 := Scalar.andi v155 v152
  let v157 : BitVec 32 := Scalar.addi v151 v150
  let v158 : BitVec 32 := Scalar.select v156 v157 v151
  let c2_i32_80 : BitVec 32 := 2#32
  let v159 : BitVec 32 := Scalar.muli v158 c2_i32_80
  let v160 : BitVec 32 := Scalar.addi v148 v159
  let c0_i32_82 : BitVec 32 := 0#32
  let v162 : BitVec 1 := Scalar.cmpi .sgt v19 c0_i32_82
  let v163 : BitVec 32 := Scalar.extui v162
  let c0_i32_83 : BitVec 32 := 0#32
  let v164 : BitVec 1 := Scalar.cmpi .slt v19 c0_i32_83
  let v165 : BitVec 32 := Scalar.extui v164
  let v166 : BitVec 32 := Scalar.subi v163 v165
  let c2_i32_81 : BitVec 32 := 2#32
  let c0_i32_84 : BitVec 32 := 0#32
  let v167 : BitVec 1 := Scalar.cmpi .sgt c2_i32_81 c0_i32_84
  let v168 : BitVec 32 := Scalar.extui v167
  let c0_i32_85 : BitVec 32 := 0#32
  let v169 : BitVec 1 := Scalar.cmpi .slt c2_i32_81 c0_i32_85
  let v170 : BitVec 32 := Scalar.extui v169
  let v171 : BitVec 32 := Scalar.subi v168 v170
  let v172 : BitVec 1 := Scalar.cmpi .ne v166 v171
  let v173 : BitVec 32 := Scalar.remsi v19 c2_i32_81
  let c0_i32_86 : BitVec 32 := 0#32
  let v174 : BitVec 1 := Scalar.cmpi .ne v173 c0_i32_86
  let v175 : BitVec 1 := Scalar.andi v172 v174
  let v161 : BitVec 32 := Scalar.divsi v19 c2_i32_81
  let c1_i32_87 : BitVec 32 := 1#32
  let v176 : BitVec 32 := Scalar.subi v161 c1_i32_87
  let v177 : BitVec 32 := Scalar.select v175 v176 v161
  let v178 : BitVec 32 := Scalar.addi v160 v177
  let c16_i32_386 : BitVec 32 := 16#32
  let v732 : BitVec 32 := Scalar.addi v178 c16_i32_386
  let c32_i32_394 : BitVec 32 := 32#32
  let c0_i32_388 : BitVec 32 := 0#32
  let v734 : BitVec 1 := Scalar.cmpi .sgt v178 c0_i32_388
  let v735 : BitVec 32 := Scalar.extui v734
  let c0_i32_389 : BitVec 32 := 0#32
  let v736 : BitVec 1 := Scalar.cmpi .slt v178 c0_i32_389
  let v737 : BitVec 32 := Scalar.extui v736
  let v738 : BitVec 32 := Scalar.subi v735 v737
  let c16_i32_387 : BitVec 32 := 16#32
  let c0_i32_390 : BitVec 32 := 0#32
  let v739 : BitVec 1 := Scalar.cmpi .sgt c16_i32_387 c0_i32_390
  let v740 : BitVec 32 := Scalar.extui v739
  let c0_i32_391 : BitVec 32 := 0#32
  let v741 : BitVec 1 := Scalar.cmpi .slt c16_i32_387 c0_i32_391
  let v742 : BitVec 32 := Scalar.extui v741
  let v743 : BitVec 32 := Scalar.subi v740 v742
  let v744 : BitVec 1 := Scalar.cmpi .ne v738 v743
  let v745 : BitVec 32 := Scalar.remsi v178 c16_i32_387
  let c0_i32_392 : BitVec 32 := 0#32
  let v746 : BitVec 1 := Scalar.cmpi .ne v745 c0_i32_392
  let v747 : BitVec 1 := Scalar.andi v744 v746
  let v733 : BitVec 32 := Scalar.divsi v178 c16_i32_387
  let c1_i32_393 : BitVec 32 := 1#32
  let v748 : BitVec 32 := Scalar.subi v733 c1_i32_393
  let v749 : BitVec 32 := Scalar.select v747 v748 v733
  let v750 : BitVec 32 := Scalar.muli c32_i32_394 v749
  let v751 : BitVec 32 := Scalar.subi v732 v750
  let c0_i32_396 : BitVec 32 := 0#32
  let v753 : BitVec 1 := Scalar.cmpi .sgt v751 c0_i32_396
  let v754 : BitVec 32 := Scalar.extui v753
  let c0_i32_397 : BitVec 32 := 0#32
  let v755 : BitVec 1 := Scalar.cmpi .slt v751 c0_i32_397
  let v756 : BitVec 32 := Scalar.extui v755
  let v757 : BitVec 32 := Scalar.subi v754 v756
  let c8_i32_395 : BitVec 32 := 8#32
  let c0_i32_398 : BitVec 32 := 0#32
  let v758 : BitVec 1 := Scalar.cmpi .sgt c8_i32_395 c0_i32_398
  let v759 : BitVec 32 := Scalar.extui v758
  let c0_i32_399 : BitVec 32 := 0#32
  let v760 : BitVec 1 := Scalar.cmpi .slt c8_i32_395 c0_i32_399
  let v761 : BitVec 32 := Scalar.extui v760
  let v762 : BitVec 32 := Scalar.subi v759 v761
  let v763 : BitVec 1 := Scalar.cmpi .ne v757 v762
  let v764 : BitVec 32 := Scalar.remsi v751 c8_i32_395
  let c0_i32_400 : BitVec 32 := 0#32
  let v765 : BitVec 1 := Scalar.cmpi .ne v764 c0_i32_400
  let v766 : BitVec 1 := Scalar.andi v763 v765
  let v752 : BitVec 32 := Scalar.divsi v751 c8_i32_395
  let c1_i32_401 : BitVec 32 := 1#32
  let v767 : BitVec 32 := Scalar.subi v752 c1_i32_401
  let v768 : BitVec 32 := Scalar.select v766 v767 v752
  let c1_i32_402 : BitVec 32 := 1#32
  let v769 : BitVec 32 := Scalar.addi v768 c1_i32_402
  let c2_i32_409 : BitVec 32 := 2#32
  let c2_i32_403 : BitVec 32 := 2#32
  let c0_i32_404 : BitVec 32 := 0#32
  let v770 : BitVec 1 := Scalar.cmpi .eq c2_i32_403 c0_i32_404
  let c1_i32_405 : BitVec 32 := 1#32
  let v771 : BitVec 32 := Scalar.select v770 c1_i32_405 c2_i32_403
  let v772 : BitVec 32 := Scalar.remsi v768 v771
  let c0_i32_407 : BitVec 32 := 0#32
  let v774 : BitVec 1 := Scalar.cmpi .slt v772 c0_i32_407
  let c0_i32_408 : BitVec 32 := 0#32
  let v775 : BitVec 1 := Scalar.cmpi .slt v771 c0_i32_408
  let v776 : BitVec 1 := Scalar.xori v774 v775
  let c0_i32_406 : BitVec 32 := 0#32
  let v773 : BitVec 1 := Scalar.cmpi .ne v772 c0_i32_406
  let v777 : BitVec 1 := Scalar.andi v776 v773
  let v778 : BitVec 32 := Scalar.addi v772 v771
  let v779 : BitVec 32 := Scalar.select v777 v778 v772
  let v780 : BitVec 32 := Scalar.muli c2_i32_409 v779
  let v781 : BitVec 32 := Scalar.subi v769 v780
  let c128_i32 : BitVec 32 := 128#32
  let v782 : BitVec 32 := Scalar.muli v781 c128_i32
  let c0_i32_453 : BitVec 32 := 0#32
  ![v782.toNat, 0]
def k0_dev8 (d0 : Dev nD) : Nat :=
  let c0_i32_451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_89 : BitVec 32 := 8#32
  let v180 : BitVec 32 := Scalar.muli v19 c8_i32_89
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_90 : BitVec 32 := 2#32
  let v181 : BitVec 32 := Scalar.muli v46 c2_i32_90
  let v182 : BitVec 32 := Scalar.addi v180 v181
  let c1_i32_88 : BitVec 32 := 1#32
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v179 : BitVec 32 := Scalar.subi c1_i32_88 v57
  let v183 : BitVec 32 := Scalar.addi v179 v46
  let c2_i32_91 : BitVec 32 := 2#32
  let c0_i32_92 : BitVec 32 := 0#32
  let v184 : BitVec 1 := Scalar.cmpi .eq c2_i32_91 c0_i32_92
  let c1_i32_93 : BitVec 32 := 1#32
  let v185 : BitVec 32 := Scalar.select v184 c1_i32_93 c2_i32_91
  let v186 : BitVec 32 := Scalar.remsi v183 v185
  let c0_i32_95 : BitVec 32 := 0#32
  let v188 : BitVec 1 := Scalar.cmpi .slt v186 c0_i32_95
  let c0_i32_96 : BitVec 32 := 0#32
  let v189 : BitVec 1 := Scalar.cmpi .slt v185 c0_i32_96
  let v190 : BitVec 1 := Scalar.xori v188 v189
  let c0_i32_94 : BitVec 32 := 0#32
  let v187 : BitVec 1 := Scalar.cmpi .ne v186 c0_i32_94
  let v191 : BitVec 1 := Scalar.andi v190 v187
  let v192 : BitVec 32 := Scalar.addi v186 v185
  let v193 : BitVec 32 := Scalar.select v191 v192 v186
  let v194 : BitVec 32 := Scalar.addi v182 v193
  let c1_i32_450 : BitVec 32 := 1#32
  let v863 : BitVec 32 := Scalar.muli v194 c1_i32_450
  let v864 : BitVec 32 := Scalar.addi c0_i32_451 v863
  v864.toNat
def k0_off3 (d0 : Dev nD) : Fin 2 → Nat :=
  let c2_i32_410 : BitVec 32 := 2#32
  let c256_i32_385 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c16_i32 : BitVec 32 := 16#32
  let v117 : BitVec 32 := Scalar.muli v57 c16_i32
  let c2_i32_59 : BitVec 32 := 2#32
  let c0_i32_60 : BitVec 32 := 0#32
  let v118 : BitVec 1 := Scalar.cmpi .eq c2_i32_59 c0_i32_60
  let c1_i32_61 : BitVec 32 := 1#32
  let v119 : BitVec 32 := Scalar.select v118 c1_i32_61 c2_i32_59
  let v120 : BitVec 32 := Scalar.remsi v46 v119
  let c0_i32_63 : BitVec 32 := 0#32
  let v122 : BitVec 1 := Scalar.cmpi .slt v120 c0_i32_63
  let c0_i32_64 : BitVec 32 := 0#32
  let v123 : BitVec 1 := Scalar.cmpi .slt v119 c0_i32_64
  let v124 : BitVec 1 := Scalar.xori v122 v123
  let c0_i32_62 : BitVec 32 := 0#32
  let v121 : BitVec 1 := Scalar.cmpi .ne v120 c0_i32_62
  let v125 : BitVec 1 := Scalar.andi v124 v121
  let v126 : BitVec 32 := Scalar.addi v120 v119
  let v127 : BitVec 32 := Scalar.select v125 v126 v120
  let c8_i32_65 : BitVec 32 := 8#32
  let v128 : BitVec 32 := Scalar.muli v127 c8_i32_65
  let v129 : BitVec 32 := Scalar.addi v117 v128
  let c0_i32_67 : BitVec 32 := 0#32
  let v131 : BitVec 1 := Scalar.cmpi .sgt v46 c0_i32_67
  let v132 : BitVec 32 := Scalar.extui v131
  let c0_i32_68 : BitVec 32 := 0#32
  let v133 : BitVec 1 := Scalar.cmpi .slt v46 c0_i32_68
  let v134 : BitVec 32 := Scalar.extui v133
  let v135 : BitVec 32 := Scalar.subi v132 v134
  let c2_i32_66 : BitVec 32 := 2#32
  let c0_i32_69 : BitVec 32 := 0#32
  let v136 : BitVec 1 := Scalar.cmpi .sgt c2_i32_66 c0_i32_69
  let v137 : BitVec 32 := Scalar.extui v136
  let c0_i32_70 : BitVec 32 := 0#32
  let v138 : BitVec 1 := Scalar.cmpi .slt c2_i32_66 c0_i32_70
  let v139 : BitVec 32 := Scalar.extui v138
  let v140 : BitVec 32 := Scalar.subi v137 v139
  let v141 : BitVec 1 := Scalar.cmpi .ne v135 v140
  let v142 : BitVec 32 := Scalar.remsi v46 c2_i32_66
  let c0_i32_71 : BitVec 32 := 0#32
  let v143 : BitVec 1 := Scalar.cmpi .ne v142 c0_i32_71
  let v144 : BitVec 1 := Scalar.andi v141 v143
  let v130 : BitVec 32 := Scalar.divsi v46 c2_i32_66
  let c1_i32_72 : BitVec 32 := 1#32
  let v145 : BitVec 32 := Scalar.subi v130 c1_i32_72
  let v146 : BitVec 32 := Scalar.select v144 v145 v130
  let c4_i32_73 : BitVec 32 := 4#32
  let v147 : BitVec 32 := Scalar.muli v146 c4_i32_73
  let v148 : BitVec 32 := Scalar.addi v129 v147
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_74 : BitVec 32 := 2#32
  let c0_i32_75 : BitVec 32 := 0#32
  let v149 : BitVec 1 := Scalar.cmpi .eq c2_i32_74 c0_i32_75
  let c1_i32_76 : BitVec 32 := 1#32
  let v150 : BitVec 32 := Scalar.select v149 c1_i32_76 c2_i32_74
  let v151 : BitVec 32 := Scalar.remsi v19 v150
  let c0_i32_78 : BitVec 32 := 0#32
  let v153 : BitVec 1 := Scalar.cmpi .slt v151 c0_i32_78
  let c0_i32_79 : BitVec 32 := 0#32
  let v154 : BitVec 1 := Scalar.cmpi .slt v150 c0_i32_79
  let v155 : BitVec 1 := Scalar.xori v153 v154
  let c0_i32_77 : BitVec 32 := 0#32
  let v152 : BitVec 1 := Scalar.cmpi .ne v151 c0_i32_77
  let v156 : BitVec 1 := Scalar.andi v155 v152
  let v157 : BitVec 32 := Scalar.addi v151 v150
  let v158 : BitVec 32 := Scalar.select v156 v157 v151
  let c2_i32_80 : BitVec 32 := 2#32
  let v159 : BitVec 32 := Scalar.muli v158 c2_i32_80
  let v160 : BitVec 32 := Scalar.addi v148 v159
  let c0_i32_82 : BitVec 32 := 0#32
  let v162 : BitVec 1 := Scalar.cmpi .sgt v19 c0_i32_82
  let v163 : BitVec 32 := Scalar.extui v162
  let c0_i32_83 : BitVec 32 := 0#32
  let v164 : BitVec 1 := Scalar.cmpi .slt v19 c0_i32_83
  let v165 : BitVec 32 := Scalar.extui v164
  let v166 : BitVec 32 := Scalar.subi v163 v165
  let c2_i32_81 : BitVec 32 := 2#32
  let c0_i32_84 : BitVec 32 := 0#32
  let v167 : BitVec 1 := Scalar.cmpi .sgt c2_i32_81 c0_i32_84
  let v168 : BitVec 32 := Scalar.extui v167
  let c0_i32_85 : BitVec 32 := 0#32
  let v169 : BitVec 1 := Scalar.cmpi .slt c2_i32_81 c0_i32_85
  let v170 : BitVec 32 := Scalar.extui v169
  let v171 : BitVec 32 := Scalar.subi v168 v170
  let v172 : BitVec 1 := Scalar.cmpi .ne v166 v171
  let v173 : BitVec 32 := Scalar.remsi v19 c2_i32_81
  let c0_i32_86 : BitVec 32 := 0#32
  let v174 : BitVec 1 := Scalar.cmpi .ne v173 c0_i32_86
  let v175 : BitVec 1 := Scalar.andi v172 v174
  let v161 : BitVec 32 := Scalar.divsi v19 c2_i32_81
  let c1_i32_87 : BitVec 32 := 1#32
  let v176 : BitVec 32 := Scalar.subi v161 c1_i32_87
  let v177 : BitVec 32 := Scalar.select v175 v176 v161
  let v178 : BitVec 32 := Scalar.addi v160 v177
  let c0_i32_379 : BitVec 32 := 0#32
  let v714 : BitVec 1 := Scalar.cmpi .sgt v178 c0_i32_379
  let v715 : BitVec 32 := Scalar.extui v714
  let c0_i32_380 : BitVec 32 := 0#32
  let v716 : BitVec 1 := Scalar.cmpi .slt v178 c0_i32_380
  let v717 : BitVec 32 := Scalar.extui v716
  let v718 : BitVec 32 := Scalar.subi v715 v717
  let c16_i32_378 : BitVec 32 := 16#32
  let c0_i32_381 : BitVec 32 := 0#32
  let v719 : BitVec 1 := Scalar.cmpi .sgt c16_i32_378 c0_i32_381
  let v720 : BitVec 32 := Scalar.extui v719
  let c0_i32_382 : BitVec 32 := 0#32
  let v721 : BitVec 1 := Scalar.cmpi .slt c16_i32_378 c0_i32_382
  let v722 : BitVec 32 := Scalar.extui v721
  let v723 : BitVec 32 := Scalar.subi v720 v722
  let v724 : BitVec 1 := Scalar.cmpi .ne v718 v723
  let v725 : BitVec 32 := Scalar.remsi v178 c16_i32_378
  let c0_i32_383 : BitVec 32 := 0#32
  let v726 : BitVec 1 := Scalar.cmpi .ne v725 c0_i32_383
  let v727 : BitVec 1 := Scalar.andi v724 v726
  let v713 : BitVec 32 := Scalar.divsi v178 c16_i32_378
  let c1_i32_384 : BitVec 32 := 1#32
  let v728 : BitVec 32 := Scalar.subi v713 c1_i32_384
  let v729 : BitVec 32 := Scalar.select v727 v728 v713
  let c256_i32 : BitVec 32 := 256#32
  let v730 : BitVec 32 := Scalar.muli v729 c256_i32
  let v731 : BitVec 32 := Scalar.subi c256_i32_385 v730
  let v783 : BitVec 32 := Scalar.muli c2_i32_410 v731
  let c128_i32_411 : BitVec 32 := 128#32
  let v784 : BitVec 32 := Scalar.addi v783 c128_i32_411
  let c16_i32_386 : BitVec 32 := 16#32
  let v732 : BitVec 32 := Scalar.addi v178 c16_i32_386
  let c32_i32_394 : BitVec 32 := 32#32
  let c0_i32_388 : BitVec 32 := 0#32
  let v734 : BitVec 1 := Scalar.cmpi .sgt v178 c0_i32_388
  let v735 : BitVec 32 := Scalar.extui v734
  let c0_i32_389 : BitVec 32 := 0#32
  let v736 : BitVec 1 := Scalar.cmpi .slt v178 c0_i32_389
  let v737 : BitVec 32 := Scalar.extui v736
  let v738 : BitVec 32 := Scalar.subi v735 v737
  let c16_i32_387 : BitVec 32 := 16#32
  let c0_i32_390 : BitVec 32 := 0#32
  let v739 : BitVec 1 := Scalar.cmpi .sgt c16_i32_387 c0_i32_390
  let v740 : BitVec 32 := Scalar.extui v739
  let c0_i32_391 : BitVec 32 := 0#32
  let v741 : BitVec 1 := Scalar.cmpi .slt c16_i32_387 c0_i32_391
  let v742 : BitVec 32 := Scalar.extui v741
  let v743 : BitVec 32 := Scalar.subi v740 v742
  let v744 : BitVec 1 := Scalar.cmpi .ne v738 v743
  let v745 : BitVec 32 := Scalar.remsi v178 c16_i32_387
  let c0_i32_392 : BitVec 32 := 0#32
  let v746 : BitVec 1 := Scalar.cmpi .ne v745 c0_i32_392
  let v747 : BitVec 1 := Scalar.andi v744 v746
  let v733 : BitVec 32 := Scalar.divsi v178 c16_i32_387
  let c1_i32_393 : BitVec 32 := 1#32
  let v748 : BitVec 32 := Scalar.subi v733 c1_i32_393
  let v749 : BitVec 32 := Scalar.select v747 v748 v733
  let v750 : BitVec 32 := Scalar.muli c32_i32_394 v749
  let v751 : BitVec 32 := Scalar.subi v732 v750
  let c0_i32_396 : BitVec 32 := 0#32
  let v753 : BitVec 1 := Scalar.cmpi .sgt v751 c0_i32_396
  let v754 : BitVec 32 := Scalar.extui v753
  let c0_i32_397 : BitVec 32 := 0#32
  let v755 : BitVec 1 := Scalar.cmpi .slt v751 c0_i32_397
  let v756 : BitVec 32 := Scalar.extui v755
  let v757 : BitVec 32 := Scalar.subi v754 v756
  let c8_i32_395 : BitVec 32 := 8#32
  let c0_i32_398 : BitVec 32 := 0#32
  let v758 : BitVec 1 := Scalar.cmpi .sgt c8_i32_395 c0_i32_398
  let v759 : BitVec 32 := Scalar.extui v758
  let c0_i32_399 : BitVec 32 := 0#32
  let v760 : BitVec 1 := Scalar.cmpi .slt c8_i32_395 c0_i32_399
  let v761 : BitVec 32 := Scalar.extui v760
  let v762 : BitVec 32 := Scalar.subi v759 v761
  let v763 : BitVec 1 := Scalar.cmpi .ne v757 v762
  let v764 : BitVec 32 := Scalar.remsi v751 c8_i32_395
  let c0_i32_400 : BitVec 32 := 0#32
  let v765 : BitVec 1 := Scalar.cmpi .ne v764 c0_i32_400
  let v766 : BitVec 1 := Scalar.andi v763 v765
  let v752 : BitVec 32 := Scalar.divsi v751 c8_i32_395
  let c1_i32_401 : BitVec 32 := 1#32
  let v767 : BitVec 32 := Scalar.subi v752 c1_i32_401
  let v768 : BitVec 32 := Scalar.select v766 v767 v752
  let c1_i32_402 : BitVec 32 := 1#32
  let v769 : BitVec 32 := Scalar.addi v768 c1_i32_402
  let c2_i32_409 : BitVec 32 := 2#32
  let c2_i32_403 : BitVec 32 := 2#32
  let c0_i32_404 : BitVec 32 := 0#32
  let v770 : BitVec 1 := Scalar.cmpi .eq c2_i32_403 c0_i32_404
  let c1_i32_405 : BitVec 32 := 1#32
  let v771 : BitVec 32 := Scalar.select v770 c1_i32_405 c2_i32_403
  let v772 : BitVec 32 := Scalar.remsi v768 v771
  let c0_i32_407 : BitVec 32 := 0#32
  let v774 : BitVec 1 := Scalar.cmpi .slt v772 c0_i32_407
  let c0_i32_408 : BitVec 32 := 0#32
  let v775 : BitVec 1 := Scalar.cmpi .slt v771 c0_i32_408
  let v776 : BitVec 1 := Scalar.xori v774 v775
  let c0_i32_406 : BitVec 32 := 0#32
  let v773 : BitVec 1 := Scalar.cmpi .ne v772 c0_i32_406
  let v777 : BitVec 1 := Scalar.andi v776 v773
  let v778 : BitVec 32 := Scalar.addi v772 v771
  let v779 : BitVec 32 := Scalar.select v777 v778 v772
  let v780 : BitVec 32 := Scalar.muli c2_i32_409 v779
  let v781 : BitVec 32 := Scalar.subi v769 v780
  let c128_i32 : BitVec 32 := 128#32
  let v782 : BitVec 32 := Scalar.muli v781 c128_i32
  let v785 : BitVec 32 := Scalar.subi v784 v782
  let v787 : BitVec 32 := Scalar.subi v785 v731
  let c0_i32_458 : BitVec 32 := 0#32
  ![v787.toNat, 0]
def k0_off4 (d0 : Dev nD) : Fin 2 → Nat :=
  let c2_i32_410 : BitVec 32 := 2#32
  let c256_i32_385 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c16_i32 : BitVec 32 := 16#32
  let v117 : BitVec 32 := Scalar.muli v57 c16_i32
  let c2_i32_59 : BitVec 32 := 2#32
  let c0_i32_60 : BitVec 32 := 0#32
  let v118 : BitVec 1 := Scalar.cmpi .eq c2_i32_59 c0_i32_60
  let c1_i32_61 : BitVec 32 := 1#32
  let v119 : BitVec 32 := Scalar.select v118 c1_i32_61 c2_i32_59
  let v120 : BitVec 32 := Scalar.remsi v46 v119
  let c0_i32_63 : BitVec 32 := 0#32
  let v122 : BitVec 1 := Scalar.cmpi .slt v120 c0_i32_63
  let c0_i32_64 : BitVec 32 := 0#32
  let v123 : BitVec 1 := Scalar.cmpi .slt v119 c0_i32_64
  let v124 : BitVec 1 := Scalar.xori v122 v123
  let c0_i32_62 : BitVec 32 := 0#32
  let v121 : BitVec 1 := Scalar.cmpi .ne v120 c0_i32_62
  let v125 : BitVec 1 := Scalar.andi v124 v121
  let v126 : BitVec 32 := Scalar.addi v120 v119
  let v127 : BitVec 32 := Scalar.select v125 v126 v120
  let c8_i32_65 : BitVec 32 := 8#32
  let v128 : BitVec 32 := Scalar.muli v127 c8_i32_65
  let v129 : BitVec 32 := Scalar.addi v117 v128
  let c0_i32_67 : BitVec 32 := 0#32
  let v131 : BitVec 1 := Scalar.cmpi .sgt v46 c0_i32_67
  let v132 : BitVec 32 := Scalar.extui v131
  let c0_i32_68 : BitVec 32 := 0#32
  let v133 : BitVec 1 := Scalar.cmpi .slt v46 c0_i32_68
  let v134 : BitVec 32 := Scalar.extui v133
  let v135 : BitVec 32 := Scalar.subi v132 v134
  let c2_i32_66 : BitVec 32 := 2#32
  let c0_i32_69 : BitVec 32 := 0#32
  let v136 : BitVec 1 := Scalar.cmpi .sgt c2_i32_66 c0_i32_69
  let v137 : BitVec 32 := Scalar.extui v136
  let c0_i32_70 : BitVec 32 := 0#32
  let v138 : BitVec 1 := Scalar.cmpi .slt c2_i32_66 c0_i32_70
  let v139 : BitVec 32 := Scalar.extui v138
  let v140 : BitVec 32 := Scalar.subi v137 v139
  let v141 : BitVec 1 := Scalar.cmpi .ne v135 v140
  let v142 : BitVec 32 := Scalar.remsi v46 c2_i32_66
  let c0_i32_71 : BitVec 32 := 0#32
  let v143 : BitVec 1 := Scalar.cmpi .ne v142 c0_i32_71
  let v144 : BitVec 1 := Scalar.andi v141 v143
  let v130 : BitVec 32 := Scalar.divsi v46 c2_i32_66
  let c1_i32_72 : BitVec 32 := 1#32
  let v145 : BitVec 32 := Scalar.subi v130 c1_i32_72
  let v146 : BitVec 32 := Scalar.select v144 v145 v130
  let c4_i32_73 : BitVec 32 := 4#32
  let v147 : BitVec 32 := Scalar.muli v146 c4_i32_73
  let v148 : BitVec 32 := Scalar.addi v129 v147
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_74 : BitVec 32 := 2#32
  let c0_i32_75 : BitVec 32 := 0#32
  let v149 : BitVec 1 := Scalar.cmpi .eq c2_i32_74 c0_i32_75
  let c1_i32_76 : BitVec 32 := 1#32
  let v150 : BitVec 32 := Scalar.select v149 c1_i32_76 c2_i32_74
  let v151 : BitVec 32 := Scalar.remsi v19 v150
  let c0_i32_78 : BitVec 32 := 0#32
  let v153 : BitVec 1 := Scalar.cmpi .slt v151 c0_i32_78
  let c0_i32_79 : BitVec 32 := 0#32
  let v154 : BitVec 1 := Scalar.cmpi .slt v150 c0_i32_79
  let v155 : BitVec 1 := Scalar.xori v153 v154
  let c0_i32_77 : BitVec 32 := 0#32
  let v152 : BitVec 1 := Scalar.cmpi .ne v151 c0_i32_77
  let v156 : BitVec 1 := Scalar.andi v155 v152
  let v157 : BitVec 32 := Scalar.addi v151 v150
  let v158 : BitVec 32 := Scalar.select v156 v157 v151
  let c2_i32_80 : BitVec 32 := 2#32
  let v159 : BitVec 32 := Scalar.muli v158 c2_i32_80
  let v160 : BitVec 32 := Scalar.addi v148 v159
  let c0_i32_82 : BitVec 32 := 0#32
  let v162 : BitVec 1 := Scalar.cmpi .sgt v19 c0_i32_82
  let v163 : BitVec 32 := Scalar.extui v162
  let c0_i32_83 : BitVec 32 := 0#32
  let v164 : BitVec 1 := Scalar.cmpi .slt v19 c0_i32_83
  let v165 : BitVec 32 := Scalar.extui v164
  let v166 : BitVec 32 := Scalar.subi v163 v165
  let c2_i32_81 : BitVec 32 := 2#32
  let c0_i32_84 : BitVec 32 := 0#32
  let v167 : BitVec 1 := Scalar.cmpi .sgt c2_i32_81 c0_i32_84
  let v168 : BitVec 32 := Scalar.extui v167
  let c0_i32_85 : BitVec 32 := 0#32
  let v169 : BitVec 1 := Scalar.cmpi .slt c2_i32_81 c0_i32_85
  let v170 : BitVec 32 := Scalar.extui v169
  let v171 : BitVec 32 := Scalar.subi v168 v170
  let v172 : BitVec 1 := Scalar.cmpi .ne v166 v171
  let v173 : BitVec 32 := Scalar.remsi v19 c2_i32_81
  let c0_i32_86 : BitVec 32 := 0#32
  let v174 : BitVec 1 := Scalar.cmpi .ne v173 c0_i32_86
  let v175 : BitVec 1 := Scalar.andi v172 v174
  let v161 : BitVec 32 := Scalar.divsi v19 c2_i32_81
  let c1_i32_87 : BitVec 32 := 1#32
  let v176 : BitVec 32 := Scalar.subi v161 c1_i32_87
  let v177 : BitVec 32 := Scalar.select v175 v176 v161
  let v178 : BitVec 32 := Scalar.addi v160 v177
  let c0_i32_379 : BitVec 32 := 0#32
  let v714 : BitVec 1 := Scalar.cmpi .sgt v178 c0_i32_379
  let v715 : BitVec 32 := Scalar.extui v714
  let c0_i32_380 : BitVec 32 := 0#32
  let v716 : BitVec 1 := Scalar.cmpi .slt v178 c0_i32_380
  let v717 : BitVec 32 := Scalar.extui v716
  let v718 : BitVec 32 := Scalar.subi v715 v717
  let c16_i32_378 : BitVec 32 := 16#32
  let c0_i32_381 : BitVec 32 := 0#32
  let v719 : BitVec 1 := Scalar.cmpi .sgt c16_i32_378 c0_i32_381
  let v720 : BitVec 32 := Scalar.extui v719
  let c0_i32_382 : BitVec 32 := 0#32
  let v721 : BitVec 1 := Scalar.cmpi .slt c16_i32_378 c0_i32_382
  let v722 : BitVec 32 := Scalar.extui v721
  let v723 : BitVec 32 := Scalar.subi v720 v722
  let v724 : BitVec 1 := Scalar.cmpi .ne v718 v723
  let v725 : BitVec 32 := Scalar.remsi v178 c16_i32_378
  let c0_i32_383 : BitVec 32 := 0#32
  let v726 : BitVec 1 := Scalar.cmpi .ne v725 c0_i32_383
  let v727 : BitVec 1 := Scalar.andi v724 v726
  let v713 : BitVec 32 := Scalar.divsi v178 c16_i32_378
  let c1_i32_384 : BitVec 32 := 1#32
  let v728 : BitVec 32 := Scalar.subi v713 c1_i32_384
  let v729 : BitVec 32 := Scalar.select v727 v728 v713
  let c256_i32 : BitVec 32 := 256#32
  let v730 : BitVec 32 := Scalar.muli v729 c256_i32
  let v731 : BitVec 32 := Scalar.subi c256_i32_385 v730
  let v783 : BitVec 32 := Scalar.muli c2_i32_410 v731
  let c128_i32_411 : BitVec 32 := 128#32
  let v784 : BitVec 32 := Scalar.addi v783 c128_i32_411
  let c16_i32_386 : BitVec 32 := 16#32
  let v732 : BitVec 32 := Scalar.addi v178 c16_i32_386
  let c32_i32_394 : BitVec 32 := 32#32
  let c0_i32_388 : BitVec 32 := 0#32
  let v734 : BitVec 1 := Scalar.cmpi .sgt v178 c0_i32_388
  let v735 : BitVec 32 := Scalar.extui v734
  let c0_i32_389 : BitVec 32 := 0#32
  let v736 : BitVec 1 := Scalar.cmpi .slt v178 c0_i32_389
  let v737 : BitVec 32 := Scalar.extui v736
  let v738 : BitVec 32 := Scalar.subi v735 v737
  let c16_i32_387 : BitVec 32 := 16#32
  let c0_i32_390 : BitVec 32 := 0#32
  let v739 : BitVec 1 := Scalar.cmpi .sgt c16_i32_387 c0_i32_390
  let v740 : BitVec 32 := Scalar.extui v739
  let c0_i32_391 : BitVec 32 := 0#32
  let v741 : BitVec 1 := Scalar.cmpi .slt c16_i32_387 c0_i32_391
  let v742 : BitVec 32 := Scalar.extui v741
  let v743 : BitVec 32 := Scalar.subi v740 v742
  let v744 : BitVec 1 := Scalar.cmpi .ne v738 v743
  let v745 : BitVec 32 := Scalar.remsi v178 c16_i32_387
  let c0_i32_392 : BitVec 32 := 0#32
  let v746 : BitVec 1 := Scalar.cmpi .ne v745 c0_i32_392
  let v747 : BitVec 1 := Scalar.andi v744 v746
  let v733 : BitVec 32 := Scalar.divsi v178 c16_i32_387
  let c1_i32_393 : BitVec 32 := 1#32
  let v748 : BitVec 32 := Scalar.subi v733 c1_i32_393
  let v749 : BitVec 32 := Scalar.select v747 v748 v733
  let v750 : BitVec 32 := Scalar.muli c32_i32_394 v749
  let v751 : BitVec 32 := Scalar.subi v732 v750
  let c0_i32_396 : BitVec 32 := 0#32
  let v753 : BitVec 1 := Scalar.cmpi .sgt v751 c0_i32_396
  let v754 : BitVec 32 := Scalar.extui v753
  let c0_i32_397 : BitVec 32 := 0#32
  let v755 : BitVec 1 := Scalar.cmpi .slt v751 c0_i32_397
  let v756 : BitVec 32 := Scalar.extui v755
  let v757 : BitVec 32 := Scalar.subi v754 v756
  let c8_i32_395 : BitVec 32 := 8#32
  let c0_i32_398 : BitVec 32 := 0#32
  let v758 : BitVec 1 := Scalar.cmpi .sgt c8_i32_395 c0_i32_398
  let v759 : BitVec 32 := Scalar.extui v758
  let c0_i32_399 : BitVec 32 := 0#32
  let v760 : BitVec 1 := Scalar.cmpi .slt c8_i32_395 c0_i32_399
  let v761 : BitVec 32 := Scalar.extui v760
  let v762 : BitVec 32 := Scalar.subi v759 v761
  let v763 : BitVec 1 := Scalar.cmpi .ne v757 v762
  let v764 : BitVec 32 := Scalar.remsi v751 c8_i32_395
  let c0_i32_400 : BitVec 32 := 0#32
  let v765 : BitVec 1 := Scalar.cmpi .ne v764 c0_i32_400
  let v766 : BitVec 1 := Scalar.andi v763 v765
  let v752 : BitVec 32 := Scalar.divsi v751 c8_i32_395
  let c1_i32_401 : BitVec 32 := 1#32
  let v767 : BitVec 32 := Scalar.subi v752 c1_i32_401
  let v768 : BitVec 32 := Scalar.select v766 v767 v752
  let c1_i32_402 : BitVec 32 := 1#32
  let v769 : BitVec 32 := Scalar.addi v768 c1_i32_402
  let c2_i32_409 : BitVec 32 := 2#32
  let c2_i32_403 : BitVec 32 := 2#32
  let c0_i32_404 : BitVec 32 := 0#32
  let v770 : BitVec 1 := Scalar.cmpi .eq c2_i32_403 c0_i32_404
  let c1_i32_405 : BitVec 32 := 1#32
  let v771 : BitVec 32 := Scalar.select v770 c1_i32_405 c2_i32_403
  let v772 : BitVec 32 := Scalar.remsi v768 v771
  let c0_i32_407 : BitVec 32 := 0#32
  let v774 : BitVec 1 := Scalar.cmpi .slt v772 c0_i32_407
  let c0_i32_408 : BitVec 32 := 0#32
  let v775 : BitVec 1 := Scalar.cmpi .slt v771 c0_i32_408
  let v776 : BitVec 1 := Scalar.xori v774 v775
  let c0_i32_406 : BitVec 32 := 0#32
  let v773 : BitVec 1 := Scalar.cmpi .ne v772 c0_i32_406
  let v777 : BitVec 1 := Scalar.andi v776 v773
  let v778 : BitVec 32 := Scalar.addi v772 v771
  let v779 : BitVec 32 := Scalar.select v777 v778 v772
  let v780 : BitVec 32 := Scalar.muli c2_i32_409 v779
  let v781 : BitVec 32 := Scalar.subi v769 v780
  let c128_i32 : BitVec 32 := 128#32
  let v782 : BitVec 32 := Scalar.muli v781 c128_i32
  let v785 : BitVec 32 := Scalar.subi v784 v782
  let c0_i32_459 : BitVec 32 := 0#32
  ![v785.toNat, 0]
def k0_dev9 (d0 : Dev nD) : Nat :=
  let c0_i32_457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_89 : BitVec 32 := 8#32
  let v180 : BitVec 32 := Scalar.muli v19 c8_i32_89
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_90 : BitVec 32 := 2#32
  let v181 : BitVec 32 := Scalar.muli v46 c2_i32_90
  let v182 : BitVec 32 := Scalar.addi v180 v181
  let c1_i32_88 : BitVec 32 := 1#32
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v179 : BitVec 32 := Scalar.subi c1_i32_88 v57
  let v183 : BitVec 32 := Scalar.addi v179 v46
  let c2_i32_91 : BitVec 32 := 2#32
  let c0_i32_92 : BitVec 32 := 0#32
  let v184 : BitVec 1 := Scalar.cmpi .eq c2_i32_91 c0_i32_92
  let c1_i32_93 : BitVec 32 := 1#32
  let v185 : BitVec 32 := Scalar.select v184 c1_i32_93 c2_i32_91
  let v186 : BitVec 32 := Scalar.remsi v183 v185
  let c0_i32_95 : BitVec 32 := 0#32
  let v188 : BitVec 1 := Scalar.cmpi .slt v186 c0_i32_95
  let c0_i32_96 : BitVec 32 := 0#32
  let v189 : BitVec 1 := Scalar.cmpi .slt v185 c0_i32_96
  let v190 : BitVec 1 := Scalar.xori v188 v189
  let c0_i32_94 : BitVec 32 := 0#32
  let v187 : BitVec 1 := Scalar.cmpi .ne v186 c0_i32_94
  let v191 : BitVec 1 := Scalar.andi v190 v187
  let v192 : BitVec 32 := Scalar.addi v186 v185
  let v193 : BitVec 32 := Scalar.select v191 v192 v186
  let v194 : BitVec 32 := Scalar.addi v182 v193
  let c1_i32_456 : BitVec 32 := 1#32
  let v871 : BitVec 32 := Scalar.muli v194 c1_i32_456
  let v872 : BitVec 32 := Scalar.addi c0_i32_457 v871
  v872.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_179 : BitVec 32 := 2#32
  let c0_i32_180 : BitVec 32 := 0#32
  let v357 : BitVec 1 := Scalar.cmpi .eq c2_i32_179 c0_i32_180
  let c1_i32_181 : BitVec 32 := 1#32
  let v358 : BitVec 32 := Scalar.select v357 c1_i32_181 c2_i32_179
  let v359 : BitVec 32 := Scalar.remsi v46 v358
  let c0_i32_183 : BitVec 32 := 0#32
  let v361 : BitVec 1 := Scalar.cmpi .slt v359 c0_i32_183
  let c0_i32_184 : BitVec 32 := 0#32
  let v362 : BitVec 1 := Scalar.cmpi .slt v358 c0_i32_184
  let v363 : BitVec 1 := Scalar.xori v361 v362
  let c0_i32_182 : BitVec 32 := 0#32
  let v360 : BitVec 1 := Scalar.cmpi .ne v359 c0_i32_182
  let v364 : BitVec 1 := Scalar.andi v363 v360
  let v365 : BitVec 32 := Scalar.addi v359 v358
  let v366 : BitVec 32 := Scalar.select v364 v365 v359
  let c16_i32_185 : BitVec 32 := 16#32
  let v367 : BitVec 32 := Scalar.muli v366 c16_i32_185
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_186 : BitVec 32 := 2#32
  let c0_i32_187 : BitVec 32 := 0#32
  let v368 : BitVec 1 := Scalar.cmpi .eq c2_i32_186 c0_i32_187
  let c1_i32_188 : BitVec 32 := 1#32
  let v369 : BitVec 32 := Scalar.select v368 c1_i32_188 c2_i32_186
  let v370 : BitVec 32 := Scalar.remsi v19 v369
  let c0_i32_190 : BitVec 32 := 0#32
  let v372 : BitVec 1 := Scalar.cmpi .slt v370 c0_i32_190
  let c0_i32_191 : BitVec 32 := 0#32
  let v373 : BitVec 1 := Scalar.cmpi .slt v369 c0_i32_191
  let v374 : BitVec 1 := Scalar.xori v372 v373
  let c0_i32_189 : BitVec 32 := 0#32
  let v371 : BitVec 1 := Scalar.cmpi .ne v370 c0_i32_189
  let v375 : BitVec 1 := Scalar.andi v374 v371
  let v376 : BitVec 32 := Scalar.addi v370 v369
  let v377 : BitVec 32 := Scalar.select v375 v376 v370
  let c8_i32_192 : BitVec 32 := 8#32
  let v378 : BitVec 32 := Scalar.muli v377 c8_i32_192
  let v379 : BitVec 32 := Scalar.addi v367 v378
  let c0_i32_194 : BitVec 32 := 0#32
  let v381 : BitVec 1 := Scalar.cmpi .sgt v19 c0_i32_194
  let v382 : BitVec 32 := Scalar.extui v381
  let c0_i32_195 : BitVec 32 := 0#32
  let v383 : BitVec 1 := Scalar.cmpi .slt v19 c0_i32_195
  let v384 : BitVec 32 := Scalar.extui v383
  let v385 : BitVec 32 := Scalar.subi v382 v384
  let c2_i32_193 : BitVec 32 := 2#32
  let c0_i32_196 : BitVec 32 := 0#32
  let v386 : BitVec 1 := Scalar.cmpi .sgt c2_i32_193 c0_i32_196
  let v387 : BitVec 32 := Scalar.extui v386
  let c0_i32_197 : BitVec 32 := 0#32
  let v388 : BitVec 1 := Scalar.cmpi .slt c2_i32_193 c0_i32_197
  let v389 : BitVec 32 := Scalar.extui v388
  let v390 : BitVec 32 := Scalar.subi v387 v389
  let v391 : BitVec 1 := Scalar.cmpi .ne v385 v390
  let v392 : BitVec 32 := Scalar.remsi v19 c2_i32_193
  let c0_i32_198 : BitVec 32 := 0#32
  let v393 : BitVec 1 := Scalar.cmpi .ne v392 c0_i32_198
  let v394 : BitVec 1 := Scalar.andi v391 v393
  let v380 : BitVec 32 := Scalar.divsi v19 c2_i32_193
  let c1_i32_199 : BitVec 32 := 1#32
  let v395 : BitVec 32 := Scalar.subi v380 c1_i32_199
  let v396 : BitVec 32 := Scalar.select v394 v395 v380
  let c4_i32_200 : BitVec 32 := 4#32
  let v397 : BitVec 32 := Scalar.muli v396 c4_i32_200
  let v398 : BitVec 32 := Scalar.addi v379 v397
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_201 : BitVec 32 := 2#32
  let v399 : BitVec 32 := Scalar.muli v57 c2_i32_201
  let v400 : BitVec 32 := Scalar.addi v398 v399
  let c0_i32_203 : BitVec 32 := 0#32
  let v402 : BitVec 1 := Scalar.cmpi .sgt v46 c0_i32_203
  let v403 : BitVec 32 := Scalar.extui v402
  let c0_i32_204 : BitVec 32 := 0#32
  let v404 : BitVec 1 := Scalar.cmpi .slt v46 c0_i32_204
  let v405 : BitVec 32 := Scalar.extui v404
  let v406 : BitVec 32 := Scalar.subi v403 v405
  let c2_i32_202 : BitVec 32 := 2#32
  let c0_i32_205 : BitVec 32 := 0#32
  let v407 : BitVec 1 := Scalar.cmpi .sgt c2_i32_202 c0_i32_205
  let v408 : BitVec 32 := Scalar.extui v407
  let c0_i32_206 : BitVec 32 := 0#32
  let v409 : BitVec 1 := Scalar.cmpi .slt c2_i32_202 c0_i32_206
  let v410 : BitVec 32 := Scalar.extui v409
  let v411 : BitVec 32 := Scalar.subi v408 v410
  let v412 : BitVec 1 := Scalar.cmpi .ne v406 v411
  let v413 : BitVec 32 := Scalar.remsi v46 c2_i32_202
  let c0_i32_207 : BitVec 32 := 0#32
  let v414 : BitVec 1 := Scalar.cmpi .ne v413 c0_i32_207
  let v415 : BitVec 1 := Scalar.andi v412 v414
  let v401 : BitVec 32 := Scalar.divsi v46 c2_i32_202
  let c1_i32_208 : BitVec 32 := 1#32
  let v416 : BitVec 32 := Scalar.subi v401 c1_i32_208
  let v417 : BitVec 32 := Scalar.select v415 v416 v401
  let v418 : BitVec 32 := Scalar.addi v400 v417
  let c16_i32_421 : BitVec 32 := 16#32
  let v807 : BitVec 32 := Scalar.addi v418 c16_i32_421
  let c32_i32_429 : BitVec 32 := 32#32
  let c0_i32_423 : BitVec 32 := 0#32
  let v809 : BitVec 1 := Scalar.cmpi .sgt v418 c0_i32_423
  let v810 : BitVec 32 := Scalar.extui v809
  let c0_i32_424 : BitVec 32 := 0#32
  let v811 : BitVec 1 := Scalar.cmpi .slt v418 c0_i32_424
  let v812 : BitVec 32 := Scalar.extui v811
  let v813 : BitVec 32 := Scalar.subi v810 v812
  let c16_i32_422 : BitVec 32 := 16#32
  let c0_i32_425 : BitVec 32 := 0#32
  let v814 : BitVec 1 := Scalar.cmpi .sgt c16_i32_422 c0_i32_425
  let v815 : BitVec 32 := Scalar.extui v814
  let c0_i32_426 : BitVec 32 := 0#32
  let v816 : BitVec 1 := Scalar.cmpi .slt c16_i32_422 c0_i32_426
  let v817 : BitVec 32 := Scalar.extui v816
  let v818 : BitVec 32 := Scalar.subi v815 v817
  let v819 : BitVec 1 := Scalar.cmpi .ne v813 v818
  let v820 : BitVec 32 := Scalar.remsi v418 c16_i32_422
  let c0_i32_427 : BitVec 32 := 0#32
  let v821 : BitVec 1 := Scalar.cmpi .ne v820 c0_i32_427
  let v822 : BitVec 1 := Scalar.andi v819 v821
  let v808 : BitVec 32 := Scalar.divsi v418 c16_i32_422
  let c1_i32_428 : BitVec 32 := 1#32
  let v823 : BitVec 32 := Scalar.subi v808 c1_i32_428
  let v824 : BitVec 32 := Scalar.select v822 v823 v808
  let v825 : BitVec 32 := Scalar.muli c32_i32_429 v824
  let v826 : BitVec 32 := Scalar.subi v807 v825
  let c0_i32_431 : BitVec 32 := 0#32
  let v828 : BitVec 1 := Scalar.cmpi .sgt v826 c0_i32_431
  let v829 : BitVec 32 := Scalar.extui v828
  let c0_i32_432 : BitVec 32 := 0#32
  let v830 : BitVec 1 := Scalar.cmpi .slt v826 c0_i32_432
  let v831 : BitVec 32 := Scalar.extui v830
  let v832 : BitVec 32 := Scalar.subi v829 v831
  let c8_i32_430 : BitVec 32 := 8#32
  let c0_i32_433 : BitVec 32 := 0#32
  let v833 : BitVec 1 := Scalar.cmpi .sgt c8_i32_430 c0_i32_433
  let v834 : BitVec 32 := Scalar.extui v833
  let c0_i32_434 : BitVec 32 := 0#32
  let v835 : BitVec 1 := Scalar.cmpi .slt c8_i32_430 c0_i32_434
  let v836 : BitVec 32 := Scalar.extui v835
  let v837 : BitVec 32 := Scalar.subi v834 v836
  let v838 : BitVec 1 := Scalar.cmpi .ne v832 v837
  let v839 : BitVec 32 := Scalar.remsi v826 c8_i32_430
  let c0_i32_435 : BitVec 32 := 0#32
  let v840 : BitVec 1 := Scalar.cmpi .ne v839 c0_i32_435
  let v841 : BitVec 1 := Scalar.andi v838 v840
  let v827 : BitVec 32 := Scalar.divsi v826 c8_i32_430
  let c1_i32_436 : BitVec 32 := 1#32
  let v842 : BitVec 32 := Scalar.subi v827 c1_i32_436
  let v843 : BitVec 32 := Scalar.select v841 v842 v827
  let c1_i32_437 : BitVec 32 := 1#32
  let v844 : BitVec 32 := Scalar.addi v843 c1_i32_437
  let c2_i32_444 : BitVec 32 := 2#32
  let c2_i32_438 : BitVec 32 := 2#32
  let c0_i32_439 : BitVec 32 := 0#32
  let v845 : BitVec 1 := Scalar.cmpi .eq c2_i32_438 c0_i32_439
  let c1_i32_440 : BitVec 32 := 1#32
  let v846 : BitVec 32 := Scalar.select v845 c1_i32_440 c2_i32_438
  let v847 : BitVec 32 := Scalar.remsi v843 v846
  let c0_i32_442 : BitVec 32 := 0#32
  let v849 : BitVec 1 := Scalar.cmpi .slt v847 c0_i32_442
  let c0_i32_443 : BitVec 32 := 0#32
  let v850 : BitVec 1 := Scalar.cmpi .slt v846 c0_i32_443
  let v851 : BitVec 1 := Scalar.xori v849 v850
  let c0_i32_441 : BitVec 32 := 0#32
  let v848 : BitVec 1 := Scalar.cmpi .ne v847 c0_i32_441
  let v852 : BitVec 1 := Scalar.andi v851 v848
  let v853 : BitVec 32 := Scalar.addi v847 v846
  let v854 : BitVec 32 := Scalar.select v852 v853 v847
  let v855 : BitVec 32 := Scalar.muli c2_i32_444 v854
  let v856 : BitVec 32 := Scalar.subi v844 v855
  let c128_i32_445 : BitVec 32 := 128#32
  let v857 : BitVec 32 := Scalar.muli v856 c128_i32_445
  let c256_i32_420 : BitVec 32 := 256#32
  let c0_i32_413 : BitVec 32 := 0#32
  let v789 : BitVec 1 := Scalar.cmpi .sgt v418 c0_i32_413
  let v790 : BitVec 32 := Scalar.extui v789
  let c0_i32_414 : BitVec 32 := 0#32
  let v791 : BitVec 1 := Scalar.cmpi .slt v418 c0_i32_414
  let v792 : BitVec 32 := Scalar.extui v791
  let v793 : BitVec 32 := Scalar.subi v790 v792
  let c16_i32_412 : BitVec 32 := 16#32
  let c0_i32_415 : BitVec 32 := 0#32
  let v794 : BitVec 1 := Scalar.cmpi .sgt c16_i32_412 c0_i32_415
  let v795 : BitVec 32 := Scalar.extui v794
  let c0_i32_416 : BitVec 32 := 0#32
  let v796 : BitVec 1 := Scalar.cmpi .slt c16_i32_412 c0_i32_416
  let v797 : BitVec 32 := Scalar.extui v796
  let v798 : BitVec 32 := Scalar.subi v795 v797
  let v799 : BitVec 1 := Scalar.cmpi .ne v793 v798
  let v800 : BitVec 32 := Scalar.remsi v418 c16_i32_412
  let c0_i32_417 : BitVec 32 := 0#32
  let v801 : BitVec 1 := Scalar.cmpi .ne v800 c0_i32_417
  let v802 : BitVec 1 := Scalar.andi v799 v801
  let v788 : BitVec 32 := Scalar.divsi v418 c16_i32_412
  let c1_i32_418 : BitVec 32 := 1#32
  let v803 : BitVec 32 := Scalar.subi v788 c1_i32_418
  let v804 : BitVec 32 := Scalar.select v802 v803 v788
  let c256_i32_419 : BitVec 32 := 256#32
  let v805 : BitVec 32 := Scalar.muli v804 c256_i32_419
  let v806 : BitVec 32 := Scalar.subi c256_i32_420 v805
  let v861 : BitVec 32 := Scalar.subi v857 v806
  let c0_i32_464 : BitVec 32 := 0#32
  ![v861.toNat, 0]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_179 : BitVec 32 := 2#32
  let c0_i32_180 : BitVec 32 := 0#32
  let v357 : BitVec 1 := Scalar.cmpi .eq c2_i32_179 c0_i32_180
  let c1_i32_181 : BitVec 32 := 1#32
  let v358 : BitVec 32 := Scalar.select v357 c1_i32_181 c2_i32_179
  let v359 : BitVec 32 := Scalar.remsi v46 v358
  let c0_i32_183 : BitVec 32 := 0#32
  let v361 : BitVec 1 := Scalar.cmpi .slt v359 c0_i32_183
  let c0_i32_184 : BitVec 32 := 0#32
  let v362 : BitVec 1 := Scalar.cmpi .slt v358 c0_i32_184
  let v363 : BitVec 1 := Scalar.xori v361 v362
  let c0_i32_182 : BitVec 32 := 0#32
  let v360 : BitVec 1 := Scalar.cmpi .ne v359 c0_i32_182
  let v364 : BitVec 1 := Scalar.andi v363 v360
  let v365 : BitVec 32 := Scalar.addi v359 v358
  let v366 : BitVec 32 := Scalar.select v364 v365 v359
  let c16_i32_185 : BitVec 32 := 16#32
  let v367 : BitVec 32 := Scalar.muli v366 c16_i32_185
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_186 : BitVec 32 := 2#32
  let c0_i32_187 : BitVec 32 := 0#32
  let v368 : BitVec 1 := Scalar.cmpi .eq c2_i32_186 c0_i32_187
  let c1_i32_188 : BitVec 32 := 1#32
  let v369 : BitVec 32 := Scalar.select v368 c1_i32_188 c2_i32_186
  let v370 : BitVec 32 := Scalar.remsi v19 v369
  let c0_i32_190 : BitVec 32 := 0#32
  let v372 : BitVec 1 := Scalar.cmpi .slt v370 c0_i32_190
  let c0_i32_191 : BitVec 32 := 0#32
  let v373 : BitVec 1 := Scalar.cmpi .slt v369 c0_i32_191
  let v374 : BitVec 1 := Scalar.xori v372 v373
  let c0_i32_189 : BitVec 32 := 0#32
  let v371 : BitVec 1 := Scalar.cmpi .ne v370 c0_i32_189
  let v375 : BitVec 1 := Scalar.andi v374 v371
  let v376 : BitVec 32 := Scalar.addi v370 v369
  let v377 : BitVec 32 := Scalar.select v375 v376 v370
  let c8_i32_192 : BitVec 32 := 8#32
  let v378 : BitVec 32 := Scalar.muli v377 c8_i32_192
  let v379 : BitVec 32 := Scalar.addi v367 v378
  let c0_i32_194 : BitVec 32 := 0#32
  let v381 : BitVec 1 := Scalar.cmpi .sgt v19 c0_i32_194
  let v382 : BitVec 32 := Scalar.extui v381
  let c0_i32_195 : BitVec 32 := 0#32
  let v383 : BitVec 1 := Scalar.cmpi .slt v19 c0_i32_195
  let v384 : BitVec 32 := Scalar.extui v383
  let v385 : BitVec 32 := Scalar.subi v382 v384
  let c2_i32_193 : BitVec 32 := 2#32
  let c0_i32_196 : BitVec 32 := 0#32
  let v386 : BitVec 1 := Scalar.cmpi .sgt c2_i32_193 c0_i32_196
  let v387 : BitVec 32 := Scalar.extui v386
  let c0_i32_197 : BitVec 32 := 0#32
  let v388 : BitVec 1 := Scalar.cmpi .slt c2_i32_193 c0_i32_197
  let v389 : BitVec 32 := Scalar.extui v388
  let v390 : BitVec 32 := Scalar.subi v387 v389
  let v391 : BitVec 1 := Scalar.cmpi .ne v385 v390
  let v392 : BitVec 32 := Scalar.remsi v19 c2_i32_193
  let c0_i32_198 : BitVec 32 := 0#32
  let v393 : BitVec 1 := Scalar.cmpi .ne v392 c0_i32_198
  let v394 : BitVec 1 := Scalar.andi v391 v393
  let v380 : BitVec 32 := Scalar.divsi v19 c2_i32_193
  let c1_i32_199 : BitVec 32 := 1#32
  let v395 : BitVec 32 := Scalar.subi v380 c1_i32_199
  let v396 : BitVec 32 := Scalar.select v394 v395 v380
  let c4_i32_200 : BitVec 32 := 4#32
  let v397 : BitVec 32 := Scalar.muli v396 c4_i32_200
  let v398 : BitVec 32 := Scalar.addi v379 v397
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_201 : BitVec 32 := 2#32
  let v399 : BitVec 32 := Scalar.muli v57 c2_i32_201
  let v400 : BitVec 32 := Scalar.addi v398 v399
  let c0_i32_203 : BitVec 32 := 0#32
  let v402 : BitVec 1 := Scalar.cmpi .sgt v46 c0_i32_203
  let v403 : BitVec 32 := Scalar.extui v402
  let c0_i32_204 : BitVec 32 := 0#32
  let v404 : BitVec 1 := Scalar.cmpi .slt v46 c0_i32_204
  let v405 : BitVec 32 := Scalar.extui v404
  let v406 : BitVec 32 := Scalar.subi v403 v405
  let c2_i32_202 : BitVec 32 := 2#32
  let c0_i32_205 : BitVec 32 := 0#32
  let v407 : BitVec 1 := Scalar.cmpi .sgt c2_i32_202 c0_i32_205
  let v408 : BitVec 32 := Scalar.extui v407
  let c0_i32_206 : BitVec 32 := 0#32
  let v409 : BitVec 1 := Scalar.cmpi .slt c2_i32_202 c0_i32_206
  let v410 : BitVec 32 := Scalar.extui v409
  let v411 : BitVec 32 := Scalar.subi v408 v410
  let v412 : BitVec 1 := Scalar.cmpi .ne v406 v411
  let v413 : BitVec 32 := Scalar.remsi v46 c2_i32_202
  let c0_i32_207 : BitVec 32 := 0#32
  let v414 : BitVec 1 := Scalar.cmpi .ne v413 c0_i32_207
  let v415 : BitVec 1 := Scalar.andi v412 v414
  let v401 : BitVec 32 := Scalar.divsi v46 c2_i32_202
  let c1_i32_208 : BitVec 32 := 1#32
  let v416 : BitVec 32 := Scalar.subi v401 c1_i32_208
  let v417 : BitVec 32 := Scalar.select v415 v416 v401
  let v418 : BitVec 32 := Scalar.addi v400 v417
  let c16_i32_421 : BitVec 32 := 16#32
  let v807 : BitVec 32 := Scalar.addi v418 c16_i32_421
  let c32_i32_429 : BitVec 32 := 32#32
  let c0_i32_423 : BitVec 32 := 0#32
  let v809 : BitVec 1 := Scalar.cmpi .sgt v418 c0_i32_423
  let v810 : BitVec 32 := Scalar.extui v809
  let c0_i32_424 : BitVec 32 := 0#32
  let v811 : BitVec 1 := Scalar.cmpi .slt v418 c0_i32_424
  let v812 : BitVec 32 := Scalar.extui v811
  let v813 : BitVec 32 := Scalar.subi v810 v812
  let c16_i32_422 : BitVec 32 := 16#32
  let c0_i32_425 : BitVec 32 := 0#32
  let v814 : BitVec 1 := Scalar.cmpi .sgt c16_i32_422 c0_i32_425
  let v815 : BitVec 32 := Scalar.extui v814
  let c0_i32_426 : BitVec 32 := 0#32
  let v816 : BitVec 1 := Scalar.cmpi .slt c16_i32_422 c0_i32_426
  let v817 : BitVec 32 := Scalar.extui v816
  let v818 : BitVec 32 := Scalar.subi v815 v817
  let v819 : BitVec 1 := Scalar.cmpi .ne v813 v818
  let v820 : BitVec 32 := Scalar.remsi v418 c16_i32_422
  let c0_i32_427 : BitVec 32 := 0#32
  let v821 : BitVec 1 := Scalar.cmpi .ne v820 c0_i32_427
  let v822 : BitVec 1 := Scalar.andi v819 v821
  let v808 : BitVec 32 := Scalar.divsi v418 c16_i32_422
  let c1_i32_428 : BitVec 32 := 1#32
  let v823 : BitVec 32 := Scalar.subi v808 c1_i32_428
  let v824 : BitVec 32 := Scalar.select v822 v823 v808
  let v825 : BitVec 32 := Scalar.muli c32_i32_429 v824
  let v826 : BitVec 32 := Scalar.subi v807 v825
  let c0_i32_431 : BitVec 32 := 0#32
  let v828 : BitVec 1 := Scalar.cmpi .sgt v826 c0_i32_431
  let v829 : BitVec 32 := Scalar.extui v828
  let c0_i32_432 : BitVec 32 := 0#32
  let v830 : BitVec 1 := Scalar.cmpi .slt v826 c0_i32_432
  let v831 : BitVec 32 := Scalar.extui v830
  let v832 : BitVec 32 := Scalar.subi v829 v831
  let c8_i32_430 : BitVec 32 := 8#32
  let c0_i32_433 : BitVec 32 := 0#32
  let v833 : BitVec 1 := Scalar.cmpi .sgt c8_i32_430 c0_i32_433
  let v834 : BitVec 32 := Scalar.extui v833
  let c0_i32_434 : BitVec 32 := 0#32
  let v835 : BitVec 1 := Scalar.cmpi .slt c8_i32_430 c0_i32_434
  let v836 : BitVec 32 := Scalar.extui v835
  let v837 : BitVec 32 := Scalar.subi v834 v836
  let v838 : BitVec 1 := Scalar.cmpi .ne v832 v837
  let v839 : BitVec 32 := Scalar.remsi v826 c8_i32_430
  let c0_i32_435 : BitVec 32 := 0#32
  let v840 : BitVec 1 := Scalar.cmpi .ne v839 c0_i32_435
  let v841 : BitVec 1 := Scalar.andi v838 v840
  let v827 : BitVec 32 := Scalar.divsi v826 c8_i32_430
  let c1_i32_436 : BitVec 32 := 1#32
  let v842 : BitVec 32 := Scalar.subi v827 c1_i32_436
  let v843 : BitVec 32 := Scalar.select v841 v842 v827
  let c1_i32_437 : BitVec 32 := 1#32
  let v844 : BitVec 32 := Scalar.addi v843 c1_i32_437
  let c2_i32_444 : BitVec 32 := 2#32
  let c2_i32_438 : BitVec 32 := 2#32
  let c0_i32_439 : BitVec 32 := 0#32
  let v845 : BitVec 1 := Scalar.cmpi .eq c2_i32_438 c0_i32_439
  let c1_i32_440 : BitVec 32 := 1#32
  let v846 : BitVec 32 := Scalar.select v845 c1_i32_440 c2_i32_438
  let v847 : BitVec 32 := Scalar.remsi v843 v846
  let c0_i32_442 : BitVec 32 := 0#32
  let v849 : BitVec 1 := Scalar.cmpi .slt v847 c0_i32_442
  let c0_i32_443 : BitVec 32 := 0#32
  let v850 : BitVec 1 := Scalar.cmpi .slt v846 c0_i32_443
  let v851 : BitVec 1 := Scalar.xori v849 v850
  let c0_i32_441 : BitVec 32 := 0#32
  let v848 : BitVec 1 := Scalar.cmpi .ne v847 c0_i32_441
  let v852 : BitVec 1 := Scalar.andi v851 v848
  let v853 : BitVec 32 := Scalar.addi v847 v846
  let v854 : BitVec 32 := Scalar.select v852 v853 v847
  let v855 : BitVec 32 := Scalar.muli c2_i32_444 v854
  let v856 : BitVec 32 := Scalar.subi v844 v855
  let c128_i32_445 : BitVec 32 := 128#32
  let v857 : BitVec 32 := Scalar.muli v856 c128_i32_445
  let c0_i32_465 : BitVec 32 := 0#32
  ![v857.toNat, 0]
def k0_dev10 (d0 : Dev nD) : Nat :=
  let c0_i32_463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_209 : BitVec 32 := 8#32
  let v419 : BitVec 32 := Scalar.muli v19 c8_i32_209
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v58 : BitVec 32 := Scalar.addi v46 c1_i32_23
  let c2_i32_30 : BitVec 32 := 2#32
  let c2_i32_24 : BitVec 32 := 2#32
  let c0_i32_25 : BitVec 32 := 0#32
  let v59 : BitVec 1 := Scalar.cmpi .eq c2_i32_24 c0_i32_25
  let c1_i32_26 : BitVec 32 := 1#32
  let v60 : BitVec 32 := Scalar.select v59 c1_i32_26 c2_i32_24
  let v61 : BitVec 32 := Scalar.remsi v46 v60
  let c0_i32_28 : BitVec 32 := 0#32
  let v63 : BitVec 1 := Scalar.cmpi .slt v61 c0_i32_28
  let c0_i32_29 : BitVec 32 := 0#32
  let v64 : BitVec 1 := Scalar.cmpi .slt v60 c0_i32_29
  let v65 : BitVec 1 := Scalar.xori v63 v64
  let c0_i32_27 : BitVec 32 := 0#32
  let v62 : BitVec 1 := Scalar.cmpi .ne v61 c0_i32_27
  let v66 : BitVec 1 := Scalar.andi v65 v62
  let v67 : BitVec 32 := Scalar.addi v61 v60
  let v68 : BitVec 32 := Scalar.select v66 v67 v61
  let v69 : BitVec 32 := Scalar.muli c2_i32_30 v68
  let v70 : BitVec 32 := Scalar.subi v58 v69
  let c2_i32_210 : BitVec 32 := 2#32
  let v420 : BitVec 32 := Scalar.muli v70 c2_i32_210
  let v421 : BitVec 32 := Scalar.addi v419 v420
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v422 : BitVec 32 := Scalar.addi v57 v70
  let c2_i32_211 : BitVec 32 := 2#32
  let c0_i32_212 : BitVec 32 := 0#32
  let v423 : BitVec 1 := Scalar.cmpi .eq c2_i32_211 c0_i32_212
  let c1_i32_213 : BitVec 32 := 1#32
  let v424 : BitVec 32 := Scalar.select v423 c1_i32_213 c2_i32_211
  let v425 : BitVec 32 := Scalar.remsi v422 v424
  let c0_i32_215 : BitVec 32 := 0#32
  let v427 : BitVec 1 := Scalar.cmpi .slt v425 c0_i32_215
  let c0_i32_216 : BitVec 32 := 0#32
  let v428 : BitVec 1 := Scalar.cmpi .slt v424 c0_i32_216
  let v429 : BitVec 1 := Scalar.xori v427 v428
  let c0_i32_214 : BitVec 32 := 0#32
  let v426 : BitVec 1 := Scalar.cmpi .ne v425 c0_i32_214
  let v430 : BitVec 1 := Scalar.andi v429 v426
  let v431 : BitVec 32 := Scalar.addi v425 v424
  let v432 : BitVec 32 := Scalar.select v430 v431 v425
  let v433 : BitVec 32 := Scalar.addi v421 v432
  let c1_i32_462 : BitVec 32 := 1#32
  let v879 : BitVec 32 := Scalar.muli v433 c1_i32_462
  let v880 : BitVec 32 := Scalar.addi c0_i32_463 v879
  v880.toNat
def k0_off7 (d0 : Dev nD) : Fin 2 → Nat :=
  let c2_i32_446 : BitVec 32 := 2#32
  let c256_i32_420 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_179 : BitVec 32 := 2#32
  let c0_i32_180 : BitVec 32 := 0#32
  let v357 : BitVec 1 := Scalar.cmpi .eq c2_i32_179 c0_i32_180
  let c1_i32_181 : BitVec 32 := 1#32
  let v358 : BitVec 32 := Scalar.select v357 c1_i32_181 c2_i32_179
  let v359 : BitVec 32 := Scalar.remsi v46 v358
  let c0_i32_183 : BitVec 32 := 0#32
  let v361 : BitVec 1 := Scalar.cmpi .slt v359 c0_i32_183
  let c0_i32_184 : BitVec 32 := 0#32
  let v362 : BitVec 1 := Scalar.cmpi .slt v358 c0_i32_184
  let v363 : BitVec 1 := Scalar.xori v361 v362
  let c0_i32_182 : BitVec 32 := 0#32
  let v360 : BitVec 1 := Scalar.cmpi .ne v359 c0_i32_182
  let v364 : BitVec 1 := Scalar.andi v363 v360
  let v365 : BitVec 32 := Scalar.addi v359 v358
  let v366 : BitVec 32 := Scalar.select v364 v365 v359
  let c16_i32_185 : BitVec 32 := 16#32
  let v367 : BitVec 32 := Scalar.muli v366 c16_i32_185
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_186 : BitVec 32 := 2#32
  let c0_i32_187 : BitVec 32 := 0#32
  let v368 : BitVec 1 := Scalar.cmpi .eq c2_i32_186 c0_i32_187
  let c1_i32_188 : BitVec 32 := 1#32
  let v369 : BitVec 32 := Scalar.select v368 c1_i32_188 c2_i32_186
  let v370 : BitVec 32 := Scalar.remsi v19 v369
  let c0_i32_190 : BitVec 32 := 0#32
  let v372 : BitVec 1 := Scalar.cmpi .slt v370 c0_i32_190
  let c0_i32_191 : BitVec 32 := 0#32
  let v373 : BitVec 1 := Scalar.cmpi .slt v369 c0_i32_191
  let v374 : BitVec 1 := Scalar.xori v372 v373
  let c0_i32_189 : BitVec 32 := 0#32
  let v371 : BitVec 1 := Scalar.cmpi .ne v370 c0_i32_189
  let v375 : BitVec 1 := Scalar.andi v374 v371
  let v376 : BitVec 32 := Scalar.addi v370 v369
  let v377 : BitVec 32 := Scalar.select v375 v376 v370
  let c8_i32_192 : BitVec 32 := 8#32
  let v378 : BitVec 32 := Scalar.muli v377 c8_i32_192
  let v379 : BitVec 32 := Scalar.addi v367 v378
  let c0_i32_194 : BitVec 32 := 0#32
  let v381 : BitVec 1 := Scalar.cmpi .sgt v19 c0_i32_194
  let v382 : BitVec 32 := Scalar.extui v381
  let c0_i32_195 : BitVec 32 := 0#32
  let v383 : BitVec 1 := Scalar.cmpi .slt v19 c0_i32_195
  let v384 : BitVec 32 := Scalar.extui v383
  let v385 : BitVec 32 := Scalar.subi v382 v384
  let c2_i32_193 : BitVec 32 := 2#32
  let c0_i32_196 : BitVec 32 := 0#32
  let v386 : BitVec 1 := Scalar.cmpi .sgt c2_i32_193 c0_i32_196
  let v387 : BitVec 32 := Scalar.extui v386
  let c0_i32_197 : BitVec 32 := 0#32
  let v388 : BitVec 1 := Scalar.cmpi .slt c2_i32_193 c0_i32_197
  let v389 : BitVec 32 := Scalar.extui v388
  let v390 : BitVec 32 := Scalar.subi v387 v389
  let v391 : BitVec 1 := Scalar.cmpi .ne v385 v390
  let v392 : BitVec 32 := Scalar.remsi v19 c2_i32_193
  let c0_i32_198 : BitVec 32 := 0#32
  let v393 : BitVec 1 := Scalar.cmpi .ne v392 c0_i32_198
  let v394 : BitVec 1 := Scalar.andi v391 v393
  let v380 : BitVec 32 := Scalar.divsi v19 c2_i32_193
  let c1_i32_199 : BitVec 32 := 1#32
  let v395 : BitVec 32 := Scalar.subi v380 c1_i32_199
  let v396 : BitVec 32 := Scalar.select v394 v395 v380
  let c4_i32_200 : BitVec 32 := 4#32
  let v397 : BitVec 32 := Scalar.muli v396 c4_i32_200
  let v398 : BitVec 32 := Scalar.addi v379 v397
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_201 : BitVec 32 := 2#32
  let v399 : BitVec 32 := Scalar.muli v57 c2_i32_201
  let v400 : BitVec 32 := Scalar.addi v398 v399
  let c0_i32_203 : BitVec 32 := 0#32
  let v402 : BitVec 1 := Scalar.cmpi .sgt v46 c0_i32_203
  let v403 : BitVec 32 := Scalar.extui v402
  let c0_i32_204 : BitVec 32 := 0#32
  let v404 : BitVec 1 := Scalar.cmpi .slt v46 c0_i32_204
  let v405 : BitVec 32 := Scalar.extui v404
  let v406 : BitVec 32 := Scalar.subi v403 v405
  let c2_i32_202 : BitVec 32 := 2#32
  let c0_i32_205 : BitVec 32 := 0#32
  let v407 : BitVec 1 := Scalar.cmpi .sgt c2_i32_202 c0_i32_205
  let v408 : BitVec 32 := Scalar.extui v407
  let c0_i32_206 : BitVec 32 := 0#32
  let v409 : BitVec 1 := Scalar.cmpi .slt c2_i32_202 c0_i32_206
  let v410 : BitVec 32 := Scalar.extui v409
  let v411 : BitVec 32 := Scalar.subi v408 v410
  let v412 : BitVec 1 := Scalar.cmpi .ne v406 v411
  let v413 : BitVec 32 := Scalar.remsi v46 c2_i32_202
  let c0_i32_207 : BitVec 32 := 0#32
  let v414 : BitVec 1 := Scalar.cmpi .ne v413 c0_i32_207
  let v415 : BitVec 1 := Scalar.andi v412 v414
  let v401 : BitVec 32 := Scalar.divsi v46 c2_i32_202
  let c1_i32_208 : BitVec 32 := 1#32
  let v416 : BitVec 32 := Scalar.subi v401 c1_i32_208
  let v417 : BitVec 32 := Scalar.select v415 v416 v401
  let v418 : BitVec 32 := Scalar.addi v400 v417
  let c0_i32_413 : BitVec 32 := 0#32
  let v789 : BitVec 1 := Scalar.cmpi .sgt v418 c0_i32_413
  let v790 : BitVec 32 := Scalar.extui v789
  let c0_i32_414 : BitVec 32 := 0#32
  let v791 : BitVec 1 := Scalar.cmpi .slt v418 c0_i32_414
  let v792 : BitVec 32 := Scalar.extui v791
  let v793 : BitVec 32 := Scalar.subi v790 v792
  let c16_i32_412 : BitVec 32 := 16#32
  let c0_i32_415 : BitVec 32 := 0#32
  let v794 : BitVec 1 := Scalar.cmpi .sgt c16_i32_412 c0_i32_415
  let v795 : BitVec 32 := Scalar.extui v794
  let c0_i32_416 : BitVec 32 := 0#32
  let v796 : BitVec 1 := Scalar.cmpi .slt c16_i32_412 c0_i32_416
  let v797 : BitVec 32 := Scalar.extui v796
  let v798 : BitVec 32 := Scalar.subi v795 v797
  let v799 : BitVec 1 := Scalar.cmpi .ne v793 v798
  let v800 : BitVec 32 := Scalar.remsi v418 c16_i32_412
  let c0_i32_417 : BitVec 32 := 0#32
  let v801 : BitVec 1 := Scalar.cmpi .ne v800 c0_i32_417
  let v802 : BitVec 1 := Scalar.andi v799 v801
  let v788 : BitVec 32 := Scalar.divsi v418 c16_i32_412
  let c1_i32_418 : BitVec 32 := 1#32
  let v803 : BitVec 32 := Scalar.subi v788 c1_i32_418
  let v804 : BitVec 32 := Scalar.select v802 v803 v788
  let c256_i32_419 : BitVec 32 := 256#32
  let v805 : BitVec 32 := Scalar.muli v804 c256_i32_419
  let v806 : BitVec 32 := Scalar.subi c256_i32_420 v805
  let v858 : BitVec 32 := Scalar.muli c2_i32_446 v806
  let c128_i32_447 : BitVec 32 := 128#32
  let v859 : BitVec 32 := Scalar.addi v858 c128_i32_447
  let c16_i32_421 : BitVec 32 := 16#32
  let v807 : BitVec 32 := Scalar.addi v418 c16_i32_421
  let c32_i32_429 : BitVec 32 := 32#32
  let c0_i32_423 : BitVec 32 := 0#32
  let v809 : BitVec 1 := Scalar.cmpi .sgt v418 c0_i32_423
  let v810 : BitVec 32 := Scalar.extui v809
  let c0_i32_424 : BitVec 32 := 0#32
  let v811 : BitVec 1 := Scalar.cmpi .slt v418 c0_i32_424
  let v812 : BitVec 32 := Scalar.extui v811
  let v813 : BitVec 32 := Scalar.subi v810 v812
  let c16_i32_422 : BitVec 32 := 16#32
  let c0_i32_425 : BitVec 32 := 0#32
  let v814 : BitVec 1 := Scalar.cmpi .sgt c16_i32_422 c0_i32_425
  let v815 : BitVec 32 := Scalar.extui v814
  let c0_i32_426 : BitVec 32 := 0#32
  let v816 : BitVec 1 := Scalar.cmpi .slt c16_i32_422 c0_i32_426
  let v817 : BitVec 32 := Scalar.extui v816
  let v818 : BitVec 32 := Scalar.subi v815 v817
  let v819 : BitVec 1 := Scalar.cmpi .ne v813 v818
  let v820 : BitVec 32 := Scalar.remsi v418 c16_i32_422
  let c0_i32_427 : BitVec 32 := 0#32
  let v821 : BitVec 1 := Scalar.cmpi .ne v820 c0_i32_427
  let v822 : BitVec 1 := Scalar.andi v819 v821
  let v808 : BitVec 32 := Scalar.divsi v418 c16_i32_422
  let c1_i32_428 : BitVec 32 := 1#32
  let v823 : BitVec 32 := Scalar.subi v808 c1_i32_428
  let v824 : BitVec 32 := Scalar.select v822 v823 v808
  let v825 : BitVec 32 := Scalar.muli c32_i32_429 v824
  let v826 : BitVec 32 := Scalar.subi v807 v825
  let c0_i32_431 : BitVec 32 := 0#32
  let v828 : BitVec 1 := Scalar.cmpi .sgt v826 c0_i32_431
  let v829 : BitVec 32 := Scalar.extui v828
  let c0_i32_432 : BitVec 32 := 0#32
  let v830 : BitVec 1 := Scalar.cmpi .slt v826 c0_i32_432
  let v831 : BitVec 32 := Scalar.extui v830
  let v832 : BitVec 32 := Scalar.subi v829 v831
  let c8_i32_430 : BitVec 32 := 8#32
  let c0_i32_433 : BitVec 32 := 0#32
  let v833 : BitVec 1 := Scalar.cmpi .sgt c8_i32_430 c0_i32_433
  let v834 : BitVec 32 := Scalar.extui v833
  let c0_i32_434 : BitVec 32 := 0#32
  let v835 : BitVec 1 := Scalar.cmpi .slt c8_i32_430 c0_i32_434
  let v836 : BitVec 32 := Scalar.extui v835
  let v837 : BitVec 32 := Scalar.subi v834 v836
  let v838 : BitVec 1 := Scalar.cmpi .ne v832 v837
  let v839 : BitVec 32 := Scalar.remsi v826 c8_i32_430
  let c0_i32_435 : BitVec 32 := 0#32
  let v840 : BitVec 1 := Scalar.cmpi .ne v839 c0_i32_435
  let v841 : BitVec 1 := Scalar.andi v838 v840
  let v827 : BitVec 32 := Scalar.divsi v826 c8_i32_430
  let c1_i32_436 : BitVec 32 := 1#32
  let v842 : BitVec 32 := Scalar.subi v827 c1_i32_436
  let v843 : BitVec 32 := Scalar.select v841 v842 v827
  let c1_i32_437 : BitVec 32 := 1#32
  let v844 : BitVec 32 := Scalar.addi v843 c1_i32_437
  let c2_i32_444 : BitVec 32 := 2#32
  let c2_i32_438 : BitVec 32 := 2#32
  let c0_i32_439 : BitVec 32 := 0#32
  let v845 : BitVec 1 := Scalar.cmpi .eq c2_i32_438 c0_i32_439
  let c1_i32_440 : BitVec 32 := 1#32
  let v846 : BitVec 32 := Scalar.select v845 c1_i32_440 c2_i32_438
  let v847 : BitVec 32 := Scalar.remsi v843 v846
  let c0_i32_442 : BitVec 32 := 0#32
  let v849 : BitVec 1 := Scalar.cmpi .slt v847 c0_i32_442
  let c0_i32_443 : BitVec 32 := 0#32
  let v850 : BitVec 1 := Scalar.cmpi .slt v846 c0_i32_443
  let v851 : BitVec 1 := Scalar.xori v849 v850
  let c0_i32_441 : BitVec 32 := 0#32
  let v848 : BitVec 1 := Scalar.cmpi .ne v847 c0_i32_441
  let v852 : BitVec 1 := Scalar.andi v851 v848
  let v853 : BitVec 32 := Scalar.addi v847 v846
  let v854 : BitVec 32 := Scalar.select v852 v853 v847
  let v855 : BitVec 32 := Scalar.muli c2_i32_444 v854
  let v856 : BitVec 32 := Scalar.subi v844 v855
  let c128_i32_445 : BitVec 32 := 128#32
  let v857 : BitVec 32 := Scalar.muli v856 c128_i32_445
  let v860 : BitVec 32 := Scalar.subi v859 v857
  let v862 : BitVec 32 := Scalar.subi v860 v806
  let c0_i32_469 : BitVec 32 := 0#32
  ![v862.toNat, 0]
def k0_off8 (d0 : Dev nD) : Fin 2 → Nat :=
  let c2_i32_446 : BitVec 32 := 2#32
  let c256_i32_420 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_179 : BitVec 32 := 2#32
  let c0_i32_180 : BitVec 32 := 0#32
  let v357 : BitVec 1 := Scalar.cmpi .eq c2_i32_179 c0_i32_180
  let c1_i32_181 : BitVec 32 := 1#32
  let v358 : BitVec 32 := Scalar.select v357 c1_i32_181 c2_i32_179
  let v359 : BitVec 32 := Scalar.remsi v46 v358
  let c0_i32_183 : BitVec 32 := 0#32
  let v361 : BitVec 1 := Scalar.cmpi .slt v359 c0_i32_183
  let c0_i32_184 : BitVec 32 := 0#32
  let v362 : BitVec 1 := Scalar.cmpi .slt v358 c0_i32_184
  let v363 : BitVec 1 := Scalar.xori v361 v362
  let c0_i32_182 : BitVec 32 := 0#32
  let v360 : BitVec 1 := Scalar.cmpi .ne v359 c0_i32_182
  let v364 : BitVec 1 := Scalar.andi v363 v360
  let v365 : BitVec 32 := Scalar.addi v359 v358
  let v366 : BitVec 32 := Scalar.select v364 v365 v359
  let c16_i32_185 : BitVec 32 := 16#32
  let v367 : BitVec 32 := Scalar.muli v366 c16_i32_185
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_186 : BitVec 32 := 2#32
  let c0_i32_187 : BitVec 32 := 0#32
  let v368 : BitVec 1 := Scalar.cmpi .eq c2_i32_186 c0_i32_187
  let c1_i32_188 : BitVec 32 := 1#32
  let v369 : BitVec 32 := Scalar.select v368 c1_i32_188 c2_i32_186
  let v370 : BitVec 32 := Scalar.remsi v19 v369
  let c0_i32_190 : BitVec 32 := 0#32
  let v372 : BitVec 1 := Scalar.cmpi .slt v370 c0_i32_190
  let c0_i32_191 : BitVec 32 := 0#32
  let v373 : BitVec 1 := Scalar.cmpi .slt v369 c0_i32_191
  let v374 : BitVec 1 := Scalar.xori v372 v373
  let c0_i32_189 : BitVec 32 := 0#32
  let v371 : BitVec 1 := Scalar.cmpi .ne v370 c0_i32_189
  let v375 : BitVec 1 := Scalar.andi v374 v371
  let v376 : BitVec 32 := Scalar.addi v370 v369
  let v377 : BitVec 32 := Scalar.select v375 v376 v370
  let c8_i32_192 : BitVec 32 := 8#32
  let v378 : BitVec 32 := Scalar.muli v377 c8_i32_192
  let v379 : BitVec 32 := Scalar.addi v367 v378
  let c0_i32_194 : BitVec 32 := 0#32
  let v381 : BitVec 1 := Scalar.cmpi .sgt v19 c0_i32_194
  let v382 : BitVec 32 := Scalar.extui v381
  let c0_i32_195 : BitVec 32 := 0#32
  let v383 : BitVec 1 := Scalar.cmpi .slt v19 c0_i32_195
  let v384 : BitVec 32 := Scalar.extui v383
  let v385 : BitVec 32 := Scalar.subi v382 v384
  let c2_i32_193 : BitVec 32 := 2#32
  let c0_i32_196 : BitVec 32 := 0#32
  let v386 : BitVec 1 := Scalar.cmpi .sgt c2_i32_193 c0_i32_196
  let v387 : BitVec 32 := Scalar.extui v386
  let c0_i32_197 : BitVec 32 := 0#32
  let v388 : BitVec 1 := Scalar.cmpi .slt c2_i32_193 c0_i32_197
  let v389 : BitVec 32 := Scalar.extui v388
  let v390 : BitVec 32 := Scalar.subi v387 v389
  let v391 : BitVec 1 := Scalar.cmpi .ne v385 v390
  let v392 : BitVec 32 := Scalar.remsi v19 c2_i32_193
  let c0_i32_198 : BitVec 32 := 0#32
  let v393 : BitVec 1 := Scalar.cmpi .ne v392 c0_i32_198
  let v394 : BitVec 1 := Scalar.andi v391 v393
  let v380 : BitVec 32 := Scalar.divsi v19 c2_i32_193
  let c1_i32_199 : BitVec 32 := 1#32
  let v395 : BitVec 32 := Scalar.subi v380 c1_i32_199
  let v396 : BitVec 32 := Scalar.select v394 v395 v380
  let c4_i32_200 : BitVec 32 := 4#32
  let v397 : BitVec 32 := Scalar.muli v396 c4_i32_200
  let v398 : BitVec 32 := Scalar.addi v379 v397
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_201 : BitVec 32 := 2#32
  let v399 : BitVec 32 := Scalar.muli v57 c2_i32_201
  let v400 : BitVec 32 := Scalar.addi v398 v399
  let c0_i32_203 : BitVec 32 := 0#32
  let v402 : BitVec 1 := Scalar.cmpi .sgt v46 c0_i32_203
  let v403 : BitVec 32 := Scalar.extui v402
  let c0_i32_204 : BitVec 32 := 0#32
  let v404 : BitVec 1 := Scalar.cmpi .slt v46 c0_i32_204
  let v405 : BitVec 32 := Scalar.extui v404
  let v406 : BitVec 32 := Scalar.subi v403 v405
  let c2_i32_202 : BitVec 32 := 2#32
  let c0_i32_205 : BitVec 32 := 0#32
  let v407 : BitVec 1 := Scalar.cmpi .sgt c2_i32_202 c0_i32_205
  let v408 : BitVec 32 := Scalar.extui v407
  let c0_i32_206 : BitVec 32 := 0#32
  let v409 : BitVec 1 := Scalar.cmpi .slt c2_i32_202 c0_i32_206
  let v410 : BitVec 32 := Scalar.extui v409
  let v411 : BitVec 32 := Scalar.subi v408 v410
  let v412 : BitVec 1 := Scalar.cmpi .ne v406 v411
  let v413 : BitVec 32 := Scalar.remsi v46 c2_i32_202
  let c0_i32_207 : BitVec 32 := 0#32
  let v414 : BitVec 1 := Scalar.cmpi .ne v413 c0_i32_207
  let v415 : BitVec 1 := Scalar.andi v412 v414
  let v401 : BitVec 32 := Scalar.divsi v46 c2_i32_202
  let c1_i32_208 : BitVec 32 := 1#32
  let v416 : BitVec 32 := Scalar.subi v401 c1_i32_208
  let v417 : BitVec 32 := Scalar.select v415 v416 v401
  let v418 : BitVec 32 := Scalar.addi v400 v417
  let c0_i32_413 : BitVec 32 := 0#32
  let v789 : BitVec 1 := Scalar.cmpi .sgt v418 c0_i32_413
  let v790 : BitVec 32 := Scalar.extui v789
  let c0_i32_414 : BitVec 32 := 0#32
  let v791 : BitVec 1 := Scalar.cmpi .slt v418 c0_i32_414
  let v792 : BitVec 32 := Scalar.extui v791
  let v793 : BitVec 32 := Scalar.subi v790 v792
  let c16_i32_412 : BitVec 32 := 16#32
  let c0_i32_415 : BitVec 32 := 0#32
  let v794 : BitVec 1 := Scalar.cmpi .sgt c16_i32_412 c0_i32_415
  let v795 : BitVec 32 := Scalar.extui v794
  let c0_i32_416 : BitVec 32 := 0#32
  let v796 : BitVec 1 := Scalar.cmpi .slt c16_i32_412 c0_i32_416
  let v797 : BitVec 32 := Scalar.extui v796
  let v798 : BitVec 32 := Scalar.subi v795 v797
  let v799 : BitVec 1 := Scalar.cmpi .ne v793 v798
  let v800 : BitVec 32 := Scalar.remsi v418 c16_i32_412
  let c0_i32_417 : BitVec 32 := 0#32
  let v801 : BitVec 1 := Scalar.cmpi .ne v800 c0_i32_417
  let v802 : BitVec 1 := Scalar.andi v799 v801
  let v788 : BitVec 32 := Scalar.divsi v418 c16_i32_412
  let c1_i32_418 : BitVec 32 := 1#32
  let v803 : BitVec 32 := Scalar.subi v788 c1_i32_418
  let v804 : BitVec 32 := Scalar.select v802 v803 v788
  let c256_i32_419 : BitVec 32 := 256#32
  let v805 : BitVec 32 := Scalar.muli v804 c256_i32_419
  let v806 : BitVec 32 := Scalar.subi c256_i32_420 v805
  let v858 : BitVec 32 := Scalar.muli c2_i32_446 v806
  let c128_i32_447 : BitVec 32 := 128#32
  let v859 : BitVec 32 := Scalar.addi v858 c128_i32_447
  let c16_i32_421 : BitVec 32 := 16#32
  let v807 : BitVec 32 := Scalar.addi v418 c16_i32_421
  let c32_i32_429 : BitVec 32 := 32#32
  let c0_i32_423 : BitVec 32 := 0#32
  let v809 : BitVec 1 := Scalar.cmpi .sgt v418 c0_i32_423
  let v810 : BitVec 32 := Scalar.extui v809
  let c0_i32_424 : BitVec 32 := 0#32
  let v811 : BitVec 1 := Scalar.cmpi .slt v418 c0_i32_424
  let v812 : BitVec 32 := Scalar.extui v811
  let v813 : BitVec 32 := Scalar.subi v810 v812
  let c16_i32_422 : BitVec 32 := 16#32
  let c0_i32_425 : BitVec 32 := 0#32
  let v814 : BitVec 1 := Scalar.cmpi .sgt c16_i32_422 c0_i32_425
  let v815 : BitVec 32 := Scalar.extui v814
  let c0_i32_426 : BitVec 32 := 0#32
  let v816 : BitVec 1 := Scalar.cmpi .slt c16_i32_422 c0_i32_426
  let v817 : BitVec 32 := Scalar.extui v816
  let v818 : BitVec 32 := Scalar.subi v815 v817
  let v819 : BitVec 1 := Scalar.cmpi .ne v813 v818
  let v820 : BitVec 32 := Scalar.remsi v418 c16_i32_422
  let c0_i32_427 : BitVec 32 := 0#32
  let v821 : BitVec 1 := Scalar.cmpi .ne v820 c0_i32_427
  let v822 : BitVec 1 := Scalar.andi v819 v821
  let v808 : BitVec 32 := Scalar.divsi v418 c16_i32_422
  let c1_i32_428 : BitVec 32 := 1#32
  let v823 : BitVec 32 := Scalar.subi v808 c1_i32_428
  let v824 : BitVec 32 := Scalar.select v822 v823 v808
  let v825 : BitVec 32 := Scalar.muli c32_i32_429 v824
  let v826 : BitVec 32 := Scalar.subi v807 v825
  let c0_i32_431 : BitVec 32 := 0#32
  let v828 : BitVec 1 := Scalar.cmpi .sgt v826 c0_i32_431
  let v829 : BitVec 32 := Scalar.extui v828
  let c0_i32_432 : BitVec 32 := 0#32
  let v830 : BitVec 1 := Scalar.cmpi .slt v826 c0_i32_432
  let v831 : BitVec 32 := Scalar.extui v830
  let v832 : BitVec 32 := Scalar.subi v829 v831
  let c8_i32_430 : BitVec 32 := 8#32
  let c0_i32_433 : BitVec 32 := 0#32
  let v833 : BitVec 1 := Scalar.cmpi .sgt c8_i32_430 c0_i32_433
  let v834 : BitVec 32 := Scalar.extui v833
  let c0_i32_434 : BitVec 32 := 0#32
  let v835 : BitVec 1 := Scalar.cmpi .slt c8_i32_430 c0_i32_434
  let v836 : BitVec 32 := Scalar.extui v835
  let v837 : BitVec 32 := Scalar.subi v834 v836
  let v838 : BitVec 1 := Scalar.cmpi .ne v832 v837
  let v839 : BitVec 32 := Scalar.remsi v826 c8_i32_430
  let c0_i32_435 : BitVec 32 := 0#32
  let v840 : BitVec 1 := Scalar.cmpi .ne v839 c0_i32_435
  let v841 : BitVec 1 := Scalar.andi v838 v840
  let v827 : BitVec 32 := Scalar.divsi v826 c8_i32_430
  let c1_i32_436 : BitVec 32 := 1#32
  let v842 : BitVec 32 := Scalar.subi v827 c1_i32_436
  let v843 : BitVec 32 := Scalar.select v841 v842 v827
  let c1_i32_437 : BitVec 32 := 1#32
  let v844 : BitVec 32 := Scalar.addi v843 c1_i32_437
  let c2_i32_444 : BitVec 32 := 2#32
  let c2_i32_438 : BitVec 32 := 2#32
  let c0_i32_439 : BitVec 32 := 0#32
  let v845 : BitVec 1 := Scalar.cmpi .eq c2_i32_438 c0_i32_439
  let c1_i32_440 : BitVec 32 := 1#32
  let v846 : BitVec 32 := Scalar.select v845 c1_i32_440 c2_i32_438
  let v847 : BitVec 32 := Scalar.remsi v843 v846
  let c0_i32_442 : BitVec 32 := 0#32
  let v849 : BitVec 1 := Scalar.cmpi .slt v847 c0_i32_442
  let c0_i32_443 : BitVec 32 := 0#32
  let v850 : BitVec 1 := Scalar.cmpi .slt v846 c0_i32_443
  let v851 : BitVec 1 := Scalar.xori v849 v850
  let c0_i32_441 : BitVec 32 := 0#32
  let v848 : BitVec 1 := Scalar.cmpi .ne v847 c0_i32_441
  let v852 : BitVec 1 := Scalar.andi v851 v848
  let v853 : BitVec 32 := Scalar.addi v847 v846
  let v854 : BitVec 32 := Scalar.select v852 v853 v847
  let v855 : BitVec 32 := Scalar.muli c2_i32_444 v854
  let v856 : BitVec 32 := Scalar.subi v844 v855
  let c128_i32_445 : BitVec 32 := 128#32
  let v857 : BitVec 32 := Scalar.muli v856 c128_i32_445
  let v860 : BitVec 32 := Scalar.subi v859 v857
  let c0_i32_470 : BitVec 32 := 0#32
  ![v860.toNat, 0]
def k0_dev11 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_209 : BitVec 32 := 8#32
  let v419 : BitVec 32 := Scalar.muli v19 c8_i32_209
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v58 : BitVec 32 := Scalar.addi v46 c1_i32_23
  let c2_i32_30 : BitVec 32 := 2#32
  let c2_i32_24 : BitVec 32 := 2#32
  let c0_i32_25 : BitVec 32 := 0#32
  let v59 : BitVec 1 := Scalar.cmpi .eq c2_i32_24 c0_i32_25
  let c1_i32_26 : BitVec 32 := 1#32
  let v60 : BitVec 32 := Scalar.select v59 c1_i32_26 c2_i32_24
  let v61 : BitVec 32 := Scalar.remsi v46 v60
  let c0_i32_28 : BitVec 32 := 0#32
  let v63 : BitVec 1 := Scalar.cmpi .slt v61 c0_i32_28
  let c0_i32_29 : BitVec 32 := 0#32
  let v64 : BitVec 1 := Scalar.cmpi .slt v60 c0_i32_29
  let v65 : BitVec 1 := Scalar.xori v63 v64
  let c0_i32_27 : BitVec 32 := 0#32
  let v62 : BitVec 1 := Scalar.cmpi .ne v61 c0_i32_27
  let v66 : BitVec 1 := Scalar.andi v65 v62
  let v67 : BitVec 32 := Scalar.addi v61 v60
  let v68 : BitVec 32 := Scalar.select v66 v67 v61
  let v69 : BitVec 32 := Scalar.muli c2_i32_30 v68
  let v70 : BitVec 32 := Scalar.subi v58 v69
  let c2_i32_210 : BitVec 32 := 2#32
  let v420 : BitVec 32 := Scalar.muli v70 c2_i32_210
  let v421 : BitVec 32 := Scalar.addi v419 v420
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v422 : BitVec 32 := Scalar.addi v57 v70
  let c2_i32_211 : BitVec 32 := 2#32
  let c0_i32_212 : BitVec 32 := 0#32
  let v423 : BitVec 1 := Scalar.cmpi .eq c2_i32_211 c0_i32_212
  let c1_i32_213 : BitVec 32 := 1#32
  let v424 : BitVec 32 := Scalar.select v423 c1_i32_213 c2_i32_211
  let v425 : BitVec 32 := Scalar.remsi v422 v424
  let c0_i32_215 : BitVec 32 := 0#32
  let v427 : BitVec 1 := Scalar.cmpi .slt v425 c0_i32_215
  let c0_i32_216 : BitVec 32 := 0#32
  let v428 : BitVec 1 := Scalar.cmpi .slt v424 c0_i32_216
  let v429 : BitVec 1 := Scalar.xori v427 v428
  let c0_i32_214 : BitVec 32 := 0#32
  let v426 : BitVec 1 := Scalar.cmpi .ne v425 c0_i32_214
  let v430 : BitVec 1 := Scalar.andi v429 v426
  let v431 : BitVec 32 := Scalar.addi v425 v424
  let v432 : BitVec 32 := Scalar.select v430 v431 v425
  let v433 : BitVec 32 := Scalar.addi v421 v432
  let c1_i32_467 : BitVec 32 := 1#32
  let v887 : BitVec 32 := Scalar.muli v433 c1_i32_467
  let v888 : BitVec 32 := Scalar.addi c0_i32_468 v887
  v888.toNat
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c16_i32 : BitVec 32 := 16#32
  let v117 : BitVec 32 := Scalar.muli v57 c16_i32
  let c2_i32_59 : BitVec 32 := 2#32
  let c0_i32_60 : BitVec 32 := 0#32
  let v118 : BitVec 1 := Scalar.cmpi .eq c2_i32_59 c0_i32_60
  let c1_i32_61 : BitVec 32 := 1#32
  let v119 : BitVec 32 := Scalar.select v118 c1_i32_61 c2_i32_59
  let v120 : BitVec 32 := Scalar.remsi v46 v119
  let c0_i32_63 : BitVec 32 := 0#32
  let v122 : BitVec 1 := Scalar.cmpi .slt v120 c0_i32_63
  let c0_i32_64 : BitVec 32 := 0#32
  let v123 : BitVec 1 := Scalar.cmpi .slt v119 c0_i32_64
  let v124 : BitVec 1 := Scalar.xori v122 v123
  let c0_i32_62 : BitVec 32 := 0#32
  let v121 : BitVec 1 := Scalar.cmpi .ne v120 c0_i32_62
  let v125 : BitVec 1 := Scalar.andi v124 v121
  let v126 : BitVec 32 := Scalar.addi v120 v119
  let v127 : BitVec 32 := Scalar.select v125 v126 v120
  let c8_i32_65 : BitVec 32 := 8#32
  let v128 : BitVec 32 := Scalar.muli v127 c8_i32_65
  let v129 : BitVec 32 := Scalar.addi v117 v128
  let c0_i32_67 : BitVec 32 := 0#32
  let v131 : BitVec 1 := Scalar.cmpi .sgt v46 c0_i32_67
  let v132 : BitVec 32 := Scalar.extui v131
  let c0_i32_68 : BitVec 32 := 0#32
  let v133 : BitVec 1 := Scalar.cmpi .slt v46 c0_i32_68
  let v134 : BitVec 32 := Scalar.extui v133
  let v135 : BitVec 32 := Scalar.subi v132 v134
  let c2_i32_66 : BitVec 32 := 2#32
  let c0_i32_69 : BitVec 32 := 0#32
  let v136 : BitVec 1 := Scalar.cmpi .sgt c2_i32_66 c0_i32_69
  let v137 : BitVec 32 := Scalar.extui v136
  let c0_i32_70 : BitVec 32 := 0#32
  let v138 : BitVec 1 := Scalar.cmpi .slt c2_i32_66 c0_i32_70
  let v139 : BitVec 32 := Scalar.extui v138
  let v140 : BitVec 32 := Scalar.subi v137 v139
  let v141 : BitVec 1 := Scalar.cmpi .ne v135 v140
  let v142 : BitVec 32 := Scalar.remsi v46 c2_i32_66
  let c0_i32_71 : BitVec 32 := 0#32
  let v143 : BitVec 1 := Scalar.cmpi .ne v142 c0_i32_71
  let v144 : BitVec 1 := Scalar.andi v141 v143
  let v130 : BitVec 32 := Scalar.divsi v46 c2_i32_66
  let c1_i32_72 : BitVec 32 := 1#32
  let v145 : BitVec 32 := Scalar.subi v130 c1_i32_72
  let v146 : BitVec 32 := Scalar.select v144 v145 v130
  let c4_i32_73 : BitVec 32 := 4#32
  let v147 : BitVec 32 := Scalar.muli v146 c4_i32_73
  let v148 : BitVec 32 := Scalar.addi v129 v147
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_74 : BitVec 32 := 2#32
  let c0_i32_75 : BitVec 32 := 0#32
  let v149 : BitVec 1 := Scalar.cmpi .eq c2_i32_74 c0_i32_75
  let c1_i32_76 : BitVec 32 := 1#32
  let v150 : BitVec 32 := Scalar.select v149 c1_i32_76 c2_i32_74
  let v151 : BitVec 32 := Scalar.remsi v19 v150
  let c0_i32_78 : BitVec 32 := 0#32
  let v153 : BitVec 1 := Scalar.cmpi .slt v151 c0_i32_78
  let c0_i32_79 : BitVec 32 := 0#32
  let v154 : BitVec 1 := Scalar.cmpi .slt v150 c0_i32_79
  let v155 : BitVec 1 := Scalar.xori v153 v154
  let c0_i32_77 : BitVec 32 := 0#32
  let v152 : BitVec 1 := Scalar.cmpi .ne v151 c0_i32_77
  let v156 : BitVec 1 := Scalar.andi v155 v152
  let v157 : BitVec 32 := Scalar.addi v151 v150
  let v158 : BitVec 32 := Scalar.select v156 v157 v151
  let c2_i32_80 : BitVec 32 := 2#32
  let v159 : BitVec 32 := Scalar.muli v158 c2_i32_80
  let v160 : BitVec 32 := Scalar.addi v148 v159
  let c0_i32_82 : BitVec 32 := 0#32
  let v162 : BitVec 1 := Scalar.cmpi .sgt v19 c0_i32_82
  let v163 : BitVec 32 := Scalar.extui v162
  let c0_i32_83 : BitVec 32 := 0#32
  let v164 : BitVec 1 := Scalar.cmpi .slt v19 c0_i32_83
  let v165 : BitVec 32 := Scalar.extui v164
  let v166 : BitVec 32 := Scalar.subi v163 v165
  let c2_i32_81 : BitVec 32 := 2#32
  let c0_i32_84 : BitVec 32 := 0#32
  let v167 : BitVec 1 := Scalar.cmpi .sgt c2_i32_81 c0_i32_84
  let v168 : BitVec 32 := Scalar.extui v167
  let c0_i32_85 : BitVec 32 := 0#32
  let v169 : BitVec 1 := Scalar.cmpi .slt c2_i32_81 c0_i32_85
  let v170 : BitVec 32 := Scalar.extui v169
  let v171 : BitVec 32 := Scalar.subi v168 v170
  let v172 : BitVec 1 := Scalar.cmpi .ne v166 v171
  let v173 : BitVec 32 := Scalar.remsi v19 c2_i32_81
  let c0_i32_86 : BitVec 32 := 0#32
  let v174 : BitVec 1 := Scalar.cmpi .ne v173 c0_i32_86
  let v175 : BitVec 1 := Scalar.andi v172 v174
  let v161 : BitVec 32 := Scalar.divsi v19 c2_i32_81
  let c1_i32_87 : BitVec 32 := 1#32
  let v176 : BitVec 32 := Scalar.subi v161 c1_i32_87
  let v177 : BitVec 32 := Scalar.select v175 v176 v161
  let v178 : BitVec 32 := Scalar.addi v160 v177
  let c0_i32_508 : BitVec 32 := 0#32
  let v949 : BitVec 1 := Scalar.cmpi .sgt v178 c0_i32_508
  let v950 : BitVec 32 := Scalar.extui v949
  let c0_i32_509 : BitVec 32 := 0#32
  let v951 : BitVec 1 := Scalar.cmpi .slt v178 c0_i32_509
  let v952 : BitVec 32 := Scalar.extui v951
  let v953 : BitVec 32 := Scalar.subi v950 v952
  let c8_i32_507 : BitVec 32 := 8#32
  let c0_i32_510 : BitVec 32 := 0#32
  let v954 : BitVec 1 := Scalar.cmpi .sgt c8_i32_507 c0_i32_510
  let v955 : BitVec 32 := Scalar.extui v954
  let c0_i32_511 : BitVec 32 := 0#32
  let v956 : BitVec 1 := Scalar.cmpi .slt c8_i32_507 c0_i32_511
  let v957 : BitVec 32 := Scalar.extui v956
  let v958 : BitVec 32 := Scalar.subi v955 v957
  let v959 : BitVec 1 := Scalar.cmpi .ne v953 v958
  let v960 : BitVec 32 := Scalar.remsi v178 c8_i32_507
  let c0_i32_512 : BitVec 32 := 0#32
  let v961 : BitVec 1 := Scalar.cmpi .ne v960 c0_i32_512
  let v962 : BitVec 1 := Scalar.andi v959 v961
  let v948 : BitVec 32 := Scalar.divsi v178 c8_i32_507
  let c1_i32_513 : BitVec 32 := 1#32
  let v963 : BitVec 32 := Scalar.subi v948 c1_i32_513
  let v964 : BitVec 32 := Scalar.select v962 v963 v948
  let c1_i32_514 : BitVec 32 := 1#32
  let v965 : BitVec 32 := Scalar.addi v964 c1_i32_514
  let c2_i32_521 : BitVec 32 := 2#32
  let c2_i32_515 : BitVec 32 := 2#32
  let c0_i32_516 : BitVec 32 := 0#32
  let v966 : BitVec 1 := Scalar.cmpi .eq c2_i32_515 c0_i32_516
  let c1_i32_517 : BitVec 32 := 1#32
  let v967 : BitVec 32 := Scalar.select v966 c1_i32_517 c2_i32_515
  let v968 : BitVec 32 := Scalar.remsi v964 v967
  let c0_i32_519 : BitVec 32 := 0#32
  let v970 : BitVec 1 := Scalar.cmpi .slt v968 c0_i32_519
  let c0_i32_520 : BitVec 32 := 0#32
  let v971 : BitVec 1 := Scalar.cmpi .slt v967 c0_i32_520
  let v972 : BitVec 1 := Scalar.xori v970 v971
  let c0_i32_518 : BitVec 32 := 0#32
  let v969 : BitVec 1 := Scalar.cmpi .ne v968 c0_i32_518
  let v973 : BitVec 1 := Scalar.andi v972 v969
  let v974 : BitVec 32 := Scalar.addi v968 v967
  let v975 : BitVec 32 := Scalar.select v973 v974 v968
  let v976 : BitVec 32 := Scalar.muli c2_i32_521 v975
  let v977 : BitVec 32 := Scalar.subi v965 v976
  let c128_i32_522 : BitVec 32 := 128#32
  let v978 : BitVec 32 := Scalar.muli v977 c128_i32_522
  let v979 : Index := Scalar.indexCast v978
  let c0_523 : Index := 0#32
  ![v979.toNat, 0]
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c16_i32 : BitVec 32 := 16#32
  let v117 : BitVec 32 := Scalar.muli v57 c16_i32
  let c2_i32_59 : BitVec 32 := 2#32
  let c0_i32_60 : BitVec 32 := 0#32
  let v118 : BitVec 1 := Scalar.cmpi .eq c2_i32_59 c0_i32_60
  let c1_i32_61 : BitVec 32 := 1#32
  let v119 : BitVec 32 := Scalar.select v118 c1_i32_61 c2_i32_59
  let v120 : BitVec 32 := Scalar.remsi v46 v119
  let c0_i32_63 : BitVec 32 := 0#32
  let v122 : BitVec 1 := Scalar.cmpi .slt v120 c0_i32_63
  let c0_i32_64 : BitVec 32 := 0#32
  let v123 : BitVec 1 := Scalar.cmpi .slt v119 c0_i32_64
  let v124 : BitVec 1 := Scalar.xori v122 v123
  let c0_i32_62 : BitVec 32 := 0#32
  let v121 : BitVec 1 := Scalar.cmpi .ne v120 c0_i32_62
  let v125 : BitVec 1 := Scalar.andi v124 v121
  let v126 : BitVec 32 := Scalar.addi v120 v119
  let v127 : BitVec 32 := Scalar.select v125 v126 v120
  let c8_i32_65 : BitVec 32 := 8#32
  let v128 : BitVec 32 := Scalar.muli v127 c8_i32_65
  let v129 : BitVec 32 := Scalar.addi v117 v128
  let c0_i32_67 : BitVec 32 := 0#32
  let v131 : BitVec 1 := Scalar.cmpi .sgt v46 c0_i32_67
  let v132 : BitVec 32 := Scalar.extui v131
  let c0_i32_68 : BitVec 32 := 0#32
  let v133 : BitVec 1 := Scalar.cmpi .slt v46 c0_i32_68
  let v134 : BitVec 32 := Scalar.extui v133
  let v135 : BitVec 32 := Scalar.subi v132 v134
  let c2_i32_66 : BitVec 32 := 2#32
  let c0_i32_69 : BitVec 32 := 0#32
  let v136 : BitVec 1 := Scalar.cmpi .sgt c2_i32_66 c0_i32_69
  let v137 : BitVec 32 := Scalar.extui v136
  let c0_i32_70 : BitVec 32 := 0#32
  let v138 : BitVec 1 := Scalar.cmpi .slt c2_i32_66 c0_i32_70
  let v139 : BitVec 32 := Scalar.extui v138
  let v140 : BitVec 32 := Scalar.subi v137 v139
  let v141 : BitVec 1 := Scalar.cmpi .ne v135 v140
  let v142 : BitVec 32 := Scalar.remsi v46 c2_i32_66
  let c0_i32_71 : BitVec 32 := 0#32
  let v143 : BitVec 1 := Scalar.cmpi .ne v142 c0_i32_71
  let v144 : BitVec 1 := Scalar.andi v141 v143
  let v130 : BitVec 32 := Scalar.divsi v46 c2_i32_66
  let c1_i32_72 : BitVec 32 := 1#32
  let v145 : BitVec 32 := Scalar.subi v130 c1_i32_72
  let v146 : BitVec 32 := Scalar.select v144 v145 v130
  let c4_i32_73 : BitVec 32 := 4#32
  let v147 : BitVec 32 := Scalar.muli v146 c4_i32_73
  let v148 : BitVec 32 := Scalar.addi v129 v147
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_74 : BitVec 32 := 2#32
  let c0_i32_75 : BitVec 32 := 0#32
  let v149 : BitVec 1 := Scalar.cmpi .eq c2_i32_74 c0_i32_75
  let c1_i32_76 : BitVec 32 := 1#32
  let v150 : BitVec 32 := Scalar.select v149 c1_i32_76 c2_i32_74
  let v151 : BitVec 32 := Scalar.remsi v19 v150
  let c0_i32_78 : BitVec 32 := 0#32
  let v153 : BitVec 1 := Scalar.cmpi .slt v151 c0_i32_78
  let c0_i32_79 : BitVec 32 := 0#32
  let v154 : BitVec 1 := Scalar.cmpi .slt v150 c0_i32_79
  let v155 : BitVec 1 := Scalar.xori v153 v154
  let c0_i32_77 : BitVec 32 := 0#32
  let v152 : BitVec 1 := Scalar.cmpi .ne v151 c0_i32_77
  let v156 : BitVec 1 := Scalar.andi v155 v152
  let v157 : BitVec 32 := Scalar.addi v151 v150
  let v158 : BitVec 32 := Scalar.select v156 v157 v151
  let c2_i32_80 : BitVec 32 := 2#32
  let v159 : BitVec 32 := Scalar.muli v158 c2_i32_80
  let v160 : BitVec 32 := Scalar.addi v148 v159
  let c0_i32_82 : BitVec 32 := 0#32
  let v162 : BitVec 1 := Scalar.cmpi .sgt v19 c0_i32_82
  let v163 : BitVec 32 := Scalar.extui v162
  let c0_i32_83 : BitVec 32 := 0#32
  let v164 : BitVec 1 := Scalar.cmpi .slt v19 c0_i32_83
  let v165 : BitVec 32 := Scalar.extui v164
  let v166 : BitVec 32 := Scalar.subi v163 v165
  let c2_i32_81 : BitVec 32 := 2#32
  let c0_i32_84 : BitVec 32 := 0#32
  let v167 : BitVec 1 := Scalar.cmpi .sgt c2_i32_81 c0_i32_84
  let v168 : BitVec 32 := Scalar.extui v167
  let c0_i32_85 : BitVec 32 := 0#32
  let v169 : BitVec 1 := Scalar.cmpi .slt c2_i32_81 c0_i32_85
  let v170 : BitVec 32 := Scalar.extui v169
  let v171 : BitVec 32 := Scalar.subi v168 v170
  let v172 : BitVec 1 := Scalar.cmpi .ne v166 v171
  let v173 : BitVec 32 := Scalar.remsi v19 c2_i32_81
  let c0_i32_86 : BitVec 32 := 0#32
  let v174 : BitVec 1 := Scalar.cmpi .ne v173 c0_i32_86
  let v175 : BitVec 1 := Scalar.andi v172 v174
  let v161 : BitVec 32 := Scalar.divsi v19 c2_i32_81
  let c1_i32_87 : BitVec 32 := 1#32
  let v176 : BitVec 32 := Scalar.subi v161 c1_i32_87
  let v177 : BitVec 32 := Scalar.select v175 v176 v161
  let v178 : BitVec 32 := Scalar.addi v160 v177
  let c0_i32_508 : BitVec 32 := 0#32
  let v949 : BitVec 1 := Scalar.cmpi .sgt v178 c0_i32_508
  let v950 : BitVec 32 := Scalar.extui v949
  let c0_i32_509 : BitVec 32 := 0#32
  let v951 : BitVec 1 := Scalar.cmpi .slt v178 c0_i32_509
  let v952 : BitVec 32 := Scalar.extui v951
  let v953 : BitVec 32 := Scalar.subi v950 v952
  let c8_i32_507 : BitVec 32 := 8#32
  let c0_i32_510 : BitVec 32 := 0#32
  let v954 : BitVec 1 := Scalar.cmpi .sgt c8_i32_507 c0_i32_510
  let v955 : BitVec 32 := Scalar.extui v954
  let c0_i32_511 : BitVec 32 := 0#32
  let v956 : BitVec 1 := Scalar.cmpi .slt c8_i32_507 c0_i32_511
  let v957 : BitVec 32 := Scalar.extui v956
  let v958 : BitVec 32 := Scalar.subi v955 v957
  let v959 : BitVec 1 := Scalar.cmpi .ne v953 v958
  let v960 : BitVec 32 := Scalar.remsi v178 c8_i32_507
  let c0_i32_512 : BitVec 32 := 0#32
  let v961 : BitVec 1 := Scalar.cmpi .ne v960 c0_i32_512
  let v962 : BitVec 1 := Scalar.andi v959 v961
  let v948 : BitVec 32 := Scalar.divsi v178 c8_i32_507
  let c1_i32_513 : BitVec 32 := 1#32
  let v963 : BitVec 32 := Scalar.subi v948 c1_i32_513
  let v964 : BitVec 32 := Scalar.select v962 v963 v948
  let c1_i32_514 : BitVec 32 := 1#32
  let v965 : BitVec 32 := Scalar.addi v964 c1_i32_514
  let c2_i32_521 : BitVec 32 := 2#32
  let c2_i32_515 : BitVec 32 := 2#32
  let c0_i32_516 : BitVec 32 := 0#32
  let v966 : BitVec 1 := Scalar.cmpi .eq c2_i32_515 c0_i32_516
  let c1_i32_517 : BitVec 32 := 1#32
  let v967 : BitVec 32 := Scalar.select v966 c1_i32_517 c2_i32_515
  let v968 : BitVec 32 := Scalar.remsi v964 v967
  let c0_i32_519 : BitVec 32 := 0#32
  let v970 : BitVec 1 := Scalar.cmpi .slt v968 c0_i32_519
  let c0_i32_520 : BitVec 32 := 0#32
  let v971 : BitVec 1 := Scalar.cmpi .slt v967 c0_i32_520
  let v972 : BitVec 1 := Scalar.xori v970 v971
  let c0_i32_518 : BitVec 32 := 0#32
  let v969 : BitVec 1 := Scalar.cmpi .ne v968 c0_i32_518
  let v973 : BitVec 1 := Scalar.andi v972 v969
  let v974 : BitVec 32 := Scalar.addi v968 v967
  let v975 : BitVec 32 := Scalar.select v973 v974 v968
  let v976 : BitVec 32 := Scalar.muli c2_i32_521 v975
  let v977 : BitVec 32 := Scalar.subi v965 v976
  let c128_i32_522 : BitVec 32 := 128#32
  let v978 : BitVec 32 := Scalar.muli v977 c128_i32_522
  let c0_i32_500 : BitVec 32 := 0#32
  let v931 : BitVec 1 := Scalar.cmpi .sgt v178 c0_i32_500
  let v932 : BitVec 32 := Scalar.extui v931
  let c0_i32_501 : BitVec 32 := 0#32
  let v933 : BitVec 1 := Scalar.cmpi .slt v178 c0_i32_501
  let v934 : BitVec 32 := Scalar.extui v933
  let v935 : BitVec 32 := Scalar.subi v932 v934
  let c16_i32_499 : BitVec 32 := 16#32
  let c0_i32_502 : BitVec 32 := 0#32
  let v936 : BitVec 1 := Scalar.cmpi .sgt c16_i32_499 c0_i32_502
  let v937 : BitVec 32 := Scalar.extui v936
  let c0_i32_503 : BitVec 32 := 0#32
  let v938 : BitVec 1 := Scalar.cmpi .slt c16_i32_499 c0_i32_503
  let v939 : BitVec 32 := Scalar.extui v938
  let v940 : BitVec 32 := Scalar.subi v937 v939
  let v941 : BitVec 1 := Scalar.cmpi .ne v935 v940
  let v942 : BitVec 32 := Scalar.remsi v178 c16_i32_499
  let c0_i32_504 : BitVec 32 := 0#32
  let v943 : BitVec 1 := Scalar.cmpi .ne v942 c0_i32_504
  let v944 : BitVec 1 := Scalar.andi v941 v943
  let v930 : BitVec 32 := Scalar.divsi v178 c16_i32_499
  let c1_i32_505 : BitVec 32 := 1#32
  let v945 : BitVec 32 := Scalar.subi v930 c1_i32_505
  let v946 : BitVec 32 := Scalar.select v944 v945 v930
  let c256_i32_506 : BitVec 32 := 256#32
  let v947 : BitVec 32 := Scalar.muli v946 c256_i32_506
  let v981 : BitVec 32 := Scalar.subi v978 v947
  let v982 : Index := Scalar.indexCast v981
  let c0_524 : Index := 0#32
  ![v982.toNat, 0]
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c16_i32 : BitVec 32 := 16#32
  let v117 : BitVec 32 := Scalar.muli v57 c16_i32
  let c2_i32_59 : BitVec 32 := 2#32
  let c0_i32_60 : BitVec 32 := 0#32
  let v118 : BitVec 1 := Scalar.cmpi .eq c2_i32_59 c0_i32_60
  let c1_i32_61 : BitVec 32 := 1#32
  let v119 : BitVec 32 := Scalar.select v118 c1_i32_61 c2_i32_59
  let v120 : BitVec 32 := Scalar.remsi v46 v119
  let c0_i32_63 : BitVec 32 := 0#32
  let v122 : BitVec 1 := Scalar.cmpi .slt v120 c0_i32_63
  let c0_i32_64 : BitVec 32 := 0#32
  let v123 : BitVec 1 := Scalar.cmpi .slt v119 c0_i32_64
  let v124 : BitVec 1 := Scalar.xori v122 v123
  let c0_i32_62 : BitVec 32 := 0#32
  let v121 : BitVec 1 := Scalar.cmpi .ne v120 c0_i32_62
  let v125 : BitVec 1 := Scalar.andi v124 v121
  let v126 : BitVec 32 := Scalar.addi v120 v119
  let v127 : BitVec 32 := Scalar.select v125 v126 v120
  let c8_i32_65 : BitVec 32 := 8#32
  let v128 : BitVec 32 := Scalar.muli v127 c8_i32_65
  let v129 : BitVec 32 := Scalar.addi v117 v128
  let c0_i32_67 : BitVec 32 := 0#32
  let v131 : BitVec 1 := Scalar.cmpi .sgt v46 c0_i32_67
  let v132 : BitVec 32 := Scalar.extui v131
  let c0_i32_68 : BitVec 32 := 0#32
  let v133 : BitVec 1 := Scalar.cmpi .slt v46 c0_i32_68
  let v134 : BitVec 32 := Scalar.extui v133
  let v135 : BitVec 32 := Scalar.subi v132 v134
  let c2_i32_66 : BitVec 32 := 2#32
  let c0_i32_69 : BitVec 32 := 0#32
  let v136 : BitVec 1 := Scalar.cmpi .sgt c2_i32_66 c0_i32_69
  let v137 : BitVec 32 := Scalar.extui v136
  let c0_i32_70 : BitVec 32 := 0#32
  let v138 : BitVec 1 := Scalar.cmpi .slt c2_i32_66 c0_i32_70
  let v139 : BitVec 32 := Scalar.extui v138
  let v140 : BitVec 32 := Scalar.subi v137 v139
  let v141 : BitVec 1 := Scalar.cmpi .ne v135 v140
  let v142 : BitVec 32 := Scalar.remsi v46 c2_i32_66
  let c0_i32_71 : BitVec 32 := 0#32
  let v143 : BitVec 1 := Scalar.cmpi .ne v142 c0_i32_71
  let v144 : BitVec 1 := Scalar.andi v141 v143
  let v130 : BitVec 32 := Scalar.divsi v46 c2_i32_66
  let c1_i32_72 : BitVec 32 := 1#32
  let v145 : BitVec 32 := Scalar.subi v130 c1_i32_72
  let v146 : BitVec 32 := Scalar.select v144 v145 v130
  let c4_i32_73 : BitVec 32 := 4#32
  let v147 : BitVec 32 := Scalar.muli v146 c4_i32_73
  let v148 : BitVec 32 := Scalar.addi v129 v147
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_74 : BitVec 32 := 2#32
  let c0_i32_75 : BitVec 32 := 0#32
  let v149 : BitVec 1 := Scalar.cmpi .eq c2_i32_74 c0_i32_75
  let c1_i32_76 : BitVec 32 := 1#32
  let v150 : BitVec 32 := Scalar.select v149 c1_i32_76 c2_i32_74
  let v151 : BitVec 32 := Scalar.remsi v19 v150
  let c0_i32_78 : BitVec 32 := 0#32
  let v153 : BitVec 1 := Scalar.cmpi .slt v151 c0_i32_78
  let c0_i32_79 : BitVec 32 := 0#32
  let v154 : BitVec 1 := Scalar.cmpi .slt v150 c0_i32_79
  let v155 : BitVec 1 := Scalar.xori v153 v154
  let c0_i32_77 : BitVec 32 := 0#32
  let v152 : BitVec 1 := Scalar.cmpi .ne v151 c0_i32_77
  let v156 : BitVec 1 := Scalar.andi v155 v152
  let v157 : BitVec 32 := Scalar.addi v151 v150
  let v158 : BitVec 32 := Scalar.select v156 v157 v151
  let c2_i32_80 : BitVec 32 := 2#32
  let v159 : BitVec 32 := Scalar.muli v158 c2_i32_80
  let v160 : BitVec 32 := Scalar.addi v148 v159
  let c0_i32_82 : BitVec 32 := 0#32
  let v162 : BitVec 1 := Scalar.cmpi .sgt v19 c0_i32_82
  let v163 : BitVec 32 := Scalar.extui v162
  let c0_i32_83 : BitVec 32 := 0#32
  let v164 : BitVec 1 := Scalar.cmpi .slt v19 c0_i32_83
  let v165 : BitVec 32 := Scalar.extui v164
  let v166 : BitVec 32 := Scalar.subi v163 v165
  let c2_i32_81 : BitVec 32 := 2#32
  let c0_i32_84 : BitVec 32 := 0#32
  let v167 : BitVec 1 := Scalar.cmpi .sgt c2_i32_81 c0_i32_84
  let v168 : BitVec 32 := Scalar.extui v167
  let c0_i32_85 : BitVec 32 := 0#32
  let v169 : BitVec 1 := Scalar.cmpi .slt c2_i32_81 c0_i32_85
  let v170 : BitVec 32 := Scalar.extui v169
  let v171 : BitVec 32 := Scalar.subi v168 v170
  let v172 : BitVec 1 := Scalar.cmpi .ne v166 v171
  let v173 : BitVec 32 := Scalar.remsi v19 c2_i32_81
  let c0_i32_86 : BitVec 32 := 0#32
  let v174 : BitVec 1 := Scalar.cmpi .ne v173 c0_i32_86
  let v175 : BitVec 1 := Scalar.andi v172 v174
  let v161 : BitVec 32 := Scalar.divsi v19 c2_i32_81
  let c1_i32_87 : BitVec 32 := 1#32
  let v176 : BitVec 32 := Scalar.subi v161 c1_i32_87
  let v177 : BitVec 32 := Scalar.select v175 v176 v161
  let v178 : BitVec 32 := Scalar.addi v160 v177
  let c0_i32_527 : BitVec 32 := 0#32
  let v990 : BitVec 1 := Scalar.cmpi .sgt v178 c0_i32_527
  let v991 : BitVec 32 := Scalar.extui v990
  let c0_i32_528 : BitVec 32 := 0#32
  let v992 : BitVec 1 := Scalar.cmpi .slt v178 c0_i32_528
  let v993 : BitVec 32 := Scalar.extui v992
  let v994 : BitVec 32 := Scalar.subi v991 v993
  let c8_i32_526 : BitVec 32 := 8#32
  let c0_i32_529 : BitVec 32 := 0#32
  let v995 : BitVec 1 := Scalar.cmpi .sgt c8_i32_526 c0_i32_529
  let v996 : BitVec 32 := Scalar.extui v995
  let c0_i32_530 : BitVec 32 := 0#32
  let v997 : BitVec 1 := Scalar.cmpi .slt c8_i32_526 c0_i32_530
  let v998 : BitVec 32 := Scalar.extui v997
  let v999 : BitVec 32 := Scalar.subi v996 v998
  let v1000 : BitVec 1 := Scalar.cmpi .ne v994 v999
  let v1001 : BitVec 32 := Scalar.remsi v178 c8_i32_526
  let c0_i32_531 : BitVec 32 := 0#32
  let v1002 : BitVec 1 := Scalar.cmpi .ne v1001 c0_i32_531
  let v1003 : BitVec 1 := Scalar.andi v1000 v1002
  let v989 : BitVec 32 := Scalar.divsi v178 c8_i32_526
  let c1_i32_532 : BitVec 32 := 1#32
  let v1004 : BitVec 32 := Scalar.subi v989 c1_i32_532
  let v1005 : BitVec 32 := Scalar.select v1003 v1004 v989
  let c1_i32_533 : BitVec 32 := 1#32
  let v1006 : BitVec 32 := Scalar.addi v1005 c1_i32_533
  let c2_i32_540 : BitVec 32 := 2#32
  let c2_i32_534 : BitVec 32 := 2#32
  let c0_i32_535 : BitVec 32 := 0#32
  let v1007 : BitVec 1 := Scalar.cmpi .eq c2_i32_534 c0_i32_535
  let c1_i32_536 : BitVec 32 := 1#32
  let v1008 : BitVec 32 := Scalar.select v1007 c1_i32_536 c2_i32_534
  let v1009 : BitVec 32 := Scalar.remsi v1005 v1008
  let c0_i32_538 : BitVec 32 := 0#32
  let v1011 : BitVec 1 := Scalar.cmpi .slt v1009 c0_i32_538
  let c0_i32_539 : BitVec 32 := 0#32
  let v1012 : BitVec 1 := Scalar.cmpi .slt v1008 c0_i32_539
  let v1013 : BitVec 1 := Scalar.xori v1011 v1012
  let c0_i32_537 : BitVec 32 := 0#32
  let v1010 : BitVec 1 := Scalar.cmpi .ne v1009 c0_i32_537
  let v1014 : BitVec 1 := Scalar.andi v1013 v1010
  let v1015 : BitVec 32 := Scalar.addi v1009 v1008
  let v1016 : BitVec 32 := Scalar.select v1014 v1015 v1009
  let v1017 : BitVec 32 := Scalar.muli c2_i32_540 v1016
  let v1018 : BitVec 32 := Scalar.subi v1006 v1017
  let c128_i32_541 : BitVec 32 := 128#32
  let v1019 : BitVec 32 := Scalar.muli v1018 c128_i32_541
  let c0_i32_548 : BitVec 32 := 0#32
  ![v1019.toNat, 0]
def k0_dev12 (d0 : Dev nD) : Nat :=
  let c0_i32_545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_97 : BitVec 32 := 8#32
  let v195 : BitVec 32 := Scalar.muli v19 c8_i32_97
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v58 : BitVec 32 := Scalar.addi v46 c1_i32_23
  let c2_i32_30 : BitVec 32 := 2#32
  let c2_i32_24 : BitVec 32 := 2#32
  let c0_i32_25 : BitVec 32 := 0#32
  let v59 : BitVec 1 := Scalar.cmpi .eq c2_i32_24 c0_i32_25
  let c1_i32_26 : BitVec 32 := 1#32
  let v60 : BitVec 32 := Scalar.select v59 c1_i32_26 c2_i32_24
  let v61 : BitVec 32 := Scalar.remsi v46 v60
  let c0_i32_28 : BitVec 32 := 0#32
  let v63 : BitVec 1 := Scalar.cmpi .slt v61 c0_i32_28
  let c0_i32_29 : BitVec 32 := 0#32
  let v64 : BitVec 1 := Scalar.cmpi .slt v60 c0_i32_29
  let v65 : BitVec 1 := Scalar.xori v63 v64
  let c0_i32_27 : BitVec 32 := 0#32
  let v62 : BitVec 1 := Scalar.cmpi .ne v61 c0_i32_27
  let v66 : BitVec 1 := Scalar.andi v65 v62
  let v67 : BitVec 32 := Scalar.addi v61 v60
  let v68 : BitVec 32 := Scalar.select v66 v67 v61
  let v69 : BitVec 32 := Scalar.muli c2_i32_30 v68
  let v70 : BitVec 32 := Scalar.subi v58 v69
  let c2_i32_98 : BitVec 32 := 2#32
  let v196 : BitVec 32 := Scalar.muli v70 c2_i32_98
  let v197 : BitVec 32 := Scalar.addi v195 v196
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v198 : BitVec 32 := Scalar.addi v57 v70
  let c2_i32_99 : BitVec 32 := 2#32
  let c0_i32_100 : BitVec 32 := 0#32
  let v199 : BitVec 1 := Scalar.cmpi .eq c2_i32_99 c0_i32_100
  let c1_i32_101 : BitVec 32 := 1#32
  let v200 : BitVec 32 := Scalar.select v199 c1_i32_101 c2_i32_99
  let v201 : BitVec 32 := Scalar.remsi v198 v200
  let c0_i32_103 : BitVec 32 := 0#32
  let v203 : BitVec 1 := Scalar.cmpi .slt v201 c0_i32_103
  let c0_i32_104 : BitVec 32 := 0#32
  let v204 : BitVec 1 := Scalar.cmpi .slt v200 c0_i32_104
  let v205 : BitVec 1 := Scalar.xori v203 v204
  let c0_i32_102 : BitVec 32 := 0#32
  let v202 : BitVec 1 := Scalar.cmpi .ne v201 c0_i32_102
  let v206 : BitVec 1 := Scalar.andi v205 v202
  let v207 : BitVec 32 := Scalar.addi v201 v200
  let v208 : BitVec 32 := Scalar.select v206 v207 v201
  let v209 : BitVec 32 := Scalar.addi v197 v208
  let c1_i32_544 : BitVec 32 := 1#32
  let v1020 : BitVec 32 := Scalar.muli v209 c1_i32_544
  let v1021 : BitVec 32 := Scalar.addi c0_i32_545 v1020
  v1021.toNat
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_179 : BitVec 32 := 2#32
  let c0_i32_180 : BitVec 32 := 0#32
  let v357 : BitVec 1 := Scalar.cmpi .eq c2_i32_179 c0_i32_180
  let c1_i32_181 : BitVec 32 := 1#32
  let v358 : BitVec 32 := Scalar.select v357 c1_i32_181 c2_i32_179
  let v359 : BitVec 32 := Scalar.remsi v46 v358
  let c0_i32_183 : BitVec 32 := 0#32
  let v361 : BitVec 1 := Scalar.cmpi .slt v359 c0_i32_183
  let c0_i32_184 : BitVec 32 := 0#32
  let v362 : BitVec 1 := Scalar.cmpi .slt v358 c0_i32_184
  let v363 : BitVec 1 := Scalar.xori v361 v362
  let c0_i32_182 : BitVec 32 := 0#32
  let v360 : BitVec 1 := Scalar.cmpi .ne v359 c0_i32_182
  let v364 : BitVec 1 := Scalar.andi v363 v360
  let v365 : BitVec 32 := Scalar.addi v359 v358
  let v366 : BitVec 32 := Scalar.select v364 v365 v359
  let c16_i32_185 : BitVec 32 := 16#32
  let v367 : BitVec 32 := Scalar.muli v366 c16_i32_185
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_186 : BitVec 32 := 2#32
  let c0_i32_187 : BitVec 32 := 0#32
  let v368 : BitVec 1 := Scalar.cmpi .eq c2_i32_186 c0_i32_187
  let c1_i32_188 : BitVec 32 := 1#32
  let v369 : BitVec 32 := Scalar.select v368 c1_i32_188 c2_i32_186
  let v370 : BitVec 32 := Scalar.remsi v19 v369
  let c0_i32_190 : BitVec 32 := 0#32
  let v372 : BitVec 1 := Scalar.cmpi .slt v370 c0_i32_190
  let c0_i32_191 : BitVec 32 := 0#32
  let v373 : BitVec 1 := Scalar.cmpi .slt v369 c0_i32_191
  let v374 : BitVec 1 := Scalar.xori v372 v373
  let c0_i32_189 : BitVec 32 := 0#32
  let v371 : BitVec 1 := Scalar.cmpi .ne v370 c0_i32_189
  let v375 : BitVec 1 := Scalar.andi v374 v371
  let v376 : BitVec 32 := Scalar.addi v370 v369
  let v377 : BitVec 32 := Scalar.select v375 v376 v370
  let c8_i32_192 : BitVec 32 := 8#32
  let v378 : BitVec 32 := Scalar.muli v377 c8_i32_192
  let v379 : BitVec 32 := Scalar.addi v367 v378
  let c0_i32_194 : BitVec 32 := 0#32
  let v381 : BitVec 1 := Scalar.cmpi .sgt v19 c0_i32_194
  let v382 : BitVec 32 := Scalar.extui v381
  let c0_i32_195 : BitVec 32 := 0#32
  let v383 : BitVec 1 := Scalar.cmpi .slt v19 c0_i32_195
  let v384 : BitVec 32 := Scalar.extui v383
  let v385 : BitVec 32 := Scalar.subi v382 v384
  let c2_i32_193 : BitVec 32 := 2#32
  let c0_i32_196 : BitVec 32 := 0#32
  let v386 : BitVec 1 := Scalar.cmpi .sgt c2_i32_193 c0_i32_196
  let v387 : BitVec 32 := Scalar.extui v386
  let c0_i32_197 : BitVec 32 := 0#32
  let v388 : BitVec 1 := Scalar.cmpi .slt c2_i32_193 c0_i32_197
  let v389 : BitVec 32 := Scalar.extui v388
  let v390 : BitVec 32 := Scalar.subi v387 v389
  let v391 : BitVec 1 := Scalar.cmpi .ne v385 v390
  let v392 : BitVec 32 := Scalar.remsi v19 c2_i32_193
  let c0_i32_198 : BitVec 32 := 0#32
  let v393 : BitVec 1 := Scalar.cmpi .ne v392 c0_i32_198
  let v394 : BitVec 1 := Scalar.andi v391 v393
  let v380 : BitVec 32 := Scalar.divsi v19 c2_i32_193
  let c1_i32_199 : BitVec 32 := 1#32
  let v395 : BitVec 32 := Scalar.subi v380 c1_i32_199
  let v396 : BitVec 32 := Scalar.select v394 v395 v380
  let c4_i32_200 : BitVec 32 := 4#32
  let v397 : BitVec 32 := Scalar.muli v396 c4_i32_200
  let v398 : BitVec 32 := Scalar.addi v379 v397
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_201 : BitVec 32 := 2#32
  let v399 : BitVec 32 := Scalar.muli v57 c2_i32_201
  let v400 : BitVec 32 := Scalar.addi v398 v399
  let c0_i32_203 : BitVec 32 := 0#32
  let v402 : BitVec 1 := Scalar.cmpi .sgt v46 c0_i32_203
  let v403 : BitVec 32 := Scalar.extui v402
  let c0_i32_204 : BitVec 32 := 0#32
  let v404 : BitVec 1 := Scalar.cmpi .slt v46 c0_i32_204
  let v405 : BitVec 32 := Scalar.extui v404
  let v406 : BitVec 32 := Scalar.subi v403 v405
  let c2_i32_202 : BitVec 32 := 2#32
  let c0_i32_205 : BitVec 32 := 0#32
  let v407 : BitVec 1 := Scalar.cmpi .sgt c2_i32_202 c0_i32_205
  let v408 : BitVec 32 := Scalar.extui v407
  let c0_i32_206 : BitVec 32 := 0#32
  let v409 : BitVec 1 := Scalar.cmpi .slt c2_i32_202 c0_i32_206
  let v410 : BitVec 32 := Scalar.extui v409
  let v411 : BitVec 32 := Scalar.subi v408 v410
  let v412 : BitVec 1 := Scalar.cmpi .ne v406 v411
  let v413 : BitVec 32 := Scalar.remsi v46 c2_i32_202
  let c0_i32_207 : BitVec 32 := 0#32
  let v414 : BitVec 1 := Scalar.cmpi .ne v413 c0_i32_207
  let v415 : BitVec 1 := Scalar.andi v412 v414
  let v401 : BitVec 32 := Scalar.divsi v46 c2_i32_202
  let c1_i32_208 : BitVec 32 := 1#32
  let v416 : BitVec 32 := Scalar.subi v401 c1_i32_208
  let v417 : BitVec 32 := Scalar.select v415 v416 v401
  let v418 : BitVec 32 := Scalar.addi v400 v417
  let c0_i32_569 : BitVec 32 := 0#32
  let v1057 : BitVec 1 := Scalar.cmpi .sgt v418 c0_i32_569
  let v1058 : BitVec 32 := Scalar.extui v1057
  let c0_i32_570 : BitVec 32 := 0#32
  let v1059 : BitVec 1 := Scalar.cmpi .slt v418 c0_i32_570
  let v1060 : BitVec 32 := Scalar.extui v1059
  let v1061 : BitVec 32 := Scalar.subi v1058 v1060
  let c8_i32_568 : BitVec 32 := 8#32
  let c0_i32_571 : BitVec 32 := 0#32
  let v1062 : BitVec 1 := Scalar.cmpi .sgt c8_i32_568 c0_i32_571
  let v1063 : BitVec 32 := Scalar.extui v1062
  let c0_i32_572 : BitVec 32 := 0#32
  let v1064 : BitVec 1 := Scalar.cmpi .slt c8_i32_568 c0_i32_572
  let v1065 : BitVec 32 := Scalar.extui v1064
  let v1066 : BitVec 32 := Scalar.subi v1063 v1065
  let v1067 : BitVec 1 := Scalar.cmpi .ne v1061 v1066
  let v1068 : BitVec 32 := Scalar.remsi v418 c8_i32_568
  let c0_i32_573 : BitVec 32 := 0#32
  let v1069 : BitVec 1 := Scalar.cmpi .ne v1068 c0_i32_573
  let v1070 : BitVec 1 := Scalar.andi v1067 v1069
  let v1056 : BitVec 32 := Scalar.divsi v418 c8_i32_568
  let c1_i32_574 : BitVec 32 := 1#32
  let v1071 : BitVec 32 := Scalar.subi v1056 c1_i32_574
  let v1072 : BitVec 32 := Scalar.select v1070 v1071 v1056
  let c1_i32_575 : BitVec 32 := 1#32
  let v1073 : BitVec 32 := Scalar.addi v1072 c1_i32_575
  let c2_i32_582 : BitVec 32 := 2#32
  let c2_i32_576 : BitVec 32 := 2#32
  let c0_i32_577 : BitVec 32 := 0#32
  let v1074 : BitVec 1 := Scalar.cmpi .eq c2_i32_576 c0_i32_577
  let c1_i32_578 : BitVec 32 := 1#32
  let v1075 : BitVec 32 := Scalar.select v1074 c1_i32_578 c2_i32_576
  let v1076 : BitVec 32 := Scalar.remsi v1072 v1075
  let c0_i32_580 : BitVec 32 := 0#32
  let v1078 : BitVec 1 := Scalar.cmpi .slt v1076 c0_i32_580
  let c0_i32_581 : BitVec 32 := 0#32
  let v1079 : BitVec 1 := Scalar.cmpi .slt v1075 c0_i32_581
  let v1080 : BitVec 1 := Scalar.xori v1078 v1079
  let c0_i32_579 : BitVec 32 := 0#32
  let v1077 : BitVec 1 := Scalar.cmpi .ne v1076 c0_i32_579
  let v1081 : BitVec 1 := Scalar.andi v1080 v1077
  let v1082 : BitVec 32 := Scalar.addi v1076 v1075
  let v1083 : BitVec 32 := Scalar.select v1081 v1082 v1076
  let v1084 : BitVec 32 := Scalar.muli c2_i32_582 v1083
  let v1085 : BitVec 32 := Scalar.subi v1073 v1084
  let c128_i32_583 : BitVec 32 := 128#32
  let v1086 : BitVec 32 := Scalar.muli v1085 c128_i32_583
  let v1087 : Index := Scalar.indexCast v1086
  let c0_584 : Index := 0#32
  ![v1087.toNat, 0]
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_179 : BitVec 32 := 2#32
  let c0_i32_180 : BitVec 32 := 0#32
  let v357 : BitVec 1 := Scalar.cmpi .eq c2_i32_179 c0_i32_180
  let c1_i32_181 : BitVec 32 := 1#32
  let v358 : BitVec 32 := Scalar.select v357 c1_i32_181 c2_i32_179
  let v359 : BitVec 32 := Scalar.remsi v46 v358
  let c0_i32_183 : BitVec 32 := 0#32
  let v361 : BitVec 1 := Scalar.cmpi .slt v359 c0_i32_183
  let c0_i32_184 : BitVec 32 := 0#32
  let v362 : BitVec 1 := Scalar.cmpi .slt v358 c0_i32_184
  let v363 : BitVec 1 := Scalar.xori v361 v362
  let c0_i32_182 : BitVec 32 := 0#32
  let v360 : BitVec 1 := Scalar.cmpi .ne v359 c0_i32_182
  let v364 : BitVec 1 := Scalar.andi v363 v360
  let v365 : BitVec 32 := Scalar.addi v359 v358
  let v366 : BitVec 32 := Scalar.select v364 v365 v359
  let c16_i32_185 : BitVec 32 := 16#32
  let v367 : BitVec 32 := Scalar.muli v366 c16_i32_185
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_186 : BitVec 32 := 2#32
  let c0_i32_187 : BitVec 32 := 0#32
  let v368 : BitVec 1 := Scalar.cmpi .eq c2_i32_186 c0_i32_187
  let c1_i32_188 : BitVec 32 := 1#32
  let v369 : BitVec 32 := Scalar.select v368 c1_i32_188 c2_i32_186
  let v370 : BitVec 32 := Scalar.remsi v19 v369
  let c0_i32_190 : BitVec 32 := 0#32
  let v372 : BitVec 1 := Scalar.cmpi .slt v370 c0_i32_190
  let c0_i32_191 : BitVec 32 := 0#32
  let v373 : BitVec 1 := Scalar.cmpi .slt v369 c0_i32_191
  let v374 : BitVec 1 := Scalar.xori v372 v373
  let c0_i32_189 : BitVec 32 := 0#32
  let v371 : BitVec 1 := Scalar.cmpi .ne v370 c0_i32_189
  let v375 : BitVec 1 := Scalar.andi v374 v371
  let v376 : BitVec 32 := Scalar.addi v370 v369
  let v377 : BitVec 32 := Scalar.select v375 v376 v370
  let c8_i32_192 : BitVec 32 := 8#32
  let v378 : BitVec 32 := Scalar.muli v377 c8_i32_192
  let v379 : BitVec 32 := Scalar.addi v367 v378
  let c0_i32_194 : BitVec 32 := 0#32
  let v381 : BitVec 1 := Scalar.cmpi .sgt v19 c0_i32_194
  let v382 : BitVec 32 := Scalar.extui v381
  let c0_i32_195 : BitVec 32 := 0#32
  let v383 : BitVec 1 := Scalar.cmpi .slt v19 c0_i32_195
  let v384 : BitVec 32 := Scalar.extui v383
  let v385 : BitVec 32 := Scalar.subi v382 v384
  let c2_i32_193 : BitVec 32 := 2#32
  let c0_i32_196 : BitVec 32 := 0#32
  let v386 : BitVec 1 := Scalar.cmpi .sgt c2_i32_193 c0_i32_196
  let v387 : BitVec 32 := Scalar.extui v386
  let c0_i32_197 : BitVec 32 := 0#32
  let v388 : BitVec 1 := Scalar.cmpi .slt c2_i32_193 c0_i32_197
  let v389 : BitVec 32 := Scalar.extui v388
  let v390 : BitVec 32 := Scalar.subi v387 v389
  let v391 : BitVec 1 := Scalar.cmpi .ne v385 v390
  let v392 : BitVec 32 := Scalar.remsi v19 c2_i32_193
  let c0_i32_198 : BitVec 32 := 0#32
  let v393 : BitVec 1 := Scalar.cmpi .ne v392 c0_i32_198
  let v394 : BitVec 1 := Scalar.andi v391 v393
  let v380 : BitVec 32 := Scalar.divsi v19 c2_i32_193
  let c1_i32_199 : BitVec 32 := 1#32
  let v395 : BitVec 32 := Scalar.subi v380 c1_i32_199
  let v396 : BitVec 32 := Scalar.select v394 v395 v380
  let c4_i32_200 : BitVec 32 := 4#32
  let v397 : BitVec 32 := Scalar.muli v396 c4_i32_200
  let v398 : BitVec 32 := Scalar.addi v379 v397
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_201 : BitVec 32 := 2#32
  let v399 : BitVec 32 := Scalar.muli v57 c2_i32_201
  let v400 : BitVec 32 := Scalar.addi v398 v399
  let c0_i32_203 : BitVec 32 := 0#32
  let v402 : BitVec 1 := Scalar.cmpi .sgt v46 c0_i32_203
  let v403 : BitVec 32 := Scalar.extui v402
  let c0_i32_204 : BitVec 32 := 0#32
  let v404 : BitVec 1 := Scalar.cmpi .slt v46 c0_i32_204
  let v405 : BitVec 32 := Scalar.extui v404
  let v406 : BitVec 32 := Scalar.subi v403 v405
  let c2_i32_202 : BitVec 32 := 2#32
  let c0_i32_205 : BitVec 32 := 0#32
  let v407 : BitVec 1 := Scalar.cmpi .sgt c2_i32_202 c0_i32_205
  let v408 : BitVec 32 := Scalar.extui v407
  let c0_i32_206 : BitVec 32 := 0#32
  let v409 : BitVec 1 := Scalar.cmpi .slt c2_i32_202 c0_i32_206
  let v410 : BitVec 32 := Scalar.extui v409
  let v411 : BitVec 32 := Scalar.subi v408 v410
  let v412 : BitVec 1 := Scalar.cmpi .ne v406 v411
  let v413 : BitVec 32 := Scalar.remsi v46 c2_i32_202
  let c0_i32_207 : BitVec 32 := 0#32
  let v414 : BitVec 1 := Scalar.cmpi .ne v413 c0_i32_207
  let v415 : BitVec 1 := Scalar.andi v412 v414
  let v401 : BitVec 32 := Scalar.divsi v46 c2_i32_202
  let c1_i32_208 : BitVec 32 := 1#32
  let v416 : BitVec 32 := Scalar.subi v401 c1_i32_208
  let v417 : BitVec 32 := Scalar.select v415 v416 v401
  let v418 : BitVec 32 := Scalar.addi v400 v417
  let c0_i32_569 : BitVec 32 := 0#32
  let v1057 : BitVec 1 := Scalar.cmpi .sgt v418 c0_i32_569
  let v1058 : BitVec 32 := Scalar.extui v1057
  let c0_i32_570 : BitVec 32 := 0#32
  let v1059 : BitVec 1 := Scalar.cmpi .slt v418 c0_i32_570
  let v1060 : BitVec 32 := Scalar.extui v1059
  let v1061 : BitVec 32 := Scalar.subi v1058 v1060
  let c8_i32_568 : BitVec 32 := 8#32
  let c0_i32_571 : BitVec 32 := 0#32
  let v1062 : BitVec 1 := Scalar.cmpi .sgt c8_i32_568 c0_i32_571
  let v1063 : BitVec 32 := Scalar.extui v1062
  let c0_i32_572 : BitVec 32 := 0#32
  let v1064 : BitVec 1 := Scalar.cmpi .slt c8_i32_568 c0_i32_572
  let v1065 : BitVec 32 := Scalar.extui v1064
  let v1066 : BitVec 32 := Scalar.subi v1063 v1065
  let v1067 : BitVec 1 := Scalar.cmpi .ne v1061 v1066
  let v1068 : BitVec 32 := Scalar.remsi v418 c8_i32_568
  let c0_i32_573 : BitVec 32 := 0#32
  let v1069 : BitVec 1 := Scalar.cmpi .ne v1068 c0_i32_573
  let v1070 : BitVec 1 := Scalar.andi v1067 v1069
  let v1056 : BitVec 32 := Scalar.divsi v418 c8_i32_568
  let c1_i32_574 : BitVec 32 := 1#32
  let v1071 : BitVec 32 := Scalar.subi v1056 c1_i32_574
  let v1072 : BitVec 32 := Scalar.select v1070 v1071 v1056
  let c1_i32_575 : BitVec 32 := 1#32
  let v1073 : BitVec 32 := Scalar.addi v1072 c1_i32_575
  let c2_i32_582 : BitVec 32 := 2#32
  let c2_i32_576 : BitVec 32 := 2#32
  let c0_i32_577 : BitVec 32 := 0#32
  let v1074 : BitVec 1 := Scalar.cmpi .eq c2_i32_576 c0_i32_577
  let c1_i32_578 : BitVec 32 := 1#32
  let v1075 : BitVec 32 := Scalar.select v1074 c1_i32_578 c2_i32_576
  let v1076 : BitVec 32 := Scalar.remsi v1072 v1075
  let c0_i32_580 : BitVec 32 := 0#32
  let v1078 : BitVec 1 := Scalar.cmpi .slt v1076 c0_i32_580
  let c0_i32_581 : BitVec 32 := 0#32
  let v1079 : BitVec 1 := Scalar.cmpi .slt v1075 c0_i32_581
  let v1080 : BitVec 1 := Scalar.xori v1078 v1079
  let c0_i32_579 : BitVec 32 := 0#32
  let v1077 : BitVec 1 := Scalar.cmpi .ne v1076 c0_i32_579
  let v1081 : BitVec 1 := Scalar.andi v1080 v1077
  let v1082 : BitVec 32 := Scalar.addi v1076 v1075
  let v1083 : BitVec 32 := Scalar.select v1081 v1082 v1076
  let v1084 : BitVec 32 := Scalar.muli c2_i32_582 v1083
  let v1085 : BitVec 32 := Scalar.subi v1073 v1084
  let c128_i32_583 : BitVec 32 := 128#32
  let v1086 : BitVec 32 := Scalar.muli v1085 c128_i32_583
  let c0_i32_561 : BitVec 32 := 0#32
  let v1039 : BitVec 1 := Scalar.cmpi .sgt v418 c0_i32_561
  let v1040 : BitVec 32 := Scalar.extui v1039
  let c0_i32_562 : BitVec 32 := 0#32
  let v1041 : BitVec 1 := Scalar.cmpi .slt v418 c0_i32_562
  let v1042 : BitVec 32 := Scalar.extui v1041
  let v1043 : BitVec 32 := Scalar.subi v1040 v1042
  let c16_i32_560 : BitVec 32 := 16#32
  let c0_i32_563 : BitVec 32 := 0#32
  let v1044 : BitVec 1 := Scalar.cmpi .sgt c16_i32_560 c0_i32_563
  let v1045 : BitVec 32 := Scalar.extui v1044
  let c0_i32_564 : BitVec 32 := 0#32
  let v1046 : BitVec 1 := Scalar.cmpi .slt c16_i32_560 c0_i32_564
  let v1047 : BitVec 32 := Scalar.extui v1046
  let v1048 : BitVec 32 := Scalar.subi v1045 v1047
  let v1049 : BitVec 1 := Scalar.cmpi .ne v1043 v1048
  let v1050 : BitVec 32 := Scalar.remsi v418 c16_i32_560
  let c0_i32_565 : BitVec 32 := 0#32
  let v1051 : BitVec 1 := Scalar.cmpi .ne v1050 c0_i32_565
  let v1052 : BitVec 1 := Scalar.andi v1049 v1051
  let v1038 : BitVec 32 := Scalar.divsi v418 c16_i32_560
  let c1_i32_566 : BitVec 32 := 1#32
  let v1053 : BitVec 32 := Scalar.subi v1038 c1_i32_566
  let v1054 : BitVec 32 := Scalar.select v1052 v1053 v1038
  let c256_i32_567 : BitVec 32 := 256#32
  let v1055 : BitVec 32 := Scalar.muli v1054 c256_i32_567
  let v1089 : BitVec 32 := Scalar.subi v1086 v1055
  let v1090 : Index := Scalar.indexCast v1089
  let c0_585 : Index := 0#32
  ![v1090.toNat, 0]
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_179 : BitVec 32 := 2#32
  let c0_i32_180 : BitVec 32 := 0#32
  let v357 : BitVec 1 := Scalar.cmpi .eq c2_i32_179 c0_i32_180
  let c1_i32_181 : BitVec 32 := 1#32
  let v358 : BitVec 32 := Scalar.select v357 c1_i32_181 c2_i32_179
  let v359 : BitVec 32 := Scalar.remsi v46 v358
  let c0_i32_183 : BitVec 32 := 0#32
  let v361 : BitVec 1 := Scalar.cmpi .slt v359 c0_i32_183
  let c0_i32_184 : BitVec 32 := 0#32
  let v362 : BitVec 1 := Scalar.cmpi .slt v358 c0_i32_184
  let v363 : BitVec 1 := Scalar.xori v361 v362
  let c0_i32_182 : BitVec 32 := 0#32
  let v360 : BitVec 1 := Scalar.cmpi .ne v359 c0_i32_182
  let v364 : BitVec 1 := Scalar.andi v363 v360
  let v365 : BitVec 32 := Scalar.addi v359 v358
  let v366 : BitVec 32 := Scalar.select v364 v365 v359
  let c16_i32_185 : BitVec 32 := 16#32
  let v367 : BitVec 32 := Scalar.muli v366 c16_i32_185
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_186 : BitVec 32 := 2#32
  let c0_i32_187 : BitVec 32 := 0#32
  let v368 : BitVec 1 := Scalar.cmpi .eq c2_i32_186 c0_i32_187
  let c1_i32_188 : BitVec 32 := 1#32
  let v369 : BitVec 32 := Scalar.select v368 c1_i32_188 c2_i32_186
  let v370 : BitVec 32 := Scalar.remsi v19 v369
  let c0_i32_190 : BitVec 32 := 0#32
  let v372 : BitVec 1 := Scalar.cmpi .slt v370 c0_i32_190
  let c0_i32_191 : BitVec 32 := 0#32
  let v373 : BitVec 1 := Scalar.cmpi .slt v369 c0_i32_191
  let v374 : BitVec 1 := Scalar.xori v372 v373
  let c0_i32_189 : BitVec 32 := 0#32
  let v371 : BitVec 1 := Scalar.cmpi .ne v370 c0_i32_189
  let v375 : BitVec 1 := Scalar.andi v374 v371
  let v376 : BitVec 32 := Scalar.addi v370 v369
  let v377 : BitVec 32 := Scalar.select v375 v376 v370
  let c8_i32_192 : BitVec 32 := 8#32
  let v378 : BitVec 32 := Scalar.muli v377 c8_i32_192
  let v379 : BitVec 32 := Scalar.addi v367 v378
  let c0_i32_194 : BitVec 32 := 0#32
  let v381 : BitVec 1 := Scalar.cmpi .sgt v19 c0_i32_194
  let v382 : BitVec 32 := Scalar.extui v381
  let c0_i32_195 : BitVec 32 := 0#32
  let v383 : BitVec 1 := Scalar.cmpi .slt v19 c0_i32_195
  let v384 : BitVec 32 := Scalar.extui v383
  let v385 : BitVec 32 := Scalar.subi v382 v384
  let c2_i32_193 : BitVec 32 := 2#32
  let c0_i32_196 : BitVec 32 := 0#32
  let v386 : BitVec 1 := Scalar.cmpi .sgt c2_i32_193 c0_i32_196
  let v387 : BitVec 32 := Scalar.extui v386
  let c0_i32_197 : BitVec 32 := 0#32
  let v388 : BitVec 1 := Scalar.cmpi .slt c2_i32_193 c0_i32_197
  let v389 : BitVec 32 := Scalar.extui v388
  let v390 : BitVec 32 := Scalar.subi v387 v389
  let v391 : BitVec 1 := Scalar.cmpi .ne v385 v390
  let v392 : BitVec 32 := Scalar.remsi v19 c2_i32_193
  let c0_i32_198 : BitVec 32 := 0#32
  let v393 : BitVec 1 := Scalar.cmpi .ne v392 c0_i32_198
  let v394 : BitVec 1 := Scalar.andi v391 v393
  let v380 : BitVec 32 := Scalar.divsi v19 c2_i32_193
  let c1_i32_199 : BitVec 32 := 1#32
  let v395 : BitVec 32 := Scalar.subi v380 c1_i32_199
  let v396 : BitVec 32 := Scalar.select v394 v395 v380
  let c4_i32_200 : BitVec 32 := 4#32
  let v397 : BitVec 32 := Scalar.muli v396 c4_i32_200
  let v398 : BitVec 32 := Scalar.addi v379 v397
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_201 : BitVec 32 := 2#32
  let v399 : BitVec 32 := Scalar.muli v57 c2_i32_201
  let v400 : BitVec 32 := Scalar.addi v398 v399
  let c0_i32_203 : BitVec 32 := 0#32
  let v402 : BitVec 1 := Scalar.cmpi .sgt v46 c0_i32_203
  let v403 : BitVec 32 := Scalar.extui v402
  let c0_i32_204 : BitVec 32 := 0#32
  let v404 : BitVec 1 := Scalar.cmpi .slt v46 c0_i32_204
  let v405 : BitVec 32 := Scalar.extui v404
  let v406 : BitVec 32 := Scalar.subi v403 v405
  let c2_i32_202 : BitVec 32 := 2#32
  let c0_i32_205 : BitVec 32 := 0#32
  let v407 : BitVec 1 := Scalar.cmpi .sgt c2_i32_202 c0_i32_205
  let v408 : BitVec 32 := Scalar.extui v407
  let c0_i32_206 : BitVec 32 := 0#32
  let v409 : BitVec 1 := Scalar.cmpi .slt c2_i32_202 c0_i32_206
  let v410 : BitVec 32 := Scalar.extui v409
  let v411 : BitVec 32 := Scalar.subi v408 v410
  let v412 : BitVec 1 := Scalar.cmpi .ne v406 v411
  let v413 : BitVec 32 := Scalar.remsi v46 c2_i32_202
  let c0_i32_207 : BitVec 32 := 0#32
  let v414 : BitVec 1 := Scalar.cmpi .ne v413 c0_i32_207
  let v415 : BitVec 1 := Scalar.andi v412 v414
  let v401 : BitVec 32 := Scalar.divsi v46 c2_i32_202
  let c1_i32_208 : BitVec 32 := 1#32
  let v416 : BitVec 32 := Scalar.subi v401 c1_i32_208
  let v417 : BitVec 32 := Scalar.select v415 v416 v401
  let v418 : BitVec 32 := Scalar.addi v400 v417
  let c0_i32_588 : BitVec 32 := 0#32
  let v1098 : BitVec 1 := Scalar.cmpi .sgt v418 c0_i32_588
  let v1099 : BitVec 32 := Scalar.extui v1098
  let c0_i32_589 : BitVec 32 := 0#32
  let v1100 : BitVec 1 := Scalar.cmpi .slt v418 c0_i32_589
  let v1101 : BitVec 32 := Scalar.extui v1100
  let v1102 : BitVec 32 := Scalar.subi v1099 v1101
  let c8_i32_587 : BitVec 32 := 8#32
  let c0_i32_590 : BitVec 32 := 0#32
  let v1103 : BitVec 1 := Scalar.cmpi .sgt c8_i32_587 c0_i32_590
  let v1104 : BitVec 32 := Scalar.extui v1103
  let c0_i32_591 : BitVec 32 := 0#32
  let v1105 : BitVec 1 := Scalar.cmpi .slt c8_i32_587 c0_i32_591
  let v1106 : BitVec 32 := Scalar.extui v1105
  let v1107 : BitVec 32 := Scalar.subi v1104 v1106
  let v1108 : BitVec 1 := Scalar.cmpi .ne v1102 v1107
  let v1109 : BitVec 32 := Scalar.remsi v418 c8_i32_587
  let c0_i32_592 : BitVec 32 := 0#32
  let v1110 : BitVec 1 := Scalar.cmpi .ne v1109 c0_i32_592
  let v1111 : BitVec 1 := Scalar.andi v1108 v1110
  let v1097 : BitVec 32 := Scalar.divsi v418 c8_i32_587
  let c1_i32_593 : BitVec 32 := 1#32
  let v1112 : BitVec 32 := Scalar.subi v1097 c1_i32_593
  let v1113 : BitVec 32 := Scalar.select v1111 v1112 v1097
  let c1_i32_594 : BitVec 32 := 1#32
  let v1114 : BitVec 32 := Scalar.addi v1113 c1_i32_594
  let c2_i32_601 : BitVec 32 := 2#32
  let c2_i32_595 : BitVec 32 := 2#32
  let c0_i32_596 : BitVec 32 := 0#32
  let v1115 : BitVec 1 := Scalar.cmpi .eq c2_i32_595 c0_i32_596
  let c1_i32_597 : BitVec 32 := 1#32
  let v1116 : BitVec 32 := Scalar.select v1115 c1_i32_597 c2_i32_595
  let v1117 : BitVec 32 := Scalar.remsi v1113 v1116
  let c0_i32_599 : BitVec 32 := 0#32
  let v1119 : BitVec 1 := Scalar.cmpi .slt v1117 c0_i32_599
  let c0_i32_600 : BitVec 32 := 0#32
  let v1120 : BitVec 1 := Scalar.cmpi .slt v1116 c0_i32_600
  let v1121 : BitVec 1 := Scalar.xori v1119 v1120
  let c0_i32_598 : BitVec 32 := 0#32
  let v1118 : BitVec 1 := Scalar.cmpi .ne v1117 c0_i32_598
  let v1122 : BitVec 1 := Scalar.andi v1121 v1118
  let v1123 : BitVec 32 := Scalar.addi v1117 v1116
  let v1124 : BitVec 32 := Scalar.select v1122 v1123 v1117
  let v1125 : BitVec 32 := Scalar.muli c2_i32_601 v1124
  let v1126 : BitVec 32 := Scalar.subi v1114 v1125
  let c128_i32_602 : BitVec 32 := 128#32
  let v1127 : BitVec 32 := Scalar.muli v1126 c128_i32_602
  let c0_i32_609 : BitVec 32 := 0#32
  ![v1127.toNat, 0]
def k0_dev13 (d0 : Dev nD) : Nat :=
  let c0_i32_606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_31 : BitVec 32 := 1#32
  let v71 : BitVec 32 := Scalar.addi v19 c1_i32_31
  let c2_i32_38 : BitVec 32 := 2#32
  let c2_i32_32 : BitVec 32 := 2#32
  let c0_i32_33 : BitVec 32 := 0#32
  let v72 : BitVec 1 := Scalar.cmpi .eq c2_i32_32 c0_i32_33
  let c1_i32_34 : BitVec 32 := 1#32
  let v73 : BitVec 32 := Scalar.select v72 c1_i32_34 c2_i32_32
  let v74 : BitVec 32 := Scalar.remsi v19 v73
  let c0_i32_36 : BitVec 32 := 0#32
  let v76 : BitVec 1 := Scalar.cmpi .slt v74 c0_i32_36
  let c0_i32_37 : BitVec 32 := 0#32
  let v77 : BitVec 1 := Scalar.cmpi .slt v73 c0_i32_37
  let v78 : BitVec 1 := Scalar.xori v76 v77
  let c0_i32_35 : BitVec 32 := 0#32
  let v75 : BitVec 1 := Scalar.cmpi .ne v74 c0_i32_35
  let v79 : BitVec 1 := Scalar.andi v78 v75
  let v80 : BitVec 32 := Scalar.addi v74 v73
  let v81 : BitVec 32 := Scalar.select v79 v80 v74
  let v82 : BitVec 32 := Scalar.muli c2_i32_38 v81
  let v83 : BitVec 32 := Scalar.subi v71 v82
  let c8_i32_217 : BitVec 32 := 8#32
  let v434 : BitVec 32 := Scalar.muli v83 c8_i32_217
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_218 : BitVec 32 := 2#32
  let v435 : BitVec 32 := Scalar.muli v46 c2_i32_218
  let v436 : BitVec 32 := Scalar.addi v434 v435
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v437 : BitVec 32 := Scalar.addi v57 v46
  let c2_i32_219 : BitVec 32 := 2#32
  let c0_i32_220 : BitVec 32 := 0#32
  let v438 : BitVec 1 := Scalar.cmpi .eq c2_i32_219 c0_i32_220
  let c1_i32_221 : BitVec 32 := 1#32
  let v439 : BitVec 32 := Scalar.select v438 c1_i32_221 c2_i32_219
  let v440 : BitVec 32 := Scalar.remsi v437 v439
  let c0_i32_223 : BitVec 32 := 0#32
  let v442 : BitVec 1 := Scalar.cmpi .slt v440 c0_i32_223
  let c0_i32_224 : BitVec 32 := 0#32
  let v443 : BitVec 1 := Scalar.cmpi .slt v439 c0_i32_224
  let v444 : BitVec 1 := Scalar.xori v442 v443
  let c0_i32_222 : BitVec 32 := 0#32
  let v441 : BitVec 1 := Scalar.cmpi .ne v440 c0_i32_222
  let v445 : BitVec 1 := Scalar.andi v444 v441
  let v446 : BitVec 32 := Scalar.addi v440 v439
  let v447 : BitVec 32 := Scalar.select v445 v446 v440
  let v448 : BitVec 32 := Scalar.addi v436 v447
  let c1_i32_605 : BitVec 32 := 1#32
  let v1128 : BitVec 32 := Scalar.muli v448 c1_i32_605
  let v1129 : BitVec 32 := Scalar.addi c0_i32_606 v1128
  v1129.toNat
def k0_off15 (d0 : Dev nD) : Fin 2 → Nat :=
  let c2_i32_645 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c16_i32 : BitVec 32 := 16#32
  let v117 : BitVec 32 := Scalar.muli v57 c16_i32
  let c2_i32_59 : BitVec 32 := 2#32
  let c0_i32_60 : BitVec 32 := 0#32
  let v118 : BitVec 1 := Scalar.cmpi .eq c2_i32_59 c0_i32_60
  let c1_i32_61 : BitVec 32 := 1#32
  let v119 : BitVec 32 := Scalar.select v118 c1_i32_61 c2_i32_59
  let v120 : BitVec 32 := Scalar.remsi v46 v119
  let c0_i32_63 : BitVec 32 := 0#32
  let v122 : BitVec 1 := Scalar.cmpi .slt v120 c0_i32_63
  let c0_i32_64 : BitVec 32 := 0#32
  let v123 : BitVec 1 := Scalar.cmpi .slt v119 c0_i32_64
  let v124 : BitVec 1 := Scalar.xori v122 v123
  let c0_i32_62 : BitVec 32 := 0#32
  let v121 : BitVec 1 := Scalar.cmpi .ne v120 c0_i32_62
  let v125 : BitVec 1 := Scalar.andi v124 v121
  let v126 : BitVec 32 := Scalar.addi v120 v119
  let v127 : BitVec 32 := Scalar.select v125 v126 v120
  let c8_i32_65 : BitVec 32 := 8#32
  let v128 : BitVec 32 := Scalar.muli v127 c8_i32_65
  let v129 : BitVec 32 := Scalar.addi v117 v128
  let c0_i32_67 : BitVec 32 := 0#32
  let v131 : BitVec 1 := Scalar.cmpi .sgt v46 c0_i32_67
  let v132 : BitVec 32 := Scalar.extui v131
  let c0_i32_68 : BitVec 32 := 0#32
  let v133 : BitVec 1 := Scalar.cmpi .slt v46 c0_i32_68
  let v134 : BitVec 32 := Scalar.extui v133
  let v135 : BitVec 32 := Scalar.subi v132 v134
  let c2_i32_66 : BitVec 32 := 2#32
  let c0_i32_69 : BitVec 32 := 0#32
  let v136 : BitVec 1 := Scalar.cmpi .sgt c2_i32_66 c0_i32_69
  let v137 : BitVec 32 := Scalar.extui v136
  let c0_i32_70 : BitVec 32 := 0#32
  let v138 : BitVec 1 := Scalar.cmpi .slt c2_i32_66 c0_i32_70
  let v139 : BitVec 32 := Scalar.extui v138
  let v140 : BitVec 32 := Scalar.subi v137 v139
  let v141 : BitVec 1 := Scalar.cmpi .ne v135 v140
  let v142 : BitVec 32 := Scalar.remsi v46 c2_i32_66
  let c0_i32_71 : BitVec 32 := 0#32
  let v143 : BitVec 1 := Scalar.cmpi .ne v142 c0_i32_71
  let v144 : BitVec 1 := Scalar.andi v141 v143
  let v130 : BitVec 32 := Scalar.divsi v46 c2_i32_66
  let c1_i32_72 : BitVec 32 := 1#32
  let v145 : BitVec 32 := Scalar.subi v130 c1_i32_72
  let v146 : BitVec 32 := Scalar.select v144 v145 v130
  let c4_i32_73 : BitVec 32 := 4#32
  let v147 : BitVec 32 := Scalar.muli v146 c4_i32_73
  let v148 : BitVec 32 := Scalar.addi v129 v147
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_74 : BitVec 32 := 2#32
  let c0_i32_75 : BitVec 32 := 0#32
  let v149 : BitVec 1 := Scalar.cmpi .eq c2_i32_74 c0_i32_75
  let c1_i32_76 : BitVec 32 := 1#32
  let v150 : BitVec 32 := Scalar.select v149 c1_i32_76 c2_i32_74
  let v151 : BitVec 32 := Scalar.remsi v19 v150
  let c0_i32_78 : BitVec 32 := 0#32
  let v153 : BitVec 1 := Scalar.cmpi .slt v151 c0_i32_78
  let c0_i32_79 : BitVec 32 := 0#32
  let v154 : BitVec 1 := Scalar.cmpi .slt v150 c0_i32_79
  let v155 : BitVec 1 := Scalar.xori v153 v154
  let c0_i32_77 : BitVec 32 := 0#32
  let v152 : BitVec 1 := Scalar.cmpi .ne v151 c0_i32_77
  let v156 : BitVec 1 := Scalar.andi v155 v152
  let v157 : BitVec 32 := Scalar.addi v151 v150
  let v158 : BitVec 32 := Scalar.select v156 v157 v151
  let c2_i32_80 : BitVec 32 := 2#32
  let v159 : BitVec 32 := Scalar.muli v158 c2_i32_80
  let v160 : BitVec 32 := Scalar.addi v148 v159
  let c0_i32_82 : BitVec 32 := 0#32
  let v162 : BitVec 1 := Scalar.cmpi .sgt v19 c0_i32_82
  let v163 : BitVec 32 := Scalar.extui v162
  let c0_i32_83 : BitVec 32 := 0#32
  let v164 : BitVec 1 := Scalar.cmpi .slt v19 c0_i32_83
  let v165 : BitVec 32 := Scalar.extui v164
  let v166 : BitVec 32 := Scalar.subi v163 v165
  let c2_i32_81 : BitVec 32 := 2#32
  let c0_i32_84 : BitVec 32 := 0#32
  let v167 : BitVec 1 := Scalar.cmpi .sgt c2_i32_81 c0_i32_84
  let v168 : BitVec 32 := Scalar.extui v167
  let c0_i32_85 : BitVec 32 := 0#32
  let v169 : BitVec 1 := Scalar.cmpi .slt c2_i32_81 c0_i32_85
  let v170 : BitVec 32 := Scalar.extui v169
  let v171 : BitVec 32 := Scalar.subi v168 v170
  let v172 : BitVec 1 := Scalar.cmpi .ne v166 v171
  let v173 : BitVec 32 := Scalar.remsi v19 c2_i32_81
  let c0_i32_86 : BitVec 32 := 0#32
  let v174 : BitVec 1 := Scalar.cmpi .ne v173 c0_i32_86
  let v175 : BitVec 1 := Scalar.andi v172 v174
  let v161 : BitVec 32 := Scalar.divsi v19 c2_i32_81
  let c1_i32_87 : BitVec 32 := 1#32
  let v176 : BitVec 32 := Scalar.subi v161 c1_i32_87
  let v177 : BitVec 32 := Scalar.select v175 v176 v161
  let v178 : BitVec 32 := Scalar.addi v160 v177
  let c0_i32_622 : BitVec 32 := 0#32
  let v1147 : BitVec 1 := Scalar.cmpi .sgt v178 c0_i32_622
  let v1148 : BitVec 32 := Scalar.extui v1147
  let c0_i32_623 : BitVec 32 := 0#32
  let v1149 : BitVec 1 := Scalar.cmpi .slt v178 c0_i32_623
  let v1150 : BitVec 32 := Scalar.extui v1149
  let v1151 : BitVec 32 := Scalar.subi v1148 v1150
  let c16_i32_621 : BitVec 32 := 16#32
  let c0_i32_624 : BitVec 32 := 0#32
  let v1152 : BitVec 1 := Scalar.cmpi .sgt c16_i32_621 c0_i32_624
  let v1153 : BitVec 32 := Scalar.extui v1152
  let c0_i32_625 : BitVec 32 := 0#32
  let v1154 : BitVec 1 := Scalar.cmpi .slt c16_i32_621 c0_i32_625
  let v1155 : BitVec 32 := Scalar.extui v1154
  let v1156 : BitVec 32 := Scalar.subi v1153 v1155
  let v1157 : BitVec 1 := Scalar.cmpi .ne v1151 v1156
  let v1158 : BitVec 32 := Scalar.remsi v178 c16_i32_621
  let c0_i32_626 : BitVec 32 := 0#32
  let v1159 : BitVec 1 := Scalar.cmpi .ne v1158 c0_i32_626
  let v1160 : BitVec 1 := Scalar.andi v1157 v1159
  let v1146 : BitVec 32 := Scalar.divsi v178 c16_i32_621
  let c1_i32_627 : BitVec 32 := 1#32
  let v1161 : BitVec 32 := Scalar.subi v1146 c1_i32_627
  let v1162 : BitVec 32 := Scalar.select v1160 v1161 v1146
  let c256_i32_628 : BitVec 32 := 256#32
  let v1163 : BitVec 32 := Scalar.muli v1162 c256_i32_628
  let v1195 : BitVec 32 := Scalar.muli c2_i32_645 v1163
  let c128_i32_646 : BitVec 32 := 128#32
  let v1196 : BitVec 32 := Scalar.addi v1195 c128_i32_646
  let c0_i32_630 : BitVec 32 := 0#32
  let v1165 : BitVec 1 := Scalar.cmpi .sgt v178 c0_i32_630
  let v1166 : BitVec 32 := Scalar.extui v1165
  let c0_i32_631 : BitVec 32 := 0#32
  let v1167 : BitVec 1 := Scalar.cmpi .slt v178 c0_i32_631
  let v1168 : BitVec 32 := Scalar.extui v1167
  let v1169 : BitVec 32 := Scalar.subi v1166 v1168
  let c8_i32_629 : BitVec 32 := 8#32
  let c0_i32_632 : BitVec 32 := 0#32
  let v1170 : BitVec 1 := Scalar.cmpi .sgt c8_i32_629 c0_i32_632
  let v1171 : BitVec 32 := Scalar.extui v1170
  let c0_i32_633 : BitVec 32 := 0#32
  let v1172 : BitVec 1 := Scalar.cmpi .slt c8_i32_629 c0_i32_633
  let v1173 : BitVec 32 := Scalar.extui v1172
  let v1174 : BitVec 32 := Scalar.subi v1171 v1173
  let v1175 : BitVec 1 := Scalar.cmpi .ne v1169 v1174
  let v1176 : BitVec 32 := Scalar.remsi v178 c8_i32_629
  let c0_i32_634 : BitVec 32 := 0#32
  let v1177 : BitVec 1 := Scalar.cmpi .ne v1176 c0_i32_634
  let v1178 : BitVec 1 := Scalar.andi v1175 v1177
  let v1164 : BitVec 32 := Scalar.divsi v178 c8_i32_629
  let c1_i32_635 : BitVec 32 := 1#32
  let v1179 : BitVec 32 := Scalar.subi v1164 c1_i32_635
  let v1180 : BitVec 32 := Scalar.select v1178 v1179 v1164
  let c1_i32_636 : BitVec 32 := 1#32
  let v1181 : BitVec 32 := Scalar.addi v1180 c1_i32_636
  let c2_i32_643 : BitVec 32 := 2#32
  let c2_i32_637 : BitVec 32 := 2#32
  let c0_i32_638 : BitVec 32 := 0#32
  let v1182 : BitVec 1 := Scalar.cmpi .eq c2_i32_637 c0_i32_638
  let c1_i32_639 : BitVec 32 := 1#32
  let v1183 : BitVec 32 := Scalar.select v1182 c1_i32_639 c2_i32_637
  let v1184 : BitVec 32 := Scalar.remsi v1180 v1183
  let c0_i32_641 : BitVec 32 := 0#32
  let v1186 : BitVec 1 := Scalar.cmpi .slt v1184 c0_i32_641
  let c0_i32_642 : BitVec 32 := 0#32
  let v1187 : BitVec 1 := Scalar.cmpi .slt v1183 c0_i32_642
  let v1188 : BitVec 1 := Scalar.xori v1186 v1187
  let c0_i32_640 : BitVec 32 := 0#32
  let v1185 : BitVec 1 := Scalar.cmpi .ne v1184 c0_i32_640
  let v1189 : BitVec 1 := Scalar.andi v1188 v1185
  let v1190 : BitVec 32 := Scalar.addi v1184 v1183
  let v1191 : BitVec 32 := Scalar.select v1189 v1190 v1184
  let v1192 : BitVec 32 := Scalar.muli c2_i32_643 v1191
  let v1193 : BitVec 32 := Scalar.subi v1181 v1192
  let c128_i32_644 : BitVec 32 := 128#32
  let v1194 : BitVec 32 := Scalar.muli v1193 c128_i32_644
  let v1197 : BitVec 32 := Scalar.subi v1196 v1194
  let v1198 : Index := Scalar.indexCast v1197
  let c0_647 : Index := 0#32
  ![v1198.toNat, 0]
def k0_off16 (d0 : Dev nD) : Fin 2 → Nat :=
  let c2_i32_645 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c16_i32 : BitVec 32 := 16#32
  let v117 : BitVec 32 := Scalar.muli v57 c16_i32
  let c2_i32_59 : BitVec 32 := 2#32
  let c0_i32_60 : BitVec 32 := 0#32
  let v118 : BitVec 1 := Scalar.cmpi .eq c2_i32_59 c0_i32_60
  let c1_i32_61 : BitVec 32 := 1#32
  let v119 : BitVec 32 := Scalar.select v118 c1_i32_61 c2_i32_59
  let v120 : BitVec 32 := Scalar.remsi v46 v119
  let c0_i32_63 : BitVec 32 := 0#32
  let v122 : BitVec 1 := Scalar.cmpi .slt v120 c0_i32_63
  let c0_i32_64 : BitVec 32 := 0#32
  let v123 : BitVec 1 := Scalar.cmpi .slt v119 c0_i32_64
  let v124 : BitVec 1 := Scalar.xori v122 v123
  let c0_i32_62 : BitVec 32 := 0#32
  let v121 : BitVec 1 := Scalar.cmpi .ne v120 c0_i32_62
  let v125 : BitVec 1 := Scalar.andi v124 v121
  let v126 : BitVec 32 := Scalar.addi v120 v119
  let v127 : BitVec 32 := Scalar.select v125 v126 v120
  let c8_i32_65 : BitVec 32 := 8#32
  let v128 : BitVec 32 := Scalar.muli v127 c8_i32_65
  let v129 : BitVec 32 := Scalar.addi v117 v128
  let c0_i32_67 : BitVec 32 := 0#32
  let v131 : BitVec 1 := Scalar.cmpi .sgt v46 c0_i32_67
  let v132 : BitVec 32 := Scalar.extui v131
  let c0_i32_68 : BitVec 32 := 0#32
  let v133 : BitVec 1 := Scalar.cmpi .slt v46 c0_i32_68
  let v134 : BitVec 32 := Scalar.extui v133
  let v135 : BitVec 32 := Scalar.subi v132 v134
  let c2_i32_66 : BitVec 32 := 2#32
  let c0_i32_69 : BitVec 32 := 0#32
  let v136 : BitVec 1 := Scalar.cmpi .sgt c2_i32_66 c0_i32_69
  let v137 : BitVec 32 := Scalar.extui v136
  let c0_i32_70 : BitVec 32 := 0#32
  let v138 : BitVec 1 := Scalar.cmpi .slt c2_i32_66 c0_i32_70
  let v139 : BitVec 32 := Scalar.extui v138
  let v140 : BitVec 32 := Scalar.subi v137 v139
  let v141 : BitVec 1 := Scalar.cmpi .ne v135 v140
  let v142 : BitVec 32 := Scalar.remsi v46 c2_i32_66
  let c0_i32_71 : BitVec 32 := 0#32
  let v143 : BitVec 1 := Scalar.cmpi .ne v142 c0_i32_71
  let v144 : BitVec 1 := Scalar.andi v141 v143
  let v130 : BitVec 32 := Scalar.divsi v46 c2_i32_66
  let c1_i32_72 : BitVec 32 := 1#32
  let v145 : BitVec 32 := Scalar.subi v130 c1_i32_72
  let v146 : BitVec 32 := Scalar.select v144 v145 v130
  let c4_i32_73 : BitVec 32 := 4#32
  let v147 : BitVec 32 := Scalar.muli v146 c4_i32_73
  let v148 : BitVec 32 := Scalar.addi v129 v147
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_74 : BitVec 32 := 2#32
  let c0_i32_75 : BitVec 32 := 0#32
  let v149 : BitVec 1 := Scalar.cmpi .eq c2_i32_74 c0_i32_75
  let c1_i32_76 : BitVec 32 := 1#32
  let v150 : BitVec 32 := Scalar.select v149 c1_i32_76 c2_i32_74
  let v151 : BitVec 32 := Scalar.remsi v19 v150
  let c0_i32_78 : BitVec 32 := 0#32
  let v153 : BitVec 1 := Scalar.cmpi .slt v151 c0_i32_78
  let c0_i32_79 : BitVec 32 := 0#32
  let v154 : BitVec 1 := Scalar.cmpi .slt v150 c0_i32_79
  let v155 : BitVec 1 := Scalar.xori v153 v154
  let c0_i32_77 : BitVec 32 := 0#32
  let v152 : BitVec 1 := Scalar.cmpi .ne v151 c0_i32_77
  let v156 : BitVec 1 := Scalar.andi v155 v152
  let v157 : BitVec 32 := Scalar.addi v151 v150
  let v158 : BitVec 32 := Scalar.select v156 v157 v151
  let c2_i32_80 : BitVec 32 := 2#32
  let v159 : BitVec 32 := Scalar.muli v158 c2_i32_80
  let v160 : BitVec 32 := Scalar.addi v148 v159
  let c0_i32_82 : BitVec 32 := 0#32
  let v162 : BitVec 1 := Scalar.cmpi .sgt v19 c0_i32_82
  let v163 : BitVec 32 := Scalar.extui v162
  let c0_i32_83 : BitVec 32 := 0#32
  let v164 : BitVec 1 := Scalar.cmpi .slt v19 c0_i32_83
  let v165 : BitVec 32 := Scalar.extui v164
  let v166 : BitVec 32 := Scalar.subi v163 v165
  let c2_i32_81 : BitVec 32 := 2#32
  let c0_i32_84 : BitVec 32 := 0#32
  let v167 : BitVec 1 := Scalar.cmpi .sgt c2_i32_81 c0_i32_84
  let v168 : BitVec 32 := Scalar.extui v167
  let c0_i32_85 : BitVec 32 := 0#32
  let v169 : BitVec 1 := Scalar.cmpi .slt c2_i32_81 c0_i32_85
  let v170 : BitVec 32 := Scalar.extui v169
  let v171 : BitVec 32 := Scalar.subi v168 v170
  let v172 : BitVec 1 := Scalar.cmpi .ne v166 v171
  let v173 : BitVec 32 := Scalar.remsi v19 c2_i32_81
  let c0_i32_86 : BitVec 32 := 0#32
  let v174 : BitVec 1 := Scalar.cmpi .ne v173 c0_i32_86
  let v175 : BitVec 1 := Scalar.andi v172 v174
  let v161 : BitVec 32 := Scalar.divsi v19 c2_i32_81
  let c1_i32_87 : BitVec 32 := 1#32
  let v176 : BitVec 32 := Scalar.subi v161 c1_i32_87
  let v177 : BitVec 32 := Scalar.select v175 v176 v161
  let v178 : BitVec 32 := Scalar.addi v160 v177
  let c0_i32_622 : BitVec 32 := 0#32
  let v1147 : BitVec 1 := Scalar.cmpi .sgt v178 c0_i32_622
  let v1148 : BitVec 32 := Scalar.extui v1147
  let c0_i32_623 : BitVec 32 := 0#32
  let v1149 : BitVec 1 := Scalar.cmpi .slt v178 c0_i32_623
  let v1150 : BitVec 32 := Scalar.extui v1149
  let v1151 : BitVec 32 := Scalar.subi v1148 v1150
  let c16_i32_621 : BitVec 32 := 16#32
  let c0_i32_624 : BitVec 32 := 0#32
  let v1152 : BitVec 1 := Scalar.cmpi .sgt c16_i32_621 c0_i32_624
  let v1153 : BitVec 32 := Scalar.extui v1152
  let c0_i32_625 : BitVec 32 := 0#32
  let v1154 : BitVec 1 := Scalar.cmpi .slt c16_i32_621 c0_i32_625
  let v1155 : BitVec 32 := Scalar.extui v1154
  let v1156 : BitVec 32 := Scalar.subi v1153 v1155
  let v1157 : BitVec 1 := Scalar.cmpi .ne v1151 v1156
  let v1158 : BitVec 32 := Scalar.remsi v178 c16_i32_621
  let c0_i32_626 : BitVec 32 := 0#32
  let v1159 : BitVec 1 := Scalar.cmpi .ne v1158 c0_i32_626
  let v1160 : BitVec 1 := Scalar.andi v1157 v1159
  let v1146 : BitVec 32 := Scalar.divsi v178 c16_i32_621
  let c1_i32_627 : BitVec 32 := 1#32
  let v1161 : BitVec 32 := Scalar.subi v1146 c1_i32_627
  let v1162 : BitVec 32 := Scalar.select v1160 v1161 v1146
  let c256_i32_628 : BitVec 32 := 256#32
  let v1163 : BitVec 32 := Scalar.muli v1162 c256_i32_628
  let v1195 : BitVec 32 := Scalar.muli c2_i32_645 v1163
  let c128_i32_646 : BitVec 32 := 128#32
  let v1196 : BitVec 32 := Scalar.addi v1195 c128_i32_646
  let c0_i32_630 : BitVec 32 := 0#32
  let v1165 : BitVec 1 := Scalar.cmpi .sgt v178 c0_i32_630
  let v1166 : BitVec 32 := Scalar.extui v1165
  let c0_i32_631 : BitVec 32 := 0#32
  let v1167 : BitVec 1 := Scalar.cmpi .slt v178 c0_i32_631
  let v1168 : BitVec 32 := Scalar.extui v1167
  let v1169 : BitVec 32 := Scalar.subi v1166 v1168
  let c8_i32_629 : BitVec 32 := 8#32
  let c0_i32_632 : BitVec 32 := 0#32
  let v1170 : BitVec 1 := Scalar.cmpi .sgt c8_i32_629 c0_i32_632
  let v1171 : BitVec 32 := Scalar.extui v1170
  let c0_i32_633 : BitVec 32 := 0#32
  let v1172 : BitVec 1 := Scalar.cmpi .slt c8_i32_629 c0_i32_633
  let v1173 : BitVec 32 := Scalar.extui v1172
  let v1174 : BitVec 32 := Scalar.subi v1171 v1173
  let v1175 : BitVec 1 := Scalar.cmpi .ne v1169 v1174
  let v1176 : BitVec 32 := Scalar.remsi v178 c8_i32_629
  let c0_i32_634 : BitVec 32 := 0#32
  let v1177 : BitVec 1 := Scalar.cmpi .ne v1176 c0_i32_634
  let v1178 : BitVec 1 := Scalar.andi v1175 v1177
  let v1164 : BitVec 32 := Scalar.divsi v178 c8_i32_629
  let c1_i32_635 : BitVec 32 := 1#32
  let v1179 : BitVec 32 := Scalar.subi v1164 c1_i32_635
  let v1180 : BitVec 32 := Scalar.select v1178 v1179 v1164
  let c1_i32_636 : BitVec 32 := 1#32
  let v1181 : BitVec 32 := Scalar.addi v1180 c1_i32_636
  let c2_i32_643 : BitVec 32 := 2#32
  let c2_i32_637 : BitVec 32 := 2#32
  let c0_i32_638 : BitVec 32 := 0#32
  let v1182 : BitVec 1 := Scalar.cmpi .eq c2_i32_637 c0_i32_638
  let c1_i32_639 : BitVec 32 := 1#32
  let v1183 : BitVec 32 := Scalar.select v1182 c1_i32_639 c2_i32_637
  let v1184 : BitVec 32 := Scalar.remsi v1180 v1183
  let c0_i32_641 : BitVec 32 := 0#32
  let v1186 : BitVec 1 := Scalar.cmpi .slt v1184 c0_i32_641
  let c0_i32_642 : BitVec 32 := 0#32
  let v1187 : BitVec 1 := Scalar.cmpi .slt v1183 c0_i32_642
  let v1188 : BitVec 1 := Scalar.xori v1186 v1187
  let c0_i32_640 : BitVec 32 := 0#32
  let v1185 : BitVec 1 := Scalar.cmpi .ne v1184 c0_i32_640
  let v1189 : BitVec 1 := Scalar.andi v1188 v1185
  let v1190 : BitVec 32 := Scalar.addi v1184 v1183
  let v1191 : BitVec 32 := Scalar.select v1189 v1190 v1184
  let v1192 : BitVec 32 := Scalar.muli c2_i32_643 v1191
  let v1193 : BitVec 32 := Scalar.subi v1181 v1192
  let c128_i32_644 : BitVec 32 := 128#32
  let v1194 : BitVec 32 := Scalar.muli v1193 c128_i32_644
  let v1197 : BitVec 32 := Scalar.subi v1196 v1194
  let v1200 : BitVec 32 := Scalar.subi v1197 v1163
  let v1201 : Index := Scalar.indexCast v1200
  let c0_648 : Index := 0#32
  ![v1201.toNat, 0]
def k0_off17 (d0 : Dev nD) : Fin 2 → Nat :=
  let c2_i32_685 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_179 : BitVec 32 := 2#32
  let c0_i32_180 : BitVec 32 := 0#32
  let v357 : BitVec 1 := Scalar.cmpi .eq c2_i32_179 c0_i32_180
  let c1_i32_181 : BitVec 32 := 1#32
  let v358 : BitVec 32 := Scalar.select v357 c1_i32_181 c2_i32_179
  let v359 : BitVec 32 := Scalar.remsi v46 v358
  let c0_i32_183 : BitVec 32 := 0#32
  let v361 : BitVec 1 := Scalar.cmpi .slt v359 c0_i32_183
  let c0_i32_184 : BitVec 32 := 0#32
  let v362 : BitVec 1 := Scalar.cmpi .slt v358 c0_i32_184
  let v363 : BitVec 1 := Scalar.xori v361 v362
  let c0_i32_182 : BitVec 32 := 0#32
  let v360 : BitVec 1 := Scalar.cmpi .ne v359 c0_i32_182
  let v364 : BitVec 1 := Scalar.andi v363 v360
  let v365 : BitVec 32 := Scalar.addi v359 v358
  let v366 : BitVec 32 := Scalar.select v364 v365 v359
  let c16_i32_185 : BitVec 32 := 16#32
  let v367 : BitVec 32 := Scalar.muli v366 c16_i32_185
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_186 : BitVec 32 := 2#32
  let c0_i32_187 : BitVec 32 := 0#32
  let v368 : BitVec 1 := Scalar.cmpi .eq c2_i32_186 c0_i32_187
  let c1_i32_188 : BitVec 32 := 1#32
  let v369 : BitVec 32 := Scalar.select v368 c1_i32_188 c2_i32_186
  let v370 : BitVec 32 := Scalar.remsi v19 v369
  let c0_i32_190 : BitVec 32 := 0#32
  let v372 : BitVec 1 := Scalar.cmpi .slt v370 c0_i32_190
  let c0_i32_191 : BitVec 32 := 0#32
  let v373 : BitVec 1 := Scalar.cmpi .slt v369 c0_i32_191
  let v374 : BitVec 1 := Scalar.xori v372 v373
  let c0_i32_189 : BitVec 32 := 0#32
  let v371 : BitVec 1 := Scalar.cmpi .ne v370 c0_i32_189
  let v375 : BitVec 1 := Scalar.andi v374 v371
  let v376 : BitVec 32 := Scalar.addi v370 v369
  let v377 : BitVec 32 := Scalar.select v375 v376 v370
  let c8_i32_192 : BitVec 32 := 8#32
  let v378 : BitVec 32 := Scalar.muli v377 c8_i32_192
  let v379 : BitVec 32 := Scalar.addi v367 v378
  let c0_i32_194 : BitVec 32 := 0#32
  let v381 : BitVec 1 := Scalar.cmpi .sgt v19 c0_i32_194
  let v382 : BitVec 32 := Scalar.extui v381
  let c0_i32_195 : BitVec 32 := 0#32
  let v383 : BitVec 1 := Scalar.cmpi .slt v19 c0_i32_195
  let v384 : BitVec 32 := Scalar.extui v383
  let v385 : BitVec 32 := Scalar.subi v382 v384
  let c2_i32_193 : BitVec 32 := 2#32
  let c0_i32_196 : BitVec 32 := 0#32
  let v386 : BitVec 1 := Scalar.cmpi .sgt c2_i32_193 c0_i32_196
  let v387 : BitVec 32 := Scalar.extui v386
  let c0_i32_197 : BitVec 32 := 0#32
  let v388 : BitVec 1 := Scalar.cmpi .slt c2_i32_193 c0_i32_197
  let v389 : BitVec 32 := Scalar.extui v388
  let v390 : BitVec 32 := Scalar.subi v387 v389
  let v391 : BitVec 1 := Scalar.cmpi .ne v385 v390
  let v392 : BitVec 32 := Scalar.remsi v19 c2_i32_193
  let c0_i32_198 : BitVec 32 := 0#32
  let v393 : BitVec 1 := Scalar.cmpi .ne v392 c0_i32_198
  let v394 : BitVec 1 := Scalar.andi v391 v393
  let v380 : BitVec 32 := Scalar.divsi v19 c2_i32_193
  let c1_i32_199 : BitVec 32 := 1#32
  let v395 : BitVec 32 := Scalar.subi v380 c1_i32_199
  let v396 : BitVec 32 := Scalar.select v394 v395 v380
  let c4_i32_200 : BitVec 32 := 4#32
  let v397 : BitVec 32 := Scalar.muli v396 c4_i32_200
  let v398 : BitVec 32 := Scalar.addi v379 v397
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_201 : BitVec 32 := 2#32
  let v399 : BitVec 32 := Scalar.muli v57 c2_i32_201
  let v400 : BitVec 32 := Scalar.addi v398 v399
  let c0_i32_203 : BitVec 32 := 0#32
  let v402 : BitVec 1 := Scalar.cmpi .sgt v46 c0_i32_203
  let v403 : BitVec 32 := Scalar.extui v402
  let c0_i32_204 : BitVec 32 := 0#32
  let v404 : BitVec 1 := Scalar.cmpi .slt v46 c0_i32_204
  let v405 : BitVec 32 := Scalar.extui v404
  let v406 : BitVec 32 := Scalar.subi v403 v405
  let c2_i32_202 : BitVec 32 := 2#32
  let c0_i32_205 : BitVec 32 := 0#32
  let v407 : BitVec 1 := Scalar.cmpi .sgt c2_i32_202 c0_i32_205
  let v408 : BitVec 32 := Scalar.extui v407
  let c0_i32_206 : BitVec 32 := 0#32
  let v409 : BitVec 1 := Scalar.cmpi .slt c2_i32_202 c0_i32_206
  let v410 : BitVec 32 := Scalar.extui v409
  let v411 : BitVec 32 := Scalar.subi v408 v410
  let v412 : BitVec 1 := Scalar.cmpi .ne v406 v411
  let v413 : BitVec 32 := Scalar.remsi v46 c2_i32_202
  let c0_i32_207 : BitVec 32 := 0#32
  let v414 : BitVec 1 := Scalar.cmpi .ne v413 c0_i32_207
  let v415 : BitVec 1 := Scalar.andi v412 v414
  let v401 : BitVec 32 := Scalar.divsi v46 c2_i32_202
  let c1_i32_208 : BitVec 32 := 1#32
  let v416 : BitVec 32 := Scalar.subi v401 c1_i32_208
  let v417 : BitVec 32 := Scalar.select v415 v416 v401
  let v418 : BitVec 32 := Scalar.addi v400 v417
  let c0_i32_662 : BitVec 32 := 0#32
  let v1219 : BitVec 1 := Scalar.cmpi .sgt v418 c0_i32_662
  let v1220 : BitVec 32 := Scalar.extui v1219
  let c0_i32_663 : BitVec 32 := 0#32
  let v1221 : BitVec 1 := Scalar.cmpi .slt v418 c0_i32_663
  let v1222 : BitVec 32 := Scalar.extui v1221
  let v1223 : BitVec 32 := Scalar.subi v1220 v1222
  let c16_i32_661 : BitVec 32 := 16#32
  let c0_i32_664 : BitVec 32 := 0#32
  let v1224 : BitVec 1 := Scalar.cmpi .sgt c16_i32_661 c0_i32_664
  let v1225 : BitVec 32 := Scalar.extui v1224
  let c0_i32_665 : BitVec 32 := 0#32
  let v1226 : BitVec 1 := Scalar.cmpi .slt c16_i32_661 c0_i32_665
  let v1227 : BitVec 32 := Scalar.extui v1226
  let v1228 : BitVec 32 := Scalar.subi v1225 v1227
  let v1229 : BitVec 1 := Scalar.cmpi .ne v1223 v1228
  let v1230 : BitVec 32 := Scalar.remsi v418 c16_i32_661
  let c0_i32_666 : BitVec 32 := 0#32
  let v1231 : BitVec 1 := Scalar.cmpi .ne v1230 c0_i32_666
  let v1232 : BitVec 1 := Scalar.andi v1229 v1231
  let v1218 : BitVec 32 := Scalar.divsi v418 c16_i32_661
  let c1_i32_667 : BitVec 32 := 1#32
  let v1233 : BitVec 32 := Scalar.subi v1218 c1_i32_667
  let v1234 : BitVec 32 := Scalar.select v1232 v1233 v1218
  let c256_i32_668 : BitVec 32 := 256#32
  let v1235 : BitVec 32 := Scalar.muli v1234 c256_i32_668
  let v1267 : BitVec 32 := Scalar.muli c2_i32_685 v1235
  let c128_i32_686 : BitVec 32 := 128#32
  let v1268 : BitVec 32 := Scalar.addi v1267 c128_i32_686
  let c0_i32_670 : BitVec 32 := 0#32
  let v1237 : BitVec 1 := Scalar.cmpi .sgt v418 c0_i32_670
  let v1238 : BitVec 32 := Scalar.extui v1237
  let c0_i32_671 : BitVec 32 := 0#32
  let v1239 : BitVec 1 := Scalar.cmpi .slt v418 c0_i32_671
  let v1240 : BitVec 32 := Scalar.extui v1239
  let v1241 : BitVec 32 := Scalar.subi v1238 v1240
  let c8_i32_669 : BitVec 32 := 8#32
  let c0_i32_672 : BitVec 32 := 0#32
  let v1242 : BitVec 1 := Scalar.cmpi .sgt c8_i32_669 c0_i32_672
  let v1243 : BitVec 32 := Scalar.extui v1242
  let c0_i32_673 : BitVec 32 := 0#32
  let v1244 : BitVec 1 := Scalar.cmpi .slt c8_i32_669 c0_i32_673
  let v1245 : BitVec 32 := Scalar.extui v1244
  let v1246 : BitVec 32 := Scalar.subi v1243 v1245
  let v1247 : BitVec 1 := Scalar.cmpi .ne v1241 v1246
  let v1248 : BitVec 32 := Scalar.remsi v418 c8_i32_669
  let c0_i32_674 : BitVec 32 := 0#32
  let v1249 : BitVec 1 := Scalar.cmpi .ne v1248 c0_i32_674
  let v1250 : BitVec 1 := Scalar.andi v1247 v1249
  let v1236 : BitVec 32 := Scalar.divsi v418 c8_i32_669
  let c1_i32_675 : BitVec 32 := 1#32
  let v1251 : BitVec 32 := Scalar.subi v1236 c1_i32_675
  let v1252 : BitVec 32 := Scalar.select v1250 v1251 v1236
  let c1_i32_676 : BitVec 32 := 1#32
  let v1253 : BitVec 32 := Scalar.addi v1252 c1_i32_676
  let c2_i32_683 : BitVec 32 := 2#32
  let c2_i32_677 : BitVec 32 := 2#32
  let c0_i32_678 : BitVec 32 := 0#32
  let v1254 : BitVec 1 := Scalar.cmpi .eq c2_i32_677 c0_i32_678
  let c1_i32_679 : BitVec 32 := 1#32
  let v1255 : BitVec 32 := Scalar.select v1254 c1_i32_679 c2_i32_677
  let v1256 : BitVec 32 := Scalar.remsi v1252 v1255
  let c0_i32_681 : BitVec 32 := 0#32
  let v1258 : BitVec 1 := Scalar.cmpi .slt v1256 c0_i32_681
  let c0_i32_682 : BitVec 32 := 0#32
  let v1259 : BitVec 1 := Scalar.cmpi .slt v1255 c0_i32_682
  let v1260 : BitVec 1 := Scalar.xori v1258 v1259
  let c0_i32_680 : BitVec 32 := 0#32
  let v1257 : BitVec 1 := Scalar.cmpi .ne v1256 c0_i32_680
  let v1261 : BitVec 1 := Scalar.andi v1260 v1257
  let v1262 : BitVec 32 := Scalar.addi v1256 v1255
  let v1263 : BitVec 32 := Scalar.select v1261 v1262 v1256
  let v1264 : BitVec 32 := Scalar.muli c2_i32_683 v1263
  let v1265 : BitVec 32 := Scalar.subi v1253 v1264
  let c128_i32_684 : BitVec 32 := 128#32
  let v1266 : BitVec 32 := Scalar.muli v1265 c128_i32_684
  let v1269 : BitVec 32 := Scalar.subi v1268 v1266
  let v1270 : Index := Scalar.indexCast v1269
  let c0_687 : Index := 0#32
  ![v1270.toNat, 0]
def k0_off18 (d0 : Dev nD) : Fin 2 → Nat :=
  let c2_i32_685 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_179 : BitVec 32 := 2#32
  let c0_i32_180 : BitVec 32 := 0#32
  let v357 : BitVec 1 := Scalar.cmpi .eq c2_i32_179 c0_i32_180
  let c1_i32_181 : BitVec 32 := 1#32
  let v358 : BitVec 32 := Scalar.select v357 c1_i32_181 c2_i32_179
  let v359 : BitVec 32 := Scalar.remsi v46 v358
  let c0_i32_183 : BitVec 32 := 0#32
  let v361 : BitVec 1 := Scalar.cmpi .slt v359 c0_i32_183
  let c0_i32_184 : BitVec 32 := 0#32
  let v362 : BitVec 1 := Scalar.cmpi .slt v358 c0_i32_184
  let v363 : BitVec 1 := Scalar.xori v361 v362
  let c0_i32_182 : BitVec 32 := 0#32
  let v360 : BitVec 1 := Scalar.cmpi .ne v359 c0_i32_182
  let v364 : BitVec 1 := Scalar.andi v363 v360
  let v365 : BitVec 32 := Scalar.addi v359 v358
  let v366 : BitVec 32 := Scalar.select v364 v365 v359
  let c16_i32_185 : BitVec 32 := 16#32
  let v367 : BitVec 32 := Scalar.muli v366 c16_i32_185
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_186 : BitVec 32 := 2#32
  let c0_i32_187 : BitVec 32 := 0#32
  let v368 : BitVec 1 := Scalar.cmpi .eq c2_i32_186 c0_i32_187
  let c1_i32_188 : BitVec 32 := 1#32
  let v369 : BitVec 32 := Scalar.select v368 c1_i32_188 c2_i32_186
  let v370 : BitVec 32 := Scalar.remsi v19 v369
  let c0_i32_190 : BitVec 32 := 0#32
  let v372 : BitVec 1 := Scalar.cmpi .slt v370 c0_i32_190
  let c0_i32_191 : BitVec 32 := 0#32
  let v373 : BitVec 1 := Scalar.cmpi .slt v369 c0_i32_191
  let v374 : BitVec 1 := Scalar.xori v372 v373
  let c0_i32_189 : BitVec 32 := 0#32
  let v371 : BitVec 1 := Scalar.cmpi .ne v370 c0_i32_189
  let v375 : BitVec 1 := Scalar.andi v374 v371
  let v376 : BitVec 32 := Scalar.addi v370 v369
  let v377 : BitVec 32 := Scalar.select v375 v376 v370
  let c8_i32_192 : BitVec 32 := 8#32
  let v378 : BitVec 32 := Scalar.muli v377 c8_i32_192
  let v379 : BitVec 32 := Scalar.addi v367 v378
  let c0_i32_194 : BitVec 32 := 0#32
  let v381 : BitVec 1 := Scalar.cmpi .sgt v19 c0_i32_194
  let v382 : BitVec 32 := Scalar.extui v381
  let c0_i32_195 : BitVec 32 := 0#32
  let v383 : BitVec 1 := Scalar.cmpi .slt v19 c0_i32_195
  let v384 : BitVec 32 := Scalar.extui v383
  let v385 : BitVec 32 := Scalar.subi v382 v384
  let c2_i32_193 : BitVec 32 := 2#32
  let c0_i32_196 : BitVec 32 := 0#32
  let v386 : BitVec 1 := Scalar.cmpi .sgt c2_i32_193 c0_i32_196
  let v387 : BitVec 32 := Scalar.extui v386
  let c0_i32_197 : BitVec 32 := 0#32
  let v388 : BitVec 1 := Scalar.cmpi .slt c2_i32_193 c0_i32_197
  let v389 : BitVec 32 := Scalar.extui v388
  let v390 : BitVec 32 := Scalar.subi v387 v389
  let v391 : BitVec 1 := Scalar.cmpi .ne v385 v390
  let v392 : BitVec 32 := Scalar.remsi v19 c2_i32_193
  let c0_i32_198 : BitVec 32 := 0#32
  let v393 : BitVec 1 := Scalar.cmpi .ne v392 c0_i32_198
  let v394 : BitVec 1 := Scalar.andi v391 v393
  let v380 : BitVec 32 := Scalar.divsi v19 c2_i32_193
  let c1_i32_199 : BitVec 32 := 1#32
  let v395 : BitVec 32 := Scalar.subi v380 c1_i32_199
  let v396 : BitVec 32 := Scalar.select v394 v395 v380
  let c4_i32_200 : BitVec 32 := 4#32
  let v397 : BitVec 32 := Scalar.muli v396 c4_i32_200
  let v398 : BitVec 32 := Scalar.addi v379 v397
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_201 : BitVec 32 := 2#32
  let v399 : BitVec 32 := Scalar.muli v57 c2_i32_201
  let v400 : BitVec 32 := Scalar.addi v398 v399
  let c0_i32_203 : BitVec 32 := 0#32
  let v402 : BitVec 1 := Scalar.cmpi .sgt v46 c0_i32_203
  let v403 : BitVec 32 := Scalar.extui v402
  let c0_i32_204 : BitVec 32 := 0#32
  let v404 : BitVec 1 := Scalar.cmpi .slt v46 c0_i32_204
  let v405 : BitVec 32 := Scalar.extui v404
  let v406 : BitVec 32 := Scalar.subi v403 v405
  let c2_i32_202 : BitVec 32 := 2#32
  let c0_i32_205 : BitVec 32 := 0#32
  let v407 : BitVec 1 := Scalar.cmpi .sgt c2_i32_202 c0_i32_205
  let v408 : BitVec 32 := Scalar.extui v407
  let c0_i32_206 : BitVec 32 := 0#32
  let v409 : BitVec 1 := Scalar.cmpi .slt c2_i32_202 c0_i32_206
  let v410 : BitVec 32 := Scalar.extui v409
  let v411 : BitVec 32 := Scalar.subi v408 v410
  let v412 : BitVec 1 := Scalar.cmpi .ne v406 v411
  let v413 : BitVec 32 := Scalar.remsi v46 c2_i32_202
  let c0_i32_207 : BitVec 32 := 0#32
  let v414 : BitVec 1 := Scalar.cmpi .ne v413 c0_i32_207
  let v415 : BitVec 1 := Scalar.andi v412 v414
  let v401 : BitVec 32 := Scalar.divsi v46 c2_i32_202
  let c1_i32_208 : BitVec 32 := 1#32
  let v416 : BitVec 32 := Scalar.subi v401 c1_i32_208
  let v417 : BitVec 32 := Scalar.select v415 v416 v401
  let v418 : BitVec 32 := Scalar.addi v400 v417
  let c0_i32_662 : BitVec 32 := 0#32
  let v1219 : BitVec 1 := Scalar.cmpi .sgt v418 c0_i32_662
  let v1220 : BitVec 32 := Scalar.extui v1219
  let c0_i32_663 : BitVec 32 := 0#32
  let v1221 : BitVec 1 := Scalar.cmpi .slt v418 c0_i32_663
  let v1222 : BitVec 32 := Scalar.extui v1221
  let v1223 : BitVec 32 := Scalar.subi v1220 v1222
  let c16_i32_661 : BitVec 32 := 16#32
  let c0_i32_664 : BitVec 32 := 0#32
  let v1224 : BitVec 1 := Scalar.cmpi .sgt c16_i32_661 c0_i32_664
  let v1225 : BitVec 32 := Scalar.extui v1224
  let c0_i32_665 : BitVec 32 := 0#32
  let v1226 : BitVec 1 := Scalar.cmpi .slt c16_i32_661 c0_i32_665
  let v1227 : BitVec 32 := Scalar.extui v1226
  let v1228 : BitVec 32 := Scalar.subi v1225 v1227
  let v1229 : BitVec 1 := Scalar.cmpi .ne v1223 v1228
  let v1230 : BitVec 32 := Scalar.remsi v418 c16_i32_661
  let c0_i32_666 : BitVec 32 := 0#32
  let v1231 : BitVec 1 := Scalar.cmpi .ne v1230 c0_i32_666
  let v1232 : BitVec 1 := Scalar.andi v1229 v1231
  let v1218 : BitVec 32 := Scalar.divsi v418 c16_i32_661
  let c1_i32_667 : BitVec 32 := 1#32
  let v1233 : BitVec 32 := Scalar.subi v1218 c1_i32_667
  let v1234 : BitVec 32 := Scalar.select v1232 v1233 v1218
  let c256_i32_668 : BitVec 32 := 256#32
  let v1235 : BitVec 32 := Scalar.muli v1234 c256_i32_668
  let v1267 : BitVec 32 := Scalar.muli c2_i32_685 v1235
  let c128_i32_686 : BitVec 32 := 128#32
  let v1268 : BitVec 32 := Scalar.addi v1267 c128_i32_686
  let c0_i32_670 : BitVec 32 := 0#32
  let v1237 : BitVec 1 := Scalar.cmpi .sgt v418 c0_i32_670
  let v1238 : BitVec 32 := Scalar.extui v1237
  let c0_i32_671 : BitVec 32 := 0#32
  let v1239 : BitVec 1 := Scalar.cmpi .slt v418 c0_i32_671
  let v1240 : BitVec 32 := Scalar.extui v1239
  let v1241 : BitVec 32 := Scalar.subi v1238 v1240
  let c8_i32_669 : BitVec 32 := 8#32
  let c0_i32_672 : BitVec 32 := 0#32
  let v1242 : BitVec 1 := Scalar.cmpi .sgt c8_i32_669 c0_i32_672
  let v1243 : BitVec 32 := Scalar.extui v1242
  let c0_i32_673 : BitVec 32 := 0#32
  let v1244 : BitVec 1 := Scalar.cmpi .slt c8_i32_669 c0_i32_673
  let v1245 : BitVec 32 := Scalar.extui v1244
  let v1246 : BitVec 32 := Scalar.subi v1243 v1245
  let v1247 : BitVec 1 := Scalar.cmpi .ne v1241 v1246
  let v1248 : BitVec 32 := Scalar.remsi v418 c8_i32_669
  let c0_i32_674 : BitVec 32 := 0#32
  let v1249 : BitVec 1 := Scalar.cmpi .ne v1248 c0_i32_674
  let v1250 : BitVec 1 := Scalar.andi v1247 v1249
  let v1236 : BitVec 32 := Scalar.divsi v418 c8_i32_669
  let c1_i32_675 : BitVec 32 := 1#32
  let v1251 : BitVec 32 := Scalar.subi v1236 c1_i32_675
  let v1252 : BitVec 32 := Scalar.select v1250 v1251 v1236
  let c1_i32_676 : BitVec 32 := 1#32
  let v1253 : BitVec 32 := Scalar.addi v1252 c1_i32_676
  let c2_i32_683 : BitVec 32 := 2#32
  let c2_i32_677 : BitVec 32 := 2#32
  let c0_i32_678 : BitVec 32 := 0#32
  let v1254 : BitVec 1 := Scalar.cmpi .eq c2_i32_677 c0_i32_678
  let c1_i32_679 : BitVec 32 := 1#32
  let v1255 : BitVec 32 := Scalar.select v1254 c1_i32_679 c2_i32_677
  let v1256 : BitVec 32 := Scalar.remsi v1252 v1255
  let c0_i32_681 : BitVec 32 := 0#32
  let v1258 : BitVec 1 := Scalar.cmpi .slt v1256 c0_i32_681
  let c0_i32_682 : BitVec 32 := 0#32
  let v1259 : BitVec 1 := Scalar.cmpi .slt v1255 c0_i32_682
  let v1260 : BitVec 1 := Scalar.xori v1258 v1259
  let c0_i32_680 : BitVec 32 := 0#32
  let v1257 : BitVec 1 := Scalar.cmpi .ne v1256 c0_i32_680
  let v1261 : BitVec 1 := Scalar.andi v1260 v1257
  let v1262 : BitVec 32 := Scalar.addi v1256 v1255
  let v1263 : BitVec 32 := Scalar.select v1261 v1262 v1256
  let v1264 : BitVec 32 := Scalar.muli c2_i32_683 v1263
  let v1265 : BitVec 32 := Scalar.subi v1253 v1264
  let c128_i32_684 : BitVec 32 := 128#32
  let v1266 : BitVec 32 := Scalar.muli v1265 c128_i32_684
  let v1269 : BitVec 32 := Scalar.subi v1268 v1266
  let v1272 : BitVec 32 := Scalar.subi v1269 v1235
  let v1273 : Index := Scalar.indexCast v1272
  let c0_688 : Index := 0#32
  ![v1273.toNat, 0]
def k0_off19 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c16_i32 : BitVec 32 := 16#32
  let v117 : BitVec 32 := Scalar.muli v57 c16_i32
  let c2_i32_59 : BitVec 32 := 2#32
  let c0_i32_60 : BitVec 32 := 0#32
  let v118 : BitVec 1 := Scalar.cmpi .eq c2_i32_59 c0_i32_60
  let c1_i32_61 : BitVec 32 := 1#32
  let v119 : BitVec 32 := Scalar.select v118 c1_i32_61 c2_i32_59
  let v120 : BitVec 32 := Scalar.remsi v46 v119
  let c0_i32_63 : BitVec 32 := 0#32
  let v122 : BitVec 1 := Scalar.cmpi .slt v120 c0_i32_63
  let c0_i32_64 : BitVec 32 := 0#32
  let v123 : BitVec 1 := Scalar.cmpi .slt v119 c0_i32_64
  let v124 : BitVec 1 := Scalar.xori v122 v123
  let c0_i32_62 : BitVec 32 := 0#32
  let v121 : BitVec 1 := Scalar.cmpi .ne v120 c0_i32_62
  let v125 : BitVec 1 := Scalar.andi v124 v121
  let v126 : BitVec 32 := Scalar.addi v120 v119
  let v127 : BitVec 32 := Scalar.select v125 v126 v120
  let c8_i32_65 : BitVec 32 := 8#32
  let v128 : BitVec 32 := Scalar.muli v127 c8_i32_65
  let v129 : BitVec 32 := Scalar.addi v117 v128
  let c0_i32_67 : BitVec 32 := 0#32
  let v131 : BitVec 1 := Scalar.cmpi .sgt v46 c0_i32_67
  let v132 : BitVec 32 := Scalar.extui v131
  let c0_i32_68 : BitVec 32 := 0#32
  let v133 : BitVec 1 := Scalar.cmpi .slt v46 c0_i32_68
  let v134 : BitVec 32 := Scalar.extui v133
  let v135 : BitVec 32 := Scalar.subi v132 v134
  let c2_i32_66 : BitVec 32 := 2#32
  let c0_i32_69 : BitVec 32 := 0#32
  let v136 : BitVec 1 := Scalar.cmpi .sgt c2_i32_66 c0_i32_69
  let v137 : BitVec 32 := Scalar.extui v136
  let c0_i32_70 : BitVec 32 := 0#32
  let v138 : BitVec 1 := Scalar.cmpi .slt c2_i32_66 c0_i32_70
  let v139 : BitVec 32 := Scalar.extui v138
  let v140 : BitVec 32 := Scalar.subi v137 v139
  let v141 : BitVec 1 := Scalar.cmpi .ne v135 v140
  let v142 : BitVec 32 := Scalar.remsi v46 c2_i32_66
  let c0_i32_71 : BitVec 32 := 0#32
  let v143 : BitVec 1 := Scalar.cmpi .ne v142 c0_i32_71
  let v144 : BitVec 1 := Scalar.andi v141 v143
  let v130 : BitVec 32 := Scalar.divsi v46 c2_i32_66
  let c1_i32_72 : BitVec 32 := 1#32
  let v145 : BitVec 32 := Scalar.subi v130 c1_i32_72
  let v146 : BitVec 32 := Scalar.select v144 v145 v130
  let c4_i32_73 : BitVec 32 := 4#32
  let v147 : BitVec 32 := Scalar.muli v146 c4_i32_73
  let v148 : BitVec 32 := Scalar.addi v129 v147
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_74 : BitVec 32 := 2#32
  let c0_i32_75 : BitVec 32 := 0#32
  let v149 : BitVec 1 := Scalar.cmpi .eq c2_i32_74 c0_i32_75
  let c1_i32_76 : BitVec 32 := 1#32
  let v150 : BitVec 32 := Scalar.select v149 c1_i32_76 c2_i32_74
  let v151 : BitVec 32 := Scalar.remsi v19 v150
  let c0_i32_78 : BitVec 32 := 0#32
  let v153 : BitVec 1 := Scalar.cmpi .slt v151 c0_i32_78
  let c0_i32_79 : BitVec 32 := 0#32
  let v154 : BitVec 1 := Scalar.cmpi .slt v150 c0_i32_79
  let v155 : BitVec 1 := Scalar.xori v153 v154
  let c0_i32_77 : BitVec 32 := 0#32
  let v152 : BitVec 1 := Scalar.cmpi .ne v151 c0_i32_77
  let v156 : BitVec 1 := Scalar.andi v155 v152
  let v157 : BitVec 32 := Scalar.addi v151 v150
  let v158 : BitVec 32 := Scalar.select v156 v157 v151
  let c2_i32_80 : BitVec 32 := 2#32
  let v159 : BitVec 32 := Scalar.muli v158 c2_i32_80
  let v160 : BitVec 32 := Scalar.addi v148 v159
  let c0_i32_82 : BitVec 32 := 0#32
  let v162 : BitVec 1 := Scalar.cmpi .sgt v19 c0_i32_82
  let v163 : BitVec 32 := Scalar.extui v162
  let c0_i32_83 : BitVec 32 := 0#32
  let v164 : BitVec 1 := Scalar.cmpi .slt v19 c0_i32_83
  let v165 : BitVec 32 := Scalar.extui v164
  let v166 : BitVec 32 := Scalar.subi v163 v165
  let c2_i32_81 : BitVec 32 := 2#32
  let c0_i32_84 : BitVec 32 := 0#32
  let v167 : BitVec 1 := Scalar.cmpi .sgt c2_i32_81 c0_i32_84
  let v168 : BitVec 32 := Scalar.extui v167
  let c0_i32_85 : BitVec 32 := 0#32
  let v169 : BitVec 1 := Scalar.cmpi .slt c2_i32_81 c0_i32_85
  let v170 : BitVec 32 := Scalar.extui v169
  let v171 : BitVec 32 := Scalar.subi v168 v170
  let v172 : BitVec 1 := Scalar.cmpi .ne v166 v171
  let v173 : BitVec 32 := Scalar.remsi v19 c2_i32_81
  let c0_i32_86 : BitVec 32 := 0#32
  let v174 : BitVec 1 := Scalar.cmpi .ne v173 c0_i32_86
  let v175 : BitVec 1 := Scalar.andi v172 v174
  let v161 : BitVec 32 := Scalar.divsi v19 c2_i32_81
  let c1_i32_87 : BitVec 32 := 1#32
  let v176 : BitVec 32 := Scalar.subi v161 c1_i32_87
  let v177 : BitVec 32 := Scalar.select v175 v176 v161
  let v178 : BitVec 32 := Scalar.addi v160 v177
  let c0_i32_704 : BitVec 32 := 0#32
  let v1291 : BitVec 1 := Scalar.cmpi .sgt v178 c0_i32_704
  let v1292 : BitVec 32 := Scalar.extui v1291
  let c0_i32_705 : BitVec 32 := 0#32
  let v1293 : BitVec 1 := Scalar.cmpi .slt v178 c0_i32_705
  let v1294 : BitVec 32 := Scalar.extui v1293
  let v1295 : BitVec 32 := Scalar.subi v1292 v1294
  let c8_i32_703 : BitVec 32 := 8#32
  let c0_i32_706 : BitVec 32 := 0#32
  let v1296 : BitVec 1 := Scalar.cmpi .sgt c8_i32_703 c0_i32_706
  let v1297 : BitVec 32 := Scalar.extui v1296
  let c0_i32_707 : BitVec 32 := 0#32
  let v1298 : BitVec 1 := Scalar.cmpi .slt c8_i32_703 c0_i32_707
  let v1299 : BitVec 32 := Scalar.extui v1298
  let v1300 : BitVec 32 := Scalar.subi v1297 v1299
  let v1301 : BitVec 1 := Scalar.cmpi .ne v1295 v1300
  let v1302 : BitVec 32 := Scalar.remsi v178 c8_i32_703
  let c0_i32_708 : BitVec 32 := 0#32
  let v1303 : BitVec 1 := Scalar.cmpi .ne v1302 c0_i32_708
  let v1304 : BitVec 1 := Scalar.andi v1301 v1303
  let v1290 : BitVec 32 := Scalar.divsi v178 c8_i32_703
  let c1_i32_709 : BitVec 32 := 1#32
  let v1305 : BitVec 32 := Scalar.subi v1290 c1_i32_709
  let v1306 : BitVec 32 := Scalar.select v1304 v1305 v1290
  let c128_i32_710 : BitVec 32 := 128#32
  let v1307 : BitVec 32 := Scalar.muli v1306 c128_i32_710
  let v1308 : Index := Scalar.indexCast v1307
  let c0_711 : Index := 0#32
  ![v1308.toNat, 0]
def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c16_i32 : BitVec 32 := 16#32
  let v117 : BitVec 32 := Scalar.muli v57 c16_i32
  let c2_i32_59 : BitVec 32 := 2#32
  let c0_i32_60 : BitVec 32 := 0#32
  let v118 : BitVec 1 := Scalar.cmpi .eq c2_i32_59 c0_i32_60
  let c1_i32_61 : BitVec 32 := 1#32
  let v119 : BitVec 32 := Scalar.select v118 c1_i32_61 c2_i32_59
  let v120 : BitVec 32 := Scalar.remsi v46 v119
  let c0_i32_63 : BitVec 32 := 0#32
  let v122 : BitVec 1 := Scalar.cmpi .slt v120 c0_i32_63
  let c0_i32_64 : BitVec 32 := 0#32
  let v123 : BitVec 1 := Scalar.cmpi .slt v119 c0_i32_64
  let v124 : BitVec 1 := Scalar.xori v122 v123
  let c0_i32_62 : BitVec 32 := 0#32
  let v121 : BitVec 1 := Scalar.cmpi .ne v120 c0_i32_62
  let v125 : BitVec 1 := Scalar.andi v124 v121
  let v126 : BitVec 32 := Scalar.addi v120 v119
  let v127 : BitVec 32 := Scalar.select v125 v126 v120
  let c8_i32_65 : BitVec 32 := 8#32
  let v128 : BitVec 32 := Scalar.muli v127 c8_i32_65
  let v129 : BitVec 32 := Scalar.addi v117 v128
  let c0_i32_67 : BitVec 32 := 0#32
  let v131 : BitVec 1 := Scalar.cmpi .sgt v46 c0_i32_67
  let v132 : BitVec 32 := Scalar.extui v131
  let c0_i32_68 : BitVec 32 := 0#32
  let v133 : BitVec 1 := Scalar.cmpi .slt v46 c0_i32_68
  let v134 : BitVec 32 := Scalar.extui v133
  let v135 : BitVec 32 := Scalar.subi v132 v134
  let c2_i32_66 : BitVec 32 := 2#32
  let c0_i32_69 : BitVec 32 := 0#32
  let v136 : BitVec 1 := Scalar.cmpi .sgt c2_i32_66 c0_i32_69
  let v137 : BitVec 32 := Scalar.extui v136
  let c0_i32_70 : BitVec 32 := 0#32
  let v138 : BitVec 1 := Scalar.cmpi .slt c2_i32_66 c0_i32_70
  let v139 : BitVec 32 := Scalar.extui v138
  let v140 : BitVec 32 := Scalar.subi v137 v139
  let v141 : BitVec 1 := Scalar.cmpi .ne v135 v140
  let v142 : BitVec 32 := Scalar.remsi v46 c2_i32_66
  let c0_i32_71 : BitVec 32 := 0#32
  let v143 : BitVec 1 := Scalar.cmpi .ne v142 c0_i32_71
  let v144 : BitVec 1 := Scalar.andi v141 v143
  let v130 : BitVec 32 := Scalar.divsi v46 c2_i32_66
  let c1_i32_72 : BitVec 32 := 1#32
  let v145 : BitVec 32 := Scalar.subi v130 c1_i32_72
  let v146 : BitVec 32 := Scalar.select v144 v145 v130
  let c4_i32_73 : BitVec 32 := 4#32
  let v147 : BitVec 32 := Scalar.muli v146 c4_i32_73
  let v148 : BitVec 32 := Scalar.addi v129 v147
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_74 : BitVec 32 := 2#32
  let c0_i32_75 : BitVec 32 := 0#32
  let v149 : BitVec 1 := Scalar.cmpi .eq c2_i32_74 c0_i32_75
  let c1_i32_76 : BitVec 32 := 1#32
  let v150 : BitVec 32 := Scalar.select v149 c1_i32_76 c2_i32_74
  let v151 : BitVec 32 := Scalar.remsi v19 v150
  let c0_i32_78 : BitVec 32 := 0#32
  let v153 : BitVec 1 := Scalar.cmpi .slt v151 c0_i32_78
  let c0_i32_79 : BitVec 32 := 0#32
  let v154 : BitVec 1 := Scalar.cmpi .slt v150 c0_i32_79
  let v155 : BitVec 1 := Scalar.xori v153 v154
  let c0_i32_77 : BitVec 32 := 0#32
  let v152 : BitVec 1 := Scalar.cmpi .ne v151 c0_i32_77
  let v156 : BitVec 1 := Scalar.andi v155 v152
  let v157 : BitVec 32 := Scalar.addi v151 v150
  let v158 : BitVec 32 := Scalar.select v156 v157 v151
  let c2_i32_80 : BitVec 32 := 2#32
  let v159 : BitVec 32 := Scalar.muli v158 c2_i32_80
  let v160 : BitVec 32 := Scalar.addi v148 v159
  let c0_i32_82 : BitVec 32 := 0#32
  let v162 : BitVec 1 := Scalar.cmpi .sgt v19 c0_i32_82
  let v163 : BitVec 32 := Scalar.extui v162
  let c0_i32_83 : BitVec 32 := 0#32
  let v164 : BitVec 1 := Scalar.cmpi .slt v19 c0_i32_83
  let v165 : BitVec 32 := Scalar.extui v164
  let v166 : BitVec 32 := Scalar.subi v163 v165
  let c2_i32_81 : BitVec 32 := 2#32
  let c0_i32_84 : BitVec 32 := 0#32
  let v167 : BitVec 1 := Scalar.cmpi .sgt c2_i32_81 c0_i32_84
  let v168 : BitVec 32 := Scalar.extui v167
  let c0_i32_85 : BitVec 32 := 0#32
  let v169 : BitVec 1 := Scalar.cmpi .slt c2_i32_81 c0_i32_85
  let v170 : BitVec 32 := Scalar.extui v169
  let v171 : BitVec 32 := Scalar.subi v168 v170
  let v172 : BitVec 1 := Scalar.cmpi .ne v166 v171
  let v173 : BitVec 32 := Scalar.remsi v19 c2_i32_81
  let c0_i32_86 : BitVec 32 := 0#32
  let v174 : BitVec 1 := Scalar.cmpi .ne v173 c0_i32_86
  let v175 : BitVec 1 := Scalar.andi v172 v174
  let v161 : BitVec 32 := Scalar.divsi v19 c2_i32_81
  let c1_i32_87 : BitVec 32 := 1#32
  let v176 : BitVec 32 := Scalar.subi v161 c1_i32_87
  let v177 : BitVec 32 := Scalar.select v175 v176 v161
  let v178 : BitVec 32 := Scalar.addi v160 v177
  let c0_i32_716 : BitVec 32 := 0#32
  let v1317 : BitVec 1 := Scalar.cmpi .sgt v178 c0_i32_716
  let v1318 : BitVec 32 := Scalar.extui v1317
  let c0_i32_717 : BitVec 32 := 0#32
  let v1319 : BitVec 1 := Scalar.cmpi .slt v178 c0_i32_717
  let v1320 : BitVec 32 := Scalar.extui v1319
  let v1321 : BitVec 32 := Scalar.subi v1318 v1320
  let c4_i32_715 : BitVec 32 := 4#32
  let c0_i32_718 : BitVec 32 := 0#32
  let v1322 : BitVec 1 := Scalar.cmpi .sgt c4_i32_715 c0_i32_718
  let v1323 : BitVec 32 := Scalar.extui v1322
  let c0_i32_719 : BitVec 32 := 0#32
  let v1324 : BitVec 1 := Scalar.cmpi .slt c4_i32_715 c0_i32_719
  let v1325 : BitVec 32 := Scalar.extui v1324
  let v1326 : BitVec 32 := Scalar.subi v1323 v1325
  let v1327 : BitVec 1 := Scalar.cmpi .ne v1321 v1326
  let v1328 : BitVec 32 := Scalar.remsi v178 c4_i32_715
  let c0_i32_720 : BitVec 32 := 0#32
  let v1329 : BitVec 1 := Scalar.cmpi .ne v1328 c0_i32_720
  let v1330 : BitVec 1 := Scalar.andi v1327 v1329
  let v1316 : BitVec 32 := Scalar.divsi v178 c4_i32_715
  let c1_i32_721 : BitVec 32 := 1#32
  let v1331 : BitVec 32 := Scalar.subi v1316 c1_i32_721
  let v1332 : BitVec 32 := Scalar.select v1330 v1331 v1316
  let c1_i32_722 : BitVec 32 := 1#32
  let v1333 : BitVec 32 := Scalar.addi v1332 c1_i32_722
  let c2_i32_729 : BitVec 32 := 2#32
  let c2_i32_723 : BitVec 32 := 2#32
  let c0_i32_724 : BitVec 32 := 0#32
  let v1334 : BitVec 1 := Scalar.cmpi .eq c2_i32_723 c0_i32_724
  let c1_i32_725 : BitVec 32 := 1#32
  let v1335 : BitVec 32 := Scalar.select v1334 c1_i32_725 c2_i32_723
  let v1336 : BitVec 32 := Scalar.remsi v1332 v1335
  let c0_i32_727 : BitVec 32 := 0#32
  let v1338 : BitVec 1 := Scalar.cmpi .slt v1336 c0_i32_727
  let c0_i32_728 : BitVec 32 := 0#32
  let v1339 : BitVec 1 := Scalar.cmpi .slt v1335 c0_i32_728
  let v1340 : BitVec 1 := Scalar.xori v1338 v1339
  let c0_i32_726 : BitVec 32 := 0#32
  let v1337 : BitVec 1 := Scalar.cmpi .ne v1336 c0_i32_726
  let v1341 : BitVec 1 := Scalar.andi v1340 v1337
  let v1342 : BitVec 32 := Scalar.addi v1336 v1335
  let v1343 : BitVec 32 := Scalar.select v1341 v1342 v1336
  let v1344 : BitVec 32 := Scalar.muli c2_i32_729 v1343
  let v1345 : BitVec 32 := Scalar.subi v1333 v1344
  let c64_i32 : BitVec 32 := 64#32
  let v1346 : BitVec 32 := Scalar.muli v1345 c64_i32
  let c0_i32_736 : BitVec 32 := 0#32
  ![v1346.toNat, 0]
def k0_dev14 (d0 : Dev nD) : Nat :=
  let c0_i32_733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_105 : BitVec 32 := 8#32
  let v210 : BitVec 32 := Scalar.muli v19 c8_i32_105
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_39 : BitVec 32 := 2#32
  let v84 : BitVec 32 := Scalar.addi v46 c2_i32_39
  let c4_i32 : BitVec 32 := 4#32
  let c0_i32_40 : BitVec 32 := 0#32
  let v85 : BitVec 1 := Scalar.cmpi .eq c4_i32 c0_i32_40
  let c1_i32_41 : BitVec 32 := 1#32
  let v86 : BitVec 32 := Scalar.select v85 c1_i32_41 c4_i32
  let v87 : BitVec 32 := Scalar.remsi v84 v86
  let c0_i32_43 : BitVec 32 := 0#32
  let v89 : BitVec 1 := Scalar.cmpi .slt v87 c0_i32_43
  let c0_i32_44 : BitVec 32 := 0#32
  let v90 : BitVec 1 := Scalar.cmpi .slt v86 c0_i32_44
  let v91 : BitVec 1 := Scalar.xori v89 v90
  let c0_i32_42 : BitVec 32 := 0#32
  let v88 : BitVec 1 := Scalar.cmpi .ne v87 c0_i32_42
  let v92 : BitVec 1 := Scalar.andi v91 v88
  let v93 : BitVec 32 := Scalar.addi v87 v86
  let v94 : BitVec 32 := Scalar.select v92 v93 v87
  let c2_i32_106 : BitVec 32 := 2#32
  let v211 : BitVec 32 := Scalar.muli v94 c2_i32_106
  let v212 : BitVec 32 := Scalar.addi v210 v211
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v213 : BitVec 32 := Scalar.addi v57 v94
  let c2_i32_107 : BitVec 32 := 2#32
  let c0_i32_108 : BitVec 32 := 0#32
  let v214 : BitVec 1 := Scalar.cmpi .eq c2_i32_107 c0_i32_108
  let c1_i32_109 : BitVec 32 := 1#32
  let v215 : BitVec 32 := Scalar.select v214 c1_i32_109 c2_i32_107
  let v216 : BitVec 32 := Scalar.remsi v213 v215
  let c0_i32_111 : BitVec 32 := 0#32
  let v218 : BitVec 1 := Scalar.cmpi .slt v216 c0_i32_111
  let c0_i32_112 : BitVec 32 := 0#32
  let v219 : BitVec 1 := Scalar.cmpi .slt v215 c0_i32_112
  let v220 : BitVec 1 := Scalar.xori v218 v219
  let c0_i32_110 : BitVec 32 := 0#32
  let v217 : BitVec 1 := Scalar.cmpi .ne v216 c0_i32_110
  let v221 : BitVec 1 := Scalar.andi v220 v217
  let v222 : BitVec 32 := Scalar.addi v216 v215
  let v223 : BitVec 32 := Scalar.select v221 v222 v216
  let v224 : BitVec 32 := Scalar.addi v212 v223
  let c1_i32_732 : BitVec 32 := 1#32
  let v1347 : BitVec 32 := Scalar.muli v224 c1_i32_732
  let v1348 : BitVec 32 := Scalar.addi c0_i32_733 v1347
  v1348.toNat
def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_179 : BitVec 32 := 2#32
  let c0_i32_180 : BitVec 32 := 0#32
  let v357 : BitVec 1 := Scalar.cmpi .eq c2_i32_179 c0_i32_180
  let c1_i32_181 : BitVec 32 := 1#32
  let v358 : BitVec 32 := Scalar.select v357 c1_i32_181 c2_i32_179
  let v359 : BitVec 32 := Scalar.remsi v46 v358
  let c0_i32_183 : BitVec 32 := 0#32
  let v361 : BitVec 1 := Scalar.cmpi .slt v359 c0_i32_183
  let c0_i32_184 : BitVec 32 := 0#32
  let v362 : BitVec 1 := Scalar.cmpi .slt v358 c0_i32_184
  let v363 : BitVec 1 := Scalar.xori v361 v362
  let c0_i32_182 : BitVec 32 := 0#32
  let v360 : BitVec 1 := Scalar.cmpi .ne v359 c0_i32_182
  let v364 : BitVec 1 := Scalar.andi v363 v360
  let v365 : BitVec 32 := Scalar.addi v359 v358
  let v366 : BitVec 32 := Scalar.select v364 v365 v359
  let c16_i32_185 : BitVec 32 := 16#32
  let v367 : BitVec 32 := Scalar.muli v366 c16_i32_185
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_186 : BitVec 32 := 2#32
  let c0_i32_187 : BitVec 32 := 0#32
  let v368 : BitVec 1 := Scalar.cmpi .eq c2_i32_186 c0_i32_187
  let c1_i32_188 : BitVec 32 := 1#32
  let v369 : BitVec 32 := Scalar.select v368 c1_i32_188 c2_i32_186
  let v370 : BitVec 32 := Scalar.remsi v19 v369
  let c0_i32_190 : BitVec 32 := 0#32
  let v372 : BitVec 1 := Scalar.cmpi .slt v370 c0_i32_190
  let c0_i32_191 : BitVec 32 := 0#32
  let v373 : BitVec 1 := Scalar.cmpi .slt v369 c0_i32_191
  let v374 : BitVec 1 := Scalar.xori v372 v373
  let c0_i32_189 : BitVec 32 := 0#32
  let v371 : BitVec 1 := Scalar.cmpi .ne v370 c0_i32_189
  let v375 : BitVec 1 := Scalar.andi v374 v371
  let v376 : BitVec 32 := Scalar.addi v370 v369
  let v377 : BitVec 32 := Scalar.select v375 v376 v370
  let c8_i32_192 : BitVec 32 := 8#32
  let v378 : BitVec 32 := Scalar.muli v377 c8_i32_192
  let v379 : BitVec 32 := Scalar.addi v367 v378
  let c0_i32_194 : BitVec 32 := 0#32
  let v381 : BitVec 1 := Scalar.cmpi .sgt v19 c0_i32_194
  let v382 : BitVec 32 := Scalar.extui v381
  let c0_i32_195 : BitVec 32 := 0#32
  let v383 : BitVec 1 := Scalar.cmpi .slt v19 c0_i32_195
  let v384 : BitVec 32 := Scalar.extui v383
  let v385 : BitVec 32 := Scalar.subi v382 v384
  let c2_i32_193 : BitVec 32 := 2#32
  let c0_i32_196 : BitVec 32 := 0#32
  let v386 : BitVec 1 := Scalar.cmpi .sgt c2_i32_193 c0_i32_196
  let v387 : BitVec 32 := Scalar.extui v386
  let c0_i32_197 : BitVec 32 := 0#32
  let v388 : BitVec 1 := Scalar.cmpi .slt c2_i32_193 c0_i32_197
  let v389 : BitVec 32 := Scalar.extui v388
  let v390 : BitVec 32 := Scalar.subi v387 v389
  let v391 : BitVec 1 := Scalar.cmpi .ne v385 v390
  let v392 : BitVec 32 := Scalar.remsi v19 c2_i32_193
  let c0_i32_198 : BitVec 32 := 0#32
  let v393 : BitVec 1 := Scalar.cmpi .ne v392 c0_i32_198
  let v394 : BitVec 1 := Scalar.andi v391 v393
  let v380 : BitVec 32 := Scalar.divsi v19 c2_i32_193
  let c1_i32_199 : BitVec 32 := 1#32
  let v395 : BitVec 32 := Scalar.subi v380 c1_i32_199
  let v396 : BitVec 32 := Scalar.select v394 v395 v380
  let c4_i32_200 : BitVec 32 := 4#32
  let v397 : BitVec 32 := Scalar.muli v396 c4_i32_200
  let v398 : BitVec 32 := Scalar.addi v379 v397
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_201 : BitVec 32 := 2#32
  let v399 : BitVec 32 := Scalar.muli v57 c2_i32_201
  let v400 : BitVec 32 := Scalar.addi v398 v399
  let c0_i32_203 : BitVec 32 := 0#32
  let v402 : BitVec 1 := Scalar.cmpi .sgt v46 c0_i32_203
  let v403 : BitVec 32 := Scalar.extui v402
  let c0_i32_204 : BitVec 32 := 0#32
  let v404 : BitVec 1 := Scalar.cmpi .slt v46 c0_i32_204
  let v405 : BitVec 32 := Scalar.extui v404
  let v406 : BitVec 32 := Scalar.subi v403 v405
  let c2_i32_202 : BitVec 32 := 2#32
  let c0_i32_205 : BitVec 32 := 0#32
  let v407 : BitVec 1 := Scalar.cmpi .sgt c2_i32_202 c0_i32_205
  let v408 : BitVec 32 := Scalar.extui v407
  let c0_i32_206 : BitVec 32 := 0#32
  let v409 : BitVec 1 := Scalar.cmpi .slt c2_i32_202 c0_i32_206
  let v410 : BitVec 32 := Scalar.extui v409
  let v411 : BitVec 32 := Scalar.subi v408 v410
  let v412 : BitVec 1 := Scalar.cmpi .ne v406 v411
  let v413 : BitVec 32 := Scalar.remsi v46 c2_i32_202
  let c0_i32_207 : BitVec 32 := 0#32
  let v414 : BitVec 1 := Scalar.cmpi .ne v413 c0_i32_207
  let v415 : BitVec 1 := Scalar.andi v412 v414
  let v401 : BitVec 32 := Scalar.divsi v46 c2_i32_202
  let c1_i32_208 : BitVec 32 := 1#32
  let v416 : BitVec 32 := Scalar.subi v401 c1_i32_208
  let v417 : BitVec 32 := Scalar.select v415 v416 v401
  let v418 : BitVec 32 := Scalar.addi v400 v417
  let c0_i32_751 : BitVec 32 := 0#32
  let v1366 : BitVec 1 := Scalar.cmpi .sgt v418 c0_i32_751
  let v1367 : BitVec 32 := Scalar.extui v1366
  let c0_i32_752 : BitVec 32 := 0#32
  let v1368 : BitVec 1 := Scalar.cmpi .slt v418 c0_i32_752
  let v1369 : BitVec 32 := Scalar.extui v1368
  let v1370 : BitVec 32 := Scalar.subi v1367 v1369
  let c8_i32_750 : BitVec 32 := 8#32
  let c0_i32_753 : BitVec 32 := 0#32
  let v1371 : BitVec 1 := Scalar.cmpi .sgt c8_i32_750 c0_i32_753
  let v1372 : BitVec 32 := Scalar.extui v1371
  let c0_i32_754 : BitVec 32 := 0#32
  let v1373 : BitVec 1 := Scalar.cmpi .slt c8_i32_750 c0_i32_754
  let v1374 : BitVec 32 := Scalar.extui v1373
  let v1375 : BitVec 32 := Scalar.subi v1372 v1374
  let v1376 : BitVec 1 := Scalar.cmpi .ne v1370 v1375
  let v1377 : BitVec 32 := Scalar.remsi v418 c8_i32_750
  let c0_i32_755 : BitVec 32 := 0#32
  let v1378 : BitVec 1 := Scalar.cmpi .ne v1377 c0_i32_755
  let v1379 : BitVec 1 := Scalar.andi v1376 v1378
  let v1365 : BitVec 32 := Scalar.divsi v418 c8_i32_750
  let c1_i32_756 : BitVec 32 := 1#32
  let v1380 : BitVec 32 := Scalar.subi v1365 c1_i32_756
  let v1381 : BitVec 32 := Scalar.select v1379 v1380 v1365
  let c128_i32_757 : BitVec 32 := 128#32
  let v1382 : BitVec 32 := Scalar.muli v1381 c128_i32_757
  let v1383 : Index := Scalar.indexCast v1382
  let c0_758 : Index := 0#32
  ![v1383.toNat, 0]
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_179 : BitVec 32 := 2#32
  let c0_i32_180 : BitVec 32 := 0#32
  let v357 : BitVec 1 := Scalar.cmpi .eq c2_i32_179 c0_i32_180
  let c1_i32_181 : BitVec 32 := 1#32
  let v358 : BitVec 32 := Scalar.select v357 c1_i32_181 c2_i32_179
  let v359 : BitVec 32 := Scalar.remsi v46 v358
  let c0_i32_183 : BitVec 32 := 0#32
  let v361 : BitVec 1 := Scalar.cmpi .slt v359 c0_i32_183
  let c0_i32_184 : BitVec 32 := 0#32
  let v362 : BitVec 1 := Scalar.cmpi .slt v358 c0_i32_184
  let v363 : BitVec 1 := Scalar.xori v361 v362
  let c0_i32_182 : BitVec 32 := 0#32
  let v360 : BitVec 1 := Scalar.cmpi .ne v359 c0_i32_182
  let v364 : BitVec 1 := Scalar.andi v363 v360
  let v365 : BitVec 32 := Scalar.addi v359 v358
  let v366 : BitVec 32 := Scalar.select v364 v365 v359
  let c16_i32_185 : BitVec 32 := 16#32
  let v367 : BitVec 32 := Scalar.muli v366 c16_i32_185
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_186 : BitVec 32 := 2#32
  let c0_i32_187 : BitVec 32 := 0#32
  let v368 : BitVec 1 := Scalar.cmpi .eq c2_i32_186 c0_i32_187
  let c1_i32_188 : BitVec 32 := 1#32
  let v369 : BitVec 32 := Scalar.select v368 c1_i32_188 c2_i32_186
  let v370 : BitVec 32 := Scalar.remsi v19 v369
  let c0_i32_190 : BitVec 32 := 0#32
  let v372 : BitVec 1 := Scalar.cmpi .slt v370 c0_i32_190
  let c0_i32_191 : BitVec 32 := 0#32
  let v373 : BitVec 1 := Scalar.cmpi .slt v369 c0_i32_191
  let v374 : BitVec 1 := Scalar.xori v372 v373
  let c0_i32_189 : BitVec 32 := 0#32
  let v371 : BitVec 1 := Scalar.cmpi .ne v370 c0_i32_189
  let v375 : BitVec 1 := Scalar.andi v374 v371
  let v376 : BitVec 32 := Scalar.addi v370 v369
  let v377 : BitVec 32 := Scalar.select v375 v376 v370
  let c8_i32_192 : BitVec 32 := 8#32
  let v378 : BitVec 32 := Scalar.muli v377 c8_i32_192
  let v379 : BitVec 32 := Scalar.addi v367 v378
  let c0_i32_194 : BitVec 32 := 0#32
  let v381 : BitVec 1 := Scalar.cmpi .sgt v19 c0_i32_194
  let v382 : BitVec 32 := Scalar.extui v381
  let c0_i32_195 : BitVec 32 := 0#32
  let v383 : BitVec 1 := Scalar.cmpi .slt v19 c0_i32_195
  let v384 : BitVec 32 := Scalar.extui v383
  let v385 : BitVec 32 := Scalar.subi v382 v384
  let c2_i32_193 : BitVec 32 := 2#32
  let c0_i32_196 : BitVec 32 := 0#32
  let v386 : BitVec 1 := Scalar.cmpi .sgt c2_i32_193 c0_i32_196
  let v387 : BitVec 32 := Scalar.extui v386
  let c0_i32_197 : BitVec 32 := 0#32
  let v388 : BitVec 1 := Scalar.cmpi .slt c2_i32_193 c0_i32_197
  let v389 : BitVec 32 := Scalar.extui v388
  let v390 : BitVec 32 := Scalar.subi v387 v389
  let v391 : BitVec 1 := Scalar.cmpi .ne v385 v390
  let v392 : BitVec 32 := Scalar.remsi v19 c2_i32_193
  let c0_i32_198 : BitVec 32 := 0#32
  let v393 : BitVec 1 := Scalar.cmpi .ne v392 c0_i32_198
  let v394 : BitVec 1 := Scalar.andi v391 v393
  let v380 : BitVec 32 := Scalar.divsi v19 c2_i32_193
  let c1_i32_199 : BitVec 32 := 1#32
  let v395 : BitVec 32 := Scalar.subi v380 c1_i32_199
  let v396 : BitVec 32 := Scalar.select v394 v395 v380
  let c4_i32_200 : BitVec 32 := 4#32
  let v397 : BitVec 32 := Scalar.muli v396 c4_i32_200
  let v398 : BitVec 32 := Scalar.addi v379 v397
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_201 : BitVec 32 := 2#32
  let v399 : BitVec 32 := Scalar.muli v57 c2_i32_201
  let v400 : BitVec 32 := Scalar.addi v398 v399
  let c0_i32_203 : BitVec 32 := 0#32
  let v402 : BitVec 1 := Scalar.cmpi .sgt v46 c0_i32_203
  let v403 : BitVec 32 := Scalar.extui v402
  let c0_i32_204 : BitVec 32 := 0#32
  let v404 : BitVec 1 := Scalar.cmpi .slt v46 c0_i32_204
  let v405 : BitVec 32 := Scalar.extui v404
  let v406 : BitVec 32 := Scalar.subi v403 v405
  let c2_i32_202 : BitVec 32 := 2#32
  let c0_i32_205 : BitVec 32 := 0#32
  let v407 : BitVec 1 := Scalar.cmpi .sgt c2_i32_202 c0_i32_205
  let v408 : BitVec 32 := Scalar.extui v407
  let c0_i32_206 : BitVec 32 := 0#32
  let v409 : BitVec 1 := Scalar.cmpi .slt c2_i32_202 c0_i32_206
  let v410 : BitVec 32 := Scalar.extui v409
  let v411 : BitVec 32 := Scalar.subi v408 v410
  let v412 : BitVec 1 := Scalar.cmpi .ne v406 v411
  let v413 : BitVec 32 := Scalar.remsi v46 c2_i32_202
  let c0_i32_207 : BitVec 32 := 0#32
  let v414 : BitVec 1 := Scalar.cmpi .ne v413 c0_i32_207
  let v415 : BitVec 1 := Scalar.andi v412 v414
  let v401 : BitVec 32 := Scalar.divsi v46 c2_i32_202
  let c1_i32_208 : BitVec 32 := 1#32
  let v416 : BitVec 32 := Scalar.subi v401 c1_i32_208
  let v417 : BitVec 32 := Scalar.select v415 v416 v401
  let v418 : BitVec 32 := Scalar.addi v400 v417
  let c0_i32_763 : BitVec 32 := 0#32
  let v1392 : BitVec 1 := Scalar.cmpi .sgt v418 c0_i32_763
  let v1393 : BitVec 32 := Scalar.extui v1392
  let c0_i32_764 : BitVec 32 := 0#32
  let v1394 : BitVec 1 := Scalar.cmpi .slt v418 c0_i32_764
  let v1395 : BitVec 32 := Scalar.extui v1394
  let v1396 : BitVec 32 := Scalar.subi v1393 v1395
  let c4_i32_762 : BitVec 32 := 4#32
  let c0_i32_765 : BitVec 32 := 0#32
  let v1397 : BitVec 1 := Scalar.cmpi .sgt c4_i32_762 c0_i32_765
  let v1398 : BitVec 32 := Scalar.extui v1397
  let c0_i32_766 : BitVec 32 := 0#32
  let v1399 : BitVec 1 := Scalar.cmpi .slt c4_i32_762 c0_i32_766
  let v1400 : BitVec 32 := Scalar.extui v1399
  let v1401 : BitVec 32 := Scalar.subi v1398 v1400
  let v1402 : BitVec 1 := Scalar.cmpi .ne v1396 v1401
  let v1403 : BitVec 32 := Scalar.remsi v418 c4_i32_762
  let c0_i32_767 : BitVec 32 := 0#32
  let v1404 : BitVec 1 := Scalar.cmpi .ne v1403 c0_i32_767
  let v1405 : BitVec 1 := Scalar.andi v1402 v1404
  let v1391 : BitVec 32 := Scalar.divsi v418 c4_i32_762
  let c1_i32_768 : BitVec 32 := 1#32
  let v1406 : BitVec 32 := Scalar.subi v1391 c1_i32_768
  let v1407 : BitVec 32 := Scalar.select v1405 v1406 v1391
  let c1_i32_769 : BitVec 32 := 1#32
  let v1408 : BitVec 32 := Scalar.addi v1407 c1_i32_769
  let c2_i32_776 : BitVec 32 := 2#32
  let c2_i32_770 : BitVec 32 := 2#32
  let c0_i32_771 : BitVec 32 := 0#32
  let v1409 : BitVec 1 := Scalar.cmpi .eq c2_i32_770 c0_i32_771
  let c1_i32_772 : BitVec 32 := 1#32
  let v1410 : BitVec 32 := Scalar.select v1409 c1_i32_772 c2_i32_770
  let v1411 : BitVec 32 := Scalar.remsi v1407 v1410
  let c0_i32_774 : BitVec 32 := 0#32
  let v1413 : BitVec 1 := Scalar.cmpi .slt v1411 c0_i32_774
  let c0_i32_775 : BitVec 32 := 0#32
  let v1414 : BitVec 1 := Scalar.cmpi .slt v1410 c0_i32_775
  let v1415 : BitVec 1 := Scalar.xori v1413 v1414
  let c0_i32_773 : BitVec 32 := 0#32
  let v1412 : BitVec 1 := Scalar.cmpi .ne v1411 c0_i32_773
  let v1416 : BitVec 1 := Scalar.andi v1415 v1412
  let v1417 : BitVec 32 := Scalar.addi v1411 v1410
  let v1418 : BitVec 32 := Scalar.select v1416 v1417 v1411
  let v1419 : BitVec 32 := Scalar.muli c2_i32_776 v1418
  let v1420 : BitVec 32 := Scalar.subi v1408 v1419
  let c64_i32_777 : BitVec 32 := 64#32
  let v1421 : BitVec 32 := Scalar.muli v1420 c64_i32_777
  let c0_i32_783 : BitVec 32 := 0#32
  ![v1421.toNat, 0]
def k0_dev15 (d0 : Dev nD) : Nat :=
  let c0_i32_780 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_45 : BitVec 32 := 2#32
  let v95 : BitVec 32 := Scalar.addi v19 c2_i32_45
  let c4_i32_46 : BitVec 32 := 4#32
  let c0_i32_47 : BitVec 32 := 0#32
  let v96 : BitVec 1 := Scalar.cmpi .eq c4_i32_46 c0_i32_47
  let c1_i32_48 : BitVec 32 := 1#32
  let v97 : BitVec 32 := Scalar.select v96 c1_i32_48 c4_i32_46
  let v98 : BitVec 32 := Scalar.remsi v95 v97
  let c0_i32_50 : BitVec 32 := 0#32
  let v100 : BitVec 1 := Scalar.cmpi .slt v98 c0_i32_50
  let c0_i32_51 : BitVec 32 := 0#32
  let v101 : BitVec 1 := Scalar.cmpi .slt v97 c0_i32_51
  let v102 : BitVec 1 := Scalar.xori v100 v101
  let c0_i32_49 : BitVec 32 := 0#32
  let v99 : BitVec 1 := Scalar.cmpi .ne v98 c0_i32_49
  let v103 : BitVec 1 := Scalar.andi v102 v99
  let v104 : BitVec 32 := Scalar.addi v98 v97
  let v105 : BitVec 32 := Scalar.select v103 v104 v98
  let c8_i32_225 : BitVec 32 := 8#32
  let v449 : BitVec 32 := Scalar.muli v105 c8_i32_225
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_226 : BitVec 32 := 2#32
  let v450 : BitVec 32 := Scalar.muli v46 c2_i32_226
  let v451 : BitVec 32 := Scalar.addi v449 v450
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v452 : BitVec 32 := Scalar.addi v57 v46
  let c2_i32_227 : BitVec 32 := 2#32
  let c0_i32_228 : BitVec 32 := 0#32
  let v453 : BitVec 1 := Scalar.cmpi .eq c2_i32_227 c0_i32_228
  let c1_i32_229 : BitVec 32 := 1#32
  let v454 : BitVec 32 := Scalar.select v453 c1_i32_229 c2_i32_227
  let v455 : BitVec 32 := Scalar.remsi v452 v454
  let c0_i32_231 : BitVec 32 := 0#32
  let v457 : BitVec 1 := Scalar.cmpi .slt v455 c0_i32_231
  let c0_i32_232 : BitVec 32 := 0#32
  let v458 : BitVec 1 := Scalar.cmpi .slt v454 c0_i32_232
  let v459 : BitVec 1 := Scalar.xori v457 v458
  let c0_i32_230 : BitVec 32 := 0#32
  let v456 : BitVec 1 := Scalar.cmpi .ne v455 c0_i32_230
  let v460 : BitVec 1 := Scalar.andi v459 v456
  let v461 : BitVec 32 := Scalar.addi v455 v454
  let v462 : BitVec 32 := Scalar.select v460 v461 v455
  let v463 : BitVec 32 := Scalar.addi v451 v462
  let c1_i32_779 : BitVec 32 := 1#32
  let v1422 : BitVec 32 := Scalar.muli v463 c1_i32_779
  let v1423 : BitVec 32 := Scalar.addi c0_i32_780 v1422
  v1423.toNat
def k0_off23 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c16_i32 : BitVec 32 := 16#32
  let v117 : BitVec 32 := Scalar.muli v57 c16_i32
  let c2_i32_59 : BitVec 32 := 2#32
  let c0_i32_60 : BitVec 32 := 0#32
  let v118 : BitVec 1 := Scalar.cmpi .eq c2_i32_59 c0_i32_60
  let c1_i32_61 : BitVec 32 := 1#32
  let v119 : BitVec 32 := Scalar.select v118 c1_i32_61 c2_i32_59
  let v120 : BitVec 32 := Scalar.remsi v46 v119
  let c0_i32_63 : BitVec 32 := 0#32
  let v122 : BitVec 1 := Scalar.cmpi .slt v120 c0_i32_63
  let c0_i32_64 : BitVec 32 := 0#32
  let v123 : BitVec 1 := Scalar.cmpi .slt v119 c0_i32_64
  let v124 : BitVec 1 := Scalar.xori v122 v123
  let c0_i32_62 : BitVec 32 := 0#32
  let v121 : BitVec 1 := Scalar.cmpi .ne v120 c0_i32_62
  let v125 : BitVec 1 := Scalar.andi v124 v121
  let v126 : BitVec 32 := Scalar.addi v120 v119
  let v127 : BitVec 32 := Scalar.select v125 v126 v120
  let c8_i32_65 : BitVec 32 := 8#32
  let v128 : BitVec 32 := Scalar.muli v127 c8_i32_65
  let v129 : BitVec 32 := Scalar.addi v117 v128
  let c0_i32_67 : BitVec 32 := 0#32
  let v131 : BitVec 1 := Scalar.cmpi .sgt v46 c0_i32_67
  let v132 : BitVec 32 := Scalar.extui v131
  let c0_i32_68 : BitVec 32 := 0#32
  let v133 : BitVec 1 := Scalar.cmpi .slt v46 c0_i32_68
  let v134 : BitVec 32 := Scalar.extui v133
  let v135 : BitVec 32 := Scalar.subi v132 v134
  let c2_i32_66 : BitVec 32 := 2#32
  let c0_i32_69 : BitVec 32 := 0#32
  let v136 : BitVec 1 := Scalar.cmpi .sgt c2_i32_66 c0_i32_69
  let v137 : BitVec 32 := Scalar.extui v136
  let c0_i32_70 : BitVec 32 := 0#32
  let v138 : BitVec 1 := Scalar.cmpi .slt c2_i32_66 c0_i32_70
  let v139 : BitVec 32 := Scalar.extui v138
  let v140 : BitVec 32 := Scalar.subi v137 v139
  let v141 : BitVec 1 := Scalar.cmpi .ne v135 v140
  let v142 : BitVec 32 := Scalar.remsi v46 c2_i32_66
  let c0_i32_71 : BitVec 32 := 0#32
  let v143 : BitVec 1 := Scalar.cmpi .ne v142 c0_i32_71
  let v144 : BitVec 1 := Scalar.andi v141 v143
  let v130 : BitVec 32 := Scalar.divsi v46 c2_i32_66
  let c1_i32_72 : BitVec 32 := 1#32
  let v145 : BitVec 32 := Scalar.subi v130 c1_i32_72
  let v146 : BitVec 32 := Scalar.select v144 v145 v130
  let c4_i32_73 : BitVec 32 := 4#32
  let v147 : BitVec 32 := Scalar.muli v146 c4_i32_73
  let v148 : BitVec 32 := Scalar.addi v129 v147
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_74 : BitVec 32 := 2#32
  let c0_i32_75 : BitVec 32 := 0#32
  let v149 : BitVec 1 := Scalar.cmpi .eq c2_i32_74 c0_i32_75
  let c1_i32_76 : BitVec 32 := 1#32
  let v150 : BitVec 32 := Scalar.select v149 c1_i32_76 c2_i32_74
  let v151 : BitVec 32 := Scalar.remsi v19 v150
  let c0_i32_78 : BitVec 32 := 0#32
  let v153 : BitVec 1 := Scalar.cmpi .slt v151 c0_i32_78
  let c0_i32_79 : BitVec 32 := 0#32
  let v154 : BitVec 1 := Scalar.cmpi .slt v150 c0_i32_79
  let v155 : BitVec 1 := Scalar.xori v153 v154
  let c0_i32_77 : BitVec 32 := 0#32
  let v152 : BitVec 1 := Scalar.cmpi .ne v151 c0_i32_77
  let v156 : BitVec 1 := Scalar.andi v155 v152
  let v157 : BitVec 32 := Scalar.addi v151 v150
  let v158 : BitVec 32 := Scalar.select v156 v157 v151
  let c2_i32_80 : BitVec 32 := 2#32
  let v159 : BitVec 32 := Scalar.muli v158 c2_i32_80
  let v160 : BitVec 32 := Scalar.addi v148 v159
  let c0_i32_82 : BitVec 32 := 0#32
  let v162 : BitVec 1 := Scalar.cmpi .sgt v19 c0_i32_82
  let v163 : BitVec 32 := Scalar.extui v162
  let c0_i32_83 : BitVec 32 := 0#32
  let v164 : BitVec 1 := Scalar.cmpi .slt v19 c0_i32_83
  let v165 : BitVec 32 := Scalar.extui v164
  let v166 : BitVec 32 := Scalar.subi v163 v165
  let c2_i32_81 : BitVec 32 := 2#32
  let c0_i32_84 : BitVec 32 := 0#32
  let v167 : BitVec 1 := Scalar.cmpi .sgt c2_i32_81 c0_i32_84
  let v168 : BitVec 32 := Scalar.extui v167
  let c0_i32_85 : BitVec 32 := 0#32
  let v169 : BitVec 1 := Scalar.cmpi .slt c2_i32_81 c0_i32_85
  let v170 : BitVec 32 := Scalar.extui v169
  let v171 : BitVec 32 := Scalar.subi v168 v170
  let v172 : BitVec 1 := Scalar.cmpi .ne v166 v171
  let v173 : BitVec 32 := Scalar.remsi v19 c2_i32_81
  let c0_i32_86 : BitVec 32 := 0#32
  let v174 : BitVec 1 := Scalar.cmpi .ne v173 c0_i32_86
  let v175 : BitVec 1 := Scalar.andi v172 v174
  let v161 : BitVec 32 := Scalar.divsi v19 c2_i32_81
  let c1_i32_87 : BitVec 32 := 1#32
  let v176 : BitVec 32 := Scalar.subi v161 c1_i32_87
  let v177 : BitVec 32 := Scalar.select v175 v176 v161
  let v178 : BitVec 32 := Scalar.addi v160 v177
  let c0_i32_798 : BitVec 32 := 0#32
  let v1441 : BitVec 1 := Scalar.cmpi .sgt v178 c0_i32_798
  let v1442 : BitVec 32 := Scalar.extui v1441
  let c0_i32_799 : BitVec 32 := 0#32
  let v1443 : BitVec 1 := Scalar.cmpi .slt v178 c0_i32_799
  let v1444 : BitVec 32 := Scalar.extui v1443
  let v1445 : BitVec 32 := Scalar.subi v1442 v1444
  let c4_i32_797 : BitVec 32 := 4#32
  let c0_i32_800 : BitVec 32 := 0#32
  let v1446 : BitVec 1 := Scalar.cmpi .sgt c4_i32_797 c0_i32_800
  let v1447 : BitVec 32 := Scalar.extui v1446
  let c0_i32_801 : BitVec 32 := 0#32
  let v1448 : BitVec 1 := Scalar.cmpi .slt c4_i32_797 c0_i32_801
  let v1449 : BitVec 32 := Scalar.extui v1448
  let v1450 : BitVec 32 := Scalar.subi v1447 v1449
  let v1451 : BitVec 1 := Scalar.cmpi .ne v1445 v1450
  let v1452 : BitVec 32 := Scalar.remsi v178 c4_i32_797
  let c0_i32_802 : BitVec 32 := 0#32
  let v1453 : BitVec 1 := Scalar.cmpi .ne v1452 c0_i32_802
  let v1454 : BitVec 1 := Scalar.andi v1451 v1453
  let v1440 : BitVec 32 := Scalar.divsi v178 c4_i32_797
  let c1_i32_803 : BitVec 32 := 1#32
  let v1455 : BitVec 32 := Scalar.subi v1440 c1_i32_803
  let v1456 : BitVec 32 := Scalar.select v1454 v1455 v1440
  let c64_i32_804 : BitVec 32 := 64#32
  let v1457 : BitVec 32 := Scalar.muli v1456 c64_i32_804
  let v1458 : Index := Scalar.indexCast v1457
  let c0_805 : Index := 0#32
  ![v1458.toNat, 0]
def k0_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_179 : BitVec 32 := 2#32
  let c0_i32_180 : BitVec 32 := 0#32
  let v357 : BitVec 1 := Scalar.cmpi .eq c2_i32_179 c0_i32_180
  let c1_i32_181 : BitVec 32 := 1#32
  let v358 : BitVec 32 := Scalar.select v357 c1_i32_181 c2_i32_179
  let v359 : BitVec 32 := Scalar.remsi v46 v358
  let c0_i32_183 : BitVec 32 := 0#32
  let v361 : BitVec 1 := Scalar.cmpi .slt v359 c0_i32_183
  let c0_i32_184 : BitVec 32 := 0#32
  let v362 : BitVec 1 := Scalar.cmpi .slt v358 c0_i32_184
  let v363 : BitVec 1 := Scalar.xori v361 v362
  let c0_i32_182 : BitVec 32 := 0#32
  let v360 : BitVec 1 := Scalar.cmpi .ne v359 c0_i32_182
  let v364 : BitVec 1 := Scalar.andi v363 v360
  let v365 : BitVec 32 := Scalar.addi v359 v358
  let v366 : BitVec 32 := Scalar.select v364 v365 v359
  let c16_i32_185 : BitVec 32 := 16#32
  let v367 : BitVec 32 := Scalar.muli v366 c16_i32_185
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_186 : BitVec 32 := 2#32
  let c0_i32_187 : BitVec 32 := 0#32
  let v368 : BitVec 1 := Scalar.cmpi .eq c2_i32_186 c0_i32_187
  let c1_i32_188 : BitVec 32 := 1#32
  let v369 : BitVec 32 := Scalar.select v368 c1_i32_188 c2_i32_186
  let v370 : BitVec 32 := Scalar.remsi v19 v369
  let c0_i32_190 : BitVec 32 := 0#32
  let v372 : BitVec 1 := Scalar.cmpi .slt v370 c0_i32_190
  let c0_i32_191 : BitVec 32 := 0#32
  let v373 : BitVec 1 := Scalar.cmpi .slt v369 c0_i32_191
  let v374 : BitVec 1 := Scalar.xori v372 v373
  let c0_i32_189 : BitVec 32 := 0#32
  let v371 : BitVec 1 := Scalar.cmpi .ne v370 c0_i32_189
  let v375 : BitVec 1 := Scalar.andi v374 v371
  let v376 : BitVec 32 := Scalar.addi v370 v369
  let v377 : BitVec 32 := Scalar.select v375 v376 v370
  let c8_i32_192 : BitVec 32 := 8#32
  let v378 : BitVec 32 := Scalar.muli v377 c8_i32_192
  let v379 : BitVec 32 := Scalar.addi v367 v378
  let c0_i32_194 : BitVec 32 := 0#32
  let v381 : BitVec 1 := Scalar.cmpi .sgt v19 c0_i32_194
  let v382 : BitVec 32 := Scalar.extui v381
  let c0_i32_195 : BitVec 32 := 0#32
  let v383 : BitVec 1 := Scalar.cmpi .slt v19 c0_i32_195
  let v384 : BitVec 32 := Scalar.extui v383
  let v385 : BitVec 32 := Scalar.subi v382 v384
  let c2_i32_193 : BitVec 32 := 2#32
  let c0_i32_196 : BitVec 32 := 0#32
  let v386 : BitVec 1 := Scalar.cmpi .sgt c2_i32_193 c0_i32_196
  let v387 : BitVec 32 := Scalar.extui v386
  let c0_i32_197 : BitVec 32 := 0#32
  let v388 : BitVec 1 := Scalar.cmpi .slt c2_i32_193 c0_i32_197
  let v389 : BitVec 32 := Scalar.extui v388
  let v390 : BitVec 32 := Scalar.subi v387 v389
  let v391 : BitVec 1 := Scalar.cmpi .ne v385 v390
  let v392 : BitVec 32 := Scalar.remsi v19 c2_i32_193
  let c0_i32_198 : BitVec 32 := 0#32
  let v393 : BitVec 1 := Scalar.cmpi .ne v392 c0_i32_198
  let v394 : BitVec 1 := Scalar.andi v391 v393
  let v380 : BitVec 32 := Scalar.divsi v19 c2_i32_193
  let c1_i32_199 : BitVec 32 := 1#32
  let v395 : BitVec 32 := Scalar.subi v380 c1_i32_199
  let v396 : BitVec 32 := Scalar.select v394 v395 v380
  let c4_i32_200 : BitVec 32 := 4#32
  let v397 : BitVec 32 := Scalar.muli v396 c4_i32_200
  let v398 : BitVec 32 := Scalar.addi v379 v397
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_201 : BitVec 32 := 2#32
  let v399 : BitVec 32 := Scalar.muli v57 c2_i32_201
  let v400 : BitVec 32 := Scalar.addi v398 v399
  let c0_i32_203 : BitVec 32 := 0#32
  let v402 : BitVec 1 := Scalar.cmpi .sgt v46 c0_i32_203
  let v403 : BitVec 32 := Scalar.extui v402
  let c0_i32_204 : BitVec 32 := 0#32
  let v404 : BitVec 1 := Scalar.cmpi .slt v46 c0_i32_204
  let v405 : BitVec 32 := Scalar.extui v404
  let v406 : BitVec 32 := Scalar.subi v403 v405
  let c2_i32_202 : BitVec 32 := 2#32
  let c0_i32_205 : BitVec 32 := 0#32
  let v407 : BitVec 1 := Scalar.cmpi .sgt c2_i32_202 c0_i32_205
  let v408 : BitVec 32 := Scalar.extui v407
  let c0_i32_206 : BitVec 32 := 0#32
  let v409 : BitVec 1 := Scalar.cmpi .slt c2_i32_202 c0_i32_206
  let v410 : BitVec 32 := Scalar.extui v409
  let v411 : BitVec 32 := Scalar.subi v408 v410
  let v412 : BitVec 1 := Scalar.cmpi .ne v406 v411
  let v413 : BitVec 32 := Scalar.remsi v46 c2_i32_202
  let c0_i32_207 : BitVec 32 := 0#32
  let v414 : BitVec 1 := Scalar.cmpi .ne v413 c0_i32_207
  let v415 : BitVec 1 := Scalar.andi v412 v414
  let v401 : BitVec 32 := Scalar.divsi v46 c2_i32_202
  let c1_i32_208 : BitVec 32 := 1#32
  let v416 : BitVec 32 := Scalar.subi v401 c1_i32_208
  let v417 : BitVec 32 := Scalar.select v415 v416 v401
  let v418 : BitVec 32 := Scalar.addi v400 v417
  let c0_i32_823 : BitVec 32 := 0#32
  let v1477 : BitVec 1 := Scalar.cmpi .sgt v418 c0_i32_823
  let v1478 : BitVec 32 := Scalar.extui v1477
  let c0_i32_824 : BitVec 32 := 0#32
  let v1479 : BitVec 1 := Scalar.cmpi .slt v418 c0_i32_824
  let v1480 : BitVec 32 := Scalar.extui v1479
  let v1481 : BitVec 32 := Scalar.subi v1478 v1480
  let c4_i32_822 : BitVec 32 := 4#32
  let c0_i32_825 : BitVec 32 := 0#32
  let v1482 : BitVec 1 := Scalar.cmpi .sgt c4_i32_822 c0_i32_825
  let v1483 : BitVec 32 := Scalar.extui v1482
  let c0_i32_826 : BitVec 32 := 0#32
  let v1484 : BitVec 1 := Scalar.cmpi .slt c4_i32_822 c0_i32_826
  let v1485 : BitVec 32 := Scalar.extui v1484
  let v1486 : BitVec 32 := Scalar.subi v1483 v1485
  let v1487 : BitVec 1 := Scalar.cmpi .ne v1481 v1486
  let v1488 : BitVec 32 := Scalar.remsi v418 c4_i32_822
  let c0_i32_827 : BitVec 32 := 0#32
  let v1489 : BitVec 1 := Scalar.cmpi .ne v1488 c0_i32_827
  let v1490 : BitVec 1 := Scalar.andi v1487 v1489
  let v1476 : BitVec 32 := Scalar.divsi v418 c4_i32_822
  let c1_i32_828 : BitVec 32 := 1#32
  let v1491 : BitVec 32 := Scalar.subi v1476 c1_i32_828
  let v1492 : BitVec 32 := Scalar.select v1490 v1491 v1476
  let c64_i32_829 : BitVec 32 := 64#32
  let v1493 : BitVec 32 := Scalar.muli v1492 c64_i32_829
  let v1494 : Index := Scalar.indexCast v1493
  let c0_830 : Index := 0#32
  ![v1494.toNat, 0]
def k0_off25 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c16_i32 : BitVec 32 := 16#32
  let v117 : BitVec 32 := Scalar.muli v57 c16_i32
  let c2_i32_59 : BitVec 32 := 2#32
  let c0_i32_60 : BitVec 32 := 0#32
  let v118 : BitVec 1 := Scalar.cmpi .eq c2_i32_59 c0_i32_60
  let c1_i32_61 : BitVec 32 := 1#32
  let v119 : BitVec 32 := Scalar.select v118 c1_i32_61 c2_i32_59
  let v120 : BitVec 32 := Scalar.remsi v46 v119
  let c0_i32_63 : BitVec 32 := 0#32
  let v122 : BitVec 1 := Scalar.cmpi .slt v120 c0_i32_63
  let c0_i32_64 : BitVec 32 := 0#32
  let v123 : BitVec 1 := Scalar.cmpi .slt v119 c0_i32_64
  let v124 : BitVec 1 := Scalar.xori v122 v123
  let c0_i32_62 : BitVec 32 := 0#32
  let v121 : BitVec 1 := Scalar.cmpi .ne v120 c0_i32_62
  let v125 : BitVec 1 := Scalar.andi v124 v121
  let v126 : BitVec 32 := Scalar.addi v120 v119
  let v127 : BitVec 32 := Scalar.select v125 v126 v120
  let c8_i32_65 : BitVec 32 := 8#32
  let v128 : BitVec 32 := Scalar.muli v127 c8_i32_65
  let v129 : BitVec 32 := Scalar.addi v117 v128
  let c0_i32_67 : BitVec 32 := 0#32
  let v131 : BitVec 1 := Scalar.cmpi .sgt v46 c0_i32_67
  let v132 : BitVec 32 := Scalar.extui v131
  let c0_i32_68 : BitVec 32 := 0#32
  let v133 : BitVec 1 := Scalar.cmpi .slt v46 c0_i32_68
  let v134 : BitVec 32 := Scalar.extui v133
  let v135 : BitVec 32 := Scalar.subi v132 v134
  let c2_i32_66 : BitVec 32 := 2#32
  let c0_i32_69 : BitVec 32 := 0#32
  let v136 : BitVec 1 := Scalar.cmpi .sgt c2_i32_66 c0_i32_69
  let v137 : BitVec 32 := Scalar.extui v136
  let c0_i32_70 : BitVec 32 := 0#32
  let v138 : BitVec 1 := Scalar.cmpi .slt c2_i32_66 c0_i32_70
  let v139 : BitVec 32 := Scalar.extui v138
  let v140 : BitVec 32 := Scalar.subi v137 v139
  let v141 : BitVec 1 := Scalar.cmpi .ne v135 v140
  let v142 : BitVec 32 := Scalar.remsi v46 c2_i32_66
  let c0_i32_71 : BitVec 32 := 0#32
  let v143 : BitVec 1 := Scalar.cmpi .ne v142 c0_i32_71
  let v144 : BitVec 1 := Scalar.andi v141 v143
  let v130 : BitVec 32 := Scalar.divsi v46 c2_i32_66
  let c1_i32_72 : BitVec 32 := 1#32
  let v145 : BitVec 32 := Scalar.subi v130 c1_i32_72
  let v146 : BitVec 32 := Scalar.select v144 v145 v130
  let c4_i32_73 : BitVec 32 := 4#32
  let v147 : BitVec 32 := Scalar.muli v146 c4_i32_73
  let v148 : BitVec 32 := Scalar.addi v129 v147
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_74 : BitVec 32 := 2#32
  let c0_i32_75 : BitVec 32 := 0#32
  let v149 : BitVec 1 := Scalar.cmpi .eq c2_i32_74 c0_i32_75
  let c1_i32_76 : BitVec 32 := 1#32
  let v150 : BitVec 32 := Scalar.select v149 c1_i32_76 c2_i32_74
  let v151 : BitVec 32 := Scalar.remsi v19 v150
  let c0_i32_78 : BitVec 32 := 0#32
  let v153 : BitVec 1 := Scalar.cmpi .slt v151 c0_i32_78
  let c0_i32_79 : BitVec 32 := 0#32
  let v154 : BitVec 1 := Scalar.cmpi .slt v150 c0_i32_79
  let v155 : BitVec 1 := Scalar.xori v153 v154
  let c0_i32_77 : BitVec 32 := 0#32
  let v152 : BitVec 1 := Scalar.cmpi .ne v151 c0_i32_77
  let v156 : BitVec 1 := Scalar.andi v155 v152
  let v157 : BitVec 32 := Scalar.addi v151 v150
  let v158 : BitVec 32 := Scalar.select v156 v157 v151
  let c2_i32_80 : BitVec 32 := 2#32
  let v159 : BitVec 32 := Scalar.muli v158 c2_i32_80
  let v160 : BitVec 32 := Scalar.addi v148 v159
  let c0_i32_82 : BitVec 32 := 0#32
  let v162 : BitVec 1 := Scalar.cmpi .sgt v19 c0_i32_82
  let v163 : BitVec 32 := Scalar.extui v162
  let c0_i32_83 : BitVec 32 := 0#32
  let v164 : BitVec 1 := Scalar.cmpi .slt v19 c0_i32_83
  let v165 : BitVec 32 := Scalar.extui v164
  let v166 : BitVec 32 := Scalar.subi v163 v165
  let c2_i32_81 : BitVec 32 := 2#32
  let c0_i32_84 : BitVec 32 := 0#32
  let v167 : BitVec 1 := Scalar.cmpi .sgt c2_i32_81 c0_i32_84
  let v168 : BitVec 32 := Scalar.extui v167
  let c0_i32_85 : BitVec 32 := 0#32
  let v169 : BitVec 1 := Scalar.cmpi .slt c2_i32_81 c0_i32_85
  let v170 : BitVec 32 := Scalar.extui v169
  let v171 : BitVec 32 := Scalar.subi v168 v170
  let v172 : BitVec 1 := Scalar.cmpi .ne v166 v171
  let v173 : BitVec 32 := Scalar.remsi v19 c2_i32_81
  let c0_i32_86 : BitVec 32 := 0#32
  let v174 : BitVec 1 := Scalar.cmpi .ne v173 c0_i32_86
  let v175 : BitVec 1 := Scalar.andi v172 v174
  let v161 : BitVec 32 := Scalar.divsi v19 c2_i32_81
  let c1_i32_87 : BitVec 32 := 1#32
  let v176 : BitVec 32 := Scalar.subi v161 c1_i32_87
  let v177 : BitVec 32 := Scalar.select v175 v176 v161
  let v178 : BitVec 32 := Scalar.addi v160 v177
  let c0_i32_835 : BitVec 32 := 0#32
  let v1503 : BitVec 1 := Scalar.cmpi .sgt v178 c0_i32_835
  let v1504 : BitVec 32 := Scalar.extui v1503
  let c0_i32_836 : BitVec 32 := 0#32
  let v1505 : BitVec 1 := Scalar.cmpi .slt v178 c0_i32_836
  let v1506 : BitVec 32 := Scalar.extui v1505
  let v1507 : BitVec 32 := Scalar.subi v1504 v1506
  let c4_i32_834 : BitVec 32 := 4#32
  let c0_i32_837 : BitVec 32 := 0#32
  let v1508 : BitVec 1 := Scalar.cmpi .sgt c4_i32_834 c0_i32_837
  let v1509 : BitVec 32 := Scalar.extui v1508
  let c0_i32_838 : BitVec 32 := 0#32
  let v1510 : BitVec 1 := Scalar.cmpi .slt c4_i32_834 c0_i32_838
  let v1511 : BitVec 32 := Scalar.extui v1510
  let v1512 : BitVec 32 := Scalar.subi v1509 v1511
  let v1513 : BitVec 1 := Scalar.cmpi .ne v1507 v1512
  let v1514 : BitVec 32 := Scalar.remsi v178 c4_i32_834
  let c0_i32_839 : BitVec 32 := 0#32
  let v1515 : BitVec 1 := Scalar.cmpi .ne v1514 c0_i32_839
  let v1516 : BitVec 1 := Scalar.andi v1513 v1515
  let v1502 : BitVec 32 := Scalar.divsi v178 c4_i32_834
  let c1_i32_840 : BitVec 32 := 1#32
  let v1517 : BitVec 32 := Scalar.subi v1502 c1_i32_840
  let v1518 : BitVec 32 := Scalar.select v1516 v1517 v1502
  let c4_i32_841 : BitVec 32 := 4#32
  let v1519 : BitVec 32 := Scalar.muli v1518 c4_i32_841
  let c1_i32_31 : BitVec 32 := 1#32
  let v71 : BitVec 32 := Scalar.addi v19 c1_i32_31
  let c2_i32_38 : BitVec 32 := 2#32
  let c2_i32_32 : BitVec 32 := 2#32
  let c0_i32_33 : BitVec 32 := 0#32
  let v72 : BitVec 1 := Scalar.cmpi .eq c2_i32_32 c0_i32_33
  let c1_i32_34 : BitVec 32 := 1#32
  let v73 : BitVec 32 := Scalar.select v72 c1_i32_34 c2_i32_32
  let v74 : BitVec 32 := Scalar.remsi v19 v73
  let c0_i32_36 : BitVec 32 := 0#32
  let v76 : BitVec 1 := Scalar.cmpi .slt v74 c0_i32_36
  let c0_i32_37 : BitVec 32 := 0#32
  let v77 : BitVec 1 := Scalar.cmpi .slt v73 c0_i32_37
  let v78 : BitVec 1 := Scalar.xori v76 v77
  let c0_i32_35 : BitVec 32 := 0#32
  let v75 : BitVec 1 := Scalar.cmpi .ne v74 c0_i32_35
  let v79 : BitVec 1 := Scalar.andi v78 v75
  let v80 : BitVec 32 := Scalar.addi v74 v73
  let v81 : BitVec 32 := Scalar.select v79 v80 v74
  let v82 : BitVec 32 := Scalar.muli c2_i32_38 v81
  let v83 : BitVec 32 := Scalar.subi v71 v82
  let c2_i32_121 : BitVec 32 := 2#32
  let c0_i32_122 : BitVec 32 := 0#32
  let v240 : BitVec 1 := Scalar.cmpi .eq c2_i32_121 c0_i32_122
  let c1_i32_123 : BitVec 32 := 1#32
  let v241 : BitVec 32 := Scalar.select v240 c1_i32_123 c2_i32_121
  let v242 : BitVec 32 := Scalar.remsi v83 v241
  let c0_i32_125 : BitVec 32 := 0#32
  let v244 : BitVec 1 := Scalar.cmpi .slt v242 c0_i32_125
  let c0_i32_126 : BitVec 32 := 0#32
  let v245 : BitVec 1 := Scalar.cmpi .slt v241 c0_i32_126
  let v246 : BitVec 1 := Scalar.xori v244 v245
  let c0_i32_124 : BitVec 32 := 0#32
  let v243 : BitVec 1 := Scalar.cmpi .ne v242 c0_i32_124
  let v247 : BitVec 1 := Scalar.andi v246 v243
  let v248 : BitVec 32 := Scalar.addi v242 v241
  let v249 : BitVec 32 := Scalar.select v247 v248 v242
  let c2_i32_127 : BitVec 32 := 2#32
  let v250 : BitVec 32 := Scalar.muli v249 c2_i32_127
  let c0_i32_129 : BitVec 32 := 0#32
  let v252 : BitVec 1 := Scalar.cmpi .sgt v83 c0_i32_129
  let v253 : BitVec 32 := Scalar.extui v252
  let c0_i32_130 : BitVec 32 := 0#32
  let v254 : BitVec 1 := Scalar.cmpi .slt v83 c0_i32_130
  let v255 : BitVec 32 := Scalar.extui v254
  let v256 : BitVec 32 := Scalar.subi v253 v255
  let c2_i32_128 : BitVec 32 := 2#32
  let c0_i32_131 : BitVec 32 := 0#32
  let v257 : BitVec 1 := Scalar.cmpi .sgt c2_i32_128 c0_i32_131
  let v258 : BitVec 32 := Scalar.extui v257
  let c0_i32_132 : BitVec 32 := 0#32
  let v259 : BitVec 1 := Scalar.cmpi .slt c2_i32_128 c0_i32_132
  let v260 : BitVec 32 := Scalar.extui v259
  let v261 : BitVec 32 := Scalar.subi v258 v260
  let v262 : BitVec 1 := Scalar.cmpi .ne v256 v261
  let v263 : BitVec 32 := Scalar.remsi v83 c2_i32_128
  let c0_i32_133 : BitVec 32 := 0#32
  let v264 : BitVec 1 := Scalar.cmpi .ne v263 c0_i32_133
  let v265 : BitVec 1 := Scalar.andi v262 v264
  let v251 : BitVec 32 := Scalar.divsi v83 c2_i32_128
  let c1_i32_134 : BitVec 32 := 1#32
  let v266 : BitVec 32 := Scalar.subi v251 c1_i32_134
  let v267 : BitVec 32 := Scalar.select v265 v266 v251
  let v268 : BitVec 32 := Scalar.addi v250 v267
  let v1520 : BitVec 32 := Scalar.addi v1519 v268
  let c16_i32_842 : BitVec 32 := 16#32
  let v1521 : BitVec 32 := Scalar.muli v1520 c16_i32_842
  let c0_i32_866 : BitVec 32 := 0#32
  ![v1521.toNat, 0]
def k0_dev16 (d0 : Dev nD) : Nat :=
  let c0_i32_863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_31 : BitVec 32 := 1#32
  let v71 : BitVec 32 := Scalar.addi v19 c1_i32_31
  let c2_i32_38 : BitVec 32 := 2#32
  let c2_i32_32 : BitVec 32 := 2#32
  let c0_i32_33 : BitVec 32 := 0#32
  let v72 : BitVec 1 := Scalar.cmpi .eq c2_i32_32 c0_i32_33
  let c1_i32_34 : BitVec 32 := 1#32
  let v73 : BitVec 32 := Scalar.select v72 c1_i32_34 c2_i32_32
  let v74 : BitVec 32 := Scalar.remsi v19 v73
  let c0_i32_36 : BitVec 32 := 0#32
  let v76 : BitVec 1 := Scalar.cmpi .slt v74 c0_i32_36
  let c0_i32_37 : BitVec 32 := 0#32
  let v77 : BitVec 1 := Scalar.cmpi .slt v73 c0_i32_37
  let v78 : BitVec 1 := Scalar.xori v76 v77
  let c0_i32_35 : BitVec 32 := 0#32
  let v75 : BitVec 1 := Scalar.cmpi .ne v74 c0_i32_35
  let v79 : BitVec 1 := Scalar.andi v78 v75
  let v80 : BitVec 32 := Scalar.addi v74 v73
  let v81 : BitVec 32 := Scalar.select v79 v80 v74
  let v82 : BitVec 32 := Scalar.muli c2_i32_38 v81
  let v83 : BitVec 32 := Scalar.subi v71 v82
  let c8_i32_113 : BitVec 32 := 8#32
  let v225 : BitVec 32 := Scalar.muli v83 c8_i32_113
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_114 : BitVec 32 := 2#32
  let v226 : BitVec 32 := Scalar.muli v46 c2_i32_114
  let v227 : BitVec 32 := Scalar.addi v225 v226
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v228 : BitVec 32 := Scalar.addi v57 v46
  let c2_i32_115 : BitVec 32 := 2#32
  let c0_i32_116 : BitVec 32 := 0#32
  let v229 : BitVec 1 := Scalar.cmpi .eq c2_i32_115 c0_i32_116
  let c1_i32_117 : BitVec 32 := 1#32
  let v230 : BitVec 32 := Scalar.select v229 c1_i32_117 c2_i32_115
  let v231 : BitVec 32 := Scalar.remsi v228 v230
  let c0_i32_119 : BitVec 32 := 0#32
  let v233 : BitVec 1 := Scalar.cmpi .slt v231 c0_i32_119
  let c0_i32_120 : BitVec 32 := 0#32
  let v234 : BitVec 1 := Scalar.cmpi .slt v230 c0_i32_120
  let v235 : BitVec 1 := Scalar.xori v233 v234
  let c0_i32_118 : BitVec 32 := 0#32
  let v232 : BitVec 1 := Scalar.cmpi .ne v231 c0_i32_118
  let v236 : BitVec 1 := Scalar.andi v235 v232
  let v237 : BitVec 32 := Scalar.addi v231 v230
  let v238 : BitVec 32 := Scalar.select v236 v237 v231
  let v239 : BitVec 32 := Scalar.addi v227 v238
  let c1_i32_862 : BitVec 32 := 1#32
  let v1554 : BitVec 32 := Scalar.muli v239 c1_i32_862
  let v1555 : BitVec 32 := Scalar.addi c0_i32_863 v1554
  v1555.toNat
def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c16_i32 : BitVec 32 := 16#32
  let v117 : BitVec 32 := Scalar.muli v57 c16_i32
  let c2_i32_59 : BitVec 32 := 2#32
  let c0_i32_60 : BitVec 32 := 0#32
  let v118 : BitVec 1 := Scalar.cmpi .eq c2_i32_59 c0_i32_60
  let c1_i32_61 : BitVec 32 := 1#32
  let v119 : BitVec 32 := Scalar.select v118 c1_i32_61 c2_i32_59
  let v120 : BitVec 32 := Scalar.remsi v46 v119
  let c0_i32_63 : BitVec 32 := 0#32
  let v122 : BitVec 1 := Scalar.cmpi .slt v120 c0_i32_63
  let c0_i32_64 : BitVec 32 := 0#32
  let v123 : BitVec 1 := Scalar.cmpi .slt v119 c0_i32_64
  let v124 : BitVec 1 := Scalar.xori v122 v123
  let c0_i32_62 : BitVec 32 := 0#32
  let v121 : BitVec 1 := Scalar.cmpi .ne v120 c0_i32_62
  let v125 : BitVec 1 := Scalar.andi v124 v121
  let v126 : BitVec 32 := Scalar.addi v120 v119
  let v127 : BitVec 32 := Scalar.select v125 v126 v120
  let c8_i32_65 : BitVec 32 := 8#32
  let v128 : BitVec 32 := Scalar.muli v127 c8_i32_65
  let v129 : BitVec 32 := Scalar.addi v117 v128
  let c0_i32_67 : BitVec 32 := 0#32
  let v131 : BitVec 1 := Scalar.cmpi .sgt v46 c0_i32_67
  let v132 : BitVec 32 := Scalar.extui v131
  let c0_i32_68 : BitVec 32 := 0#32
  let v133 : BitVec 1 := Scalar.cmpi .slt v46 c0_i32_68
  let v134 : BitVec 32 := Scalar.extui v133
  let v135 : BitVec 32 := Scalar.subi v132 v134
  let c2_i32_66 : BitVec 32 := 2#32
  let c0_i32_69 : BitVec 32 := 0#32
  let v136 : BitVec 1 := Scalar.cmpi .sgt c2_i32_66 c0_i32_69
  let v137 : BitVec 32 := Scalar.extui v136
  let c0_i32_70 : BitVec 32 := 0#32
  let v138 : BitVec 1 := Scalar.cmpi .slt c2_i32_66 c0_i32_70
  let v139 : BitVec 32 := Scalar.extui v138
  let v140 : BitVec 32 := Scalar.subi v137 v139
  let v141 : BitVec 1 := Scalar.cmpi .ne v135 v140
  let v142 : BitVec 32 := Scalar.remsi v46 c2_i32_66
  let c0_i32_71 : BitVec 32 := 0#32
  let v143 : BitVec 1 := Scalar.cmpi .ne v142 c0_i32_71
  let v144 : BitVec 1 := Scalar.andi v141 v143
  let v130 : BitVec 32 := Scalar.divsi v46 c2_i32_66
  let c1_i32_72 : BitVec 32 := 1#32
  let v145 : BitVec 32 := Scalar.subi v130 c1_i32_72
  let v146 : BitVec 32 := Scalar.select v144 v145 v130
  let c4_i32_73 : BitVec 32 := 4#32
  let v147 : BitVec 32 := Scalar.muli v146 c4_i32_73
  let v148 : BitVec 32 := Scalar.addi v129 v147
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_74 : BitVec 32 := 2#32
  let c0_i32_75 : BitVec 32 := 0#32
  let v149 : BitVec 1 := Scalar.cmpi .eq c2_i32_74 c0_i32_75
  let c1_i32_76 : BitVec 32 := 1#32
  let v150 : BitVec 32 := Scalar.select v149 c1_i32_76 c2_i32_74
  let v151 : BitVec 32 := Scalar.remsi v19 v150
  let c0_i32_78 : BitVec 32 := 0#32
  let v153 : BitVec 1 := Scalar.cmpi .slt v151 c0_i32_78
  let c0_i32_79 : BitVec 32 := 0#32
  let v154 : BitVec 1 := Scalar.cmpi .slt v150 c0_i32_79
  let v155 : BitVec 1 := Scalar.xori v153 v154
  let c0_i32_77 : BitVec 32 := 0#32
  let v152 : BitVec 1 := Scalar.cmpi .ne v151 c0_i32_77
  let v156 : BitVec 1 := Scalar.andi v155 v152
  let v157 : BitVec 32 := Scalar.addi v151 v150
  let v158 : BitVec 32 := Scalar.select v156 v157 v151
  let c2_i32_80 : BitVec 32 := 2#32
  let v159 : BitVec 32 := Scalar.muli v158 c2_i32_80
  let v160 : BitVec 32 := Scalar.addi v148 v159
  let c0_i32_82 : BitVec 32 := 0#32
  let v162 : BitVec 1 := Scalar.cmpi .sgt v19 c0_i32_82
  let v163 : BitVec 32 := Scalar.extui v162
  let c0_i32_83 : BitVec 32 := 0#32
  let v164 : BitVec 1 := Scalar.cmpi .slt v19 c0_i32_83
  let v165 : BitVec 32 := Scalar.extui v164
  let v166 : BitVec 32 := Scalar.subi v163 v165
  let c2_i32_81 : BitVec 32 := 2#32
  let c0_i32_84 : BitVec 32 := 0#32
  let v167 : BitVec 1 := Scalar.cmpi .sgt c2_i32_81 c0_i32_84
  let v168 : BitVec 32 := Scalar.extui v167
  let c0_i32_85 : BitVec 32 := 0#32
  let v169 : BitVec 1 := Scalar.cmpi .slt c2_i32_81 c0_i32_85
  let v170 : BitVec 32 := Scalar.extui v169
  let v171 : BitVec 32 := Scalar.subi v168 v170
  let v172 : BitVec 1 := Scalar.cmpi .ne v166 v171
  let v173 : BitVec 32 := Scalar.remsi v19 c2_i32_81
  let c0_i32_86 : BitVec 32 := 0#32
  let v174 : BitVec 1 := Scalar.cmpi .ne v173 c0_i32_86
  let v175 : BitVec 1 := Scalar.andi v172 v174
  let v161 : BitVec 32 := Scalar.divsi v19 c2_i32_81
  let c1_i32_87 : BitVec 32 := 1#32
  let v176 : BitVec 32 := Scalar.subi v161 c1_i32_87
  let v177 : BitVec 32 := Scalar.select v175 v176 v161
  let v178 : BitVec 32 := Scalar.addi v160 v177
  let c0_i32_835 : BitVec 32 := 0#32
  let v1503 : BitVec 1 := Scalar.cmpi .sgt v178 c0_i32_835
  let v1504 : BitVec 32 := Scalar.extui v1503
  let c0_i32_836 : BitVec 32 := 0#32
  let v1505 : BitVec 1 := Scalar.cmpi .slt v178 c0_i32_836
  let v1506 : BitVec 32 := Scalar.extui v1505
  let v1507 : BitVec 32 := Scalar.subi v1504 v1506
  let c4_i32_834 : BitVec 32 := 4#32
  let c0_i32_837 : BitVec 32 := 0#32
  let v1508 : BitVec 1 := Scalar.cmpi .sgt c4_i32_834 c0_i32_837
  let v1509 : BitVec 32 := Scalar.extui v1508
  let c0_i32_838 : BitVec 32 := 0#32
  let v1510 : BitVec 1 := Scalar.cmpi .slt c4_i32_834 c0_i32_838
  let v1511 : BitVec 32 := Scalar.extui v1510
  let v1512 : BitVec 32 := Scalar.subi v1509 v1511
  let v1513 : BitVec 1 := Scalar.cmpi .ne v1507 v1512
  let v1514 : BitVec 32 := Scalar.remsi v178 c4_i32_834
  let c0_i32_839 : BitVec 32 := 0#32
  let v1515 : BitVec 1 := Scalar.cmpi .ne v1514 c0_i32_839
  let v1516 : BitVec 1 := Scalar.andi v1513 v1515
  let v1502 : BitVec 32 := Scalar.divsi v178 c4_i32_834
  let c1_i32_840 : BitVec 32 := 1#32
  let v1517 : BitVec 32 := Scalar.subi v1502 c1_i32_840
  let v1518 : BitVec 32 := Scalar.select v1516 v1517 v1502
  let c4_i32_843 : BitVec 32 := 4#32
  let v1522 : BitVec 32 := Scalar.muli v1518 c4_i32_843
  let c2_i32_45 : BitVec 32 := 2#32
  let v95 : BitVec 32 := Scalar.addi v19 c2_i32_45
  let c4_i32_46 : BitVec 32 := 4#32
  let c0_i32_47 : BitVec 32 := 0#32
  let v96 : BitVec 1 := Scalar.cmpi .eq c4_i32_46 c0_i32_47
  let c1_i32_48 : BitVec 32 := 1#32
  let v97 : BitVec 32 := Scalar.select v96 c1_i32_48 c4_i32_46
  let v98 : BitVec 32 := Scalar.remsi v95 v97
  let c0_i32_50 : BitVec 32 := 0#32
  let v100 : BitVec 1 := Scalar.cmpi .slt v98 c0_i32_50
  let c0_i32_51 : BitVec 32 := 0#32
  let v101 : BitVec 1 := Scalar.cmpi .slt v97 c0_i32_51
  let v102 : BitVec 1 := Scalar.xori v100 v101
  let c0_i32_49 : BitVec 32 := 0#32
  let v99 : BitVec 1 := Scalar.cmpi .ne v98 c0_i32_49
  let v103 : BitVec 1 := Scalar.andi v102 v99
  let v104 : BitVec 32 := Scalar.addi v98 v97
  let v105 : BitVec 32 := Scalar.select v103 v104 v98
  let c2_i32_143 : BitVec 32 := 2#32
  let c0_i32_144 : BitVec 32 := 0#32
  let v284 : BitVec 1 := Scalar.cmpi .eq c2_i32_143 c0_i32_144
  let c1_i32_145 : BitVec 32 := 1#32
  let v285 : BitVec 32 := Scalar.select v284 c1_i32_145 c2_i32_143
  let v286 : BitVec 32 := Scalar.remsi v105 v285
  let c0_i32_147 : BitVec 32 := 0#32
  let v288 : BitVec 1 := Scalar.cmpi .slt v286 c0_i32_147
  let c0_i32_148 : BitVec 32 := 0#32
  let v289 : BitVec 1 := Scalar.cmpi .slt v285 c0_i32_148
  let v290 : BitVec 1 := Scalar.xori v288 v289
  let c0_i32_146 : BitVec 32 := 0#32
  let v287 : BitVec 1 := Scalar.cmpi .ne v286 c0_i32_146
  let v291 : BitVec 1 := Scalar.andi v290 v287
  let v292 : BitVec 32 := Scalar.addi v286 v285
  let v293 : BitVec 32 := Scalar.select v291 v292 v286
  let c2_i32_149 : BitVec 32 := 2#32
  let v294 : BitVec 32 := Scalar.muli v293 c2_i32_149
  let c0_i32_151 : BitVec 32 := 0#32
  let v296 : BitVec 1 := Scalar.cmpi .sgt v105 c0_i32_151
  let v297 : BitVec 32 := Scalar.extui v296
  let c0_i32_152 : BitVec 32 := 0#32
  let v298 : BitVec 1 := Scalar.cmpi .slt v105 c0_i32_152
  let v299 : BitVec 32 := Scalar.extui v298
  let v300 : BitVec 32 := Scalar.subi v297 v299
  let c2_i32_150 : BitVec 32 := 2#32
  let c0_i32_153 : BitVec 32 := 0#32
  let v301 : BitVec 1 := Scalar.cmpi .sgt c2_i32_150 c0_i32_153
  let v302 : BitVec 32 := Scalar.extui v301
  let c0_i32_154 : BitVec 32 := 0#32
  let v303 : BitVec 1 := Scalar.cmpi .slt c2_i32_150 c0_i32_154
  let v304 : BitVec 32 := Scalar.extui v303
  let v305 : BitVec 32 := Scalar.subi v302 v304
  let v306 : BitVec 1 := Scalar.cmpi .ne v300 v305
  let v307 : BitVec 32 := Scalar.remsi v105 c2_i32_150
  let c0_i32_155 : BitVec 32 := 0#32
  let v308 : BitVec 1 := Scalar.cmpi .ne v307 c0_i32_155
  let v309 : BitVec 1 := Scalar.andi v306 v308
  let v295 : BitVec 32 := Scalar.divsi v105 c2_i32_150
  let c1_i32_156 : BitVec 32 := 1#32
  let v310 : BitVec 32 := Scalar.subi v295 c1_i32_156
  let v311 : BitVec 32 := Scalar.select v309 v310 v295
  let v312 : BitVec 32 := Scalar.addi v294 v311
  let v1523 : BitVec 32 := Scalar.addi v1522 v312
  let c16_i32_844 : BitVec 32 := 16#32
  let v1524 : BitVec 32 := Scalar.muli v1523 c16_i32_844
  let c0_i32_873 : BitVec 32 := 0#32
  ![v1524.toNat, 0]
def k0_dev17 (d0 : Dev nD) : Nat :=
  let c0_i32_870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_45 : BitVec 32 := 2#32
  let v95 : BitVec 32 := Scalar.addi v19 c2_i32_45
  let c4_i32_46 : BitVec 32 := 4#32
  let c0_i32_47 : BitVec 32 := 0#32
  let v96 : BitVec 1 := Scalar.cmpi .eq c4_i32_46 c0_i32_47
  let c1_i32_48 : BitVec 32 := 1#32
  let v97 : BitVec 32 := Scalar.select v96 c1_i32_48 c4_i32_46
  let v98 : BitVec 32 := Scalar.remsi v95 v97
  let c0_i32_50 : BitVec 32 := 0#32
  let v100 : BitVec 1 := Scalar.cmpi .slt v98 c0_i32_50
  let c0_i32_51 : BitVec 32 := 0#32
  let v101 : BitVec 1 := Scalar.cmpi .slt v97 c0_i32_51
  let v102 : BitVec 1 := Scalar.xori v100 v101
  let c0_i32_49 : BitVec 32 := 0#32
  let v99 : BitVec 1 := Scalar.cmpi .ne v98 c0_i32_49
  let v103 : BitVec 1 := Scalar.andi v102 v99
  let v104 : BitVec 32 := Scalar.addi v98 v97
  let v105 : BitVec 32 := Scalar.select v103 v104 v98
  let c8_i32_135 : BitVec 32 := 8#32
  let v269 : BitVec 32 := Scalar.muli v105 c8_i32_135
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_136 : BitVec 32 := 2#32
  let v270 : BitVec 32 := Scalar.muli v46 c2_i32_136
  let v271 : BitVec 32 := Scalar.addi v269 v270
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v272 : BitVec 32 := Scalar.addi v57 v46
  let c2_i32_137 : BitVec 32 := 2#32
  let c0_i32_138 : BitVec 32 := 0#32
  let v273 : BitVec 1 := Scalar.cmpi .eq c2_i32_137 c0_i32_138
  let c1_i32_139 : BitVec 32 := 1#32
  let v274 : BitVec 32 := Scalar.select v273 c1_i32_139 c2_i32_137
  let v275 : BitVec 32 := Scalar.remsi v272 v274
  let c0_i32_141 : BitVec 32 := 0#32
  let v277 : BitVec 1 := Scalar.cmpi .slt v275 c0_i32_141
  let c0_i32_142 : BitVec 32 := 0#32
  let v278 : BitVec 1 := Scalar.cmpi .slt v274 c0_i32_142
  let v279 : BitVec 1 := Scalar.xori v277 v278
  let c0_i32_140 : BitVec 32 := 0#32
  let v276 : BitVec 1 := Scalar.cmpi .ne v275 c0_i32_140
  let v280 : BitVec 1 := Scalar.andi v279 v276
  let v281 : BitVec 32 := Scalar.addi v275 v274
  let v282 : BitVec 32 := Scalar.select v280 v281 v275
  let v283 : BitVec 32 := Scalar.addi v271 v282
  let c1_i32_869 : BitVec 32 := 1#32
  let v1562 : BitVec 32 := Scalar.muli v283 c1_i32_869
  let v1563 : BitVec 32 := Scalar.addi c0_i32_870 v1562
  v1563.toNat
def k0_off27 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c16_i32 : BitVec 32 := 16#32
  let v117 : BitVec 32 := Scalar.muli v57 c16_i32
  let c2_i32_59 : BitVec 32 := 2#32
  let c0_i32_60 : BitVec 32 := 0#32
  let v118 : BitVec 1 := Scalar.cmpi .eq c2_i32_59 c0_i32_60
  let c1_i32_61 : BitVec 32 := 1#32
  let v119 : BitVec 32 := Scalar.select v118 c1_i32_61 c2_i32_59
  let v120 : BitVec 32 := Scalar.remsi v46 v119
  let c0_i32_63 : BitVec 32 := 0#32
  let v122 : BitVec 1 := Scalar.cmpi .slt v120 c0_i32_63
  let c0_i32_64 : BitVec 32 := 0#32
  let v123 : BitVec 1 := Scalar.cmpi .slt v119 c0_i32_64
  let v124 : BitVec 1 := Scalar.xori v122 v123
  let c0_i32_62 : BitVec 32 := 0#32
  let v121 : BitVec 1 := Scalar.cmpi .ne v120 c0_i32_62
  let v125 : BitVec 1 := Scalar.andi v124 v121
  let v126 : BitVec 32 := Scalar.addi v120 v119
  let v127 : BitVec 32 := Scalar.select v125 v126 v120
  let c8_i32_65 : BitVec 32 := 8#32
  let v128 : BitVec 32 := Scalar.muli v127 c8_i32_65
  let v129 : BitVec 32 := Scalar.addi v117 v128
  let c0_i32_67 : BitVec 32 := 0#32
  let v131 : BitVec 1 := Scalar.cmpi .sgt v46 c0_i32_67
  let v132 : BitVec 32 := Scalar.extui v131
  let c0_i32_68 : BitVec 32 := 0#32
  let v133 : BitVec 1 := Scalar.cmpi .slt v46 c0_i32_68
  let v134 : BitVec 32 := Scalar.extui v133
  let v135 : BitVec 32 := Scalar.subi v132 v134
  let c2_i32_66 : BitVec 32 := 2#32
  let c0_i32_69 : BitVec 32 := 0#32
  let v136 : BitVec 1 := Scalar.cmpi .sgt c2_i32_66 c0_i32_69
  let v137 : BitVec 32 := Scalar.extui v136
  let c0_i32_70 : BitVec 32 := 0#32
  let v138 : BitVec 1 := Scalar.cmpi .slt c2_i32_66 c0_i32_70
  let v139 : BitVec 32 := Scalar.extui v138
  let v140 : BitVec 32 := Scalar.subi v137 v139
  let v141 : BitVec 1 := Scalar.cmpi .ne v135 v140
  let v142 : BitVec 32 := Scalar.remsi v46 c2_i32_66
  let c0_i32_71 : BitVec 32 := 0#32
  let v143 : BitVec 1 := Scalar.cmpi .ne v142 c0_i32_71
  let v144 : BitVec 1 := Scalar.andi v141 v143
  let v130 : BitVec 32 := Scalar.divsi v46 c2_i32_66
  let c1_i32_72 : BitVec 32 := 1#32
  let v145 : BitVec 32 := Scalar.subi v130 c1_i32_72
  let v146 : BitVec 32 := Scalar.select v144 v145 v130
  let c4_i32_73 : BitVec 32 := 4#32
  let v147 : BitVec 32 := Scalar.muli v146 c4_i32_73
  let v148 : BitVec 32 := Scalar.addi v129 v147
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_74 : BitVec 32 := 2#32
  let c0_i32_75 : BitVec 32 := 0#32
  let v149 : BitVec 1 := Scalar.cmpi .eq c2_i32_74 c0_i32_75
  let c1_i32_76 : BitVec 32 := 1#32
  let v150 : BitVec 32 := Scalar.select v149 c1_i32_76 c2_i32_74
  let v151 : BitVec 32 := Scalar.remsi v19 v150
  let c0_i32_78 : BitVec 32 := 0#32
  let v153 : BitVec 1 := Scalar.cmpi .slt v151 c0_i32_78
  let c0_i32_79 : BitVec 32 := 0#32
  let v154 : BitVec 1 := Scalar.cmpi .slt v150 c0_i32_79
  let v155 : BitVec 1 := Scalar.xori v153 v154
  let c0_i32_77 : BitVec 32 := 0#32
  let v152 : BitVec 1 := Scalar.cmpi .ne v151 c0_i32_77
  let v156 : BitVec 1 := Scalar.andi v155 v152
  let v157 : BitVec 32 := Scalar.addi v151 v150
  let v158 : BitVec 32 := Scalar.select v156 v157 v151
  let c2_i32_80 : BitVec 32 := 2#32
  let v159 : BitVec 32 := Scalar.muli v158 c2_i32_80
  let v160 : BitVec 32 := Scalar.addi v148 v159
  let c0_i32_82 : BitVec 32 := 0#32
  let v162 : BitVec 1 := Scalar.cmpi .sgt v19 c0_i32_82
  let v163 : BitVec 32 := Scalar.extui v162
  let c0_i32_83 : BitVec 32 := 0#32
  let v164 : BitVec 1 := Scalar.cmpi .slt v19 c0_i32_83
  let v165 : BitVec 32 := Scalar.extui v164
  let v166 : BitVec 32 := Scalar.subi v163 v165
  let c2_i32_81 : BitVec 32 := 2#32
  let c0_i32_84 : BitVec 32 := 0#32
  let v167 : BitVec 1 := Scalar.cmpi .sgt c2_i32_81 c0_i32_84
  let v168 : BitVec 32 := Scalar.extui v167
  let c0_i32_85 : BitVec 32 := 0#32
  let v169 : BitVec 1 := Scalar.cmpi .slt c2_i32_81 c0_i32_85
  let v170 : BitVec 32 := Scalar.extui v169
  let v171 : BitVec 32 := Scalar.subi v168 v170
  let v172 : BitVec 1 := Scalar.cmpi .ne v166 v171
  let v173 : BitVec 32 := Scalar.remsi v19 c2_i32_81
  let c0_i32_86 : BitVec 32 := 0#32
  let v174 : BitVec 1 := Scalar.cmpi .ne v173 c0_i32_86
  let v175 : BitVec 1 := Scalar.andi v172 v174
  let v161 : BitVec 32 := Scalar.divsi v19 c2_i32_81
  let c1_i32_87 : BitVec 32 := 1#32
  let v176 : BitVec 32 := Scalar.subi v161 c1_i32_87
  let v177 : BitVec 32 := Scalar.select v175 v176 v161
  let v178 : BitVec 32 := Scalar.addi v160 v177
  let c0_i32_835 : BitVec 32 := 0#32
  let v1503 : BitVec 1 := Scalar.cmpi .sgt v178 c0_i32_835
  let v1504 : BitVec 32 := Scalar.extui v1503
  let c0_i32_836 : BitVec 32 := 0#32
  let v1505 : BitVec 1 := Scalar.cmpi .slt v178 c0_i32_836
  let v1506 : BitVec 32 := Scalar.extui v1505
  let v1507 : BitVec 32 := Scalar.subi v1504 v1506
  let c4_i32_834 : BitVec 32 := 4#32
  let c0_i32_837 : BitVec 32 := 0#32
  let v1508 : BitVec 1 := Scalar.cmpi .sgt c4_i32_834 c0_i32_837
  let v1509 : BitVec 32 := Scalar.extui v1508
  let c0_i32_838 : BitVec 32 := 0#32
  let v1510 : BitVec 1 := Scalar.cmpi .slt c4_i32_834 c0_i32_838
  let v1511 : BitVec 32 := Scalar.extui v1510
  let v1512 : BitVec 32 := Scalar.subi v1509 v1511
  let v1513 : BitVec 1 := Scalar.cmpi .ne v1507 v1512
  let v1514 : BitVec 32 := Scalar.remsi v178 c4_i32_834
  let c0_i32_839 : BitVec 32 := 0#32
  let v1515 : BitVec 1 := Scalar.cmpi .ne v1514 c0_i32_839
  let v1516 : BitVec 1 := Scalar.andi v1513 v1515
  let v1502 : BitVec 32 := Scalar.divsi v178 c4_i32_834
  let c1_i32_840 : BitVec 32 := 1#32
  let v1517 : BitVec 32 := Scalar.subi v1502 c1_i32_840
  let v1518 : BitVec 32 := Scalar.select v1516 v1517 v1502
  let c4_i32_845 : BitVec 32 := 4#32
  let v1525 : BitVec 32 := Scalar.muli v1518 c4_i32_845
  let c1_i32_31 : BitVec 32 := 1#32
  let v71 : BitVec 32 := Scalar.addi v19 c1_i32_31
  let c2_i32_38 : BitVec 32 := 2#32
  let c2_i32_32 : BitVec 32 := 2#32
  let c0_i32_33 : BitVec 32 := 0#32
  let v72 : BitVec 1 := Scalar.cmpi .eq c2_i32_32 c0_i32_33
  let c1_i32_34 : BitVec 32 := 1#32
  let v73 : BitVec 32 := Scalar.select v72 c1_i32_34 c2_i32_32
  let v74 : BitVec 32 := Scalar.remsi v19 v73
  let c0_i32_36 : BitVec 32 := 0#32
  let v76 : BitVec 1 := Scalar.cmpi .slt v74 c0_i32_36
  let c0_i32_37 : BitVec 32 := 0#32
  let v77 : BitVec 1 := Scalar.cmpi .slt v73 c0_i32_37
  let v78 : BitVec 1 := Scalar.xori v76 v77
  let c0_i32_35 : BitVec 32 := 0#32
  let v75 : BitVec 1 := Scalar.cmpi .ne v74 c0_i32_35
  let v79 : BitVec 1 := Scalar.andi v78 v75
  let v80 : BitVec 32 := Scalar.addi v74 v73
  let v81 : BitVec 32 := Scalar.select v79 v80 v74
  let v82 : BitVec 32 := Scalar.muli c2_i32_38 v81
  let v83 : BitVec 32 := Scalar.subi v71 v82
  let c2_i32_52 : BitVec 32 := 2#32
  let v106 : BitVec 32 := Scalar.addi v83 c2_i32_52
  let c4_i32_53 : BitVec 32 := 4#32
  let c0_i32_54 : BitVec 32 := 0#32
  let v107 : BitVec 1 := Scalar.cmpi .eq c4_i32_53 c0_i32_54
  let c1_i32_55 : BitVec 32 := 1#32
  let v108 : BitVec 32 := Scalar.select v107 c1_i32_55 c4_i32_53
  let v109 : BitVec 32 := Scalar.remsi v106 v108
  let c0_i32_57 : BitVec 32 := 0#32
  let v111 : BitVec 1 := Scalar.cmpi .slt v109 c0_i32_57
  let c0_i32_58 : BitVec 32 := 0#32
  let v112 : BitVec 1 := Scalar.cmpi .slt v108 c0_i32_58
  let v113 : BitVec 1 := Scalar.xori v111 v112
  let c0_i32_56 : BitVec 32 := 0#32
  let v110 : BitVec 1 := Scalar.cmpi .ne v109 c0_i32_56
  let v114 : BitVec 1 := Scalar.andi v113 v110
  let v115 : BitVec 32 := Scalar.addi v109 v108
  let v116 : BitVec 32 := Scalar.select v114 v115 v109
  let c2_i32_165 : BitVec 32 := 2#32
  let c0_i32_166 : BitVec 32 := 0#32
  let v328 : BitVec 1 := Scalar.cmpi .eq c2_i32_165 c0_i32_166
  let c1_i32_167 : BitVec 32 := 1#32
  let v329 : BitVec 32 := Scalar.select v328 c1_i32_167 c2_i32_165
  let v330 : BitVec 32 := Scalar.remsi v116 v329
  let c0_i32_169 : BitVec 32 := 0#32
  let v332 : BitVec 1 := Scalar.cmpi .slt v330 c0_i32_169
  let c0_i32_170 : BitVec 32 := 0#32
  let v333 : BitVec 1 := Scalar.cmpi .slt v329 c0_i32_170
  let v334 : BitVec 1 := Scalar.xori v332 v333
  let c0_i32_168 : BitVec 32 := 0#32
  let v331 : BitVec 1 := Scalar.cmpi .ne v330 c0_i32_168
  let v335 : BitVec 1 := Scalar.andi v334 v331
  let v336 : BitVec 32 := Scalar.addi v330 v329
  let v337 : BitVec 32 := Scalar.select v335 v336 v330
  let c2_i32_171 : BitVec 32 := 2#32
  let v338 : BitVec 32 := Scalar.muli v337 c2_i32_171
  let c0_i32_173 : BitVec 32 := 0#32
  let v340 : BitVec 1 := Scalar.cmpi .sgt v116 c0_i32_173
  let v341 : BitVec 32 := Scalar.extui v340
  let c0_i32_174 : BitVec 32 := 0#32
  let v342 : BitVec 1 := Scalar.cmpi .slt v116 c0_i32_174
  let v343 : BitVec 32 := Scalar.extui v342
  let v344 : BitVec 32 := Scalar.subi v341 v343
  let c2_i32_172 : BitVec 32 := 2#32
  let c0_i32_175 : BitVec 32 := 0#32
  let v345 : BitVec 1 := Scalar.cmpi .sgt c2_i32_172 c0_i32_175
  let v346 : BitVec 32 := Scalar.extui v345
  let c0_i32_176 : BitVec 32 := 0#32
  let v347 : BitVec 1 := Scalar.cmpi .slt c2_i32_172 c0_i32_176
  let v348 : BitVec 32 := Scalar.extui v347
  let v349 : BitVec 32 := Scalar.subi v346 v348
  let v350 : BitVec 1 := Scalar.cmpi .ne v344 v349
  let v351 : BitVec 32 := Scalar.remsi v116 c2_i32_172
  let c0_i32_177 : BitVec 32 := 0#32
  let v352 : BitVec 1 := Scalar.cmpi .ne v351 c0_i32_177
  let v353 : BitVec 1 := Scalar.andi v350 v352
  let v339 : BitVec 32 := Scalar.divsi v116 c2_i32_172
  let c1_i32_178 : BitVec 32 := 1#32
  let v354 : BitVec 32 := Scalar.subi v339 c1_i32_178
  let v355 : BitVec 32 := Scalar.select v353 v354 v339
  let v356 : BitVec 32 := Scalar.addi v338 v355
  let v1526 : BitVec 32 := Scalar.addi v1525 v356
  let c16_i32_846 : BitVec 32 := 16#32
  let v1527 : BitVec 32 := Scalar.muli v1526 c16_i32_846
  let c0_i32_880 : BitVec 32 := 0#32
  ![v1527.toNat, 0]
def k0_dev18 (d0 : Dev nD) : Nat :=
  let c0_i32_877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_31 : BitVec 32 := 1#32
  let v71 : BitVec 32 := Scalar.addi v19 c1_i32_31
  let c2_i32_38 : BitVec 32 := 2#32
  let c2_i32_32 : BitVec 32 := 2#32
  let c0_i32_33 : BitVec 32 := 0#32
  let v72 : BitVec 1 := Scalar.cmpi .eq c2_i32_32 c0_i32_33
  let c1_i32_34 : BitVec 32 := 1#32
  let v73 : BitVec 32 := Scalar.select v72 c1_i32_34 c2_i32_32
  let v74 : BitVec 32 := Scalar.remsi v19 v73
  let c0_i32_36 : BitVec 32 := 0#32
  let v76 : BitVec 1 := Scalar.cmpi .slt v74 c0_i32_36
  let c0_i32_37 : BitVec 32 := 0#32
  let v77 : BitVec 1 := Scalar.cmpi .slt v73 c0_i32_37
  let v78 : BitVec 1 := Scalar.xori v76 v77
  let c0_i32_35 : BitVec 32 := 0#32
  let v75 : BitVec 1 := Scalar.cmpi .ne v74 c0_i32_35
  let v79 : BitVec 1 := Scalar.andi v78 v75
  let v80 : BitVec 32 := Scalar.addi v74 v73
  let v81 : BitVec 32 := Scalar.select v79 v80 v74
  let v82 : BitVec 32 := Scalar.muli c2_i32_38 v81
  let v83 : BitVec 32 := Scalar.subi v71 v82
  let c2_i32_52 : BitVec 32 := 2#32
  let v106 : BitVec 32 := Scalar.addi v83 c2_i32_52
  let c4_i32_53 : BitVec 32 := 4#32
  let c0_i32_54 : BitVec 32 := 0#32
  let v107 : BitVec 1 := Scalar.cmpi .eq c4_i32_53 c0_i32_54
  let c1_i32_55 : BitVec 32 := 1#32
  let v108 : BitVec 32 := Scalar.select v107 c1_i32_55 c4_i32_53
  let v109 : BitVec 32 := Scalar.remsi v106 v108
  let c0_i32_57 : BitVec 32 := 0#32
  let v111 : BitVec 1 := Scalar.cmpi .slt v109 c0_i32_57
  let c0_i32_58 : BitVec 32 := 0#32
  let v112 : BitVec 1 := Scalar.cmpi .slt v108 c0_i32_58
  let v113 : BitVec 1 := Scalar.xori v111 v112
  let c0_i32_56 : BitVec 32 := 0#32
  let v110 : BitVec 1 := Scalar.cmpi .ne v109 c0_i32_56
  let v114 : BitVec 1 := Scalar.andi v113 v110
  let v115 : BitVec 32 := Scalar.addi v109 v108
  let v116 : BitVec 32 := Scalar.select v114 v115 v109
  let c8_i32_157 : BitVec 32 := 8#32
  let v313 : BitVec 32 := Scalar.muli v116 c8_i32_157
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_158 : BitVec 32 := 2#32
  let v314 : BitVec 32 := Scalar.muli v46 c2_i32_158
  let v315 : BitVec 32 := Scalar.addi v313 v314
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v316 : BitVec 32 := Scalar.addi v57 v46
  let c2_i32_159 : BitVec 32 := 2#32
  let c0_i32_160 : BitVec 32 := 0#32
  let v317 : BitVec 1 := Scalar.cmpi .eq c2_i32_159 c0_i32_160
  let c1_i32_161 : BitVec 32 := 1#32
  let v318 : BitVec 32 := Scalar.select v317 c1_i32_161 c2_i32_159
  let v319 : BitVec 32 := Scalar.remsi v316 v318
  let c0_i32_163 : BitVec 32 := 0#32
  let v321 : BitVec 1 := Scalar.cmpi .slt v319 c0_i32_163
  let c0_i32_164 : BitVec 32 := 0#32
  let v322 : BitVec 1 := Scalar.cmpi .slt v318 c0_i32_164
  let v323 : BitVec 1 := Scalar.xori v321 v322
  let c0_i32_162 : BitVec 32 := 0#32
  let v320 : BitVec 1 := Scalar.cmpi .ne v319 c0_i32_162
  let v324 : BitVec 1 := Scalar.andi v323 v320
  let v325 : BitVec 32 := Scalar.addi v319 v318
  let v326 : BitVec 32 := Scalar.select v324 v325 v319
  let v327 : BitVec 32 := Scalar.addi v315 v326
  let c1_i32_876 : BitVec 32 := 1#32
  let v1570 : BitVec 32 := Scalar.muli v327 c1_i32_876
  let v1571 : BitVec 32 := Scalar.addi c0_i32_877 v1570
  v1571.toNat
def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_179 : BitVec 32 := 2#32
  let c0_i32_180 : BitVec 32 := 0#32
  let v357 : BitVec 1 := Scalar.cmpi .eq c2_i32_179 c0_i32_180
  let c1_i32_181 : BitVec 32 := 1#32
  let v358 : BitVec 32 := Scalar.select v357 c1_i32_181 c2_i32_179
  let v359 : BitVec 32 := Scalar.remsi v46 v358
  let c0_i32_183 : BitVec 32 := 0#32
  let v361 : BitVec 1 := Scalar.cmpi .slt v359 c0_i32_183
  let c0_i32_184 : BitVec 32 := 0#32
  let v362 : BitVec 1 := Scalar.cmpi .slt v358 c0_i32_184
  let v363 : BitVec 1 := Scalar.xori v361 v362
  let c0_i32_182 : BitVec 32 := 0#32
  let v360 : BitVec 1 := Scalar.cmpi .ne v359 c0_i32_182
  let v364 : BitVec 1 := Scalar.andi v363 v360
  let v365 : BitVec 32 := Scalar.addi v359 v358
  let v366 : BitVec 32 := Scalar.select v364 v365 v359
  let c16_i32_185 : BitVec 32 := 16#32
  let v367 : BitVec 32 := Scalar.muli v366 c16_i32_185
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_186 : BitVec 32 := 2#32
  let c0_i32_187 : BitVec 32 := 0#32
  let v368 : BitVec 1 := Scalar.cmpi .eq c2_i32_186 c0_i32_187
  let c1_i32_188 : BitVec 32 := 1#32
  let v369 : BitVec 32 := Scalar.select v368 c1_i32_188 c2_i32_186
  let v370 : BitVec 32 := Scalar.remsi v19 v369
  let c0_i32_190 : BitVec 32 := 0#32
  let v372 : BitVec 1 := Scalar.cmpi .slt v370 c0_i32_190
  let c0_i32_191 : BitVec 32 := 0#32
  let v373 : BitVec 1 := Scalar.cmpi .slt v369 c0_i32_191
  let v374 : BitVec 1 := Scalar.xori v372 v373
  let c0_i32_189 : BitVec 32 := 0#32
  let v371 : BitVec 1 := Scalar.cmpi .ne v370 c0_i32_189
  let v375 : BitVec 1 := Scalar.andi v374 v371
  let v376 : BitVec 32 := Scalar.addi v370 v369
  let v377 : BitVec 32 := Scalar.select v375 v376 v370
  let c8_i32_192 : BitVec 32 := 8#32
  let v378 : BitVec 32 := Scalar.muli v377 c8_i32_192
  let v379 : BitVec 32 := Scalar.addi v367 v378
  let c0_i32_194 : BitVec 32 := 0#32
  let v381 : BitVec 1 := Scalar.cmpi .sgt v19 c0_i32_194
  let v382 : BitVec 32 := Scalar.extui v381
  let c0_i32_195 : BitVec 32 := 0#32
  let v383 : BitVec 1 := Scalar.cmpi .slt v19 c0_i32_195
  let v384 : BitVec 32 := Scalar.extui v383
  let v385 : BitVec 32 := Scalar.subi v382 v384
  let c2_i32_193 : BitVec 32 := 2#32
  let c0_i32_196 : BitVec 32 := 0#32
  let v386 : BitVec 1 := Scalar.cmpi .sgt c2_i32_193 c0_i32_196
  let v387 : BitVec 32 := Scalar.extui v386
  let c0_i32_197 : BitVec 32 := 0#32
  let v388 : BitVec 1 := Scalar.cmpi .slt c2_i32_193 c0_i32_197
  let v389 : BitVec 32 := Scalar.extui v388
  let v390 : BitVec 32 := Scalar.subi v387 v389
  let v391 : BitVec 1 := Scalar.cmpi .ne v385 v390
  let v392 : BitVec 32 := Scalar.remsi v19 c2_i32_193
  let c0_i32_198 : BitVec 32 := 0#32
  let v393 : BitVec 1 := Scalar.cmpi .ne v392 c0_i32_198
  let v394 : BitVec 1 := Scalar.andi v391 v393
  let v380 : BitVec 32 := Scalar.divsi v19 c2_i32_193
  let c1_i32_199 : BitVec 32 := 1#32
  let v395 : BitVec 32 := Scalar.subi v380 c1_i32_199
  let v396 : BitVec 32 := Scalar.select v394 v395 v380
  let c4_i32_200 : BitVec 32 := 4#32
  let v397 : BitVec 32 := Scalar.muli v396 c4_i32_200
  let v398 : BitVec 32 := Scalar.addi v379 v397
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_201 : BitVec 32 := 2#32
  let v399 : BitVec 32 := Scalar.muli v57 c2_i32_201
  let v400 : BitVec 32 := Scalar.addi v398 v399
  let c0_i32_203 : BitVec 32 := 0#32
  let v402 : BitVec 1 := Scalar.cmpi .sgt v46 c0_i32_203
  let v403 : BitVec 32 := Scalar.extui v402
  let c0_i32_204 : BitVec 32 := 0#32
  let v404 : BitVec 1 := Scalar.cmpi .slt v46 c0_i32_204
  let v405 : BitVec 32 := Scalar.extui v404
  let v406 : BitVec 32 := Scalar.subi v403 v405
  let c2_i32_202 : BitVec 32 := 2#32
  let c0_i32_205 : BitVec 32 := 0#32
  let v407 : BitVec 1 := Scalar.cmpi .sgt c2_i32_202 c0_i32_205
  let v408 : BitVec 32 := Scalar.extui v407
  let c0_i32_206 : BitVec 32 := 0#32
  let v409 : BitVec 1 := Scalar.cmpi .slt c2_i32_202 c0_i32_206
  let v410 : BitVec 32 := Scalar.extui v409
  let v411 : BitVec 32 := Scalar.subi v408 v410
  let v412 : BitVec 1 := Scalar.cmpi .ne v406 v411
  let v413 : BitVec 32 := Scalar.remsi v46 c2_i32_202
  let c0_i32_207 : BitVec 32 := 0#32
  let v414 : BitVec 1 := Scalar.cmpi .ne v413 c0_i32_207
  let v415 : BitVec 1 := Scalar.andi v412 v414
  let v401 : BitVec 32 := Scalar.divsi v46 c2_i32_202
  let c1_i32_208 : BitVec 32 := 1#32
  let v416 : BitVec 32 := Scalar.subi v401 c1_i32_208
  let v417 : BitVec 32 := Scalar.select v415 v416 v401
  let v418 : BitVec 32 := Scalar.addi v400 v417
  let c0_i32_848 : BitVec 32 := 0#32
  let v1529 : BitVec 1 := Scalar.cmpi .sgt v418 c0_i32_848
  let v1530 : BitVec 32 := Scalar.extui v1529
  let c0_i32_849 : BitVec 32 := 0#32
  let v1531 : BitVec 1 := Scalar.cmpi .slt v418 c0_i32_849
  let v1532 : BitVec 32 := Scalar.extui v1531
  let v1533 : BitVec 32 := Scalar.subi v1530 v1532
  let c4_i32_847 : BitVec 32 := 4#32
  let c0_i32_850 : BitVec 32 := 0#32
  let v1534 : BitVec 1 := Scalar.cmpi .sgt c4_i32_847 c0_i32_850
  let v1535 : BitVec 32 := Scalar.extui v1534
  let c0_i32_851 : BitVec 32 := 0#32
  let v1536 : BitVec 1 := Scalar.cmpi .slt c4_i32_847 c0_i32_851
  let v1537 : BitVec 32 := Scalar.extui v1536
  let v1538 : BitVec 32 := Scalar.subi v1535 v1537
  let v1539 : BitVec 1 := Scalar.cmpi .ne v1533 v1538
  let v1540 : BitVec 32 := Scalar.remsi v418 c4_i32_847
  let c0_i32_852 : BitVec 32 := 0#32
  let v1541 : BitVec 1 := Scalar.cmpi .ne v1540 c0_i32_852
  let v1542 : BitVec 1 := Scalar.andi v1539 v1541
  let v1528 : BitVec 32 := Scalar.divsi v418 c4_i32_847
  let c1_i32_853 : BitVec 32 := 1#32
  let v1543 : BitVec 32 := Scalar.subi v1528 c1_i32_853
  let v1544 : BitVec 32 := Scalar.select v1542 v1543 v1528
  let c4_i32_854 : BitVec 32 := 4#32
  let v1545 : BitVec 32 := Scalar.muli v1544 c4_i32_854
  let c1_i32_242 : BitVec 32 := 1#32
  let v480 : BitVec 32 := Scalar.subi c1_i32_242 v57
  let c2_i32_243 : BitVec 32 := 2#32
  let v481 : BitVec 32 := Scalar.muli v480 c2_i32_243
  let c0_i32_245 : BitVec 32 := 0#32
  let v483 : BitVec 1 := Scalar.cmpi .sgt v46 c0_i32_245
  let v484 : BitVec 32 := Scalar.extui v483
  let c0_i32_246 : BitVec 32 := 0#32
  let v485 : BitVec 1 := Scalar.cmpi .slt v46 c0_i32_246
  let v486 : BitVec 32 := Scalar.extui v485
  let v487 : BitVec 32 := Scalar.subi v484 v486
  let c2_i32_244 : BitVec 32 := 2#32
  let c0_i32_247 : BitVec 32 := 0#32
  let v488 : BitVec 1 := Scalar.cmpi .sgt c2_i32_244 c0_i32_247
  let v489 : BitVec 32 := Scalar.extui v488
  let c0_i32_248 : BitVec 32 := 0#32
  let v490 : BitVec 1 := Scalar.cmpi .slt c2_i32_244 c0_i32_248
  let v491 : BitVec 32 := Scalar.extui v490
  let v492 : BitVec 32 := Scalar.subi v489 v491
  let v493 : BitVec 1 := Scalar.cmpi .ne v487 v492
  let v494 : BitVec 32 := Scalar.remsi v46 c2_i32_244
  let c0_i32_249 : BitVec 32 := 0#32
  let v495 : BitVec 1 := Scalar.cmpi .ne v494 c0_i32_249
  let v496 : BitVec 1 := Scalar.andi v493 v495
  let v482 : BitVec 32 := Scalar.divsi v46 c2_i32_244
  let c1_i32_250 : BitVec 32 := 1#32
  let v497 : BitVec 32 := Scalar.subi v482 c1_i32_250
  let v498 : BitVec 32 := Scalar.select v496 v497 v482
  let v499 : BitVec 32 := Scalar.addi v481 v498
  let v1546 : BitVec 32 := Scalar.addi v1545 v499
  let c16_i32_855 : BitVec 32 := 16#32
  let v1547 : BitVec 32 := Scalar.muli v1546 c16_i32_855
  let c0_i32_887 : BitVec 32 := 0#32
  ![v1547.toNat, 0]
def k0_dev19 (d0 : Dev nD) : Nat :=
  let c0_i32_884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_234 : BitVec 32 := 8#32
  let v465 : BitVec 32 := Scalar.muli v19 c8_i32_234
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_235 : BitVec 32 := 2#32
  let v466 : BitVec 32 := Scalar.muli v46 c2_i32_235
  let v467 : BitVec 32 := Scalar.addi v465 v466
  let c1_i32_233 : BitVec 32 := 1#32
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v464 : BitVec 32 := Scalar.subi c1_i32_233 v57
  let v468 : BitVec 32 := Scalar.addi v464 v46
  let c2_i32_236 : BitVec 32 := 2#32
  let c0_i32_237 : BitVec 32 := 0#32
  let v469 : BitVec 1 := Scalar.cmpi .eq c2_i32_236 c0_i32_237
  let c1_i32_238 : BitVec 32 := 1#32
  let v470 : BitVec 32 := Scalar.select v469 c1_i32_238 c2_i32_236
  let v471 : BitVec 32 := Scalar.remsi v468 v470
  let c0_i32_240 : BitVec 32 := 0#32
  let v473 : BitVec 1 := Scalar.cmpi .slt v471 c0_i32_240
  let c0_i32_241 : BitVec 32 := 0#32
  let v474 : BitVec 1 := Scalar.cmpi .slt v470 c0_i32_241
  let v475 : BitVec 1 := Scalar.xori v473 v474
  let c0_i32_239 : BitVec 32 := 0#32
  let v472 : BitVec 1 := Scalar.cmpi .ne v471 c0_i32_239
  let v476 : BitVec 1 := Scalar.andi v475 v472
  let v477 : BitVec 32 := Scalar.addi v471 v470
  let v478 : BitVec 32 := Scalar.select v476 v477 v471
  let v479 : BitVec 32 := Scalar.addi v467 v478
  let c1_i32_883 : BitVec 32 := 1#32
  let v1578 : BitVec 32 := Scalar.muli v479 c1_i32_883
  let v1579 : BitVec 32 := Scalar.addi c0_i32_884 v1578
  v1579.toNat
def k0_off29 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_179 : BitVec 32 := 2#32
  let c0_i32_180 : BitVec 32 := 0#32
  let v357 : BitVec 1 := Scalar.cmpi .eq c2_i32_179 c0_i32_180
  let c1_i32_181 : BitVec 32 := 1#32
  let v358 : BitVec 32 := Scalar.select v357 c1_i32_181 c2_i32_179
  let v359 : BitVec 32 := Scalar.remsi v46 v358
  let c0_i32_183 : BitVec 32 := 0#32
  let v361 : BitVec 1 := Scalar.cmpi .slt v359 c0_i32_183
  let c0_i32_184 : BitVec 32 := 0#32
  let v362 : BitVec 1 := Scalar.cmpi .slt v358 c0_i32_184
  let v363 : BitVec 1 := Scalar.xori v361 v362
  let c0_i32_182 : BitVec 32 := 0#32
  let v360 : BitVec 1 := Scalar.cmpi .ne v359 c0_i32_182
  let v364 : BitVec 1 := Scalar.andi v363 v360
  let v365 : BitVec 32 := Scalar.addi v359 v358
  let v366 : BitVec 32 := Scalar.select v364 v365 v359
  let c16_i32_185 : BitVec 32 := 16#32
  let v367 : BitVec 32 := Scalar.muli v366 c16_i32_185
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_186 : BitVec 32 := 2#32
  let c0_i32_187 : BitVec 32 := 0#32
  let v368 : BitVec 1 := Scalar.cmpi .eq c2_i32_186 c0_i32_187
  let c1_i32_188 : BitVec 32 := 1#32
  let v369 : BitVec 32 := Scalar.select v368 c1_i32_188 c2_i32_186
  let v370 : BitVec 32 := Scalar.remsi v19 v369
  let c0_i32_190 : BitVec 32 := 0#32
  let v372 : BitVec 1 := Scalar.cmpi .slt v370 c0_i32_190
  let c0_i32_191 : BitVec 32 := 0#32
  let v373 : BitVec 1 := Scalar.cmpi .slt v369 c0_i32_191
  let v374 : BitVec 1 := Scalar.xori v372 v373
  let c0_i32_189 : BitVec 32 := 0#32
  let v371 : BitVec 1 := Scalar.cmpi .ne v370 c0_i32_189
  let v375 : BitVec 1 := Scalar.andi v374 v371
  let v376 : BitVec 32 := Scalar.addi v370 v369
  let v377 : BitVec 32 := Scalar.select v375 v376 v370
  let c8_i32_192 : BitVec 32 := 8#32
  let v378 : BitVec 32 := Scalar.muli v377 c8_i32_192
  let v379 : BitVec 32 := Scalar.addi v367 v378
  let c0_i32_194 : BitVec 32 := 0#32
  let v381 : BitVec 1 := Scalar.cmpi .sgt v19 c0_i32_194
  let v382 : BitVec 32 := Scalar.extui v381
  let c0_i32_195 : BitVec 32 := 0#32
  let v383 : BitVec 1 := Scalar.cmpi .slt v19 c0_i32_195
  let v384 : BitVec 32 := Scalar.extui v383
  let v385 : BitVec 32 := Scalar.subi v382 v384
  let c2_i32_193 : BitVec 32 := 2#32
  let c0_i32_196 : BitVec 32 := 0#32
  let v386 : BitVec 1 := Scalar.cmpi .sgt c2_i32_193 c0_i32_196
  let v387 : BitVec 32 := Scalar.extui v386
  let c0_i32_197 : BitVec 32 := 0#32
  let v388 : BitVec 1 := Scalar.cmpi .slt c2_i32_193 c0_i32_197
  let v389 : BitVec 32 := Scalar.extui v388
  let v390 : BitVec 32 := Scalar.subi v387 v389
  let v391 : BitVec 1 := Scalar.cmpi .ne v385 v390
  let v392 : BitVec 32 := Scalar.remsi v19 c2_i32_193
  let c0_i32_198 : BitVec 32 := 0#32
  let v393 : BitVec 1 := Scalar.cmpi .ne v392 c0_i32_198
  let v394 : BitVec 1 := Scalar.andi v391 v393
  let v380 : BitVec 32 := Scalar.divsi v19 c2_i32_193
  let c1_i32_199 : BitVec 32 := 1#32
  let v395 : BitVec 32 := Scalar.subi v380 c1_i32_199
  let v396 : BitVec 32 := Scalar.select v394 v395 v380
  let c4_i32_200 : BitVec 32 := 4#32
  let v397 : BitVec 32 := Scalar.muli v396 c4_i32_200
  let v398 : BitVec 32 := Scalar.addi v379 v397
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_201 : BitVec 32 := 2#32
  let v399 : BitVec 32 := Scalar.muli v57 c2_i32_201
  let v400 : BitVec 32 := Scalar.addi v398 v399
  let c0_i32_203 : BitVec 32 := 0#32
  let v402 : BitVec 1 := Scalar.cmpi .sgt v46 c0_i32_203
  let v403 : BitVec 32 := Scalar.extui v402
  let c0_i32_204 : BitVec 32 := 0#32
  let v404 : BitVec 1 := Scalar.cmpi .slt v46 c0_i32_204
  let v405 : BitVec 32 := Scalar.extui v404
  let v406 : BitVec 32 := Scalar.subi v403 v405
  let c2_i32_202 : BitVec 32 := 2#32
  let c0_i32_205 : BitVec 32 := 0#32
  let v407 : BitVec 1 := Scalar.cmpi .sgt c2_i32_202 c0_i32_205
  let v408 : BitVec 32 := Scalar.extui v407
  let c0_i32_206 : BitVec 32 := 0#32
  let v409 : BitVec 1 := Scalar.cmpi .slt c2_i32_202 c0_i32_206
  let v410 : BitVec 32 := Scalar.extui v409
  let v411 : BitVec 32 := Scalar.subi v408 v410
  let v412 : BitVec 1 := Scalar.cmpi .ne v406 v411
  let v413 : BitVec 32 := Scalar.remsi v46 c2_i32_202
  let c0_i32_207 : BitVec 32 := 0#32
  let v414 : BitVec 1 := Scalar.cmpi .ne v413 c0_i32_207
  let v415 : BitVec 1 := Scalar.andi v412 v414
  let v401 : BitVec 32 := Scalar.divsi v46 c2_i32_202
  let c1_i32_208 : BitVec 32 := 1#32
  let v416 : BitVec 32 := Scalar.subi v401 c1_i32_208
  let v417 : BitVec 32 := Scalar.select v415 v416 v401
  let v418 : BitVec 32 := Scalar.addi v400 v417
  let c0_i32_848 : BitVec 32 := 0#32
  let v1529 : BitVec 1 := Scalar.cmpi .sgt v418 c0_i32_848
  let v1530 : BitVec 32 := Scalar.extui v1529
  let c0_i32_849 : BitVec 32 := 0#32
  let v1531 : BitVec 1 := Scalar.cmpi .slt v418 c0_i32_849
  let v1532 : BitVec 32 := Scalar.extui v1531
  let v1533 : BitVec 32 := Scalar.subi v1530 v1532
  let c4_i32_847 : BitVec 32 := 4#32
  let c0_i32_850 : BitVec 32 := 0#32
  let v1534 : BitVec 1 := Scalar.cmpi .sgt c4_i32_847 c0_i32_850
  let v1535 : BitVec 32 := Scalar.extui v1534
  let c0_i32_851 : BitVec 32 := 0#32
  let v1536 : BitVec 1 := Scalar.cmpi .slt c4_i32_847 c0_i32_851
  let v1537 : BitVec 32 := Scalar.extui v1536
  let v1538 : BitVec 32 := Scalar.subi v1535 v1537
  let v1539 : BitVec 1 := Scalar.cmpi .ne v1533 v1538
  let v1540 : BitVec 32 := Scalar.remsi v418 c4_i32_847
  let c0_i32_852 : BitVec 32 := 0#32
  let v1541 : BitVec 1 := Scalar.cmpi .ne v1540 c0_i32_852
  let v1542 : BitVec 1 := Scalar.andi v1539 v1541
  let v1528 : BitVec 32 := Scalar.divsi v418 c4_i32_847
  let c1_i32_853 : BitVec 32 := 1#32
  let v1543 : BitVec 32 := Scalar.subi v1528 c1_i32_853
  let v1544 : BitVec 32 := Scalar.select v1542 v1543 v1528
  let c4_i32_856 : BitVec 32 := 4#32
  let v1548 : BitVec 32 := Scalar.muli v1544 c4_i32_856
  let c2_i32_259 : BitVec 32 := 2#32
  let v515 : BitVec 32 := Scalar.muli v57 c2_i32_259
  let c2_i32_39 : BitVec 32 := 2#32
  let v84 : BitVec 32 := Scalar.addi v46 c2_i32_39
  let c4_i32 : BitVec 32 := 4#32
  let c0_i32_40 : BitVec 32 := 0#32
  let v85 : BitVec 1 := Scalar.cmpi .eq c4_i32 c0_i32_40
  let c1_i32_41 : BitVec 32 := 1#32
  let v86 : BitVec 32 := Scalar.select v85 c1_i32_41 c4_i32
  let v87 : BitVec 32 := Scalar.remsi v84 v86
  let c0_i32_43 : BitVec 32 := 0#32
  let v89 : BitVec 1 := Scalar.cmpi .slt v87 c0_i32_43
  let c0_i32_44 : BitVec 32 := 0#32
  let v90 : BitVec 1 := Scalar.cmpi .slt v86 c0_i32_44
  let v91 : BitVec 1 := Scalar.xori v89 v90
  let c0_i32_42 : BitVec 32 := 0#32
  let v88 : BitVec 1 := Scalar.cmpi .ne v87 c0_i32_42
  let v92 : BitVec 1 := Scalar.andi v91 v88
  let v93 : BitVec 32 := Scalar.addi v87 v86
  let v94 : BitVec 32 := Scalar.select v92 v93 v87
  let c0_i32_261 : BitVec 32 := 0#32
  let v517 : BitVec 1 := Scalar.cmpi .sgt v94 c0_i32_261
  let v518 : BitVec 32 := Scalar.extui v517
  let c0_i32_262 : BitVec 32 := 0#32
  let v519 : BitVec 1 := Scalar.cmpi .slt v94 c0_i32_262
  let v520 : BitVec 32 := Scalar.extui v519
  let v521 : BitVec 32 := Scalar.subi v518 v520
  let c2_i32_260 : BitVec 32 := 2#32
  let c0_i32_263 : BitVec 32 := 0#32
  let v522 : BitVec 1 := Scalar.cmpi .sgt c2_i32_260 c0_i32_263
  let v523 : BitVec 32 := Scalar.extui v522
  let c0_i32_264 : BitVec 32 := 0#32
  let v524 : BitVec 1 := Scalar.cmpi .slt c2_i32_260 c0_i32_264
  let v525 : BitVec 32 := Scalar.extui v524
  let v526 : BitVec 32 := Scalar.subi v523 v525
  let v527 : BitVec 1 := Scalar.cmpi .ne v521 v526
  let v528 : BitVec 32 := Scalar.remsi v94 c2_i32_260
  let c0_i32_265 : BitVec 32 := 0#32
  let v529 : BitVec 1 := Scalar.cmpi .ne v528 c0_i32_265
  let v530 : BitVec 1 := Scalar.andi v527 v529
  let v516 : BitVec 32 := Scalar.divsi v94 c2_i32_260
  let c1_i32_266 : BitVec 32 := 1#32
  let v531 : BitVec 32 := Scalar.subi v516 c1_i32_266
  let v532 : BitVec 32 := Scalar.select v530 v531 v516
  let v533 : BitVec 32 := Scalar.addi v515 v532
  let v1549 : BitVec 32 := Scalar.addi v1548 v533
  let c16_i32_857 : BitVec 32 := 16#32
  let v1550 : BitVec 32 := Scalar.muli v1549 c16_i32_857
  let c0_i32_894 : BitVec 32 := 0#32
  ![v1550.toNat, 0]
def k0_dev20 (d0 : Dev nD) : Nat :=
  let c0_i32_891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_251 : BitVec 32 := 8#32
  let v500 : BitVec 32 := Scalar.muli v19 c8_i32_251
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_39 : BitVec 32 := 2#32
  let v84 : BitVec 32 := Scalar.addi v46 c2_i32_39
  let c4_i32 : BitVec 32 := 4#32
  let c0_i32_40 : BitVec 32 := 0#32
  let v85 : BitVec 1 := Scalar.cmpi .eq c4_i32 c0_i32_40
  let c1_i32_41 : BitVec 32 := 1#32
  let v86 : BitVec 32 := Scalar.select v85 c1_i32_41 c4_i32
  let v87 : BitVec 32 := Scalar.remsi v84 v86
  let c0_i32_43 : BitVec 32 := 0#32
  let v89 : BitVec 1 := Scalar.cmpi .slt v87 c0_i32_43
  let c0_i32_44 : BitVec 32 := 0#32
  let v90 : BitVec 1 := Scalar.cmpi .slt v86 c0_i32_44
  let v91 : BitVec 1 := Scalar.xori v89 v90
  let c0_i32_42 : BitVec 32 := 0#32
  let v88 : BitVec 1 := Scalar.cmpi .ne v87 c0_i32_42
  let v92 : BitVec 1 := Scalar.andi v91 v88
  let v93 : BitVec 32 := Scalar.addi v87 v86
  let v94 : BitVec 32 := Scalar.select v92 v93 v87
  let c2_i32_252 : BitVec 32 := 2#32
  let v501 : BitVec 32 := Scalar.muli v94 c2_i32_252
  let v502 : BitVec 32 := Scalar.addi v500 v501
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v503 : BitVec 32 := Scalar.addi v57 v94
  let c2_i32_253 : BitVec 32 := 2#32
  let c0_i32_254 : BitVec 32 := 0#32
  let v504 : BitVec 1 := Scalar.cmpi .eq c2_i32_253 c0_i32_254
  let c1_i32_255 : BitVec 32 := 1#32
  let v505 : BitVec 32 := Scalar.select v504 c1_i32_255 c2_i32_253
  let v506 : BitVec 32 := Scalar.remsi v503 v505
  let c0_i32_257 : BitVec 32 := 0#32
  let v508 : BitVec 1 := Scalar.cmpi .slt v506 c0_i32_257
  let c0_i32_258 : BitVec 32 := 0#32
  let v509 : BitVec 1 := Scalar.cmpi .slt v505 c0_i32_258
  let v510 : BitVec 1 := Scalar.xori v508 v509
  let c0_i32_256 : BitVec 32 := 0#32
  let v507 : BitVec 1 := Scalar.cmpi .ne v506 c0_i32_256
  let v511 : BitVec 1 := Scalar.andi v510 v507
  let v512 : BitVec 32 := Scalar.addi v506 v505
  let v513 : BitVec 32 := Scalar.select v511 v512 v506
  let v514 : BitVec 32 := Scalar.addi v502 v513
  let c1_i32_890 : BitVec 32 := 1#32
  let v1586 : BitVec 32 := Scalar.muli v514 c1_i32_890
  let v1587 : BitVec 32 := Scalar.addi c0_i32_891 v1586
  v1587.toNat
def k0_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_179 : BitVec 32 := 2#32
  let c0_i32_180 : BitVec 32 := 0#32
  let v357 : BitVec 1 := Scalar.cmpi .eq c2_i32_179 c0_i32_180
  let c1_i32_181 : BitVec 32 := 1#32
  let v358 : BitVec 32 := Scalar.select v357 c1_i32_181 c2_i32_179
  let v359 : BitVec 32 := Scalar.remsi v46 v358
  let c0_i32_183 : BitVec 32 := 0#32
  let v361 : BitVec 1 := Scalar.cmpi .slt v359 c0_i32_183
  let c0_i32_184 : BitVec 32 := 0#32
  let v362 : BitVec 1 := Scalar.cmpi .slt v358 c0_i32_184
  let v363 : BitVec 1 := Scalar.xori v361 v362
  let c0_i32_182 : BitVec 32 := 0#32
  let v360 : BitVec 1 := Scalar.cmpi .ne v359 c0_i32_182
  let v364 : BitVec 1 := Scalar.andi v363 v360
  let v365 : BitVec 32 := Scalar.addi v359 v358
  let v366 : BitVec 32 := Scalar.select v364 v365 v359
  let c16_i32_185 : BitVec 32 := 16#32
  let v367 : BitVec 32 := Scalar.muli v366 c16_i32_185
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_186 : BitVec 32 := 2#32
  let c0_i32_187 : BitVec 32 := 0#32
  let v368 : BitVec 1 := Scalar.cmpi .eq c2_i32_186 c0_i32_187
  let c1_i32_188 : BitVec 32 := 1#32
  let v369 : BitVec 32 := Scalar.select v368 c1_i32_188 c2_i32_186
  let v370 : BitVec 32 := Scalar.remsi v19 v369
  let c0_i32_190 : BitVec 32 := 0#32
  let v372 : BitVec 1 := Scalar.cmpi .slt v370 c0_i32_190
  let c0_i32_191 : BitVec 32 := 0#32
  let v373 : BitVec 1 := Scalar.cmpi .slt v369 c0_i32_191
  let v374 : BitVec 1 := Scalar.xori v372 v373
  let c0_i32_189 : BitVec 32 := 0#32
  let v371 : BitVec 1 := Scalar.cmpi .ne v370 c0_i32_189
  let v375 : BitVec 1 := Scalar.andi v374 v371
  let v376 : BitVec 32 := Scalar.addi v370 v369
  let v377 : BitVec 32 := Scalar.select v375 v376 v370
  let c8_i32_192 : BitVec 32 := 8#32
  let v378 : BitVec 32 := Scalar.muli v377 c8_i32_192
  let v379 : BitVec 32 := Scalar.addi v367 v378
  let c0_i32_194 : BitVec 32 := 0#32
  let v381 : BitVec 1 := Scalar.cmpi .sgt v19 c0_i32_194
  let v382 : BitVec 32 := Scalar.extui v381
  let c0_i32_195 : BitVec 32 := 0#32
  let v383 : BitVec 1 := Scalar.cmpi .slt v19 c0_i32_195
  let v384 : BitVec 32 := Scalar.extui v383
  let v385 : BitVec 32 := Scalar.subi v382 v384
  let c2_i32_193 : BitVec 32 := 2#32
  let c0_i32_196 : BitVec 32 := 0#32
  let v386 : BitVec 1 := Scalar.cmpi .sgt c2_i32_193 c0_i32_196
  let v387 : BitVec 32 := Scalar.extui v386
  let c0_i32_197 : BitVec 32 := 0#32
  let v388 : BitVec 1 := Scalar.cmpi .slt c2_i32_193 c0_i32_197
  let v389 : BitVec 32 := Scalar.extui v388
  let v390 : BitVec 32 := Scalar.subi v387 v389
  let v391 : BitVec 1 := Scalar.cmpi .ne v385 v390
  let v392 : BitVec 32 := Scalar.remsi v19 c2_i32_193
  let c0_i32_198 : BitVec 32 := 0#32
  let v393 : BitVec 1 := Scalar.cmpi .ne v392 c0_i32_198
  let v394 : BitVec 1 := Scalar.andi v391 v393
  let v380 : BitVec 32 := Scalar.divsi v19 c2_i32_193
  let c1_i32_199 : BitVec 32 := 1#32
  let v395 : BitVec 32 := Scalar.subi v380 c1_i32_199
  let v396 : BitVec 32 := Scalar.select v394 v395 v380
  let c4_i32_200 : BitVec 32 := 4#32
  let v397 : BitVec 32 := Scalar.muli v396 c4_i32_200
  let v398 : BitVec 32 := Scalar.addi v379 v397
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_201 : BitVec 32 := 2#32
  let v399 : BitVec 32 := Scalar.muli v57 c2_i32_201
  let v400 : BitVec 32 := Scalar.addi v398 v399
  let c0_i32_203 : BitVec 32 := 0#32
  let v402 : BitVec 1 := Scalar.cmpi .sgt v46 c0_i32_203
  let v403 : BitVec 32 := Scalar.extui v402
  let c0_i32_204 : BitVec 32 := 0#32
  let v404 : BitVec 1 := Scalar.cmpi .slt v46 c0_i32_204
  let v405 : BitVec 32 := Scalar.extui v404
  let v406 : BitVec 32 := Scalar.subi v403 v405
  let c2_i32_202 : BitVec 32 := 2#32
  let c0_i32_205 : BitVec 32 := 0#32
  let v407 : BitVec 1 := Scalar.cmpi .sgt c2_i32_202 c0_i32_205
  let v408 : BitVec 32 := Scalar.extui v407
  let c0_i32_206 : BitVec 32 := 0#32
  let v409 : BitVec 1 := Scalar.cmpi .slt c2_i32_202 c0_i32_206
  let v410 : BitVec 32 := Scalar.extui v409
  let v411 : BitVec 32 := Scalar.subi v408 v410
  let v412 : BitVec 1 := Scalar.cmpi .ne v406 v411
  let v413 : BitVec 32 := Scalar.remsi v46 c2_i32_202
  let c0_i32_207 : BitVec 32 := 0#32
  let v414 : BitVec 1 := Scalar.cmpi .ne v413 c0_i32_207
  let v415 : BitVec 1 := Scalar.andi v412 v414
  let v401 : BitVec 32 := Scalar.divsi v46 c2_i32_202
  let c1_i32_208 : BitVec 32 := 1#32
  let v416 : BitVec 32 := Scalar.subi v401 c1_i32_208
  let v417 : BitVec 32 := Scalar.select v415 v416 v401
  let v418 : BitVec 32 := Scalar.addi v400 v417
  let c0_i32_848 : BitVec 32 := 0#32
  let v1529 : BitVec 1 := Scalar.cmpi .sgt v418 c0_i32_848
  let v1530 : BitVec 32 := Scalar.extui v1529
  let c0_i32_849 : BitVec 32 := 0#32
  let v1531 : BitVec 1 := Scalar.cmpi .slt v418 c0_i32_849
  let v1532 : BitVec 32 := Scalar.extui v1531
  let v1533 : BitVec 32 := Scalar.subi v1530 v1532
  let c4_i32_847 : BitVec 32 := 4#32
  let c0_i32_850 : BitVec 32 := 0#32
  let v1534 : BitVec 1 := Scalar.cmpi .sgt c4_i32_847 c0_i32_850
  let v1535 : BitVec 32 := Scalar.extui v1534
  let c0_i32_851 : BitVec 32 := 0#32
  let v1536 : BitVec 1 := Scalar.cmpi .slt c4_i32_847 c0_i32_851
  let v1537 : BitVec 32 := Scalar.extui v1536
  let v1538 : BitVec 32 := Scalar.subi v1535 v1537
  let v1539 : BitVec 1 := Scalar.cmpi .ne v1533 v1538
  let v1540 : BitVec 32 := Scalar.remsi v418 c4_i32_847
  let c0_i32_852 : BitVec 32 := 0#32
  let v1541 : BitVec 1 := Scalar.cmpi .ne v1540 c0_i32_852
  let v1542 : BitVec 1 := Scalar.andi v1539 v1541
  let v1528 : BitVec 32 := Scalar.divsi v418 c4_i32_847
  let c1_i32_853 : BitVec 32 := 1#32
  let v1543 : BitVec 32 := Scalar.subi v1528 c1_i32_853
  let v1544 : BitVec 32 := Scalar.select v1542 v1543 v1528
  let c4_i32_858 : BitVec 32 := 4#32
  let v1551 : BitVec 32 := Scalar.muli v1544 c4_i32_858
  let c1_i32_276 : BitVec 32 := 1#32
  let v550 : BitVec 32 := Scalar.subi c1_i32_276 v57
  let c2_i32_277 : BitVec 32 := 2#32
  let v551 : BitVec 32 := Scalar.muli v550 c2_i32_277
  let c2_i32_39 : BitVec 32 := 2#32
  let v84 : BitVec 32 := Scalar.addi v46 c2_i32_39
  let c4_i32 : BitVec 32 := 4#32
  let c0_i32_40 : BitVec 32 := 0#32
  let v85 : BitVec 1 := Scalar.cmpi .eq c4_i32 c0_i32_40
  let c1_i32_41 : BitVec 32 := 1#32
  let v86 : BitVec 32 := Scalar.select v85 c1_i32_41 c4_i32
  let v87 : BitVec 32 := Scalar.remsi v84 v86
  let c0_i32_43 : BitVec 32 := 0#32
  let v89 : BitVec 1 := Scalar.cmpi .slt v87 c0_i32_43
  let c0_i32_44 : BitVec 32 := 0#32
  let v90 : BitVec 1 := Scalar.cmpi .slt v86 c0_i32_44
  let v91 : BitVec 1 := Scalar.xori v89 v90
  let c0_i32_42 : BitVec 32 := 0#32
  let v88 : BitVec 1 := Scalar.cmpi .ne v87 c0_i32_42
  let v92 : BitVec 1 := Scalar.andi v91 v88
  let v93 : BitVec 32 := Scalar.addi v87 v86
  let v94 : BitVec 32 := Scalar.select v92 v93 v87
  let c0_i32_279 : BitVec 32 := 0#32
  let v553 : BitVec 1 := Scalar.cmpi .sgt v94 c0_i32_279
  let v554 : BitVec 32 := Scalar.extui v553
  let c0_i32_280 : BitVec 32 := 0#32
  let v555 : BitVec 1 := Scalar.cmpi .slt v94 c0_i32_280
  let v556 : BitVec 32 := Scalar.extui v555
  let v557 : BitVec 32 := Scalar.subi v554 v556
  let c2_i32_278 : BitVec 32 := 2#32
  let c0_i32_281 : BitVec 32 := 0#32
  let v558 : BitVec 1 := Scalar.cmpi .sgt c2_i32_278 c0_i32_281
  let v559 : BitVec 32 := Scalar.extui v558
  let c0_i32_282 : BitVec 32 := 0#32
  let v560 : BitVec 1 := Scalar.cmpi .slt c2_i32_278 c0_i32_282
  let v561 : BitVec 32 := Scalar.extui v560
  let v562 : BitVec 32 := Scalar.subi v559 v561
  let v563 : BitVec 1 := Scalar.cmpi .ne v557 v562
  let v564 : BitVec 32 := Scalar.remsi v94 c2_i32_278
  let c0_i32_283 : BitVec 32 := 0#32
  let v565 : BitVec 1 := Scalar.cmpi .ne v564 c0_i32_283
  let v566 : BitVec 1 := Scalar.andi v563 v565
  let v552 : BitVec 32 := Scalar.divsi v94 c2_i32_278
  let c1_i32_284 : BitVec 32 := 1#32
  let v567 : BitVec 32 := Scalar.subi v552 c1_i32_284
  let v568 : BitVec 32 := Scalar.select v566 v567 v552
  let v569 : BitVec 32 := Scalar.addi v551 v568
  let v1552 : BitVec 32 := Scalar.addi v1551 v569
  let c16_i32_859 : BitVec 32 := 16#32
  let v1553 : BitVec 32 := Scalar.muli v1552 c16_i32_859
  let c0_i32_901 : BitVec 32 := 0#32
  ![v1553.toNat, 0]
def k0_dev21 (d0 : Dev nD) : Nat :=
  let c0_i32_898 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_268 : BitVec 32 := 8#32
  let v535 : BitVec 32 := Scalar.muli v19 c8_i32_268
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_39 : BitVec 32 := 2#32
  let v84 : BitVec 32 := Scalar.addi v46 c2_i32_39
  let c4_i32 : BitVec 32 := 4#32
  let c0_i32_40 : BitVec 32 := 0#32
  let v85 : BitVec 1 := Scalar.cmpi .eq c4_i32 c0_i32_40
  let c1_i32_41 : BitVec 32 := 1#32
  let v86 : BitVec 32 := Scalar.select v85 c1_i32_41 c4_i32
  let v87 : BitVec 32 := Scalar.remsi v84 v86
  let c0_i32_43 : BitVec 32 := 0#32
  let v89 : BitVec 1 := Scalar.cmpi .slt v87 c0_i32_43
  let c0_i32_44 : BitVec 32 := 0#32
  let v90 : BitVec 1 := Scalar.cmpi .slt v86 c0_i32_44
  let v91 : BitVec 1 := Scalar.xori v89 v90
  let c0_i32_42 : BitVec 32 := 0#32
  let v88 : BitVec 1 := Scalar.cmpi .ne v87 c0_i32_42
  let v92 : BitVec 1 := Scalar.andi v91 v88
  let v93 : BitVec 32 := Scalar.addi v87 v86
  let v94 : BitVec 32 := Scalar.select v92 v93 v87
  let c2_i32_269 : BitVec 32 := 2#32
  let v536 : BitVec 32 := Scalar.muli v94 c2_i32_269
  let v537 : BitVec 32 := Scalar.addi v535 v536
  let c1_i32_267 : BitVec 32 := 1#32
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v534 : BitVec 32 := Scalar.subi c1_i32_267 v57
  let v538 : BitVec 32 := Scalar.addi v534 v94
  let c2_i32_270 : BitVec 32 := 2#32
  let c0_i32_271 : BitVec 32 := 0#32
  let v539 : BitVec 1 := Scalar.cmpi .eq c2_i32_270 c0_i32_271
  let c1_i32_272 : BitVec 32 := 1#32
  let v540 : BitVec 32 := Scalar.select v539 c1_i32_272 c2_i32_270
  let v541 : BitVec 32 := Scalar.remsi v538 v540
  let c0_i32_274 : BitVec 32 := 0#32
  let v543 : BitVec 1 := Scalar.cmpi .slt v541 c0_i32_274
  let c0_i32_275 : BitVec 32 := 0#32
  let v544 : BitVec 1 := Scalar.cmpi .slt v540 c0_i32_275
  let v545 : BitVec 1 := Scalar.xori v543 v544
  let c0_i32_273 : BitVec 32 := 0#32
  let v542 : BitVec 1 := Scalar.cmpi .ne v541 c0_i32_273
  let v546 : BitVec 1 := Scalar.andi v545 v542
  let v547 : BitVec 32 := Scalar.addi v541 v540
  let v548 : BitVec 32 := Scalar.select v546 v547 v541
  let v549 : BitVec 32 := Scalar.addi v537 v548
  let c1_i32_897 : BitVec 32 := 1#32
  let v1594 : BitVec 32 := Scalar.muli v549 c1_i32_897
  let v1595 : BitVec 32 := Scalar.addi c0_i32_898 v1594
  v1595.toNat
def k0_off31 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c16_i32 : BitVec 32 := 16#32
  let v117 : BitVec 32 := Scalar.muli v57 c16_i32
  let c2_i32_59 : BitVec 32 := 2#32
  let c0_i32_60 : BitVec 32 := 0#32
  let v118 : BitVec 1 := Scalar.cmpi .eq c2_i32_59 c0_i32_60
  let c1_i32_61 : BitVec 32 := 1#32
  let v119 : BitVec 32 := Scalar.select v118 c1_i32_61 c2_i32_59
  let v120 : BitVec 32 := Scalar.remsi v46 v119
  let c0_i32_63 : BitVec 32 := 0#32
  let v122 : BitVec 1 := Scalar.cmpi .slt v120 c0_i32_63
  let c0_i32_64 : BitVec 32 := 0#32
  let v123 : BitVec 1 := Scalar.cmpi .slt v119 c0_i32_64
  let v124 : BitVec 1 := Scalar.xori v122 v123
  let c0_i32_62 : BitVec 32 := 0#32
  let v121 : BitVec 1 := Scalar.cmpi .ne v120 c0_i32_62
  let v125 : BitVec 1 := Scalar.andi v124 v121
  let v126 : BitVec 32 := Scalar.addi v120 v119
  let v127 : BitVec 32 := Scalar.select v125 v126 v120
  let c8_i32_65 : BitVec 32 := 8#32
  let v128 : BitVec 32 := Scalar.muli v127 c8_i32_65
  let v129 : BitVec 32 := Scalar.addi v117 v128
  let c0_i32_67 : BitVec 32 := 0#32
  let v131 : BitVec 1 := Scalar.cmpi .sgt v46 c0_i32_67
  let v132 : BitVec 32 := Scalar.extui v131
  let c0_i32_68 : BitVec 32 := 0#32
  let v133 : BitVec 1 := Scalar.cmpi .slt v46 c0_i32_68
  let v134 : BitVec 32 := Scalar.extui v133
  let v135 : BitVec 32 := Scalar.subi v132 v134
  let c2_i32_66 : BitVec 32 := 2#32
  let c0_i32_69 : BitVec 32 := 0#32
  let v136 : BitVec 1 := Scalar.cmpi .sgt c2_i32_66 c0_i32_69
  let v137 : BitVec 32 := Scalar.extui v136
  let c0_i32_70 : BitVec 32 := 0#32
  let v138 : BitVec 1 := Scalar.cmpi .slt c2_i32_66 c0_i32_70
  let v139 : BitVec 32 := Scalar.extui v138
  let v140 : BitVec 32 := Scalar.subi v137 v139
  let v141 : BitVec 1 := Scalar.cmpi .ne v135 v140
  let v142 : BitVec 32 := Scalar.remsi v46 c2_i32_66
  let c0_i32_71 : BitVec 32 := 0#32
  let v143 : BitVec 1 := Scalar.cmpi .ne v142 c0_i32_71
  let v144 : BitVec 1 := Scalar.andi v141 v143
  let v130 : BitVec 32 := Scalar.divsi v46 c2_i32_66
  let c1_i32_72 : BitVec 32 := 1#32
  let v145 : BitVec 32 := Scalar.subi v130 c1_i32_72
  let v146 : BitVec 32 := Scalar.select v144 v145 v130
  let c4_i32_73 : BitVec 32 := 4#32
  let v147 : BitVec 32 := Scalar.muli v146 c4_i32_73
  let v148 : BitVec 32 := Scalar.addi v129 v147
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_74 : BitVec 32 := 2#32
  let c0_i32_75 : BitVec 32 := 0#32
  let v149 : BitVec 1 := Scalar.cmpi .eq c2_i32_74 c0_i32_75
  let c1_i32_76 : BitVec 32 := 1#32
  let v150 : BitVec 32 := Scalar.select v149 c1_i32_76 c2_i32_74
  let v151 : BitVec 32 := Scalar.remsi v19 v150
  let c0_i32_78 : BitVec 32 := 0#32
  let v153 : BitVec 1 := Scalar.cmpi .slt v151 c0_i32_78
  let c0_i32_79 : BitVec 32 := 0#32
  let v154 : BitVec 1 := Scalar.cmpi .slt v150 c0_i32_79
  let v155 : BitVec 1 := Scalar.xori v153 v154
  let c0_i32_77 : BitVec 32 := 0#32
  let v152 : BitVec 1 := Scalar.cmpi .ne v151 c0_i32_77
  let v156 : BitVec 1 := Scalar.andi v155 v152
  let v157 : BitVec 32 := Scalar.addi v151 v150
  let v158 : BitVec 32 := Scalar.select v156 v157 v151
  let c2_i32_80 : BitVec 32 := 2#32
  let v159 : BitVec 32 := Scalar.muli v158 c2_i32_80
  let v160 : BitVec 32 := Scalar.addi v148 v159
  let c0_i32_82 : BitVec 32 := 0#32
  let v162 : BitVec 1 := Scalar.cmpi .sgt v19 c0_i32_82
  let v163 : BitVec 32 := Scalar.extui v162
  let c0_i32_83 : BitVec 32 := 0#32
  let v164 : BitVec 1 := Scalar.cmpi .slt v19 c0_i32_83
  let v165 : BitVec 32 := Scalar.extui v164
  let v166 : BitVec 32 := Scalar.subi v163 v165
  let c2_i32_81 : BitVec 32 := 2#32
  let c0_i32_84 : BitVec 32 := 0#32
  let v167 : BitVec 1 := Scalar.cmpi .sgt c2_i32_81 c0_i32_84
  let v168 : BitVec 32 := Scalar.extui v167
  let c0_i32_85 : BitVec 32 := 0#32
  let v169 : BitVec 1 := Scalar.cmpi .slt c2_i32_81 c0_i32_85
  let v170 : BitVec 32 := Scalar.extui v169
  let v171 : BitVec 32 := Scalar.subi v168 v170
  let v172 : BitVec 1 := Scalar.cmpi .ne v166 v171
  let v173 : BitVec 32 := Scalar.remsi v19 c2_i32_81
  let c0_i32_86 : BitVec 32 := 0#32
  let v174 : BitVec 1 := Scalar.cmpi .ne v173 c0_i32_86
  let v175 : BitVec 1 := Scalar.andi v172 v174
  let v161 : BitVec 32 := Scalar.divsi v19 c2_i32_81
  let c1_i32_87 : BitVec 32 := 1#32
  let v176 : BitVec 32 := Scalar.subi v161 c1_i32_87
  let v177 : BitVec 32 := Scalar.select v175 v176 v161
  let v178 : BitVec 32 := Scalar.addi v160 v177
  let c16_i32_941 : BitVec 32 := 16#32
  let v1632 : BitVec 32 := Scalar.muli v178 c16_i32_941
  let v1633 : Index := Scalar.indexCast v1632
  let c0_942 : Index := 0#32
  ![v1633.toNat, 0]
def k0_off32 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_179 : BitVec 32 := 2#32
  let c0_i32_180 : BitVec 32 := 0#32
  let v357 : BitVec 1 := Scalar.cmpi .eq c2_i32_179 c0_i32_180
  let c1_i32_181 : BitVec 32 := 1#32
  let v358 : BitVec 32 := Scalar.select v357 c1_i32_181 c2_i32_179
  let v359 : BitVec 32 := Scalar.remsi v46 v358
  let c0_i32_183 : BitVec 32 := 0#32
  let v361 : BitVec 1 := Scalar.cmpi .slt v359 c0_i32_183
  let c0_i32_184 : BitVec 32 := 0#32
  let v362 : BitVec 1 := Scalar.cmpi .slt v358 c0_i32_184
  let v363 : BitVec 1 := Scalar.xori v361 v362
  let c0_i32_182 : BitVec 32 := 0#32
  let v360 : BitVec 1 := Scalar.cmpi .ne v359 c0_i32_182
  let v364 : BitVec 1 := Scalar.andi v363 v360
  let v365 : BitVec 32 := Scalar.addi v359 v358
  let v366 : BitVec 32 := Scalar.select v364 v365 v359
  let c16_i32_185 : BitVec 32 := 16#32
  let v367 : BitVec 32 := Scalar.muli v366 c16_i32_185
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_186 : BitVec 32 := 2#32
  let c0_i32_187 : BitVec 32 := 0#32
  let v368 : BitVec 1 := Scalar.cmpi .eq c2_i32_186 c0_i32_187
  let c1_i32_188 : BitVec 32 := 1#32
  let v369 : BitVec 32 := Scalar.select v368 c1_i32_188 c2_i32_186
  let v370 : BitVec 32 := Scalar.remsi v19 v369
  let c0_i32_190 : BitVec 32 := 0#32
  let v372 : BitVec 1 := Scalar.cmpi .slt v370 c0_i32_190
  let c0_i32_191 : BitVec 32 := 0#32
  let v373 : BitVec 1 := Scalar.cmpi .slt v369 c0_i32_191
  let v374 : BitVec 1 := Scalar.xori v372 v373
  let c0_i32_189 : BitVec 32 := 0#32
  let v371 : BitVec 1 := Scalar.cmpi .ne v370 c0_i32_189
  let v375 : BitVec 1 := Scalar.andi v374 v371
  let v376 : BitVec 32 := Scalar.addi v370 v369
  let v377 : BitVec 32 := Scalar.select v375 v376 v370
  let c8_i32_192 : BitVec 32 := 8#32
  let v378 : BitVec 32 := Scalar.muli v377 c8_i32_192
  let v379 : BitVec 32 := Scalar.addi v367 v378
  let c0_i32_194 : BitVec 32 := 0#32
  let v381 : BitVec 1 := Scalar.cmpi .sgt v19 c0_i32_194
  let v382 : BitVec 32 := Scalar.extui v381
  let c0_i32_195 : BitVec 32 := 0#32
  let v383 : BitVec 1 := Scalar.cmpi .slt v19 c0_i32_195
  let v384 : BitVec 32 := Scalar.extui v383
  let v385 : BitVec 32 := Scalar.subi v382 v384
  let c2_i32_193 : BitVec 32 := 2#32
  let c0_i32_196 : BitVec 32 := 0#32
  let v386 : BitVec 1 := Scalar.cmpi .sgt c2_i32_193 c0_i32_196
  let v387 : BitVec 32 := Scalar.extui v386
  let c0_i32_197 : BitVec 32 := 0#32
  let v388 : BitVec 1 := Scalar.cmpi .slt c2_i32_193 c0_i32_197
  let v389 : BitVec 32 := Scalar.extui v388
  let v390 : BitVec 32 := Scalar.subi v387 v389
  let v391 : BitVec 1 := Scalar.cmpi .ne v385 v390
  let v392 : BitVec 32 := Scalar.remsi v19 c2_i32_193
  let c0_i32_198 : BitVec 32 := 0#32
  let v393 : BitVec 1 := Scalar.cmpi .ne v392 c0_i32_198
  let v394 : BitVec 1 := Scalar.andi v391 v393
  let v380 : BitVec 32 := Scalar.divsi v19 c2_i32_193
  let c1_i32_199 : BitVec 32 := 1#32
  let v395 : BitVec 32 := Scalar.subi v380 c1_i32_199
  let v396 : BitVec 32 := Scalar.select v394 v395 v380
  let c4_i32_200 : BitVec 32 := 4#32
  let v397 : BitVec 32 := Scalar.muli v396 c4_i32_200
  let v398 : BitVec 32 := Scalar.addi v379 v397
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_201 : BitVec 32 := 2#32
  let v399 : BitVec 32 := Scalar.muli v57 c2_i32_201
  let v400 : BitVec 32 := Scalar.addi v398 v399
  let c0_i32_203 : BitVec 32 := 0#32
  let v402 : BitVec 1 := Scalar.cmpi .sgt v46 c0_i32_203
  let v403 : BitVec 32 := Scalar.extui v402
  let c0_i32_204 : BitVec 32 := 0#32
  let v404 : BitVec 1 := Scalar.cmpi .slt v46 c0_i32_204
  let v405 : BitVec 32 := Scalar.extui v404
  let v406 : BitVec 32 := Scalar.subi v403 v405
  let c2_i32_202 : BitVec 32 := 2#32
  let c0_i32_205 : BitVec 32 := 0#32
  let v407 : BitVec 1 := Scalar.cmpi .sgt c2_i32_202 c0_i32_205
  let v408 : BitVec 32 := Scalar.extui v407
  let c0_i32_206 : BitVec 32 := 0#32
  let v409 : BitVec 1 := Scalar.cmpi .slt c2_i32_202 c0_i32_206
  let v410 : BitVec 32 := Scalar.extui v409
  let v411 : BitVec 32 := Scalar.subi v408 v410
  let v412 : BitVec 1 := Scalar.cmpi .ne v406 v411
  let v413 : BitVec 32 := Scalar.remsi v46 c2_i32_202
  let c0_i32_207 : BitVec 32 := 0#32
  let v414 : BitVec 1 := Scalar.cmpi .ne v413 c0_i32_207
  let v415 : BitVec 1 := Scalar.andi v412 v414
  let v401 : BitVec 32 := Scalar.divsi v46 c2_i32_202
  let c1_i32_208 : BitVec 32 := 1#32
  let v416 : BitVec 32 := Scalar.subi v401 c1_i32_208
  let v417 : BitVec 32 := Scalar.select v415 v416 v401
  let v418 : BitVec 32 := Scalar.addi v400 v417
  let c16_i32_989 : BitVec 32 := 16#32
  let v1675 : BitVec 32 := Scalar.muli v418 c16_i32_989
  let v1676 : Index := Scalar.indexCast v1675
  let c0_990 : Index := 0#32
  ![v1676.toNat, 0]
def k0_off33 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c16_i32 : BitVec 32 := 16#32
  let v117 : BitVec 32 := Scalar.muli v57 c16_i32
  let c2_i32_59 : BitVec 32 := 2#32
  let c0_i32_60 : BitVec 32 := 0#32
  let v118 : BitVec 1 := Scalar.cmpi .eq c2_i32_59 c0_i32_60
  let c1_i32_61 : BitVec 32 := 1#32
  let v119 : BitVec 32 := Scalar.select v118 c1_i32_61 c2_i32_59
  let v120 : BitVec 32 := Scalar.remsi v46 v119
  let c0_i32_63 : BitVec 32 := 0#32
  let v122 : BitVec 1 := Scalar.cmpi .slt v120 c0_i32_63
  let c0_i32_64 : BitVec 32 := 0#32
  let v123 : BitVec 1 := Scalar.cmpi .slt v119 c0_i32_64
  let v124 : BitVec 1 := Scalar.xori v122 v123
  let c0_i32_62 : BitVec 32 := 0#32
  let v121 : BitVec 1 := Scalar.cmpi .ne v120 c0_i32_62
  let v125 : BitVec 1 := Scalar.andi v124 v121
  let v126 : BitVec 32 := Scalar.addi v120 v119
  let v127 : BitVec 32 := Scalar.select v125 v126 v120
  let c8_i32_65 : BitVec 32 := 8#32
  let v128 : BitVec 32 := Scalar.muli v127 c8_i32_65
  let v129 : BitVec 32 := Scalar.addi v117 v128
  let c0_i32_67 : BitVec 32 := 0#32
  let v131 : BitVec 1 := Scalar.cmpi .sgt v46 c0_i32_67
  let v132 : BitVec 32 := Scalar.extui v131
  let c0_i32_68 : BitVec 32 := 0#32
  let v133 : BitVec 1 := Scalar.cmpi .slt v46 c0_i32_68
  let v134 : BitVec 32 := Scalar.extui v133
  let v135 : BitVec 32 := Scalar.subi v132 v134
  let c2_i32_66 : BitVec 32 := 2#32
  let c0_i32_69 : BitVec 32 := 0#32
  let v136 : BitVec 1 := Scalar.cmpi .sgt c2_i32_66 c0_i32_69
  let v137 : BitVec 32 := Scalar.extui v136
  let c0_i32_70 : BitVec 32 := 0#32
  let v138 : BitVec 1 := Scalar.cmpi .slt c2_i32_66 c0_i32_70
  let v139 : BitVec 32 := Scalar.extui v138
  let v140 : BitVec 32 := Scalar.subi v137 v139
  let v141 : BitVec 1 := Scalar.cmpi .ne v135 v140
  let v142 : BitVec 32 := Scalar.remsi v46 c2_i32_66
  let c0_i32_71 : BitVec 32 := 0#32
  let v143 : BitVec 1 := Scalar.cmpi .ne v142 c0_i32_71
  let v144 : BitVec 1 := Scalar.andi v141 v143
  let v130 : BitVec 32 := Scalar.divsi v46 c2_i32_66
  let c1_i32_72 : BitVec 32 := 1#32
  let v145 : BitVec 32 := Scalar.subi v130 c1_i32_72
  let v146 : BitVec 32 := Scalar.select v144 v145 v130
  let c4_i32_73 : BitVec 32 := 4#32
  let v147 : BitVec 32 := Scalar.muli v146 c4_i32_73
  let v148 : BitVec 32 := Scalar.addi v129 v147
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_74 : BitVec 32 := 2#32
  let c0_i32_75 : BitVec 32 := 0#32
  let v149 : BitVec 1 := Scalar.cmpi .eq c2_i32_74 c0_i32_75
  let c1_i32_76 : BitVec 32 := 1#32
  let v150 : BitVec 32 := Scalar.select v149 c1_i32_76 c2_i32_74
  let v151 : BitVec 32 := Scalar.remsi v19 v150
  let c0_i32_78 : BitVec 32 := 0#32
  let v153 : BitVec 1 := Scalar.cmpi .slt v151 c0_i32_78
  let c0_i32_79 : BitVec 32 := 0#32
  let v154 : BitVec 1 := Scalar.cmpi .slt v150 c0_i32_79
  let v155 : BitVec 1 := Scalar.xori v153 v154
  let c0_i32_77 : BitVec 32 := 0#32
  let v152 : BitVec 1 := Scalar.cmpi .ne v151 c0_i32_77
  let v156 : BitVec 1 := Scalar.andi v155 v152
  let v157 : BitVec 32 := Scalar.addi v151 v150
  let v158 : BitVec 32 := Scalar.select v156 v157 v151
  let c2_i32_80 : BitVec 32 := 2#32
  let v159 : BitVec 32 := Scalar.muli v158 c2_i32_80
  let v160 : BitVec 32 := Scalar.addi v148 v159
  let c0_i32_82 : BitVec 32 := 0#32
  let v162 : BitVec 1 := Scalar.cmpi .sgt v19 c0_i32_82
  let v163 : BitVec 32 := Scalar.extui v162
  let c0_i32_83 : BitVec 32 := 0#32
  let v164 : BitVec 1 := Scalar.cmpi .slt v19 c0_i32_83
  let v165 : BitVec 32 := Scalar.extui v164
  let v166 : BitVec 32 := Scalar.subi v163 v165
  let c2_i32_81 : BitVec 32 := 2#32
  let c0_i32_84 : BitVec 32 := 0#32
  let v167 : BitVec 1 := Scalar.cmpi .sgt c2_i32_81 c0_i32_84
  let v168 : BitVec 32 := Scalar.extui v167
  let c0_i32_85 : BitVec 32 := 0#32
  let v169 : BitVec 1 := Scalar.cmpi .slt c2_i32_81 c0_i32_85
  let v170 : BitVec 32 := Scalar.extui v169
  let v171 : BitVec 32 := Scalar.subi v168 v170
  let v172 : BitVec 1 := Scalar.cmpi .ne v166 v171
  let v173 : BitVec 32 := Scalar.remsi v19 c2_i32_81
  let c0_i32_86 : BitVec 32 := 0#32
  let v174 : BitVec 1 := Scalar.cmpi .ne v173 c0_i32_86
  let v175 : BitVec 1 := Scalar.andi v172 v174
  let v161 : BitVec 32 := Scalar.divsi v19 c2_i32_81
  let c1_i32_87 : BitVec 32 := 1#32
  let v176 : BitVec 32 := Scalar.subi v161 c1_i32_87
  let v177 : BitVec 32 := Scalar.select v175 v176 v161
  let v178 : BitVec 32 := Scalar.addi v160 v177
  let c16_i32_998 : BitVec 32 := 16#32
  let v1688 : BitVec 32 := Scalar.muli v178 c16_i32_998
  let c0_i32_1004 : BitVec 32 := 0#32
  ![v1688.toNat, 0]
def k0_dev22 (d0 : Dev nD) : Nat :=
  let c0_i32_1003 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_31 : BitVec 32 := 1#32
  let v71 : BitVec 32 := Scalar.addi v19 c1_i32_31
  let c2_i32_38 : BitVec 32 := 2#32
  let c2_i32_32 : BitVec 32 := 2#32
  let c0_i32_33 : BitVec 32 := 0#32
  let v72 : BitVec 1 := Scalar.cmpi .eq c2_i32_32 c0_i32_33
  let c1_i32_34 : BitVec 32 := 1#32
  let v73 : BitVec 32 := Scalar.select v72 c1_i32_34 c2_i32_32
  let v74 : BitVec 32 := Scalar.remsi v19 v73
  let c0_i32_36 : BitVec 32 := 0#32
  let v76 : BitVec 1 := Scalar.cmpi .slt v74 c0_i32_36
  let c0_i32_37 : BitVec 32 := 0#32
  let v77 : BitVec 1 := Scalar.cmpi .slt v73 c0_i32_37
  let v78 : BitVec 1 := Scalar.xori v76 v77
  let c0_i32_35 : BitVec 32 := 0#32
  let v75 : BitVec 1 := Scalar.cmpi .ne v74 c0_i32_35
  let v79 : BitVec 1 := Scalar.andi v78 v75
  let v80 : BitVec 32 := Scalar.addi v74 v73
  let v81 : BitVec 32 := Scalar.select v79 v80 v74
  let v82 : BitVec 32 := Scalar.muli c2_i32_38 v81
  let v83 : BitVec 32 := Scalar.subi v71 v82
  let c8_i32_113 : BitVec 32 := 8#32
  let v225 : BitVec 32 := Scalar.muli v83 c8_i32_113
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_114 : BitVec 32 := 2#32
  let v226 : BitVec 32 := Scalar.muli v46 c2_i32_114
  let v227 : BitVec 32 := Scalar.addi v225 v226
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v228 : BitVec 32 := Scalar.addi v57 v46
  let c2_i32_115 : BitVec 32 := 2#32
  let c0_i32_116 : BitVec 32 := 0#32
  let v229 : BitVec 1 := Scalar.cmpi .eq c2_i32_115 c0_i32_116
  let c1_i32_117 : BitVec 32 := 1#32
  let v230 : BitVec 32 := Scalar.select v229 c1_i32_117 c2_i32_115
  let v231 : BitVec 32 := Scalar.remsi v228 v230
  let c0_i32_119 : BitVec 32 := 0#32
  let v233 : BitVec 1 := Scalar.cmpi .slt v231 c0_i32_119
  let c0_i32_120 : BitVec 32 := 0#32
  let v234 : BitVec 1 := Scalar.cmpi .slt v230 c0_i32_120
  let v235 : BitVec 1 := Scalar.xori v233 v234
  let c0_i32_118 : BitVec 32 := 0#32
  let v232 : BitVec 1 := Scalar.cmpi .ne v231 c0_i32_118
  let v236 : BitVec 1 := Scalar.andi v235 v232
  let v237 : BitVec 32 := Scalar.addi v231 v230
  let v238 : BitVec 32 := Scalar.select v236 v237 v231
  let v239 : BitVec 32 := Scalar.addi v227 v238
  let c1_i32_1002 : BitVec 32 := 1#32
  let v1690 : BitVec 32 := Scalar.muli v239 c1_i32_1002
  let v1691 : BitVec 32 := Scalar.addi c0_i32_1003 v1690
  v1691.toNat
def k0_dev23 (d0 : Dev nD) : Nat :=
  let c0_i32_1009 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_45 : BitVec 32 := 2#32
  let v95 : BitVec 32 := Scalar.addi v19 c2_i32_45
  let c4_i32_46 : BitVec 32 := 4#32
  let c0_i32_47 : BitVec 32 := 0#32
  let v96 : BitVec 1 := Scalar.cmpi .eq c4_i32_46 c0_i32_47
  let c1_i32_48 : BitVec 32 := 1#32
  let v97 : BitVec 32 := Scalar.select v96 c1_i32_48 c4_i32_46
  let v98 : BitVec 32 := Scalar.remsi v95 v97
  let c0_i32_50 : BitVec 32 := 0#32
  let v100 : BitVec 1 := Scalar.cmpi .slt v98 c0_i32_50
  let c0_i32_51 : BitVec 32 := 0#32
  let v101 : BitVec 1 := Scalar.cmpi .slt v97 c0_i32_51
  let v102 : BitVec 1 := Scalar.xori v100 v101
  let c0_i32_49 : BitVec 32 := 0#32
  let v99 : BitVec 1 := Scalar.cmpi .ne v98 c0_i32_49
  let v103 : BitVec 1 := Scalar.andi v102 v99
  let v104 : BitVec 32 := Scalar.addi v98 v97
  let v105 : BitVec 32 := Scalar.select v103 v104 v98
  let c8_i32_135 : BitVec 32 := 8#32
  let v269 : BitVec 32 := Scalar.muli v105 c8_i32_135
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_136 : BitVec 32 := 2#32
  let v270 : BitVec 32 := Scalar.muli v46 c2_i32_136
  let v271 : BitVec 32 := Scalar.addi v269 v270
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v272 : BitVec 32 := Scalar.addi v57 v46
  let c2_i32_137 : BitVec 32 := 2#32
  let c0_i32_138 : BitVec 32 := 0#32
  let v273 : BitVec 1 := Scalar.cmpi .eq c2_i32_137 c0_i32_138
  let c1_i32_139 : BitVec 32 := 1#32
  let v274 : BitVec 32 := Scalar.select v273 c1_i32_139 c2_i32_137
  let v275 : BitVec 32 := Scalar.remsi v272 v274
  let c0_i32_141 : BitVec 32 := 0#32
  let v277 : BitVec 1 := Scalar.cmpi .slt v275 c0_i32_141
  let c0_i32_142 : BitVec 32 := 0#32
  let v278 : BitVec 1 := Scalar.cmpi .slt v274 c0_i32_142
  let v279 : BitVec 1 := Scalar.xori v277 v278
  let c0_i32_140 : BitVec 32 := 0#32
  let v276 : BitVec 1 := Scalar.cmpi .ne v275 c0_i32_140
  let v280 : BitVec 1 := Scalar.andi v279 v276
  let v281 : BitVec 32 := Scalar.addi v275 v274
  let v282 : BitVec 32 := Scalar.select v280 v281 v275
  let v283 : BitVec 32 := Scalar.addi v271 v282
  let c1_i32_1008 : BitVec 32 := 1#32
  let v1698 : BitVec 32 := Scalar.muli v283 c1_i32_1008
  let v1699 : BitVec 32 := Scalar.addi c0_i32_1009 v1698
  v1699.toNat
def k0_dev24 (d0 : Dev nD) : Nat :=
  let c0_i32_1015 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_31 : BitVec 32 := 1#32
  let v71 : BitVec 32 := Scalar.addi v19 c1_i32_31
  let c2_i32_38 : BitVec 32 := 2#32
  let c2_i32_32 : BitVec 32 := 2#32
  let c0_i32_33 : BitVec 32 := 0#32
  let v72 : BitVec 1 := Scalar.cmpi .eq c2_i32_32 c0_i32_33
  let c1_i32_34 : BitVec 32 := 1#32
  let v73 : BitVec 32 := Scalar.select v72 c1_i32_34 c2_i32_32
  let v74 : BitVec 32 := Scalar.remsi v19 v73
  let c0_i32_36 : BitVec 32 := 0#32
  let v76 : BitVec 1 := Scalar.cmpi .slt v74 c0_i32_36
  let c0_i32_37 : BitVec 32 := 0#32
  let v77 : BitVec 1 := Scalar.cmpi .slt v73 c0_i32_37
  let v78 : BitVec 1 := Scalar.xori v76 v77
  let c0_i32_35 : BitVec 32 := 0#32
  let v75 : BitVec 1 := Scalar.cmpi .ne v74 c0_i32_35
  let v79 : BitVec 1 := Scalar.andi v78 v75
  let v80 : BitVec 32 := Scalar.addi v74 v73
  let v81 : BitVec 32 := Scalar.select v79 v80 v74
  let v82 : BitVec 32 := Scalar.muli c2_i32_38 v81
  let v83 : BitVec 32 := Scalar.subi v71 v82
  let c2_i32_52 : BitVec 32 := 2#32
  let v106 : BitVec 32 := Scalar.addi v83 c2_i32_52
  let c4_i32_53 : BitVec 32 := 4#32
  let c0_i32_54 : BitVec 32 := 0#32
  let v107 : BitVec 1 := Scalar.cmpi .eq c4_i32_53 c0_i32_54
  let c1_i32_55 : BitVec 32 := 1#32
  let v108 : BitVec 32 := Scalar.select v107 c1_i32_55 c4_i32_53
  let v109 : BitVec 32 := Scalar.remsi v106 v108
  let c0_i32_57 : BitVec 32 := 0#32
  let v111 : BitVec 1 := Scalar.cmpi .slt v109 c0_i32_57
  let c0_i32_58 : BitVec 32 := 0#32
  let v112 : BitVec 1 := Scalar.cmpi .slt v108 c0_i32_58
  let v113 : BitVec 1 := Scalar.xori v111 v112
  let c0_i32_56 : BitVec 32 := 0#32
  let v110 : BitVec 1 := Scalar.cmpi .ne v109 c0_i32_56
  let v114 : BitVec 1 := Scalar.andi v113 v110
  let v115 : BitVec 32 := Scalar.addi v109 v108
  let v116 : BitVec 32 := Scalar.select v114 v115 v109
  let c8_i32_157 : BitVec 32 := 8#32
  let v313 : BitVec 32 := Scalar.muli v116 c8_i32_157
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_158 : BitVec 32 := 2#32
  let v314 : BitVec 32 := Scalar.muli v46 c2_i32_158
  let v315 : BitVec 32 := Scalar.addi v313 v314
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v316 : BitVec 32 := Scalar.addi v57 v46
  let c2_i32_159 : BitVec 32 := 2#32
  let c0_i32_160 : BitVec 32 := 0#32
  let v317 : BitVec 1 := Scalar.cmpi .eq c2_i32_159 c0_i32_160
  let c1_i32_161 : BitVec 32 := 1#32
  let v318 : BitVec 32 := Scalar.select v317 c1_i32_161 c2_i32_159
  let v319 : BitVec 32 := Scalar.remsi v316 v318
  let c0_i32_163 : BitVec 32 := 0#32
  let v321 : BitVec 1 := Scalar.cmpi .slt v319 c0_i32_163
  let c0_i32_164 : BitVec 32 := 0#32
  let v322 : BitVec 1 := Scalar.cmpi .slt v318 c0_i32_164
  let v323 : BitVec 1 := Scalar.xori v321 v322
  let c0_i32_162 : BitVec 32 := 0#32
  let v320 : BitVec 1 := Scalar.cmpi .ne v319 c0_i32_162
  let v324 : BitVec 1 := Scalar.andi v323 v320
  let v325 : BitVec 32 := Scalar.addi v319 v318
  let v326 : BitVec 32 := Scalar.select v324 v325 v319
  let v327 : BitVec 32 := Scalar.addi v315 v326
  let c1_i32_1014 : BitVec 32 := 1#32
  let v1706 : BitVec 32 := Scalar.muli v327 c1_i32_1014
  let v1707 : BitVec 32 := Scalar.addi c0_i32_1015 v1706
  v1707.toNat
def k0_off34 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_179 : BitVec 32 := 2#32
  let c0_i32_180 : BitVec 32 := 0#32
  let v357 : BitVec 1 := Scalar.cmpi .eq c2_i32_179 c0_i32_180
  let c1_i32_181 : BitVec 32 := 1#32
  let v358 : BitVec 32 := Scalar.select v357 c1_i32_181 c2_i32_179
  let v359 : BitVec 32 := Scalar.remsi v46 v358
  let c0_i32_183 : BitVec 32 := 0#32
  let v361 : BitVec 1 := Scalar.cmpi .slt v359 c0_i32_183
  let c0_i32_184 : BitVec 32 := 0#32
  let v362 : BitVec 1 := Scalar.cmpi .slt v358 c0_i32_184
  let v363 : BitVec 1 := Scalar.xori v361 v362
  let c0_i32_182 : BitVec 32 := 0#32
  let v360 : BitVec 1 := Scalar.cmpi .ne v359 c0_i32_182
  let v364 : BitVec 1 := Scalar.andi v363 v360
  let v365 : BitVec 32 := Scalar.addi v359 v358
  let v366 : BitVec 32 := Scalar.select v364 v365 v359
  let c16_i32_185 : BitVec 32 := 16#32
  let v367 : BitVec 32 := Scalar.muli v366 c16_i32_185
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_186 : BitVec 32 := 2#32
  let c0_i32_187 : BitVec 32 := 0#32
  let v368 : BitVec 1 := Scalar.cmpi .eq c2_i32_186 c0_i32_187
  let c1_i32_188 : BitVec 32 := 1#32
  let v369 : BitVec 32 := Scalar.select v368 c1_i32_188 c2_i32_186
  let v370 : BitVec 32 := Scalar.remsi v19 v369
  let c0_i32_190 : BitVec 32 := 0#32
  let v372 : BitVec 1 := Scalar.cmpi .slt v370 c0_i32_190
  let c0_i32_191 : BitVec 32 := 0#32
  let v373 : BitVec 1 := Scalar.cmpi .slt v369 c0_i32_191
  let v374 : BitVec 1 := Scalar.xori v372 v373
  let c0_i32_189 : BitVec 32 := 0#32
  let v371 : BitVec 1 := Scalar.cmpi .ne v370 c0_i32_189
  let v375 : BitVec 1 := Scalar.andi v374 v371
  let v376 : BitVec 32 := Scalar.addi v370 v369
  let v377 : BitVec 32 := Scalar.select v375 v376 v370
  let c8_i32_192 : BitVec 32 := 8#32
  let v378 : BitVec 32 := Scalar.muli v377 c8_i32_192
  let v379 : BitVec 32 := Scalar.addi v367 v378
  let c0_i32_194 : BitVec 32 := 0#32
  let v381 : BitVec 1 := Scalar.cmpi .sgt v19 c0_i32_194
  let v382 : BitVec 32 := Scalar.extui v381
  let c0_i32_195 : BitVec 32 := 0#32
  let v383 : BitVec 1 := Scalar.cmpi .slt v19 c0_i32_195
  let v384 : BitVec 32 := Scalar.extui v383
  let v385 : BitVec 32 := Scalar.subi v382 v384
  let c2_i32_193 : BitVec 32 := 2#32
  let c0_i32_196 : BitVec 32 := 0#32
  let v386 : BitVec 1 := Scalar.cmpi .sgt c2_i32_193 c0_i32_196
  let v387 : BitVec 32 := Scalar.extui v386
  let c0_i32_197 : BitVec 32 := 0#32
  let v388 : BitVec 1 := Scalar.cmpi .slt c2_i32_193 c0_i32_197
  let v389 : BitVec 32 := Scalar.extui v388
  let v390 : BitVec 32 := Scalar.subi v387 v389
  let v391 : BitVec 1 := Scalar.cmpi .ne v385 v390
  let v392 : BitVec 32 := Scalar.remsi v19 c2_i32_193
  let c0_i32_198 : BitVec 32 := 0#32
  let v393 : BitVec 1 := Scalar.cmpi .ne v392 c0_i32_198
  let v394 : BitVec 1 := Scalar.andi v391 v393
  let v380 : BitVec 32 := Scalar.divsi v19 c2_i32_193
  let c1_i32_199 : BitVec 32 := 1#32
  let v395 : BitVec 32 := Scalar.subi v380 c1_i32_199
  let v396 : BitVec 32 := Scalar.select v394 v395 v380
  let c4_i32_200 : BitVec 32 := 4#32
  let v397 : BitVec 32 := Scalar.muli v396 c4_i32_200
  let v398 : BitVec 32 := Scalar.addi v379 v397
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_201 : BitVec 32 := 2#32
  let v399 : BitVec 32 := Scalar.muli v57 c2_i32_201
  let v400 : BitVec 32 := Scalar.addi v398 v399
  let c0_i32_203 : BitVec 32 := 0#32
  let v402 : BitVec 1 := Scalar.cmpi .sgt v46 c0_i32_203
  let v403 : BitVec 32 := Scalar.extui v402
  let c0_i32_204 : BitVec 32 := 0#32
  let v404 : BitVec 1 := Scalar.cmpi .slt v46 c0_i32_204
  let v405 : BitVec 32 := Scalar.extui v404
  let v406 : BitVec 32 := Scalar.subi v403 v405
  let c2_i32_202 : BitVec 32 := 2#32
  let c0_i32_205 : BitVec 32 := 0#32
  let v407 : BitVec 1 := Scalar.cmpi .sgt c2_i32_202 c0_i32_205
  let v408 : BitVec 32 := Scalar.extui v407
  let c0_i32_206 : BitVec 32 := 0#32
  let v409 : BitVec 1 := Scalar.cmpi .slt c2_i32_202 c0_i32_206
  let v410 : BitVec 32 := Scalar.extui v409
  let v411 : BitVec 32 := Scalar.subi v408 v410
  let v412 : BitVec 1 := Scalar.cmpi .ne v406 v411
  let v413 : BitVec 32 := Scalar.remsi v46 c2_i32_202
  let c0_i32_207 : BitVec 32 := 0#32
  let v414 : BitVec 1 := Scalar.cmpi .ne v413 c0_i32_207
  let v415 : BitVec 1 := Scalar.andi v412 v414
  let v401 : BitVec 32 := Scalar.divsi v46 c2_i32_202
  let c1_i32_208 : BitVec 32 := 1#32
  let v416 : BitVec 32 := Scalar.subi v401 c1_i32_208
  let v417 : BitVec 32 := Scalar.select v415 v416 v401
  let v418 : BitVec 32 := Scalar.addi v400 v417
  let c16_i32_999 : BitVec 32 := 16#32
  let v1689 : BitVec 32 := Scalar.muli v418 c16_i32_999
  let c0_i32_1022 : BitVec 32 := 0#32
  ![v1689.toNat, 0]
def k0_dev25 (d0 : Dev nD) : Nat :=
  let c0_i32_1021 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_234 : BitVec 32 := 8#32
  let v465 : BitVec 32 := Scalar.muli v19 c8_i32_234
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_235 : BitVec 32 := 2#32
  let v466 : BitVec 32 := Scalar.muli v46 c2_i32_235
  let v467 : BitVec 32 := Scalar.addi v465 v466
  let c1_i32_233 : BitVec 32 := 1#32
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v464 : BitVec 32 := Scalar.subi c1_i32_233 v57
  let v468 : BitVec 32 := Scalar.addi v464 v46
  let c2_i32_236 : BitVec 32 := 2#32
  let c0_i32_237 : BitVec 32 := 0#32
  let v469 : BitVec 1 := Scalar.cmpi .eq c2_i32_236 c0_i32_237
  let c1_i32_238 : BitVec 32 := 1#32
  let v470 : BitVec 32 := Scalar.select v469 c1_i32_238 c2_i32_236
  let v471 : BitVec 32 := Scalar.remsi v468 v470
  let c0_i32_240 : BitVec 32 := 0#32
  let v473 : BitVec 1 := Scalar.cmpi .slt v471 c0_i32_240
  let c0_i32_241 : BitVec 32 := 0#32
  let v474 : BitVec 1 := Scalar.cmpi .slt v470 c0_i32_241
  let v475 : BitVec 1 := Scalar.xori v473 v474
  let c0_i32_239 : BitVec 32 := 0#32
  let v472 : BitVec 1 := Scalar.cmpi .ne v471 c0_i32_239
  let v476 : BitVec 1 := Scalar.andi v475 v472
  let v477 : BitVec 32 := Scalar.addi v471 v470
  let v478 : BitVec 32 := Scalar.select v476 v477 v471
  let v479 : BitVec 32 := Scalar.addi v467 v478
  let c1_i32_1020 : BitVec 32 := 1#32
  let v1714 : BitVec 32 := Scalar.muli v479 c1_i32_1020
  let v1715 : BitVec 32 := Scalar.addi c0_i32_1021 v1714
  v1715.toNat
def k0_dev26 (d0 : Dev nD) : Nat :=
  let c0_i32_1027 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_251 : BitVec 32 := 8#32
  let v500 : BitVec 32 := Scalar.muli v19 c8_i32_251
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_39 : BitVec 32 := 2#32
  let v84 : BitVec 32 := Scalar.addi v46 c2_i32_39
  let c4_i32 : BitVec 32 := 4#32
  let c0_i32_40 : BitVec 32 := 0#32
  let v85 : BitVec 1 := Scalar.cmpi .eq c4_i32 c0_i32_40
  let c1_i32_41 : BitVec 32 := 1#32
  let v86 : BitVec 32 := Scalar.select v85 c1_i32_41 c4_i32
  let v87 : BitVec 32 := Scalar.remsi v84 v86
  let c0_i32_43 : BitVec 32 := 0#32
  let v89 : BitVec 1 := Scalar.cmpi .slt v87 c0_i32_43
  let c0_i32_44 : BitVec 32 := 0#32
  let v90 : BitVec 1 := Scalar.cmpi .slt v86 c0_i32_44
  let v91 : BitVec 1 := Scalar.xori v89 v90
  let c0_i32_42 : BitVec 32 := 0#32
  let v88 : BitVec 1 := Scalar.cmpi .ne v87 c0_i32_42
  let v92 : BitVec 1 := Scalar.andi v91 v88
  let v93 : BitVec 32 := Scalar.addi v87 v86
  let v94 : BitVec 32 := Scalar.select v92 v93 v87
  let c2_i32_252 : BitVec 32 := 2#32
  let v501 : BitVec 32 := Scalar.muli v94 c2_i32_252
  let v502 : BitVec 32 := Scalar.addi v500 v501
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v503 : BitVec 32 := Scalar.addi v57 v94
  let c2_i32_253 : BitVec 32 := 2#32
  let c0_i32_254 : BitVec 32 := 0#32
  let v504 : BitVec 1 := Scalar.cmpi .eq c2_i32_253 c0_i32_254
  let c1_i32_255 : BitVec 32 := 1#32
  let v505 : BitVec 32 := Scalar.select v504 c1_i32_255 c2_i32_253
  let v506 : BitVec 32 := Scalar.remsi v503 v505
  let c0_i32_257 : BitVec 32 := 0#32
  let v508 : BitVec 1 := Scalar.cmpi .slt v506 c0_i32_257
  let c0_i32_258 : BitVec 32 := 0#32
  let v509 : BitVec 1 := Scalar.cmpi .slt v505 c0_i32_258
  let v510 : BitVec 1 := Scalar.xori v508 v509
  let c0_i32_256 : BitVec 32 := 0#32
  let v507 : BitVec 1 := Scalar.cmpi .ne v506 c0_i32_256
  let v511 : BitVec 1 := Scalar.andi v510 v507
  let v512 : BitVec 32 := Scalar.addi v506 v505
  let v513 : BitVec 32 := Scalar.select v511 v512 v506
  let v514 : BitVec 32 := Scalar.addi v502 v513
  let c1_i32_1026 : BitVec 32 := 1#32
  let v1722 : BitVec 32 := Scalar.muli v514 c1_i32_1026
  let v1723 : BitVec 32 := Scalar.addi c0_i32_1027 v1722
  v1723.toNat
def k0_dev27 (d0 : Dev nD) : Nat :=
  let c0_i32_1033 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_268 : BitVec 32 := 8#32
  let v535 : BitVec 32 := Scalar.muli v19 c8_i32_268
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_39 : BitVec 32 := 2#32
  let v84 : BitVec 32 := Scalar.addi v46 c2_i32_39
  let c4_i32 : BitVec 32 := 4#32
  let c0_i32_40 : BitVec 32 := 0#32
  let v85 : BitVec 1 := Scalar.cmpi .eq c4_i32 c0_i32_40
  let c1_i32_41 : BitVec 32 := 1#32
  let v86 : BitVec 32 := Scalar.select v85 c1_i32_41 c4_i32
  let v87 : BitVec 32 := Scalar.remsi v84 v86
  let c0_i32_43 : BitVec 32 := 0#32
  let v89 : BitVec 1 := Scalar.cmpi .slt v87 c0_i32_43
  let c0_i32_44 : BitVec 32 := 0#32
  let v90 : BitVec 1 := Scalar.cmpi .slt v86 c0_i32_44
  let v91 : BitVec 1 := Scalar.xori v89 v90
  let c0_i32_42 : BitVec 32 := 0#32
  let v88 : BitVec 1 := Scalar.cmpi .ne v87 c0_i32_42
  let v92 : BitVec 1 := Scalar.andi v91 v88
  let v93 : BitVec 32 := Scalar.addi v87 v86
  let v94 : BitVec 32 := Scalar.select v92 v93 v87
  let c2_i32_269 : BitVec 32 := 2#32
  let v536 : BitVec 32 := Scalar.muli v94 c2_i32_269
  let v537 : BitVec 32 := Scalar.addi v535 v536
  let c1_i32_267 : BitVec 32 := 1#32
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v534 : BitVec 32 := Scalar.subi c1_i32_267 v57
  let v538 : BitVec 32 := Scalar.addi v534 v94
  let c2_i32_270 : BitVec 32 := 2#32
  let c0_i32_271 : BitVec 32 := 0#32
  let v539 : BitVec 1 := Scalar.cmpi .eq c2_i32_270 c0_i32_271
  let c1_i32_272 : BitVec 32 := 1#32
  let v540 : BitVec 32 := Scalar.select v539 c1_i32_272 c2_i32_270
  let v541 : BitVec 32 := Scalar.remsi v538 v540
  let c0_i32_274 : BitVec 32 := 0#32
  let v543 : BitVec 1 := Scalar.cmpi .slt v541 c0_i32_274
  let c0_i32_275 : BitVec 32 := 0#32
  let v544 : BitVec 1 := Scalar.cmpi .slt v540 c0_i32_275
  let v545 : BitVec 1 := Scalar.xori v543 v544
  let c0_i32_273 : BitVec 32 := 0#32
  let v542 : BitVec 1 := Scalar.cmpi .ne v541 c0_i32_273
  let v546 : BitVec 1 := Scalar.andi v545 v542
  let v547 : BitVec 32 := Scalar.addi v541 v540
  let v548 : BitVec 32 := Scalar.select v546 v547 v541
  let v549 : BitVec 32 := Scalar.addi v537 v548
  let c1_i32_1032 : BitVec 32 := 1#32
  let v1730 : BitVec 32 := Scalar.muli v549 c1_i32_1032
  let v1731 : BitVec 32 := Scalar.addi c0_i32_1033 v1730
  v1731.toNat
def k0_off35 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c16_i32 : BitVec 32 := 16#32
  let v117 : BitVec 32 := Scalar.muli v57 c16_i32
  let c2_i32_59 : BitVec 32 := 2#32
  let c0_i32_60 : BitVec 32 := 0#32
  let v118 : BitVec 1 := Scalar.cmpi .eq c2_i32_59 c0_i32_60
  let c1_i32_61 : BitVec 32 := 1#32
  let v119 : BitVec 32 := Scalar.select v118 c1_i32_61 c2_i32_59
  let v120 : BitVec 32 := Scalar.remsi v46 v119
  let c0_i32_63 : BitVec 32 := 0#32
  let v122 : BitVec 1 := Scalar.cmpi .slt v120 c0_i32_63
  let c0_i32_64 : BitVec 32 := 0#32
  let v123 : BitVec 1 := Scalar.cmpi .slt v119 c0_i32_64
  let v124 : BitVec 1 := Scalar.xori v122 v123
  let c0_i32_62 : BitVec 32 := 0#32
  let v121 : BitVec 1 := Scalar.cmpi .ne v120 c0_i32_62
  let v125 : BitVec 1 := Scalar.andi v124 v121
  let v126 : BitVec 32 := Scalar.addi v120 v119
  let v127 : BitVec 32 := Scalar.select v125 v126 v120
  let c8_i32_65 : BitVec 32 := 8#32
  let v128 : BitVec 32 := Scalar.muli v127 c8_i32_65
  let v129 : BitVec 32 := Scalar.addi v117 v128
  let c0_i32_67 : BitVec 32 := 0#32
  let v131 : BitVec 1 := Scalar.cmpi .sgt v46 c0_i32_67
  let v132 : BitVec 32 := Scalar.extui v131
  let c0_i32_68 : BitVec 32 := 0#32
  let v133 : BitVec 1 := Scalar.cmpi .slt v46 c0_i32_68
  let v134 : BitVec 32 := Scalar.extui v133
  let v135 : BitVec 32 := Scalar.subi v132 v134
  let c2_i32_66 : BitVec 32 := 2#32
  let c0_i32_69 : BitVec 32 := 0#32
  let v136 : BitVec 1 := Scalar.cmpi .sgt c2_i32_66 c0_i32_69
  let v137 : BitVec 32 := Scalar.extui v136
  let c0_i32_70 : BitVec 32 := 0#32
  let v138 : BitVec 1 := Scalar.cmpi .slt c2_i32_66 c0_i32_70
  let v139 : BitVec 32 := Scalar.extui v138
  let v140 : BitVec 32 := Scalar.subi v137 v139
  let v141 : BitVec 1 := Scalar.cmpi .ne v135 v140
  let v142 : BitVec 32 := Scalar.remsi v46 c2_i32_66
  let c0_i32_71 : BitVec 32 := 0#32
  let v143 : BitVec 1 := Scalar.cmpi .ne v142 c0_i32_71
  let v144 : BitVec 1 := Scalar.andi v141 v143
  let v130 : BitVec 32 := Scalar.divsi v46 c2_i32_66
  let c1_i32_72 : BitVec 32 := 1#32
  let v145 : BitVec 32 := Scalar.subi v130 c1_i32_72
  let v146 : BitVec 32 := Scalar.select v144 v145 v130
  let c4_i32_73 : BitVec 32 := 4#32
  let v147 : BitVec 32 := Scalar.muli v146 c4_i32_73
  let v148 : BitVec 32 := Scalar.addi v129 v147
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_74 : BitVec 32 := 2#32
  let c0_i32_75 : BitVec 32 := 0#32
  let v149 : BitVec 1 := Scalar.cmpi .eq c2_i32_74 c0_i32_75
  let c1_i32_76 : BitVec 32 := 1#32
  let v150 : BitVec 32 := Scalar.select v149 c1_i32_76 c2_i32_74
  let v151 : BitVec 32 := Scalar.remsi v19 v150
  let c0_i32_78 : BitVec 32 := 0#32
  let v153 : BitVec 1 := Scalar.cmpi .slt v151 c0_i32_78
  let c0_i32_79 : BitVec 32 := 0#32
  let v154 : BitVec 1 := Scalar.cmpi .slt v150 c0_i32_79
  let v155 : BitVec 1 := Scalar.xori v153 v154
  let c0_i32_77 : BitVec 32 := 0#32
  let v152 : BitVec 1 := Scalar.cmpi .ne v151 c0_i32_77
  let v156 : BitVec 1 := Scalar.andi v155 v152
  let v157 : BitVec 32 := Scalar.addi v151 v150
  let v158 : BitVec 32 := Scalar.select v156 v157 v151
  let c2_i32_80 : BitVec 32 := 2#32
  let v159 : BitVec 32 := Scalar.muli v158 c2_i32_80
  let v160 : BitVec 32 := Scalar.addi v148 v159
  let c0_i32_82 : BitVec 32 := 0#32
  let v162 : BitVec 1 := Scalar.cmpi .sgt v19 c0_i32_82
  let v163 : BitVec 32 := Scalar.extui v162
  let c0_i32_83 : BitVec 32 := 0#32
  let v164 : BitVec 1 := Scalar.cmpi .slt v19 c0_i32_83
  let v165 : BitVec 32 := Scalar.extui v164
  let v166 : BitVec 32 := Scalar.subi v163 v165
  let c2_i32_81 : BitVec 32 := 2#32
  let c0_i32_84 : BitVec 32 := 0#32
  let v167 : BitVec 1 := Scalar.cmpi .sgt c2_i32_81 c0_i32_84
  let v168 : BitVec 32 := Scalar.extui v167
  let c0_i32_85 : BitVec 32 := 0#32
  let v169 : BitVec 1 := Scalar.cmpi .slt c2_i32_81 c0_i32_85
  let v170 : BitVec 32 := Scalar.extui v169
  let v171 : BitVec 32 := Scalar.subi v168 v170
  let v172 : BitVec 1 := Scalar.cmpi .ne v166 v171
  let v173 : BitVec 32 := Scalar.remsi v19 c2_i32_81
  let c0_i32_86 : BitVec 32 := 0#32
  let v174 : BitVec 1 := Scalar.cmpi .ne v173 c0_i32_86
  let v175 : BitVec 1 := Scalar.andi v172 v174
  let v161 : BitVec 32 := Scalar.divsi v19 c2_i32_81
  let c1_i32_87 : BitVec 32 := 1#32
  let v176 : BitVec 32 := Scalar.subi v161 c1_i32_87
  let v177 : BitVec 32 := Scalar.select v175 v176 v161
  let v178 : BitVec 32 := Scalar.addi v160 v177
  let c0_i32_1103 : BitVec 32 := 0#32
  let v1799 : BitVec 1 := Scalar.cmpi .sgt v178 c0_i32_1103
  let v1800 : BitVec 32 := Scalar.extui v1799
  let c0_i32_1104 : BitVec 32 := 0#32
  let v1801 : BitVec 1 := Scalar.cmpi .slt v178 c0_i32_1104
  let v1802 : BitVec 32 := Scalar.extui v1801
  let v1803 : BitVec 32 := Scalar.subi v1800 v1802
  let c4_i32_1102 : BitVec 32 := 4#32
  let c0_i32_1105 : BitVec 32 := 0#32
  let v1804 : BitVec 1 := Scalar.cmpi .sgt c4_i32_1102 c0_i32_1105
  let v1805 : BitVec 32 := Scalar.extui v1804
  let c0_i32_1106 : BitVec 32 := 0#32
  let v1806 : BitVec 1 := Scalar.cmpi .slt c4_i32_1102 c0_i32_1106
  let v1807 : BitVec 32 := Scalar.extui v1806
  let v1808 : BitVec 32 := Scalar.subi v1805 v1807
  let v1809 : BitVec 1 := Scalar.cmpi .ne v1803 v1808
  let v1810 : BitVec 32 := Scalar.remsi v178 c4_i32_1102
  let c0_i32_1107 : BitVec 32 := 0#32
  let v1811 : BitVec 1 := Scalar.cmpi .ne v1810 c0_i32_1107
  let v1812 : BitVec 1 := Scalar.andi v1809 v1811
  let v1798 : BitVec 32 := Scalar.divsi v178 c4_i32_1102
  let c1_i32_1108 : BitVec 32 := 1#32
  let v1813 : BitVec 32 := Scalar.subi v1798 c1_i32_1108
  let v1814 : BitVec 32 := Scalar.select v1812 v1813 v1798
  let c64_i32_1109 : BitVec 32 := 64#32
  let v1815 : BitVec 32 := Scalar.muli v1814 c64_i32_1109
  let c0_i32_1122 : BitVec 32 := 0#32
  ![v1815.toNat, 0]
def k0_dev28 (d0 : Dev nD) : Nat :=
  let c0_i32_1121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_105 : BitVec 32 := 8#32
  let v210 : BitVec 32 := Scalar.muli v19 c8_i32_105
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_39 : BitVec 32 := 2#32
  let v84 : BitVec 32 := Scalar.addi v46 c2_i32_39
  let c4_i32 : BitVec 32 := 4#32
  let c0_i32_40 : BitVec 32 := 0#32
  let v85 : BitVec 1 := Scalar.cmpi .eq c4_i32 c0_i32_40
  let c1_i32_41 : BitVec 32 := 1#32
  let v86 : BitVec 32 := Scalar.select v85 c1_i32_41 c4_i32
  let v87 : BitVec 32 := Scalar.remsi v84 v86
  let c0_i32_43 : BitVec 32 := 0#32
  let v89 : BitVec 1 := Scalar.cmpi .slt v87 c0_i32_43
  let c0_i32_44 : BitVec 32 := 0#32
  let v90 : BitVec 1 := Scalar.cmpi .slt v86 c0_i32_44
  let v91 : BitVec 1 := Scalar.xori v89 v90
  let c0_i32_42 : BitVec 32 := 0#32
  let v88 : BitVec 1 := Scalar.cmpi .ne v87 c0_i32_42
  let v92 : BitVec 1 := Scalar.andi v91 v88
  let v93 : BitVec 32 := Scalar.addi v87 v86
  let v94 : BitVec 32 := Scalar.select v92 v93 v87
  let c2_i32_106 : BitVec 32 := 2#32
  let v211 : BitVec 32 := Scalar.muli v94 c2_i32_106
  let v212 : BitVec 32 := Scalar.addi v210 v211
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v213 : BitVec 32 := Scalar.addi v57 v94
  let c2_i32_107 : BitVec 32 := 2#32
  let c0_i32_108 : BitVec 32 := 0#32
  let v214 : BitVec 1 := Scalar.cmpi .eq c2_i32_107 c0_i32_108
  let c1_i32_109 : BitVec 32 := 1#32
  let v215 : BitVec 32 := Scalar.select v214 c1_i32_109 c2_i32_107
  let v216 : BitVec 32 := Scalar.remsi v213 v215
  let c0_i32_111 : BitVec 32 := 0#32
  let v218 : BitVec 1 := Scalar.cmpi .slt v216 c0_i32_111
  let c0_i32_112 : BitVec 32 := 0#32
  let v219 : BitVec 1 := Scalar.cmpi .slt v215 c0_i32_112
  let v220 : BitVec 1 := Scalar.xori v218 v219
  let c0_i32_110 : BitVec 32 := 0#32
  let v217 : BitVec 1 := Scalar.cmpi .ne v216 c0_i32_110
  let v221 : BitVec 1 := Scalar.andi v220 v217
  let v222 : BitVec 32 := Scalar.addi v216 v215
  let v223 : BitVec 32 := Scalar.select v221 v222 v216
  let v224 : BitVec 32 := Scalar.addi v212 v223
  let c1_i32_1120 : BitVec 32 := 1#32
  let v1834 : BitVec 32 := Scalar.muli v224 c1_i32_1120
  let v1835 : BitVec 32 := Scalar.addi c0_i32_1121 v1834
  v1835.toNat
def k0_off36 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_179 : BitVec 32 := 2#32
  let c0_i32_180 : BitVec 32 := 0#32
  let v357 : BitVec 1 := Scalar.cmpi .eq c2_i32_179 c0_i32_180
  let c1_i32_181 : BitVec 32 := 1#32
  let v358 : BitVec 32 := Scalar.select v357 c1_i32_181 c2_i32_179
  let v359 : BitVec 32 := Scalar.remsi v46 v358
  let c0_i32_183 : BitVec 32 := 0#32
  let v361 : BitVec 1 := Scalar.cmpi .slt v359 c0_i32_183
  let c0_i32_184 : BitVec 32 := 0#32
  let v362 : BitVec 1 := Scalar.cmpi .slt v358 c0_i32_184
  let v363 : BitVec 1 := Scalar.xori v361 v362
  let c0_i32_182 : BitVec 32 := 0#32
  let v360 : BitVec 1 := Scalar.cmpi .ne v359 c0_i32_182
  let v364 : BitVec 1 := Scalar.andi v363 v360
  let v365 : BitVec 32 := Scalar.addi v359 v358
  let v366 : BitVec 32 := Scalar.select v364 v365 v359
  let c16_i32_185 : BitVec 32 := 16#32
  let v367 : BitVec 32 := Scalar.muli v366 c16_i32_185
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_186 : BitVec 32 := 2#32
  let c0_i32_187 : BitVec 32 := 0#32
  let v368 : BitVec 1 := Scalar.cmpi .eq c2_i32_186 c0_i32_187
  let c1_i32_188 : BitVec 32 := 1#32
  let v369 : BitVec 32 := Scalar.select v368 c1_i32_188 c2_i32_186
  let v370 : BitVec 32 := Scalar.remsi v19 v369
  let c0_i32_190 : BitVec 32 := 0#32
  let v372 : BitVec 1 := Scalar.cmpi .slt v370 c0_i32_190
  let c0_i32_191 : BitVec 32 := 0#32
  let v373 : BitVec 1 := Scalar.cmpi .slt v369 c0_i32_191
  let v374 : BitVec 1 := Scalar.xori v372 v373
  let c0_i32_189 : BitVec 32 := 0#32
  let v371 : BitVec 1 := Scalar.cmpi .ne v370 c0_i32_189
  let v375 : BitVec 1 := Scalar.andi v374 v371
  let v376 : BitVec 32 := Scalar.addi v370 v369
  let v377 : BitVec 32 := Scalar.select v375 v376 v370
  let c8_i32_192 : BitVec 32 := 8#32
  let v378 : BitVec 32 := Scalar.muli v377 c8_i32_192
  let v379 : BitVec 32 := Scalar.addi v367 v378
  let c0_i32_194 : BitVec 32 := 0#32
  let v381 : BitVec 1 := Scalar.cmpi .sgt v19 c0_i32_194
  let v382 : BitVec 32 := Scalar.extui v381
  let c0_i32_195 : BitVec 32 := 0#32
  let v383 : BitVec 1 := Scalar.cmpi .slt v19 c0_i32_195
  let v384 : BitVec 32 := Scalar.extui v383
  let v385 : BitVec 32 := Scalar.subi v382 v384
  let c2_i32_193 : BitVec 32 := 2#32
  let c0_i32_196 : BitVec 32 := 0#32
  let v386 : BitVec 1 := Scalar.cmpi .sgt c2_i32_193 c0_i32_196
  let v387 : BitVec 32 := Scalar.extui v386
  let c0_i32_197 : BitVec 32 := 0#32
  let v388 : BitVec 1 := Scalar.cmpi .slt c2_i32_193 c0_i32_197
  let v389 : BitVec 32 := Scalar.extui v388
  let v390 : BitVec 32 := Scalar.subi v387 v389
  let v391 : BitVec 1 := Scalar.cmpi .ne v385 v390
  let v392 : BitVec 32 := Scalar.remsi v19 c2_i32_193
  let c0_i32_198 : BitVec 32 := 0#32
  let v393 : BitVec 1 := Scalar.cmpi .ne v392 c0_i32_198
  let v394 : BitVec 1 := Scalar.andi v391 v393
  let v380 : BitVec 32 := Scalar.divsi v19 c2_i32_193
  let c1_i32_199 : BitVec 32 := 1#32
  let v395 : BitVec 32 := Scalar.subi v380 c1_i32_199
  let v396 : BitVec 32 := Scalar.select v394 v395 v380
  let c4_i32_200 : BitVec 32 := 4#32
  let v397 : BitVec 32 := Scalar.muli v396 c4_i32_200
  let v398 : BitVec 32 := Scalar.addi v379 v397
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_201 : BitVec 32 := 2#32
  let v399 : BitVec 32 := Scalar.muli v57 c2_i32_201
  let v400 : BitVec 32 := Scalar.addi v398 v399
  let c0_i32_203 : BitVec 32 := 0#32
  let v402 : BitVec 1 := Scalar.cmpi .sgt v46 c0_i32_203
  let v403 : BitVec 32 := Scalar.extui v402
  let c0_i32_204 : BitVec 32 := 0#32
  let v404 : BitVec 1 := Scalar.cmpi .slt v46 c0_i32_204
  let v405 : BitVec 32 := Scalar.extui v404
  let v406 : BitVec 32 := Scalar.subi v403 v405
  let c2_i32_202 : BitVec 32 := 2#32
  let c0_i32_205 : BitVec 32 := 0#32
  let v407 : BitVec 1 := Scalar.cmpi .sgt c2_i32_202 c0_i32_205
  let v408 : BitVec 32 := Scalar.extui v407
  let c0_i32_206 : BitVec 32 := 0#32
  let v409 : BitVec 1 := Scalar.cmpi .slt c2_i32_202 c0_i32_206
  let v410 : BitVec 32 := Scalar.extui v409
  let v411 : BitVec 32 := Scalar.subi v408 v410
  let v412 : BitVec 1 := Scalar.cmpi .ne v406 v411
  let v413 : BitVec 32 := Scalar.remsi v46 c2_i32_202
  let c0_i32_207 : BitVec 32 := 0#32
  let v414 : BitVec 1 := Scalar.cmpi .ne v413 c0_i32_207
  let v415 : BitVec 1 := Scalar.andi v412 v414
  let v401 : BitVec 32 := Scalar.divsi v46 c2_i32_202
  let c1_i32_208 : BitVec 32 := 1#32
  let v416 : BitVec 32 := Scalar.subi v401 c1_i32_208
  let v417 : BitVec 32 := Scalar.select v415 v416 v401
  let v418 : BitVec 32 := Scalar.addi v400 v417
  let c0_i32_1111 : BitVec 32 := 0#32
  let v1817 : BitVec 1 := Scalar.cmpi .sgt v418 c0_i32_1111
  let v1818 : BitVec 32 := Scalar.extui v1817
  let c0_i32_1112 : BitVec 32 := 0#32
  let v1819 : BitVec 1 := Scalar.cmpi .slt v418 c0_i32_1112
  let v1820 : BitVec 32 := Scalar.extui v1819
  let v1821 : BitVec 32 := Scalar.subi v1818 v1820
  let c4_i32_1110 : BitVec 32 := 4#32
  let c0_i32_1113 : BitVec 32 := 0#32
  let v1822 : BitVec 1 := Scalar.cmpi .sgt c4_i32_1110 c0_i32_1113
  let v1823 : BitVec 32 := Scalar.extui v1822
  let c0_i32_1114 : BitVec 32 := 0#32
  let v1824 : BitVec 1 := Scalar.cmpi .slt c4_i32_1110 c0_i32_1114
  let v1825 : BitVec 32 := Scalar.extui v1824
  let v1826 : BitVec 32 := Scalar.subi v1823 v1825
  let v1827 : BitVec 1 := Scalar.cmpi .ne v1821 v1826
  let v1828 : BitVec 32 := Scalar.remsi v418 c4_i32_1110
  let c0_i32_1115 : BitVec 32 := 0#32
  let v1829 : BitVec 1 := Scalar.cmpi .ne v1828 c0_i32_1115
  let v1830 : BitVec 1 := Scalar.andi v1827 v1829
  let v1816 : BitVec 32 := Scalar.divsi v418 c4_i32_1110
  let c1_i32_1116 : BitVec 32 := 1#32
  let v1831 : BitVec 32 := Scalar.subi v1816 c1_i32_1116
  let v1832 : BitVec 32 := Scalar.select v1830 v1831 v1816
  let c64_i32_1117 : BitVec 32 := 64#32
  let v1833 : BitVec 32 := Scalar.muli v1832 c64_i32_1117
  let c0_i32_1128 : BitVec 32 := 0#32
  ![v1833.toNat, 0]
def k0_dev29 (d0 : Dev nD) : Nat :=
  let c0_i32_1127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_45 : BitVec 32 := 2#32
  let v95 : BitVec 32 := Scalar.addi v19 c2_i32_45
  let c4_i32_46 : BitVec 32 := 4#32
  let c0_i32_47 : BitVec 32 := 0#32
  let v96 : BitVec 1 := Scalar.cmpi .eq c4_i32_46 c0_i32_47
  let c1_i32_48 : BitVec 32 := 1#32
  let v97 : BitVec 32 := Scalar.select v96 c1_i32_48 c4_i32_46
  let v98 : BitVec 32 := Scalar.remsi v95 v97
  let c0_i32_50 : BitVec 32 := 0#32
  let v100 : BitVec 1 := Scalar.cmpi .slt v98 c0_i32_50
  let c0_i32_51 : BitVec 32 := 0#32
  let v101 : BitVec 1 := Scalar.cmpi .slt v97 c0_i32_51
  let v102 : BitVec 1 := Scalar.xori v100 v101
  let c0_i32_49 : BitVec 32 := 0#32
  let v99 : BitVec 1 := Scalar.cmpi .ne v98 c0_i32_49
  let v103 : BitVec 1 := Scalar.andi v102 v99
  let v104 : BitVec 32 := Scalar.addi v98 v97
  let v105 : BitVec 32 := Scalar.select v103 v104 v98
  let c8_i32_225 : BitVec 32 := 8#32
  let v449 : BitVec 32 := Scalar.muli v105 c8_i32_225
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_226 : BitVec 32 := 2#32
  let v450 : BitVec 32 := Scalar.muli v46 c2_i32_226
  let v451 : BitVec 32 := Scalar.addi v449 v450
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v452 : BitVec 32 := Scalar.addi v57 v46
  let c2_i32_227 : BitVec 32 := 2#32
  let c0_i32_228 : BitVec 32 := 0#32
  let v453 : BitVec 1 := Scalar.cmpi .eq c2_i32_227 c0_i32_228
  let c1_i32_229 : BitVec 32 := 1#32
  let v454 : BitVec 32 := Scalar.select v453 c1_i32_229 c2_i32_227
  let v455 : BitVec 32 := Scalar.remsi v452 v454
  let c0_i32_231 : BitVec 32 := 0#32
  let v457 : BitVec 1 := Scalar.cmpi .slt v455 c0_i32_231
  let c0_i32_232 : BitVec 32 := 0#32
  let v458 : BitVec 1 := Scalar.cmpi .slt v454 c0_i32_232
  let v459 : BitVec 1 := Scalar.xori v457 v458
  let c0_i32_230 : BitVec 32 := 0#32
  let v456 : BitVec 1 := Scalar.cmpi .ne v455 c0_i32_230
  let v460 : BitVec 1 := Scalar.andi v459 v456
  let v461 : BitVec 32 := Scalar.addi v455 v454
  let v462 : BitVec 32 := Scalar.select v460 v461 v455
  let v463 : BitVec 32 := Scalar.addi v451 v462
  let c1_i32_1126 : BitVec 32 := 1#32
  let v1842 : BitVec 32 := Scalar.muli v463 c1_i32_1126
  let v1843 : BitVec 32 := Scalar.addi c0_i32_1127 v1842
  v1843.toNat
def k0_off37 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c16_i32 : BitVec 32 := 16#32
  let v117 : BitVec 32 := Scalar.muli v57 c16_i32
  let c2_i32_59 : BitVec 32 := 2#32
  let c0_i32_60 : BitVec 32 := 0#32
  let v118 : BitVec 1 := Scalar.cmpi .eq c2_i32_59 c0_i32_60
  let c1_i32_61 : BitVec 32 := 1#32
  let v119 : BitVec 32 := Scalar.select v118 c1_i32_61 c2_i32_59
  let v120 : BitVec 32 := Scalar.remsi v46 v119
  let c0_i32_63 : BitVec 32 := 0#32
  let v122 : BitVec 1 := Scalar.cmpi .slt v120 c0_i32_63
  let c0_i32_64 : BitVec 32 := 0#32
  let v123 : BitVec 1 := Scalar.cmpi .slt v119 c0_i32_64
  let v124 : BitVec 1 := Scalar.xori v122 v123
  let c0_i32_62 : BitVec 32 := 0#32
  let v121 : BitVec 1 := Scalar.cmpi .ne v120 c0_i32_62
  let v125 : BitVec 1 := Scalar.andi v124 v121
  let v126 : BitVec 32 := Scalar.addi v120 v119
  let v127 : BitVec 32 := Scalar.select v125 v126 v120
  let c8_i32_65 : BitVec 32 := 8#32
  let v128 : BitVec 32 := Scalar.muli v127 c8_i32_65
  let v129 : BitVec 32 := Scalar.addi v117 v128
  let c0_i32_67 : BitVec 32 := 0#32
  let v131 : BitVec 1 := Scalar.cmpi .sgt v46 c0_i32_67
  let v132 : BitVec 32 := Scalar.extui v131
  let c0_i32_68 : BitVec 32 := 0#32
  let v133 : BitVec 1 := Scalar.cmpi .slt v46 c0_i32_68
  let v134 : BitVec 32 := Scalar.extui v133
  let v135 : BitVec 32 := Scalar.subi v132 v134
  let c2_i32_66 : BitVec 32 := 2#32
  let c0_i32_69 : BitVec 32 := 0#32
  let v136 : BitVec 1 := Scalar.cmpi .sgt c2_i32_66 c0_i32_69
  let v137 : BitVec 32 := Scalar.extui v136
  let c0_i32_70 : BitVec 32 := 0#32
  let v138 : BitVec 1 := Scalar.cmpi .slt c2_i32_66 c0_i32_70
  let v139 : BitVec 32 := Scalar.extui v138
  let v140 : BitVec 32 := Scalar.subi v137 v139
  let v141 : BitVec 1 := Scalar.cmpi .ne v135 v140
  let v142 : BitVec 32 := Scalar.remsi v46 c2_i32_66
  let c0_i32_71 : BitVec 32 := 0#32
  let v143 : BitVec 1 := Scalar.cmpi .ne v142 c0_i32_71
  let v144 : BitVec 1 := Scalar.andi v141 v143
  let v130 : BitVec 32 := Scalar.divsi v46 c2_i32_66
  let c1_i32_72 : BitVec 32 := 1#32
  let v145 : BitVec 32 := Scalar.subi v130 c1_i32_72
  let v146 : BitVec 32 := Scalar.select v144 v145 v130
  let c4_i32_73 : BitVec 32 := 4#32
  let v147 : BitVec 32 := Scalar.muli v146 c4_i32_73
  let v148 : BitVec 32 := Scalar.addi v129 v147
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_74 : BitVec 32 := 2#32
  let c0_i32_75 : BitVec 32 := 0#32
  let v149 : BitVec 1 := Scalar.cmpi .eq c2_i32_74 c0_i32_75
  let c1_i32_76 : BitVec 32 := 1#32
  let v150 : BitVec 32 := Scalar.select v149 c1_i32_76 c2_i32_74
  let v151 : BitVec 32 := Scalar.remsi v19 v150
  let c0_i32_78 : BitVec 32 := 0#32
  let v153 : BitVec 1 := Scalar.cmpi .slt v151 c0_i32_78
  let c0_i32_79 : BitVec 32 := 0#32
  let v154 : BitVec 1 := Scalar.cmpi .slt v150 c0_i32_79
  let v155 : BitVec 1 := Scalar.xori v153 v154
  let c0_i32_77 : BitVec 32 := 0#32
  let v152 : BitVec 1 := Scalar.cmpi .ne v151 c0_i32_77
  let v156 : BitVec 1 := Scalar.andi v155 v152
  let v157 : BitVec 32 := Scalar.addi v151 v150
  let v158 : BitVec 32 := Scalar.select v156 v157 v151
  let c2_i32_80 : BitVec 32 := 2#32
  let v159 : BitVec 32 := Scalar.muli v158 c2_i32_80
  let v160 : BitVec 32 := Scalar.addi v148 v159
  let c0_i32_82 : BitVec 32 := 0#32
  let v162 : BitVec 1 := Scalar.cmpi .sgt v19 c0_i32_82
  let v163 : BitVec 32 := Scalar.extui v162
  let c0_i32_83 : BitVec 32 := 0#32
  let v164 : BitVec 1 := Scalar.cmpi .slt v19 c0_i32_83
  let v165 : BitVec 32 := Scalar.extui v164
  let v166 : BitVec 32 := Scalar.subi v163 v165
  let c2_i32_81 : BitVec 32 := 2#32
  let c0_i32_84 : BitVec 32 := 0#32
  let v167 : BitVec 1 := Scalar.cmpi .sgt c2_i32_81 c0_i32_84
  let v168 : BitVec 32 := Scalar.extui v167
  let c0_i32_85 : BitVec 32 := 0#32
  let v169 : BitVec 1 := Scalar.cmpi .slt c2_i32_81 c0_i32_85
  let v170 : BitVec 32 := Scalar.extui v169
  let v171 : BitVec 32 := Scalar.subi v168 v170
  let v172 : BitVec 1 := Scalar.cmpi .ne v166 v171
  let v173 : BitVec 32 := Scalar.remsi v19 c2_i32_81
  let c0_i32_86 : BitVec 32 := 0#32
  let v174 : BitVec 1 := Scalar.cmpi .ne v173 c0_i32_86
  let v175 : BitVec 1 := Scalar.andi v172 v174
  let v161 : BitVec 32 := Scalar.divsi v19 c2_i32_81
  let c1_i32_87 : BitVec 32 := 1#32
  let v176 : BitVec 32 := Scalar.subi v161 c1_i32_87
  let v177 : BitVec 32 := Scalar.select v175 v176 v161
  let v178 : BitVec 32 := Scalar.addi v160 v177
  let c0_i32_1153 : BitVec 32 := 0#32
  let v1871 : BitVec 1 := Scalar.cmpi .sgt v178 c0_i32_1153
  let v1872 : BitVec 32 := Scalar.extui v1871
  let c0_i32_1154 : BitVec 32 := 0#32
  let v1873 : BitVec 1 := Scalar.cmpi .slt v178 c0_i32_1154
  let v1874 : BitVec 32 := Scalar.extui v1873
  let v1875 : BitVec 32 := Scalar.subi v1872 v1874
  let c8_i32_1152 : BitVec 32 := 8#32
  let c0_i32_1155 : BitVec 32 := 0#32
  let v1876 : BitVec 1 := Scalar.cmpi .sgt c8_i32_1152 c0_i32_1155
  let v1877 : BitVec 32 := Scalar.extui v1876
  let c0_i32_1156 : BitVec 32 := 0#32
  let v1878 : BitVec 1 := Scalar.cmpi .slt c8_i32_1152 c0_i32_1156
  let v1879 : BitVec 32 := Scalar.extui v1878
  let v1880 : BitVec 32 := Scalar.subi v1877 v1879
  let v1881 : BitVec 1 := Scalar.cmpi .ne v1875 v1880
  let v1882 : BitVec 32 := Scalar.remsi v178 c8_i32_1152
  let c0_i32_1157 : BitVec 32 := 0#32
  let v1883 : BitVec 1 := Scalar.cmpi .ne v1882 c0_i32_1157
  let v1884 : BitVec 1 := Scalar.andi v1881 v1883
  let v1870 : BitVec 32 := Scalar.divsi v178 c8_i32_1152
  let c1_i32_1158 : BitVec 32 := 1#32
  let v1885 : BitVec 32 := Scalar.subi v1870 c1_i32_1158
  let v1886 : BitVec 32 := Scalar.select v1884 v1885 v1870
  let c128_i32_1159 : BitVec 32 := 128#32
  let v1887 : BitVec 32 := Scalar.muli v1886 c128_i32_1159
  let c0_i32_1172 : BitVec 32 := 0#32
  ![v1887.toNat, 0]
def k0_dev30 (d0 : Dev nD) : Nat :=
  let c0_i32_1171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_97 : BitVec 32 := 8#32
  let v195 : BitVec 32 := Scalar.muli v19 c8_i32_97
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v58 : BitVec 32 := Scalar.addi v46 c1_i32_23
  let c2_i32_30 : BitVec 32 := 2#32
  let c2_i32_24 : BitVec 32 := 2#32
  let c0_i32_25 : BitVec 32 := 0#32
  let v59 : BitVec 1 := Scalar.cmpi .eq c2_i32_24 c0_i32_25
  let c1_i32_26 : BitVec 32 := 1#32
  let v60 : BitVec 32 := Scalar.select v59 c1_i32_26 c2_i32_24
  let v61 : BitVec 32 := Scalar.remsi v46 v60
  let c0_i32_28 : BitVec 32 := 0#32
  let v63 : BitVec 1 := Scalar.cmpi .slt v61 c0_i32_28
  let c0_i32_29 : BitVec 32 := 0#32
  let v64 : BitVec 1 := Scalar.cmpi .slt v60 c0_i32_29
  let v65 : BitVec 1 := Scalar.xori v63 v64
  let c0_i32_27 : BitVec 32 := 0#32
  let v62 : BitVec 1 := Scalar.cmpi .ne v61 c0_i32_27
  let v66 : BitVec 1 := Scalar.andi v65 v62
  let v67 : BitVec 32 := Scalar.addi v61 v60
  let v68 : BitVec 32 := Scalar.select v66 v67 v61
  let v69 : BitVec 32 := Scalar.muli c2_i32_30 v68
  let v70 : BitVec 32 := Scalar.subi v58 v69
  let c2_i32_98 : BitVec 32 := 2#32
  let v196 : BitVec 32 := Scalar.muli v70 c2_i32_98
  let v197 : BitVec 32 := Scalar.addi v195 v196
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v198 : BitVec 32 := Scalar.addi v57 v70
  let c2_i32_99 : BitVec 32 := 2#32
  let c0_i32_100 : BitVec 32 := 0#32
  let v199 : BitVec 1 := Scalar.cmpi .eq c2_i32_99 c0_i32_100
  let c1_i32_101 : BitVec 32 := 1#32
  let v200 : BitVec 32 := Scalar.select v199 c1_i32_101 c2_i32_99
  let v201 : BitVec 32 := Scalar.remsi v198 v200
  let c0_i32_103 : BitVec 32 := 0#32
  let v203 : BitVec 1 := Scalar.cmpi .slt v201 c0_i32_103
  let c0_i32_104 : BitVec 32 := 0#32
  let v204 : BitVec 1 := Scalar.cmpi .slt v200 c0_i32_104
  let v205 : BitVec 1 := Scalar.xori v203 v204
  let c0_i32_102 : BitVec 32 := 0#32
  let v202 : BitVec 1 := Scalar.cmpi .ne v201 c0_i32_102
  let v206 : BitVec 1 := Scalar.andi v205 v202
  let v207 : BitVec 32 := Scalar.addi v201 v200
  let v208 : BitVec 32 := Scalar.select v206 v207 v201
  let v209 : BitVec 32 := Scalar.addi v197 v208
  let c1_i32_1170 : BitVec 32 := 1#32
  let v1906 : BitVec 32 := Scalar.muli v209 c1_i32_1170
  let v1907 : BitVec 32 := Scalar.addi c0_i32_1171 v1906
  v1907.toNat
def k0_off38 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_179 : BitVec 32 := 2#32
  let c0_i32_180 : BitVec 32 := 0#32
  let v357 : BitVec 1 := Scalar.cmpi .eq c2_i32_179 c0_i32_180
  let c1_i32_181 : BitVec 32 := 1#32
  let v358 : BitVec 32 := Scalar.select v357 c1_i32_181 c2_i32_179
  let v359 : BitVec 32 := Scalar.remsi v46 v358
  let c0_i32_183 : BitVec 32 := 0#32
  let v361 : BitVec 1 := Scalar.cmpi .slt v359 c0_i32_183
  let c0_i32_184 : BitVec 32 := 0#32
  let v362 : BitVec 1 := Scalar.cmpi .slt v358 c0_i32_184
  let v363 : BitVec 1 := Scalar.xori v361 v362
  let c0_i32_182 : BitVec 32 := 0#32
  let v360 : BitVec 1 := Scalar.cmpi .ne v359 c0_i32_182
  let v364 : BitVec 1 := Scalar.andi v363 v360
  let v365 : BitVec 32 := Scalar.addi v359 v358
  let v366 : BitVec 32 := Scalar.select v364 v365 v359
  let c16_i32_185 : BitVec 32 := 16#32
  let v367 : BitVec 32 := Scalar.muli v366 c16_i32_185
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_186 : BitVec 32 := 2#32
  let c0_i32_187 : BitVec 32 := 0#32
  let v368 : BitVec 1 := Scalar.cmpi .eq c2_i32_186 c0_i32_187
  let c1_i32_188 : BitVec 32 := 1#32
  let v369 : BitVec 32 := Scalar.select v368 c1_i32_188 c2_i32_186
  let v370 : BitVec 32 := Scalar.remsi v19 v369
  let c0_i32_190 : BitVec 32 := 0#32
  let v372 : BitVec 1 := Scalar.cmpi .slt v370 c0_i32_190
  let c0_i32_191 : BitVec 32 := 0#32
  let v373 : BitVec 1 := Scalar.cmpi .slt v369 c0_i32_191
  let v374 : BitVec 1 := Scalar.xori v372 v373
  let c0_i32_189 : BitVec 32 := 0#32
  let v371 : BitVec 1 := Scalar.cmpi .ne v370 c0_i32_189
  let v375 : BitVec 1 := Scalar.andi v374 v371
  let v376 : BitVec 32 := Scalar.addi v370 v369
  let v377 : BitVec 32 := Scalar.select v375 v376 v370
  let c8_i32_192 : BitVec 32 := 8#32
  let v378 : BitVec 32 := Scalar.muli v377 c8_i32_192
  let v379 : BitVec 32 := Scalar.addi v367 v378
  let c0_i32_194 : BitVec 32 := 0#32
  let v381 : BitVec 1 := Scalar.cmpi .sgt v19 c0_i32_194
  let v382 : BitVec 32 := Scalar.extui v381
  let c0_i32_195 : BitVec 32 := 0#32
  let v383 : BitVec 1 := Scalar.cmpi .slt v19 c0_i32_195
  let v384 : BitVec 32 := Scalar.extui v383
  let v385 : BitVec 32 := Scalar.subi v382 v384
  let c2_i32_193 : BitVec 32 := 2#32
  let c0_i32_196 : BitVec 32 := 0#32
  let v386 : BitVec 1 := Scalar.cmpi .sgt c2_i32_193 c0_i32_196
  let v387 : BitVec 32 := Scalar.extui v386
  let c0_i32_197 : BitVec 32 := 0#32
  let v388 : BitVec 1 := Scalar.cmpi .slt c2_i32_193 c0_i32_197
  let v389 : BitVec 32 := Scalar.extui v388
  let v390 : BitVec 32 := Scalar.subi v387 v389
  let v391 : BitVec 1 := Scalar.cmpi .ne v385 v390
  let v392 : BitVec 32 := Scalar.remsi v19 c2_i32_193
  let c0_i32_198 : BitVec 32 := 0#32
  let v393 : BitVec 1 := Scalar.cmpi .ne v392 c0_i32_198
  let v394 : BitVec 1 := Scalar.andi v391 v393
  let v380 : BitVec 32 := Scalar.divsi v19 c2_i32_193
  let c1_i32_199 : BitVec 32 := 1#32
  let v395 : BitVec 32 := Scalar.subi v380 c1_i32_199
  let v396 : BitVec 32 := Scalar.select v394 v395 v380
  let c4_i32_200 : BitVec 32 := 4#32
  let v397 : BitVec 32 := Scalar.muli v396 c4_i32_200
  let v398 : BitVec 32 := Scalar.addi v379 v397
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_201 : BitVec 32 := 2#32
  let v399 : BitVec 32 := Scalar.muli v57 c2_i32_201
  let v400 : BitVec 32 := Scalar.addi v398 v399
  let c0_i32_203 : BitVec 32 := 0#32
  let v402 : BitVec 1 := Scalar.cmpi .sgt v46 c0_i32_203
  let v403 : BitVec 32 := Scalar.extui v402
  let c0_i32_204 : BitVec 32 := 0#32
  let v404 : BitVec 1 := Scalar.cmpi .slt v46 c0_i32_204
  let v405 : BitVec 32 := Scalar.extui v404
  let v406 : BitVec 32 := Scalar.subi v403 v405
  let c2_i32_202 : BitVec 32 := 2#32
  let c0_i32_205 : BitVec 32 := 0#32
  let v407 : BitVec 1 := Scalar.cmpi .sgt c2_i32_202 c0_i32_205
  let v408 : BitVec 32 := Scalar.extui v407
  let c0_i32_206 : BitVec 32 := 0#32
  let v409 : BitVec 1 := Scalar.cmpi .slt c2_i32_202 c0_i32_206
  let v410 : BitVec 32 := Scalar.extui v409
  let v411 : BitVec 32 := Scalar.subi v408 v410
  let v412 : BitVec 1 := Scalar.cmpi .ne v406 v411
  let v413 : BitVec 32 := Scalar.remsi v46 c2_i32_202
  let c0_i32_207 : BitVec 32 := 0#32
  let v414 : BitVec 1 := Scalar.cmpi .ne v413 c0_i32_207
  let v415 : BitVec 1 := Scalar.andi v412 v414
  let v401 : BitVec 32 := Scalar.divsi v46 c2_i32_202
  let c1_i32_208 : BitVec 32 := 1#32
  let v416 : BitVec 32 := Scalar.subi v401 c1_i32_208
  let v417 : BitVec 32 := Scalar.select v415 v416 v401
  let v418 : BitVec 32 := Scalar.addi v400 v417
  let c0_i32_1161 : BitVec 32 := 0#32
  let v1889 : BitVec 1 := Scalar.cmpi .sgt v418 c0_i32_1161
  let v1890 : BitVec 32 := Scalar.extui v1889
  let c0_i32_1162 : BitVec 32 := 0#32
  let v1891 : BitVec 1 := Scalar.cmpi .slt v418 c0_i32_1162
  let v1892 : BitVec 32 := Scalar.extui v1891
  let v1893 : BitVec 32 := Scalar.subi v1890 v1892
  let c8_i32_1160 : BitVec 32 := 8#32
  let c0_i32_1163 : BitVec 32 := 0#32
  let v1894 : BitVec 1 := Scalar.cmpi .sgt c8_i32_1160 c0_i32_1163
  let v1895 : BitVec 32 := Scalar.extui v1894
  let c0_i32_1164 : BitVec 32 := 0#32
  let v1896 : BitVec 1 := Scalar.cmpi .slt c8_i32_1160 c0_i32_1164
  let v1897 : BitVec 32 := Scalar.extui v1896
  let v1898 : BitVec 32 := Scalar.subi v1895 v1897
  let v1899 : BitVec 1 := Scalar.cmpi .ne v1893 v1898
  let v1900 : BitVec 32 := Scalar.remsi v418 c8_i32_1160
  let c0_i32_1165 : BitVec 32 := 0#32
  let v1901 : BitVec 1 := Scalar.cmpi .ne v1900 c0_i32_1165
  let v1902 : BitVec 1 := Scalar.andi v1899 v1901
  let v1888 : BitVec 32 := Scalar.divsi v418 c8_i32_1160
  let c1_i32_1166 : BitVec 32 := 1#32
  let v1903 : BitVec 32 := Scalar.subi v1888 c1_i32_1166
  let v1904 : BitVec 32 := Scalar.select v1902 v1903 v1888
  let c128_i32_1167 : BitVec 32 := 128#32
  let v1905 : BitVec 32 := Scalar.muli v1904 c128_i32_1167
  let c0_i32_1178 : BitVec 32 := 0#32
  ![v1905.toNat, 0]
def k0_dev31 (d0 : Dev nD) : Nat :=
  let c0_i32_1177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_31 : BitVec 32 := 1#32
  let v71 : BitVec 32 := Scalar.addi v19 c1_i32_31
  let c2_i32_38 : BitVec 32 := 2#32
  let c2_i32_32 : BitVec 32 := 2#32
  let c0_i32_33 : BitVec 32 := 0#32
  let v72 : BitVec 1 := Scalar.cmpi .eq c2_i32_32 c0_i32_33
  let c1_i32_34 : BitVec 32 := 1#32
  let v73 : BitVec 32 := Scalar.select v72 c1_i32_34 c2_i32_32
  let v74 : BitVec 32 := Scalar.remsi v19 v73
  let c0_i32_36 : BitVec 32 := 0#32
  let v76 : BitVec 1 := Scalar.cmpi .slt v74 c0_i32_36
  let c0_i32_37 : BitVec 32 := 0#32
  let v77 : BitVec 1 := Scalar.cmpi .slt v73 c0_i32_37
  let v78 : BitVec 1 := Scalar.xori v76 v77
  let c0_i32_35 : BitVec 32 := 0#32
  let v75 : BitVec 1 := Scalar.cmpi .ne v74 c0_i32_35
  let v79 : BitVec 1 := Scalar.andi v78 v75
  let v80 : BitVec 32 := Scalar.addi v74 v73
  let v81 : BitVec 32 := Scalar.select v79 v80 v74
  let v82 : BitVec 32 := Scalar.muli c2_i32_38 v81
  let v83 : BitVec 32 := Scalar.subi v71 v82
  let c8_i32_217 : BitVec 32 := 8#32
  let v434 : BitVec 32 := Scalar.muli v83 c8_i32_217
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_218 : BitVec 32 := 2#32
  let v435 : BitVec 32 := Scalar.muli v46 c2_i32_218
  let v436 : BitVec 32 := Scalar.addi v434 v435
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v437 : BitVec 32 := Scalar.addi v57 v46
  let c2_i32_219 : BitVec 32 := 2#32
  let c0_i32_220 : BitVec 32 := 0#32
  let v438 : BitVec 1 := Scalar.cmpi .eq c2_i32_219 c0_i32_220
  let c1_i32_221 : BitVec 32 := 1#32
  let v439 : BitVec 32 := Scalar.select v438 c1_i32_221 c2_i32_219
  let v440 : BitVec 32 := Scalar.remsi v437 v439
  let c0_i32_223 : BitVec 32 := 0#32
  let v442 : BitVec 1 := Scalar.cmpi .slt v440 c0_i32_223
  let c0_i32_224 : BitVec 32 := 0#32
  let v443 : BitVec 1 := Scalar.cmpi .slt v439 c0_i32_224
  let v444 : BitVec 1 := Scalar.xori v442 v443
  let c0_i32_222 : BitVec 32 := 0#32
  let v441 : BitVec 1 := Scalar.cmpi .ne v440 c0_i32_222
  let v445 : BitVec 1 := Scalar.andi v444 v441
  let v446 : BitVec 32 := Scalar.addi v440 v439
  let v447 : BitVec 32 := Scalar.select v445 v446 v440
  let v448 : BitVec 32 := Scalar.addi v436 v447
  let c1_i32_1176 : BitVec 32 := 1#32
  let v1914 : BitVec 32 := Scalar.muli v448 c1_i32_1176
  let v1915 : BitVec 32 := Scalar.addi c0_i32_1177 v1914
  v1915.toNat
def k0_off39 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c16_i32 : BitVec 32 := 16#32
  let v117 : BitVec 32 := Scalar.muli v57 c16_i32
  let c2_i32_59 : BitVec 32 := 2#32
  let c0_i32_60 : BitVec 32 := 0#32
  let v118 : BitVec 1 := Scalar.cmpi .eq c2_i32_59 c0_i32_60
  let c1_i32_61 : BitVec 32 := 1#32
  let v119 : BitVec 32 := Scalar.select v118 c1_i32_61 c2_i32_59
  let v120 : BitVec 32 := Scalar.remsi v46 v119
  let c0_i32_63 : BitVec 32 := 0#32
  let v122 : BitVec 1 := Scalar.cmpi .slt v120 c0_i32_63
  let c0_i32_64 : BitVec 32 := 0#32
  let v123 : BitVec 1 := Scalar.cmpi .slt v119 c0_i32_64
  let v124 : BitVec 1 := Scalar.xori v122 v123
  let c0_i32_62 : BitVec 32 := 0#32
  let v121 : BitVec 1 := Scalar.cmpi .ne v120 c0_i32_62
  let v125 : BitVec 1 := Scalar.andi v124 v121
  let v126 : BitVec 32 := Scalar.addi v120 v119
  let v127 : BitVec 32 := Scalar.select v125 v126 v120
  let c8_i32_65 : BitVec 32 := 8#32
  let v128 : BitVec 32 := Scalar.muli v127 c8_i32_65
  let v129 : BitVec 32 := Scalar.addi v117 v128
  let c0_i32_67 : BitVec 32 := 0#32
  let v131 : BitVec 1 := Scalar.cmpi .sgt v46 c0_i32_67
  let v132 : BitVec 32 := Scalar.extui v131
  let c0_i32_68 : BitVec 32 := 0#32
  let v133 : BitVec 1 := Scalar.cmpi .slt v46 c0_i32_68
  let v134 : BitVec 32 := Scalar.extui v133
  let v135 : BitVec 32 := Scalar.subi v132 v134
  let c2_i32_66 : BitVec 32 := 2#32
  let c0_i32_69 : BitVec 32 := 0#32
  let v136 : BitVec 1 := Scalar.cmpi .sgt c2_i32_66 c0_i32_69
  let v137 : BitVec 32 := Scalar.extui v136
  let c0_i32_70 : BitVec 32 := 0#32
  let v138 : BitVec 1 := Scalar.cmpi .slt c2_i32_66 c0_i32_70
  let v139 : BitVec 32 := Scalar.extui v138
  let v140 : BitVec 32 := Scalar.subi v137 v139
  let v141 : BitVec 1 := Scalar.cmpi .ne v135 v140
  let v142 : BitVec 32 := Scalar.remsi v46 c2_i32_66
  let c0_i32_71 : BitVec 32 := 0#32
  let v143 : BitVec 1 := Scalar.cmpi .ne v142 c0_i32_71
  let v144 : BitVec 1 := Scalar.andi v141 v143
  let v130 : BitVec 32 := Scalar.divsi v46 c2_i32_66
  let c1_i32_72 : BitVec 32 := 1#32
  let v145 : BitVec 32 := Scalar.subi v130 c1_i32_72
  let v146 : BitVec 32 := Scalar.select v144 v145 v130
  let c4_i32_73 : BitVec 32 := 4#32
  let v147 : BitVec 32 := Scalar.muli v146 c4_i32_73
  let v148 : BitVec 32 := Scalar.addi v129 v147
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_74 : BitVec 32 := 2#32
  let c0_i32_75 : BitVec 32 := 0#32
  let v149 : BitVec 1 := Scalar.cmpi .eq c2_i32_74 c0_i32_75
  let c1_i32_76 : BitVec 32 := 1#32
  let v150 : BitVec 32 := Scalar.select v149 c1_i32_76 c2_i32_74
  let v151 : BitVec 32 := Scalar.remsi v19 v150
  let c0_i32_78 : BitVec 32 := 0#32
  let v153 : BitVec 1 := Scalar.cmpi .slt v151 c0_i32_78
  let c0_i32_79 : BitVec 32 := 0#32
  let v154 : BitVec 1 := Scalar.cmpi .slt v150 c0_i32_79
  let v155 : BitVec 1 := Scalar.xori v153 v154
  let c0_i32_77 : BitVec 32 := 0#32
  let v152 : BitVec 1 := Scalar.cmpi .ne v151 c0_i32_77
  let v156 : BitVec 1 := Scalar.andi v155 v152
  let v157 : BitVec 32 := Scalar.addi v151 v150
  let v158 : BitVec 32 := Scalar.select v156 v157 v151
  let c2_i32_80 : BitVec 32 := 2#32
  let v159 : BitVec 32 := Scalar.muli v158 c2_i32_80
  let v160 : BitVec 32 := Scalar.addi v148 v159
  let c0_i32_82 : BitVec 32 := 0#32
  let v162 : BitVec 1 := Scalar.cmpi .sgt v19 c0_i32_82
  let v163 : BitVec 32 := Scalar.extui v162
  let c0_i32_83 : BitVec 32 := 0#32
  let v164 : BitVec 1 := Scalar.cmpi .slt v19 c0_i32_83
  let v165 : BitVec 32 := Scalar.extui v164
  let v166 : BitVec 32 := Scalar.subi v163 v165
  let c2_i32_81 : BitVec 32 := 2#32
  let c0_i32_84 : BitVec 32 := 0#32
  let v167 : BitVec 1 := Scalar.cmpi .sgt c2_i32_81 c0_i32_84
  let v168 : BitVec 32 := Scalar.extui v167
  let c0_i32_85 : BitVec 32 := 0#32
  let v169 : BitVec 1 := Scalar.cmpi .slt c2_i32_81 c0_i32_85
  let v170 : BitVec 32 := Scalar.extui v169
  let v171 : BitVec 32 := Scalar.subi v168 v170
  let v172 : BitVec 1 := Scalar.cmpi .ne v166 v171
  let v173 : BitVec 32 := Scalar.remsi v19 c2_i32_81
  let c0_i32_86 : BitVec 32 := 0#32
  let v174 : BitVec 1 := Scalar.cmpi .ne v173 c0_i32_86
  let v175 : BitVec 1 := Scalar.andi v172 v174
  let v161 : BitVec 32 := Scalar.divsi v19 c2_i32_81
  let c1_i32_87 : BitVec 32 := 1#32
  let v176 : BitVec 32 := Scalar.subi v161 c1_i32_87
  let v177 : BitVec 32 := Scalar.select v175 v176 v161
  let v178 : BitVec 32 := Scalar.addi v160 v177
  let c0_i32_1203 : BitVec 32 := 0#32
  let v1943 : BitVec 1 := Scalar.cmpi .sgt v178 c0_i32_1203
  let v1944 : BitVec 32 := Scalar.extui v1943
  let c0_i32_1204 : BitVec 32 := 0#32
  let v1945 : BitVec 1 := Scalar.cmpi .slt v178 c0_i32_1204
  let v1946 : BitVec 32 := Scalar.extui v1945
  let v1947 : BitVec 32 := Scalar.subi v1944 v1946
  let c16_i32_1202 : BitVec 32 := 16#32
  let c0_i32_1205 : BitVec 32 := 0#32
  let v1948 : BitVec 1 := Scalar.cmpi .sgt c16_i32_1202 c0_i32_1205
  let v1949 : BitVec 32 := Scalar.extui v1948
  let c0_i32_1206 : BitVec 32 := 0#32
  let v1950 : BitVec 1 := Scalar.cmpi .slt c16_i32_1202 c0_i32_1206
  let v1951 : BitVec 32 := Scalar.extui v1950
  let v1952 : BitVec 32 := Scalar.subi v1949 v1951
  let v1953 : BitVec 1 := Scalar.cmpi .ne v1947 v1952
  let v1954 : BitVec 32 := Scalar.remsi v178 c16_i32_1202
  let c0_i32_1207 : BitVec 32 := 0#32
  let v1955 : BitVec 1 := Scalar.cmpi .ne v1954 c0_i32_1207
  let v1956 : BitVec 1 := Scalar.andi v1953 v1955
  let v1942 : BitVec 32 := Scalar.divsi v178 c16_i32_1202
  let c1_i32_1208 : BitVec 32 := 1#32
  let v1957 : BitVec 32 := Scalar.subi v1942 c1_i32_1208
  let v1958 : BitVec 32 := Scalar.select v1956 v1957 v1942
  let c256_i32_1209 : BitVec 32 := 256#32
  let v1959 : BitVec 32 := Scalar.muli v1958 c256_i32_1209
  let c0_i32_1222 : BitVec 32 := 0#32
  ![v1959.toNat, 0]
def k0_dev32 (d0 : Dev nD) : Nat :=
  let c0_i32_1221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_89 : BitVec 32 := 8#32
  let v180 : BitVec 32 := Scalar.muli v19 c8_i32_89
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_90 : BitVec 32 := 2#32
  let v181 : BitVec 32 := Scalar.muli v46 c2_i32_90
  let v182 : BitVec 32 := Scalar.addi v180 v181
  let c1_i32_88 : BitVec 32 := 1#32
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v179 : BitVec 32 := Scalar.subi c1_i32_88 v57
  let v183 : BitVec 32 := Scalar.addi v179 v46
  let c2_i32_91 : BitVec 32 := 2#32
  let c0_i32_92 : BitVec 32 := 0#32
  let v184 : BitVec 1 := Scalar.cmpi .eq c2_i32_91 c0_i32_92
  let c1_i32_93 : BitVec 32 := 1#32
  let v185 : BitVec 32 := Scalar.select v184 c1_i32_93 c2_i32_91
  let v186 : BitVec 32 := Scalar.remsi v183 v185
  let c0_i32_95 : BitVec 32 := 0#32
  let v188 : BitVec 1 := Scalar.cmpi .slt v186 c0_i32_95
  let c0_i32_96 : BitVec 32 := 0#32
  let v189 : BitVec 1 := Scalar.cmpi .slt v185 c0_i32_96
  let v190 : BitVec 1 := Scalar.xori v188 v189
  let c0_i32_94 : BitVec 32 := 0#32
  let v187 : BitVec 1 := Scalar.cmpi .ne v186 c0_i32_94
  let v191 : BitVec 1 := Scalar.andi v190 v187
  let v192 : BitVec 32 := Scalar.addi v186 v185
  let v193 : BitVec 32 := Scalar.select v191 v192 v186
  let v194 : BitVec 32 := Scalar.addi v182 v193
  let c1_i32_1220 : BitVec 32 := 1#32
  let v1978 : BitVec 32 := Scalar.muli v194 c1_i32_1220
  let v1979 : BitVec 32 := Scalar.addi c0_i32_1221 v1978
  v1979.toNat
def k0_off40 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_179 : BitVec 32 := 2#32
  let c0_i32_180 : BitVec 32 := 0#32
  let v357 : BitVec 1 := Scalar.cmpi .eq c2_i32_179 c0_i32_180
  let c1_i32_181 : BitVec 32 := 1#32
  let v358 : BitVec 32 := Scalar.select v357 c1_i32_181 c2_i32_179
  let v359 : BitVec 32 := Scalar.remsi v46 v358
  let c0_i32_183 : BitVec 32 := 0#32
  let v361 : BitVec 1 := Scalar.cmpi .slt v359 c0_i32_183
  let c0_i32_184 : BitVec 32 := 0#32
  let v362 : BitVec 1 := Scalar.cmpi .slt v358 c0_i32_184
  let v363 : BitVec 1 := Scalar.xori v361 v362
  let c0_i32_182 : BitVec 32 := 0#32
  let v360 : BitVec 1 := Scalar.cmpi .ne v359 c0_i32_182
  let v364 : BitVec 1 := Scalar.andi v363 v360
  let v365 : BitVec 32 := Scalar.addi v359 v358
  let v366 : BitVec 32 := Scalar.select v364 v365 v359
  let c16_i32_185 : BitVec 32 := 16#32
  let v367 : BitVec 32 := Scalar.muli v366 c16_i32_185
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_186 : BitVec 32 := 2#32
  let c0_i32_187 : BitVec 32 := 0#32
  let v368 : BitVec 1 := Scalar.cmpi .eq c2_i32_186 c0_i32_187
  let c1_i32_188 : BitVec 32 := 1#32
  let v369 : BitVec 32 := Scalar.select v368 c1_i32_188 c2_i32_186
  let v370 : BitVec 32 := Scalar.remsi v19 v369
  let c0_i32_190 : BitVec 32 := 0#32
  let v372 : BitVec 1 := Scalar.cmpi .slt v370 c0_i32_190
  let c0_i32_191 : BitVec 32 := 0#32
  let v373 : BitVec 1 := Scalar.cmpi .slt v369 c0_i32_191
  let v374 : BitVec 1 := Scalar.xori v372 v373
  let c0_i32_189 : BitVec 32 := 0#32
  let v371 : BitVec 1 := Scalar.cmpi .ne v370 c0_i32_189
  let v375 : BitVec 1 := Scalar.andi v374 v371
  let v376 : BitVec 32 := Scalar.addi v370 v369
  let v377 : BitVec 32 := Scalar.select v375 v376 v370
  let c8_i32_192 : BitVec 32 := 8#32
  let v378 : BitVec 32 := Scalar.muli v377 c8_i32_192
  let v379 : BitVec 32 := Scalar.addi v367 v378
  let c0_i32_194 : BitVec 32 := 0#32
  let v381 : BitVec 1 := Scalar.cmpi .sgt v19 c0_i32_194
  let v382 : BitVec 32 := Scalar.extui v381
  let c0_i32_195 : BitVec 32 := 0#32
  let v383 : BitVec 1 := Scalar.cmpi .slt v19 c0_i32_195
  let v384 : BitVec 32 := Scalar.extui v383
  let v385 : BitVec 32 := Scalar.subi v382 v384
  let c2_i32_193 : BitVec 32 := 2#32
  let c0_i32_196 : BitVec 32 := 0#32
  let v386 : BitVec 1 := Scalar.cmpi .sgt c2_i32_193 c0_i32_196
  let v387 : BitVec 32 := Scalar.extui v386
  let c0_i32_197 : BitVec 32 := 0#32
  let v388 : BitVec 1 := Scalar.cmpi .slt c2_i32_193 c0_i32_197
  let v389 : BitVec 32 := Scalar.extui v388
  let v390 : BitVec 32 := Scalar.subi v387 v389
  let v391 : BitVec 1 := Scalar.cmpi .ne v385 v390
  let v392 : BitVec 32 := Scalar.remsi v19 c2_i32_193
  let c0_i32_198 : BitVec 32 := 0#32
  let v393 : BitVec 1 := Scalar.cmpi .ne v392 c0_i32_198
  let v394 : BitVec 1 := Scalar.andi v391 v393
  let v380 : BitVec 32 := Scalar.divsi v19 c2_i32_193
  let c1_i32_199 : BitVec 32 := 1#32
  let v395 : BitVec 32 := Scalar.subi v380 c1_i32_199
  let v396 : BitVec 32 := Scalar.select v394 v395 v380
  let c4_i32_200 : BitVec 32 := 4#32
  let v397 : BitVec 32 := Scalar.muli v396 c4_i32_200
  let v398 : BitVec 32 := Scalar.addi v379 v397
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_201 : BitVec 32 := 2#32
  let v399 : BitVec 32 := Scalar.muli v57 c2_i32_201
  let v400 : BitVec 32 := Scalar.addi v398 v399
  let c0_i32_203 : BitVec 32 := 0#32
  let v402 : BitVec 1 := Scalar.cmpi .sgt v46 c0_i32_203
  let v403 : BitVec 32 := Scalar.extui v402
  let c0_i32_204 : BitVec 32 := 0#32
  let v404 : BitVec 1 := Scalar.cmpi .slt v46 c0_i32_204
  let v405 : BitVec 32 := Scalar.extui v404
  let v406 : BitVec 32 := Scalar.subi v403 v405
  let c2_i32_202 : BitVec 32 := 2#32
  let c0_i32_205 : BitVec 32 := 0#32
  let v407 : BitVec 1 := Scalar.cmpi .sgt c2_i32_202 c0_i32_205
  let v408 : BitVec 32 := Scalar.extui v407
  let c0_i32_206 : BitVec 32 := 0#32
  let v409 : BitVec 1 := Scalar.cmpi .slt c2_i32_202 c0_i32_206
  let v410 : BitVec 32 := Scalar.extui v409
  let v411 : BitVec 32 := Scalar.subi v408 v410
  let v412 : BitVec 1 := Scalar.cmpi .ne v406 v411
  let v413 : BitVec 32 := Scalar.remsi v46 c2_i32_202
  let c0_i32_207 : BitVec 32 := 0#32
  let v414 : BitVec 1 := Scalar.cmpi .ne v413 c0_i32_207
  let v415 : BitVec 1 := Scalar.andi v412 v414
  let v401 : BitVec 32 := Scalar.divsi v46 c2_i32_202
  let c1_i32_208 : BitVec 32 := 1#32
  let v416 : BitVec 32 := Scalar.subi v401 c1_i32_208
  let v417 : BitVec 32 := Scalar.select v415 v416 v401
  let v418 : BitVec 32 := Scalar.addi v400 v417
  let c0_i32_1211 : BitVec 32 := 0#32
  let v1961 : BitVec 1 := Scalar.cmpi .sgt v418 c0_i32_1211
  let v1962 : BitVec 32 := Scalar.extui v1961
  let c0_i32_1212 : BitVec 32 := 0#32
  let v1963 : BitVec 1 := Scalar.cmpi .slt v418 c0_i32_1212
  let v1964 : BitVec 32 := Scalar.extui v1963
  let v1965 : BitVec 32 := Scalar.subi v1962 v1964
  let c16_i32_1210 : BitVec 32 := 16#32
  let c0_i32_1213 : BitVec 32 := 0#32
  let v1966 : BitVec 1 := Scalar.cmpi .sgt c16_i32_1210 c0_i32_1213
  let v1967 : BitVec 32 := Scalar.extui v1966
  let c0_i32_1214 : BitVec 32 := 0#32
  let v1968 : BitVec 1 := Scalar.cmpi .slt c16_i32_1210 c0_i32_1214
  let v1969 : BitVec 32 := Scalar.extui v1968
  let v1970 : BitVec 32 := Scalar.subi v1967 v1969
  let v1971 : BitVec 1 := Scalar.cmpi .ne v1965 v1970
  let v1972 : BitVec 32 := Scalar.remsi v418 c16_i32_1210
  let c0_i32_1215 : BitVec 32 := 0#32
  let v1973 : BitVec 1 := Scalar.cmpi .ne v1972 c0_i32_1215
  let v1974 : BitVec 1 := Scalar.andi v1971 v1973
  let v1960 : BitVec 32 := Scalar.divsi v418 c16_i32_1210
  let c1_i32_1216 : BitVec 32 := 1#32
  let v1975 : BitVec 32 := Scalar.subi v1960 c1_i32_1216
  let v1976 : BitVec 32 := Scalar.select v1974 v1975 v1960
  let c256_i32_1217 : BitVec 32 := 256#32
  let v1977 : BitVec 32 := Scalar.muli v1976 c256_i32_1217
  let c0_i32_1228 : BitVec 32 := 0#32
  ![v1977.toNat, 0]
def k0_dev33 (d0 : Dev nD) : Nat :=
  let c0_i32_1227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_209 : BitVec 32 := 8#32
  let v419 : BitVec 32 := Scalar.muli v19 c8_i32_209
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v58 : BitVec 32 := Scalar.addi v46 c1_i32_23
  let c2_i32_30 : BitVec 32 := 2#32
  let c2_i32_24 : BitVec 32 := 2#32
  let c0_i32_25 : BitVec 32 := 0#32
  let v59 : BitVec 1 := Scalar.cmpi .eq c2_i32_24 c0_i32_25
  let c1_i32_26 : BitVec 32 := 1#32
  let v60 : BitVec 32 := Scalar.select v59 c1_i32_26 c2_i32_24
  let v61 : BitVec 32 := Scalar.remsi v46 v60
  let c0_i32_28 : BitVec 32 := 0#32
  let v63 : BitVec 1 := Scalar.cmpi .slt v61 c0_i32_28
  let c0_i32_29 : BitVec 32 := 0#32
  let v64 : BitVec 1 := Scalar.cmpi .slt v60 c0_i32_29
  let v65 : BitVec 1 := Scalar.xori v63 v64
  let c0_i32_27 : BitVec 32 := 0#32
  let v62 : BitVec 1 := Scalar.cmpi .ne v61 c0_i32_27
  let v66 : BitVec 1 := Scalar.andi v65 v62
  let v67 : BitVec 32 := Scalar.addi v61 v60
  let v68 : BitVec 32 := Scalar.select v66 v67 v61
  let v69 : BitVec 32 := Scalar.muli c2_i32_30 v68
  let v70 : BitVec 32 := Scalar.subi v58 v69
  let c2_i32_210 : BitVec 32 := 2#32
  let v420 : BitVec 32 := Scalar.muli v70 c2_i32_210
  let v421 : BitVec 32 := Scalar.addi v419 v420
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v422 : BitVec 32 := Scalar.addi v57 v70
  let c2_i32_211 : BitVec 32 := 2#32
  let c0_i32_212 : BitVec 32 := 0#32
  let v423 : BitVec 1 := Scalar.cmpi .eq c2_i32_211 c0_i32_212
  let c1_i32_213 : BitVec 32 := 1#32
  let v424 : BitVec 32 := Scalar.select v423 c1_i32_213 c2_i32_211
  let v425 : BitVec 32 := Scalar.remsi v422 v424
  let c0_i32_215 : BitVec 32 := 0#32
  let v427 : BitVec 1 := Scalar.cmpi .slt v425 c0_i32_215
  let c0_i32_216 : BitVec 32 := 0#32
  let v428 : BitVec 1 := Scalar.cmpi .slt v424 c0_i32_216
  let v429 : BitVec 1 := Scalar.xori v427 v428
  let c0_i32_214 : BitVec 32 := 0#32
  let v426 : BitVec 1 := Scalar.cmpi .ne v425 c0_i32_214
  let v430 : BitVec 1 := Scalar.andi v429 v426
  let v431 : BitVec 32 := Scalar.addi v425 v424
  let v432 : BitVec 32 := Scalar.select v430 v431 v425
  let v433 : BitVec 32 := Scalar.addi v421 v432
  let c1_i32_1226 : BitVec 32 := 1#32
  let v1986 : BitVec 32 := Scalar.muli v433 c1_i32_1226
  let v1987 : BitVec 32 := Scalar.addi c0_i32_1227 v1986
  v1987.toNat
def k0_off41 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v1995 : Index := Scalar.indexCast v1994
  let c0_1231 : Index := 0#32
  ![v1995.toNat, 0]
def k0_off42 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v1997 : Index := Scalar.indexCast v1994
  let c0_1232 : Index := 0#32
  ![v1997.toNat, 0]
def k0_off43 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v1999 : Index := Scalar.indexCast v1994
  let c0_1233 : Index := 0#32
  ![v1999.toNat, 0]
def k0_off44 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2012 : Index := Scalar.indexCast v1994
  let c0_1238 : Index := 0#32
  ![v2012.toNat, 0]
def k0_off45 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2016 : Index := Scalar.indexCast v1994
  let c64 : Index := 64#32
  ![v2016.toNat, 64]
def k0_off46 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2018 : Index := Scalar.indexCast v1994
  let c32 : Index := 32#32
  ![v2018.toNat, 32]
def k0_off47 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2031 : Index := Scalar.indexCast v1994
  let c256 : Index := 256#32
  ![v2031.toNat, 256]
def k0_off48 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2035 : Index := Scalar.indexCast v1994
  let c128 : Index := 128#32
  ![v2035.toNat, 128]
def k0_off49 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2037 : Index := Scalar.indexCast v1994
  let c64_1243 : Index := 64#32
  ![v2037.toNat, 64]
def k0_off50 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2050 : Index := Scalar.indexCast v1994
  let c512 : Index := 512#32
  ![v2050.toNat, 512]
def k0_off51 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2054 : Index := Scalar.indexCast v1994
  let c192 : Index := 192#32
  ![v2054.toNat, 192]
def k0_off52 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2056 : Index := Scalar.indexCast v1994
  let c96 : Index := 96#32
  ![v2056.toNat, 96]
def k0_off53 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2069 : Index := Scalar.indexCast v1994
  let c768 : Index := 768#32
  ![v2069.toNat, 768]
def k0_off54 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2073 : Index := Scalar.indexCast v1994
  let c256_1252 : Index := 256#32
  ![v2073.toNat, 256]
def k0_off55 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2075 : Index := Scalar.indexCast v1994
  let c128_1253 : Index := 128#32
  ![v2075.toNat, 128]
def k0_off56 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2088 : Index := Scalar.indexCast v1994
  let c1024 : Index := 1024#32
  ![v2088.toNat, 1024]
def k0_off57 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2092 : Index := Scalar.indexCast v1994
  let c320 : Index := 320#32
  ![v2092.toNat, 320]
def k0_off58 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2094 : Index := Scalar.indexCast v1994
  let c160 : Index := 160#32
  ![v2094.toNat, 160]
def k0_off59 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2107 : Index := Scalar.indexCast v1994
  let c1280 : Index := 1280#32
  ![v2107.toNat, 1280]
def k0_off60 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2111 : Index := Scalar.indexCast v1994
  let c384 : Index := 384#32
  ![v2111.toNat, 384]
def k0_off61 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2113 : Index := Scalar.indexCast v1994
  let c192_1262 : Index := 192#32
  ![v2113.toNat, 192]
def k0_off62 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2126 : Index := Scalar.indexCast v1994
  let c1536 : Index := 1536#32
  ![v2126.toNat, 1536]
def k0_off63 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2130 : Index := Scalar.indexCast v1994
  let c448 : Index := 448#32
  ![v2130.toNat, 448]
def k0_off64 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2132 : Index := Scalar.indexCast v1994
  let c224 : Index := 224#32
  ![v2132.toNat, 224]
def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2145 : Index := Scalar.indexCast v1994
  let c1792 : Index := 1792#32
  ![v2145.toNat, 1792]
def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2149 : Index := Scalar.indexCast v1994
  let c512_1271 : Index := 512#32
  ![v2149.toNat, 512]
def k0_off67 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2151 : Index := Scalar.indexCast v1994
  let c256_1272 : Index := 256#32
  ![v2151.toNat, 256]
def k0_off68 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2164 : Index := Scalar.indexCast v1994
  let c2048 : Index := 2048#32
  ![v2164.toNat, 2048]
def k0_off69 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2168 : Index := Scalar.indexCast v1994
  let c576 : Index := 576#32
  ![v2168.toNat, 576]
def k0_off70 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2170 : Index := Scalar.indexCast v1994
  let c288 : Index := 288#32
  ![v2170.toNat, 288]
def k0_off71 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2183 : Index := Scalar.indexCast v1994
  let c2304 : Index := 2304#32
  ![v2183.toNat, 2304]
def k0_off72 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2187 : Index := Scalar.indexCast v1994
  let c640 : Index := 640#32
  ![v2187.toNat, 640]
def k0_off73 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2189 : Index := Scalar.indexCast v1994
  let c320_1281 : Index := 320#32
  ![v2189.toNat, 320]
def k0_off74 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2202 : Index := Scalar.indexCast v1994
  let c2560 : Index := 2560#32
  ![v2202.toNat, 2560]
def k0_off75 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2206 : Index := Scalar.indexCast v1994
  let c704 : Index := 704#32
  ![v2206.toNat, 704]
def k0_off76 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2208 : Index := Scalar.indexCast v1994
  let c352 : Index := 352#32
  ![v2208.toNat, 352]
def k0_off77 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2221 : Index := Scalar.indexCast v1994
  let c2816 : Index := 2816#32
  ![v2221.toNat, 2816]
def k0_off78 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2225 : Index := Scalar.indexCast v1994
  let c768_1290 : Index := 768#32
  ![v2225.toNat, 768]
def k0_off79 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2227 : Index := Scalar.indexCast v1994
  let c384_1291 : Index := 384#32
  ![v2227.toNat, 384]
def k0_off80 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2240 : Index := Scalar.indexCast v1994
  let c3072 : Index := 3072#32
  ![v2240.toNat, 3072]
def k0_off81 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2244 : Index := Scalar.indexCast v1994
  let c832 : Index := 832#32
  ![v2244.toNat, 832]
def k0_off82 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2246 : Index := Scalar.indexCast v1994
  let c416 : Index := 416#32
  ![v2246.toNat, 416]
def k0_off83 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2259 : Index := Scalar.indexCast v1994
  let c3328 : Index := 3328#32
  ![v2259.toNat, 3328]
def k0_off84 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2263 : Index := Scalar.indexCast v1994
  let c896 : Index := 896#32
  ![v2263.toNat, 896]
def k0_off85 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2265 : Index := Scalar.indexCast v1994
  let c448_1300 : Index := 448#32
  ![v2265.toNat, 448]
def k0_off86 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2278 : Index := Scalar.indexCast v1994
  let c3584 : Index := 3584#32
  ![v2278.toNat, 3584]
def k0_off87 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2282 : Index := Scalar.indexCast v1994
  let c960 : Index := 960#32
  ![v2282.toNat, 960]
def k0_off88 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2284 : Index := Scalar.indexCast v1994
  let c480 : Index := 480#32
  ![v2284.toNat, 480]
def k0_off89 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_1230 : BitVec 32 := 256#32
  let v1994 : BitVec 32 := Scalar.muli v57 c256_i32_1230
  let v2297 : Index := Scalar.indexCast v1994
  let c3840 : Index := 3840#32
  ![v2297.toNat, 3840]
def k0_off90 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2313 : Index := Scalar.indexCast v2312
  let c0_1322 : Index := 0#32
  ![v2313.toNat, 0]
def k0_off91 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2315 : Index := Scalar.indexCast v2312
  let c0_1323 : Index := 0#32
  ![v2315.toNat, 0]
def k0_off92 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2317 : Index := Scalar.indexCast v2312
  let c0_1324 : Index := 0#32
  ![v2317.toNat, 0]
def k0_off93 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2330 : Index := Scalar.indexCast v2312
  let c0_1329 : Index := 0#32
  ![v2330.toNat, 0]
def k0_off94 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2334 : Index := Scalar.indexCast v2312
  let c64_1330 : Index := 64#32
  ![v2334.toNat, 64]
def k0_off95 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2336 : Index := Scalar.indexCast v2312
  let c32_1331 : Index := 32#32
  ![v2336.toNat, 32]
def k0_off96 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2349 : Index := Scalar.indexCast v2312
  let c256_1336 : Index := 256#32
  ![v2349.toNat, 256]
def k0_off97 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2353 : Index := Scalar.indexCast v2312
  let c128_1337 : Index := 128#32
  ![v2353.toNat, 128]
def k0_off98 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2355 : Index := Scalar.indexCast v2312
  let c64_1338 : Index := 64#32
  ![v2355.toNat, 64]
def k0_off99 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2368 : Index := Scalar.indexCast v2312
  let c512_1343 : Index := 512#32
  ![v2368.toNat, 512]
def k0_off100 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2372 : Index := Scalar.indexCast v2312
  let c192_1344 : Index := 192#32
  ![v2372.toNat, 192]
def k0_off101 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2374 : Index := Scalar.indexCast v2312
  let c96_1345 : Index := 96#32
  ![v2374.toNat, 96]
def k0_off102 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2387 : Index := Scalar.indexCast v2312
  let c768_1350 : Index := 768#32
  ![v2387.toNat, 768]
def k0_off103 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2391 : Index := Scalar.indexCast v2312
  let c256_1351 : Index := 256#32
  ![v2391.toNat, 256]
def k0_off104 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2393 : Index := Scalar.indexCast v2312
  let c128_1352 : Index := 128#32
  ![v2393.toNat, 128]
def k0_off105 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2406 : Index := Scalar.indexCast v2312
  let c1024_1357 : Index := 1024#32
  ![v2406.toNat, 1024]
def k0_off106 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2410 : Index := Scalar.indexCast v2312
  let c320_1358 : Index := 320#32
  ![v2410.toNat, 320]
def k0_off107 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2412 : Index := Scalar.indexCast v2312
  let c160_1359 : Index := 160#32
  ![v2412.toNat, 160]
def k0_off108 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2425 : Index := Scalar.indexCast v2312
  let c1280_1364 : Index := 1280#32
  ![v2425.toNat, 1280]
def k0_off109 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2429 : Index := Scalar.indexCast v2312
  let c384_1365 : Index := 384#32
  ![v2429.toNat, 384]
def k0_off110 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2431 : Index := Scalar.indexCast v2312
  let c192_1366 : Index := 192#32
  ![v2431.toNat, 192]
def k0_off111 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2444 : Index := Scalar.indexCast v2312
  let c1536_1371 : Index := 1536#32
  ![v2444.toNat, 1536]
def k0_off112 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2448 : Index := Scalar.indexCast v2312
  let c448_1372 : Index := 448#32
  ![v2448.toNat, 448]
def k0_off113 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2450 : Index := Scalar.indexCast v2312
  let c224_1373 : Index := 224#32
  ![v2450.toNat, 224]
def k0_off114 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2463 : Index := Scalar.indexCast v2312
  let c1792_1378 : Index := 1792#32
  ![v2463.toNat, 1792]
def k0_off115 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2467 : Index := Scalar.indexCast v2312
  let c512_1379 : Index := 512#32
  ![v2467.toNat, 512]
def k0_off116 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2469 : Index := Scalar.indexCast v2312
  let c256_1380 : Index := 256#32
  ![v2469.toNat, 256]
def k0_off117 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2482 : Index := Scalar.indexCast v2312
  let c2048_1385 : Index := 2048#32
  ![v2482.toNat, 2048]
def k0_off118 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2486 : Index := Scalar.indexCast v2312
  let c576_1386 : Index := 576#32
  ![v2486.toNat, 576]
def k0_off119 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2488 : Index := Scalar.indexCast v2312
  let c288_1387 : Index := 288#32
  ![v2488.toNat, 288]
def k0_off120 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2501 : Index := Scalar.indexCast v2312
  let c2304_1392 : Index := 2304#32
  ![v2501.toNat, 2304]
def k0_off121 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2505 : Index := Scalar.indexCast v2312
  let c640_1393 : Index := 640#32
  ![v2505.toNat, 640]
def k0_off122 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2507 : Index := Scalar.indexCast v2312
  let c320_1394 : Index := 320#32
  ![v2507.toNat, 320]
def k0_off123 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2520 : Index := Scalar.indexCast v2312
  let c2560_1399 : Index := 2560#32
  ![v2520.toNat, 2560]
def k0_off124 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2524 : Index := Scalar.indexCast v2312
  let c704_1400 : Index := 704#32
  ![v2524.toNat, 704]
def k0_off125 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2526 : Index := Scalar.indexCast v2312
  let c352_1401 : Index := 352#32
  ![v2526.toNat, 352]
def k0_off126 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2539 : Index := Scalar.indexCast v2312
  let c2816_1406 : Index := 2816#32
  ![v2539.toNat, 2816]
def k0_off127 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2543 : Index := Scalar.indexCast v2312
  let c768_1407 : Index := 768#32
  ![v2543.toNat, 768]
def k0_off128 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2545 : Index := Scalar.indexCast v2312
  let c384_1408 : Index := 384#32
  ![v2545.toNat, 384]
def k0_off129 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2558 : Index := Scalar.indexCast v2312
  let c3072_1413 : Index := 3072#32
  ![v2558.toNat, 3072]
def k0_off130 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2562 : Index := Scalar.indexCast v2312
  let c832_1414 : Index := 832#32
  ![v2562.toNat, 832]
def k0_off131 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2564 : Index := Scalar.indexCast v2312
  let c416_1415 : Index := 416#32
  ![v2564.toNat, 416]
def k0_off132 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2577 : Index := Scalar.indexCast v2312
  let c3328_1420 : Index := 3328#32
  ![v2577.toNat, 3328]
def k0_off133 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2581 : Index := Scalar.indexCast v2312
  let c896_1421 : Index := 896#32
  ![v2581.toNat, 896]
def k0_off134 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2583 : Index := Scalar.indexCast v2312
  let c448_1422 : Index := 448#32
  ![v2583.toNat, 448]
def k0_off135 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2596 : Index := Scalar.indexCast v2312
  let c3584_1427 : Index := 3584#32
  ![v2596.toNat, 3584]
def k0_off136 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2600 : Index := Scalar.indexCast v2312
  let c960_1428 : Index := 960#32
  ![v2600.toNat, 960]
def k0_off137 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2602 : Index := Scalar.indexCast v2312
  let c480_1429 : Index := 480#32
  ![v2602.toNat, 480]
def k0_off138 (d0 : Dev nD) : Fin 2 → Nat :=
  let c1_i32_1320 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v46 v29
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v2311 : BitVec 32 := Scalar.subi c1_i32_1320 v57
  let c256_i32_1321 : BitVec 32 := 256#32
  let v2312 : BitVec 32 := Scalar.muli v2311 c256_i32_1321
  let v2615 : Index := Scalar.indexCast v2312
  let c3840_1434 : Index := 3840#32
  ![v2615.toNat, 3840]
abbrev stage0_0 : Fin 1 → Memref sig .tc .vmem S2x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S2x256x1024 : Shape := ⟨3, ![2, 256, 1024]⟩
abbrev S1024x2048 : Shape := ⟨2, ![1024, 2048]⟩
abbrev S2048x1024 : Shape := ⟨2, ![2048, 1024]⟩
abbrev S1024x1024 : Shape := ⟨2, ![1024, 1024]⟩
abbrev S1024x512 : Shape := ⟨2, ![1024, 512]⟩
abbrev S1024x32 : Shape := ⟨2, ![1024, 32]⟩
abbrev S2x256x2048 : Shape := ⟨3, ![2, 256, 2048]⟩
abbrev S2x256x16x64 : Shape := ⟨4, ![2, 256, 16, 64]⟩
abbrev S2x256x512 : Shape := ⟨3, ![2, 256, 512]⟩
abbrev S2x256x16x32 : Shape := ⟨4, ![2, 256, 16, 32]⟩
abbrev S2x256x32 : Shape := ⟨3, ![2, 256, 32]⟩
abbrev S2x256x1x32 : Shape := ⟨4, ![2, 256, 1, 32]⟩
abbrev S2x16x256x256 : Shape := ⟨4, ![2, 16, 256, 256]⟩
abbrev S_ : Shape := ⟨0, ![]⟩
abbrev S2x16x256 : Shape := ⟨3, ![2, 16, 256]⟩
abbrev S2x16x256x1 : Shape := ⟨4, ![2, 16, 256, 1]⟩
abbrev S2x16x64x256 : Shape := ⟨4, ![2, 16, 64, 256]⟩
abbrev S512x1024 : Shape := ⟨2, ![512, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2x256x1024, .bf16⟩
  | .hbm, ⟨1, _⟩ => ⟨S1024x2048, .bf16⟩
  | .hbm, ⟨2, _⟩ => ⟨S2048x1024, .bf16⟩
  | .hbm, ⟨3, _⟩ => ⟨S2048x1024, .bf16⟩
  | .hbm, ⟨4, _⟩ => ⟨S1024x1024, .bf16⟩
  | .hbm, ⟨5, _⟩ => ⟨S1024x512, .bf16⟩
  | .hbm, ⟨6, _⟩ => ⟨S1024x32, .bf16⟩
  | .hbm, ⟨7, _⟩ => ⟨S1024x1024, .bf16⟩
  | .hbm, ⟨8, _⟩ => ⟨S2x256x1024, .f32⟩
  | .hbm, ⟨9, _⟩ => ⟨S1024x2048, .f32⟩
  | .hbm, ⟨10, _⟩ => ⟨S2048x1024, .f32⟩
  | .hbm, ⟨11, _⟩ => ⟨S2048x1024, .f32⟩
  | .hbm, ⟨12, _⟩ => ⟨S1024x1024, .f32⟩
  | .hbm, ⟨13, _⟩ => ⟨S1024x512, .f32⟩
  | .hbm, ⟨14, _⟩ => ⟨S1024x32, .f32⟩
  | .hbm, ⟨15, _⟩ => ⟨S1024x1024, .f32⟩
  | .hbm, ⟨16, _⟩ => ⟨S2x256x2048, .f32⟩
  | .hbm, ⟨17, _⟩ => ⟨S2x256x1024, .f32⟩
  | .hbm, ⟨18, _⟩ => ⟨S2x256x16x64, .f32⟩
  | .hbm, ⟨19, _⟩ => ⟨S2x256x1024, .f32⟩
  | .hbm, ⟨20, _⟩ => ⟨S2x256x16x64, .f32⟩
  | .hbm, ⟨21, _⟩ => ⟨S2x256x1024, .f32⟩
  | .hbm, ⟨22, _⟩ => ⟨S2x256x16x64, .f32⟩
  | .hbm, ⟨23, _⟩ => ⟨S2x256x512, .f32⟩
  | .hbm, ⟨24, _⟩ => ⟨S2x256x16x32, .f32⟩
  | .hbm, ⟨25, _⟩ => ⟨S2x256x32, .f32⟩
  | .hbm, ⟨26, _⟩ => ⟨S2x256x1x32, .f32⟩
  | .hbm, ⟨27, _⟩ => ⟨S2x16x256x256, .f32⟩
  | .hbm, ⟨28, _⟩ => ⟨S2x256x16x32, .f32⟩
  | .hbm, ⟨29, _⟩ => ⟨S2x16x256x256, .f32⟩
  | .hbm, ⟨30, _⟩ => ⟨S2x16x256x256, .f32⟩
  | .hbm, ⟨31, _⟩ => ⟨S_, .f32⟩
  | .hbm, ⟨32, _⟩ => ⟨S2x16x256x256, .f32⟩
  | .hbm, ⟨33, _⟩ => ⟨S2x16x256x256, .f32⟩
  | .hbm, ⟨34, _⟩ => ⟨S_, .f32⟩
  | .hbm, ⟨35, _⟩ => ⟨S2x16x256, .f32⟩
  | .hbm, ⟨36, _⟩ => ⟨S2x16x256x1, .f32⟩
  | .hbm, ⟨37, _⟩ => ⟨S2x16x256x256, .f32⟩
  | .hbm, ⟨38, _⟩ => ⟨S2x16x256x256, .f32⟩
  | .hbm, ⟨39, _⟩ => ⟨S2x16x256x256, .f32⟩
  | .hbm, ⟨40, _⟩ => ⟨S_, .f32⟩
  | .hbm, ⟨41, _⟩ => ⟨S2x16x256, .f32⟩
  | .hbm, ⟨42, _⟩ => ⟨S2x16x256x1, .f32⟩
  | .hbm, ⟨43, _⟩ => ⟨S2x16x256x256, .f32⟩
  | .hbm, ⟨44, _⟩ => ⟨S2x16x256x256, .f32⟩
  | .hbm, ⟨45, _⟩ => ⟨S2x16x64x256, .f32⟩
  | .hbm, ⟨46, _⟩ => ⟨S2x256x16x64, .f32⟩
  | .hbm, ⟨47, _⟩ => ⟨S2x256x1024, .f32⟩
  | .hbm, ⟨48, _⟩ => ⟨S2x256x1024, .f32⟩
  | .hbm, ⟨49, _⟩ => ⟨S512x1024, .f32⟩
  | _, _ => ⟨S2x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.KernelIdealMesh.lean ====
/-
The mesh of thirty-two devices and the two streams' coordinates: which device every transfer names, at which
rows it reads and writes, and how a buffer of 512 rows splits into the blocks of rows the transfers move.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdealProof

open Cert.KernelIdeal Cert.KernelIdeal.Gen
open Idealize.ShloMosaic
open Idealize.ShloMosaic.TcCoe

/-- The device whose number differs from `c`'s in the bits of `k`. -/
def px (k : ℕ) (c : Dev nD) : Dev nD := ⟨(c.val ^^^ k) % 32, Nat.mod_lt _ (by decide)⟩

/-- Stream A's position of a device: the chunk of sixteen rows it ends up summing. -/
def pA (c : Dev nD) : ℕ := (c.val % 8 / 2 + c.val % 8) % 2 * 16 + c.val % 8 / 2 % 2 * 8 + c.val % 8 / 2 / 2 * 4 + c.val / 8 % 2 * 2 + c.val / 8 / 2
/-- Stream B's. -/
def pB (c : Dev nD) : ℕ := c.val % 8 / 2 % 2 * 16 + c.val / 8 % 2 * 8 + c.val / 8 / 2 * 4 + (c.val % 8 / 2 + c.val % 8) % 2 * 2 + c.val % 8 / 2 / 2

/-- The first row of the block of `2 ^ j` chunks that holds `c`'s chunk. -/
def bA (j : ℕ) (c : Dev nD) : ℕ := pA c / 2 ^ j * (16 * 2 ^ j)
def bB (j : ℕ) (c : Dev nD) : ℕ := pB c / 2 ^ j * (16 * 2 ^ j)

/-- The rows `lo … lo + n - 1` of a matrix. -/
def rows {R C : ℕ} (lo n : ℕ) : Finset (⟨2, ![R, C]⟩ : Shape).Idx := Finset.univ.filter fun i => lo ≤ (i 0).val ∧ (i 0).val < lo + n

theorem mem_rows {R C : ℕ} {lo n : ℕ} {i : (⟨2, ![R, C]⟩ : Shape).Idx} : i ∈ rows lo n ↔ lo ≤ (i 0).val ∧ (i 0).val < lo + n := by
  unfold rows; rw [Finset.mem_filter]; exact ⟨fun h => h.2, fun h => ⟨Finset.mem_univ _, h⟩⟩

/-- A whole-width rectangle of rows is those rows. -/
theorem rect_rows {R C n lo : ℕ} {off : Fin 2 → ℕ} (h : off = ![lo, 0]) (inb : ∀ a, off a + (⟨2, ![n, C]⟩ : Shape).size a ≤ (⟨2, ![R, C]⟩ : Shape).size a) :
    (Rect.unit (s := ⟨2, ![R, C]⟩) off (⟨2, ![n, C]⟩ : Shape).size inb).set = rows lo n := by
  subst h
  ext i
  rw [Rect.mem_set_unit, mem_rows]
  constructor
  · intro h; exact h 0
  · intro h a
    match a with
    | ⟨0, _⟩ => exact h
    | ⟨1, _⟩ => exact ⟨Nat.zero_le _, by show (i 1).val < 0 + C; have := (i 1).isLt; rw [Nat.zero_add]; exact this⟩

/-- The rows of the block of `2 ^ j` chunks holding `c`'s chunk, of a 512-row matrix, -/
abbrev RA (j : ℕ) (c : Dev nD) : Finset S512x1024.Idx := rows (bA j c) (16 * 2 ^ j)
abbrev RB (j : ℕ) (c : Dev nD) : Finset S512x1024.Idx := rows (bB j c) (16 * 2 ^ j)

/-- Where in a 256-row landing buffer the first pair of halves land: the half this device passes on, and the half it keeps. -/
def sA (c : Dev nD) : ℕ := bA 3 (px 3 c) - bA 4 c
def kA (c : Dev nD) : ℕ := bA 3 c - bA 4 c
def sB (c : Dev nD) : ℕ := bB 3 (px 8 c) - bB 4 c
def kB (c : Dev nD) : ℕ := bB 3 c - bB 4 c

abbrev LA (lo : ℕ) : Finset S256x1024.Idx := rows lo 128

theorem two_split {R C : ℕ} {a b c d : ℕ} {x y : ℕ} (h : ∀ v, v < R → (a ≤ v ∧ v < a + x ↔ (b ≤ v ∧ v < b + y) ∨ (c ≤ v ∧ v < c + d))) :
    (rows a x : Finset (⟨2, ![R, C]⟩ : Shape).Idx) = rows b y ∪ rows c d := by
  ext i; rw [Finset.mem_union, mem_rows, mem_rows, mem_rows]; exact h _ (i 0).isLt
theorem two_disj {R C : ℕ} {b c d : ℕ} {y : ℕ} (h : b + y ≤ c ∨ c + d ≤ b) :
    Disjoint (rows b y : Finset (⟨2, ![R, C]⟩ : Shape).Idx) (rows c d) := by
  rw [Finset.disjoint_left]; intro i h1 h2; rw [mem_rows] at h1 h2; omega
theorem rows_univ {R C : ℕ} : (rows 0 R : Finset (⟨2, ![R, C]⟩ : Shape).Idx) = Finset.univ := by
  ext i; rw [mem_rows]; exact ⟨fun _ => Finset.mem_univ _, fun _ => ⟨Nat.zero_le _, by have := (i 0).isLt; rw [Nat.zero_add]; exact this⟩⟩

/-! ### Stream A: splitting the rows -/

theorem bA_lin0 : ∀ c, (bA 4 c = 0 ∧ bA 4 (px 1 c) = 256) ∨ (bA 4 c = 256 ∧ bA 4 (px 1 c) = 0) := by decide +kernel
theorem bA_lin1 : ∀ c, (bA 3 c = bA 4 c ∧ bA 3 (px 3 c) = bA 4 c + 128) ∨ (bA 3 (px 3 c) = bA 4 c ∧ bA 3 c = bA 4 c + 128) := by decide +kernel
theorem bA_lin2 : ∀ c, (bA 2 c = bA 3 c ∧ bA 2 (px 4 c) = bA 3 c + 64) ∨ (bA 2 (px 4 c) = bA 3 c ∧ bA 2 c = bA 3 c + 64) := by decide +kernel
theorem bA_quad : ∀ c, ∀ v : Fin 32, (bA 2 c ≤ 16 * v.val ∧ 16 * v.val < bA 2 c + 64) ↔ (16 * v.val = bA 0 c ∨ 16 * v.val = bA 0 (px 8 c) ∨ 16 * v.val = bA 0 (px 16 c) ∨ 16 * v.val = bA 0 (px 24 c)) := by decide +kernel
theorem bA_mod : ∀ c, bA 2 c % 64 = 0 ∧ bA 0 c % 16 = 0 ∧ bA 0 c ≠ bA 0 (px 8 c) ∧ bA 0 c ≠ bA 0 (px 16 c) ∧ bA 0 c ≠ bA 0 (px 24 c)
    ∧ bA 0 (px 8 c) ≠ bA 0 (px 16 c) ∧ bA 0 (px 8 c) ≠ bA 0 (px 24 c) ∧ bA 0 (px 16 c) ≠ bA 0 (px 24 c) := by decide +kernel

theorem RA_univ (c : Dev nD) : (Finset.univ : Finset S512x1024.Idx) = RA 4 c ∪ RA 4 (px 1 c) := by
  rw [← rows_univ]; refine two_split fun v hv => ?_
  have := bA_lin0 c; show _ ↔ (_ ∧ v < _ + 256) ∨ (_ ∧ v < _ + 256); omega
theorem RA_univ_disj (c : Dev nD) : Disjoint (RA 4 c) (RA 4 (px 1 c)) := by
  refine two_disj ?_; have := bA_lin0 c; show _ + 256 ≤ _ ∨ _ + 256 ≤ _; omega
theorem RA_4 (c : Dev nD) : RA 4 c = RA 3 (px 3 c) ∪ RA 3 c := by
  refine two_split fun v hv => ?_
  have := bA_lin1 c; show (_ ∧ v < _ + 256) ↔ (_ ∧ v < _ + 128) ∨ (_ ∧ v < _ + 128); omega
theorem RA_4_disj (c : Dev nD) : Disjoint (RA 3 (px 3 c)) (RA 3 c) := by
  refine two_disj ?_; have := bA_lin1 c; show _ + 128 ≤ _ ∨ _ + 128 ≤ _; omega
theorem RA_3 (c : Dev nD) : RA 3 c = RA 2 (px 4 c) ∪ RA 2 c := by
  refine two_split fun v hv => ?_
  have := bA_lin2 c; show (_ ∧ v < _ + 128) ↔ (_ ∧ v < _ + 64) ∨ (_ ∧ v < _ + 64); omega
theorem RA_3_disj (c : Dev nD) : Disjoint (RA 2 (px 4 c)) (RA 2 c) := by
  refine two_disj ?_; have := bA_lin2 c; show _ + 64 ≤ _ ∨ _ + 64 ≤ _; omega

theorem RA_2 (c : Dev nD) : RA 2 c = RA 0 c ∪ (RA 0 (px 8 c) ∪ (RA 0 (px 16 c) ∪ RA 0 (px 24 c))) := by
  ext i; simp only [Finset.mem_union, mem_rows]
  have hi : (i 0).val < 512 := (i 0).isLt
  have h := bA_quad c ⟨(i 0).val / 16, by omega⟩
  have m0 := bA_mod c; have m1 := (bA_mod (px 8 c)).2.1; have m2 := (bA_mod (px 16 c)).2.1; have m3 := (bA_mod (px 24 c)).2.1
  show (_ ∧ _ < _ + 64) ↔ (_ ∧ _ < _ + 16) ∨ (_ ∧ _ < _ + 16) ∨ (_ ∧ _ < _ + 16) ∨ (_ ∧ _ < _ + 16)
  dsimp only at h
  generalize (i 0).val = v at *
  omega
theorem RA_2_disj (c : Dev nD) : Disjoint (RA 0 c) (RA 0 (px 8 c) ∪ (RA 0 (px 16 c) ∪ RA 0 (px 24 c)))
    ∧ Disjoint (RA 0 (px 8 c)) (RA 0 (px 16 c) ∪ RA 0 (px 24 c)) ∧ Disjoint (RA 0 (px 16 c)) (RA 0 (px 24 c)) := by
  have m0 := bA_mod c; have m1 := (bA_mod (px 8 c)).2.1; have m2 := (bA_mod (px 16 c)).2.1; have m3 := (bA_mod (px 24 c)).2.1
  simp only [Finset.disjoint_union_right]
  refine ⟨⟨two_disj ?_, two_disj ?_, two_disj ?_⟩, ⟨two_disj ?_, two_disj ?_⟩, two_disj ?_⟩ <;> (show _ + 16 ≤ _ ∨ _ + 16 ≤ _; omega)

theorem sA_val : ∀ c, (sA c = 0 ∧ kA c = 128) ∨ (sA c = 128 ∧ kA c = 0) := by decide +kernel
theorem LA_univ (c : Dev nD) : (Finset.univ : Finset S256x1024.Idx) = LA (sA c) ∪ LA (kA c) := by
  rw [← rows_univ]; refine two_split fun v hv => ?_
  have := sA_val c; omega
theorem LA_disj (c : Dev nD) : Disjoint (LA (sA c)) (LA (kA c)) := by
  refine two_disj ?_; have := sA_val c; omega

/-! ### Stream B: splitting the rows -/

theorem bB_lin0 : ∀ c, (bB 4 c = 0 ∧ bB 4 (px 3 c) = 256) ∨ (bB 4 c = 256 ∧ bB 4 (px 3 c) = 0) := by decide +kernel
theorem bB_lin1 : ∀ c, (bB 3 c = bB 4 c ∧ bB 3 (px 8 c) = bB 4 c + 128) ∨ (bB 3 (px 8 c) = bB 4 c ∧ bB 3 c = bB 4 c + 128) := by decide +kernel
theorem bB_lin2 : ∀ c, (bB 2 c = bB 3 c ∧ bB 2 (px 16 c) = bB 3 c + 64) ∨ (bB 2 (px 16 c) = bB 3 c ∧ bB 2 c = bB 3 c + 64) := by decide +kernel
theorem bB_quad : ∀ c, ∀ v : Fin 32, (bB 2 c ≤ 16 * v.val ∧ 16 * v.val < bB 2 c + 64) ↔ (16 * v.val = bB 0 c ∨ 16 * v.val = bB 0 (px 1 c) ∨ 16 * v.val = bB 0 (px 4 c) ∨ 16 * v.val = bB 0 (px 5 c)) := by decide +kernel
theorem bB_mod : ∀ c, bB 2 c % 64 = 0 ∧ bB 0 c % 16 = 0 ∧ bB 0 c ≠ bB 0 (px 1 c) ∧ bB 0 c ≠ bB 0 (px 4 c) ∧ bB 0 c ≠ bB 0 (px 5 c)
    ∧ bB 0 (px 1 c) ≠ bB 0 (px 4 c) ∧ bB 0 (px 1 c) ≠ bB 0 (px 5 c) ∧ bB 0 (px 4 c) ≠ bB 0 (px 5 c) := by decide +kernel

theorem RB_univ (c : Dev nD) : (Finset.univ : Finset S512x1024.Idx) = RB 4 c ∪ RB 4 (px 3 c) := by
  rw [← rows_univ]; refine two_split fun v hv => ?_
  have := bB_lin0 c; show _ ↔ (_ ∧ v < _ + 256) ∨ (_ ∧ v < _ + 256); omega
theorem RB_univ_disj (c : Dev nD) : Disjoint (RB 4 c) (RB 4 (px 3 c)) := by
  refine two_disj ?_; have := bB_lin0 c; show _ + 256 ≤ _ ∨ _ + 256 ≤ _; omega
theorem RB_4 (c : Dev nD) : RB 4 c = RB 3 (px 8 c) ∪ RB 3 c := by
  refine two_split fun v hv => ?_
  have := bB_lin1 c; show (_ ∧ v < _ + 256) ↔ (_ ∧ v < _ + 128) ∨ (_ ∧ v < _ + 128); omega
theorem RB_4_disj (c : Dev nD) : Disjoint (RB 3 (px 8 c)) (RB 3 c) := by
  refine two_disj ?_; have := bB_lin1 c; show _ + 128 ≤ _ ∨ _ + 128 ≤ _; omega
theorem RB_3 (c : Dev nD) : RB 3 c = RB 2 (px 16 c) ∪ RB 2 c := by
  refine two_split fun v hv => ?_
  have := bB_lin2 c; show (_ ∧ v < _ + 128) ↔ (_ ∧ v < _ + 64) ∨ (_ ∧ v < _ + 64); omega
theorem RB_3_disj (c : Dev nD) : Disjoint (RB 2 (px 16 c)) (RB 2 c) := by
  refine two_disj ?_; have := bB_lin2 c; show _ + 64 ≤ _ ∨ _ + 64 ≤ _; omega

theorem RB_2 (c : Dev nD) : RB 2 c = RB 0 c ∪ (RB 0 (px 1 c) ∪ (RB 0 (px 4 c) ∪ RB 0 (px 5 c))) := by
  ext i; simp only [Finset.mem_union, mem_rows]
  have hi : (i 0).val < 512 := (i 0).isLt
  have h := bB_quad c ⟨(i 0).val / 16, by omega⟩
  have m0 := bB_mod c; have m1 := (bB_mod (px 1 c)).2.1; have m2 := (bB_mod (px 4 c)).2.1; have m3 := (bB_mod (px 5 c)).2.1
  show (_ ∧ _ < _ + 64) ↔ (_ ∧ _ < _ + 16) ∨ (_ ∧ _ < _ + 16) ∨ (_ ∧ _ < _ + 16) ∨ (_ ∧ _ < _ + 16)
  dsimp only at h
  generalize (i 0).val = v at *
  omega
theorem RB_2_disj (c : Dev nD) : Disjoint (RB 0 c) (RB 0 (px 1 c) ∪ (RB 0 (px 4 c) ∪ RB 0 (px 5 c)))
    ∧ Disjoint (RB 0 (px 1 c)) (RB 0 (px 4 c) ∪ RB 0 (px 5 c)) ∧ Disjoint (RB 0 (px 4 c)) (RB 0 (px 5 c)) := by
  have m0 := bB_mod c; have m1 := (bB_mod (px 1 c)).2.1; have m2 := (bB_mod (px 4 c)).2.1; have m3 := (bB_mod (px 5 c)).2.1
  simp only [Finset.disjoint_union_right]
  refine ⟨⟨two_disj ?_, two_disj ?_, two_disj ?_⟩, ⟨two_disj ?_, two_disj ?_⟩, two_disj ?_⟩ <;> (show _ + 16 ≤ _ ∨ _ + 16 ≤ _; omega)

theorem sB_val : ∀ c, (sB c = 0 ∧ kB c = 128) ∨ (sB c = 128 ∧ kB c = 0) := by decide +kernel
theorem LB_univ (c : Dev nD) : (Finset.univ : Finset S256x1024.Idx) = LA (sB c) ∪ LA (kB c) := by
  rw [← rows_univ]; refine two_split fun v hv => ?_
  have := sB_val c; omega
theorem LB_disj (c : Dev nD) : Disjoint (LA (sB c)) (LA (kB c)) := by
  refine two_disj ?_; have := sB_val c; omega

theorem px_px (k : ℕ) (hk : k < 32) (c : Dev nD) : px k (px k c) = c := by
  have h : ∀ k : Fin 32, ∀ c, px k.val (px k.val c) = c := by decide +kernel
  exact h ⟨k, hk⟩ c

/-! ### The devices the signals and transfers name -/

theorem dv1 (c : Dev nD) : (⟨k0_dev1 c, k0_dev1_lt c⟩ : Dev nD) = px 1 c := by revert c; decide +kernel
theorem dv2 (c : Dev nD) : (⟨k0_dev2 c, k0_dev2_lt c⟩ : Dev nD) = px 3 c := by revert c; decide +kernel
theorem dv3 (c : Dev nD) : (⟨k0_dev3 c, k0_dev3_lt c⟩ : Dev nD) = px 4 c := by revert c; decide +kernel
theorem dv4 (c : Dev nD) : (⟨k0_dev4 c, k0_dev4_lt c⟩ : Dev nD) = px 8 c := by revert c; decide +kernel
theorem dv5 (c : Dev nD) : (⟨k0_dev5 c, k0_dev5_lt c⟩ : Dev nD) = px 16 c := by revert c; decide +kernel
theorem dv6 (c : Dev nD) : (⟨k0_dev6 c, k0_dev6_lt c⟩ : Dev nD) = px 24 c := by revert c; decide +kernel
theorem dv7 (c : Dev nD) : (⟨k0_dev7 c, k0_dev7_lt c⟩ : Dev nD) = px 5 c := by revert c; decide +kernel
theorem dv8 (c : Dev nD) : (⟨k0_dev8 c, k0_dev8_lt c⟩ : Dev nD) = px 1 c := by revert c; decide +kernel
theorem dv9 (c : Dev nD) : (⟨k0_dev9 c, k0_dev9_lt c⟩ : Dev nD) = px 1 c := by revert c; decide +kernel
theorem dv10 (c : Dev nD) : (⟨k0_dev10 c, k0_dev10_lt c⟩ : Dev nD) = px 3 c := by revert c; decide +kernel
theorem dv11 (c : Dev nD) : (⟨k0_dev11 c, k0_dev11_lt c⟩ : Dev nD) = px 3 c := by revert c; decide +kernel
theorem dv12 (c : Dev nD) : (⟨k0_dev12 c, k0_dev12_lt c⟩ : Dev nD) = px 3 c := by revert c; decide +kernel
theorem dv13 (c : Dev nD) : (⟨k0_dev13 c, k0_dev13_lt c⟩ : Dev nD) = px 8 c := by revert c; decide +kernel
theorem dv14 (c : Dev nD) : (⟨k0_dev14 c, k0_dev14_lt c⟩ : Dev nD) = px 4 c := by revert c; decide +kernel
theorem dv15 (c : Dev nD) : (⟨k0_dev15 c, k0_dev15_lt c⟩ : Dev nD) = px 16 c := by revert c; decide +kernel
theorem dv16 (c : Dev nD) : (⟨k0_dev16 c, k0_dev16_lt c⟩ : Dev nD) = px 8 c := by revert c; decide +kernel
theorem dv17 (c : Dev nD) : (⟨k0_dev17 c, k0_dev17_lt c⟩ : Dev nD) = px 16 c := by revert c; decide +kernel
theorem dv18 (c : Dev nD) : (⟨k0_dev18 c, k0_dev18_lt c⟩ : Dev nD) = px 24 c := by revert c; decide +kernel
theorem dv19 (c : Dev nD) : (⟨k0_dev19 c, k0_dev19_lt c⟩ : Dev nD) = px 1 c := by revert c; decide +kernel
theorem dv20 (c : Dev nD) : (⟨k0_dev20 c, k0_dev20_lt c⟩ : Dev nD) = px 4 c := by revert c; decide +kernel
theorem dv21 (c : Dev nD) : (⟨k0_dev21 c, k0_dev21_lt c⟩ : Dev nD) = px 5 c := by revert c; decide +kernel
theorem dv22 (c : Dev nD) : (⟨k0_dev22 c, k0_dev22_lt c⟩ : Dev nD) = px 8 c := by revert c; decide +kernel
theorem dv23 (c : Dev nD) : (⟨k0_dev23 c, k0_dev23_lt c⟩ : Dev nD) = px 16 c := by revert c; decide +kernel
theorem dv24 (c : Dev nD) : (⟨k0_dev24 c, k0_dev24_lt c⟩ : Dev nD) = px 24 c := by revert c; decide +kernel
theorem dv25 (c : Dev nD) : (⟨k0_dev25 c, k0_dev25_lt c⟩ : Dev nD) = px 1 c := by revert c; decide +kernel
theorem dv26 (c : Dev nD) : (⟨k0_dev26 c, k0_dev26_lt c⟩ : Dev nD) = px 4 c := by revert c; decide +kernel
theorem dv27 (c : Dev nD) : (⟨k0_dev27 c, k0_dev27_lt c⟩ : Dev nD) = px 5 c := by revert c; decide +kernel
theorem dv28 (c : Dev nD) : (⟨k0_dev28 c, k0_dev28_lt c⟩ : Dev nD) = px 4 c := by revert c; decide +kernel
theorem dv29 (c : Dev nD) : (⟨k0_dev29 c, k0_dev29_lt c⟩ : Dev nD) = px 16 c := by revert c; decide +kernel
theorem dv30 (c : Dev nD) : (⟨k0_dev30 c, k0_dev30_lt c⟩ : Dev nD) = px 3 c := by revert c; decide +kernel
theorem dv31 (c : Dev nD) : (⟨k0_dev31 c, k0_dev31_lt c⟩ : Dev nD) = px 8 c := by revert c; decide +kernel
theorem dv32 (c : Dev nD) : (⟨k0_dev32 c, k0_dev32_lt c⟩ : Dev nD) = px 1 c := by revert c; decide +kernel
theorem dv33 (c : Dev nD) : (⟨k0_dev33 c, k0_dev33_lt c⟩ : Dev nD) = px 3 c := by revert c; decide +kernel

/-! ### The rows they read and write -/

theorem of1 : ∀ c, k0_off1 c = ![sA (px 1 c), 0] := by decide +kernel
theorem of2 : ∀ c, k0_off2 c = ![bA 3 (px 3 (px 1 c)), 0] := by decide +kernel
theorem of3 : ∀ c, k0_off3 c = ![kA (px 1 c), 0] := by decide +kernel
theorem of4 : ∀ c, k0_off4 c = ![bA 3 (px 1 c), 0] := by decide +kernel
theorem of5 : ∀ c, k0_off5 c = ![sB (px 3 c), 0] := by decide +kernel
theorem of6 : ∀ c, k0_off6 c = ![bB 3 (px 8 (px 3 c)), 0] := by decide +kernel
theorem of7 : ∀ c, k0_off7 c = ![kB (px 3 c), 0] := by decide +kernel
theorem of8 : ∀ c, k0_off8 c = ![bB 3 (px 3 c), 0] := by decide +kernel
theorem of9 : ∀ c, k0_off9 c = ![bA 3 (px 3 c), 0] := by decide +kernel
theorem of10 : ∀ c, k0_off10 c = ![sA c, 0] := by decide +kernel
theorem of11 : ∀ c, k0_off11 c = ![bA 3 (px 3 c), 0] := by decide +kernel
theorem of12 : ∀ c, k0_off12 c = ![bB 3 (px 8 c), 0] := by decide +kernel
theorem of13 : ∀ c, k0_off13 c = ![sB c, 0] := by decide +kernel
theorem of14 : ∀ c, k0_off14 c = ![bB 3 (px 8 c), 0] := by decide +kernel
theorem of15 : ∀ c, k0_off15 c = ![bA 3 c, 0] := by decide +kernel
theorem of16 : ∀ c, k0_off16 c = ![kA c, 0] := by decide +kernel
theorem of17 : ∀ c, k0_off17 c = ![bB 3 c, 0] := by decide +kernel
theorem of18 : ∀ c, k0_off18 c = ![kB c, 0] := by decide +kernel
theorem of19 : ∀ c, k0_off19 c = ![bA 3 c, 0] := by decide +kernel
theorem of20 : ∀ c, k0_off20 c = ![bA 2 (px 4 c), 0] := by decide +kernel
theorem of21 : ∀ c, k0_off21 c = ![bB 3 c, 0] := by decide +kernel
theorem of22 : ∀ c, k0_off22 c = ![bB 2 (px 16 c), 0] := by decide +kernel
theorem of23 : ∀ c, k0_off23 c = ![bA 2 c, 0] := by decide +kernel
theorem of24 : ∀ c, k0_off24 c = ![bB 2 c, 0] := by decide +kernel
theorem of25 : ∀ c, k0_off25 c = ![bA 0 (px 8 c), 0] := by decide +kernel
theorem of26 : ∀ c, k0_off26 c = ![bA 0 (px 16 c), 0] := by decide +kernel
theorem of27 : ∀ c, k0_off27 c = ![bA 0 (px 24 c), 0] := by decide +kernel
theorem of28 : ∀ c, k0_off28 c = ![bB 0 (px 1 c), 0] := by decide +kernel
theorem of29 : ∀ c, k0_off29 c = ![bB 0 (px 4 c), 0] := by decide +kernel
theorem of30 : ∀ c, k0_off30 c = ![bB 0 (px 5 c), 0] := by decide +kernel
theorem of31 : ∀ c, k0_off31 c = ![bA 0 c, 0] := by decide +kernel
theorem of32 : ∀ c, k0_off32 c = ![bB 0 c, 0] := by decide +kernel
theorem of33 : ∀ c, k0_off33 c = ![bA 0 c, 0] := by decide +kernel
theorem of34 : ∀ c, k0_off34 c = ![bB 0 c, 0] := by decide +kernel
theorem of35 : ∀ c, k0_off35 c = ![bA 2 c, 0] := by decide +kernel
theorem of36 : ∀ c, k0_off36 c = ![bB 2 c, 0] := by decide +kernel
theorem of37 : ∀ c, k0_off37 c = ![bA 3 c, 0] := by decide +kernel
theorem of38 : ∀ c, k0_off38 c = ![bB 3 c, 0] := by decide +kernel
theorem of39 : ∀ c, k0_off39 c = ![bA 4 c, 0] := by decide +kernel
theorem of40 : ∀ c, k0_off40 c = ![bB 4 c, 0] := by decide +kernel

end Cert.KernelIdealProof
-- ==== Proof.KernelIdealProtocol.lean ====
/-
The protocol of the kernel's transfers: the cells (the barrier and one send and one receive semaphore per transfer),
what each carries, what a device owes while it runs, and the rules for a signal, a transfer and a wait.

Two streams, A for the keys and B for the values, reduce a 512-row matrix over the thirty-two devices: three exchanges of
halves, one exchange among four devices, then the same exchanges back, carrying the sums. The matrices `KA c`, `KB c` are
what device `c` contributes.
-/
module

public import proofs.«01_k».proof.Proof.KernelIdealMesh

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The duties of a cell: the barrier's seven signals. A transfer's cells have the first alone. -/
abbrev DD : Type := Fin 7
abbrev UB : Type := URounds (GSem nD τ sig) DD
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## Contents -/

/-- The entry of row `r` and column `k`, of a 512-row matrix. -/
def rowAt (r : ℕ) (k : Fin 1024) : S512x1024.Idx := fun a => match a with
  | ⟨0, _⟩ => ⟨r % 512, Nat.mod_lt _ (by decide)⟩
  | ⟨1, _⟩ => k

/-- The rows of a matrix from row `lo` on. -/
def shf {R : ℕ} (lo : ℕ) (f : S512x1024.Idx → Elt F .bf16) : (⟨2, ![R, 1024]⟩ : Shape).Idx → Elt F .bf16 := fun i => f (rowAt (lo + (i 0).val) (i 1))

abbrev Mat (F : FTy → Type) : Type := S512x1024.Idx → Elt F .bf16

/-- The sum of two matrices, entry by entry. -/
def madd (f g : Mat F) : Mat F := fun i => FloatOps.addf (f i) (g i)

variable (KA KB : Dev nD → Mat F)

/-- What a device holds after one, two and three exchanges, and after the exchange among four. -/
def tA1 (c : Dev nD) : Mat F := madd (KA c) (KA (px 1 c))
def tA2 (c : Dev nD) : Mat F := madd (tA1 KA c) (tA1 KA (px 3 c))
def tA3 (c : Dev nD) : Mat F := madd (tA2 KA c) (tA2 KA (px 4 c))
def tA4 (c : Dev nD) : Mat F := madd (madd (madd (tA3 KA c) (tA3 KA (px 8 c))) (tA3 KA (px 16 c))) (tA3 KA (px 24 c))
def tB1 (c : Dev nD) : Mat F := madd (KB c) (KB (px 3 c))
def tB2 (c : Dev nD) : Mat F := madd (tB1 KB c) (tB1 KB (px 8 c))
def tB3 (c : Dev nD) : Mat F := madd (tB2 KB c) (tB2 KB (px 16 c))
def tB4 (c : Dev nD) : Mat F := madd (madd (madd (tB3 KB c) (tB3 KB (px 1 c))) (tB3 KB (px 4 c))) (tB3 KB (px 5 c))

/-- The device that sums chunk `v`. -/
def ownA (v : ℕ) : Dev nD := ((List.finRange 32).find? fun c : Fin 32 => pA c == v).getD 0
def ownB (v : ℕ) : Dev nD := ((List.finRange 32).find? fun c : Fin 32 => pB c == v).getD 0

/-- The summed matrices: each chunk as its device summed it. -/
def gA : Mat F := fun i => tA4 KA (ownA ((i 0).val / 16)) i
def gB : Mat F := fun i => tB4 KB (ownB ((i 0).val / 16)) i

theorem ownA_eq : ∀ c, ownA (bA 0 c / 16) = c := by decide +kernel
theorem ownB_eq : ∀ c, ownB (bB 0 c / 16) = c := by decide +kernel
theorem gA_own (c : Dev nD) : ∀ i ∈ RA 0 c, tA4 KA c i = gA KA i := by
  intro i hi; rw [mem_rows] at hi
  have h : (i 0).val / 16 = bA 0 c / 16 := by have := (bA_mod c).2.1; have : (i 0).val < bA 0 c + 16 := hi.2; omega
  unfold gA; rw [h, ownA_eq]
theorem gB_own (c : Dev nD) : ∀ i ∈ RB 0 c, tB4 KB c i = gB KB i := by
  intro i hi; rw [mem_rows] at hi
  have h : (i 0).val / 16 = bB 0 c / 16 := by have := (bB_mod c).2.1; have : (i 0).val < bB 0 c + 16 := hi.2; omega
  unfold gB; rw [h, ownB_eq]

/-- Device `n` holds the elements `I` of buffer `b`, a share `q` of each, with content `f`; holds them all with some content. -/
abbrev pt {F : FTy → Type} (b : Ref sig .tc) (n : Dev nD) (I : Finset (Idx ((n : Thread nD τ).loc b))) (q : PosShare TreeShare) (f : Buf (Elt F) ((n : Thread nD τ).loc b)) :
    sProp (MT nD τ sig Unit (Elt F) ℕ UU ℕ) := ((n : Thread nD τ).loc b ↦[I]{q} f)
abbrev own {F : FTy → Type} (b : Ref sig .tc) (n : Dev nD) (I : Finset (Idx ((n : Thread nD τ).loc b))) : sProp (MT nD τ sig Unit (Elt F) ℕ UU ℕ) :=
  iprop(∃ f, pt (F := F) b n I fullShare f)

/-! ## The cells -/

abbrev barS : Sem sig := (SemArray.scalar (sig.barrier 0 rfl) : Sems sig S_).sem

/-- How a transfer's target differs from its issuer. -/
def pm (t : ℕ) : ℕ := match t with
  | 0 => 1
  | 1 => 1
  | 2 => 3
  | 3 => 3
  | 4 => 3
  | 5 => 8
  | 6 => 4
  | 7 => 16
  | 8 => 8
  | 9 => 16
  | 10 => 24
  | 11 => 1
  | 12 => 4
  | 13 => 5
  | 14 => 8
  | 15 => 16
  | 16 => 24
  | 17 => 1
  | 18 => 4
  | 19 => 5
  | 20 => 4
  | 21 => 16
  | 22 => 3
  | 23 => 8
  | 24 => 1
  | 25 => 3
  | _ => 0

/-- The number of a transfer's send semaphore, of its receive semaphore, and what each counts. -/
def sI (t : ℕ) : ℕ := match t with
  | 0 => 57
  | 1 => 58
  | 2 => 59
  | 3 => 60
  | 4 => 10
  | 5 => 13
  | 6 => 11
  | 7 => 14
  | 8 => 33
  | 9 => 34
  | 10 => 35
  | 11 => 36
  | 12 => 37
  | 13 => 38
  | 14 => 45
  | 15 => 46
  | 16 => 47
  | 17 => 48
  | 18 => 49
  | 19 => 50
  | 20 => 23
  | 21 => 26
  | 22 => 22
  | 23 => 25
  | 24 => 21
  | 25 => 24
  | _ => 0

/-- The number of a transfer's receive semaphore. -/
def rI (t : ℕ) : ℕ := match t with
  | 0 => 61
  | 1 => 62
  | 2 => 63
  | 3 => 64
  | 4 => 16
  | 5 => 19
  | 6 => 17
  | 7 => 20
  | 8 => 39
  | 9 => 40
  | 10 => 41
  | 11 => 42
  | 12 => 43
  | 13 => 44
  | 14 => 51
  | 15 => 52
  | 16 => 53
  | 17 => 54
  | 18 => 55
  | 19 => 56
  | 20 => 29
  | 21 => 32
  | 22 => 28
  | 23 => 31
  | 24 => 27
  | 25 => 30
  | _ => 0

/-- What a transfer's semaphores count. -/
def NN (t : ℕ) : ℕ := match t with
  | 0 => 8192
  | 1 => 8192
  | 2 => 8192
  | 3 => 8192
  | 4 => 8192
  | 5 => 8192
  | 6 => 4096
  | 7 => 4096
  | 8 => 1024
  | 9 => 1024
  | 10 => 1024
  | 11 => 1024
  | 12 => 1024
  | 13 => 1024
  | 14 => 1024
  | 15 => 1024
  | 16 => 1024
  | 17 => 1024
  | 18 => 1024
  | 19 => 1024
  | 20 => 4096
  | 21 => 4096
  | 22 => 8192
  | 23 => 8192
  | 24 => 16384
  | 25 => 16384
  | _ => 1

/-- How a barrier signal's target differs from its issuer. -/
def bm (t : ℕ) : ℕ := match t with
  | 0 => 1
  | 1 => 3
  | 2 => 4
  | 3 => 8
  | 4 => 16
  | 5 => 24
  | 6 => 5
  | _ => 0

/-- The cells' semaphores: the barrier, the send semaphores, the receive semaphores. -/
def csem (k : Fin 53) : SemLoc sig := match k.val with
  | 0 => .reg barS
  | 1 => .dma ⟨57, by decide⟩
  | 2 => .dma ⟨58, by decide⟩
  | 3 => .dma ⟨59, by decide⟩
  | 4 => .dma ⟨60, by decide⟩
  | 5 => .dma ⟨10, by decide⟩
  | 6 => .dma ⟨13, by decide⟩
  | 7 => .dma ⟨11, by decide⟩
  | 8 => .dma ⟨14, by decide⟩
  | 9 => .dma ⟨33, by decide⟩
  | 10 => .dma ⟨34, by decide⟩
  | 11 => .dma ⟨35, by decide⟩
  | 12 => .dma ⟨36, by decide⟩
  | 13 => .dma ⟨37, by decide⟩
  | 14 => .dma ⟨38, by decide⟩
  | 15 => .dma ⟨45, by decide⟩
  | 16 => .dma ⟨46, by decide⟩
  | 17 => .dma ⟨47, by decide⟩
  | 18 => .dma ⟨48, by decide⟩
  | 19 => .dma ⟨49, by decide⟩
  | 20 => .dma ⟨50, by decide⟩
  | 21 => .dma ⟨23, by decide⟩
  | 22 => .dma ⟨26, by decide⟩
  | 23 => .dma ⟨22, by decide⟩
  | 24 => .dma ⟨25, by decide⟩
  | 25 => .dma ⟨21, by decide⟩
  | 26 => .dma ⟨24, by decide⟩
  | 27 => .dma ⟨61, by decide⟩
  | 28 => .dma ⟨62, by decide⟩
  | 29 => .dma ⟨63, by decide⟩
  | 30 => .dma ⟨64, by decide⟩
  | 31 => .dma ⟨16, by decide⟩
  | 32 => .dma ⟨19, by decide⟩
  | 33 => .dma ⟨17, by decide⟩
  | 34 => .dma ⟨20, by decide⟩
  | 35 => .dma ⟨39, by decide⟩
  | 36 => .dma ⟨40, by decide⟩
  | 37 => .dma ⟨41, by decide⟩
  | 38 => .dma ⟨42, by decide⟩
  | 39 => .dma ⟨43, by decide⟩
  | 40 => .dma ⟨44, by decide⟩
  | 41 => .dma ⟨51, by decide⟩
  | 42 => .dma ⟨52, by decide⟩
  | 43 => .dma ⟨53, by decide⟩
  | 44 => .dma ⟨54, by decide⟩
  | 45 => .dma ⟨55, by decide⟩
  | 46 => .dma ⟨56, by decide⟩
  | 47 => .dma ⟨29, by decide⟩
  | 48 => .dma ⟨32, by decide⟩
  | 49 => .dma ⟨28, by decide⟩
  | 50 => .dma ⟨31, by decide⟩
  | 51 => .dma ⟨27, by decide⟩
  | 52 => .dma ⟨30, by decide⟩
  | _ => .reg barS

/-- Which DMA semaphore belongs to which cell. -/
def decN (i : ℕ) : Option (Fin 53) := match i with
  | 10 => some 5
  | 11 => some 7
  | 13 => some 6
  | 14 => some 8
  | 16 => some 31
  | 17 => some 33
  | 19 => some 32
  | 20 => some 34
  | 21 => some 25
  | 22 => some 23
  | 23 => some 21
  | 24 => some 26
  | 25 => some 24
  | 26 => some 22
  | 27 => some 51
  | 28 => some 49
  | 29 => some 47
  | 30 => some 52
  | 31 => some 50
  | 32 => some 48
  | 33 => some 9
  | 34 => some 10
  | 35 => some 11
  | 36 => some 12
  | 37 => some 13
  | 38 => some 14
  | 39 => some 35
  | 40 => some 36
  | 41 => some 37
  | 42 => some 38
  | 43 => some 39
  | 44 => some 40
  | 45 => some 15
  | 46 => some 16
  | 47 => some 17
  | 48 => some 18
  | 49 => some 19
  | 50 => some 20
  | 51 => some 41
  | 52 => some 42
  | 53 => some 43
  | 54 => some 44
  | 55 => some 45
  | 56 => some 46
  | 57 => some 1
  | 58 => some 2
  | 59 => some 3
  | 60 => some 4
  | 61 => some 27
  | 62 => some 28
  | 63 => some 29
  | 64 => some 30
  | _ => none
def dec (s : SemLoc sig) : Option (Fin 53) := match s with
  | .reg _ => some 0
  | .dma i => decN i.val
theorem dec_csem : ∀ k, dec (csem k) = some k := by decide +kernel

def sK (t : Fin 26) : Fin 53 := ⟨1 + t.val, by omega⟩
def rK (t : Fin 26) : Fin 53 := ⟨27 + t.val, by omega⟩
abbrev cell (k : Fin 53) (c : Dev nD) : GSem nD τ sig := ((c : Thread nD τ), csem k)
abbrev peer (t : Fin 26) (c : Dev nD) : Dev nD := px (pm t.val) c
theorem NN_pos : ∀ t : Fin 26, 0 < NN t.val := by decide

/-! ## What the cells carry -/

/-- What the barrier's signal `d` hands device `c`: landing buffers of the device it comes from. -/

def barPay (c : Dev nD) (d : ℕ) : sProp 𝕄 := match d with
  | 0 => iprop(own (F := F) cc0_scratch2 (px 1 c) (Finset.univ) ∗ own (F := F) cc0_scratch11 (px 1 c) (Finset.univ))
  | 1 => iprop(own (F := F) cc0_scratch3 (px 3 c) (Finset.univ) ∗ own (F := F) cc0_scratch5 (px 3 c) (Finset.univ))
  | 2 => iprop(own (F := F) cc0_scratch4 (px 4 c) (Finset.univ) ∗ own (F := F) cc0_scratch12 (px 4 c) (Finset.univ))
  | 3 => iprop(own (F := F) cc0_scratch8 (px 8 c) (Finset.univ) ∗ own (F := F) cc0_scratch6 (px 8 c) (Finset.univ))
  | 4 => iprop(own (F := F) cc0_scratch9 (px 16 c) (Finset.univ) ∗ own (F := F) cc0_scratch7 (px 16 c) (Finset.univ))
  | 5 => iprop(own (F := F) cc0_scratch10 (px 24 c) (Finset.univ))
  | 6 => iprop(own (F := F) cc0_scratch13 (px 5 c) (Finset.univ))
  | _ => iprop(emp)

/-- What comes back to the issuer `c` of transfer `t`: a share of a source it goes on reading; the other sources go to the receiver. -/
def sendPay (t : ℕ) (c : Dev nD) : sProp 𝕄 := match t with
  | 0 => iprop(emp)
  | 1 => iprop(emp)
  | 2 => iprop(emp)
  | 3 => iprop(emp)
  | 4 => iprop(emp)
  | 5 => iprop(emp)
  | 6 => iprop(emp)
  | 7 => iprop(emp)
  | 8 => iprop(emp)
  | 9 => iprop(emp)
  | 10 => iprop(emp)
  | 11 => iprop(emp)
  | 12 => iprop(emp)
  | 13 => iprop(emp)
  | 14 => pt cc0_scratch0 (c) (RA 0 c) fullShare.left (gA KA)
  | 15 => pt cc0_scratch0 (c) (RA 0 c) fullShare.right.left (gA KA)
  | 16 => pt cc0_scratch0 (c) (RA 0 c) fullShare.right.right (gA KA)
  | 17 => pt cc0_scratch1 (c) (RB 0 c) fullShare.left (gB KB)
  | 18 => pt cc0_scratch1 (c) (RB 0 c) fullShare.right.left (gB KB)
  | 19 => pt cc0_scratch1 (c) (RB 0 c) fullShare.right.right (gB KB)
  | 20 => pt cc0_scratch0 (c) (RA 2 c) fullShare (gA KA)
  | 21 => pt cc0_scratch1 (c) (RB 2 c) fullShare (gB KB)
  | 22 => pt cc0_scratch0 (c) (RA 3 c) fullShare (gA KA)
  | 23 => pt cc0_scratch1 (c) (RB 3 c) fullShare (gB KB)
  | 24 => pt cc0_scratch0 (c) (RA 4 c) fullShare.right (gA KA)
  | 25 => pt cc0_scratch1 (c) (RB 4 c) fullShare.right (gB KB)
  | _ => iprop(emp)

/-- What arrives at `n` with transfer `t`. -/
def recvPay (t : ℕ) (n : Dev nD) : sProp 𝕄 := match t with
  | 0 => iprop(pt cc0_scratch2 (n) (LA (sA n)) fullShare (shf (bA 4 n) (KA (px 1 n))) ∗ own (F := F) cc0_scratch0 (px 1 n) (RA 3 (px 3 n)))
  | 1 => iprop(pt cc0_scratch2 (n) (LA (kA n)) fullShare (shf (bA 4 n) (KA (px 1 n))) ∗ own (F := F) cc0_scratch0 (px 1 n) (RA 3 n))
  | 2 => iprop(pt cc0_scratch5 (n) (LA (sB n)) fullShare (shf (bB 4 n) (KB (px 3 n))) ∗ own (F := F) cc0_scratch1 (px 3 n) (RB 3 (px 8 n)))
  | 3 => iprop(pt cc0_scratch5 (n) (LA (kB n)) fullShare (shf (bB 4 n) (KB (px 3 n))) ∗ own (F := F) cc0_scratch1 (px 3 n) (RB 3 n))
  | 4 => iprop(pt cc0_scratch3 (n) (Finset.univ) fullShare (shf (bA 3 n) (tA1 KA (px 3 n))) ∗ own (F := F) cc0_scratch0 (px 3 n) (RA 3 n))
  | 5 => iprop(pt cc0_scratch6 (n) (Finset.univ) fullShare (shf (bB 3 n) (tB1 KB (px 8 n))) ∗ own (F := F) cc0_scratch1 (px 8 n) (RB 3 n))
  | 6 => iprop(pt cc0_scratch4 (n) (Finset.univ) fullShare (shf (bA 2 n) (tA2 KA (px 4 n))) ∗ own (F := F) cc0_scratch0 (px 4 n) (RA 2 n))
  | 7 => iprop(pt cc0_scratch7 (n) (Finset.univ) fullShare (shf (bB 2 n) (tB2 KB (px 16 n))) ∗ own (F := F) cc0_scratch1 (px 16 n) (RB 2 n))
  | 8 => iprop(pt cc0_scratch8 (n) (Finset.univ) fullShare (shf (bA 0 n) (tA3 KA (px 8 n))) ∗ own (F := F) cc0_scratch0 (px 8 n) (RA 0 n))
  | 9 => iprop(pt cc0_scratch9 (n) (Finset.univ) fullShare (shf (bA 0 n) (tA3 KA (px 16 n))) ∗ own (F := F) cc0_scratch0 (px 16 n) (RA 0 n))
  | 10 => iprop(pt cc0_scratch10 (n) (Finset.univ) fullShare (shf (bA 0 n) (tA3 KA (px 24 n))) ∗ own (F := F) cc0_scratch0 (px 24 n) (RA 0 n))
  | 11 => iprop(pt cc0_scratch11 (n) (Finset.univ) fullShare (shf (bB 0 n) (tB3 KB (px 1 n))) ∗ own (F := F) cc0_scratch1 (px 1 n) (RB 0 n))
  | 12 => iprop(pt cc0_scratch12 (n) (Finset.univ) fullShare (shf (bB 0 n) (tB3 KB (px 4 n))) ∗ own (F := F) cc0_scratch1 (px 4 n) (RB 0 n))
  | 13 => iprop(pt cc0_scratch13 (n) (Finset.univ) fullShare (shf (bB 0 n) (tB3 KB (px 5 n))) ∗ own (F := F) cc0_scratch1 (px 5 n) (RB 0 n))
  | 14 => pt cc0_scratch0 (n) (RA 0 (px 8 n)) fullShare (gA KA)
  | 15 => pt cc0_scratch0 (n) (RA 0 (px 16 n)) fullShare (gA KA)
  | 16 => pt cc0_scratch0 (n) (RA 0 (px 24 n)) fullShare (gA KA)
  | 17 => pt cc0_scratch1 (n) (RB 0 (px 1 n)) fullShare (gB KB)
  | 18 => pt cc0_scratch1 (n) (RB 0 (px 4 n)) fullShare (gB KB)
  | 19 => pt cc0_scratch1 (n) (RB 0 (px 5 n)) fullShare (gB KB)
  | 20 => pt cc0_scratch0 (n) (RA 2 (px 4 n)) fullShare (gA KA)
  | 21 => pt cc0_scratch1 (n) (RB 2 (px 16 n)) fullShare (gB KB)
  | 22 => pt cc0_scratch0 (n) (RA 3 (px 3 n)) fullShare (gA KA)
  | 23 => pt cc0_scratch1 (n) (RB 3 (px 8 n)) fullShare (gB KB)
  | 24 => pt cc0_scratch0 (n) (RA 4 (px 1 n)) fullShare (gA KA)
  | 25 => pt cc0_scratch1 (n) (RB 4 (px 3 n)) fullShare (gB KB)
  | _ => iprop(emp)

omit [FloatOps F] in
instance barPay_storable (c : Dev nD) (d : ℕ) : BI.Storable (upEmb : UEmb _ 𝕄) (barPay (F := F) c d) := by
  unfold barPay; split <;> infer_instance
instance sendPay_storable (t : ℕ) (c : Dev nD) : BI.Storable (upEmb : UEmb _ 𝕄) (sendPay KA KB t c) := by
  unfold sendPay; split <;> infer_instance
instance recvPay_storable (t : ℕ) (n : Dev nD) : BI.Storable (upEmb : UEmb _ 𝕄) (recvPay KA KB t n) := by
  unfold recvPay; split <;> infer_instance

/-- What a cell's duty carries. -/
def cellPay (k : Option (Fin 53)) (c : Dev nD) (d : DD) : sProp 𝕄 := match k with
  | none => iprop(emp)
  | some k => if k.val = 0 then barPay c d.val else if k.val < 27 then sendPay KA KB (k.val - 1) c else recvPay KA KB (k.val - 27) c
instance cellPay_storable (k : Option (Fin 53)) (c : Dev nD) (d : DD) : BI.Storable (upEmb : UEmb _ 𝕄) (cellPay KA KB k c d) := by
  unfold cellPay; (repeat' split) <;> infer_instance

/-- What a cell's duty counts. -/
def cellAmt (k : Option (Fin 53)) : ℕ := match k with
  | none => 1
  | some k => if k.val = 0 then 1 else if k.val < 27 then NN (k.val - 1) else NN (k.val - 27)
theorem cellAmt_pos : ∀ k, 0 < cellAmt k := by decide
def cellDuties (k : Option (Fin 53)) : Finset DD := match k with
  | none => ∅
  | some k => if k.val = 0 then Finset.univ else {0}

/-- One round, round 0. -/
def Rd : Rounds.Schedule (GSem nD τ sig) DD 𝕄 where
  duties g r := if r = 0 ∧ g.1.2 = .tc then cellDuties (dec g.2) else ∅
  unitless _ := False
  amount g _ _ := cellAmt (dec g.2)
  payload g _ d := cellPay KA KB (dec g.2) g.1.1 d
  amount_pos g _ _ _ := cellAmt_pos _

instance Rd_payload_storable (g : GSem nD τ sig) (r : ℕ) (d : DD) : BI.Storable (upEmb : UEmb _ 𝕄) ((Rd KA KB).payload g r d) := by
  show BI.Storable upEmb (cellPay KA KB (dec g.2) g.1.1 d); infer_instance

section Sched
variable (c : Dev nD) (t : Fin 26)

theorem duties_cell (k : Fin 53) : (Rd KA KB).duties (cell k c) 0 = cellDuties (some k) := by
  dsimp only [Rd]; rw [if_pos ⟨rfl, rfl⟩, dec_csem]
theorem duties_bar : (Rd KA KB).duties (cell 0 c) 0 = Finset.univ := by rw [duties_cell]; rfl
theorem duties_send : (Rd KA KB).duties (cell (sK t) c) 0 = {0} := by
  rw [duties_cell]; unfold cellDuties; exact if_neg (by show 1 + t.val ≠ 0; omega)
theorem duties_recv : (Rd KA KB).duties (cell (rK t) c) 0 = {0} := by
  rw [duties_cell]; unfold cellDuties; exact if_neg (by show 27 + t.val ≠ 0; omega)
theorem duties_later (g : GSem nD τ sig) : ∀ r, 1 ≤ r → (Rd KA KB).duties g r = ∅ :=
  fun r hr => by dsimp only [Rd]; rw [if_neg fun h => by omega]

theorem amount_cell (k : Fin 53) (d : DD) : (Rd KA KB).amount (cell k c) 0 d = cellAmt (some k) := by
  dsimp only [Rd]; rw [dec_csem]
theorem amount_bar (d : DD) : (Rd KA KB).amount (cell 0 c) 0 d = 1 := by rw [amount_cell]; rfl
theorem amount_send (d : DD) : (Rd KA KB).amount (cell (sK t) c) 0 d = NN t.val := by
  rw [amount_cell]; unfold cellAmt; dsimp only
  rw [if_neg (by show 1 + t.val ≠ 0; omega), if_pos (by show 1 + t.val < 27; omega)]
  show NN (1 + t.val - 1) = _; rw [Nat.add_sub_cancel_left]
theorem amount_recv (d : DD) : (Rd KA KB).amount (cell (rK t) c) 0 d = NN t.val := by
  rw [amount_cell]; unfold cellAmt; dsimp only
  rw [if_neg (by show 27 + t.val ≠ 0; omega), if_neg (by show ¬ 27 + t.val < 27; omega)]
  show NN (27 + t.val - 27) = _; rw [Nat.add_sub_cancel_left]

theorem expect_bar : (Rd KA KB).expect (cell 0 c) 0 = 7 := by
  unfold Schedule.expect Schedule.amountOf
  rw [duties_bar, Finset.sum_congr rfl fun d _ => amount_bar KA KB c d, Finset.sum_const, Finset.card_univ, Fintype.card_fin, smul_eq_mul]
theorem expect_send : (Rd KA KB).expect (cell (sK t) c) 0 = NN t.val := by
  unfold Schedule.expect Schedule.amountOf; rw [duties_send, Finset.sum_singleton, amount_send]
theorem expect_recv : (Rd KA KB).expect (cell (rK t) c) 0 = NN t.val := by
  unfold Schedule.expect Schedule.amountOf; rw [duties_recv, Finset.sum_singleton, amount_recv]

theorem payload_bar (d : DD) : (Rd KA KB).payload (cell 0 c) 0 d = barPay c d.val := by
  dsimp only [Rd]; rw [dec_csem]; rfl
theorem payload_send (d : DD) : (Rd KA KB).payload (cell (sK t) c) 0 d = sendPay KA KB t.val c := by
  dsimp only [Rd]; rw [dec_csem]; unfold cellPay; dsimp only
  rw [if_neg (by show 1 + t.val ≠ 0; omega), if_pos (by show 1 + t.val < 27; omega)]
  show sendPay KA KB (1 + t.val - 1) c = _; rw [Nat.add_sub_cancel_left]
theorem payload_recv (d : DD) : (Rd KA KB).payload (cell (rK t) c) 0 d = recvPay KA KB t.val c := by
  dsimp only [Rd]; rw [dec_csem]; unfold cellPay; dsimp only
  rw [if_neg (by show 27 + t.val ≠ 0; omega), if_neg (by show ¬ 27 + t.val < 27; omega)]
  show recvPay KA KB (27 + t.val - 27) c = _; rw [Nat.add_sub_cancel_left]

theorem rest_bar : bigSep ((Rd KA KB).duties (cell 0 c) 0 \ ∅) (fun d => (Rd KA KB).payload (cell 0 c) 0 d)
    = iprop(barPay (F := F) c 0 ∗ barPay (F := F) c 1 ∗ barPay (F := F) c 2 ∗ barPay (F := F) c 3 ∗ barPay (F := F) c 4 ∗ barPay (F := F) c 5 ∗ barPay (F := F) c 6) := by
  rw [Finset.sdiff_empty, duties_bar, bigSep_univ_eq_bigSepL [0, 1, 2, 3, 4, 5, 6] (by decide) (by decide)]
  simp only [bigSepL_cons_cons, bigSepL_singleton, payload_bar]
  rfl
theorem rest_send : bigSep ((Rd KA KB).duties (cell (sK t) c) 0 \ ∅) (fun d => (Rd KA KB).payload (cell (sK t) c) 0 d) = sendPay KA KB t.val c := by
  rw [Finset.sdiff_empty, duties_send, bigSep_singleton, payload_send]
theorem rest_recv : bigSep ((Rd KA KB).duties (cell (rK t) c) 0 \ ∅) (fun d => (Rd KA KB).payload (cell (rK t) c) 0 d) = recvPay KA KB t.val c := by
  rw [Finset.sdiff_empty, duties_recv, bigSep_singleton, payload_recv]

end Sched

/-! ## What a device owes, and the levels -/

/-- What device `c` owes with `k` transfers to go: the receive credit of each. -/
def Ork (k : ℕ) (c : Dev nD) : CellTallies nD τ sig Unit := match k with
  | 0 => 0
  | k + 1 => Ork k c + tallyAt (cell (rK ⟨25 - k, by omega⟩) (peer ⟨25 - k, by omega⟩ c)) () (NN (25 - k))
/-- With all the transfers and `j` barrier signals to go. -/
def Obk (j : ℕ) (c : Dev nD) : CellTallies nD τ sig Unit := match j with
  | 0 => Ork 26 c
  | j + 1 => Obk j c + tallyAt (cell 0 (px (bm (6 - j)) c)) () 1

theorem Ork_peel (t : Fin 26) (c : Dev nD) :
    Ork (26 - t.val) c = Ork (25 - t.val) c + tallyAt (cell (rK t) (peer t c)) () (NN t.val) := by
  obtain ⟨t, ht⟩ := t
  obtain ⟨k, hk⟩ : ∃ k, k = 25 - t := ⟨_, rfl⟩
  have h1 : 26 - t = k + 1 := by omega
  have h2 : t = 25 - k := by omega
  subst h2
  show Ork (26 - (25 - k)) c = Ork (25 - (25 - k)) c + _
  rw [h1, ← hk]; rfl

theorem Ork_pos {k : ℕ} {c : Dev nD} {g : GSem nD τ sig} {u : Unit} (h : 0 < Ork k c g u) :
    ∃ t : Fin 26, 26 - k ≤ t.val ∧ g = cell (rK t) (peer t c) := by
  induction k with
  | zero => exact absurd h (Nat.lt_irrefl 0)
  | succ k ih =>
    unfold Ork at h
    rw [Pi.add_apply, Finsupp.add_apply, tallyAt_apply] at h
    by_cases hg : g = cell (rK ⟨25 - k, by omega⟩) (peer ⟨25 - k, by omega⟩ c) ∧ u = ()
    · exact ⟨⟨25 - k, by omega⟩, by show 26 - (k + 1) ≤ 25 - k; omega, hg.1⟩
    · rw [if_neg hg] at h
      obtain ⟨t, ht, e⟩ := ih h
      exact ⟨t, by omega, e⟩

theorem Obk_pos {j : ℕ} {c : Dev nD} {g : GSem nD τ sig} {u : Unit} (h : 0 < Obk j c g u) :
    (∃ t : Fin 26, g = cell (rK t) (peer t c)) ∨ ∃ e : Dev nD, g = cell 0 e := by
  induction j with
  | zero => obtain ⟨t, -, e⟩ := Ork_pos h; exact .inl ⟨t, e⟩
  | succ j ih =>
    unfold Obk at h
    rw [Pi.add_apply, Finsupp.add_apply, tallyAt_apply] at h
    by_cases hg : g = cell 0 (px (bm (6 - j)) c) ∧ u = ()
    · exact .inr ⟨_, hg.1⟩
    · rw [if_neg hg] at h; exact ih h

def L (g : GSem nD τ sig) : Finset Unit := if g.1.2 = .tc then {()} else ∅
/-- Receive cells in issue order above the barrier, everything else below. -/
def lvK (k : Option (Fin 53)) : ℕ := match k with
  | none => 0
  | some k => if k.val = 0 then 1 else if k.val < 27 then 0 else 2 + (k.val - 27)
def lv (g : GSem nD τ sig) (_ : Unit) : ℕ := lvK (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_recv (t : Fin 26) (c : Dev nD) : lv (cell (rK t) c) () = 2 + t.val := by
  unfold lv; rw [dec_csem]; unfold lvK; dsimp only
  rw [if_neg (by show 27 + t.val ≠ 0; omega), if_neg (by show ¬ 27 + t.val < 27; omega)]
  show 2 + (27 + t.val - 27) = _; omega
theorem lv_send (t : Fin 26) (c : Dev nD) : lv (cell (sK t) c) () = 0 := by
  unfold lv; rw [dec_csem]; unfold lvK; dsimp only
  rw [if_neg (by show 1 + t.val ≠ 0; omega), if_pos (by show 1 + t.val < 27; omega)]
theorem lv_bar (c : Dev nD) : lv (cell 0 c) () = 1 := by unfold lv; rw [dec_csem]; rfl

omit [FloatOps F] in
theorem mayWait_of (c : Dev nD) (sm : SemLoc sig) (O : CellTallies nD τ sig Unit) (b : ℕ) (hs : lv ((c : Thread nD τ), sm) () ≤ b)
    (hO : ∀ g u, 0 < O g u → g.1.2 = .tc ∧ b < lv g u) : (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

omit [FloatOps F] in
/-- With `k` transfers to go a device may wait on anything below the next receive cell's level. -/
theorem mayWait_k (c : Dev nD) (sm : SemLoc sig) (k : ℕ) (b : ℕ) (hs : lv ((c : Thread nD τ), sm) () ≤ b) (hb : b < 2 + (26 - k)) :
    (levAts L lv : sProp 𝕄) ⊢ MayWait (c : Thread nD τ) sm () (Ork k c) :=
  mayWait_of c sm _ b hs fun g u hg => by
    obtain ⟨t, ht, rfl⟩ := Ork_pos hg
    exact ⟨rfl, by cases u; rw [lv_recv]; omega⟩

omit [FloatOps F] in
theorem mayWait_stage (c : Dev nD) (sm : SemLoc sig) (hs : lv ((c : Thread nD τ), sm) () = 0) :
    (levAts L lv : sProp 𝕄) ⊢ MayWait (c : Thread nD τ) sm () (Obk 7 c) :=
  mayWait_of c sm _ 0 (le_of_eq hs) fun g u hg => by
    cases u
    rcases Obk_pos hg with ⟨t, rfl⟩ | ⟨e, rfl⟩
    · exact ⟨rfl, by rw [lv_recv]; omega⟩
    · exact ⟨rfl, by rw [lv_bar]; decide⟩

/-! ## The rules -/

/-- What every device may consult: the cells' records and the levels. -/
def env (K : Dev nD × Fin 53 → ℕ) : sProp 𝕄 :=
  iprop((bigSep Finset.univ fun ck : Dev nD × Fin 53 => cellInv ER (Rd KA KB) (K ck) (cell ck.2 ck.1))
    ∗ (bigSep Finset.univ fun ck : Dev nD × Fin 53 => reached ER (cell ck.2 ck.1) 0) ∗ levAts L lv)

instance env_persistent (K : Dev nD × Fin 53 → ℕ) : BI.Persistent (env KA KB K) := by unfold env; infer_instance

variable (K : Dev nD × Fin 53 → ℕ)

theorem env_inv (c : Dev nD) (k : Fin 53) : env KA KB K ⊢ cellInv ER (Rd KA KB) (K (c, k)) (cell k c) := by
  have h : (bigSep Finset.univ fun ck : Dev nD × Fin 53 => (cellInv ER (Rd KA KB) (K ck) (cell ck.2 ck.1) : sProp 𝕄))
      ⊢ cellInv ER (Rd KA KB) (K (c, k)) (cell k c) := bigSep_elim (Finset.mem_univ (c, k))
  unfold env; iintro ⟨H, -, -⟩
  iapply h; iexact H
omit [FloatOps F] in
theorem reached_elim (c : Dev nD) (k : Fin 53) :
    (bigSep Finset.univ fun ck : Dev nD × Fin 53 => (reached ER (cell ck.2 ck.1) 0 : sProp 𝕄)) ⊢ reached ER (cell k c) 0 := bigSep_elim (Finset.mem_univ (c, k))
theorem env_reached (c : Dev nD) (k : Fin 53) : env KA KB K ⊢ reached ER (cell k c) 0 := by
  unfold env; iintro ⟨-, H, -⟩
  iapply (reached_elim c k); iexact H
theorem env_lev : env KA KB K ⊢ levAts L lv := by
  unfold env; iintro ⟨-, -, H⟩; iexact H

omit [FloatOps F] in
variable (F) in
/-- What a device owes with `k` transfers to go. -/
def owing (k : ℕ) (c : Dev nD) : sProp 𝕄 := iprop(∃ W, owes (c : Thread nD τ) (Ork k c) W)

variable (F) in
/-- A transfer before its issue: the two tokens it pays with, the positions of the issuer's two cells, the credit on the receive cell. -/
def pre (t : Fin 26) (c : Dev nD) : sProp 𝕄 :=
  iprop(dutyTok ER (cell (sK t) c) 0 0 ∗ dutyTok ER (cell (rK t) (peer t c)) 0 0 ∗ atPos ER (cell (sK t) c) 0 ∅ 0 ∗ atPos ER (cell (rK t) c) 0 ∅ 0
    ∗ cred (tallyAt (cell (rK t) c) () (NN t.val)))
variable (F) in
/-- In flight; after the wait on its send cell; after the wait on the receive cell. -/
def mid (t : Fin 26) (c : Dev nD) : sProp 𝕄 :=
  iprop(cred (tallyAt (cell (sK t) c) () (NN t.val)) ∗ atPos ER (cell (sK t) c) 0 ∅ 0 ∗ atPos ER (cell (rK t) c) 0 ∅ 0
    ∗ cred (tallyAt (cell (rK t) c) () (NN t.val)))
variable (F) in
def snt (t : Fin 26) (c : Dev nD) : sProp 𝕄 :=
  iprop(semVal (cell (sK t) c) 0 ∗ atPos ER (cell (rK t) c) 0 ∅ 0 ∗ cred (tallyAt (cell (rK t) c) () (NN t.val)))
variable (F) in
def fin (t : Fin 26) (c : Dev nD) : sProp 𝕄 := iprop(semVal (cell (sK t) c) 0 ∗ semVal (cell (rK t) c) 0)

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The transfer `t`, its source going to the receiver. -/
theorem send_land (t : Fin 26) (c n : Dev nD) (hn : n = peer t c) {s : Shape} {src dst : Memref sig .tc .vmem s .bf16} {hsc : dst.view.ref.isScScratch = false}
    {sS sR : SemLoc sig} (hsS : sS = csem (sK t)) (hsR : sR = csem (rK t))
    {hsrc : src.view.WordExact} {hdst : dst.view.WordExact} {hsem : DmaTarget.Typed .vmem sR (.remote (Dev.tc n : Thread nD τ) dst sS hsc)}
    {α : Type} {k : PUnit → Prog (TpuEff nD τ sig (Elt F) Λ₀ .tc) α} {Q : α → sProp 𝕄}
    (P D : sProp 𝕄) (fs : Buf (Elt F) (src.view.loc (c : Thread nD τ)))
    (hN : dst.view.amount sR = NN t.val)
    (hP : P ⊢ (src.view.loc (c : Thread nD τ) ↦[src.view.set]{fullShare} fs))
    (hD : D ⊢ iprop(∃ fd, dst.view.loc (n : Thread nD τ) ↦[dst.view.set]{fullShare} fd))
    (hs : sendPay KA KB t.val c = iprop(emp))
    (hr : ∀ fd, iprop((dst.view.loc (n : Thread nD τ) ↦[dst.view.set]{fullShare} dst.view.write (Elt F) fd (src.view.read (Elt F) fs) Finset.univ)
        ∗ (src.view.loc (c : Thread nD τ) ↦[src.view.set]{fullShare} fs)) ⊢ recvPay KA KB t.val n) :
    iprop(env KA KB K ∗ owing F (26 - t.val) c ∗ P ∗ D ∗ pre F t c)
      ⊢ iprop(((owing F (25 - t.val) c ∗ mid F t c) -∗ WP c (k ⟨⟩) Q)
          -∗ WP c (.op (.enqueueDma src (.remote (Dev.tc n : Thread nD τ) dst sS hsc) sR hsrc hdst hsem) k) Q) := by
  subst hn hsS hsR
  unfold owing pre
  iintro ⟨#He, ⟨%W, HO⟩, HP, HD, HtS, HtR, HaS, HaR, HcR⟩ Hk
  ihave HP := hP $$ HP
  ihave ⟨%fd, HD⟩ := hD $$ HD
  iapply (Rounds.wp_send_landing_pointsTo 𝒱₀ ER (Rd KA KB) (c : Thread nD τ) none (κ₁ := K (c, sK t)) (κ₂ := K (peer t c, rK t))
    (r₁ := 0) (r₂ := 0) (d₁ := 0) (d₂ := 0) (fd := fd) (fs := fs) (q := fullShare)
    (by rw [duties_send]; exact Finset.mem_singleton_self _) (by rw [duties_recv]; exact Finset.mem_singleton_self _)
    () () (NN t.val) hN (amount_send KA KB c t 0) (amount_recv KA KB (peer t c) t 0) (Ork (25 - t.val) c) (Ork_peel t c) (W := W)
    (by rw [payload_send, hs])
    (by rw [payload_recv]; exact hr fd)) $$ [HP HD HO HtS HtR]
  · isplitr; · iapply (env_inv KA KB K c (sK t)); iexact He
    isplitr; · iapply (env_inv KA KB K (peer t c) (rK t)); iexact He
    isplitl [HP]; · iexact HP
    isplitl [HD]; · iexact HD
    isplitl [HO]; · iexact HO
    isplitl [HtS]; · iexact HtS
    isplitr; · iapply (env_reached KA KB K c (sK t)); iexact He
    isplitl [HtR]; · iexact HtR
    iapply (env_reached KA KB K (peer t c) (rK t)); iexact He
  iintro ⟨HcS, HO⟩
  iapply Hk
  unfold mid
  isplitl [HO]; · iexists W; iexact HO
  isplitl [HcS]; · iexact HcS
  isplitl [HaS]; · iexact HaS
  isplitl [HaR] <;> iassumption

/-- The transfer `t`, its source share coming back with the send semaphore. -/
theorem send_back (t : Fin 26) (c n : Dev nD) (hn : n = peer t c) {s : Shape} {src dst : Memref sig .tc .vmem s .bf16} {hsc : dst.view.ref.isScScratch = false}
    {sS sR : SemLoc sig} (hsS : sS = csem (sK t)) (hsR : sR = csem (rK t))
    {hsrc : src.view.WordExact} {hdst : dst.view.WordExact} {hsem : DmaTarget.Typed .vmem sR (.remote (Dev.tc n : Thread nD τ) dst sS hsc)}
    {α : Type} {k : PUnit → Prog (TpuEff nD τ sig (Elt F) Λ₀ .tc) α} {Q : α → sProp 𝕄}
    (q : PosShare TreeShare) (P D : sProp 𝕄) (fs : Buf (Elt F) (src.view.loc (c : Thread nD τ)))
    (hN : dst.view.amount sR = NN t.val)
    (hP : P ⊢ (src.view.loc (c : Thread nD τ) ↦[src.view.set]{q} fs))
    (hD : D ⊢ iprop(∃ fd, dst.view.loc (n : Thread nD τ) ↦[dst.view.set]{fullShare} fd))
    (hs : (src.view.loc (c : Thread nD τ) ↦[src.view.set]{q} fs) ⊢ sendPay KA KB t.val c)
    (hr : ∀ fd, (dst.view.loc (n : Thread nD τ) ↦[dst.view.set]{fullShare} dst.view.write (Elt F) fd (src.view.read (Elt F) fs) Finset.univ) ⊢ recvPay KA KB t.val n) :
    iprop(env KA KB K ∗ owing F (26 - t.val) c ∗ P ∗ D ∗ pre F t c)
      ⊢ iprop(((owing F (25 - t.val) c ∗ mid F t c) -∗ WP c (k ⟨⟩) Q)
          -∗ WP c (.op (.enqueueDma src (.remote (Dev.tc n : Thread nD τ) dst sS hsc) sR hsrc hdst hsem) k) Q) := by
  subst hn hsS hsR
  unfold owing pre
  iintro ⟨#He, ⟨%W, HO⟩, HP, HD, HtS, HtR, HaS, HaR, HcR⟩ Hk
  ihave HP := hP $$ HP
  ihave ⟨%fd, HD⟩ := hD $$ HD
  iapply (Rounds.wp_send_pointsTo 𝒱₀ ER (Rd KA KB) (c : Thread nD τ) none (κ₁ := K (c, sK t)) (κ₂ := K (peer t c, rK t))
    (r₁ := 0) (r₂ := 0) (d₁ := 0) (d₂ := 0) (fd := fd) (fs := fs) (q := q)
    (by rw [duties_send]; exact Finset.mem_singleton_self _) (by rw [duties_recv]; exact Finset.mem_singleton_self _)
    () () (NN t.val) hN (amount_send KA KB c t 0) (amount_recv KA KB (peer t c) t 0) (Ork (25 - t.val) c) (Ork_peel t c) (W := W)
    (by rw [payload_send]; exact hs)
    (by rw [payload_recv]; exact hr fd)) $$ [HP HD HO HtS HtR]
  · isplitr; · iapply (env_inv KA KB K c (sK t)); iexact He
    isplitr; · iapply (env_inv KA KB K (peer t c) (rK t)); iexact He
    isplitl [HP]; · iexact HP
    isplitl [HD]; · iexact HD
    isplitl [HO]; · iexact HO
    isplitl [HtS]; · iexact HtS
    isplitr; · iapply (env_reached KA KB K c (sK t)); iexact He
    isplitl [HtR]; · iexact HtR
    iapply (env_reached KA KB K (peer t c) (rK t)); iexact He
  iintro ⟨HcS, HO⟩
  iapply Hk
  unfold mid
  isplitl [HO]; · iexists W; iexact HO
  isplitl [HcS]; · iexact HcS
  isplitl [HaS]; · iexact HaS
  isplitl [HaR] <;> iassumption

/-- The wait on transfer `t`'s send cell, with `k'` transfers to go. -/
theorem wait_send (t : Fin 26) (c : Dev nD) (k' : ℕ) {sp sp' : Space} {s s' : Shape} {e e' : EltTy} {sem : DmaSem sig} (hsem : SemLoc.dma sem = csem (sK t))
    {src : Memref sig .tc sp' s' e'} {dst : Memref sig .tc sp s e} {hsrc : src.view.WordExact} {hdst : dst.view.WordExact}
    (hN : dst.view.dmaCredit = NN t.val) {α : Type} {k : PUnit → Prog (TpuEff nD τ sig (Elt F) Λ₀ .tc) α} {Q : α → sProp 𝕄} :
    iprop(env KA KB K ∗ owing F k' c ∗ mid F t c)
      ⊢ iprop(((owing F k' c ∗ snt F t c ∗ sendPay KA KB t.val c) -∗ WP c (k ⟨⟩) Q)
          -∗ WP c (.op (.waitDma2 sem src dst hsrc hdst) k) Q) := by
  unfold owing mid
  iintro ⟨#He, ⟨%W, HO⟩, HcS, HaS, HaR, HcR⟩ Hk
  iapply (Rounds.wp_wait_rest_token 𝒱₀ ER (Rd KA KB) (c : Thread nD τ) none (κ := K (c, sK t)) (sm := csem (sK t)) (k' := NN t.val)
      (fun Kt => by rw [← hsem, ← hN]; exact wpE_waitDma2_eq 𝒱₀ (c : Thread nD τ) none Set.univ Kt) (Set.mem_univ _) () (O := Ork k' c) (W := W) (R := 0) (m := 0) (T := ∅)
      (by rw [Nat.zero_add, expect_send])) $$ [HcS HO HaS]
  · isplitr; · iapply (env_inv KA KB K c (sK t)); iexact He
    isplitl [HcS]; · iexact HcS
    isplitl [HO]; · iexact HO
    isplitr
    · iapply (mayWait_k c (csem (sK t)) k' 0 (le_of_eq (lv_send t c)) (by omega))
      iapply (env_lev KA KB K); iexact He
    iexact HaS
  iintro ⟨HO, HaS, -, Hpay⟩
  ihave Hpay := (Entails.of_eq (rest_send KA KB c t)) $$ Hpay
  imod (Rounds.cell_close ER (Rd KA KB) (Set.mem_univ (K (c, sK t))) (fun h => h) (R := 0 + 1) (duties_later KA KB (cell (sK t) c))) $$ [HaS] with HzS
  · isplitr; · iapply (env_inv KA KB K c (sK t)); iexact He
    iexact HaS
  iapply Hk
  unfold snt
  isplitl [HO]; · iexists _; iexact HO
  isplitl [HzS HaR HcR]
  · isplitl [HzS]; · iexact HzS
    isplitl [HaR] <;> iassumption
  iexact Hpay

/-- The wait on transfer `t`'s receive cell, once it has been issued. -/
theorem wait_recv (t : Fin 26) (c : Dev nD) (k' : ℕ) (hk' : k' ≤ 25 - t.val) {sp sp' : Space} {s s' : Shape} {e e' : EltTy} {sem : DmaSem sig} (hsem : SemLoc.dma sem = csem (rK t))
    {src : Memref sig .tc sp' s' e'} {dst : Memref sig .tc sp s e} {hsrc : src.view.WordExact} {hdst : dst.view.WordExact}
    (hN : dst.view.dmaCredit = NN t.val) {α : Type} {k : PUnit → Prog (TpuEff nD τ sig (Elt F) Λ₀ .tc) α} {Q : α → sProp 𝕄} :
    iprop(env KA KB K ∗ owing F k' c ∗ snt F t c)
      ⊢ iprop(((owing F k' c ∗ fin F t c ∗ recvPay KA KB t.val c) -∗ WP c (k ⟨⟩) Q)
          -∗ WP c (.op (.waitDma2 sem src dst hsrc hdst) k) Q) := by
  unfold owing snt
  iintro ⟨#He, ⟨%W, HO⟩, HzS, HaR, HcR⟩ Hk
  iapply (Rounds.wp_wait_rest_token 𝒱₀ ER (Rd KA KB) (c : Thread nD τ) none (κ := K (c, rK t)) (sm := csem (rK t)) (k' := NN t.val)
      (fun Kt => by rw [← hsem, ← hN]; exact wpE_waitDma2_eq 𝒱₀ (c : Thread nD τ) none Set.univ Kt) (Set.mem_univ _) () (O := Ork k' c) (W := W) (R := 0) (m := 0) (T := ∅)
      (by rw [Nat.zero_add, expect_recv])) $$ [HcR HO HaR]
  · isplitr; · iapply (env_inv KA KB K c (rK t)); iexact He
    isplitl [HcR]; · iexact HcR
    isplitl [HO]; · iexact HO
    isplitr
    · iapply (mayWait_k c (csem (rK t)) k' (2 + t.val) (le_of_eq (lv_recv t c)) (by omega))
      iapply (env_lev KA KB K); iexact He
    iexact HaR
  iintro ⟨HO, HaR, -, Hpay⟩
  ihave Hpay := (Entails.of_eq (rest_recv KA KB c t)) $$ Hpay
  imod (Rounds.cell_close ER (Rd KA KB) (Set.mem_univ (K (c, rK t))) (fun h => h) (R := 0 + 1) (duties_later KA KB (cell (rK t) c))) $$ [HaR] with HzR
  · isplitr; · iapply (env_inv KA KB K c (rK t)); iexact He
    iexact HaR
  iapply Hk
  unfold fin
  isplitl [HO]; · iexists _; iexact HO
  isplitl [HzS HzR]
  · isplitl [HzS] <;> iassumption
  iexact Hpay

/-- A barrier signal, with `j` more to go after it. -/
theorem signal (j : ℕ) (d : DD) (hd : d.val = 6 - j) (c n : Dev nD) (hn : n = px (bm (6 - j)) c) (W : Waits sig Unit)
    {α : Type} {k : PUnit → Prog (TpuEff nD τ sig (Elt F) Λ₀ .tc) α} {Q : α → sProp 𝕄} :
    iprop(env KA KB K ∗ owes (c : Thread nD τ) (Obk (j + 1) c) W ∗ dutyTok ER (cell 0 n) 0 d ∗ barPay n d.val)
      ⊢ iprop((owes (c : Thread nD τ) (Obk j c) W -∗ WP c (k ⟨⟩) Q)
          -∗ WP c (.op (.semSignal (n : Thread nD τ) barS 1) k) Q) := by
  subst hn
  iintro ⟨#He, HO, Ht, Hp⟩ Hk
  iapply (Rounds.wp_signal 𝒱₀ ER (Rd KA KB) (c : Thread nD τ) none (dst := (px (bm (6 - j)) c : Thread nD τ)) (sem := barS) (κ := K (px (bm (6 - j)) c, 0)) (r := 0)
      (d := d) (k' := 1) (by rw [show (((px (bm (6 - j)) c : Dev nD) : Thread nD τ), SemLoc.reg barS) = cell 0 (px (bm (6 - j)) c) from rfl, duties_bar]; exact Finset.mem_univ _)
      (amount_bar KA KB (px (bm (6 - j)) c) d) () (Obk j c) rfl)
    $$ [HO Ht Hp]
  · isplitr; · iapply (env_inv KA KB K (px (bm (6 - j)) c) 0); iexact He
    isplitl [HO]; · iexact HO
    isplitl [Ht]; · iexact Ht
    isplitl [Hp]
    · have e : barPay (F := F) (px (bm (6 - j)) c) d.val = (Rd KA KB).payload (((px (bm (6 - j)) c : Dev nD) : Thread nD τ), SemLoc.reg barS) 0 d := (payload_bar KA KB (px (bm (6 - j)) c) d).symm
      iapply (Entails.of_eq e); iexact Hp
    iapply (env_reached KA KB K (px (bm (6 - j)) c) 0); iexact He
  iexact Hk

/-- The wait for the seven signals. -/
theorem wait_bar (c : Dev nD) (W : Waits sig Unit) {α : Type} {k : PUnit → Prog (TpuEff nD τ sig (Elt F) Λ₀ .tc) α} {Q : α → sProp 𝕄} :
    iprop(env KA KB K ∗ owes (c : Thread nD τ) (Obk 0 c) W ∗ cred (tallyAt (cell 0 c) () 7) ∗ atPos ER (cell 0 c) 0 ∅ 0)
      ⊢ iprop(((owing F 26 c ∗ semVal (cell 0 c) 0
            ∗ barPay (F := F) c 0 ∗ barPay (F := F) c 1 ∗ barPay (F := F) c 2 ∗ barPay (F := F) c 3 ∗ barPay (F := F) c 4 ∗ barPay (F := F) c 5 ∗ barPay (F := F) c 6) -∗ WP c (k ⟨⟩) Q)
          -∗ WP c (.op (.semWait barS 7) k) Q) := by
  iintro ⟨#He, HO, Hc, Ha⟩ Hk
  iapply (Rounds.wp_wait_rest_token 𝒱₀ ER (Rd KA KB) (c : Thread nD τ) none (κ := K (c, 0)) (sm := csem 0) (k' := 7)
      (wpE_semWait_eq 𝒱₀ (c : Thread nD τ) none Set.univ) (Set.mem_univ _) () (O := Ork 26 c) (W := W) (R := 0) (m := 0) (T := ∅)
      (by rw [expect_bar])) $$ [Hc HO Ha]
  · isplitr; · iapply (env_inv KA KB K c 0); iexact He
    isplitl [Hc]; · iexact Hc
    isplitl [HO]; · iexact HO
    isplitr
    · iapply (mayWait_k c (csem 0) 26 1 (le_of_eq (lv_bar c)) (by omega))
      iapply (env_lev KA KB K); iexact He
    iexact Ha
  iintro ⟨HO, Ha, -, Hpay⟩
  ihave Hpay := (Entails.of_eq (rest_bar KA KB c)) $$ Hpay
  imod (Rounds.cell_close ER (Rd KA KB) (Set.mem_univ (K (c, 0))) (fun h => h) (R := 0 + 1) (duties_later KA KB (cell 0 c))) $$ [Ha] with Hz
  · isplitr; · iapply (env_inv KA KB K c 0); iexact He
    iexact Ha
  iapply Hk
  unfold owing
  isplitl [HO]; · iexists _; iexact HO
  isplitl [Hz]; · iexact Hz
  iexact Hpay

end Cert.KernelIdealProof
-- ==== Proof.KernelIdealRules.lean ====
/-
Reading and writing the buffers, one lemma for each buffer and size of block: a read of a block of rows returns those rows of
what the buffer holds, and a write of a block of rows leaves them there.
-/
module

public import proofs.«01_k».proof.Proof.KernelIdealProtocol

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (KA KB : Dev nD → Mat F) (K : Dev nD × Fin 53 → ℕ)

/-- The entry of a matrix at a row and a column, -/
def matAt {R C : ℕ} [NeZero R] [NeZero C] (r k : ℕ) : (⟨2, ![R, C]⟩ : Shape).Idx := fun a => match a with
  | ⟨0, _⟩ => Fin.ofNat R r
  | ⟨1, _⟩ => Fin.ofNat C k

/-- and the block of a matrix from a row and a column on. -/
def sub {R C m n : ℕ} [NeZero R] [NeZero C] {β : Type} (a b : ℕ) (f : (⟨2, ![R, C]⟩ : Shape).Idx → β) : (⟨2, ![m, n]⟩ : Shape).Idx → β :=
  fun y => f (matAt (a + (y 0).val) (b + (y 1).val))

theorem emb_rect {R C m n a b : ℕ} [NeZero R] [NeZero C] (inb : ∀ x, (![a, b] : Fin 2 → ℕ) x + (⟨2, ![m, n]⟩ : Shape).size x ≤ (⟨2, ![R, C]⟩ : Shape).size x)
    (y : (⟨2, ![m, n]⟩ : Shape).Idx) : (Rect.unit (s := ⟨2, ![R, C]⟩) ![a, b] (⟨2, ![m, n]⟩ : Shape).size inb).emb y = matAt (a + (y 0).val) (b + (y 1).val) := by
  funext x
  apply Fin.ext
  match x with
  | ⟨0, _⟩ =>
    have h : a + m ≤ R := inb 0
    have hy : (y 0).val < m := (y 0).isLt
    show a + 1 * (y 0).val = (a + (y 0).val) % R
    rw [Nat.mod_eq_of_lt (by omega), Nat.one_mul]
  | ⟨1, _⟩ =>
    have h : b + n ≤ C := inb 1
    have hy : (y 1).val < n := (y 1).isLt
    show b + 1 * (y 1).val = (b + (y 1).val) % C
    rw [Nat.mod_eq_of_lt (by omega), Nat.one_mul]

theorem rect_sub {R C m n a b : ℕ} (inb : ∀ x, (![a, b] : Fin 2 → ℕ) x + (⟨2, ![m, n]⟩ : Shape).size x ≤ (⟨2, ![R, C]⟩ : Shape).size x) :
    (Rect.unit (s := ⟨2, ![R, C]⟩) ![a, b] (⟨2, ![m, n]⟩ : Shape).size inb).set ⊆ rows a m := by
  intro i hi
  exact mem_rows.mpr (Rect.mem_set_unit.mp hi 0)

theorem rect_mem {R C m n a b : ℕ} (inb : ∀ x, (![a, b] : Fin 2 → ℕ) x + (⟨2, ![m, n]⟩ : Shape).size x ≤ (⟨2, ![R, C]⟩ : Shape).size x)
    {i : (⟨2, ![R, C]⟩ : Shape).Idx} : i ∈ (Rect.unit (s := ⟨2, ![R, C]⟩) ![a, b] (⟨2, ![m, n]⟩ : Shape).size inb).set
      ↔ (a ≤ (i 0).val ∧ (i 0).val < a + m) ∧ (b ≤ (i 1).val ∧ (i 1).val < b + n) := by
  rw [Rect.mem_set_unit]
  exact ⟨fun h => ⟨h 0, h 1⟩, fun h x => match x with | ⟨0, _⟩ => h.1 | ⟨1, _⟩ => h.2⟩

theorem hz2 : (![0, 0] : Fin 2 → ℕ) = fun _ => 0 := funext fun a => by fin_cases a <;> rfl
theorem hz3 : (![0, 0, 0] : Fin 3 → ℕ) = fun _ => 0 := funext fun a => by fin_cases a <;> rfl

theorem rowAt_matAt (r : ℕ) (k : Fin 1024) : rowAt r k = matAt r k.val := by
  funext a
  match a with
  | ⟨0, _⟩ => rfl
  | ⟨1, _⟩ => exact Fin.ext (Nat.mod_eq_of_lt k.isLt).symm

theorem sub_zero {m : ℕ} (lo : ℕ) (f : Mat F) : (sub lo 0 f : (⟨2, ![m, 1024]⟩ : Shape).Idx → Elt F .bf16) = shf lo f := by
  funext y; exact (congrArg f ((rowAt_matAt _ _).trans (congrArg (matAt _) (Nat.zero_add _).symm))).symm

/-- Rows of rows. -/
theorem sub_shf {m R : ℕ} [NeZero R] (l b : ℕ) (h : l + m ≤ R) (f : Mat F) :
    (sub l 0 (shf b f : (⟨2, ![R, 1024]⟩ : Shape).Idx → Elt F .bf16) : (⟨2, ![m, 1024]⟩ : Shape).Idx → Elt F .bf16) = shf (b + l) f := by
  funext y
  have hy : (y 0).val < m := (y 0).isLt
  show f (rowAt (b + (l + (y 0).val) % R) ⟨(0 + (y 1).val) % 1024, _⟩) = f (rowAt (b + l + (y 0).val) (y 1))
  congr 1
  rw [Nat.mod_eq_of_lt (by omega), Nat.add_assoc]
  congr 1
  exact Fin.ext (by show (0 + (y 1).val) % 1024 = _; rw [Nat.zero_add]; exact Nat.mod_eq_of_lt (y 1).isLt)

/-! ## Any buffer -/

/-- A buffer of the vector memory, by its index. -/
abbrev vbuf (i : Fin (sig.nNear .tc .vmem)) (hi : sig.names .tc .vmem i = true) : Ref sig .tc := ⟨.vmem, i, hi⟩

section Whole
variable {i : Fin (sig.nNear .tc .vmem)} {hi : sig.names .tc .vmem i = true} (c : Dev nD) {off : Fin (vbuf i hi).ty.shape.rank → ℕ} (h0 : off = fun _ => 0) {α : Type}
include h0

/-- A read of a whole buffer gives its contents, -/
theorem read_whole {q : PosShare TreeShare} {f : (vbuf i hi).ty.Contents (Elt F)} {inb} {hl} {k : (vbuf i hi).ty.Contents (Elt F) → Prog (TpuEff nD τ sig (Elt F) Λ₀ .tc) α} {Q : α → sProp 𝕄} :
    pt (vbuf i hi) c Finset.univ q f ⊢ iprop((pt (vbuf i hi) c Finset.univ q f -∗ WP c (k f) Q)
      -∗ WP c (.op (.load (Memref.whole (vbuf i hi)) (Rect.unit (s := (vbuf i hi).ty.shape) off (vbuf i hi).ty.shape.size inb).toLoadRect hl) k) Q) := by
  have h := wp_load (defs := defs₀ (F := F)) (Γ := .empty) 𝒱₀ (c : Thread nD τ) none Set.univ (m := Memref.whole (vbuf i hi)) (r := (Rect.unit (s := (vbuf i hi).ty.shape) off (vbuf i hi).ty.shape.size inb).toLoadRect) (hl := hl)
    (S := Finset.univ) (q := q) (f := f) (k := k) (Q := Q) (Finset.subset_univ _)
  rwa [Memref.readAt_unit_zero (Elt F) (vbuf i hi) h0 inb f] at h

/-- and a write of a whole buffer leaves what was written. -/
theorem write_whole {f w : (vbuf i hi).ty.Contents (Elt F)} {inb} {hx} {hm} {k : PUnit → Prog (TpuEff nD τ sig (Elt F) Λ₀ .tc) α} {Q : α → sProp 𝕄} :
    pt (vbuf i hi) c Finset.univ fullShare f ⊢ iprop((pt (vbuf i hi) c Finset.univ fullShare w -∗ WP c (k ⟨⟩) Q)
      -∗ WP c (.op (.store (Memref.whole (vbuf i hi)) (Rect.unit (s := (vbuf i hi).ty.shape) off (vbuf i hi).ty.shape.size inb) w Finset.univ hx hm) k) Q) := by
  have h := wp_store (defs := defs₀ (F := F)) (Γ := .empty) 𝒱₀ (c : Thread nD τ) none Set.univ (m := Memref.whole (vbuf i hi)) (r := Rect.unit (s := (vbuf i hi).ty.shape) off (vbuf i hi).ty.shape.size inb) (w := w) (Mk := Finset.univ) (hx := hx) (hm := hm)
    (S := Finset.univ) (f := f) (k := k) (Q := Q) (Finset.subset_univ _)
  rwa [Memref.write_access_unit_zero_univ (Elt F) (vbuf i hi) h0 inb f w] at h
end Whole

section Block
variable {i : Fin (sig.nNear .tc .vmem)} {hi : sig.names .tc .vmem i = true} (c : Dev nD) (r : Rect (vbuf i hi).ty.shape) {I : Finset (vbuf i hi).ty.shape.Idx} {α : Type}

theorem read_block {q : PosShare TreeShare} {f : (vbuf i hi).ty.Contents (Elt F)} {v : r.shape.Idx → Elt F (vbuf i hi).ty.elt} (hI : r.set ⊆ I) (hv : ∀ y, v y = f (r.emb y)) {hl}
    {k : (r.shape.Idx → Elt F (vbuf i hi).ty.elt) → Prog (TpuEff nD τ sig (Elt F) Λ₀ .tc) α} {Q : α → sProp 𝕄} :
    pt (vbuf i hi) c I q f ⊢ iprop((pt (vbuf i hi) c I q f -∗ WP c (k v) Q) -∗ WP c (.op (.load (Memref.whole (vbuf i hi)) r.toLoadRect hl) k) Q) := by
  rw [show v = ((Memref.whole (vbuf i hi)).access r).read (Elt F) f from funext hv]
  exact wp_load_rect 𝒱₀ (c : Thread nD τ) none Set.univ (m := Memref.whole (vbuf i hi)) (r := r) (hl := hl)
    (S := I) (q := q) (f := f) ((View.set_slice_whole (vbuf i hi) _).le.trans hI)

/-- What a write of a rectangle leaves in it. -/
theorem write_emb {f g : (vbuf i hi).ty.Contents (Elt F)} {w : r.shape.Idx → Elt F (vbuf i hi).ty.elt} (hw : ∀ y, w y = g (r.emb y)) :
    ∀ j ∈ r.set, ((Memref.whole (vbuf i hi)).access r).write (Elt F) f w Finset.univ j = g j := by
  intro j hj
  rw [← Rect.map_emb_univ] at hj
  obtain ⟨y, -, rfl⟩ := Finset.mem_map.mp hj
  exact (View.write_emb_of_mem (v := (Memref.whole (vbuf i hi)).access r) _ _ (Finset.mem_univ y)).trans (hw y)

theorem write_block {f : (vbuf i hi).ty.Contents (Elt F)} (g : (vbuf i hi).ty.Contents (Elt F)) {w : r.shape.Idx → Elt F (vbuf i hi).ty.elt} (hI : r.set = I) (hw : ∀ y, w y = g (r.emb y)) {hx} {hm}
    {k : PUnit → Prog (TpuEff nD τ sig (Elt F) Λ₀ .tc) α} {Q : α → sProp 𝕄} :
    pt (vbuf i hi) c I fullShare f ⊢ iprop((pt (vbuf i hi) c I fullShare g -∗ WP c (k ⟨⟩) Q) -∗ WP c (.op (.store (Memref.whole (vbuf i hi)) r w Finset.univ hx hm) k) Q) := by
  subst hI
  have h := wp_store (defs := defs₀ (F := F)) (Γ := .empty) 𝒱₀ (c : Thread nD τ) none Set.univ (m := Memref.whole (vbuf i hi)) (r := r) (w := w) (Mk := Finset.univ) (hx := hx) (hm := hm)
    (S := r.set) (f := f) (k := k) (Q := Q) (View.set_slice_whole (vbuf i hi) r).le
  exact h.trans (Entails.of_eq (congrArg (fun X => iprop((X -∗ WP c (k ⟨⟩) Q) -∗ WP c (.op (.store (Memref.whole (vbuf i hi)) r w Finset.univ hx hm) k) Q)) (pointsTo_congr (write_emb r hw))))

/-- A write of a rectangle of a buffer held whole: the rest keeps what it held. -/
theorem write_part {f : (vbuf i hi).ty.Contents (Elt F)} {w : r.shape.Idx → Elt F (vbuf i hi).ty.elt} {hx} {hm}
    {k : PUnit → Prog (TpuEff nD τ sig (Elt F) Λ₀ .tc) α} {Q : α → sProp 𝕄} :
    pt (vbuf i hi) c Finset.univ fullShare f ⊢ iprop((∀ g : (vbuf i hi).ty.Contents (Elt F), ⌜(∀ y, g (r.emb y) = w y) ∧ ∀ j, j ∉ r.set → g j = f j⌝ -∗ pt (vbuf i hi) c Finset.univ fullShare g -∗ WP c (k ⟨⟩) Q)
      -∗ WP c (.op (.store (Memref.whole (vbuf i hi)) r w Finset.univ hx hm) k) Q) := by
  have h := wp_store (defs := defs₀ (F := F)) (Γ := .empty) 𝒱₀ (c : Thread nD τ) none Set.univ (m := Memref.whole (vbuf i hi)) (r := r) (w := w) (Mk := Finset.univ) (hx := hx) (hm := hm)
    (S := Finset.univ) (f := f) (k := k) (Q := Q) (Finset.subset_univ _)
  iintro H Hk
  iapply h $$ H
  iintro H
  iapply Hk $$ %_ [] H
  ipureintro
  refine ⟨fun y => View.write_emb_of_mem (v := (Memref.whole (vbuf i hi)).access r) _ _ (Finset.mem_univ y), fun j hj => View.write_of_not_mem _ _ _ ?_⟩
  rw [View.setOn_univ, View.set_slice_whole]
  exact hj

/-- What a rectangle of a buffer holds, as a transfer names it: before, -/
theorem at_block (hI : r.set = I) {hr : ∀ a, r.stride a = 1} (n : Dev nD) (q : PosShare TreeShare) (f : (vbuf i hi).ty.Contents (Elt F)) :
    (((Memref.whole (vbuf i hi)).slice r hr).view.loc (n : Thread nD τ) ↦[((Memref.whole (vbuf i hi)).slice r hr).view.set]{q} f : sProp 𝕄) = pt (vbuf i hi) n I q f := by
  subst hI
  rw [show ((Memref.whole (vbuf i hi)).slice r hr).view.set = r.set from View.set_slice_whole (vbuf i hi) r]

/-- and after what it brings. -/
theorem arr_block (hI : r.set = I) {hr : ∀ a, r.stride a = 1} (n : Dev nD) (f g : (vbuf i hi).ty.Contents (Elt F)) {w : r.shape.Idx → Elt F (vbuf i hi).ty.elt} (hw : ∀ y, w y = g (r.emb y)) :
    (((Memref.whole (vbuf i hi)).slice r hr).view.loc (n : Thread nD τ) ↦[((Memref.whole (vbuf i hi)).slice r hr).view.set]{fullShare} ((Memref.whole (vbuf i hi)).slice r hr).view.write (Elt F) f w Finset.univ : sProp 𝕄)
      = pt (vbuf i hi) n I fullShare g :=
  (at_block r hI n fullShare _).trans (by subst hI; exact pointsTo_congr (write_emb r hw))
end Block

theorem sub_emb {R C m n a b : ℕ} [NeZero R] [NeZero C] {β : Type} (f : (⟨2, ![R, C]⟩ : Shape).Idx → β) (inb : ∀ x, (![a, b] : Fin 2 → ℕ) x + (⟨2, ![m, n]⟩ : Shape).size x ≤ (⟨2, ![R, C]⟩ : Shape).size x)
    (y : (⟨2, ![m, n]⟩ : Shape).Idx) : sub a b f y = f ((Rect.unit (s := ⟨2, ![R, C]⟩) ![a, b] (⟨2, ![m, n]⟩ : Shape).size inb).emb y) :=
  congrArg f (emb_rect inb y).symm

/-- What row `b + l` on of a matrix holds, in a window of it that starts at row `b`. -/
theorem shf_emb {R m l b l' : ℕ} (e : l' = b + l) (f : Mat F) (inb' : ∀ x, (![l', 0] : Fin 2 → ℕ) x + (⟨2, ![m, 1024]⟩ : Shape).size x ≤ S512x1024.size x)
    (inb : ∀ x, (![l, 0] : Fin 2 → ℕ) x + (⟨2, ![m, 1024]⟩ : Shape).size x ≤ (⟨2, ![R, 1024]⟩ : Shape).size x) (y : (⟨2, ![m, 1024]⟩ : Shape).Idx) :
    f ((Rect.unit (s := S512x1024) ![l', 0] (⟨2, ![m, 1024]⟩ : Shape).size inb').emb y) = shf b f ((Rect.unit (s := ⟨2, ![R, 1024]⟩) ![l, 0] (⟨2, ![m, 1024]⟩ : Shape).size inb).emb y) := by
  subst e
  have hy : (y 0).val < m := (y 0).isLt
  have hb : b + l + m ≤ 512 := inb' 0
  show f _ = f (rowAt _ _)
  congr 1
  funext a
  apply Fin.ext
  match a with
  | ⟨0, _⟩ => show b + l + 1 * (y 0).val = (b + (l + 1 * (y 0).val)) % 512; rw [Nat.mod_eq_of_lt (by omega)]; omega
  | ⟨1, _⟩ => rfl

/-- A row of a matrix, through a rectangle of its rows, -/
theorem row_emb {m lo : ℕ} (f : Mat F) (inb : ∀ x, (![lo, 0] : Fin 2 → ℕ) x + (⟨2, ![m, 1024]⟩ : Shape).size x ≤ S512x1024.size x) (y : (⟨2, ![m, 1024]⟩ : Shape).Idx) :
    shf lo f y = f ((Rect.unit (s := S512x1024) ![lo, 0] (⟨2, ![m, 1024]⟩ : Shape).size inb).emb y) :=
  (congrFun (sub_zero lo f) y).symm.trans (sub_emb f inb y)

/-- and through a rectangle of what landed from row `b` of it on. -/
theorem land_emb {R m l b : ℕ} [NeZero R] (f : Mat F) (inb : ∀ x, (![l, 0] : Fin 2 → ℕ) x + (⟨2, ![m, 1024]⟩ : Shape).size x ≤ (⟨2, ![R, 1024]⟩ : Shape).size x) (y : (⟨2, ![m, 1024]⟩ : Shape).Idx) :
    shf (b + l) f y = shf b f ((Rect.unit (s := ⟨2, ![R, 1024]⟩) ![l, 0] (⟨2, ![m, 1024]⟩ : Shape).size inb).emb y) :=
  (congrFun (sub_shf (R := R) (m := m) l b (inb 0) f) y).symm.trans (sub_emb (shf b f) inb y)

/-! ## Reads of blocks -/

theorem ld_0_256x64 (c : Dev nD) {I : Finset S512x1024.Idx} {q : PosShare TreeShare} {f : S512x1024.Idx → Elt F .bf16} {o : Fin 2 → ℕ} {a b : ℕ} (ho : o = ![a, b]) {inb} {hl}
    (hI : rows a 256 ⊆ I) {α : Type} {k : (S256x64.Idx → Elt F .bf16) → Prog (TpuEff nD τ sig (Elt F) Λ₀ .tc) α} {Q : α → sProp 𝕄} :
    pt cc0_scratch0 c I q f ⊢ iprop((pt cc0_scratch0 c I q f -∗ WP c (k (sub a b f)) Q)
      -∗ WP c (.op (.load (Memref.whole cc0_scratch0) (Rect.unit (s := S512x1024) o S256x64.size inb).toLoadRect hl) k) Q) := by
  subst ho
  exact read_block (i := cc0_scratch0.idx) c (Rect.unit (s := S512x1024) ![a, b] S256x64.size inb) ((rect_sub inb).trans hI) (sub_emb f inb)
theorem ld_14_256x64 (c : Dev nD) {I : Finset S512x1024.Idx} {q : PosShare TreeShare} {f : S512x1024.Idx → Elt F .bf16} {o : Fin 2 → ℕ} {a b : ℕ} (ho : o = ![a, b]) {inb} {hl}
    (hI : rows a 256 ⊆ I) {α : Type} {k : (S256x64.Idx → Elt F .bf16) → Prog (TpuEff nD τ sig (Elt F) Λ₀ .tc) α} {Q : α → sProp 𝕄} :
    pt cc0_scratch14 c I q f ⊢ iprop((pt cc0_scratch14 c I q f -∗ WP c (k (sub a b f)) Q)
      -∗ WP c (.op (.load (Memref.whole cc0_scratch14) (Rect.unit (s := S512x1024) o S256x64.size inb).toLoadRect hl) k) Q) := by
  subst ho
  exact read_block (i := cc0_scratch14.idx) c (Rect.unit (s := S512x1024) ![a, b] S256x64.size inb) ((rect_sub inb).trans hI) (sub_emb f inb)
theorem ld_15_256x32 (c : Dev nD) {I : Finset S512x512.Idx} {q : PosShare TreeShare} {f : S512x512.Idx → Elt F .bf16} {o : Fin 2 → ℕ} {a b : ℕ} (ho : o = ![a, b]) {inb} {hl}
    (hI : rows a 256 ⊆ I) {α : Type} {k : (S256x32.Idx → Elt F .bf16) → Prog (TpuEff nD τ sig (Elt F) Λ₀ .tc) α} {Q : α → sProp 𝕄} :
    pt cc0_scratch15 c I q f ⊢ iprop((pt cc0_scratch15 c I q f -∗ WP c (k (sub a b f)) Q)
      -∗ WP c (.op (.load (Memref.whole cc0_scratch15) (Rect.unit (s := S512x512) o S256x32.size inb).toLoadRect hl) k) Q) := by
  subst ho
  exact read_block (i := cc0_scratch15.idx) c (Rect.unit (s := S512x512) ![a, b] S256x32.size inb) ((rect_sub inb).trans hI) (sub_emb f inb)
theorem ld_16_256x32 (c : Dev nD) {I : Finset S512x32.Idx} {q : PosShare TreeShare} {f : S512x32.Idx → Elt F .bf16} {o : Fin 2 → ℕ} {a b : ℕ} (ho : o = ![a, b]) {inb} {hl}
    (hI : rows a 256 ⊆ I) {α : Type} {k : (S256x32.Idx → Elt F .bf16) → Prog (TpuEff nD τ sig (Elt F) Λ₀ .tc) α} {Q : α → sProp 𝕄} :
    pt cc0_scratch16 c I q f ⊢ iprop((pt cc0_scratch16 c I q f -∗ WP c (k (sub a b f)) Q)
      -∗ WP c (.op (.load (Memref.whole cc0_scratch16) (Rect.unit (s := S512x32) o S256x32.size inb).toLoadRect hl) k) Q) := by
  subst ho
  exact read_block (i := cc0_scratch16.idx) c (Rect.unit (s := S512x32) ![a, b] S256x32.size inb) ((rect_sub inb).trans hI) (sub_emb f inb)
theorem ld_17_256x256 (c : Dev nD) {I : Finset S512x4096.Idx} {q : PosShare TreeShare} {f : S512x4096.Idx → Elt F .bf16} {o : Fin 2 → ℕ} {a b : ℕ} (ho : o = ![a, b]) {inb} {hl}
    (hI : rows a 256 ⊆ I) {α : Type} {k : (S256x256.Idx → Elt F .bf16) → Prog (TpuEff nD τ sig (Elt F) Λ₀ .tc) α} {Q : α → sProp 𝕄} :
    pt cc0_scratch17 c I q f ⊢ iprop((pt cc0_scratch17 c I q f -∗ WP c (k (sub a b f)) Q)
      -∗ WP c (.op (.load (Memref.whole cc0_scratch17) (Rect.unit (s := S512x4096) o S256x256.size inb).toLoadRect hl) k) Q) := by
  subst ho
  exact read_block (i := cc0_scratch17.idx) c (Rect.unit (s := S512x4096) ![a, b] S256x256.size inb) ((rect_sub inb).trans hI) (sub_emb f inb)
/-- The same of the accumulators' rows, at their full width, -/
theorem la_0_16 (c : Dev nD) {q : PosShare TreeShare} {f : Mat F} {o : Fin 2 → ℕ} {lo : ℕ} (ho : o = ![lo, 0]) {inb} {hl}
    {α : Type} {k : (S16x1024.Idx → Elt F .bf16) → Prog (TpuEff nD τ sig (Elt F) Λ₀ .tc) α} {Q : α → sProp 𝕄} :
    pt cc0_scratch0 c (rows lo 16) q f ⊢ iprop((pt cc0_scratch0 c (rows lo 16) q f -∗ WP c (k (shf lo f)) Q)
      -∗ WP c (.op (.load (Memref.whole cc0_scratch0) (Rect.unit (s := S512x1024) o S16x1024.size inb).toLoadRect hl) k) Q) := by
  subst ho
  exact read_block (i := cc0_scratch0.idx) c (Rect.unit (s := S512x1024) ![lo, 0] S16x1024.size inb) (rect_rows rfl inb).le (row_emb f inb)
theorem la_0_64 (c : Dev nD) {q : PosShare TreeShare} {f : Mat F} {o : Fin 2 → ℕ} {lo : ℕ} (ho : o = ![lo, 0]) {inb} {hl}
    {α : Type} {k : (S64x1024.Idx → Elt F .bf16) → Prog (TpuEff nD τ sig (Elt F) Λ₀ .tc) α} {Q : α → sProp 𝕄} :
    pt cc0_scratch0 c (rows lo 64) q f ⊢ iprop((pt cc0_scratch0 c (rows lo 64) q f -∗ WP c (k (shf lo f)) Q)
      -∗ WP c (.op (.load (Memref.whole cc0_scratch0) (Rect.unit (s := S512x1024) o S64x1024.size inb).toLoadRect hl) k) Q) := by
  subst ho
  exact read_block (i := cc0_scratch0.idx) c (Rect.unit (s := S512x1024) ![lo, 0] S64x1024.size inb) (rect_rows rfl inb).le (row_emb f inb)
theorem la_0_128 (c : Dev nD) {q : PosShare TreeShare} {f : Mat F} {o : Fin 2 → ℕ} {lo : ℕ} (ho : o = ![lo, 0]) {inb} {hl}
    {α : Type} {k : (S128x1024.Idx → Elt F .bf16) → Prog (TpuEff nD τ sig (Elt F) Λ₀ .tc) α} {Q : α → sProp 𝕄} :
    pt cc0_scratch0 c (rows lo 128) q f ⊢ iprop((pt cc0_scratch0 c (rows lo 128) q f -∗ WP c (k (shf lo f)) Q)
      -∗ WP c (.op (.load (Memref.whole cc0_scratch0) (Rect.unit (s := S512x1024) o S128x1024.size inb).toLoadRect hl) k) Q) := by
  subst ho
  exact read_block (i := cc0_scratch0.idx) c (Rect.unit (s := S512x1024) ![lo, 0] S128x1024.size inb) (rect_rows rfl inb).le (row_emb f inb)
theorem la_1_16 (c : Dev nD) {q : PosShare TreeShare} {f : Mat F} {o : Fin 2 → ℕ} {lo : ℕ} (ho : o = ![lo, 0]) {inb} {hl}
    {α : Type} {k : (S16x1024.Idx → Elt F .bf16) → Prog (TpuEff nD τ sig (Elt F) Λ₀ .tc) α} {Q : α → sProp 𝕄} :
    pt cc0_scratch1 c (rows lo 16) q f ⊢ iprop((pt cc0_scratch1 c (rows lo 16) q f -∗ WP c (k (shf lo f)) Q)
      -∗ WP c (.op (.load (Memref.whole cc0_scratch1) (Rect.unit (s := S512x1024) o S16x1024.size inb).toLoadRect hl) k) Q) := by
  subst ho
  exact read_block (i := cc0_scratch1.idx) c (Rect.unit (s := S512x1024) ![lo, 0] S16x1024.size inb) (rect_rows rfl inb).le (row_emb f inb)
theorem la_1_64 (c : Dev nD) {q : PosShare TreeShare} {f : Mat F} {o : Fin 2 → ℕ} {lo : ℕ} (ho : o = ![lo, 0]) {inb} {hl}
    {α : Type} {k : (S64x1024.Idx → Elt F .bf16) → Prog (TpuEff nD τ sig (Elt F) Λ₀ .tc) α} {Q : α → sProp 𝕄} :
    pt cc0_scratch1 c (rows lo 64) q f ⊢ iprop((pt cc0_scratch1 c (rows lo 64) q f -∗ WP c (k (shf lo f)) Q)
      -∗ WP c (.op (.load (Memref.whole cc0_scratch1) (Rect.unit (s := S512x1024) o S64x1024.size inb).toLoadRect hl) k) Q) := by
  subst ho
  exact read_block (i := cc0_scratch1.idx) c (Rect.unit (s := S512x1024) ![lo, 0] S64x1024.size inb) (rect_rows rfl inb).le (row_emb f inb)
theorem la_1_128 (c : Dev nD) {q : PosShare TreeShare} {f : Mat F} {o : Fin 2 → ℕ} {lo : ℕ} (ho : o = ![lo, 0]) {inb} {hl}
    {α : Type} {k : (S128x1024.Idx → Elt F .bf16) → Prog (TpuEff nD τ sig (Elt F) Λ₀ .tc) α} {Q : α → sProp 𝕄} :
    pt cc0_scratch1 c (rows lo 128) q f ⊢ iprop((pt cc0_scratch1 c (rows lo 128) q f -∗ WP c (k (shf lo f)) Q)
      -∗ WP c (.op (.load (Memref.whole cc0_scratch1) (Rect.unit (s := S512x1024) o S128x1024.size inb).toLoadRect hl) k) Q) := by
  subst ho
  exact read_block (i := cc0_scratch1.idx) c (Rect.unit (s := S512x1024) ![lo, 0] S128x1024.size inb) (rect_rows rfl inb).le (row_emb f inb)

/-- and of what landed in the first landing buffers. -/
theorem ll_2 (c : Dev nD) {q : PosShare TreeShare} {f : Mat F} {o : Fin 2 → ℕ} {ll b lo : ℕ} (ho : o = ![ll, 0]) (e : lo = b + ll) {inb} {hl}
    {α : Type} {k : (S128x1024.Idx → Elt F .bf16) → Prog (TpuEff nD τ sig (Elt F) Λ₀ .tc) α} {Q : α → sProp 𝕄} :
    pt cc0_scratch2 c (LA ll) q (shf b f) ⊢ iprop((pt cc0_scratch2 c (LA ll) q (shf b f) -∗ WP c (k (shf lo f)) Q)
      -∗ WP c (.op (.load (Memref.whole cc0_scratch2) (Rect.unit (s := S256x1024) o S128x1024.size inb).toLoadRect hl) k) Q) := by
  subst ho e
  exact read_block (i := cc0_scratch2.idx) c (Rect.unit (s := S256x1024) ![ll, 0] S128x1024.size inb) (rect_rows rfl inb).le (land_emb f inb)
theorem ll_5 (c : Dev nD) {q : PosShare TreeShare} {f : Mat F} {o : Fin 2 → ℕ} {ll b lo : ℕ} (ho : o = ![ll, 0]) (e : lo = b + ll) {inb} {hl}
    {α : Type} {k : (S128x1024.Idx → Elt F .bf16) → Prog (TpuEff nD τ sig (Elt F) Λ₀ .tc) α} {Q : α → sProp 𝕄} :
    pt cc0_scratch5 c (LA ll) q (shf b f) ⊢ iprop((pt cc0_scratch5 c (LA ll) q (shf b f) -∗ WP c (k (shf lo f)) Q)
      -∗ WP c (.op (.load (Memref.whole cc0_scratch5) (Rect.unit (s := S256x1024) o S128x1024.size inb).toLoadRect hl) k) Q) := by
  subst ho e
  exact read_block (i := cc0_scratch5.idx) c (Rect.unit (s := S256x1024) ![ll, 0] S128x1024.size inb) (rect_rows rfl inb).le (land_emb f inb)

/-! ## Writes of rows -/

theorem st_0_16 (c : Dev nD) {f : Mat F} {w} (g : Mat F) {o : Fin 2 → ℕ} {lo : ℕ} (ho : o = ![lo, 0]) (hw : w = shf lo g) {inb} {hx} {hm} {α : Type} {k : PUnit → Prog (TpuEff nD τ sig (Elt F) Λ₀ .tc) α} {Q : α → sProp 𝕄} :
    pt cc0_scratch0 c (rows lo 16) fullShare f ⊢ iprop((pt cc0_scratch0 c (rows lo 16) fullShare g -∗ WP c (k ⟨⟩) Q)
      -∗ WP c (.op (.store (Memref.whole cc0_scratch0) (Rect.unit (s := S512x1024) o S16x1024.size inb) w Finset.univ hx hm) k) Q) := by
  subst ho hw
  exact write_block (i := cc0_scratch0.idx) c (Rect.unit (s := S512x1024) ![lo, 0] S16x1024.size inb) g (rect_rows rfl inb) (row_emb g inb)
theorem st_0_64 (c : Dev nD) {f : Mat F} {w} (g : Mat F) {o : Fin 2 → ℕ} {lo : ℕ} (ho : o = ![lo, 0]) (hw : w = shf lo g) {inb} {hx} {hm} {α : Type} {k : PUnit → Prog (TpuEff nD τ sig (Elt F) Λ₀ .tc) α} {Q : α → sProp 𝕄} :
    pt cc0_scratch0 c (rows lo 64) fullShare f ⊢ iprop((pt cc0_scratch0 c (rows lo 64) fullShare g -∗ WP c (k ⟨⟩) Q)
      -∗ WP c (.op (.store (Memref.whole cc0_scratch0) (Rect.unit (s := S512x1024) o S64x1024.size inb) w Finset.univ hx hm) k) Q) := by
  subst ho hw
  exact write_block (i := cc0_scratch0.idx) c (Rect.unit (s := S512x1024) ![lo, 0] S64x1024.size inb) g (rect_rows rfl inb) (row_emb g inb)
theorem st_0_128 (c : Dev nD) {f : Mat F} {w} (g : Mat F) {o : Fin 2 → ℕ} {lo : ℕ} (ho : o = ![lo, 0]) (hw : w = shf lo g) {inb} {hx} {hm} {α : Type} {k : PUnit → Prog (TpuEff nD τ sig (Elt F) Λ₀ .tc) α} {Q : α → sProp 𝕄} :
    pt cc0_scratch0 c (rows lo 128) fullShare f ⊢ iprop((pt cc0_scratch0 c (rows lo 128) fullShare g -∗ WP c (k ⟨⟩) Q)
      -∗ WP c (.op (.store (Memref.whole cc0_scratch0) (Rect.unit (s := S512x1024) o S128x1024.size inb) w Finset.univ hx hm) k) Q) := by
  subst ho hw
  exact write_block (i := cc0_scratch0.idx) c (Rect.unit (s := S512x1024) ![lo, 0] S128x1024.size inb) g (rect_rows rfl inb) (row_emb g inb)
theorem st_1_16 (c : Dev nD) {f : Mat F} {w} (g : Mat F) {o : Fin 2 → ℕ} {lo : ℕ} (ho : o = ![lo, 0]) (hw : w = shf lo g) {inb} {hx} {hm} {α : Type} {k : PUnit → Prog (TpuEff nD τ sig (Elt F) Λ₀ .tc) α} {Q : α → sProp 𝕄} :
    pt cc0_scratch1 c (rows lo 16) fullShare f ⊢ iprop((pt cc0_scratch1 c (rows lo 16) fullShare g -∗ WP c (k ⟨⟩) Q)
      -∗ WP c (.op (.store (Memref.whole cc0_scratch1) (Rect.unit (s := S512x1024) o S16x1024.size inb) w Finset.univ hx hm) k) Q) := by
  subst ho hw
  exact write_block (i := cc0_scratch1.idx) c (Rect.unit (s := S512x1024) ![lo, 0] S16x1024.size inb) g (rect_rows rfl inb) (row_emb g inb)
theorem st_1_64 (c : Dev nD) {f : Mat F} {w} (g : Mat F) {o : Fin 2 → ℕ} {lo : ℕ} (ho : o = ![lo, 0]) (hw : w = shf lo g) {inb} {hx} {hm} {α : Type} {k : PUnit → Prog (TpuEff nD τ sig (Elt F) Λ₀ .tc) α} {Q : α → sProp 𝕄} :
    pt cc0_scratch1 c (rows lo 64) fullShare f ⊢ iprop((pt cc0_scratch1 c (rows lo 64) fullShare g -∗ WP c (k ⟨⟩) Q)
      -∗ WP c (.op (.store (Memref.whole cc0_scratch1) (Rect.unit (s := S512x1024) o S64x1024.size inb) w Finset.univ hx hm) k) Q) := by
  subst ho hw
  exact write_block (i := cc0_scratch1.idx) c (Rect.unit (s := S512x1024) ![lo, 0] S64x1024.size inb) g (rect_rows rfl inb) (row_emb g inb)
theorem st_1_128 (c : Dev nD) {f : Mat F} {w} (g : Mat F) {o : Fin 2 → ℕ} {lo : ℕ} (ho : o = ![lo, 0]) (hw : w = shf lo g) {inb} {hx} {hm} {α : Type} {k : PUnit → Prog (TpuEff nD τ sig (Elt F) Λ₀ .tc) α} {Q : α → sProp 𝕄} :
    pt cc0_scratch1 c (rows lo 128) fullShare f ⊢ iprop((pt cc0_scratch1 c (rows lo 128) fullShare g -∗ WP c (k ⟨⟩) Q)
      -∗ WP c (.op (.store (Memref.whole cc0_scratch1) (Rect.unit (s := S512x1024) o S128x1024.size inb) w Finset.univ hx hm) k) Q) := by
  subst ho hw
  exact write_block (i := cc0_scratch1.idx) c (Rect.unit (s := S512x1024) ![lo, 0] S128x1024.size inb) g (rect_rows rfl inb) (row_emb g inb)

/-- A write of a block: the block holds what was written, and the rest what it held. -/
theorem sb_17 (c : Dev nD) {f : S512x4096.Idx → Elt F .bf16} {w : S256x256.Idx → Elt F .bf16} {o : Fin 2 → ℕ} {a b : ℕ} (ho : o = ![a, b]) {inb} {hx} {hm} {α : Type} {k : PUnit → Prog (TpuEff nD τ sig (Elt F) Λ₀ .tc) α} {Q : α → sProp 𝕄} :
    pt cc0_scratch17 c Finset.univ fullShare f ⊢ iprop((∀ g : S512x4096.Idx → Elt F .bf16, ⌜(∀ y, g (matAt (a + (y 0).val) (b + (y 1).val)) = w y)
        ∧ ∀ i, ¬((a ≤ (i 0).val ∧ (i 0).val < a + 256) ∧ (b ≤ (i 1).val ∧ (i 1).val < b + 256)) → g i = f i⌝ -∗ pt cc0_scratch17 c Finset.univ fullShare g -∗ WP c (k ⟨⟩) Q)
      -∗ WP c (.op (.store (Memref.whole cc0_scratch17) (Rect.unit (s := S512x4096) o S256x256.size inb) w Finset.univ hx hm) k) Q) := by
  subst ho
  iintro H Hk
  iapply (write_part (i := cc0_scratch17.idx) c (Rect.unit (s := S512x4096) ![a, b] S256x256.size inb)) $$ H
  iintro %g %hg H
  iapply Hk $$ %g [] H
  ipureintro
  exact ⟨fun y => (congrArg g (emb_rect inb y).symm).trans (hg.1 y), fun i hi => hg.2 i fun h => hi ((rect_mem inb).mp h)⟩
theorem sb_g8 (c : Dev nD) {f : S512x1024.Idx → Elt F .f32} {w : S256x1024.Idx → Elt F .f32} {o : Fin 2 → ℕ} {a b : ℕ} (ho : o = ![a, b]) {inb} {hx} {hm} {α : Type} {k : PUnit → Prog (TpuEff nD τ sig (Elt F) Λ₀ .tc) α} {Q : α → sProp 𝕄} :
    pt cc0_stg8_0 c Finset.univ fullShare f ⊢ iprop((∀ g : S512x1024.Idx → Elt F .f32, ⌜(∀ y, g (matAt (a + (y 0).val) (b + (y 1).val)) = w y)
        ∧ ∀ i, ¬((a ≤ (i 0).val ∧ (i 0).val < a + 256) ∧ (b ≤ (i 1).val ∧ (i 1).val < b + 1024)) → g i = f i⌝ -∗ pt cc0_stg8_0 c Finset.univ fullShare g -∗ WP c (k ⟨⟩) Q)
      -∗ WP c (.op (.store (Memref.whole cc0_stg8_0) (Rect.unit (s := S512x1024) o S256x1024.size inb) w Finset.univ hx hm) k) Q) := by
  subst ho
  iintro H Hk
  iapply (write_part (i := cc0_stg8_0.idx) c (Rect.unit (s := S512x1024) ![a, b] S256x1024.size inb)) $$ H
  iintro %g %hg H
  iapply Hk $$ %g [] H
  ipureintro
  exact ⟨fun y => (congrArg g (emb_rect inb y).symm).trans (hg.1 y), fun i hi => hg.2 i fun h => hi ((rect_mem inb).mp h)⟩

end Cert.KernelIdealProof
-- ==== Proof.KernelIdealOffs.lean ====
/-
Where the score blocks lie: the half of the rows a device takes first and the other half, head by head.
-/
module

public import proofs.«01_k».proof.Proof.KernelIdealRules

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (KA KB : Dev nD → Mat F) (K : Dev nD × Fin 53 → ℕ)

/-- The half of the rows whose sum a device has first, and the other half. -/
def xA (c : Dev nD) : ℕ := bA 4 c / 256
def yA (c : Dev nD) : ℕ := 1 - xA c
theorem xA_lt : ∀ c, xA c < 2 := by decide +kernel
theorem yA_lt (c : Dev nD) : yA c < 2 := by unfold yA; omega
theorem bA_xA : ∀ c, bA 4 c = 256 * xA c := by decide +kernel

theorem of41 : ∀ c : Dev nD, k0_off41 c = ![256 * xA c, 0] := by decide +kernel
theorem of42 : ∀ c : Dev nD, k0_off42 c = ![256 * xA c, 64 * 0] := by decide +kernel
theorem of43 : ∀ c : Dev nD, k0_off43 c = ![256 * xA c, 32 * 0] := by decide +kernel
theorem of44 : ∀ c : Dev nD, k0_off44 c = ![256 * xA c, 256 * 0] := by decide +kernel
theorem of45 : ∀ c : Dev nD, k0_off45 c = ![256 * xA c, 64 * 1] := by decide +kernel
theorem of46 : ∀ c : Dev nD, k0_off46 c = ![256 * xA c, 32 * 1] := by decide +kernel
theorem of47 : ∀ c : Dev nD, k0_off47 c = ![256 * xA c, 256 * 1] := by decide +kernel
theorem of48 : ∀ c : Dev nD, k0_off48 c = ![256 * xA c, 64 * 2] := by decide +kernel
theorem of49 : ∀ c : Dev nD, k0_off49 c = ![256 * xA c, 32 * 2] := by decide +kernel
theorem of50 : ∀ c : Dev nD, k0_off50 c = ![256 * xA c, 256 * 2] := by decide +kernel
theorem of51 : ∀ c : Dev nD, k0_off51 c = ![256 * xA c, 64 * 3] := by decide +kernel
theorem of52 : ∀ c : Dev nD, k0_off52 c = ![256 * xA c, 32 * 3] := by decide +kernel
theorem of53 : ∀ c : Dev nD, k0_off53 c = ![256 * xA c, 256 * 3] := by decide +kernel
theorem of54 : ∀ c : Dev nD, k0_off54 c = ![256 * xA c, 64 * 4] := by decide +kernel
theorem of55 : ∀ c : Dev nD, k0_off55 c = ![256 * xA c, 32 * 4] := by decide +kernel
theorem of56 : ∀ c : Dev nD, k0_off56 c = ![256 * xA c, 256 * 4] := by decide +kernel
theorem of57 : ∀ c : Dev nD, k0_off57 c = ![256 * xA c, 64 * 5] := by decide +kernel
theorem of58 : ∀ c : Dev nD, k0_off58 c = ![256 * xA c, 32 * 5] := by decide +kernel
theorem of59 : ∀ c : Dev nD, k0_off59 c = ![256 * xA c, 256 * 5] := by decide +kernel
theorem of60 : ∀ c : Dev nD, k0_off60 c = ![256 * xA c, 64 * 6] := by decide +kernel
theorem of61 : ∀ c : Dev nD, k0_off61 c = ![256 * xA c, 32 * 6] := by decide +kernel
theorem of62 : ∀ c : Dev nD, k0_off62 c = ![256 * xA c, 256 * 6] := by decide +kernel
theorem of63 : ∀ c : Dev nD, k0_off63 c = ![256 * xA c, 64 * 7] := by decide +kernel
theorem of64 : ∀ c : Dev nD, k0_off64 c = ![256 * xA c, 32 * 7] := by decide +kernel
theorem of65 : ∀ c : Dev nD, k0_off65 c = ![256 * xA c, 256 * 7] := by decide +kernel
theorem of66 : ∀ c : Dev nD, k0_off66 c = ![256 * xA c, 64 * 8] := by decide +kernel
theorem of67 : ∀ c : Dev nD, k0_off67 c = ![256 * xA c, 32 * 8] := by decide +kernel
theorem of68 : ∀ c : Dev nD, k0_off68 c = ![256 * xA c, 256 * 8] := by decide +kernel
theorem of69 : ∀ c : Dev nD, k0_off69 c = ![256 * xA c, 64 * 9] := by decide +kernel
theorem of70 : ∀ c : Dev nD, k0_off70 c = ![256 * xA c, 32 * 9] := by decide +kernel
theorem of71 : ∀ c : Dev nD, k0_off71 c = ![256 * xA c, 256 * 9] := by decide +kernel
theorem of72 : ∀ c : Dev nD, k0_off72 c = ![256 * xA c, 64 * 10] := by decide +kernel
theorem of73 : ∀ c : Dev nD, k0_off73 c = ![256 * xA c, 32 * 10] := by decide +kernel
theorem of74 : ∀ c : Dev nD, k0_off74 c = ![256 * xA c, 256 * 10] := by decide +kernel
theorem of75 : ∀ c : Dev nD, k0_off75 c = ![256 * xA c, 64 * 11] := by decide +kernel
theorem of76 : ∀ c : Dev nD, k0_off76 c = ![256 * xA c, 32 * 11] := by decide +kernel
theorem of77 : ∀ c : Dev nD, k0_off77 c = ![256 * xA c, 256 * 11] := by decide +kernel
theorem of78 : ∀ c : Dev nD, k0_off78 c = ![256 * xA c, 64 * 12] := by decide +kernel
theorem of79 : ∀ c : Dev nD, k0_off79 c = ![256 * xA c, 32 * 12] := by decide +kernel
theorem of80 : ∀ c : Dev nD, k0_off80 c = ![256 * xA c, 256 * 12] := by decide +kernel
theorem of81 : ∀ c : Dev nD, k0_off81 c = ![256 * xA c, 64 * 13] := by decide +kernel
theorem of82 : ∀ c : Dev nD, k0_off82 c = ![256 * xA c, 32 * 13] := by decide +kernel
theorem of83 : ∀ c : Dev nD, k0_off83 c = ![256 * xA c, 256 * 13] := by decide +kernel
theorem of84 : ∀ c : Dev nD, k0_off84 c = ![256 * xA c, 64 * 14] := by decide +kernel
theorem of85 : ∀ c : Dev nD, k0_off85 c = ![256 * xA c, 32 * 14] := by decide +kernel
theorem of86 : ∀ c : Dev nD, k0_off86 c = ![256 * xA c, 256 * 14] := by decide +kernel
theorem of87 : ∀ c : Dev nD, k0_off87 c = ![256 * xA c, 64 * 15] := by decide +kernel
theorem of88 : ∀ c : Dev nD, k0_off88 c = ![256 * xA c, 32 * 15] := by decide +kernel
theorem of89 : ∀ c : Dev nD, k0_off89 c = ![256 * xA c, 256 * 15] := by decide +kernel
theorem of90 : ∀ c : Dev nD, k0_off90 c = ![256 * yA c, 0] := by decide +kernel
theorem of91 : ∀ c : Dev nD, k0_off91 c = ![256 * yA c, 64 * 0] := by decide +kernel
theorem of92 : ∀ c : Dev nD, k0_off92 c = ![256 * yA c, 32 * 0] := by decide +kernel
theorem of93 : ∀ c : Dev nD, k0_off93 c = ![256 * yA c, 256 * 0] := by decide +kernel
theorem of94 : ∀ c : Dev nD, k0_off94 c = ![256 * yA c, 64 * 1] := by decide +kernel
theorem of95 : ∀ c : Dev nD, k0_off95 c = ![256 * yA c, 32 * 1] := by decide +kernel
theorem of96 : ∀ c : Dev nD, k0_off96 c = ![256 * yA c, 256 * 1] := by decide +kernel
theorem of97 : ∀ c : Dev nD, k0_off97 c = ![256 * yA c, 64 * 2] := by decide +kernel
theorem of98 : ∀ c : Dev nD, k0_off98 c = ![256 * yA c, 32 * 2] := by decide +kernel
theorem of99 : ∀ c : Dev nD, k0_off99 c = ![256 * yA c, 256 * 2] := by decide +kernel
theorem of100 : ∀ c : Dev nD, k0_off100 c = ![256 * yA c, 64 * 3] := by decide +kernel
theorem of101 : ∀ c : Dev nD, k0_off101 c = ![256 * yA c, 32 * 3] := by decide +kernel
theorem of102 : ∀ c : Dev nD, k0_off102 c = ![256 * yA c, 256 * 3] := by decide +kernel
theorem of103 : ∀ c : Dev nD, k0_off103 c = ![256 * yA c, 64 * 4] := by decide +kernel
theorem of104 : ∀ c : Dev nD, k0_off104 c = ![256 * yA c, 32 * 4] := by decide +kernel
theorem of105 : ∀ c : Dev nD, k0_off105 c = ![256 * yA c, 256 * 4] := by decide +kernel
theorem of106 : ∀ c : Dev nD, k0_off106 c = ![256 * yA c, 64 * 5] := by decide +kernel
theorem of107 : ∀ c : Dev nD, k0_off107 c = ![256 * yA c, 32 * 5] := by decide +kernel
theorem of108 : ∀ c : Dev nD, k0_off108 c = ![256 * yA c, 256 * 5] := by decide +kernel
theorem of109 : ∀ c : Dev nD, k0_off109 c = ![256 * yA c, 64 * 6] := by decide +kernel
theorem of110 : ∀ c : Dev nD, k0_off110 c = ![256 * yA c, 32 * 6] := by decide +kernel
theorem of111 : ∀ c : Dev nD, k0_off111 c = ![256 * yA c, 256 * 6] := by decide +kernel
theorem of112 : ∀ c : Dev nD, k0_off112 c = ![256 * yA c, 64 * 7] := by decide +kernel
theorem of113 : ∀ c : Dev nD, k0_off113 c = ![256 * yA c, 32 * 7] := by decide +kernel
theorem of114 : ∀ c : Dev nD, k0_off114 c = ![256 * yA c, 256 * 7] := by decide +kernel
theorem of115 : ∀ c : Dev nD, k0_off115 c = ![256 * yA c, 64 * 8] := by decide +kernel
theorem of116 : ∀ c : Dev nD, k0_off116 c = ![256 * yA c, 32 * 8] := by decide +kernel
theorem of117 : ∀ c : Dev nD, k0_off117 c = ![256 * yA c, 256 * 8] := by decide +kernel
theorem of118 : ∀ c : Dev nD, k0_off118 c = ![256 * yA c, 64 * 9] := by decide +kernel
theorem of119 : ∀ c : Dev nD, k0_off119 c = ![256 * yA c, 32 * 9] := by decide +kernel
theorem of120 : ∀ c : Dev nD, k0_off120 c = ![256 * yA c, 256 * 9] := by decide +kernel
theorem of121 : ∀ c : Dev nD, k0_off121 c = ![256 * yA c, 64 * 10] := by decide +kernel
theorem of122 : ∀ c : Dev nD, k0_off122 c = ![256 * yA c, 32 * 10] := by decide +kernel
theorem of123 : ∀ c : Dev nD, k0_off123 c = ![256 * yA c, 256 * 10] := by decide +kernel
theorem of124 : ∀ c : Dev nD, k0_off124 c = ![256 * yA c, 64 * 11] := by decide +kernel
theorem of125 : ∀ c : Dev nD, k0_off125 c = ![256 * yA c, 32 * 11] := by decide +kernel
theorem of126 : ∀ c : Dev nD, k0_off126 c = ![256 * yA c, 256 * 11] := by decide +kernel
theorem of127 : ∀ c : Dev nD, k0_off127 c = ![256 * yA c, 64 * 12] := by decide +kernel
theorem of128 : ∀ c : Dev nD, k0_off128 c = ![256 * yA c, 32 * 12] := by decide +kernel
theorem of129 : ∀ c : Dev nD, k0_off129 c = ![256 * yA c, 256 * 12] := by decide +kernel
theorem of130 : ∀ c : Dev nD, k0_off130 c = ![256 * yA c, 64 * 13] := by decide +kernel
theorem of131 : ∀ c : Dev nD, k0_off131 c = ![256 * yA c, 32 * 13] := by decide +kernel
theorem of132 : ∀ c : Dev nD, k0_off132 c = ![256 * yA c, 256 * 13] := by decide +kernel
theorem of133 : ∀ c : Dev nD, k0_off133 c = ![256 * yA c, 64 * 14] := by decide +kernel
theorem of134 : ∀ c : Dev nD, k0_off134 c = ![256 * yA c, 32 * 14] := by decide +kernel
theorem of135 : ∀ c : Dev nD, k0_off135 c = ![256 * yA c, 256 * 14] := by decide +kernel
theorem of136 : ∀ c : Dev nD, k0_off136 c = ![256 * yA c, 64 * 15] := by decide +kernel
theorem of137 : ∀ c : Dev nD, k0_off137 c = ![256 * yA c, 32 * 15] := by decide +kernel
theorem of138 : ∀ c : Dev nD, k0_off138 c = ![256 * yA c, 256 * 15] := by decide +kernel

end Cert.KernelIdealProof
-- ==== Proof.KernelIdealScore.lean ====
/-
The score phase: blocks of probabilities written one after another into one buffer.
-/
module

public import proofs.«01_k».proof.Proof.KernelIdealOffs

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (KA KB : Dev nD → Mat F) (K : Dev nD × Fin 53 → ℕ)

section Score
variable (fkr : S512x32.Idx → Elt F .bf16) (fq : S512x1024.Idx → Elt F .bf16) (fqr : S512x512.Idx → Elt F .bf16) (ka : Mat F)

/-- The block of probabilities of batch `b` and head `h`, -/
def PB (b h : ℕ) : S256x256.Idx → Elt F .bf16 :=
  k0_pay23 (sub (256 * b) 0 fkr) (sub (256 * b) (64 * h) fq) (sub (256 * b) (32 * h) fqr) (sub (256 * b) (64 * h) ka)

/-- all of them, side by side, -/
def PRM : S512x4096.Idx → Elt F .bf16 := fun i => PB fkr fq fqr ka ((i 0).val / 256) ((i 1).val / 256) (matAt ((i 0).val % 256) ((i 1).val % 256))

/-- and which are in place after `n` blocks, the batch `x` first. -/
def dn (x n : ℕ) (i : S512x4096.Idx) : Prop :=
  ((i 0).val / 256 = x ∧ (i 1).val / 256 < n) ∨ ((i 0).val / 256 ≠ x ∧ 16 + (i 1).val / 256 < n)

def prb (n : ℕ) (c : Dev nD) : sProp 𝕄 := iprop(∃ f : S512x4096.Idx → Elt F .bf16, pt cc0_scratch17 c Finset.univ fullShare f ∗ ⌜∀ i, dn (xA c) n i → f i = PRM fkr fq fqr ka i⌝)

/-- What the score phase reads and writes. -/
def SC (I : Finset S512x1024.Idx) (q : PosShare TreeShare) (n : ℕ) (c : Dev nD) : sProp 𝕄 :=
  iprop(pt cc0_scratch16 c Finset.univ fullShare fkr ∗ pt cc0_scratch14 c Finset.univ fullShare fq ∗ pt cc0_scratch15 c Finset.univ fullShare fqr
    ∗ pt cc0_scratch0 c I q ka ∗ prb fkr fq fqr ka n c)

variable {I : Finset S512x1024.Idx} {q : PosShare TreeShare} {n : ℕ}

theorem rdKR (c : Dev nD) {o : Fin 2 → ℕ} {b : ℕ} (ho : o = ![256 * b, 0]) {inb} {hl}
    {α : Type} {k : (S256x32.Idx → Elt F .bf16) → Prog (TpuEff nD τ sig (Elt F) Λ₀ .tc) α} {Q : α → sProp 𝕄} :
    SC fkr fq fqr ka I q n c ⊢ iprop((SC fkr fq fqr ka I q n c -∗ WP c (k (sub (256 * b) (0) fkr)) Q)
      -∗ WP c (.op (.load (Memref.whole cc0_scratch16) (Rect.unit (s := S512x32) o S256x32.size inb).toLoadRect hl) k) Q) := by
  unfold SC
  iintro ⟨H1, H2, H3, H4, H5⟩ Hk
  iapply (ld_16_256x32 c ho (Finset.subset_univ _)) $$ H1
  iintro H1
  iapply Hk
  isplitl [H1]; · iexact H1
  isplitl [H2]; · iexact H2
  isplitl [H3]; · iexact H3
  isplitl [H4]; · iexact H4
  iexact H5

theorem rdQ (c : Dev nD) {o : Fin 2 → ℕ} {b h : ℕ} (ho : o = ![256 * b, 64 * h]) {inb} {hl}
    {α : Type} {k : (S256x64.Idx → Elt F .bf16) → Prog (TpuEff nD τ sig (Elt F) Λ₀ .tc) α} {Q : α → sProp 𝕄} :
    SC fkr fq fqr ka I q n c ⊢ iprop((SC fkr fq fqr ka I q n c -∗ WP c (k (sub (256 * b) (64 * h) fq)) Q)
      -∗ WP c (.op (.load (Memref.whole cc0_scratch14) (Rect.unit (s := S512x1024) o S256x64.size inb).toLoadRect hl) k) Q) := by
  unfold SC
  iintro ⟨H1, H2, H3, H4, H5⟩ Hk
  iapply (ld_14_256x64 c ho (Finset.subset_univ _)) $$ H2
  iintro H2
  iapply Hk
  isplitl [H1]; · iexact H1
  isplitl [H2]; · iexact H2
  isplitl [H3]; · iexact H3
  isplitl [H4]; · iexact H4
  iexact H5

theorem rdQR (c : Dev nD) {o : Fin 2 → ℕ} {b h : ℕ} (ho : o = ![256 * b, 32 * h]) {inb} {hl}
    {α : Type} {k : (S256x32.Idx → Elt F .bf16) → Prog (TpuEff nD τ sig (Elt F) Λ₀ .tc) α} {Q : α → sProp 𝕄} :
    SC fkr fq fqr ka I q n c ⊢ iprop((SC fkr fq fqr ka I q n c -∗ WP c (k (sub (256 * b) (32 * h) fqr)) Q)
      -∗ WP c (.op (.load (Memref.whole cc0_scratch15) (Rect.unit (s := S512x512) o S256x32.size inb).toLoadRect hl) k) Q) := by
  unfold SC
  iintro ⟨H1, H2, H3, H4, H5⟩ Hk
  iapply (ld_15_256x32 c ho (Finset.subset_univ _)) $$ H3
  iintro H3
  iapply Hk
  isplitl [H1]; · iexact H1
  isplitl [H2]; · iexact H2
  isplitl [H3]; · iexact H3
  isplitl [H4]; · iexact H4
  iexact H5

theorem rdA (c : Dev nD) {o : Fin 2 → ℕ} {b h : ℕ} (ho : o = ![256 * b, 64 * h]) (hI : rows (256 * b) 256 ⊆ I) {inb} {hl}
    {α : Type} {k : (S256x64.Idx → Elt F .bf16) → Prog (TpuEff nD τ sig (Elt F) Λ₀ .tc) α} {Q : α → sProp 𝕄} :
    SC fkr fq fqr ka I q n c ⊢ iprop((SC fkr fq fqr ka I q n c -∗ WP c (k (sub (256 * b) (64 * h) ka)) Q)
      -∗ WP c (.op (.load (Memref.whole cc0_scratch0) (Rect.unit (s := S512x1024) o S256x64.size inb).toLoadRect hl) k) Q) := by
  unfold SC
  iintro ⟨H1, H2, H3, H4, H5⟩ Hk
  iapply (ld_0_256x64 c ho hI) $$ H4
  iintro H4
  iapply Hk
  isplitl [H1]; · iexact H1
  isplitl [H2]; · iexact H2
  isplitl [H3]; · iexact H3
  isplitl [H4]; · iexact H4
  iexact H5

/-- A read of the probabilities, its value not used. -/
theorem rdP (c : Dev nD) {o : Fin 2 → ℕ} {a b : ℕ} (ho : o = ![a, b]) {inb} {hl}
    {α : Type} {k : (S256x256.Idx → Elt F .bf16) → Prog (TpuEff nD τ sig (Elt F) Λ₀ .tc) α} {Q : α → sProp 𝕄} :
    SC fkr fq fqr ka I q n c ⊢ iprop((∀ v, SC fkr fq fqr ka I q n c -∗ WP c (k v) Q)
      -∗ WP c (.op (.load (Memref.whole cc0_scratch17) (Rect.unit (s := S512x4096) o S256x256.size inb).toLoadRect hl) k) Q) := by
  unfold SC prb
  iintro ⟨H1, H2, H3, H4, ⟨%f, H5, %hf⟩⟩ Hk
  iapply (ld_17_256x256 c ho (Finset.subset_univ _)) $$ H5
  iintro H5
  iapply Hk
  isplitl [H1]; · iexact H1
  isplitl [H2]; · iexact H2
  isplitl [H3]; · iexact H3
  isplitl [H4]; · iexact H4
  iexists f
  isplitl [H5]; · iexact H5
  ipureintro; exact hf

/-- What a write of one more block puts in place. -/
theorem step_block (x b h n n' : ℕ) (hx : x < 2) (hb : b < 2) (hh : h < 16) (hn : (b = x ∧ n = h ∧ n' = h + 1) ∨ (b ≠ x ∧ n = 16 + h ∧ n' = 17 + h))
    (f g : S512x4096.Idx → Elt F .bf16) (w : S256x256.Idx → Elt F .bf16) (hw : w = PB fkr fq fqr ka b h)
    (hf : ∀ i, dn x n i → f i = PRM fkr fq fqr ka i)
    (hg : ∀ y : S256x256.Idx, g (matAt (256 * b + (y 0).val) (256 * h + (y 1).val)) = w y)
    (hg' : ∀ i, ¬((256 * b ≤ (i 0).val ∧ (i 0).val < 256 * b + 256) ∧ (256 * h ≤ (i 1).val ∧ (i 1).val < 256 * h + 256)) → g i = f i) :
    ∀ i, dn x n' i → g i = PRM fkr fq fqr ka i := by
  subst hw
  intro i hi
  have h0 : (i 0).val < 512 := (i 0).isLt
  have h1 : (i 1).val < 4096 := (i 1).isLt
  by_cases hc : (256 * b ≤ (i 0).val ∧ (i 0).val < 256 * b + 256) ∧ (256 * h ≤ (i 1).val ∧ (i 1).val < 256 * h + 256)
  · have e0 : (i 0).val / 256 = b := by omega
    have e1 : (i 1).val / 256 = h := by omega
    have := hg (matAt ((i 0).val % 256) ((i 1).val % 256))
    have ei : (matAt (256 * b + ((matAt ((i 0).val % 256) ((i 1).val % 256) : S256x256.Idx) 0).val) (256 * h + ((matAt ((i 0).val % 256) ((i 1).val % 256) : S256x256.Idx) 1).val) : S512x4096.Idx) = i := by
      funext a
      apply Fin.ext
      match a with
      | ⟨0, _⟩ => show (256 * b + (i 0).val % 256 % 256) % 512 = (i 0).val; omega
      | ⟨1, _⟩ => show (256 * h + (i 1).val % 256 % 256) % 4096 = (i 1).val; omega
    rw [ei] at this
    rw [this]
    unfold PRM
    rw [e0, e1]
  · rw [hg' i hc]
    refine hf i ?_
    unfold dn at hi ⊢
    rcases hn with ⟨rfl, rfl, rfl⟩ | ⟨hne, rfl, rfl⟩
    · rcases hi with ⟨a, b'⟩ | ⟨a, b'⟩
      · left; refine ⟨a, ?_⟩; omega
      · omega
    · rcases hi with ⟨a, b'⟩ | ⟨a, b'⟩
      · left; refine ⟨a, ?_⟩; omega
      · right; refine ⟨a, ?_⟩; omega

theorem wrP (h : ℕ) (c : Dev nD) (hh : h < 16) {o : Fin 2 → ℕ} (ho : o = ![256 * xA c, 256 * h]) (w : S256x256.Idx → Elt F .bf16) (hw : w = PB fkr fq fqr ka (xA c) h) {inb} {hx} {hm}
    {α : Type} {k : PUnit → Prog (TpuEff nD τ sig (Elt F) Λ₀ .tc) α} {Q : α → sProp 𝕄} :
    SC fkr fq fqr ka I q h c ⊢ iprop((SC fkr fq fqr ka I q (h + 1) c -∗ WP c (k ⟨⟩) Q)
      -∗ WP c (.op (.store (Memref.whole cc0_scratch17) (Rect.unit (s := S512x4096) o S256x256.size inb) w Finset.univ hx hm) k) Q) := by
  unfold SC prb
  iintro ⟨H1, H2, H3, H4, ⟨%f, H5, %hf⟩⟩ Hk
  iapply (sb_17 c ho) $$ H5
  iintro %g %hg H5
  iapply Hk
  isplitl [H1]; · iexact H1
  isplitl [H2]; · iexact H2
  isplitl [H3]; · iexact H3
  isplitl [H4]; · iexact H4
  iexists g
  isplitl [H5]; · iexact H5
  ipureintro
  exact step_block fkr fq fqr ka (xA c) (xA c) h _ _ (xA_lt c) (xA_lt c) hh (Or.inl ⟨rfl, rfl, rfl⟩) f g w hw hf hg.1 hg.2

theorem wrS (h : ℕ) (c : Dev nD) (hh : h < 16) {o : Fin 2 → ℕ} (ho : o = ![256 * yA c, 256 * h]) (w : S256x256.Idx → Elt F .bf16) (hw : w = PB fkr fq fqr ka (yA c) h) {inb} {hx} {hm}
    {α : Type} {k : PUnit → Prog (TpuEff nD τ sig (Elt F) Λ₀ .tc) α} {Q : α → sProp 𝕄} :
    SC fkr fq fqr ka I q (16 + h) c ⊢ iprop((SC fkr fq fqr ka I q (17 + h) c -∗ WP c (k ⟨⟩) Q)
      -∗ WP c (.op (.store (Memref.whole cc0_scratch17) (Rect.unit (s := S512x4096) o S256x256.size inb) w Finset.univ hx hm) k) Q) := by
  unfold SC prb
  iintro ⟨H1, H2, H3, H4, ⟨%f, H5, %hf⟩⟩ Hk
  iapply (sb_17 c ho) $$ H5
  iintro %g %hg H5
  iapply Hk
  isplitl [H1]; · iexact H1
  isplitl [H2]; · iexact H2
  isplitl [H3]; · iexact H3
  isplitl [H4]; · iexact H4
  iexists g
  isplitl [H5]; · iexact H5
  ipureintro
  exact step_block fkr fq fqr ka (xA c) (yA c) h _ _ (xA_lt c) (yA_lt c) hh (Or.inr ⟨by unfold yA; have := xA_lt c; omega, rfl, rfl⟩) f g w hw hf hg.1 hg.2

theorem prb_all (c : Dev nD) (f : S512x4096.Idx → Elt F .bf16) (hf : ∀ i, dn (xA c) 32 i → f i = PRM fkr fq fqr ka i) : f = PRM fkr fq fqr ka := by
  funext i
  refine hf i ?_
  have h1 : (i 1).val < 4096 := (i 1).isLt
  by_cases h : (i 0).val / 256 = xA c
  · left; exact ⟨h, by omega⟩
  · right; exact ⟨h, by omega⟩

end Score

end Cert.KernelIdealProof
-- ==== Proof.KernelIdealLand.lean ====
/-
What the transfers of rows take from each buffer and what they leave in it.
-/
module

public import proofs.«01_k».proof.Proof.KernelIdealRules

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (KA KB : Dev nD → Mat F) (K : Dev nD × Fin 53 → ℕ)

theorem rows_zero {R C : ℕ} : (rows 0 R : Finset (⟨2, ![R, C]⟩ : Shape).Idx) = Finset.univ :=
  Finset.eq_univ_iff_forall.mpr fun i => mem_rows.mpr ⟨Nat.zero_le _, by rw [Nat.zero_add]; exact (i 0).isLt⟩
theorem s_addA : ∀ c : Dev nD, bA 3 (px 3 (px 1 c)) = bA 4 (px 1 c) + sA (px 1 c) := by decide +kernel
theorem k_addA : ∀ c : Dev nD, bA 3 (px 1 c) = bA 4 (px 1 c) + kA (px 1 c) := by decide +kernel
theorem s_addB : ∀ c : Dev nD, bB 3 (px 8 (px 3 c)) = bB 4 (px 3 c) + sB (px 3 c) := by decide +kernel
theorem k_addB : ∀ c : Dev nD, bB 3 (px 3 c) = bB 4 (px 3 c) + kB (px 3 c) := by decide +kernel

/-! ## What a transfer leaves -/

theorem cr_0_16 : sig.dmaCredit .tc (Kind.tc.table .vmem) (View.whole cc0_scratch0).buf S16x1024 .bf16 = 1024 := by rfl
theorem cr_0_64 : sig.dmaCredit .tc (Kind.tc.table .vmem) (View.whole cc0_scratch0).buf S64x1024 .bf16 = 4096 := by rfl
theorem cr_0_128 : sig.dmaCredit .tc (Kind.tc.table .vmem) (View.whole cc0_scratch0).buf S128x1024 .bf16 = 8192 := by rfl
theorem cr_0_256 : sig.dmaCredit .tc (Kind.tc.table .vmem) (View.whole cc0_scratch0).buf S256x1024 .bf16 = 16384 := by rfl
theorem cr_1_16 : sig.dmaCredit .tc (Kind.tc.table .vmem) (View.whole cc0_scratch1).buf S16x1024 .bf16 = 1024 := by rfl
theorem cr_1_64 : sig.dmaCredit .tc (Kind.tc.table .vmem) (View.whole cc0_scratch1).buf S64x1024 .bf16 = 4096 := by rfl
theorem cr_1_128 : sig.dmaCredit .tc (Kind.tc.table .vmem) (View.whole cc0_scratch1).buf S128x1024 .bf16 = 8192 := by rfl
theorem cr_1_256 : sig.dmaCredit .tc (Kind.tc.table .vmem) (View.whole cc0_scratch1).buf S256x1024 .bf16 = 16384 := by rfl
theorem cr_2_128 : sig.dmaCredit .tc (Kind.tc.table .vmem) (View.whole cc0_scratch2).buf S128x1024 .bf16 = 8192 := by rfl
theorem cr_3_128 : sig.dmaCredit .tc (Kind.tc.table .vmem) (View.whole cc0_scratch3).buf S128x1024 .bf16 = 8192 := by rfl
theorem cr_4_64 : sig.dmaCredit .tc (Kind.tc.table .vmem) (View.whole cc0_scratch4).buf S64x1024 .bf16 = 4096 := by rfl
theorem cr_5_128 : sig.dmaCredit .tc (Kind.tc.table .vmem) (View.whole cc0_scratch5).buf S128x1024 .bf16 = 8192 := by rfl
theorem cr_6_128 : sig.dmaCredit .tc (Kind.tc.table .vmem) (View.whole cc0_scratch6).buf S128x1024 .bf16 = 8192 := by rfl
theorem cr_7_64 : sig.dmaCredit .tc (Kind.tc.table .vmem) (View.whole cc0_scratch7).buf S64x1024 .bf16 = 4096 := by rfl
theorem cr_8_16 : sig.dmaCredit .tc (Kind.tc.table .vmem) (View.whole cc0_scratch8).buf S16x1024 .bf16 = 1024 := by rfl
theorem cr_9_16 : sig.dmaCredit .tc (Kind.tc.table .vmem) (View.whole cc0_scratch9).buf S16x1024 .bf16 = 1024 := by rfl
theorem cr_10_16 : sig.dmaCredit .tc (Kind.tc.table .vmem) (View.whole cc0_scratch10).buf S16x1024 .bf16 = 1024 := by rfl
theorem cr_11_16 : sig.dmaCredit .tc (Kind.tc.table .vmem) (View.whole cc0_scratch11).buf S16x1024 .bf16 = 1024 := by rfl
theorem cr_12_16 : sig.dmaCredit .tc (Kind.tc.table .vmem) (View.whole cc0_scratch12).buf S16x1024 .bf16 = 1024 := by rfl
theorem cr_13_16 : sig.dmaCredit .tc (Kind.tc.table .vmem) (View.whole cc0_scratch13).buf S16x1024 .bf16 = 1024 := by rfl

section Land
variable {off off' : Fin 2 → ℕ} {ld ls b : ℕ}

theorem at_0_16 (h : off = ![ld, 0]) (inb) (n : Dev nD) (q : PosShare TreeShare) (f : Buf (Elt F) ((n : Thread nD τ).loc cc0_scratch0)) :
    (((Memref.whole cc0_scratch0).slice (Rect.unit (s := S512x1024) off S16x1024.size inb) (fun _ => rfl)).view.loc (n : Thread nD τ) ↦[((Memref.whole cc0_scratch0).slice (Rect.unit (s := S512x1024) off S16x1024.size inb) (fun _ => rfl)).view.set]{q} f : sProp 𝕄) = pt cc0_scratch0 n (rows ld 16) q f := by
  subst h; exact at_block (i := cc0_scratch0.idx) _ (rect_rows rfl inb) n q f
theorem at_0_64 (h : off = ![ld, 0]) (inb) (n : Dev nD) (q : PosShare TreeShare) (f : Buf (Elt F) ((n : Thread nD τ).loc cc0_scratch0)) :
    (((Memref.whole cc0_scratch0).slice (Rect.unit (s := S512x1024) off S64x1024.size inb) (fun _ => rfl)).view.loc (n : Thread nD τ) ↦[((Memref.whole cc0_scratch0).slice (Rect.unit (s := S512x1024) off S64x1024.size inb) (fun _ => rfl)).view.set]{q} f : sProp 𝕄) = pt cc0_scratch0 n (rows ld 64) q f := by
  subst h; exact at_block (i := cc0_scratch0.idx) _ (rect_rows rfl inb) n q f
theorem at_0_128 (h : off = ![ld, 0]) (inb) (n : Dev nD) (q : PosShare TreeShare) (f : Buf (Elt F) ((n : Thread nD τ).loc cc0_scratch0)) :
    (((Memref.whole cc0_scratch0).slice (Rect.unit (s := S512x1024) off S128x1024.size inb) (fun _ => rfl)).view.loc (n : Thread nD τ) ↦[((Memref.whole cc0_scratch0).slice (Rect.unit (s := S512x1024) off S128x1024.size inb) (fun _ => rfl)).view.set]{q} f : sProp 𝕄) = pt cc0_scratch0 n (rows ld 128) q f := by
  subst h; exact at_block (i := cc0_scratch0.idx) _ (rect_rows rfl inb) n q f
theorem at_0_256 (h : off = ![ld, 0]) (inb) (n : Dev nD) (q : PosShare TreeShare) (f : Buf (Elt F) ((n : Thread nD τ).loc cc0_scratch0)) :
    (((Memref.whole cc0_scratch0).slice (Rect.unit (s := S512x1024) off S256x1024.size inb) (fun _ => rfl)).view.loc (n : Thread nD τ) ↦[((Memref.whole cc0_scratch0).slice (Rect.unit (s := S512x1024) off S256x1024.size inb) (fun _ => rfl)).view.set]{q} f : sProp 𝕄) = pt cc0_scratch0 n (rows ld 256) q f := by
  subst h; exact at_block (i := cc0_scratch0.idx) _ (rect_rows rfl inb) n q f
theorem at_1_16 (h : off = ![ld, 0]) (inb) (n : Dev nD) (q : PosShare TreeShare) (f : Buf (Elt F) ((n : Thread nD τ).loc cc0_scratch1)) :
    (((Memref.whole cc0_scratch1).slice (Rect.unit (s := S512x1024) off S16x1024.size inb) (fun _ => rfl)).view.loc (n : Thread nD τ) ↦[((Memref.whole cc0_scratch1).slice (Rect.unit (s := S512x1024) off S16x1024.size inb) (fun _ => rfl)).view.set]{q} f : sProp 𝕄) = pt cc0_scratch1 n (rows ld 16) q f := by
  subst h; exact at_block (i := cc0_scratch1.idx) _ (rect_rows rfl inb) n q f
theorem at_1_64 (h : off = ![ld, 0]) (inb) (n : Dev nD) (q : PosShare TreeShare) (f : Buf (Elt F) ((n : Thread nD τ).loc cc0_scratch1)) :
    (((Memref.whole cc0_scratch1).slice (Rect.unit (s := S512x1024) off S64x1024.size inb) (fun _ => rfl)).view.loc (n : Thread nD τ) ↦[((Memref.whole cc0_scratch1).slice (Rect.unit (s := S512x1024) off S64x1024.size inb) (fun _ => rfl)).view.set]{q} f : sProp 𝕄) = pt cc0_scratch1 n (rows ld 64) q f := by
  subst h; exact at_block (i := cc0_scratch1.idx) _ (rect_rows rfl inb) n q f
theorem at_1_128 (h : off = ![ld, 0]) (inb) (n : Dev nD) (q : PosShare TreeShare) (f : Buf (Elt F) ((n : Thread nD τ).loc cc0_scratch1)) :
    (((Memref.whole cc0_scratch1).slice (Rect.unit (s := S512x1024) off S128x1024.size inb) (fun _ => rfl)).view.loc (n : Thread nD τ) ↦[((Memref.whole cc0_scratch1).slice (Rect.unit (s := S512x1024) off S128x1024.size inb) (fun _ => rfl)).view.set]{q} f : sProp 𝕄) = pt cc0_scratch1 n (rows ld 128) q f := by
  subst h; exact at_block (i := cc0_scratch1.idx) _ (rect_rows rfl inb) n q f
theorem at_1_256 (h : off = ![ld, 0]) (inb) (n : Dev nD) (q : PosShare TreeShare) (f : Buf (Elt F) ((n : Thread nD τ).loc cc0_scratch1)) :
    (((Memref.whole cc0_scratch1).slice (Rect.unit (s := S512x1024) off S256x1024.size inb) (fun _ => rfl)).view.loc (n : Thread nD τ) ↦[((Memref.whole cc0_scratch1).slice (Rect.unit (s := S512x1024) off S256x1024.size inb) (fun _ => rfl)).view.set]{q} f : sProp 𝕄) = pt cc0_scratch1 n (rows ld 256) q f := by
  subst h; exact at_block (i := cc0_scratch1.idx) _ (rect_rows rfl inb) n q f
theorem at_2_128 (h : off = ![ld, 0]) (inb) (n : Dev nD) (q : PosShare TreeShare) (f : Buf (Elt F) ((n : Thread nD τ).loc cc0_scratch2)) :
    (((Memref.whole cc0_scratch2).slice (Rect.unit (s := S256x1024) off S128x1024.size inb) (fun _ => rfl)).view.loc (n : Thread nD τ) ↦[((Memref.whole cc0_scratch2).slice (Rect.unit (s := S256x1024) off S128x1024.size inb) (fun _ => rfl)).view.set]{q} f : sProp 𝕄) = pt cc0_scratch2 n (rows ld 128) q f := by
  subst h; exact at_block (i := cc0_scratch2.idx) _ (rect_rows rfl inb) n q f
theorem at_3_128 (h : off = ![ld, 0]) (inb) (n : Dev nD) (q : PosShare TreeShare) (f : Buf (Elt F) ((n : Thread nD τ).loc cc0_scratch3)) :
    (((Memref.whole cc0_scratch3).slice (Rect.unit (s := S128x1024) off S128x1024.size inb) (fun _ => rfl)).view.loc (n : Thread nD τ) ↦[((Memref.whole cc0_scratch3).slice (Rect.unit (s := S128x1024) off S128x1024.size inb) (fun _ => rfl)).view.set]{q} f : sProp 𝕄) = pt cc0_scratch3 n (rows ld 128) q f := by
  subst h; exact at_block (i := cc0_scratch3.idx) _ (rect_rows rfl inb) n q f
theorem at_4_64 (h : off = ![ld, 0]) (inb) (n : Dev nD) (q : PosShare TreeShare) (f : Buf (Elt F) ((n : Thread nD τ).loc cc0_scratch4)) :
    (((Memref.whole cc0_scratch4).slice (Rect.unit (s := S64x1024) off S64x1024.size inb) (fun _ => rfl)).view.loc (n : Thread nD τ) ↦[((Memref.whole cc0_scratch4).slice (Rect.unit (s := S64x1024) off S64x1024.size inb) (fun _ => rfl)).view.set]{q} f : sProp 𝕄) = pt cc0_scratch4 n (rows ld 64) q f := by
  subst h; exact at_block (i := cc0_scratch4.idx) _ (rect_rows rfl inb) n q f
theorem at_5_128 (h : off = ![ld, 0]) (inb) (n : Dev nD) (q : PosShare TreeShare) (f : Buf (Elt F) ((n : Thread nD τ).loc cc0_scratch5)) :
    (((Memref.whole cc0_scratch5).slice (Rect.unit (s := S256x1024) off S128x1024.size inb) (fun _ => rfl)).view.loc (n : Thread nD τ) ↦[((Memref.whole cc0_scratch5).slice (Rect.unit (s := S256x1024) off S128x1024.size inb) (fun _ => rfl)).view.set]{q} f : sProp 𝕄) = pt cc0_scratch5 n (rows ld 128) q f := by
  subst h; exact at_block (i := cc0_scratch5.idx) _ (rect_rows rfl inb) n q f
theorem at_6_128 (h : off = ![ld, 0]) (inb) (n : Dev nD) (q : PosShare TreeShare) (f : Buf (Elt F) ((n : Thread nD τ).loc cc0_scratch6)) :
    (((Memref.whole cc0_scratch6).slice (Rect.unit (s := S128x1024) off S128x1024.size inb) (fun _ => rfl)).view.loc (n : Thread nD τ) ↦[((Memref.whole cc0_scratch6).slice (Rect.unit (s := S128x1024) off S128x1024.size inb) (fun _ => rfl)).view.set]{q} f : sProp 𝕄) = pt cc0_scratch6 n (rows ld 128) q f := by
  subst h; exact at_block (i := cc0_scratch6.idx) _ (rect_rows rfl inb) n q f
theorem at_7_64 (h : off = ![ld, 0]) (inb) (n : Dev nD) (q : PosShare TreeShare) (f : Buf (Elt F) ((n : Thread nD τ).loc cc0_scratch7)) :
    (((Memref.whole cc0_scratch7).slice (Rect.unit (s := S64x1024) off S64x1024.size inb) (fun _ => rfl)).view.loc (n : Thread nD τ) ↦[((Memref.whole cc0_scratch7).slice (Rect.unit (s := S64x1024) off S64x1024.size inb) (fun _ => rfl)).view.set]{q} f : sProp 𝕄) = pt cc0_scratch7 n (rows ld 64) q f := by
  subst h; exact at_block (i := cc0_scratch7.idx) _ (rect_rows rfl inb) n q f
theorem at_8_16 (h : off = ![ld, 0]) (inb) (n : Dev nD) (q : PosShare TreeShare) (f : Buf (Elt F) ((n : Thread nD τ).loc cc0_scratch8)) :
    (((Memref.whole cc0_scratch8).slice (Rect.unit (s := S16x1024) off S16x1024.size inb) (fun _ => rfl)).view.loc (n : Thread nD τ) ↦[((Memref.whole cc0_scratch8).slice (Rect.unit (s := S16x1024) off S16x1024.size inb) (fun _ => rfl)).view.set]{q} f : sProp 𝕄) = pt cc0_scratch8 n (rows ld 16) q f := by
  subst h; exact at_block (i := cc0_scratch8.idx) _ (rect_rows rfl inb) n q f
theorem at_9_16 (h : off = ![ld, 0]) (inb) (n : Dev nD) (q : PosShare TreeShare) (f : Buf (Elt F) ((n : Thread nD τ).loc cc0_scratch9)) :
    (((Memref.whole cc0_scratch9).slice (Rect.unit (s := S16x1024) off S16x1024.size inb) (fun _ => rfl)).view.loc (n : Thread nD τ) ↦[((Memref.whole cc0_scratch9).slice (Rect.unit (s := S16x1024) off S16x1024.size inb) (fun _ => rfl)).view.set]{q} f : sProp 𝕄) = pt cc0_scratch9 n (rows ld 16) q f := by
  subst h; exact at_block (i := cc0_scratch9.idx) _ (rect_rows rfl inb) n q f
theorem at_10_16 (h : off = ![ld, 0]) (inb) (n : Dev nD) (q : PosShare TreeShare) (f : Buf (Elt F) ((n : Thread nD τ).loc cc0_scratch10)) :
    (((Memref.whole cc0_scratch10).slice (Rect.unit (s := S16x1024) off S16x1024.size inb) (fun _ => rfl)).view.loc (n : Thread nD τ) ↦[((Memref.whole cc0_scratch10).slice (Rect.unit (s := S16x1024) off S16x1024.size inb) (fun _ => rfl)).view.set]{q} f : sProp 𝕄) = pt cc0_scratch10 n (rows ld 16) q f := by
  subst h; exact at_block (i := cc0_scratch10.idx) _ (rect_rows rfl inb) n q f
theorem at_11_16 (h : off = ![ld, 0]) (inb) (n : Dev nD) (q : PosShare TreeShare) (f : Buf (Elt F) ((n : Thread nD τ).loc cc0_scratch11)) :
    (((Memref.whole cc0_scratch11).slice (Rect.unit (s := S16x1024) off S16x1024.size inb) (fun _ => rfl)).view.loc (n : Thread nD τ) ↦[((Memref.whole cc0_scratch11).slice (Rect.unit (s := S16x1024) off S16x1024.size inb) (fun _ => rfl)).view.set]{q} f : sProp 𝕄) = pt cc0_scratch11 n (rows ld 16) q f := by
  subst h; exact at_block (i := cc0_scratch11.idx) _ (rect_rows rfl inb) n q f
theorem at_12_16 (h : off = ![ld, 0]) (inb) (n : Dev nD) (q : PosShare TreeShare) (f : Buf (Elt F) ((n : Thread nD τ).loc cc0_scratch12)) :
    (((Memref.whole cc0_scratch12).slice (Rect.unit (s := S16x1024) off S16x1024.size inb) (fun _ => rfl)).view.loc (n : Thread nD τ) ↦[((Memref.whole cc0_scratch12).slice (Rect.unit (s := S16x1024) off S16x1024.size inb) (fun _ => rfl)).view.set]{q} f : sProp 𝕄) = pt cc0_scratch12 n (rows ld 16) q f := by
  subst h; exact at_block (i := cc0_scratch12.idx) _ (rect_rows rfl inb) n q f
theorem at_13_16 (h : off = ![ld, 0]) (inb) (n : Dev nD) (q : PosShare TreeShare) (f : Buf (Elt F) ((n : Thread nD τ).loc cc0_scratch13)) :
    (((Memref.whole cc0_scratch13).slice (Rect.unit (s := S16x1024) off S16x1024.size inb) (fun _ => rfl)).view.loc (n : Thread nD τ) ↦[((Memref.whole cc0_scratch13).slice (Rect.unit (s := S16x1024) off S16x1024.size inb) (fun _ => rfl)).view.set]{q} f : sProp 𝕄) = pt cc0_scratch13 n (rows ld 16) q f := by
  subst h; exact at_block (i := cc0_scratch13.idx) _ (rect_rows rfl inb) n q f
theorem arr_2 (h : off = ![ld, 0]) (h' : off' = ![ls, 0]) (e : ls = b + ld) (inb) (inb') (n : Dev nD) (fd) (f : Mat F) :
    (((Memref.whole cc0_scratch2).slice (Rect.unit (s := S256x1024) off S128x1024.size inb) (fun _ => rfl)).view.loc (n : Thread nD τ) ↦[((Memref.whole cc0_scratch2).slice (Rect.unit (s := S256x1024) off S128x1024.size inb) (fun _ => rfl)).view.set]{fullShare} ((Memref.whole cc0_scratch2).slice (Rect.unit (s := S256x1024) off S128x1024.size inb) (fun _ => rfl)).view.write (Elt F) fd (((Memref.whole cc0_scratch0).slice (Rect.unit (s := S512x1024) off' S128x1024.size inb') (fun _ => rfl)).view.read (Elt F) f) Finset.univ : sProp 𝕄) = pt cc0_scratch2 n (rows ld 128) fullShare (shf b f) := by
  subst h h'; exact arr_block (i := cc0_scratch2.idx) _ (rect_rows rfl inb) n fd (shf b f) (shf_emb e f inb' inb)
theorem arr_5 (h : off = ![ld, 0]) (h' : off' = ![ls, 0]) (e : ls = b + ld) (inb) (inb') (n : Dev nD) (fd) (f : Mat F) :
    (((Memref.whole cc0_scratch5).slice (Rect.unit (s := S256x1024) off S128x1024.size inb) (fun _ => rfl)).view.loc (n : Thread nD τ) ↦[((Memref.whole cc0_scratch5).slice (Rect.unit (s := S256x1024) off S128x1024.size inb) (fun _ => rfl)).view.set]{fullShare} ((Memref.whole cc0_scratch5).slice (Rect.unit (s := S256x1024) off S128x1024.size inb) (fun _ => rfl)).view.write (Elt F) fd (((Memref.whole cc0_scratch1).slice (Rect.unit (s := S512x1024) off' S128x1024.size inb') (fun _ => rfl)).view.read (Elt F) f) Finset.univ : sProp 𝕄) = pt cc0_scratch5 n (rows ld 128) fullShare (shf b f) := by
  subst h h'; exact arr_block (i := cc0_scratch5.idx) _ (rect_rows rfl inb) n fd (shf b f) (shf_emb e f inb' inb)
theorem arr_3 (h : off = ![ld, 0]) (h' : off' = ![ls, 0]) (e : ls = b + ld) (inb) (inb') (n : Dev nD) (fd) (f : Mat F) :
    (((Memref.whole cc0_scratch3).slice (Rect.unit (s := S128x1024) off S128x1024.size inb) (fun _ => rfl)).view.loc (n : Thread nD τ) ↦[((Memref.whole cc0_scratch3).slice (Rect.unit (s := S128x1024) off S128x1024.size inb) (fun _ => rfl)).view.set]{fullShare} ((Memref.whole cc0_scratch3).slice (Rect.unit (s := S128x1024) off S128x1024.size inb) (fun _ => rfl)).view.write (Elt F) fd (((Memref.whole cc0_scratch0).slice (Rect.unit (s := S512x1024) off' S128x1024.size inb') (fun _ => rfl)).view.read (Elt F) f) Finset.univ : sProp 𝕄) = pt cc0_scratch3 n (rows ld 128) fullShare (shf b f) := by
  subst h h'; exact arr_block (i := cc0_scratch3.idx) _ (rect_rows rfl inb) n fd (shf b f) (shf_emb e f inb' inb)
theorem arr_6 (h : off = ![ld, 0]) (h' : off' = ![ls, 0]) (e : ls = b + ld) (inb) (inb') (n : Dev nD) (fd) (f : Mat F) :
    (((Memref.whole cc0_scratch6).slice (Rect.unit (s := S128x1024) off S128x1024.size inb) (fun _ => rfl)).view.loc (n : Thread nD τ) ↦[((Memref.whole cc0_scratch6).slice (Rect.unit (s := S128x1024) off S128x1024.size inb) (fun _ => rfl)).view.set]{fullShare} ((Memref.whole cc0_scratch6).slice (Rect.unit (s := S128x1024) off S128x1024.size inb) (fun _ => rfl)).view.write (Elt F) fd (((Memref.whole cc0_scratch1).slice (Rect.unit (s := S512x1024) off' S128x1024.size inb') (fun _ => rfl)).view.read (Elt F) f) Finset.univ : sProp 𝕄) = pt cc0_scratch6 n (rows ld 128) fullShare (shf b f) := by
  subst h h'; exact arr_block (i := cc0_scratch6.idx) _ (rect_rows rfl inb) n fd (shf b f) (shf_emb e f inb' inb)
theorem arr_4 (h : off = ![ld, 0]) (h' : off' = ![ls, 0]) (e : ls = b + ld) (inb) (inb') (n : Dev nD) (fd) (f : Mat F) :
    (((Memref.whole cc0_scratch4).slice (Rect.unit (s := S64x1024) off S64x1024.size inb) (fun _ => rfl)).view.loc (n : Thread nD τ) ↦[((Memref.whole cc0_scratch4).slice (Rect.unit (s := S64x1024) off S64x1024.size inb) (fun _ => rfl)).view.set]{fullShare} ((Memref.whole cc0_scratch4).slice (Rect.unit (s := S64x1024) off S64x1024.size inb) (fun _ => rfl)).view.write (Elt F) fd (((Memref.whole cc0_scratch0).slice (Rect.unit (s := S512x1024) off' S64x1024.size inb') (fun _ => rfl)).view.read (Elt F) f) Finset.univ : sProp 𝕄) = pt cc0_scratch4 n (rows ld 64) fullShare (shf b f) := by
  subst h h'; exact arr_block (i := cc0_scratch4.idx) _ (rect_rows rfl inb) n fd (shf b f) (shf_emb e f inb' inb)
theorem arr_7 (h : off = ![ld, 0]) (h' : off' = ![ls, 0]) (e : ls = b + ld) (inb) (inb') (n : Dev nD) (fd) (f : Mat F) :
    (((Memref.whole cc0_scratch7).slice (Rect.unit (s := S64x1024) off S64x1024.size inb) (fun _ => rfl)).view.loc (n : Thread nD τ) ↦[((Memref.whole cc0_scratch7).slice (Rect.unit (s := S64x1024) off S64x1024.size inb) (fun _ => rfl)).view.set]{fullShare} ((Memref.whole cc0_scratch7).slice (Rect.unit (s := S64x1024) off S64x1024.size inb) (fun _ => rfl)).view.write (Elt F) fd (((Memref.whole cc0_scratch1).slice (Rect.unit (s := S512x1024) off' S64x1024.size inb') (fun _ => rfl)).view.read (Elt F) f) Finset.univ : sProp 𝕄) = pt cc0_scratch7 n (rows ld 64) fullShare (shf b f) := by
  subst h h'; exact arr_block (i := cc0_scratch7.idx) _ (rect_rows rfl inb) n fd (shf b f) (shf_emb e f inb' inb)
theorem arr_8 (h : off = ![ld, 0]) (h' : off' = ![ls, 0]) (e : ls = b + ld) (inb) (inb') (n : Dev nD) (fd) (f : Mat F) :
    (((Memref.whole cc0_scratch8).slice (Rect.unit (s := S16x1024) off S16x1024.size inb) (fun _ => rfl)).view.loc (n : Thread nD τ) ↦[((Memref.whole cc0_scratch8).slice (Rect.unit (s := S16x1024) off S16x1024.size inb) (fun _ => rfl)).view.set]{fullShare} ((Memref.whole cc0_scratch8).slice (Rect.unit (s := S16x1024) off S16x1024.size inb) (fun _ => rfl)).view.write (Elt F) fd (((Memref.whole cc0_scratch0).slice (Rect.unit (s := S512x1024) off' S16x1024.size inb') (fun _ => rfl)).view.read (Elt F) f) Finset.univ : sProp 𝕄) = pt cc0_scratch8 n (rows ld 16) fullShare (shf b f) := by
  subst h h'; exact arr_block (i := cc0_scratch8.idx) _ (rect_rows rfl inb) n fd (shf b f) (shf_emb e f inb' inb)
theorem arr_9 (h : off = ![ld, 0]) (h' : off' = ![ls, 0]) (e : ls = b + ld) (inb) (inb') (n : Dev nD) (fd) (f : Mat F) :
    (((Memref.whole cc0_scratch9).slice (Rect.unit (s := S16x1024) off S16x1024.size inb) (fun _ => rfl)).view.loc (n : Thread nD τ) ↦[((Memref.whole cc0_scratch9).slice (Rect.unit (s := S16x1024) off S16x1024.size inb) (fun _ => rfl)).view.set]{fullShare} ((Memref.whole cc0_scratch9).slice (Rect.unit (s := S16x1024) off S16x1024.size inb) (fun _ => rfl)).view.write (Elt F) fd (((Memref.whole cc0_scratch0).slice (Rect.unit (s := S512x1024) off' S16x1024.size inb') (fun _ => rfl)).view.read (Elt F) f) Finset.univ : sProp 𝕄) = pt cc0_scratch9 n (rows ld 16) fullShare (shf b f) := by
  subst h h'; exact arr_block (i := cc0_scratch9.idx) _ (rect_rows rfl inb) n fd (shf b f) (shf_emb e f inb' inb)
theorem arr_10 (h : off = ![ld, 0]) (h' : off' = ![ls, 0]) (e : ls = b + ld) (inb) (inb') (n : Dev nD) (fd) (f : Mat F) :
    (((Memref.whole cc0_scratch10).slice (Rect.unit (s := S16x1024) off S16x1024.size inb) (fun _ => rfl)).view.loc (n : Thread nD τ) ↦[((Memref.whole cc0_scratch10).slice (Rect.unit (s := S16x1024) off S16x1024.size inb) (fun _ => rfl)).view.set]{fullShare} ((Memref.whole cc0_scratch10).slice (Rect.unit (s := S16x1024) off S16x1024.size inb) (fun _ => rfl)).view.write (Elt F) fd (((Memref.whole cc0_scratch0).slice (Rect.unit (s := S512x1024) off' S16x1024.size inb') (fun _ => rfl)).view.read (Elt F) f) Finset.univ : sProp 𝕄) = pt cc0_scratch10 n (rows ld 16) fullShare (shf b f) := by
  subst h h'; exact arr_block (i := cc0_scratch10.idx) _ (rect_rows rfl inb) n fd (shf b f) (shf_emb e f inb' inb)
theorem arr_11 (h : off = ![ld, 0]) (h' : off' = ![ls, 0]) (e : ls = b + ld) (inb) (inb') (n : Dev nD) (fd) (f : Mat F) :
    (((Memref.whole cc0_scratch11).slice (Rect.unit (s := S16x1024) off S16x1024.size inb) (fun _ => rfl)).view.loc (n : Thread nD τ) ↦[((Memref.whole cc0_scratch11).slice (Rect.unit (s := S16x1024) off S16x1024.size inb) (fun _ => rfl)).view.set]{fullShare} ((Memref.whole cc0_scratch11).slice (Rect.unit (s := S16x1024) off S16x1024.size inb) (fun _ => rfl)).view.write (Elt F) fd (((Memref.whole cc0_scratch1).slice (Rect.unit (s := S512x1024) off' S16x1024.size inb') (fun _ => rfl)).view.read (Elt F) f) Finset.univ : sProp 𝕄) = pt cc0_scratch11 n (rows ld 16) fullShare (shf b f) := by
  subst h h'; exact arr_block (i := cc0_scratch11.idx) _ (rect_rows rfl inb) n fd (shf b f) (shf_emb e f inb' inb)
theorem arr_12 (h : off = ![ld, 0]) (h' : off' = ![ls, 0]) (e : ls = b + ld) (inb) (inb') (n : Dev nD) (fd) (f : Mat F) :
    (((Memref.whole cc0_scratch12).slice (Rect.unit (s := S16x1024) off S16x1024.size inb) (fun _ => rfl)).view.loc (n : Thread nD τ) ↦[((Memref.whole cc0_scratch12).slice (Rect.unit (s := S16x1024) off S16x1024.size inb) (fun _ => rfl)).view.set]{fullShare} ((Memref.whole cc0_scratch12).slice (Rect.unit (s := S16x1024) off S16x1024.size inb) (fun _ => rfl)).view.write (Elt F) fd (((Memref.whole cc0_scratch1).slice (Rect.unit (s := S512x1024) off' S16x1024.size inb') (fun _ => rfl)).view.read (Elt F) f) Finset.univ : sProp 𝕄) = pt cc0_scratch12 n (rows ld 16) fullShare (shf b f) := by
  subst h h'; exact arr_block (i := cc0_scratch12.idx) _ (rect_rows rfl inb) n fd (shf b f) (shf_emb e f inb' inb)
theorem arr_13 (h : off = ![ld, 0]) (h' : off' = ![ls, 0]) (e : ls = b + ld) (inb) (inb') (n : Dev nD) (fd) (f : Mat F) :
    (((Memref.whole cc0_scratch13).slice (Rect.unit (s := S16x1024) off S16x1024.size inb) (fun _ => rfl)).view.loc (n : Thread nD τ) ↦[((Memref.whole cc0_scratch13).slice (Rect.unit (s := S16x1024) off S16x1024.size inb) (fun _ => rfl)).view.set]{fullShare} ((Memref.whole cc0_scratch13).slice (Rect.unit (s := S16x1024) off S16x1024.size inb) (fun _ => rfl)).view.write (Elt F) fd (((Memref.whole cc0_scratch1).slice (Rect.unit (s := S512x1024) off' S16x1024.size inb') (fun _ => rfl)).view.read (Elt F) f) Finset.univ : sProp 𝕄) = pt cc0_scratch13 n (rows ld 16) fullShare (shf b f) := by
  subst h h'; exact arr_block (i := cc0_scratch13.idx) _ (rect_rows rfl inb) n fd (shf b f) (shf_emb e f inb' inb)
theorem arr_0_16 (h : off = ![ld, 0]) (inb) (inb') (n : Dev nD) (fd) (f : Mat F) :
    (((Memref.whole cc0_scratch0).slice (Rect.unit (s := S512x1024) off S16x1024.size inb) (fun _ => rfl)).view.loc (n : Thread nD τ) ↦[((Memref.whole cc0_scratch0).slice (Rect.unit (s := S512x1024) off S16x1024.size inb) (fun _ => rfl)).view.set]{fullShare} ((Memref.whole cc0_scratch0).slice (Rect.unit (s := S512x1024) off S16x1024.size inb) (fun _ => rfl)).view.write (Elt F) fd (((Memref.whole cc0_scratch0).slice (Rect.unit (s := S512x1024) off S16x1024.size inb') (fun _ => rfl)).view.read (Elt F) f) Finset.univ : sProp 𝕄) = pt cc0_scratch0 n (rows ld 16) fullShare f := by
  subst h; exact arr_block (i := cc0_scratch0.idx) _ (rect_rows rfl inb) n fd f fun _ => rfl
theorem arr_0_64 (h : off = ![ld, 0]) (inb) (inb') (n : Dev nD) (fd) (f : Mat F) :
    (((Memref.whole cc0_scratch0).slice (Rect.unit (s := S512x1024) off S64x1024.size inb) (fun _ => rfl)).view.loc (n : Thread nD τ) ↦[((Memref.whole cc0_scratch0).slice (Rect.unit (s := S512x1024) off S64x1024.size inb) (fun _ => rfl)).view.set]{fullShare} ((Memref.whole cc0_scratch0).slice (Rect.unit (s := S512x1024) off S64x1024.size inb) (fun _ => rfl)).view.write (Elt F) fd (((Memref.whole cc0_scratch0).slice (Rect.unit (s := S512x1024) off S64x1024.size inb') (fun _ => rfl)).view.read (Elt F) f) Finset.univ : sProp 𝕄) = pt cc0_scratch0 n (rows ld 64) fullShare f := by
  subst h; exact arr_block (i := cc0_scratch0.idx) _ (rect_rows rfl inb) n fd f fun _ => rfl
theorem arr_0_128 (h : off = ![ld, 0]) (inb) (inb') (n : Dev nD) (fd) (f : Mat F) :
    (((Memref.whole cc0_scratch0).slice (Rect.unit (s := S512x1024) off S128x1024.size inb) (fun _ => rfl)).view.loc (n : Thread nD τ) ↦[((Memref.whole cc0_scratch0).slice (Rect.unit (s := S512x1024) off S128x1024.size inb) (fun _ => rfl)).view.set]{fullShare} ((Memref.whole cc0_scratch0).slice (Rect.unit (s := S512x1024) off S128x1024.size inb) (fun _ => rfl)).view.write (Elt F) fd (((Memref.whole cc0_scratch0).slice (Rect.unit (s := S512x1024) off S128x1024.size inb') (fun _ => rfl)).view.read (Elt F) f) Finset.univ : sProp 𝕄) = pt cc0_scratch0 n (rows ld 128) fullShare f := by
  subst h; exact arr_block (i := cc0_scratch0.idx) _ (rect_rows rfl inb) n fd f fun _ => rfl
theorem arr_0_256 (h : off = ![ld, 0]) (inb) (inb') (n : Dev nD) (fd) (f : Mat F) :
    (((Memref.whole cc0_scratch0).slice (Rect.unit (s := S512x1024) off S256x1024.size inb) (fun _ => rfl)).view.loc (n : Thread nD τ) ↦[((Memref.whole cc0_scratch0).slice (Rect.unit (s := S512x1024) off S256x1024.size inb) (fun _ => rfl)).view.set]{fullShare} ((Memref.whole cc0_scratch0).slice (Rect.unit (s := S512x1024) off S256x1024.size inb) (fun _ => rfl)).view.write (Elt F) fd (((Memref.whole cc0_scratch0).slice (Rect.unit (s := S512x1024) off S256x1024.size inb') (fun _ => rfl)).view.read (Elt F) f) Finset.univ : sProp 𝕄) = pt cc0_scratch0 n (rows ld 256) fullShare f := by
  subst h; exact arr_block (i := cc0_scratch0.idx) _ (rect_rows rfl inb) n fd f fun _ => rfl
theorem arr_1_16 (h : off = ![ld, 0]) (inb) (inb') (n : Dev nD) (fd) (f : Mat F) :
    (((Memref.whole cc0_scratch1).slice (Rect.unit (s := S512x1024) off S16x1024.size inb) (fun _ => rfl)).view.loc (n : Thread nD τ) ↦[((Memref.whole cc0_scratch1).slice (Rect.unit (s := S512x1024) off S16x1024.size inb) (fun _ => rfl)).view.set]{fullShare} ((Memref.whole cc0_scratch1).slice (Rect.unit (s := S512x1024) off S16x1024.size inb) (fun _ => rfl)).view.write (Elt F) fd (((Memref.whole cc0_scratch1).slice (Rect.unit (s := S512x1024) off S16x1024.size inb') (fun _ => rfl)).view.read (Elt F) f) Finset.univ : sProp 𝕄) = pt cc0_scratch1 n (rows ld 16) fullShare f := by
  subst h; exact arr_block (i := cc0_scratch1.idx) _ (rect_rows rfl inb) n fd f fun _ => rfl
theorem arr_1_64 (h : off = ![ld, 0]) (inb) (inb') (n : Dev nD) (fd) (f : Mat F) :
    (((Memref.whole cc0_scratch1).slice (Rect.unit (s := S512x1024) off S64x1024.size inb) (fun _ => rfl)).view.loc (n : Thread nD τ) ↦[((Memref.whole cc0_scratch1).slice (Rect.unit (s := S512x1024) off S64x1024.size inb) (fun _ => rfl)).view.set]{fullShare} ((Memref.whole cc0_scratch1).slice (Rect.unit (s := S512x1024) off S64x1024.size inb) (fun _ => rfl)).view.write (Elt F) fd (((Memref.whole cc0_scratch1).slice (Rect.unit (s := S512x1024) off S64x1024.size inb') (fun _ => rfl)).view.read (Elt F) f) Finset.univ : sProp 𝕄) = pt cc0_scratch1 n (rows ld 64) fullShare f := by
  subst h; exact arr_block (i := cc0_scratch1.idx) _ (rect_rows rfl inb) n fd f fun _ => rfl
theorem arr_1_128 (h : off = ![ld, 0]) (inb) (inb') (n : Dev nD) (fd) (f : Mat F) :
    (((Memref.whole cc0_scratch1).slice (Rect.unit (s := S512x1024) off S128x1024.size inb) (fun _ => rfl)).view.loc (n : Thread nD τ) ↦[((Memref.whole cc0_scratch1).slice (Rect.unit (s := S512x1024) off S128x1024.size inb) (fun _ => rfl)).view.set]{fullShare} ((Memref.whole cc0_scratch1).slice (Rect.unit (s := S512x1024) off S128x1024.size inb) (fun _ => rfl)).view.write (Elt F) fd (((Memref.whole cc0_scratch1).slice (Rect.unit (s := S512x1024) off S128x1024.size inb') (fun _ => rfl)).view.read (Elt F) f) Finset.univ : sProp 𝕄) = pt cc0_scratch1 n (rows ld 128) fullShare f := by
  subst h; exact arr_block (i := cc0_scratch1.idx) _ (rect_rows rfl inb) n fd f fun _ => rfl
theorem arr_1_256 (h : off = ![ld, 0]) (inb) (inb') (n : Dev nD) (fd) (f : Mat F) :
    (((Memref.whole cc0_scratch1).slice (Rect.unit (s := S512x1024) off S256x1024.size inb) (fun _ => rfl)).view.loc (n : Thread nD τ) ↦[((Memref.whole cc0_scratch1).slice (Rect.unit (s := S512x1024) off S256x1024.size inb) (fun _ => rfl)).view.set]{fullShare} ((Memref.whole cc0_scratch1).slice (Rect.unit (s := S512x1024) off S256x1024.size inb) (fun _ => rfl)).view.write (Elt F) fd (((Memref.whole cc0_scratch1).slice (Rect.unit (s := S512x1024) off S256x1024.size inb') (fun _ => rfl)).view.read (Elt F) f) Finset.univ : sProp 𝕄) = pt cc0_scratch1 n (rows ld 256) fullShare f := by
  subst h; exact arr_block (i := cc0_scratch1.idx) _ (rect_rows rfl inb) n fd f fun _ => rfl

end Land

end Cert.KernelIdealProof
-- ==== Proof.KernelIdealSends.lean ====
/-
The twenty-six transfers and the sums between them, over the program's own text: what each transfer reads and writes,
and what each sum leaves in the accumulator.
-/
module

public import proofs.«01_k».proof.Proof.KernelIdealLand

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (KA KB : Dev nD → Mat F) (K : Dev nD × Fin 53 → ℕ)

set_option maxHeartbeats 1000000 in
theorem send_0 (c n : Dev nD) (hn : n = px 1 c) {o : Fin 2 → ℕ} (ho : o = ![bA 3 (px 3 (px 1 c)), 0]) {inb} {o1 : Fin 2 → ℕ} (ho1 : o1 = ![sA (px 1 c), 0]) {inb1} {hsc} {hsrc} {hdst} {hsem}
    {α : Type} {k : PUnit → Prog (TpuEff nD τ sig (Elt F) Λ₀ .tc) α} {Q : α → sProp 𝕄} :
    iprop(env KA KB K ∗ owing F 26 c ∗ pt cc0_scratch0 c (RA 3 (px 3 (px 1 c))) fullShare (KA c)
        ∗ own (F := F) cc0_scratch2 (px 1 c) (LA (sA (px 1 c))) ∗ pre F 0 c)
      ⊢ iprop(((owing F 25 c ∗ mid F 0 c) -∗ WP c (k ⟨⟩) Q)
        -∗ WP c (.op (.enqueueDma ((Memref.whole cc0_scratch0).slice (Rect.unit (s := S512x1024) (o) S128x1024.size inb) (fun _ => rfl))
            (.remote (Dev.tc n : Thread nD τ) ((Memref.whole cc0_scratch2).slice (Rect.unit (s := S256x1024) (o1) S128x1024.size inb1) (fun _ => rfl)) (.dma ((cc0_scratch26.slice (Rect.unit (s := S4) ![0] S1.size inb_S4_S1_0)).squeeze S_ squeezes_S1_S_).sem) hsc)
            (.dma ((cc0_scratch27.slice (Rect.unit (s := S4) ![0] S1.size inb_S4_S1_0)).squeeze S_ squeezes_S1_S_).sem) hsrc hdst hsem) k) Q) := by
  subst hn
  have hP : pt cc0_scratch0 c (RA 3 (px 3 (px 1 c))) fullShare (KA c) = _ := (at_0_128 (F := F) ho (inb) c fullShare (KA c)).symm
  have hD : ∀ fd, pt (F := F) cc0_scratch2 (px 1 c) (LA (sA (px 1 c))) fullShare fd = _ := fun fd => ((at_2_128 (F := F) (ho1) (inb1) (px 1 c) fullShare fd).symm)
  refine send_land KA KB K 0 c (px 1 c) rfl rfl rfl _ _ (KA c) cr_2_128 (Entails.of_eq hP) ?_ rfl ?_
  · iintro ⟨%fd, H⟩; iexists fd; iapply (Entails.of_eq (hD fd)); iexact H
  · intro fd
    have hv := arr_2 (F := F) (ho1) ho (b := bA 4 (px 1 c)) (s_addA c) (inb1) (inb) (px 1 c) fd (KA c)
    refine BIBase.Entails.trans (BIClass.sep_mono (Entails.of_eq hv) (Entails.of_eq hP.symm)) ?_
    refine BIBase.Entails.trans (BIClass.sep_mono BIBase.Entails.rfl (exists_intro (Φ := fun f => pt (F := F) cc0_scratch0 c (RA 3 (px 3 (px 1 c))) fullShare f) (KA c))) ?_
    have e : px 1 (px 1 c) = c := px_px 1 (by decide) c
    show _ ⊢ iprop(_ ∗ _)
    rw [e]

set_option maxHeartbeats 1000000 in
theorem send_1 (c n : Dev nD) (hn : n = px 1 c) {o : Fin 2 → ℕ} (ho : o = ![bA 3 (px 1 c), 0]) {inb} {o1 : Fin 2 → ℕ} (ho1 : o1 = ![kA (px 1 c), 0]) {inb1} {hsc} {hsrc} {hdst} {hsem}
    {α : Type} {k : PUnit → Prog (TpuEff nD τ sig (Elt F) Λ₀ .tc) α} {Q : α → sProp 𝕄} :
    iprop(env KA KB K ∗ owing F 25 c ∗ pt cc0_scratch0 c (RA 3 (px 1 c)) fullShare (KA c)
        ∗ own (F := F) cc0_scratch2 (px 1 c) (LA (kA (px 1 c))) ∗ pre F 1 c)
      ⊢ iprop(((owing F 24 c ∗ mid F 1 c) -∗ WP c (k ⟨⟩) Q)
        -∗ WP c (.op (.enqueueDma ((Memref.whole cc0_scratch0).slice (Rect.unit (s := S512x1024) (o) S128x1024.size inb) (fun _ => rfl))
            (.remote (Dev.tc n : Thread nD τ) ((Memref.whole cc0_scratch2).slice (Rect.unit (s := S256x1024) (o1) S128x1024.size inb1) (fun _ => rfl)) (.dma ((cc0_scratch26.slice (Rect.unit (s := S4) ![1] S1.size inb_S4_S1_1)).squeeze S_ squeezes_S1_S_).sem) hsc)
            (.dma ((cc0_scratch27.slice (Rect.unit (s := S4) ![1] S1.size inb_S4_S1_1)).squeeze S_ squeezes_S1_S_).sem) hsrc hdst hsem) k) Q) := by
  subst hn
  have hP : pt cc0_scratch0 c (RA 3 (px 1 c)) fullShare (KA c) = _ := (at_0_128 (F := F) ho (inb) c fullShare (KA c)).symm
  have hD : ∀ fd, pt (F := F) cc0_scratch2 (px 1 c) (LA (kA (px 1 c))) fullShare fd = _ := fun fd => ((at_2_128 (F := F) (ho1) (inb1) (px 1 c) fullShare fd).symm)
  refine send_land KA KB K 1 c (px 1 c) rfl rfl rfl _ _ (KA c) cr_2_128 (Entails.of_eq hP) ?_ rfl ?_
  · iintro ⟨%fd, H⟩; iexists fd; iapply (Entails.of_eq (hD fd)); iexact H
  · intro fd
    have hv := arr_2 (F := F) (ho1) ho (b := bA 4 (px 1 c)) (k_addA c) (inb1) (inb) (px 1 c) fd (KA c)
    refine BIBase.Entails.trans (BIClass.sep_mono (Entails.of_eq hv) (Entails.of_eq hP.symm)) ?_
    refine BIBase.Entails.trans (BIClass.sep_mono BIBase.Entails.rfl (exists_intro (Φ := fun f => pt (F := F) cc0_scratch0 c (RA 3 (px 1 c)) fullShare f) (KA c))) ?_
    have e : px 1 (px 1 c) = c := px_px 1 (by decide) c
    show _ ⊢ iprop(_ ∗ _)
    rw [e]

set_option maxHeartbeats 1000000 in
theorem send_2 (c n : Dev nD) (hn : n = px 3 c) {o : Fin 2 → ℕ} (ho : o = ![bB 3 (px 8 (px 3 c)), 0]) {inb} {o1 : Fin 2 → ℕ} (ho1 : o1 = ![sB (px 3 c), 0]) {inb1} {hsc} {hsrc} {hdst} {hsem}
    {α : Type} {k : PUnit → Prog (TpuEff nD τ sig (Elt F) Λ₀ .tc) α} {Q : α → sProp 𝕄} :
    iprop(env KA KB K ∗ owing F 24 c ∗ pt cc0_scratch1 c (RB 3 (px 8 (px 3 c))) fullShare (KB c)
        ∗ own (F := F) cc0_scratch5 (px 3 c) (LA (sB (px 3 c))) ∗ pre F 2 c)
      ⊢ iprop(((owing F 23 c ∗ mid F 2 c) -∗ WP c (k ⟨⟩) Q)
        -∗ WP c (.op (.enqueueDma ((Memref.whole cc0_scratch1).slice (Rect.unit (s := S512x1024) (o) S128x1024.size inb) (fun _ => rfl))
            (.remote (Dev.tc n : Thread nD τ) ((Memref.whole cc0_scratch5).slice (Rect.unit (s := S256x1024) (o1) S128x1024.size inb1) (fun _ => rfl)) (.dma ((cc0_scratch26.slice (Rect.unit (s := S4) ![2] S1.size inb_S4_S1_2)).squeeze S_ squeezes_S1_S_).sem) hsc)
            (.dma ((cc0_scratch27.slice (Rect.unit (s := S4) ![2] S1.size inb_S4_S1_2)).squeeze S_ squeezes_S1_S_).sem) hsrc hdst hsem) k) Q) := by
  subst hn
  have hP : pt cc0_scratch1 c (RB 3 (px 8 (px 3 c))) fullShare (KB c) = _ := (at_1_128 (F := F) ho (inb) c fullShare (KB c)).symm
  have hD : ∀ fd, pt (F := F) cc0_scratch5 (px 3 c) (LA (sB (px 3 c))) fullShare fd = _ := fun fd => ((at_5_128 (F := F) (ho1) (inb1) (px 3 c) fullShare fd).symm)
  refine send_land KA KB K 2 c (px 3 c) rfl rfl rfl _ _ (KB c) cr_5_128 (Entails.of_eq hP) ?_ rfl ?_
  · iintro ⟨%fd, H⟩; iexists fd; iapply (Entails.of_eq (hD fd)); iexact H
  · intro fd
    have hv := arr_5 (F := F) (ho1) ho (b := bB 4 (px 3 c)) (s_addB c) (inb1) (inb) (px 3 c) fd (KB c)
    refine BIBase.Entails.trans (BIClass.sep_mono (Entails.of_eq hv) (Entails.of_eq hP.symm)) ?_
    refine BIBase.Entails.trans (BIClass.sep_mono BIBase.Entails.rfl (exists_intro (Φ := fun f => pt (F := F) cc0_scratch1 c (RB 3 (px 8 (px 3 c))) fullShare f) (KB c))) ?_
    have e : px 3 (px 3 c) = c := px_px 3 (by decide) c
    show _ ⊢ iprop(_ ∗ _)
    rw [e]

set_option maxHeartbeats 1000000 in
theorem send_3 (c n : Dev nD) (hn : n = px 3 c) {o : Fin 2 → ℕ} (ho : o = ![bB 3 (px 3 c), 0]) {inb} {o1 : Fin 2 → ℕ} (ho1 : o1 = ![kB (px 3 c), 0]) {inb1} {hsc} {hsrc} {hdst} {hsem}
    {α : Type} {k : PUnit → Prog (TpuEff nD τ sig (Elt F) Λ₀ .tc) α} {Q : α → sProp 𝕄} :
    iprop(env KA KB K ∗ owing F 23 c ∗ pt cc0_scratch1 c (RB 3 (px 3 c)) fullShare (KB c)
        ∗ own (F := F) cc0_scratch5 (px 3 c) (LA (kB (px 3 c))) ∗ pre F 3 c)
      ⊢ iprop(((owing F 22 c ∗ mid F 3 c) -∗ WP c (k ⟨⟩) Q)
        -∗ WP c (.op (.enqueueDma ((Memref.whole cc0_scratch1).slice (Rect.unit (s := S512x1024) (o) S128x1024.size inb) (fun _ => rfl))
            (.remote (Dev.tc n : Thread nD τ) ((Memref.whole cc0_scratch5).slice (Rect.unit (s := S256x1024) (o1) S128x1024.size inb1) (fun _ => rfl)) (.dma ((cc0_scratch26.slice (Rect.unit (s := S4) ![3] S1.size inb_S4_S1_3)).squeeze S_ squeezes_S1_S_).sem) hsc)
            (.dma ((cc0_scratch27.slice (Rect.unit (s := S4) ![3] S1.size inb_S4_S1_3)).squeeze S_ squeezes_S1_S_).sem) hsrc hdst hsem) k) Q) := by
  subst hn
  have hP : pt cc0_scratch1 c (RB 3 (px 3 c)) fullShare (KB c) = _ := (at_1_128 (F := F) ho (inb) c fullShare (KB c)).symm
  have hD : ∀ fd, pt (F := F) cc0_scratch5 (px 3 c) (LA (kB (px 3 c))) fullShare fd = _ := fun fd => ((at_5_128 (F := F) (ho1) (inb1) (px 3 c) fullShare fd).symm)
  refine send_land KA KB K 3 c (px 3 c) rfl rfl rfl _ _ (KB c) cr_5_128 (Entails.of_eq hP) ?_ rfl ?_
  · iintro ⟨%fd, H⟩; iexists fd; iapply (Entails.of_eq (hD fd)); iexact H
  · intro fd
    have hv := arr_5 (F := F) (ho1) ho (b := bB 4 (px 3 c)) (k_addB c) (inb1) (inb) (px 3 c) fd (KB c)
    refine BIBase.Entails.trans (BIClass.sep_mono (Entails.of_eq hv) (Entails.of_eq hP.symm)) ?_
    refine BIBase.Entails.trans (BIClass.sep_mono BIBase.Entails.rfl (exists_intro (Φ := fun f => pt (F := F) cc0_scratch1 c (RB 3 (px 3 c)) fullShare f) (KB c))) ?_
    have e : px 3 (px 3 c) = c := px_px 3 (by decide) c
    show _ ⊢ iprop(_ ∗ _)
    rw [e]

set_option maxHeartbeats 1000000 in
theorem send_4 (c n : Dev nD) (hn : n = px 3 c) {o : Fin 2 → ℕ} (ho : o = ![bA 3 (px 3 c), 0]) {inb} {hsc} {hsrc} {hdst} {hsem}
    {α : Type} {k : PUnit → Prog (TpuEff nD τ sig (Elt F) Λ₀ .tc) α} {Q : α → sProp 𝕄} :
    iprop(env KA KB K ∗ owing F 22 c ∗ pt cc0_scratch0 c (RA 3 (px 3 c)) fullShare (tA1 KA c)
        ∗ own (F := F) cc0_scratch3 (px 3 c) (Finset.univ) ∗ pre F 4 c)
      ⊢ iprop(((owing F 21 c ∗ mid F 4 c) -∗ WP c (k ⟨⟩) Q)
        -∗ WP c (.op (.enqueueDma ((Memref.whole cc0_scratch0).slice (Rect.unit (s := S512x1024) (o) S128x1024.size inb) (fun _ => rfl))
            (.remote (Dev.tc n : Thread nD τ) ((Memref.whole cc0_scratch3).slice (Rect.unit (s := S128x1024) ![0, 0] S128x1024.size inb_S128x1024_S128x1024_0_0) (fun _ => rfl)) (.dma ((cc0_scratch18.slice (Rect.unit (s := S6) ![1] S1.size inb_S6_S1_1)).squeeze S_ squeezes_S1_S_).sem) hsc)
            (.dma ((cc0_scratch19.slice (Rect.unit (s := S6) ![1] S1.size inb_S6_S1_1)).squeeze S_ squeezes_S1_S_).sem) hsrc hdst hsem) k) Q) := by
  subst hn
  have hP : pt cc0_scratch0 c (RA 3 (px 3 c)) fullShare (tA1 KA c) = _ := (at_0_128 (F := F) ho (inb) c fullShare (tA1 KA c)).symm
  have hD : ∀ fd, pt (F := F) cc0_scratch3 (px 3 c) (Finset.univ) fullShare fd = _ := fun fd => ((congrArg (fun I => pt _ _ I _ _) rows_zero.symm).trans (at_3_128 (F := F) ((rfl : (![0, 0] : Fin 2 → ℕ) = ![0, 0])) (inb_S128x1024_S128x1024_0_0) (px 3 c) fullShare fd).symm)
  refine send_land KA KB K 4 c (px 3 c) rfl rfl rfl _ _ (tA1 KA c) cr_3_128 (Entails.of_eq hP) ?_ rfl ?_
  · iintro ⟨%fd, H⟩; iexists fd; iapply (Entails.of_eq (hD fd)); iexact H
  · intro fd
    have hv := arr_3 (F := F) ((rfl : (![0, 0] : Fin 2 → ℕ) = ![0, 0])) ho (b := bA 3 (px 3 c)) rfl (inb_S128x1024_S128x1024_0_0) (inb) (px 3 c) fd (tA1 KA c)
    refine BIBase.Entails.trans (BIClass.sep_mono (Entails.of_eq (hv.trans (congrArg (fun I => pt _ _ I _ _) rows_zero))) (Entails.of_eq hP.symm)) ?_
    refine BIBase.Entails.trans (BIClass.sep_mono BIBase.Entails.rfl (exists_intro (Φ := fun f => pt (F := F) cc0_scratch0 c (RA 3 (px 3 c)) fullShare f) (tA1 KA c))) ?_
    have e : px 3 (px 3 c) = c := px_px 3 (by decide) c
    show _ ⊢ iprop(_ ∗ _)
    rw [e]

set_option maxHeartbeats 1000000 in
theorem send_5 (c n : Dev nD) (hn : n = px 8 c) {o : Fin 2 → ℕ} (ho : o = ![bB 3 (px 8 c), 0]) {inb} {hsc} {hsrc} {hdst} {hsem}
    {α : Type} {k : PUnit → Prog (TpuEff nD τ sig (Elt F) Λ₀ .tc) α} {Q : α → sProp 𝕄} :
    iprop(env KA KB K ∗ owing F 21 c ∗ pt cc0_scratch1 c (RB 3 (px 8 c)) fullShare (tB1 KB c)
        ∗ own (F := F) cc0_scratch6 (px 8 c) (Finset.univ) ∗ pre F 5 c)
      ⊢ iprop(((owing F 20 c ∗ mid F 5 c) -∗ WP c (k ⟨⟩) Q)
        -∗ WP c (.op (.enqueueDma ((Memref.whole cc0_scratch1).slice (Rect.unit (s := S512x1024) (o) S128x1024.size inb) (fun _ => rfl))
            (.remote (Dev.tc n : Thread nD τ) ((Memref.whole cc0_scratch6).slice (Rect.unit (s := S128x1024) ![0, 0] S128x1024.size inb_S128x1024_S128x1024_0_0) (fun _ => rfl)) (.dma ((cc0_scratch18.slice (Rect.unit (s := S6) ![4] S1.size inb_S6_S1_4)).squeeze S_ squeezes_S1_S_).sem) hsc)
            (.dma ((cc0_scratch19.slice (Rect.unit (s := S6) ![4] S1.size inb_S6_S1_4)).squeeze S_ squeezes_S1_S_).sem) hsrc hdst hsem) k) Q) := by
  subst hn
  have hP : pt cc0_scratch1 c (RB 3 (px 8 c)) fullShare (tB1 KB c) = _ := (at_1_128 (F := F) ho (inb) c fullShare (tB1 KB c)).symm
  have hD : ∀ fd, pt (F := F) cc0_scratch6 (px 8 c) (Finset.univ) fullShare fd = _ := fun fd => ((congrArg (fun I => pt _ _ I _ _) rows_zero.symm).trans (at_6_128 (F := F) ((rfl : (![0, 0] : Fin 2 → ℕ) = ![0, 0])) (inb_S128x1024_S128x1024_0_0) (px 8 c) fullShare fd).symm)
  refine send_land KA KB K 5 c (px 8 c) rfl rfl rfl _ _ (tB1 KB c) cr_6_128 (Entails.of_eq hP) ?_ rfl ?_
  · iintro ⟨%fd, H⟩; iexists fd; iapply (Entails.of_eq (hD fd)); iexact H
  · intro fd
    have hv := arr_6 (F := F) ((rfl : (![0, 0] : Fin 2 → ℕ) = ![0, 0])) ho (b := bB 3 (px 8 c)) rfl (inb_S128x1024_S128x1024_0_0) (inb) (px 8 c) fd (tB1 KB c)
    refine BIBase.Entails.trans (BIClass.sep_mono (Entails.of_eq (hv.trans (congrArg (fun I => pt _ _ I _ _) rows_zero))) (Entails.of_eq hP.symm)) ?_
    refine BIBase.Entails.trans (BIClass.sep_mono BIBase.Entails.rfl (exists_intro (Φ := fun f => pt (F := F) cc0_scratch1 c (RB 3 (px 8 c)) fullShare f) (tB1 KB c))) ?_
    have e : px 8 (px 8 c) = c := px_px 8 (by decide) c
    show _ ⊢ iprop(_ ∗ _)
    rw [e]

set_option maxHeartbeats 1000000 in
theorem send_6 (c n : Dev nD) (hn : n = px 4 c) {o : Fin 2 → ℕ} (ho : o = ![bA 2 (px 4 c), 0]) {inb} {hsc} {hsrc} {hdst} {hsem}
    {α : Type} {k : PUnit → Prog (TpuEff nD τ sig (Elt F) Λ₀ .tc) α} {Q : α → sProp 𝕄} :
    iprop(env KA KB K ∗ owing F 20 c ∗ pt cc0_scratch0 c (RA 2 (px 4 c)) fullShare (tA2 KA c)
        ∗ own (F := F) cc0_scratch4 (px 4 c) (Finset.univ) ∗ pre F 6 c)
      ⊢ iprop(((owing F 19 c ∗ mid F 6 c) -∗ WP c (k ⟨⟩) Q)
        -∗ WP c (.op (.enqueueDma ((Memref.whole cc0_scratch0).slice (Rect.unit (s := S512x1024) (o) S64x1024.size inb) (fun _ => rfl))
            (.remote (Dev.tc n : Thread nD τ) ((Memref.whole cc0_scratch4).slice (Rect.unit (s := S64x1024) ![0, 0] S64x1024.size inb_S64x1024_S64x1024_0_0) (fun _ => rfl)) (.dma ((cc0_scratch18.slice (Rect.unit (s := S6) ![2] S1.size inb_S6_S1_2)).squeeze S_ squeezes_S1_S_).sem) hsc)
            (.dma ((cc0_scratch19.slice (Rect.unit (s := S6) ![2] S1.size inb_S6_S1_2)).squeeze S_ squeezes_S1_S_).sem) hsrc hdst hsem) k) Q) := by
  subst hn
  have hP : pt cc0_scratch0 c (RA 2 (px 4 c)) fullShare (tA2 KA c) = _ := (at_0_64 (F := F) ho (inb) c fullShare (tA2 KA c)).symm
  have hD : ∀ fd, pt (F := F) cc0_scratch4 (px 4 c) (Finset.univ) fullShare fd = _ := fun fd => ((congrArg (fun I => pt _ _ I _ _) rows_zero.symm).trans (at_4_64 (F := F) ((rfl : (![0, 0] : Fin 2 → ℕ) = ![0, 0])) (inb_S64x1024_S64x1024_0_0) (px 4 c) fullShare fd).symm)
  refine send_land KA KB K 6 c (px 4 c) rfl rfl rfl _ _ (tA2 KA c) cr_4_64 (Entails.of_eq hP) ?_ rfl ?_
  · iintro ⟨%fd, H⟩; iexists fd; iapply (Entails.of_eq (hD fd)); iexact H
  · intro fd
    have hv := arr_4 (F := F) ((rfl : (![0, 0] : Fin 2 → ℕ) = ![0, 0])) ho (b := bA 2 (px 4 c)) rfl (inb_S64x1024_S64x1024_0_0) (inb) (px 4 c) fd (tA2 KA c)
    refine BIBase.Entails.trans (BIClass.sep_mono (Entails.of_eq (hv.trans (congrArg (fun I => pt _ _ I _ _) rows_zero))) (Entails.of_eq hP.symm)) ?_
    refine BIBase.Entails.trans (BIClass.sep_mono BIBase.Entails.rfl (exists_intro (Φ := fun f => pt (F := F) cc0_scratch0 c (RA 2 (px 4 c)) fullShare f) (tA2 KA c))) ?_
    have e : px 4 (px 4 c) = c := px_px 4 (by decide) c
    show _ ⊢ iprop(_ ∗ _)
    rw [e]

set_option maxHeartbeats 1000000 in
theorem send_7 (c n : Dev nD) (hn : n = px 16 c) {o : Fin 2 → ℕ} (ho : o = ![bB 2 (px 16 c), 0]) {inb} {hsc} {hsrc} {hdst} {hsem}
    {α : Type} {k : PUnit → Prog (TpuEff nD τ sig (Elt F) Λ₀ .tc) α} {Q : α → sProp 𝕄} :
    iprop(env KA KB K ∗ owing F 19 c ∗ pt cc0_scratch1 c (RB 2 (px 16 c)) fullShare (tB2 KB c)
        ∗ own (F := F) cc0_scratch7 (px 16 c) (Finset.univ) ∗ pre F 7 c)
      ⊢ iprop(((owing F 18 c ∗ mid F 7 c) -∗ WP c (k ⟨⟩) Q)
        -∗ WP c (.op (.enqueueDma ((Memref.whole cc0_scratch1).slice (Rect.unit (s := S512x1024) (o) S64x1024.size inb) (fun _ => rfl))
            (.remote (Dev.tc n : Thread nD τ) ((Memref.whole cc0_scratch7).slice (Rect.unit (s := S64x1024) ![0, 0] S64x1024.size inb_S64x1024_S64x1024_0_0) (fun _ => rfl)) (.dma ((cc0_scratch18.slice (Rect.unit (s := S6) ![5] S1.size inb_S6_S1_5)).squeeze S_ squeezes_S1_S_).sem) hsc)
            (.dma ((cc0_scratch19.slice (Rect.unit (s := S6) ![5] S1.size inb_S6_S1_5)).squeeze S_ squeezes_S1_S_).sem) hsrc hdst hsem) k) Q) := by
  subst hn
  have hP : pt cc0_scratch1 c (RB 2 (px 16 c)) fullShare (tB2 KB c) = _ := (at_1_64 (F := F) ho (inb) c fullShare (tB2 KB c)).symm
  have hD : ∀ fd, pt (F := F) cc0_scratch7 (px 16 c) (Finset.univ) fullShare fd = _ := fun fd => ((congrArg (fun I => pt _ _ I _ _) rows_zero.symm).trans (at_7_64 (F := F) ((rfl : (![0, 0] : Fin 2 → ℕ) = ![0, 0])) (inb_S64x1024_S64x1024_0_0) (px 16 c) fullShare fd).symm)
  refine send_land KA KB K 7 c (px 16 c) rfl rfl rfl _ _ (tB2 KB c) cr_7_64 (Entails.of_eq hP) ?_ rfl ?_
  · iintro ⟨%fd, H⟩; iexists fd; iapply (Entails.of_eq (hD fd)); iexact H
  · intro fd
    have hv := arr_7 (F := F) ((rfl : (![0, 0] : Fin 2 → ℕ) = ![0, 0])) ho (b := bB 2 (px 16 c)) rfl (inb_S64x1024_S64x1024_0_0) (inb) (px 16 c) fd (tB2 KB c)
    refine BIBase.Entails.trans (BIClass.sep_mono (Entails.of_eq (hv.trans (congrArg (fun I => pt _ _ I _ _) rows_zero))) (Entails.of_eq hP.symm)) ?_
    refine BIBase.Entails.trans (BIClass.sep_mono BIBase.Entails.rfl (exists_intro (Φ := fun f => pt (F := F) cc0_scratch1 c (RB 2 (px 16 c)) fullShare f) (tB2 KB c))) ?_
    have e : px 16 (px 16 c) = c := px_px 16 (by decide) c
    show _ ⊢ iprop(_ ∗ _)
    rw [e]

set_option maxHeartbeats 1000000 in
theorem send_8 (c n : Dev nD) (hn : n = px 8 c) {o : Fin 2 → ℕ} (ho : o = ![bA 0 (px 8 c), 0]) {inb} {hsc} {hsrc} {hdst} {hsem}
    {α : Type} {k : PUnit → Prog (TpuEff nD τ sig (Elt F) Λ₀ .tc) α} {Q : α → sProp 𝕄} :
    iprop(env KA KB K ∗ owing F 18 c ∗ pt cc0_scratch0 c (RA 0 (px 8 c)) fullShare (tA3 KA c)
        ∗ own (F := F) cc0_scratch8 (px 8 c) (Finset.univ) ∗ pre F 8 c)
      ⊢ iprop(((owing F 17 c ∗ mid F 8 c) -∗ WP c (k ⟨⟩) Q)
        -∗ WP c (.op (.enqueueDma ((Memref.whole cc0_scratch0).slice (Rect.unit (s := S512x1024) (o) S16x1024.size inb) (fun _ => rfl))
            (.remote (Dev.tc n : Thread nD τ) ((Memref.whole cc0_scratch8).slice (Rect.unit (s := S16x1024) ![0, 0] S16x1024.size inb_S16x1024_S16x1024_0_0) (fun _ => rfl)) (.dma ((cc0_scratch22.slice (Rect.unit (s := S6) ![0] S1.size inb_S6_S1_0)).squeeze S_ squeezes_S1_S_).sem) hsc)
            (.dma ((cc0_scratch23.slice (Rect.unit (s := S6) ![0] S1.size inb_S6_S1_0)).squeeze S_ squeezes_S1_S_).sem) hsrc hdst hsem) k) Q) := by
  subst hn
  have hP : pt cc0_scratch0 c (RA 0 (px 8 c)) fullShare (tA3 KA c) = _ := (at_0_16 (F := F) ho (inb) c fullShare (tA3 KA c)).symm
  have hD : ∀ fd, pt (F := F) cc0_scratch8 (px 8 c) (Finset.univ) fullShare fd = _ := fun fd => ((congrArg (fun I => pt _ _ I _ _) rows_zero.symm).trans (at_8_16 (F := F) ((rfl : (![0, 0] : Fin 2 → ℕ) = ![0, 0])) (inb_S16x1024_S16x1024_0_0) (px 8 c) fullShare fd).symm)
  refine send_land KA KB K 8 c (px 8 c) rfl rfl rfl _ _ (tA3 KA c) cr_8_16 (Entails.of_eq hP) ?_ rfl ?_
  · iintro ⟨%fd, H⟩; iexists fd; iapply (Entails.of_eq (hD fd)); iexact H
  · intro fd
    have hv := arr_8 (F := F) ((rfl : (![0, 0] : Fin 2 → ℕ) = ![0, 0])) ho (b := bA 0 (px 8 c)) rfl (inb_S16x1024_S16x1024_0_0) (inb) (px 8 c) fd (tA3 KA c)
    refine BIBase.Entails.trans (BIClass.sep_mono (Entails.of_eq (hv.trans (congrArg (fun I => pt _ _ I _ _) rows_zero))) (Entails.of_eq hP.symm)) ?_
    refine BIBase.Entails.trans (BIClass.sep_mono BIBase.Entails.rfl (exists_intro (Φ := fun f => pt (F := F) cc0_scratch0 c (RA 0 (px 8 c)) fullShare f) (tA3 KA c))) ?_
    have e : px 8 (px 8 c) = c := px_px 8 (by decide) c
    show _ ⊢ iprop(_ ∗ _)
    rw [e]

set_option maxHeartbeats 1000000 in
theorem send_9 (c n : Dev nD) (hn : n = px 16 c) {o : Fin 2 → ℕ} (ho : o = ![bA 0 (px 16 c), 0]) {inb} {hsc} {hsrc} {hdst} {hsem}
    {α : Type} {k : PUnit → Prog (TpuEff nD τ sig (Elt F) Λ₀ .tc) α} {Q : α → sProp 𝕄} :
    iprop(env KA KB K ∗ owing F 17 c ∗ pt cc0_scratch0 c (RA 0 (px 16 c)) fullShare (tA3 KA c)
        ∗ own (F := F) cc0_scratch9 (px 16 c) (Finset.univ) ∗ pre F 9 c)
      ⊢ iprop(((owing F 16 c ∗ mid F 9 c) -∗ WP c (k ⟨⟩) Q)
        -∗ WP c (.op (.enqueueDma ((Memref.whole cc0_scratch0).slice (Rect.unit (s := S512x1024) (o) S16x1024.size inb) (fun _ => rfl))
            (.remote (Dev.tc n : Thread nD τ) ((Memref.whole cc0_scratch9).slice (Rect.unit (s := S16x1024) ![0, 0] S16x1024.size inb_S16x1024_S16x1024_0_0) (fun _ => rfl)) (.dma ((cc0_scratch22.slice (Rect.unit (s := S6) ![1] S1.size inb_S6_S1_1)).squeeze S_ squeezes_S1_S_).sem) hsc)
            (.dma ((cc0_scratch23.slice (Rect.unit (s := S6) ![1] S1.size inb_S6_S1_1)).squeeze S_ squeezes_S1_S_).sem) hsrc hdst hsem) k) Q) := by
  subst hn
  have hP : pt cc0_scratch0 c (RA 0 (px 16 c)) fullShare (tA3 KA c) = _ := (at_0_16 (F := F) ho (inb) c fullShare (tA3 KA c)).symm
  have hD : ∀ fd, pt (F := F) cc0_scratch9 (px 16 c) (Finset.univ) fullShare fd = _ := fun fd => ((congrArg (fun I => pt _ _ I _ _) rows_zero.symm).trans (at_9_16 (F := F) ((rfl : (![0, 0] : Fin 2 → ℕ) = ![0, 0])) (inb_S16x1024_S16x1024_0_0) (px 16 c) fullShare fd).symm)
  refine send_land KA KB K 9 c (px 16 c) rfl rfl rfl _ _ (tA3 KA c) cr_9_16 (Entails.of_eq hP) ?_ rfl ?_
  · iintro ⟨%fd, H⟩; iexists fd; iapply (Entails.of_eq (hD fd)); iexact H
  · intro fd
    have hv := arr_9 (F := F) ((rfl : (![0, 0] : Fin 2 → ℕ) = ![0, 0])) ho (b := bA 0 (px 16 c)) rfl (inb_S16x1024_S16x1024_0_0) (inb) (px 16 c) fd (tA3 KA c)
    refine BIBase.Entails.trans (BIClass.sep_mono (Entails.of_eq (hv.trans (congrArg (fun I => pt _ _ I _ _) rows_zero))) (Entails.of_eq hP.symm)) ?_
    refine BIBase.Entails.trans (BIClass.sep_mono BIBase.Entails.rfl (exists_intro (Φ := fun f => pt (F := F) cc0_scratch0 c (RA 0 (px 16 c)) fullShare f) (tA3 KA c))) ?_
    have e : px 16 (px 16 c) = c := px_px 16 (by decide) c
    show _ ⊢ iprop(_ ∗ _)
    rw [e]

set_option maxHeartbeats 1000000 in
theorem send_10 (c n : Dev nD) (hn : n = px 24 c) {o : Fin 2 → ℕ} (ho : o = ![bA 0 (px 24 c), 0]) {inb} {hsc} {hsrc} {hdst} {hsem}
    {α : Type} {k : PUnit → Prog (TpuEff nD τ sig (Elt F) Λ₀ .tc) α} {Q : α → sProp 𝕄} :
    iprop(env KA KB K ∗ owing F 16 c ∗ pt cc0_scratch0 c (RA 0 (px 24 c)) fullShare (tA3 KA c)
        ∗ own (F := F) cc0_scratch10 (px 24 c) (Finset.univ) ∗ pre F 10 c)
      ⊢ iprop(((owing F 15 c ∗ mid F 10 c) -∗ WP c (k ⟨⟩) Q)
        -∗ WP c (.op (.enqueueDma ((Memref.whole cc0_scratch0).slice (Rect.unit (s := S512x1024) (o) S16x1024.size inb) (fun _ => rfl))
            (.remote (Dev.tc n : Thread nD τ) ((Memref.whole cc0_scratch10).slice (Rect.unit (s := S16x1024) ![0, 0] S16x1024.size inb_S16x1024_S16x1024_0_0) (fun _ => rfl)) (.dma ((cc0_scratch22.slice (Rect.unit (s := S6) ![2] S1.size inb_S6_S1_2)).squeeze S_ squeezes_S1_S_).sem) hsc)
            (.dma ((cc0_scratch23.slice (Rect.unit (s := S6) ![2] S1.size inb_S6_S1_2)).squeeze S_ squeezes_S1_S_).sem) hsrc hdst hsem) k) Q) := by
  subst hn
  have hP : pt cc0_scratch0 c (RA 0 (px 24 c)) fullShare (tA3 KA c) = _ := (at_0_16 (F := F) ho (inb) c fullShare (tA3 KA c)).symm
  have hD : ∀ fd, pt (F := F) cc0_scratch10 (px 24 c) (Finset.univ) fullShare fd = _ := fun fd => ((congrArg (fun I => pt _ _ I _ _) rows_zero.symm).trans (at_10_16 (F := F) ((rfl : (![0, 0] : Fin 2 → ℕ) = ![0, 0])) (inb_S16x1024_S16x1024_0_0) (px 24 c) fullShare fd).symm)
  refine send_land KA KB K 10 c (px 24 c) rfl rfl rfl _ _ (tA3 KA c) cr_10_16 (Entails.of_eq hP) ?_ rfl ?_
  · iintro ⟨%fd, H⟩; iexists fd; iapply (Entails.of_eq (hD fd)); iexact H
  · intro fd
    have hv := arr_10 (F := F) ((rfl : (![0, 0] : Fin 2 → ℕ) = ![0, 0])) ho (b := bA 0 (px 24 c)) rfl (inb_S16x1024_S16x1024_0_0) (inb) (px 24 c) fd (tA3 KA c)
    refine BIBase.Entails.trans (BIClass.sep_mono (Entails.of_eq (hv.trans (congrArg (fun I => pt _ _ I _ _) rows_zero))) (Entails.of_eq hP.symm)) ?_
    refine BIBase.Entails.trans (BIClass.sep_mono BIBase.Entails.rfl (exists_intro (Φ := fun f => pt (F := F) cc0_scratch0 c (RA 0 (px 24 c)) fullShare f) (tA3 KA c))) ?_
    have e : px 24 (px 24 c) = c := px_px 24 (by decide) c
    show _ ⊢ iprop(_ ∗ _)
    rw [e]

set_option maxHeartbeats 1000000 in
theorem send_11 (c n : Dev nD) (hn : n = px 1 c) {o : Fin 2 → ℕ} (ho : o = ![bB 0 (px 1 c), 0]) {inb} {hsc} {hsrc} {hdst} {hsem}
    {α : Type} {k : PUnit → Prog (TpuEff nD τ sig (Elt F) Λ₀ .tc) α} {Q : α → sProp 𝕄} :
    iprop(env KA KB K ∗ owing F 15 c ∗ pt cc0_scratch1 c (RB 0 (px 1 c)) fullShare (tB3 KB c)
        ∗ own (F := F) cc0_scratch11 (px 1 c) (Finset.univ) ∗ pre F 11 c)
      ⊢ iprop(((owing F 14 c ∗ mid F 11 c) -∗ WP c (k ⟨⟩) Q)
        -∗ WP c (.op (.enqueueDma ((Memref.whole cc0_scratch1).slice (Rect.unit (s := S512x1024) (o) S16x1024.size inb) (fun _ => rfl))
            (.remote (Dev.tc n : Thread nD τ) ((Memref.whole cc0_scratch11).slice (Rect.unit (s := S16x1024) ![0, 0] S16x1024.size inb_S16x1024_S16x1024_0_0) (fun _ => rfl)) (.dma ((cc0_scratch22.slice (Rect.unit (s := S6) ![3] S1.size inb_S6_S1_3)).squeeze S_ squeezes_S1_S_).sem) hsc)
            (.dma ((cc0_scratch23.slice (Rect.unit (s := S6) ![3] S1.size inb_S6_S1_3)).squeeze S_ squeezes_S1_S_).sem) hsrc hdst hsem) k) Q) := by
  subst hn
  have hP : pt cc0_scratch1 c (RB 0 (px 1 c)) fullShare (tB3 KB c) = _ := (at_1_16 (F := F) ho (inb) c fullShare (tB3 KB c)).symm
  have hD : ∀ fd, pt (F := F) cc0_scratch11 (px 1 c) (Finset.univ) fullShare fd = _ := fun fd => ((congrArg (fun I => pt _ _ I _ _) rows_zero.symm).trans (at_11_16 (F := F) ((rfl : (![0, 0] : Fin 2 → ℕ) = ![0, 0])) (inb_S16x1024_S16x1024_0_0) (px 1 c) fullShare fd).symm)
  refine send_land KA KB K 11 c (px 1 c) rfl rfl rfl _ _ (tB3 KB c) cr_11_16 (Entails.of_eq hP) ?_ rfl ?_
  · iintro ⟨%fd, H⟩; iexists fd; iapply (Entails.of_eq (hD fd)); iexact H
  · intro fd
    have hv := arr_11 (F := F) ((rfl : (![0, 0] : Fin 2 → ℕ) = ![0, 0])) ho (b := bB 0 (px 1 c)) rfl (inb_S16x1024_S16x1024_0_0) (inb) (px 1 c) fd (tB3 KB c)
    refine BIBase.Entails.trans (BIClass.sep_mono (Entails.of_eq (hv.trans (congrArg (fun I => pt _ _ I _ _) rows_zero))) (Entails.of_eq hP.symm)) ?_
    refine BIBase.Entails.trans (BIClass.sep_mono BIBase.Entails.rfl (exists_intro (Φ := fun f => pt (F := F) cc0_scratch1 c (RB 0 (px 1 c)) fullShare f) (tB3 KB c))) ?_
    have e : px 1 (px 1 c) = c := px_px 1 (by decide) c
    show _ ⊢ iprop(_ ∗ _)
    rw [e]

set_option maxHeartbeats 1000000 in
theorem send_12 (c n : Dev nD) (hn : n = px 4 c) {o : Fin 2 → ℕ} (ho : o = ![bB 0 (px 4 c), 0]) {inb} {hsc} {hsrc} {hdst} {hsem}
    {α : Type} {k : PUnit → Prog (TpuEff nD τ sig (Elt F) Λ₀ .tc) α} {Q : α → sProp 𝕄} :
    iprop(env KA KB K ∗ owing F 14 c ∗ pt cc0_scratch1 c (RB 0 (px 4 c)) fullShare (tB3 KB c)
        ∗ own (F := F) cc0_scratch12 (px 4 c) (Finset.univ) ∗ pre F 12 c)
      ⊢ iprop(((owing F 13 c ∗ mid F 12 c) -∗ WP c (k ⟨⟩) Q)
        -∗ WP c (.op (.enqueueDma ((Memref.whole cc0_scratch1).slice (Rect.unit (s := S512x1024) (o) S16x1024.size inb) (fun _ => rfl))
            (.remote (Dev.tc n : Thread nD τ) ((Memref.whole cc0_scratch12).slice (Rect.unit (s := S16x1024) ![0, 0] S16x1024.size inb_S16x1024_S16x1024_0_0) (fun _ => rfl)) (.dma ((cc0_scratch22.slice (Rect.unit (s := S6) ![4] S1.size inb_S6_S1_4)).squeeze S_ squeezes_S1_S_).sem) hsc)
            (.dma ((cc0_scratch23.slice (Rect.unit (s := S6) ![4] S1.size inb_S6_S1_4)).squeeze S_ squeezes_S1_S_).sem) hsrc hdst hsem) k) Q) := by
  subst hn
  have hP : pt cc0_scratch1 c (RB 0 (px 4 c)) fullShare (tB3 KB c) = _ := (at_1_16 (F := F) ho (inb) c fullShare (tB3 KB c)).symm
  have hD : ∀ fd, pt (F := F) cc0_scratch12 (px 4 c) (Finset.univ) fullShare fd = _ := fun fd => ((congrArg (fun I => pt _ _ I _ _) rows_zero.symm).trans (at_12_16 (F := F) ((rfl : (![0, 0] : Fin 2 → ℕ) = ![0, 0])) (inb_S16x1024_S16x1024_0_0) (px 4 c) fullShare fd).symm)
  refine send_land KA KB K 12 c (px 4 c) rfl rfl rfl _ _ (tB3 KB c) cr_12_16 (Entails.of_eq hP) ?_ rfl ?_
  · iintro ⟨%fd, H⟩; iexists fd; iapply (Entails.of_eq (hD fd)); iexact H
  · intro fd
    have hv := arr_12 (F := F) ((rfl : (![0, 0] : Fin 2 → ℕ) = ![0, 0])) ho (b := bB 0 (px 4 c)) rfl (inb_S16x1024_S16x1024_0_0) (inb) (px 4 c) fd (tB3 KB c)
    refine BIBase.Entails.trans (BIClass.sep_mono (Entails.of_eq (hv.trans (congrArg (fun I => pt _ _ I _ _) rows_zero))) (Entails.of_eq hP.symm)) ?_
    refine BIBase.Entails.trans (BIClass.sep_mono BIBase.Entails.rfl (exists_intro (Φ := fun f => pt (F := F) cc0_scratch1 c (RB 0 (px 4 c)) fullShare f) (tB3 KB c))) ?_
    have e : px 4 (px 4 c) = c := px_px 4 (by decide) c
    show _ ⊢ iprop(_ ∗ _)
    rw [e]

set_option maxHeartbeats 1000000 in
theorem send_13 (c n : Dev nD) (hn : n = px 5 c) {o : Fin 2 → ℕ} (ho : o = ![bB 0 (px 5 c), 0]) {inb} {hsc} {hsrc} {hdst} {hsem}
    {α : Type} {k : PUnit → Prog (TpuEff nD τ sig (Elt F) Λ₀ .tc) α} {Q : α → sProp 𝕄} :
    iprop(env KA KB K ∗ owing F 13 c ∗ pt cc0_scratch1 c (RB 0 (px 5 c)) fullShare (tB3 KB c)
        ∗ own (F := F) cc0_scratch13 (px 5 c) (Finset.univ) ∗ pre F 13 c)
      ⊢ iprop(((owing F 12 c ∗ mid F 13 c) -∗ WP c (k ⟨⟩) Q)
        -∗ WP c (.op (.enqueueDma ((Memref.whole cc0_scratch1).slice (Rect.unit (s := S512x1024) (o) S16x1024.size inb) (fun _ => rfl))
            (.remote (Dev.tc n : Thread nD τ) ((Memref.whole cc0_scratch13).slice (Rect.unit (s := S16x1024) ![0, 0] S16x1024.size inb_S16x1024_S16x1024_0_0) (fun _ => rfl)) (.dma ((cc0_scratch22.slice (Rect.unit (s := S6) ![5] S1.size inb_S6_S1_5)).squeeze S_ squeezes_S1_S_).sem) hsc)
            (.dma ((cc0_scratch23.slice (Rect.unit (s := S6) ![5] S1.size inb_S6_S1_5)).squeeze S_ squeezes_S1_S_).sem) hsrc hdst hsem) k) Q) := by
  subst hn
  have hP : pt cc0_scratch1 c (RB 0 (px 5 c)) fullShare (tB3 KB c) = _ := (at_1_16 (F := F) ho (inb) c fullShare (tB3 KB c)).symm
  have hD : ∀ fd, pt (F := F) cc0_scratch13 (px 5 c) (Finset.univ) fullShare fd = _ := fun fd => ((congrArg (fun I => pt _ _ I _ _) rows_zero.symm).trans (at_13_16 (F := F) ((rfl : (![0, 0] : Fin 2 → ℕ) = ![0, 0])) (inb_S16x1024_S16x1024_0_0) (px 5 c) fullShare fd).symm)
  refine send_land KA KB K 13 c (px 5 c) rfl rfl rfl _ _ (tB3 KB c) cr_13_16 (Entails.of_eq hP) ?_ rfl ?_
  · iintro ⟨%fd, H⟩; iexists fd; iapply (Entails.of_eq (hD fd)); iexact H
  · intro fd
    have hv := arr_13 (F := F) ((rfl : (![0, 0] : Fin 2 → ℕ) = ![0, 0])) ho (b := bB 0 (px 5 c)) rfl (inb_S16x1024_S16x1024_0_0) (inb) (px 5 c) fd (tB3 KB c)
    refine BIBase.Entails.trans (BIClass.sep_mono (Entails.of_eq (hv.trans (congrArg (fun I => pt _ _ I _ _) rows_zero))) (Entails.of_eq hP.symm)) ?_
    refine BIBase.Entails.trans (BIClass.sep_mono BIBase.Entails.rfl (exists_intro (Φ := fun f => pt (F := F) cc0_scratch1 c (RB 0 (px 5 c)) fullShare f) (tB3 KB c))) ?_
    have e : px 5 (px 5 c) = c := px_px 5 (by decide) c
    show _ ⊢ iprop(_ ∗ _)
    rw [e]

set_option maxHeartbeats 1000000 in
theorem send_14 (c n : Dev nD) (hn : n = px 8 c) {o : Fin 2 → ℕ} (ho : o = ![bA 0 c, 0]) {inb} {hsc} {hsrc} {hdst} {hsem}
    {α : Type} {k : PUnit → Prog (TpuEff nD τ sig (Elt F) Λ₀ .tc) α} {Q : α → sProp 𝕄} :
    iprop(env KA KB K ∗ owing F 12 c ∗ pt cc0_scratch0 c (RA 0 c) fullShare.left (gA KA)
        ∗ own (F := F) cc0_scratch0 (px 8 c) (RA 0 c) ∗ pre F 14 c)
      ⊢ iprop(((owing F 11 c ∗ mid F 14 c) -∗ WP c (k ⟨⟩) Q)
        -∗ WP c (.op (.enqueueDma ((Memref.whole cc0_scratch0).slice (Rect.unit (s := S512x1024) (o) S16x1024.size inb) (fun _ => rfl))
            (.remote (Dev.tc n : Thread nD τ) ((Memref.whole cc0_scratch0).slice (Rect.unit (s := S512x1024) (o) S16x1024.size inb) (fun _ => rfl)) (.dma ((cc0_scratch24.slice (Rect.unit (s := S6) ![0] S1.size inb_S6_S1_0)).squeeze S_ squeezes_S1_S_).sem) hsc)
            (.dma ((cc0_scratch25.slice (Rect.unit (s := S6) ![0] S1.size inb_S6_S1_0)).squeeze S_ squeezes_S1_S_).sem) hsrc hdst hsem) k) Q) := by
  subst hn
  have hP : pt cc0_scratch0 c (RA 0 c) fullShare.left (gA KA) = _ := (at_0_16 (F := F) ho (inb) c fullShare.left (gA KA)).symm
  have hD : ∀ fd, pt (F := F) cc0_scratch0 (px 8 c) (RA 0 c) fullShare fd = _ := fun fd => ((at_0_16 (F := F) (ho) (inb) (px 8 c) fullShare fd).symm)
  refine send_back KA KB K 14 c (px 8 c) rfl rfl rfl fullShare.left _ _ (gA KA) cr_0_16 (Entails.of_eq hP) ?_ (Entails.of_eq hP.symm) ?_
  · iintro ⟨%fd, H⟩; iexists fd; iapply (Entails.of_eq (hD fd)); iexact H
  · intro fd
    have hv := arr_0_16 (F := F) ho (inb) (inb) (px 8 c) fd (gA KA)
    refine BIBase.Entails.trans (Entails.of_eq hv) ?_
    have e : px 8 (px 8 c) = c := px_px 8 (by decide) c
    show _ ⊢ pt _ _ _ _ _
    rw [e]
    first | done | exact BIBase.Entails.rfl

set_option maxHeartbeats 1000000 in
theorem send_15 (c n : Dev nD) (hn : n = px 16 c) {o : Fin 2 → ℕ} (ho : o = ![bA 0 c, 0]) {inb} {hsc} {hsrc} {hdst} {hsem}
    {α : Type} {k : PUnit → Prog (TpuEff nD τ sig (Elt F) Λ₀ .tc) α} {Q : α → sProp 𝕄} :
    iprop(env KA KB K ∗ owing F 11 c ∗ pt cc0_scratch0 c (RA 0 c) fullShare.right.left (gA KA)
        ∗ own (F := F) cc0_scratch0 (px 16 c) (RA 0 c) ∗ pre F 15 c)
      ⊢ iprop(((owing F 10 c ∗ mid F 15 c) -∗ WP c (k ⟨⟩) Q)
        -∗ WP c (.op (.enqueueDma ((Memref.whole cc0_scratch0).slice (Rect.unit (s := S512x1024) (o) S16x1024.size inb) (fun _ => rfl))
            (.remote (Dev.tc n : Thread nD τ) ((Memref.whole cc0_scratch0).slice (Rect.unit (s := S512x1024) (o) S16x1024.size inb) (fun _ => rfl)) (.dma ((cc0_scratch24.slice (Rect.unit (s := S6) ![1] S1.size inb_S6_S1_1)).squeeze S_ squeezes_S1_S_).sem) hsc)
            (.dma ((cc0_scratch25.slice (Rect.unit (s := S6) ![1] S1.size inb_S6_S1_1)).squeeze S_ squeezes_S1_S_).sem) hsrc hdst hsem) k) Q) := by
  subst hn
  have hP : pt cc0_scratch0 c (RA 0 c) fullShare.right.left (gA KA) = _ := (at_0_16 (F := F) ho (inb) c fullShare.right.left (gA KA)).symm
  have hD : ∀ fd, pt (F := F) cc0_scratch0 (px 16 c) (RA 0 c) fullShare fd = _ := fun fd => ((at_0_16 (F := F) (ho) (inb) (px 16 c) fullShare fd).symm)
  refine send_back KA KB K 15 c (px 16 c) rfl rfl rfl fullShare.right.left _ _ (gA KA) cr_0_16 (Entails.of_eq hP) ?_ (Entails.of_eq hP.symm) ?_
  · iintro ⟨%fd, H⟩; iexists fd; iapply (Entails.of_eq (hD fd)); iexact H
  · intro fd
    have hv := arr_0_16 (F := F) ho (inb) (inb) (px 16 c) fd (gA KA)
    refine BIBase.Entails.trans (Entails.of_eq hv) ?_
    have e : px 16 (px 16 c) = c := px_px 16 (by decide) c
    show _ ⊢ pt _ _ _ _ _
    rw [e]
    first | done | exact BIBase.Entails.rfl

set_option maxHeartbeats 1000000 in
theorem send_16 (c n : Dev nD) (hn : n = px 24 c) {o : Fin 2 → ℕ} (ho : o = ![bA 0 c, 0]) {inb} {hsc} {hsrc} {hdst} {hsem}
    {α : Type} {k : PUnit → Prog (TpuEff nD τ sig (Elt F) Λ₀ .tc) α} {Q : α → sProp 𝕄} :
    iprop(env KA KB K ∗ owing F 10 c ∗ pt cc0_scratch0 c (RA 0 c) fullShare.right.right (gA KA)
        ∗ own (F := F) cc0_scratch0 (px 24 c) (RA 0 c) ∗ pre F 16 c)
      ⊢ iprop(((owing F 9 c ∗ mid F 16 c) -∗ WP c (k ⟨⟩) Q)
        -∗ WP c (.op (.enqueueDma ((Memref.whole cc0_scratch0).slice (Rect.unit (s := S512x1024) (o) S16x1024.size inb) (fun _ => rfl))
            (.remote (Dev.tc n : Thread nD τ) ((Memref.whole cc0_scratch0).slice (Rect.unit (s := S512x1024) (o) S16x1024.size inb) (fun _ => rfl)) (.dma ((cc0_scratch24.slice (Rect.unit (s := S6) ![2] S1.size inb_S6_S1_2)).squeeze S_ squeezes_S1_S_).sem) hsc)
            (.dma ((cc0_scratch25.slice (Rect.unit (s := S6) ![2] S1.size inb_S6_S1_2)).squeeze S_ squeezes_S1_S_).sem) hsrc hdst hsem) k) Q) := by
  subst hn
  have hP : pt cc0_scratch0 c (RA 0 c) fullShare.right.right (gA KA) = _ := (at_0_16 (F := F) ho (inb) c fullShare.right.right (gA KA)).symm
  have hD : ∀ fd, pt (F := F) cc0_scratch0 (px 24 c) (RA 0 c) fullShare fd = _ := fun fd => ((at_0_16 (F := F) (ho) (inb) (px 24 c) fullShare fd).symm)
  refine send_back KA KB K 16 c (px 24 c) rfl rfl rfl fullShare.right.right _ _ (gA KA) cr_0_16 (Entails.of_eq hP) ?_ (Entails.of_eq hP.symm) ?_
  · iintro ⟨%fd, H⟩; iexists fd; iapply (Entails.of_eq (hD fd)); iexact H
  · intro fd
    have hv := arr_0_16 (F := F) ho (inb) (inb) (px 24 c) fd (gA KA)
    refine BIBase.Entails.trans (Entails.of_eq hv) ?_
    have e : px 24 (px 24 c) = c := px_px 24 (by decide) c
    show _ ⊢ pt _ _ _ _ _
    rw [e]
    first | done | exact BIBase.Entails.rfl

set_option maxHeartbeats 1000000 in
theorem send_17 (c n : Dev nD) (hn : n = px 1 c) {o : Fin 2 → ℕ} (ho : o = ![bB 0 c, 0]) {inb} {hsc} {hsrc} {hdst} {hsem}
    {α : Type} {k : PUnit → Prog (TpuEff nD τ sig (Elt F) Λ₀ .tc) α} {Q : α → sProp 𝕄} :
    iprop(env KA KB K ∗ owing F 9 c ∗ pt cc0_scratch1 c (RB 0 c) fullShare.left (gB KB)
        ∗ own (F := F) cc0_scratch1 (px 1 c) (RB 0 c) ∗ pre F 17 c)
      ⊢ iprop(((owing F 8 c ∗ mid F 17 c) -∗ WP c (k ⟨⟩) Q)
        -∗ WP c (.op (.enqueueDma ((Memref.whole cc0_scratch1).slice (Rect.unit (s := S512x1024) (o) S16x1024.size inb) (fun _ => rfl))
            (.remote (Dev.tc n : Thread nD τ) ((Memref.whole cc0_scratch1).slice (Rect.unit (s := S512x1024) (o) S16x1024.size inb) (fun _ => rfl)) (.dma ((cc0_scratch24.slice (Rect.unit (s := S6) ![3] S1.size inb_S6_S1_3)).squeeze S_ squeezes_S1_S_).sem) hsc)
            (.dma ((cc0_scratch25.slice (Rect.unit (s := S6) ![3] S1.size inb_S6_S1_3)).squeeze S_ squeezes_S1_S_).sem) hsrc hdst hsem) k) Q) := by
  subst hn
  have hP : pt cc0_scratch1 c (RB 0 c) fullShare.left (gB KB) = _ := (at_1_16 (F := F) ho (inb) c fullShare.left (gB KB)).symm
  have hD : ∀ fd, pt (F := F) cc0_scratch1 (px 1 c) (RB 0 c) fullShare fd = _ := fun fd => ((at_1_16 (F := F) (ho) (inb) (px 1 c) fullShare fd).symm)
  refine send_back KA KB K 17 c (px 1 c) rfl rfl rfl fullShare.left _ _ (gB KB) cr_1_16 (Entails.of_eq hP) ?_ (Entails.of_eq hP.symm) ?_
  · iintro ⟨%fd, H⟩; iexists fd; iapply (Entails.of_eq (hD fd)); iexact H
  · intro fd
    have hv := arr_1_16 (F := F) ho (inb) (inb) (px 1 c) fd (gB KB)
    refine BIBase.Entails.trans (Entails.of_eq hv) ?_
    have e : px 1 (px 1 c) = c := px_px 1 (by decide) c
    show _ ⊢ pt _ _ _ _ _
    rw [e]
    first | done | exact BIBase.Entails.rfl

set_option maxHeartbeats 1000000 in
theorem send_18 (c n : Dev nD) (hn : n = px 4 c) {o : Fin 2 → ℕ} (ho : o = ![bB 0 c, 0]) {inb} {hsc} {hsrc} {hdst} {hsem}
    {α : Type} {k : PUnit → Prog (TpuEff nD τ sig (Elt F) Λ₀ .tc) α} {Q : α → sProp 𝕄} :
    iprop(env KA KB K ∗ owing F 8 c ∗ pt cc0_scratch1 c (RB 0 c) fullShare.right.left (gB KB)
        ∗ own (F := F) cc0_scratch1 (px 4 c) (RB 0 c) ∗ pre F 18 c)
      ⊢ iprop(((owing F 7 c ∗ mid F 18 c) -∗ WP c (k ⟨⟩) Q)
        -∗ WP c (.op (.enqueueDma ((Memref.whole cc0_scratch1).slice (Rect.unit (s := S512x1024) (o) S16x1024.size inb) (fun _ => rfl))
            (.remote (Dev.tc n : Thread nD τ) ((Memref.whole cc0_scratch1).slice (Rect.unit (s := S512x1024) (o) S16x1024.size inb) (fun _ => rfl)) (.dma ((cc0_scratch24.slice (Rect.unit (s := S6) ![4] S1.size inb_S6_S1_4)).squeeze S_ squeezes_S1_S_).sem) hsc)
            (.dma ((cc0_scratch25.slice (Rect.unit (s := S6) ![4] S1.size inb_S6_S1_4)).squeeze S_ squeezes_S1_S_).sem) hsrc hdst hsem) k) Q) := by
  subst hn
  have hP : pt cc0_scratch1 c (RB 0 c) fullShare.right.left (gB KB) = _ := (at_1_16 (F := F) ho (inb) c fullShare.right.left (gB KB)).symm
  have hD : ∀ fd, pt (F := F) cc0_scratch1 (px 4 c) (RB 0 c) fullShare fd = _ := fun fd => ((at_1_16 (F := F) (ho) (inb) (px 4 c) fullShare fd).symm)
  refine send_back KA KB K 18 c (px 4 c) rfl rfl rfl fullShare.right.left _ _ (gB KB) cr_1_16 (Entails.of_eq hP) ?_ (Entails.of_eq hP.symm) ?_
  · iintro ⟨%fd, H⟩; iexists fd; iapply (Entails.of_eq (hD fd)); iexact H
  · intro fd
    have hv := arr_1_16 (F := F) ho (inb) (inb) (px 4 c) fd (gB KB)
    refine BIBase.Entails.trans (Entails.of_eq hv) ?_
    have e : px 4 (px 4 c) = c := px_px 4 (by decide) c
    show _ ⊢ pt _ _ _ _ _
    rw [e]
    first | done | exact BIBase.Entails.rfl

set_option maxHeartbeats 1000000 in
theorem send_19 (c n : Dev nD) (hn : n = px 5 c) {o : Fin 2 → ℕ} (ho : o = ![bB 0 c, 0]) {inb} {hsc} {hsrc} {hdst} {hsem}
    {α : Type} {k : PUnit → Prog (TpuEff nD τ sig (Elt F) Λ₀ .tc) α} {Q : α → sProp 𝕄} :
    iprop(env KA KB K ∗ owing F 7 c ∗ pt cc0_scratch1 c (RB 0 c) fullShare.right.right (gB KB)
        ∗ own (F := F) cc0_scratch1 (px 5 c) (RB 0 c) ∗ pre F 19 c)
      ⊢ iprop(((owing F 6 c ∗ mid F 19 c) -∗ WP c (k ⟨⟩) Q)
        -∗ WP c (.op (.enqueueDma ((Memref.whole cc0_scratch1).slice (Rect.unit (s := S512x1024) (o) S16x1024.size inb) (fun _ => rfl))
            (.remote (Dev.tc n : Thread nD τ) ((Memref.whole cc0_scratch1).slice (Rect.unit (s := S512x1024) (o) S16x1024.size inb) (fun _ => rfl)) (.dma ((cc0_scratch24.slice (Rect.unit (s := S6) ![5] S1.size inb_S6_S1_5)).squeeze S_ squeezes_S1_S_).sem) hsc)
            (.dma ((cc0_scratch25.slice (Rect.unit (s := S6) ![5] S1.size inb_S6_S1_5)).squeeze S_ squeezes_S1_S_).sem) hsrc hdst hsem) k) Q) := by
  subst hn
  have hP : pt cc0_scratch1 c (RB 0 c) fullShare.right.right (gB KB) = _ := (at_1_16 (F := F) ho (inb) c fullShare.right.right (gB KB)).symm
  have hD : ∀ fd, pt (F := F) cc0_scratch1 (px 5 c) (RB 0 c) fullShare fd = _ := fun fd => ((at_1_16 (F := F) (ho) (inb) (px 5 c) fullShare fd).symm)
  refine send_back KA KB K 19 c (px 5 c) rfl rfl rfl fullShare.right.right _ _ (gB KB) cr_1_16 (Entails.of_eq hP) ?_ (Entails.of_eq hP.symm) ?_
  · iintro ⟨%fd, H⟩; iexists fd; iapply (Entails.of_eq (hD fd)); iexact H
  · intro fd
    have hv := arr_1_16 (F := F) ho (inb) (inb) (px 5 c) fd (gB KB)
    refine BIBase.Entails.trans (Entails.of_eq hv) ?_
    have e : px 5 (px 5 c) = c := px_px 5 (by decide) c
    show _ ⊢ pt _ _ _ _ _
    rw [e]
    first | done | exact BIBase.Entails.rfl

set_option maxHeartbeats 1000000 in
theorem send_20 (c n : Dev nD) (hn : n = px 4 c) {o : Fin 2 → ℕ} (ho : o = ![bA 2 c, 0]) {inb} {hsc} {hsrc} {hdst} {hsem}
    {α : Type} {k : PUnit → Prog (TpuEff nD τ sig (Elt F) Λ₀ .tc) α} {Q : α → sProp 𝕄} :
    iprop(env KA KB K ∗ owing F 6 c ∗ pt cc0_scratch0 c (RA 2 c) fullShare (gA KA)
        ∗ own (F := F) cc0_scratch0 (px 4 c) (RA 2 c) ∗ pre F 20 c)
      ⊢ iprop(((owing F 5 c ∗ mid F 20 c) -∗ WP c (k ⟨⟩) Q)
        -∗ WP c (.op (.enqueueDma ((Memref.whole cc0_scratch0).slice (Rect.unit (s := S512x1024) (o) S64x1024.size inb) (fun _ => rfl))
            (.remote (Dev.tc n : Thread nD τ) ((Memref.whole cc0_scratch0).slice (Rect.unit (s := S512x1024) (o) S64x1024.size inb) (fun _ => rfl)) (.dma ((cc0_scratch20.slice (Rect.unit (s := S6) ![2] S1.size inb_S6_S1_2)).squeeze S_ squeezes_S1_S_).sem) hsc)
            (.dma ((cc0_scratch21.slice (Rect.unit (s := S6) ![2] S1.size inb_S6_S1_2)).squeeze S_ squeezes_S1_S_).sem) hsrc hdst hsem) k) Q) := by
  subst hn
  have hP : pt cc0_scratch0 c (RA 2 c) fullShare (gA KA) = _ := (at_0_64 (F := F) ho (inb) c fullShare (gA KA)).symm
  have hD : ∀ fd, pt (F := F) cc0_scratch0 (px 4 c) (RA 2 c) fullShare fd = _ := fun fd => ((at_0_64 (F := F) (ho) (inb) (px 4 c) fullShare fd).symm)
  refine send_back KA KB K 20 c (px 4 c) rfl rfl rfl fullShare _ _ (gA KA) cr_0_64 (Entails.of_eq hP) ?_ (Entails.of_eq hP.symm) ?_
  · iintro ⟨%fd, H⟩; iexists fd; iapply (Entails.of_eq (hD fd)); iexact H
  · intro fd
    have hv := arr_0_64 (F := F) ho (inb) (inb) (px 4 c) fd (gA KA)
    refine BIBase.Entails.trans (Entails.of_eq hv) ?_
    have e : px 4 (px 4 c) = c := px_px 4 (by decide) c
    show _ ⊢ pt _ _ _ _ _
    rw [e]
    first | done | exact BIBase.Entails.rfl

set_option maxHeartbeats 1000000 in
theorem send_21 (c n : Dev nD) (hn : n = px 16 c) {o : Fin 2 → ℕ} (ho : o = ![bB 2 c, 0]) {inb} {hsc} {hsrc} {hdst} {hsem}
    {α : Type} {k : PUnit → Prog (TpuEff nD τ sig (Elt F) Λ₀ .tc) α} {Q : α → sProp 𝕄} :
    iprop(env KA KB K ∗ owing F 5 c ∗ pt cc0_scratch1 c (RB 2 c) fullShare (gB KB)
        ∗ own (F := F) cc0_scratch1 (px 16 c) (RB 2 c) ∗ pre F 21 c)
      ⊢ iprop(((owing F 4 c ∗ mid F 21 c) -∗ WP c (k ⟨⟩) Q)
        -∗ WP c (.op (.enqueueDma ((Memref.whole cc0_scratch1).slice (Rect.unit (s := S512x1024) (o) S64x1024.size inb) (fun _ => rfl))
            (.remote (Dev.tc n : Thread nD τ) ((Memref.whole cc0_scratch1).slice (Rect.unit (s := S512x1024) (o) S64x1024.size inb) (fun _ => rfl)) (.dma ((cc0_scratch20.slice (Rect.unit (s := S6) ![5] S1.size inb_S6_S1_5)).squeeze S_ squeezes_S1_S_).sem) hsc)
            (.dma ((cc0_scratch21.slice (Rect.unit (s := S6) ![5] S1.size inb_S6_S1_5)).squeeze S_ squeezes_S1_S_).sem) hsrc hdst hsem) k) Q) := by
  subst hn
  have hP : pt cc0_scratch1 c (RB 2 c) fullShare (gB KB) = _ := (at_1_64 (F := F) ho (inb) c fullShare (gB KB)).symm
  have hD : ∀ fd, pt (F := F) cc0_scratch1 (px 16 c) (RB 2 c) fullShare fd = _ := fun fd => ((at_1_64 (F := F) (ho) (inb) (px 16 c) fullShare fd).symm)
  refine send_back KA KB K 21 c (px 16 c) rfl rfl rfl fullShare _ _ (gB KB) cr_1_64 (Entails.of_eq hP) ?_ (Entails.of_eq hP.symm) ?_
  · iintro ⟨%fd, H⟩; iexists fd; iapply (Entails.of_eq (hD fd)); iexact H
  · intro fd
    have hv := arr_1_64 (F := F) ho (inb) (inb) (px 16 c) fd (gB KB)
    refine BIBase.Entails.trans (Entails.of_eq hv) ?_
    have e : px 16 (px 16 c) = c := px_px 16 (by decide) c
    show _ ⊢ pt _ _ _ _ _
    rw [e]
    first | done | exact BIBase.Entails.rfl

set_option maxHeartbeats 1000000 in
theorem send_22 (c n : Dev nD) (hn : n = px 3 c) {o : Fin 2 → ℕ} (ho : o = ![bA 3 c, 0]) {inb} {hsc} {hsrc} {hdst} {hsem}
    {α : Type} {k : PUnit → Prog (TpuEff nD τ sig (Elt F) Λ₀ .tc) α} {Q : α → sProp 𝕄} :
    iprop(env KA KB K ∗ owing F 4 c ∗ pt cc0_scratch0 c (RA 3 c) fullShare (gA KA)
        ∗ own (F := F) cc0_scratch0 (px 3 c) (RA 3 c) ∗ pre F 22 c)
      ⊢ iprop(((owing F 3 c ∗ mid F 22 c) -∗ WP c (k ⟨⟩) Q)
        -∗ WP c (.op (.enqueueDma ((Memref.whole cc0_scratch0).slice (Rect.unit (s := S512x1024) (o) S128x1024.size inb) (fun _ => rfl))
            (.remote (Dev.tc n : Thread nD τ) ((Memref.whole cc0_scratch0).slice (Rect.unit (s := S512x1024) (o) S128x1024.size inb) (fun _ => rfl)) (.dma ((cc0_scratch20.slice (Rect.unit (s := S6) ![1] S1.size inb_S6_S1_1)).squeeze S_ squeezes_S1_S_).sem) hsc)
            (.dma ((cc0_scratch21.slice (Rect.unit (s := S6) ![1] S1.size inb_S6_S1_1)).squeeze S_ squeezes_S1_S_).sem) hsrc hdst hsem) k) Q) := by
  subst hn
  have hP : pt cc0_scratch0 c (RA 3 c) fullShare (gA KA) = _ := (at_0_128 (F := F) ho (inb) c fullShare (gA KA)).symm
  have hD : ∀ fd, pt (F := F) cc0_scratch0 (px 3 c) (RA 3 c) fullShare fd = _ := fun fd => ((at_0_128 (F := F) (ho) (inb) (px 3 c) fullShare fd).symm)
  refine send_back KA KB K 22 c (px 3 c) rfl rfl rfl fullShare _ _ (gA KA) cr_0_128 (Entails.of_eq hP) ?_ (Entails.of_eq hP.symm) ?_
  · iintro ⟨%fd, H⟩; iexists fd; iapply (Entails.of_eq (hD fd)); iexact H
  · intro fd
    have hv := arr_0_128 (F := F) ho (inb) (inb) (px 3 c) fd (gA KA)
    refine BIBase.Entails.trans (Entails.of_eq hv) ?_
    have e : px 3 (px 3 c) = c := px_px 3 (by decide) c
    show _ ⊢ pt _ _ _ _ _
    rw [e]
    first | done | exact BIBase.Entails.rfl

set_option maxHeartbeats 1000000 in
theorem send_23 (c n : Dev nD) (hn : n = px 8 c) {o : Fin 2 → ℕ} (ho : o = ![bB 3 c, 0]) {inb} {hsc} {hsrc} {hdst} {hsem}
    {α : Type} {k : PUnit → Prog (TpuEff nD τ sig (Elt F) Λ₀ .tc) α} {Q : α → sProp 𝕄} :
    iprop(env KA KB K ∗ owing F 3 c ∗ pt cc0_scratch1 c (RB 3 c) fullShare (gB KB)
        ∗ own (F := F) cc0_scratch1 (px 8 c) (RB 3 c) ∗ pre F 23 c)
      ⊢ iprop(((owing F 2 c ∗ mid F 23 c) -∗ WP c (k ⟨⟩) Q)
        -∗ WP c (.op (.enqueueDma ((Memref.whole cc0_scratch1).slice (Rect.unit (s := S512x1024) (o) S128x1024.size inb) (fun _ => rfl))
            (.remote (Dev.tc n : Thread nD τ) ((Memref.whole cc0_scratch1).slice (Rect.unit (s := S512x1024) (o) S128x1024.size inb) (fun _ => rfl)) (.dma ((cc0_scratch20.slice (Rect.unit (s := S6) ![4] S1.size inb_S6_S1_4)).squeeze S_ squeezes_S1_S_).sem) hsc)
            (.dma ((cc0_scratch21.slice (Rect.unit (s := S6) ![4] S1.size inb_S6_S1_4)).squeeze S_ squeezes_S1_S_).sem) hsrc hdst hsem) k) Q) := by
  subst hn
  have hP : pt cc0_scratch1 c (RB 3 c) fullShare (gB KB) = _ := (at_1_128 (F := F) ho (inb) c fullShare (gB KB)).symm
  have hD : ∀ fd, pt (F := F) cc0_scratch1 (px 8 c) (RB 3 c) fullShare fd = _ := fun fd => ((at_1_128 (F := F) (ho) (inb) (px 8 c) fullShare fd).symm)
  refine send_back KA KB K 23 c (px 8 c) rfl rfl rfl fullShare _ _ (gB KB) cr_1_128 (Entails.of_eq hP) ?_ (Entails.of_eq hP.symm) ?_
  · iintro ⟨%fd, H⟩; iexists fd; iapply (Entails.of_eq (hD fd)); iexact H
  · intro fd
    have hv := arr_1_128 (F := F) ho (inb) (inb) (px 8 c) fd (gB KB)
    refine BIBase.Entails.trans (Entails.of_eq hv) ?_
    have e : px 8 (px 8 c) = c := px_px 8 (by decide) c
    show _ ⊢ pt _ _ _ _ _
    rw [e]
    first | done | exact BIBase.Entails.rfl

set_option maxHeartbeats 1000000 in
theorem send_24 (c n : Dev nD) (hn : n = px 1 c) {o : Fin 2 → ℕ} (ho : o = ![bA 4 c, 0]) {inb} {hsc} {hsrc} {hdst} {hsem}
    {α : Type} {k : PUnit → Prog (TpuEff nD τ sig (Elt F) Λ₀ .tc) α} {Q : α → sProp 𝕄} :
    iprop(env KA KB K ∗ owing F 2 c ∗ pt cc0_scratch0 c (RA 4 c) fullShare.right (gA KA)
        ∗ own (F := F) cc0_scratch0 (px 1 c) (RA 4 c) ∗ pre F 24 c)
      ⊢ iprop(((owing F 1 c ∗ mid F 24 c) -∗ WP c (k ⟨⟩) Q)
        -∗ WP c (.op (.enqueueDma ((Memref.whole cc0_scratch0).slice (Rect.unit (s := S512x1024) (o) S256x1024.size inb) (fun _ => rfl))
            (.remote (Dev.tc n : Thread nD τ) ((Memref.whole cc0_scratch0).slice (Rect.unit (s := S512x1024) (o) S256x1024.size inb) (fun _ => rfl)) (.dma ((cc0_scratch20.slice (Rect.unit (s := S6) ![0] S1.size inb_S6_S1_0)).squeeze S_ squeezes_S1_S_).sem) hsc)
            (.dma ((cc0_scratch21.slice (Rect.unit (s := S6) ![0] S1.size inb_S6_S1_0)).squeeze S_ squeezes_S1_S_).sem) hsrc hdst hsem) k) Q) := by
  subst hn
  have hP : pt cc0_scratch0 c (RA 4 c) fullShare.right (gA KA) = _ := (at_0_256 (F := F) ho (inb) c fullShare.right (gA KA)).symm
  have hD : ∀ fd, pt (F := F) cc0_scratch0 (px 1 c) (RA 4 c) fullShare fd = _ := fun fd => ((at_0_256 (F := F) (ho) (inb) (px 1 c) fullShare fd).symm)
  refine send_back KA KB K 24 c (px 1 c) rfl rfl rfl fullShare.right _ _ (gA KA) cr_0_256 (Entails.of_eq hP) ?_ (Entails.of_eq hP.symm) ?_
  · iintro ⟨%fd, H⟩; iexists fd; iapply (Entails.of_eq (hD fd)); iexact H
  · intro fd
    have hv := arr_0_256 (F := F) ho (inb) (inb) (px 1 c) fd (gA KA)
    refine BIBase.Entails.trans (Entails.of_eq hv) ?_
    have e : px 1 (px 1 c) = c := px_px 1 (by decide) c
    show _ ⊢ pt _ _ _ _ _
    rw [e]
    first | done | exact BIBase.Entails.rfl

set_option maxHeartbeats 1000000 in
theorem send_25 (c n : Dev nD) (hn : n = px 3 c) {o : Fin 2 → ℕ} (ho : o = ![bB 4 c, 0]) {inb} {hsc} {hsrc} {hdst} {hsem}
    {α : Type} {k : PUnit → Prog (TpuEff nD τ sig (Elt F) Λ₀ .tc) α} {Q : α → sProp 𝕄} :
    iprop(env KA KB K ∗ owing F 1 c ∗ pt cc0_scratch1 c (RB 4 c) fullShare.right (gB KB)
        ∗ own (F := F) cc0_scratch1 (px 3 c) (RB 4 c) ∗ pre F 25 c)
      ⊢ iprop(((owing F 0 c ∗ mid F 25 c) -∗ WP c (k ⟨⟩) Q)
        -∗ WP c (.op (.enqueueDma ((Memref.whole cc0_scratch1).slice (Rect.unit (s := S512x1024) (o) S256x1024.size inb) (fun _ => rfl))
            (.remote (Dev.tc n : Thread nD τ) ((Memref.whole cc0_scratch1).slice (Rect.unit (s := S512x1024) (o) S256x1024.size inb) (fun _ => rfl)) (.dma ((cc0_scratch20.slice (Rect.unit (s := S6) ![3] S1.size inb_S6_S1_3)).squeeze S_ squeezes_S1_S_).sem) hsc)
            (.dma ((cc0_scratch21.slice (Rect.unit (s := S6) ![3] S1.size inb_S6_S1_3)).squeeze S_ squeezes_S1_S_).sem) hsrc hdst hsem) k) Q) := by
  subst hn
  have hP : pt cc0_scratch1 c (RB 4 c) fullShare.right (gB KB) = _ := (at_1_256 (F := F) ho (inb) c fullShare.right (gB KB)).symm
  have hD : ∀ fd, pt (F := F) cc0_scratch1 (px 3 c) (RB 4 c) fullShare fd = _ := fun fd => ((at_1_256 (F := F) (ho) (inb) (px 3 c) fullShare fd).symm)
  refine send_back KA KB K 25 c (px 3 c) rfl rfl rfl fullShare.right _ _ (gB KB) cr_1_256 (Entails.of_eq hP) ?_ (Entails.of_eq hP.symm) ?_
  · iintro ⟨%fd, H⟩; iexists fd; iapply (Entails.of_eq (hD fd)); iexact H
  · intro fd
    have hv := arr_1_256 (F := F) ho (inb) (inb) (px 3 c) fd (gB KB)
    refine BIBase.Entails.trans (Entails.of_eq hv) ?_
    have e : px 3 (px 3 c) = c := px_px 3 (by decide) c
    show _ ⊢ pt _ _ _ _ _
    rw [e]
    first | done | exact BIBase.Entails.rfl

end Cert.KernelIdealProof
-- ==== Proof.KernelIdealWaits.lean ====
/-
The waits of the twenty-six transfers, one lemma for each: the wait for a transfer to have left, and the wait for one to have come.
-/
module

public import proofs.«01_k».proof.Proof.KernelIdealLand

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (KA KB : Dev nD → Mat F) (K : Dev nD × Fin 53 → ℕ)

theorem wS_0 (c : Dev nD) (k' : ℕ) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ mid F 0 c)
      ⊢ iprop(((owing F k' c ∗ snt F 0 c) -∗ WP c (k ⟨⟩) Q)
        -∗ WP c (.op (.waitDma2 ((cc0_scratch26.slice (Rect.unit (s := S4) ![0] S1.size inb_S4_S1_0)).squeeze S_ squeezes_S1_S_).sem
            ((Memref.whole cc0_scratch2).slice (Rect.unit (s := S256x1024) o0 S128x1024.size inb0) (fun _ => rfl))
            ((Memref.whole cc0_scratch0).slice (Rect.unit (s := S512x1024) o1 S128x1024.size inb1) (fun _ => rfl)) h1 h2) k) Q) := by
  iintro H Hk
  iapply (wait_send KA KB K 0 c k' (src := ((Memref.whole cc0_scratch2).slice (Rect.unit (s := S256x1024) o0 S128x1024.size inb0) (fun _ => rfl))) (dst := ((Memref.whole cc0_scratch0).slice (Rect.unit (s := S512x1024) o1 S128x1024.size inb1) (fun _ => rfl))) (hsrc := h1) (hdst := h2) rfl cr_0_128 (k := k) (Q := Q)) $$ H
  iintro ⟨Ho, H, -⟩
  iapply Hk
  isplitl [Ho]; · iexact Ho
  iexact H

theorem wR_0 (c : Dev nD) (k' : ℕ) (hk : k' ≤ 25) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ snt F 0 c)
      ⊢ iprop(((owing F k' c ∗ fin F 0 c ∗ pt cc0_scratch2 c (LA (sA c)) fullShare (shf (bA 4 c) (KA (px 1 c))) ∗ own (F := F) cc0_scratch0 (px 1 c) (RA 3 (px 3 c))) -∗ WP c (k ⟨⟩) Q)
        -∗ WP c (.op (.waitDma2 ((cc0_scratch27.slice (Rect.unit (s := S4) ![0] S1.size inb_S4_S1_0)).squeeze S_ squeezes_S1_S_).sem
            ((Memref.whole cc0_scratch0).slice (Rect.unit (s := S512x1024) o0 S128x1024.size inb0) (fun _ => rfl))
            ((Memref.whole cc0_scratch2).slice (Rect.unit (s := S256x1024) o1 S128x1024.size inb1) (fun _ => rfl)) h1 h2) k) Q) := wait_recv KA KB K 0 c k' hk (src := ((Memref.whole cc0_scratch0).slice (Rect.unit (s := S512x1024) o0 S128x1024.size inb0) (fun _ => rfl))) (dst := ((Memref.whole cc0_scratch2).slice (Rect.unit (s := S256x1024) o1 S128x1024.size inb1) (fun _ => rfl))) (hsrc := h1) (hdst := h2) rfl cr_2_128

theorem wS_2 (c : Dev nD) (k' : ℕ) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ mid F 2 c)
      ⊢ iprop(((owing F k' c ∗ snt F 2 c) -∗ WP c (k ⟨⟩) Q)
        -∗ WP c (.op (.waitDma2 ((cc0_scratch26.slice (Rect.unit (s := S4) ![2] S1.size inb_S4_S1_2)).squeeze S_ squeezes_S1_S_).sem
            ((Memref.whole cc0_scratch5).slice (Rect.unit (s := S256x1024) o0 S128x1024.size inb0) (fun _ => rfl))
            ((Memref.whole cc0_scratch1).slice (Rect.unit (s := S512x1024) o1 S128x1024.size inb1) (fun _ => rfl)) h1 h2) k) Q) := by
  iintro H Hk
  iapply (wait_send KA KB K 2 c k' (src := ((Memref.whole cc0_scratch5).slice (Rect.unit (s := S256x1024) o0 S128x1024.size inb0) (fun _ => rfl))) (dst := ((Memref.whole cc0_scratch1).slice (Rect.unit (s := S512x1024) o1 S128x1024.size inb1) (fun _ => rfl))) (hsrc := h1) (hdst := h2) rfl cr_1_128 (k := k) (Q := Q)) $$ H
  iintro ⟨Ho, H, -⟩
  iapply Hk
  isplitl [Ho]; · iexact Ho
  iexact H

theorem wR_2 (c : Dev nD) (k' : ℕ) (hk : k' ≤ 23) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ snt F 2 c)
      ⊢ iprop(((owing F k' c ∗ fin F 2 c ∗ pt cc0_scratch5 c (LA (sB c)) fullShare (shf (bB 4 c) (KB (px 3 c))) ∗ own (F := F) cc0_scratch1 (px 3 c) (RB 3 (px 8 c))) -∗ WP c (k ⟨⟩) Q)
        -∗ WP c (.op (.waitDma2 ((cc0_scratch27.slice (Rect.unit (s := S4) ![2] S1.size inb_S4_S1_2)).squeeze S_ squeezes_S1_S_).sem
            ((Memref.whole cc0_scratch1).slice (Rect.unit (s := S512x1024) o0 S128x1024.size inb0) (fun _ => rfl))
            ((Memref.whole cc0_scratch5).slice (Rect.unit (s := S256x1024) o1 S128x1024.size inb1) (fun _ => rfl)) h1 h2) k) Q) := wait_recv KA KB K 2 c k' hk (src := ((Memref.whole cc0_scratch1).slice (Rect.unit (s := S512x1024) o0 S128x1024.size inb0) (fun _ => rfl))) (dst := ((Memref.whole cc0_scratch5).slice (Rect.unit (s := S256x1024) o1 S128x1024.size inb1) (fun _ => rfl))) (hsrc := h1) (hdst := h2) rfl cr_5_128

theorem wS_1 (c : Dev nD) (k' : ℕ) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ mid F 1 c)
      ⊢ iprop(((owing F k' c ∗ snt F 1 c) -∗ WP c (k ⟨⟩) Q)
        -∗ WP c (.op (.waitDma2 ((cc0_scratch26.slice (Rect.unit (s := S4) ![1] S1.size inb_S4_S1_1)).squeeze S_ squeezes_S1_S_).sem
            ((Memref.whole cc0_scratch2).slice (Rect.unit (s := S256x1024) o0 S128x1024.size inb0) (fun _ => rfl))
            ((Memref.whole cc0_scratch0).slice (Rect.unit (s := S512x1024) o1 S128x1024.size inb1) (fun _ => rfl)) h1 h2) k) Q) := by
  iintro H Hk
  iapply (wait_send KA KB K 1 c k' (src := ((Memref.whole cc0_scratch2).slice (Rect.unit (s := S256x1024) o0 S128x1024.size inb0) (fun _ => rfl))) (dst := ((Memref.whole cc0_scratch0).slice (Rect.unit (s := S512x1024) o1 S128x1024.size inb1) (fun _ => rfl))) (hsrc := h1) (hdst := h2) rfl cr_0_128 (k := k) (Q := Q)) $$ H
  iintro ⟨Ho, H, -⟩
  iapply Hk
  isplitl [Ho]; · iexact Ho
  iexact H

theorem wR_1 (c : Dev nD) (k' : ℕ) (hk : k' ≤ 24) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ snt F 1 c)
      ⊢ iprop(((owing F k' c ∗ fin F 1 c ∗ pt cc0_scratch2 c (LA (kA c)) fullShare (shf (bA 4 c) (KA (px 1 c))) ∗ own (F := F) cc0_scratch0 (px 1 c) (RA 3 c)) -∗ WP c (k ⟨⟩) Q)
        -∗ WP c (.op (.waitDma2 ((cc0_scratch27.slice (Rect.unit (s := S4) ![1] S1.size inb_S4_S1_1)).squeeze S_ squeezes_S1_S_).sem
            ((Memref.whole cc0_scratch0).slice (Rect.unit (s := S512x1024) o0 S128x1024.size inb0) (fun _ => rfl))
            ((Memref.whole cc0_scratch2).slice (Rect.unit (s := S256x1024) o1 S128x1024.size inb1) (fun _ => rfl)) h1 h2) k) Q) := wait_recv KA KB K 1 c k' hk (src := ((Memref.whole cc0_scratch0).slice (Rect.unit (s := S512x1024) o0 S128x1024.size inb0) (fun _ => rfl))) (dst := ((Memref.whole cc0_scratch2).slice (Rect.unit (s := S256x1024) o1 S128x1024.size inb1) (fun _ => rfl))) (hsrc := h1) (hdst := h2) rfl cr_2_128

theorem wS_3 (c : Dev nD) (k' : ℕ) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ mid F 3 c)
      ⊢ iprop(((owing F k' c ∗ snt F 3 c) -∗ WP c (k ⟨⟩) Q)
        -∗ WP c (.op (.waitDma2 ((cc0_scratch26.slice (Rect.unit (s := S4) ![3] S1.size inb_S4_S1_3)).squeeze S_ squeezes_S1_S_).sem
            ((Memref.whole cc0_scratch5).slice (Rect.unit (s := S256x1024) o0 S128x1024.size inb0) (fun _ => rfl))
            ((Memref.whole cc0_scratch1).slice (Rect.unit (s := S512x1024) o1 S128x1024.size inb1) (fun _ => rfl)) h1 h2) k) Q) := by
  iintro H Hk
  iapply (wait_send KA KB K 3 c k' (src := ((Memref.whole cc0_scratch5).slice (Rect.unit (s := S256x1024) o0 S128x1024.size inb0) (fun _ => rfl))) (dst := ((Memref.whole cc0_scratch1).slice (Rect.unit (s := S512x1024) o1 S128x1024.size inb1) (fun _ => rfl))) (hsrc := h1) (hdst := h2) rfl cr_1_128 (k := k) (Q := Q)) $$ H
  iintro ⟨Ho, H, -⟩
  iapply Hk
  isplitl [Ho]; · iexact Ho
  iexact H

theorem wR_3 (c : Dev nD) (k' : ℕ) (hk : k' ≤ 22) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ snt F 3 c)
      ⊢ iprop(((owing F k' c ∗ fin F 3 c ∗ pt cc0_scratch5 c (LA (kB c)) fullShare (shf (bB 4 c) (KB (px 3 c))) ∗ own (F := F) cc0_scratch1 (px 3 c) (RB 3 c)) -∗ WP c (k ⟨⟩) Q)
        -∗ WP c (.op (.waitDma2 ((cc0_scratch27.slice (Rect.unit (s := S4) ![3] S1.size inb_S4_S1_3)).squeeze S_ squeezes_S1_S_).sem
            ((Memref.whole cc0_scratch1).slice (Rect.unit (s := S512x1024) o0 S128x1024.size inb0) (fun _ => rfl))
            ((Memref.whole cc0_scratch5).slice (Rect.unit (s := S256x1024) o1 S128x1024.size inb1) (fun _ => rfl)) h1 h2) k) Q) := wait_recv KA KB K 3 c k' hk (src := ((Memref.whole cc0_scratch1).slice (Rect.unit (s := S512x1024) o0 S128x1024.size inb0) (fun _ => rfl))) (dst := ((Memref.whole cc0_scratch5).slice (Rect.unit (s := S256x1024) o1 S128x1024.size inb1) (fun _ => rfl))) (hsrc := h1) (hdst := h2) rfl cr_5_128

theorem wS_4 (c : Dev nD) (k' : ℕ) {o0 : Fin 2 → ℕ} {inb0} {h1} {h2}
    {α : Type} {k : PUnit → Prog (TpuEff nD τ sig (Elt F) Λ₀ .tc) α} {Q : α → sProp 𝕄} :
    iprop(env KA KB K ∗ owing F k' c ∗ mid F 4 c)
      ⊢ iprop(((owing F k' c ∗ snt F 4 c) -∗ WP c (k ⟨⟩) Q)
        -∗ WP c (.op (.waitDma2 ((cc0_scratch18.slice (Rect.unit (s := S6) ![1] S1.size inb_S6_S1_1)).squeeze S_ squeezes_S1_S_).sem
            ((Memref.whole cc0_scratch3).slice (Rect.unit (s := S128x1024) ![0, 0] S128x1024.size inb_S128x1024_S128x1024_0_0) (fun _ => rfl))
            ((Memref.whole cc0_scratch0).slice (Rect.unit (s := S512x1024) o0 S128x1024.size inb0) (fun _ => rfl)) h1 h2) k) Q) := by
  iintro H Hk
  iapply (wait_send KA KB K 4 c k' (src := ((Memref.whole cc0_scratch3).slice (Rect.unit (s := S128x1024) ![0, 0] S128x1024.size inb_S128x1024_S128x1024_0_0) (fun _ => rfl))) (dst := ((Memref.whole cc0_scratch0).slice (Rect.unit (s := S512x1024) o0 S128x1024.size inb0) (fun _ => rfl))) (hsrc := h1) (hdst := h2) rfl cr_0_128 (k := k) (Q := Q)) $$ H
  iintro ⟨Ho, H, -⟩
  iapply Hk
  isplitl [Ho]; · iexact Ho
  iexact H

theorem wR_4 (c : Dev nD) (k' : ℕ) (hk : k' ≤ 21) {o0 : Fin 2 → ℕ} {inb0} {h1} {h2}
    {α : Type} {k : PUnit → Prog (TpuEff nD τ sig (Elt F) Λ₀ .tc) α} {Q : α → sProp 𝕄} :
    iprop(env KA KB K ∗ owing F k' c ∗ snt F 4 c)
      ⊢ iprop(((owing F k' c ∗ fin F 4 c ∗ pt cc0_scratch3 c (Finset.univ) fullShare (shf (bA 3 c) (tA1 KA (px 3 c))) ∗ own (F := F) cc0_scratch0 (px 3 c) (RA 3 c)) -∗ WP c (k ⟨⟩) Q)
        -∗ WP c (.op (.waitDma2 ((cc0_scratch19.slice (Rect.unit (s := S6) ![1] S1.size inb_S6_S1_1)).squeeze S_ squeezes_S1_S_).sem
            ((Memref.whole cc0_scratch0).slice (Rect.unit (s := S512x1024) o0 S128x1024.size inb0) (fun _ => rfl))
            ((Memref.whole cc0_scratch3).slice (Rect.unit (s := S128x1024) ![0, 0] S128x1024.size inb_S128x1024_S128x1024_0_0) (fun _ => rfl)) h1 h2) k) Q) := wait_recv KA KB K 4 c k' hk (src := ((Memref.whole cc0_scratch0).slice (Rect.unit (s := S512x1024) o0 S128x1024.size inb0) (fun _ => rfl))) (dst := ((Memref.whole cc0_scratch3).slice (Rect.unit (s := S128x1024) ![0, 0] S128x1024.size inb_S128x1024_S128x1024_0_0) (fun _ => rfl))) (hsrc := h1) (hdst := h2) rfl cr_3_128

theorem wS_5 (c : Dev nD) (k' : ℕ) {o0 : Fin 2 → ℕ} {inb0} {h1} {h2}
    {α : Type} {k : PUnit → Prog (TpuEff nD τ sig (Elt F) Λ₀ .tc) α} {Q : α → sProp 𝕄} :
    iprop(env KA KB K ∗ owing F k' c ∗ mid F 5 c)
      ⊢ iprop(((owing F k' c ∗ snt F 5 c) -∗ WP c (k ⟨⟩) Q)
        -∗ WP c (.op (.waitDma2 ((cc0_scratch18.slice (Rect.unit (s := S6) ![4] S1.size inb_S6_S1_4)).squeeze S_ squeezes_S1_S_).sem
            ((Memref.whole cc0_scratch6).slice (Rect.unit (s := S128x1024) ![0, 0] S128x1024.size inb_S128x1024_S128x1024_0_0) (fun _ => rfl))
            ((Memref.whole cc0_scratch1).slice (Rect.unit (s := S512x1024) o0 S128x1024.size inb0) (fun _ => rfl)) h1 h2) k) Q) := by
  iintro H Hk
  iapply (wait_send KA KB K 5 c k' (src := ((Memref.whole cc0_scratch6).slice (Rect.unit (s := S128x1024) ![0, 0] S128x1024.size inb_S128x1024_S128x1024_0_0) (fun _ => rfl))) (dst := ((Memref.whole cc0_scratch1).slice (Rect.unit (s := S512x1024) o0 S128x1024.size inb0) (fun _ => rfl))) (hsrc := h1) (hdst := h2) rfl cr_1_128 (k := k) (Q := Q)) $$ H
  iintro ⟨Ho, H, -⟩
  iapply Hk
  isplitl [Ho]; · iexact Ho
  iexact H

theorem wR_5 (c : Dev nD) (k' : ℕ) (hk : k' ≤ 20) {o0 : Fin 2 → ℕ} {inb0} {h1} {h2}
    {α : Type} {k : PUnit → Prog (TpuEff nD τ sig (Elt F) Λ₀ .tc) α} {Q : α → sProp 𝕄} :
    iprop(env KA KB K ∗ owing F k' c ∗ snt F 5 c)
      ⊢ iprop(((owing F k' c ∗ fin F 5 c ∗ pt cc0_scratch6 c (Finset.univ) fullShare (shf (bB 3 c) (tB1 KB (px 8 c))) ∗ own (F := F) cc0_scratch1 (px 8 c) (RB 3 c)) -∗ WP c (k ⟨⟩) Q)
        -∗ WP c (.op (.waitDma2 ((cc0_scratch19.slice (Rect.unit (s := S6) ![4] S1.size inb_S6_S1_4)).squeeze S_ squeezes_S1_S_).sem
            ((Memref.whole cc0_scratch1).slice (Rect.unit (s := S512x1024) o0 S128x1024.size inb0) (fun _ => rfl))
            ((Memref.whole cc0_scratch6).slice (Rect.unit (s := S128x1024) ![0, 0] S128x1024.size inb_S128x1024_S128x1024_0_0) (fun _ => rfl)) h1 h2) k) Q) := wait_recv KA KB K 5 c k' hk (src := ((Memref.whole cc0_scratch1).slice (Rect.unit (s := S512x1024) o0 S128x1024.size inb0) (fun _ => rfl))) (dst := ((Memref.whole cc0_scratch6).slice (Rect.unit (s := S128x1024) ![0, 0] S128x1024.size inb_S128x1024_S128x1024_0_0) (fun _ => rfl))) (hsrc := h1) (hdst := h2) rfl cr_6_128

theorem wS_6 (c : Dev nD) (k' : ℕ) {o0 : Fin 2 → ℕ} {inb0} {h1} {h2}
    {α : Type} {k : PUnit → Prog (TpuEff nD τ sig (Elt F) Λ₀ .tc) α} {Q : α → sProp 𝕄} :
    iprop(env KA KB K ∗ owing F k' c ∗ mid F 6 c)
      ⊢ iprop(((owing F k' c ∗ snt F 6 c) -∗ WP c (k ⟨⟩) Q)
        -∗ WP c (.op (.waitDma2 ((cc0_scratch18.slice (Rect.unit (s := S6) ![2] S1.size inb_S6_S1_2)).squeeze S_ squeezes_S1_S_).sem
            ((Memref.whole cc0_scratch4).slice (Rect.unit (s := S64x1024) ![0, 0] S64x1024.size inb_S64x1024_S64x1024_0_0) (fun _ => rfl))
            ((Memref.whole cc0_scratch0).slice (Rect.unit (s := S512x1024) o0 S64x1024.size inb0) (fun _ => rfl)) h1 h2) k) Q) := by
  iintro H Hk
  iapply (wait_send KA KB K 6 c k' (src := ((Memref.whole cc0_scratch4).slice (Rect.unit (s := S64x1024) ![0, 0] S64x1024.size inb_S64x1024_S64x1024_0_0) (fun _ => rfl))) (dst := ((Memref.whole cc0_scratch0).slice (Rect.unit (s := S512x1024) o0 S64x1024.size inb0) (fun _ => rfl))) (hsrc := h1) (hdst := h2) rfl cr_0_64 (k := k) (Q := Q)) $$ H
  iintro ⟨Ho, H, -⟩
  iapply Hk
  isplitl [Ho]; · iexact Ho
  iexact H

theorem wR_6 (c : Dev nD) (k' : ℕ) (hk : k' ≤ 19) {o0 : Fin 2 → ℕ} {inb0} {h1} {h2}
    {α : Type} {k : PUnit → Prog (TpuEff nD τ sig (Elt F) Λ₀ .tc) α} {Q : α → sProp 𝕄} :
    iprop(env KA KB K ∗ owing F k' c ∗ snt F 6 c)
      ⊢ iprop(((owing F k' c ∗ fin F 6 c ∗ pt cc0_scratch4 c (Finset.univ) fullShare (shf (bA 2 c) (tA2 KA (px 4 c))) ∗ own (F := F) cc0_scratch0 (px 4 c) (RA 2 c)) -∗ WP c (k ⟨⟩) Q)
        -∗ WP c (.op (.waitDma2 ((cc0_scratch19.slice (Rect.unit (s := S6) ![2] S1.size inb_S6_S1_2)).squeeze S_ squeezes_S1_S_).sem
            ((Memref.whole cc0_scratch0).slice (Rect.unit (s := S512x1024) o0 S64x1024.size inb0) (fun _ => rfl))
            ((Memref.whole cc0_scratch4).slice (Rect.unit (s := S64x1024) ![0, 0] S64x1024.size inb_S64x1024_S64x1024_0_0) (fun _ => rfl)) h1 h2) k) Q) := wait_recv KA KB K 6 c k' hk (src := ((Memref.whole cc0_scratch0).slice (Rect.unit (s := S512x1024) o0 S64x1024.size inb0) (fun _ => rfl))) (dst := ((Memref.whole cc0_scratch4).slice (Rect.unit (s := S64x1024) ![0, 0] S64x1024.size inb_S64x1024_S64x1024_0_0) (fun _ => rfl))) (hsrc := h1) (hdst := h2) rfl cr_4_64

theorem wS_7 (c : Dev nD) (k' : ℕ) {o0 : Fin 2 → ℕ} {inb0} {h1} {h2}
    {α : Type} {k : PUnit → Prog (TpuEff nD τ sig (Elt F) Λ₀ .tc) α} {Q : α → sProp 𝕄} :
    iprop(env KA KB K ∗ owing F k' c ∗ mid F 7 c)
      ⊢ iprop(((owing F k' c ∗ snt F 7 c) -∗ WP c (k ⟨⟩) Q)
        -∗ WP c (.op (.waitDma2 ((cc0_scratch18.slice (Rect.unit (s := S6) ![5] S1.size inb_S6_S1_5)).squeeze S_ squeezes_S1_S_).sem
            ((Memref.whole cc0_scratch7).slice (Rect.unit (s := S64x1024) ![0, 0] S64x1024.size inb_S64x1024_S64x1024_0_0) (fun _ => rfl))
            ((Memref.whole cc0_scratch1).slice (Rect.unit (s := S512x1024) o0 S64x1024.size inb0) (fun _ => rfl)) h1 h2) k) Q) := by
  iintro H Hk
  iapply (wait_send KA KB K 7 c k' (src := ((Memref.whole cc0_scratch7).slice (Rect.unit (s := S64x1024) ![0, 0] S64x1024.size inb_S64x1024_S64x1024_0_0) (fun _ => rfl))) (dst := ((Memref.whole cc0_scratch1).slice (Rect.unit (s := S512x1024) o0 S64x1024.size inb0) (fun _ => rfl))) (hsrc := h1) (hdst := h2) rfl cr_1_64 (k := k) (Q := Q)) $$ H
  iintro ⟨Ho, H, -⟩
  iapply Hk
  isplitl [Ho]; · iexact Ho
  iexact H

theorem wR_7 (c : Dev nD) (k' : ℕ) (hk : k' ≤ 18) {o0 : Fin 2 → ℕ} {inb0} {h1} {h2}
    {α : Type} {k : PUnit → Prog (TpuEff nD τ sig (Elt F) Λ₀ .tc) α} {Q : α → sProp 𝕄} :
    iprop(env KA KB K ∗ owing F k' c ∗ snt F 7 c)
      ⊢ iprop(((owing F k' c ∗ fin F 7 c ∗ pt cc0_scratch7 c (Finset.univ) fullShare (shf (bB 2 c) (tB2 KB (px 16 c))) ∗ own (F := F) cc0_scratch1 (px 16 c) (RB 2 c)) -∗ WP c (k ⟨⟩) Q)
        -∗ WP c (.op (.waitDma2 ((cc0_scratch19.slice (Rect.unit (s := S6) ![5] S1.size inb_S6_S1_5)).squeeze S_ squeezes_S1_S_).sem
            ((Memref.whole cc0_scratch1).slice (Rect.unit (s := S512x1024) o0 S64x1024.size inb0) (fun _ => rfl))
            ((Memref.whole cc0_scratch7).slice (Rect.unit (s := S64x1024) ![0, 0] S64x1024.size inb_S64x1024_S64x1024_0_0) (fun _ => rfl)) h1 h2) k) Q) := wait_recv KA KB K 7 c k' hk (src := ((Memref.whole cc0_scratch1).slice (Rect.unit (s := S512x1024) o0 S64x1024.size inb0) (fun _ => rfl))) (dst := ((Memref.whole cc0_scratch7).slice (Rect.unit (s := S64x1024) ![0, 0] S64x1024.size inb_S64x1024_S64x1024_0_0) (fun _ => rfl))) (hsrc := h1) (hdst := h2) rfl cr_7_64

theorem wS_8 (c : Dev nD) (k' : ℕ) {o0 : Fin 2 → ℕ} {inb0} {h1} {h2}
    {α : Type} {k : PUnit → Prog (TpuEff nD τ sig (Elt F) Λ₀ .tc) α} {Q : α → sProp 𝕄} :
    iprop(env KA KB K ∗ owing F k' c ∗ mid F 8 c)
      ⊢ iprop(((owing F k' c ∗ snt F 8 c) -∗ WP c (k ⟨⟩) Q)
        -∗ WP c (.op (.waitDma2 ((cc0_scratch22.slice (Rect.unit (s := S6) ![0] S1.size inb_S6_S1_0)).squeeze S_ squeezes_S1_S_).sem
            ((Memref.whole cc0_scratch8).slice (Rect.unit (s := S16x1024) ![0, 0] S16x1024.size inb_S16x1024_S16x1024_0_0) (fun _ => rfl))
            ((Memref.whole cc0_scratch0).slice (Rect.unit (s := S512x1024) o0 S16x1024.size inb0) (fun _ => rfl)) h1 h2) k) Q) := by
  iintro H Hk
  iapply (wait_send KA KB K 8 c k' (src := ((Memref.whole cc0_scratch8).slice (Rect.unit (s := S16x1024) ![0, 0] S16x1024.size inb_S16x1024_S16x1024_0_0) (fun _ => rfl))) (dst := ((Memref.whole cc0_scratch0).slice (Rect.unit (s := S512x1024) o0 S16x1024.size inb0) (fun _ => rfl))) (hsrc := h1) (hdst := h2) rfl cr_0_16 (k := k) (Q := Q)) $$ H
  iintro ⟨Ho, H, -⟩
  iapply Hk
  isplitl [Ho]; · iexact Ho
  iexact H

theorem wR_8 (c : Dev nD) (k' : ℕ) (hk : k' ≤ 17) {o0 : Fin 2 → ℕ} {inb0} {h1} {h2}
    {α : Type} {k : PUnit → Prog (TpuEff nD τ sig (Elt F) Λ₀ .tc) α} {Q : α → sProp 𝕄} :
    iprop(env KA KB K ∗ owing F k' c ∗ snt F 8 c)
      ⊢ iprop(((owing F k' c ∗ fin F 8 c ∗ pt cc0_scratch8 c (Finset.univ) fullShare (shf (bA 0 c) (tA3 KA (px 8 c))) ∗ own (F := F) cc0_scratch0 (px 8 c) (RA 0 c)) -∗ WP c (k ⟨⟩) Q)
        -∗ WP c (.op (.waitDma2 ((cc0_scratch23.slice (Rect.unit (s := S6) ![0] S1.size inb_S6_S1_0)).squeeze S_ squeezes_S1_S_).sem
            ((Memref.whole cc0_scratch0).slice (Rect.unit (s := S512x1024) o0 S16x1024.size inb0) (fun _ => rfl))
            ((Memref.whole cc0_scratch8).slice (Rect.unit (s := S16x1024) ![0, 0] S16x1024.size inb_S16x1024_S16x1024_0_0) (fun _ => rfl)) h1 h2) k) Q) := wait_recv KA KB K 8 c k' hk (src := ((Memref.whole cc0_scratch0).slice (Rect.unit (s := S512x1024) o0 S16x1024.size inb0) (fun _ => rfl))) (dst := ((Memref.whole cc0_scratch8).slice (Rect.unit (s := S16x1024) ![0, 0] S16x1024.size inb_S16x1024_S16x1024_0_0) (fun _ => rfl))) (hsrc := h1) (hdst := h2) rfl cr_8_16

theorem wS_9 (c : Dev nD) (k' : ℕ) {o0 : Fin 2 → ℕ} {inb0} {h1} {h2}
    {α : Type} {k : PUnit → Prog (TpuEff nD τ sig (Elt F) Λ₀ .tc) α} {Q : α → sProp 𝕄} :
    iprop(env KA KB K ∗ owing F k' c ∗ mid F 9 c)
      ⊢ iprop(((owing F k' c ∗ snt F 9 c) -∗ WP c (k ⟨⟩) Q)
        -∗ WP c (.op (.waitDma2 ((cc0_scratch22.slice (Rect.unit (s := S6) ![1] S1.size inb_S6_S1_1)).squeeze S_ squeezes_S1_S_).sem
            ((Memref.whole cc0_scratch9).slice (Rect.unit (s := S16x1024) ![0, 0] S16x1024.size inb_S16x1024_S16x1024_0_0) (fun _ => rfl))
            ((Memref.whole cc0_scratch0).slice (Rect.unit (s := S512x1024) o0 S16x1024.size inb0) (fun _ => rfl)) h1 h2) k) Q) := by
  iintro H Hk
  iapply (wait_send KA KB K 9 c k' (src := ((Memref.whole cc0_scratch9).slice (Rect.unit (s := S16x1024) ![0, 0] S16x1024.size inb_S16x1024_S16x1024_0_0) (fun _ => rfl))) (dst := ((Memref.whole cc0_scratch0).slice (Rect.unit (s := S512x1024) o0 S16x1024.size inb0) (fun _ => rfl))) (hsrc := h1) (hdst := h2) rfl cr_0_16 (k := k) (Q := Q)) $$ H
  iintro ⟨Ho, H, -⟩
  iapply Hk
  isplitl [Ho]; · iexact Ho
  iexact H

theorem wR_9 (c : Dev nD) (k' : ℕ) (hk : k' ≤ 16) {o0 : Fin 2 → ℕ} {inb0} {h1} {h2}
    {α : Type} {k : PUnit → Prog (TpuEff nD τ sig (Elt F) Λ₀ .tc) α} {Q : α → sProp 𝕄} :
    iprop(env KA KB K ∗ owing F k' c ∗ snt F 9 c)
      ⊢ iprop(((owing F k' c ∗ fin F 9 c ∗ pt cc0_scratch9 c (Finset.univ) fullShare (shf (bA 0 c) (tA3 KA (px 16 c))) ∗ own (F := F) cc0_scratch0 (px 16 c) (RA 0 c)) -∗ WP c (k ⟨⟩) Q)
        -∗ WP c (.op (.waitDma2 ((cc0_scratch23.slice (Rect.unit (s := S6) ![1] S1.size inb_S6_S1_1)).squeeze S_ squeezes_S1_S_).sem
            ((Memref.whole cc0_scratch0).slice (Rect.unit (s := S512x1024) o0 S16x1024.size inb0) (fun _ => rfl))
            ((Memref.whole cc0_scratch9).slice (Rect.unit (s := S16x1024) ![0, 0] S16x1024.size inb_S16x1024_S16x1024_0_0) (fun _ => rfl)) h1 h2) k) Q) := wait_recv KA KB K 9 c k' hk (src := ((Memref.whole cc0_scratch0).slice (Rect.unit (s := S512x1024) o0 S16x1024.size inb0) (fun _ => rfl))) (dst := ((Memref.whole cc0_scratch9).slice (Rect.unit (s := S16x1024) ![0, 0] S16x1024.size inb_S16x1024_S16x1024_0_0) (fun _ => rfl))) (hsrc := h1) (hdst := h2) rfl cr_9_16

theorem wS_10 (c : Dev nD) (k' : ℕ) {o0 : Fin 2 → ℕ} {inb0} {h1} {h2}
    {α : Type} {k : PUnit → Prog (TpuEff nD τ sig (Elt F) Λ₀ .tc) α} {Q : α → sProp 𝕄} :
    iprop(env KA KB K ∗ owing F k' c ∗ mid F 10 c)
      ⊢ iprop(((owing F k' c ∗ snt F 10 c) -∗ WP c (k ⟨⟩) Q)
        -∗ WP c (.op (.waitDma2 ((cc0_scratch22.slice (Rect.unit (s := S6) ![2] S1.size inb_S6_S1_2)).squeeze S_ squeezes_S1_S_).sem
            ((Memref.whole cc0_scratch10).slice (Rect.unit (s := S16x1024) ![0, 0] S16x1024.size inb_S16x1024_S16x1024_0_0) (fun _ => rfl))
            ((Memref.whole cc0_scratch0).slice (Rect.unit (s := S512x1024) o0 S16x1024.size inb0) (fun _ => rfl)) h1 h2) k) Q) := by
  iintro H Hk
  iapply (wait_send KA KB K 10 c k' (src := ((Memref.whole cc0_scratch10).slice (Rect.unit (s := S16x1024) ![0, 0] S16x1024.size inb_S16x1024_S16x1024_0_0) (fun _ => rfl))) (dst := ((Memref.whole cc0_scratch0).slice (Rect.unit (s := S512x1024) o0 S16x1024.size inb0) (fun _ => rfl))) (hsrc := h1) (hdst := h2) rfl cr_0_16 (k := k) (Q := Q)) $$ H
  iintro ⟨Ho, H, -⟩
  iapply Hk
  isplitl [Ho]; · iexact Ho
  iexact H

theorem wR_10 (c : Dev nD) (k' : ℕ) (hk : k' ≤ 15) {o0 : Fin 2 → ℕ} {inb0} {h1} {h2}
    {α : Type} {k : PUnit → Prog (TpuEff nD τ sig (Elt F) Λ₀ .tc) α} {Q : α → sProp 𝕄} :
    iprop(env KA KB K ∗ owing F k' c ∗ snt F 10 c)
      ⊢ iprop(((owing F k' c ∗ fin F 10 c ∗ pt cc0_scratch10 c (Finset.univ) fullShare (shf (bA 0 c) (tA3 KA (px 24 c))) ∗ own (F := F) cc0_scratch0 (px 24 c) (RA 0 c)) -∗ WP c (k ⟨⟩) Q)
        -∗ WP c (.op (.waitDma2 ((cc0_scratch23.slice (Rect.unit (s := S6) ![2] S1.size inb_S6_S1_2)).squeeze S_ squeezes_S1_S_).sem
            ((Memref.whole cc0_scratch0).slice (Rect.unit (s := S512x1024) o0 S16x1024.size inb0) (fun _ => rfl))
            ((Memref.whole cc0_scratch10).slice (Rect.unit (s := S16x1024) ![0, 0] S16x1024.size inb_S16x1024_S16x1024_0_0) (fun _ => rfl)) h1 h2) k) Q) := wait_recv KA KB K 10 c k' hk (src := ((Memref.whole cc0_scratch0).slice (Rect.unit (s := S512x1024) o0 S16x1024.size inb0) (fun _ => rfl))) (dst := ((Memref.whole cc0_scratch10).slice (Rect.unit (s := S16x1024) ![0, 0] S16x1024.size inb_S16x1024_S16x1024_0_0) (fun _ => rfl))) (hsrc := h1) (hdst := h2) rfl cr_10_16

theorem wS_11 (c : Dev nD) (k' : ℕ) {o0 : Fin 2 → ℕ} {inb0} {h1} {h2}
    {α : Type} {k : PUnit → Prog (TpuEff nD τ sig (Elt F) Λ₀ .tc) α} {Q : α → sProp 𝕄} :
    iprop(env KA KB K ∗ owing F k' c ∗ mid F 11 c)
      ⊢ iprop(((owing F k' c ∗ snt F 11 c) -∗ WP c (k ⟨⟩) Q)
        -∗ WP c (.op (.waitDma2 ((cc0_scratch22.slice (Rect.unit (s := S6) ![3] S1.size inb_S6_S1_3)).squeeze S_ squeezes_S1_S_).sem
            ((Memref.whole cc0_scratch11).slice (Rect.unit (s := S16x1024) ![0, 0] S16x1024.size inb_S16x1024_S16x1024_0_0) (fun _ => rfl))
            ((Memref.whole cc0_scratch1).slice (Rect.unit (s := S512x1024) o0 S16x1024.size inb0) (fun _ => rfl)) h1 h2) k) Q) := by
  iintro H Hk
  iapply (wait_send KA KB K 11 c k' (src := ((Memref.whole cc0_scratch11).slice (Rect.unit (s := S16x1024) ![0, 0] S16x1024.size inb_S16x1024_S16x1024_0_0) (fun _ => rfl))) (dst := ((Memref.whole cc0_scratch1).slice (Rect.unit (s := S512x1024) o0 S16x1024.size inb0) (fun _ => rfl))) (hsrc := h1) (hdst := h2) rfl cr_1_16 (k := k) (Q := Q)) $$ H
  iintro ⟨Ho, H, -⟩
  iapply Hk
  isplitl [Ho]; · iexact Ho
  iexact H

theorem wR_11 (c : Dev nD) (k' : ℕ) (hk : k' ≤ 14) {o0 : Fin 2 → ℕ} {inb0} {h1} {h2}
    {α : Type} {k : PUnit → Prog (TpuEff nD τ sig (Elt F) Λ₀ .tc) α} {Q : α → sProp 𝕄} :
    iprop(env KA KB K ∗ owing F k' c ∗ snt F 11 c)
      ⊢ iprop(((owing F k' c ∗ fin F 11 c ∗ pt cc0_scratch11 c (Finset.univ) fullShare (shf (bB 0 c) (tB3 KB (px 1 c))) ∗ own (F := F) cc0_scratch1 (px 1 c) (RB 0 c)) -∗ WP c (k ⟨⟩) Q)
        -∗ WP c (.op (.waitDma2 ((cc0_scratch23.slice (Rect.unit (s := S6) ![3] S1.size inb_S6_S1_3)).squeeze S_ squeezes_S1_S_).sem
            ((Memref.whole cc0_scratch1).slice (Rect.unit (s := S512x1024) o0 S16x1024.size inb0) (fun _ => rfl))
            ((Memref.whole cc0_scratch11).slice (Rect.unit (s := S16x1024) ![0, 0] S16x1024.size inb_S16x1024_S16x1024_0_0) (fun _ => rfl)) h1 h2) k) Q) := wait_recv KA KB K 11 c k' hk (src := ((Memref.whole cc0_scratch1).slice (Rect.unit (s := S512x1024) o0 S16x1024.size inb0) (fun _ => rfl))) (dst := ((Memref.whole cc0_scratch11).slice (Rect.unit (s := S16x1024) ![0, 0] S16x1024.size inb_S16x1024_S16x1024_0_0) (fun _ => rfl))) (hsrc := h1) (hdst := h2) rfl cr_11_16

theorem wS_12 (c : Dev nD) (k' : ℕ) {o0 : Fin 2 → ℕ} {inb0} {h1} {h2}
    {α : Type} {k : PUnit → Prog (TpuEff nD τ sig (Elt F) Λ₀ .tc) α} {Q : α → sProp 𝕄} :
    iprop(env KA KB K ∗ owing F k' c ∗ mid F 12 c)
      ⊢ iprop(((owing F k' c ∗ snt F 12 c) -∗ WP c (k ⟨⟩) Q)
        -∗ WP c (.op (.waitDma2 ((cc0_scratch22.slice (Rect.unit (s := S6) ![4] S1.size inb_S6_S1_4)).squeeze S_ squeezes_S1_S_).sem
            ((Memref.whole cc0_scratch12).slice (Rect.unit (s := S16x1024) ![0, 0] S16x1024.size inb_S16x1024_S16x1024_0_0) (fun _ => rfl))
            ((Memref.whole cc0_scratch1).slice (Rect.unit (s := S512x1024) o0 S16x1024.size inb0) (fun _ => rfl)) h1 h2) k) Q) := by
  iintro H Hk
  iapply (wait_send KA KB K 12 c k' (src := ((Memref.whole cc0_scratch12).slice (Rect.unit (s := S16x1024) ![0, 0] S16x1024.size inb_S16x1024_S16x1024_0_0) (fun _ => rfl))) (dst := ((Memref.whole cc0_scratch1).slice (Rect.unit (s := S512x1024) o0 S16x1024.size inb0) (fun _ => rfl))) (hsrc := h1) (hdst := h2) rfl cr_1_16 (k := k) (Q := Q)) $$ H
  iintro ⟨Ho, H, -⟩
  iapply Hk
  isplitl [Ho]; · iexact Ho
  iexact H

theorem wR_12 (c : Dev nD) (k' : ℕ) (hk : k' ≤ 13) {o0 : Fin 2 → ℕ} {inb0} {h1} {h2}
    {α : Type} {k : PUnit → Prog (TpuEff nD τ sig (Elt F) Λ₀ .tc) α} {Q : α → sProp 𝕄} :
    iprop(env KA KB K ∗ owing F k' c ∗ snt F 12 c)
      ⊢ iprop(((owing F k' c ∗ fin F 12 c ∗ pt cc0_scratch12 c (Finset.univ) fullShare (shf (bB 0 c) (tB3 KB (px 4 c))) ∗ own (F := F) cc0_scratch1 (px 4 c) (RB 0 c)) -∗ WP c (k ⟨⟩) Q)
        -∗ WP c (.op (.waitDma2 ((cc0_scratch23.slice (Rect.unit (s := S6) ![4] S1.size inb_S6_S1_4)).squeeze S_ squeezes_S1_S_).sem
            ((Memref.whole cc0_scratch1).slice (Rect.unit (s := S512x1024) o0 S16x1024.size inb0) (fun _ => rfl))
            ((Memref.whole cc0_scratch12).slice (Rect.unit (s := S16x1024) ![0, 0] S16x1024.size inb_S16x1024_S16x1024_0_0) (fun _ => rfl)) h1 h2) k) Q) := wait_recv KA KB K 12 c k' hk (src := ((Memref.whole cc0_scratch1).slice (Rect.unit (s := S512x1024) o0 S16x1024.size inb0) (fun _ => rfl))) (dst := ((Memref.whole cc0_scratch12).slice (Rect.unit (s := S16x1024) ![0, 0] S16x1024.size inb_S16x1024_S16x1024_0_0) (fun _ => rfl))) (hsrc := h1) (hdst := h2) rfl cr_12_16

theorem wS_13 (c : Dev nD) (k' : ℕ) {o0 : Fin 2 → ℕ} {inb0} {h1} {h2}
    {α : Type} {k : PUnit → Prog (TpuEff nD τ sig (Elt F) Λ₀ .tc) α} {Q : α → sProp 𝕄} :
    iprop(env KA KB K ∗ owing F k' c ∗ mid F 13 c)
      ⊢ iprop(((owing F k' c ∗ snt F 13 c) -∗ WP c (k ⟨⟩) Q)
        -∗ WP c (.op (.waitDma2 ((cc0_scratch22.slice (Rect.unit (s := S6) ![5] S1.size inb_S6_S1_5)).squeeze S_ squeezes_S1_S_).sem
            ((Memref.whole cc0_scratch13).slice (Rect.unit (s := S16x1024) ![0, 0] S16x1024.size inb_S16x1024_S16x1024_0_0) (fun _ => rfl))
            ((Memref.whole cc0_scratch1).slice (Rect.unit (s := S512x1024) o0 S16x1024.size inb0) (fun _ => rfl)) h1 h2) k) Q) := by
  iintro H Hk
  iapply (wait_send KA KB K 13 c k' (src := ((Memref.whole cc0_scratch13).slice (Rect.unit (s := S16x1024) ![0, 0] S16x1024.size inb_S16x1024_S16x1024_0_0) (fun _ => rfl))) (dst := ((Memref.whole cc0_scratch1).slice (Rect.unit (s := S512x1024) o0 S16x1024.size inb0) (fun _ => rfl))) (hsrc := h1) (hdst := h2) rfl cr_1_16 (k := k) (Q := Q)) $$ H
  iintro ⟨Ho, H, -⟩
  iapply Hk
  isplitl [Ho]; · iexact Ho
  iexact H

theorem wR_13 (c : Dev nD) (k' : ℕ) (hk : k' ≤ 12) {o0 : Fin 2 → ℕ} {inb0} {h1} {h2}
    {α : Type} {k : PUnit → Prog (TpuEff nD τ sig (Elt F) Λ₀ .tc) α} {Q : α → sProp 𝕄} :
    iprop(env KA KB K ∗ owing F k' c ∗ snt F 13 c)
      ⊢ iprop(((owing F k' c ∗ fin F 13 c ∗ pt cc0_scratch13 c (Finset.univ) fullShare (shf (bB 0 c) (tB3 KB (px 5 c))) ∗ own (F := F) cc0_scratch1 (px 5 c) (RB 0 c)) -∗ WP c (k ⟨⟩) Q)
        -∗ WP c (.op (.waitDma2 ((cc0_scratch23.slice (Rect.unit (s := S6) ![5] S1.size inb_S6_S1_5)).squeeze S_ squeezes_S1_S_).sem
            ((Memref.whole cc0_scratch1).slice (Rect.unit (s := S512x1024) o0 S16x1024.size inb0) (fun _ => rfl))
            ((Memref.whole cc0_scratch13).slice (Rect.unit (s := S16x1024) ![0, 0] S16x1024.size inb_S16x1024_S16x1024_0_0) (fun _ => rfl)) h1 h2) k) Q) := wait_recv KA KB K 13 c k' hk (src := ((Memref.whole cc0_scratch1).slice (Rect.unit (s := S512x1024) o0 S16x1024.size inb0) (fun _ => rfl))) (dst := ((Memref.whole cc0_scratch13).slice (Rect.unit (s := S16x1024) ![0, 0] S16x1024.size inb_S16x1024_S16x1024_0_0) (fun _ => rfl))) (hsrc := h1) (hdst := h2) rfl cr_13_16

theorem wS_14 (c : Dev nD) (k' : ℕ) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ mid F 14 c)
      ⊢ iprop(((owing F k' c ∗ snt F 14 c ∗ pt cc0_scratch0 c (RA 0 c) fullShare.left (gA KA)) -∗ WP c (k ⟨⟩) Q)
        -∗ WP c (.op (.waitDma2 ((cc0_scratch24.slice (Rect.unit (s := S6) ![0] S1.size inb_S6_S1_0)).squeeze S_ squeezes_S1_S_).sem
            ((Memref.whole cc0_scratch0).slice (Rect.unit (s := S512x1024) o0 S16x1024.size inb0) (fun _ => rfl))
            ((Memref.whole cc0_scratch0).slice (Rect.unit (s := S512x1024) o1 S16x1024.size inb1) (fun _ => rfl)) h1 h2) k) Q) := wait_send KA KB K 14 c k' (src := ((Memref.whole cc0_scratch0).slice (Rect.unit (s := S512x1024) o0 S16x1024.size inb0) (fun _ => rfl))) (dst := ((Memref.whole cc0_scratch0).slice (Rect.unit (s := S512x1024) o1 S16x1024.size inb1) (fun _ => rfl))) (hsrc := h1) (hdst := h2) rfl cr_0_16

theorem wR_14 (c : Dev nD) (k' : ℕ) (hk : k' ≤ 11) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ snt F 14 c)
      ⊢ iprop(((owing F k' c ∗ fin F 14 c ∗ pt cc0_scratch0 c (RA 0 (px 8 c)) fullShare (gA KA)) -∗ WP c (k ⟨⟩) Q)
        -∗ WP c (.op (.waitDma2 ((cc0_scratch25.slice (Rect.unit (s := S6) ![0] S1.size inb_S6_S1_0)).squeeze S_ squeezes_S1_S_).sem
            ((Memref.whole cc0_scratch0).slice (Rect.unit (s := S512x1024) o0 S16x1024.size inb0) (fun _ => rfl))
            ((Memref.whole cc0_scratch0).slice (Rect.unit (s := S512x1024) o1 S16x1024.size inb1) (fun _ => rfl)) h1 h2) k) Q) := wait_recv KA KB K 14 c k' hk (src := ((Memref.whole cc0_scratch0).slice (Rect.unit (s := S512x1024) o0 S16x1024.size inb0) (fun _ => rfl))) (dst := ((Memref.whole cc0_scratch0).slice (Rect.unit (s := S512x1024) o1 S16x1024.size inb1) (fun _ => rfl))) (hsrc := h1) (hdst := h2) rfl cr_0_16

theorem wS_15 (c : Dev nD) (k' : ℕ) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ mid F 15 c)
      ⊢ iprop(((owing F k' c ∗ snt F 15 c ∗ pt cc0_scratch0 c (RA 0 c) fullShare.right.left (gA KA)) -∗ WP c (k ⟨⟩) Q)
        -∗ WP c (.op (.waitDma2 ((cc0_scratch24.slice (Rect.unit (s := S6) ![1] S1.size inb_S6_S1_1)).squeeze S_ squeezes_S1_S_).sem
            ((Memref.whole cc0_scratch0).slice (Rect.unit (s := S512x1024) o0 S16x1024.size inb0) (fun _ => rfl))
            ((Memref.whole cc0_scratch0).slice (Rect.unit (s := S512x1024) o1 S16x1024.size inb1) (fun _ => rfl)) h1 h2) k) Q) := wait_send KA KB K 15 c k' (src := ((Memref.whole cc0_scratch0).slice (Rect.unit (s := S512x1024) o0 S16x1024.size inb0) (fun _ => rfl))) (dst := ((Memref.whole cc0_scratch0).slice (Rect.unit (s := S512x1024) o1 S16x1024.size inb1) (fun _ => rfl))) (hsrc := h1) (hdst := h2) rfl cr_0_16

theorem wR_15 (c : Dev nD) (k' : ℕ) (hk : k' ≤ 10) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ snt F 15 c)
      ⊢ iprop(((owing F k' c ∗ fin F 15 c ∗ pt cc0_scratch0 c (RA 0 (px 16 c)) fullShare (gA KA)) -∗ WP c (k ⟨⟩) Q)
        -∗ WP c (.op (.waitDma2 ((cc0_scratch25.slice (Rect.unit (s := S6) ![1] S1.size inb_S6_S1_1)).squeeze S_ squeezes_S1_S_).sem
            ((Memref.whole cc0_scratch0).slice (Rect.unit (s := S512x1024) o0 S16x1024.size inb0) (fun _ => rfl))
            ((Memref.whole cc0_scratch0).slice (Rect.unit (s := S512x1024) o1 S16x1024.size inb1) (fun _ => rfl)) h1 h2) k) Q) := wait_recv KA KB K 15 c k' hk (src := ((Memref.whole cc0_scratch0).slice (Rect.unit (s := S512x1024) o0 S16x1024.size inb0) (fun _ => rfl))) (dst := ((Memref.whole cc0_scratch0).slice (Rect.unit (s := S512x1024) o1 S16x1024.size inb1) (fun _ => rfl))) (hsrc := h1) (hdst := h2) rfl cr_0_16

theorem wS_16 (c : Dev nD) (k' : ℕ) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ mid F 16 c)
      ⊢ iprop(((owing F k' c ∗ snt F 16 c ∗ pt cc0_scratch0 c (RA 0 c) fullShare.right.right (gA KA)) -∗ WP c (k ⟨⟩) Q)
        -∗ WP c (.op (.waitDma2 ((cc0_scratch24.slice (Rect.unit (s := S6) ![2] S1.size inb_S6_S1_2)).squeeze S_ squeezes_S1_S_).sem
            ((Memref.whole cc0_scratch0).slice (Rect.unit (s := S512x1024) o0 S16x1024.size inb0) (fun _ => rfl))
            ((Memref.whole cc0_scratch0).slice (Rect.unit (s := S512x1024) o1 S16x1024.size inb1) (fun _ => rfl)) h1 h2) k) Q) := wait_send KA KB K 16 c k' (src := ((Memref.whole cc0_scratch0).slice (Rect.unit (s := S512x1024) o0 S16x1024.size inb0) (fun _ => rfl))) (dst := ((Memref.whole cc0_scratch0).slice (Rect.unit (s := S512x1024) o1 S16x1024.size inb1) (fun _ => rfl))) (hsrc := h1) (hdst := h2) rfl cr_0_16

theorem wR_16 (c : Dev nD) (k' : ℕ) (hk : k' ≤ 9) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ snt F 16 c)
      ⊢ iprop(((owing F k' c ∗ fin F 16 c ∗ pt cc0_scratch0 c (RA 0 (px 24 c)) fullShare (gA KA)) -∗ WP c (k ⟨⟩) Q)
        -∗ WP c (.op (.waitDma2 ((cc0_scratch25.slice (Rect.unit (s := S6) ![2] S1.size inb_S6_S1_2)).squeeze S_ squeezes_S1_S_).sem
            ((Memref.whole cc0_scratch0).slice (Rect.unit (s := S512x1024) o0 S16x1024.size inb0) (fun _ => rfl))
            ((Memref.whole cc0_scratch0).slice (Rect.unit (s := S512x1024) o1 S16x1024.size inb1) (fun _ => rfl)) h1 h2) k) Q) := wait_recv KA KB K 16 c k' hk (src := ((Memref.whole cc0_scratch0).slice (Rect.unit (s := S512x1024) o0 S16x1024.size inb0) (fun _ => rfl))) (dst := ((Memref.whole cc0_scratch0).slice (Rect.unit (s := S512x1024) o1 S16x1024.size inb1) (fun _ => rfl))) (hsrc := h1) (hdst := h2) rfl cr_0_16

theorem wS_17 (c : Dev nD) (k' : ℕ) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ mid F 17 c)
      ⊢ iprop(((owing F k' c ∗ snt F 17 c ∗ pt cc0_scratch1 c (RB 0 c) fullShare.left (gB KB)) -∗ WP c (k ⟨⟩) Q)
        -∗ WP c (.op (.waitDma2 ((cc0_scratch24.slice (Rect.unit (s := S6) ![3] S1.size inb_S6_S1_3)).squeeze S_ squeezes_S1_S_).sem
            ((Memref.whole cc0_scratch1).slice (Rect.unit (s := S512x1024) o0 S16x1024.size inb0) (fun _ => rfl))
            ((Memref.whole cc0_scratch1).slice (Rect.unit (s := S512x1024) o1 S16x1024.size inb1) (fun _ => rfl)) h1 h2) k) Q) := wait_send KA KB K 17 c k' (src := ((Memref.whole cc0_scratch1).slice (Rect.unit (s := S512x1024) o0 S16x1024.size inb0) (fun _ => rfl))) (dst := ((Memref.whole cc0_scratch1).slice (Rect.unit (s := S512x1024) o1 S16x1024.size inb1) (fun _ => rfl))) (hsrc := h1) (hdst := h2) rfl cr_1_16

theorem wR_17 (c : Dev nD) (k' : ℕ) (hk : k' ≤ 8) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ snt F 17 c)
      ⊢ iprop(((owing F k' c ∗ fin F 17 c ∗ pt cc0_scratch1 c (RB 0 (px 1 c)) fullShare (gB KB)) -∗ WP c (k ⟨⟩) Q)
        -∗ WP c (.op (.waitDma2 ((cc0_scratch25.slice (Rect.unit (s := S6) ![3] S1.size inb_S6_S1_3)).squeeze S_ squeezes_S1_S_).sem
            ((Memref.whole cc0_scratch1).slice (Rect.unit (s := S512x1024) o0 S16x1024.size inb0) (fun _ => rfl))
            ((Memref.whole cc0_scratch1).slice (Rect.unit (s := S512x1024) o1 S16x1024.size inb1) (fun _ => rfl)) h1 h2) k) Q) := wait_recv KA KB K 17 c k' hk (src := ((Memref.whole cc0_scratch1).slice (Rect.unit (s := S512x1024) o0 S16x1024.size inb0) (fun _ => rfl))) (dst := ((Memref.whole cc0_scratch1).slice (Rect.unit (s := S512x1024) o1 S16x1024.size inb1) (fun _ => rfl))) (hsrc := h1) (hdst := h2) rfl cr_1_16

theorem wS_18 (c : Dev nD) (k' : ℕ) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ mid F 18 c)
      ⊢ iprop(((owing F k' c ∗ snt F 18 c ∗ pt cc0_scratch1 c (RB 0 c) fullShare.right.left (gB KB)) -∗ WP c (k ⟨⟩) Q)
        -∗ WP c (.op (.waitDma2 ((cc0_scratch24.slice (Rect.unit (s := S6) ![4] S1.size inb_S6_S1_4)).squeeze S_ squeezes_S1_S_).sem
            ((Memref.whole cc0_scratch1).slice (Rect.unit (s := S512x1024) o0 S16x1024.size inb0) (fun _ => rfl))
            ((Memref.whole cc0_scratch1).slice (Rect.unit (s := S512x1024) o1 S16x1024.size inb1) (fun _ => rfl)) h1 h2) k) Q) := wait_send KA KB K 18 c k' (src := ((Memref.whole cc0_scratch1).slice (Rect.unit (s := S512x1024) o0 S16x1024.size inb0) (fun _ => rfl))) (dst := ((Memref.whole cc0_scratch1).slice (Rect.unit (s := S512x1024) o1 S16x1024.size inb1) (fun _ => rfl))) (hsrc := h1) (hdst := h2) rfl cr_1_16

theorem wR_18 (c : Dev nD) (k' : ℕ) (hk : k' ≤ 7) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ snt F 18 c)
      ⊢ iprop(((owing F k' c ∗ fin F 18 c ∗ pt cc0_scratch1 c (RB 0 (px 4 c)) fullShare (gB KB)) -∗ WP c (k ⟨⟩) Q)
        -∗ WP c (.op (.waitDma2 ((cc0_scratch25.slice (Rect.unit (s := S6) ![4] S1.size inb_S6_S1_4)).squeeze S_ squeezes_S1_S_).sem
            ((Memref.whole cc0_scratch1).slice (Rect.unit (s := S512x1024) o0 S16x1024.size inb0) (fun _ => rfl))
            ((Memref.whole cc0_scratch1).slice (Rect.unit (s := S512x1024) o1 S16x1024.size inb1) (fun _ => rfl)) h1 h2) k) Q) := wait_recv KA KB K 18 c k' hk (src := ((Memref.whole cc0_scratch1).slice (Rect.unit (s := S512x1024) o0 S16x1024.size inb0) (fun _ => rfl))) (dst := ((Memref.whole cc0_scratch1).slice (Rect.unit (s := S512x1024) o1 S16x1024.size inb1) (fun _ => rfl))) (hsrc := h1) (hdst := h2) rfl cr_1_16

theorem wS_19 (c : Dev nD) (k' : ℕ) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ mid F 19 c)
      ⊢ iprop(((owing F k' c ∗ snt F 19 c ∗ pt cc0_scratch1 c (RB 0 c) fullShare.right.right (gB KB)) -∗ WP c (k ⟨⟩) Q)
        -∗ WP c (.op (.waitDma2 ((cc0_scratch24.slice (Rect.unit (s := S6) ![5] S1.size inb_S6_S1_5)).squeeze S_ squeezes_S1_S_).sem
            ((Memref.whole cc0_scratch1).slice (Rect.unit (s := S512x1024) o0 S16x1024.size inb0) (fun _ => rfl))
            ((Memref.whole cc0_scratch1).slice (Rect.unit (s := S512x1024) o1 S16x1024.size inb1) (fun _ => rfl)) h1 h2) k) Q) := wait_send KA KB K 19 c k' (src := ((Memref.whole cc0_scratch1).slice (Rect.unit (s := S512x1024) o0 S16x1024.size inb0) (fun _ => rfl))) (dst := ((Memref.whole cc0_scratch1).slice (Rect.unit (s := S512x1024) o1 S16x1024.size inb1) (fun _ => rfl))) (hsrc := h1) (hdst := h2) rfl cr_1_16

theorem wR_19 (c : Dev nD) (k' : ℕ) (hk : k' ≤ 6) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ snt F 19 c)
      ⊢ iprop(((owing F k' c ∗ fin F 19 c ∗ pt cc0_scratch1 c (RB 0 (px 5 c)) fullShare (gB KB)) -∗ WP c (k ⟨⟩) Q)
        -∗ WP c (.op (.waitDma2 ((cc0_scratch25.slice (Rect.unit (s := S6) ![5] S1.size inb_S6_S1_5)).squeeze S_ squeezes_S1_S_).sem
            ((Memref.whole cc0_scratch1).slice (Rect.unit (s := S512x1024) o0 S16x1024.size inb0) (fun _ => rfl))
            ((Memref.whole cc0_scratch1).slice (Rect.unit (s := S512x1024) o1 S16x1024.size inb1) (fun _ => rfl)) h1 h2) k) Q) := wait_recv KA KB K 19 c k' hk (src := ((Memref.whole cc0_scratch1).slice (Rect.unit (s := S512x1024) o0 S16x1024.size inb0) (fun _ => rfl))) (dst := ((Memref.whole cc0_scratch1).slice (Rect.unit (s := S512x1024) o1 S16x1024.size inb1) (fun _ => rfl))) (hsrc := h1) (hdst := h2) rfl cr_1_16

theorem wS_20 (c : Dev nD) (k' : ℕ) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ mid F 20 c)
      ⊢ iprop(((owing F k' c ∗ snt F 20 c ∗ pt cc0_scratch0 c (RA 2 c) fullShare (gA KA)) -∗ WP c (k ⟨⟩) Q)
        -∗ WP c (.op (.waitDma2 ((cc0_scratch20.slice (Rect.unit (s := S6) ![2] S1.size inb_S6_S1_2)).squeeze S_ squeezes_S1_S_).sem
            ((Memref.whole cc0_scratch0).slice (Rect.unit (s := S512x1024) o0 S64x1024.size inb0) (fun _ => rfl))
            ((Memref.whole cc0_scratch0).slice (Rect.unit (s := S512x1024) o1 S64x1024.size inb1) (fun _ => rfl)) h1 h2) k) Q) := wait_send KA KB K 20 c k' (src := ((Memref.whole cc0_scratch0).slice (Rect.unit (s := S512x1024) o0 S64x1024.size inb0) (fun _ => rfl))) (dst := ((Memref.whole cc0_scratch0).slice (Rect.unit (s := S512x1024) o1 S64x1024.size inb1) (fun _ => rfl))) (hsrc := h1) (hdst := h2) rfl cr_0_64

theorem wR_20 (c : Dev nD) (k' : ℕ) (hk : k' ≤ 5) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ snt F 20 c)
      ⊢ iprop(((owing F k' c ∗ fin F 20 c ∗ pt cc0_scratch0 c (RA 2 (px 4 c)) fullShare (gA KA)) -∗ WP c (k ⟨⟩) Q)
        -∗ WP c (.op (.waitDma2 ((cc0_scratch21.slice (Rect.unit (s := S6) ![2] S1.size inb_S6_S1_2)).squeeze S_ squeezes_S1_S_).sem
            ((Memref.whole cc0_scratch0).slice (Rect.unit (s := S512x1024) o0 S64x1024.size inb0) (fun _ => rfl))
            ((Memref.whole cc0_scratch0).slice (Rect.unit (s := S512x1024) o1 S64x1024.size inb1) (fun _ => rfl)) h1 h2) k) Q) := wait_recv KA KB K 20 c k' hk (src := ((Memref.whole cc0_scratch0).slice (Rect.unit (s := S512x1024) o0 S64x1024.size inb0) (fun _ => rfl))) (dst := ((Memref.whole cc0_scratch0).slice (Rect.unit (s := S512x1024) o1 S64x1024.size inb1) (fun _ => rfl))) (hsrc := h1) (hdst := h2) rfl cr_0_64

theorem wS_21 (c : Dev nD) (k' : ℕ) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ mid F 21 c)
      ⊢ iprop(((owing F k' c ∗ snt F 21 c ∗ pt cc0_scratch1 c (RB 2 c) fullShare (gB KB)) -∗ WP c (k ⟨⟩) Q)
        -∗ WP c (.op (.waitDma2 ((cc0_scratch20.slice (Rect.unit (s := S6) ![5] S1.size inb_S6_S1_5)).squeeze S_ squeezes_S1_S_).sem
            ((Memref.whole cc0_scratch1).slice (Rect.unit (s := S512x1024) o0 S64x1024.size inb0) (fun _ => rfl))
            ((Memref.whole cc0_scratch1).slice (Rect.unit (s := S512x1024) o1 S64x1024.size inb1) (fun _ => rfl)) h1 h2) k) Q) := wait_send KA KB K 21 c k' (src := ((Memref.whole cc0_scratch1).slice (Rect.unit (s := S512x1024) o0 S64x1024.size inb0) (fun _ => rfl))) (dst := ((Memref.whole cc0_scratch1).slice (Rect.unit (s := S512x1024) o1 S64x1024.size inb1) (fun _ => rfl))) (hsrc := h1) (hdst := h2) rfl cr_1_64

theorem wR_21 (c : Dev nD) (k' : ℕ) (hk : k' ≤ 4) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ snt F 21 c)
      ⊢ iprop(((owing F k' c ∗ fin F 21 c ∗ pt cc0_scratch1 c (RB 2 (px 16 c)) fullShare (gB KB)) -∗ WP c (k ⟨⟩) Q)
        -∗ WP c (.op (.waitDma2 ((cc0_scratch21.slice (Rect.unit (s := S6) ![5] S1.size inb_S6_S1_5)).squeeze S_ squeezes_S1_S_).sem
            ((Memref.whole cc0_scratch1).slice (Rect.unit (s := S512x1024) o0 S64x1024.size inb0) (fun _ => rfl))
            ((Memref.whole cc0_scratch1).slice (Rect.unit (s := S512x1024) o1 S64x1024.size inb1) (fun _ => rfl)) h1 h2) k) Q) := wait_recv KA KB K 21 c k' hk (src := ((Memref.whole cc0_scratch1).slice (Rect.unit (s := S512x1024) o0 S64x1024.size inb0) (fun _ => rfl))) (dst := ((Memref.whole cc0_scratch1).slice (Rect.unit (s := S512x1024) o1 S64x1024.size inb1) (fun _ => rfl))) (hsrc := h1) (hdst := h2) rfl cr_1_64

theorem wS_22 (c : Dev nD) (k' : ℕ) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ mid F 22 c)
      ⊢ iprop(((owing F k' c ∗ snt F 22 c ∗ pt cc0_scratch0 c (RA 3 c) fullShare (gA KA)) -∗ WP c (k ⟨⟩) Q)
        -∗ WP c (.op (.waitDma2 ((cc0_scratch20.slice (Rect.unit (s := S6) ![1] S1.size inb_S6_S1_1)).squeeze S_ squeezes_S1_S_).sem
            ((Memref.whole cc0_scratch0).slice (Rect.unit (s := S512x1024) o0 S128x1024.size inb0) (fun _ => rfl))
            ((Memref.whole cc0_scratch0).slice (Rect.unit (s := S512x1024) o1 S128x1024.size inb1) (fun _ => rfl)) h1 h2) k) Q) := wait_send KA KB K 22 c k' (src := ((Memref.whole cc0_scratch0).slice (Rect.unit (s := S512x1024) o0 S128x1024.size inb0) (fun _ => rfl))) (dst := ((Memref.whole cc0_scratch0).slice (Rect.unit (s := S512x1024) o1 S128x1024.size inb1) (fun _ => rfl))) (hsrc := h1) (hdst := h2) rfl cr_0_128

theorem wR_22 (c : Dev nD) (k' : ℕ) (hk : k' ≤ 3) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ snt F 22 c)
      ⊢ iprop(((owing F k' c ∗ fin F 22 c ∗ pt cc0_scratch0 c (RA 3 (px 3 c)) fullShare (gA KA)) -∗ WP c (k ⟨⟩) Q)
        -∗ WP c (.op (.waitDma2 ((cc0_scratch21.slice (Rect.unit (s := S6) ![1] S1.size inb_S6_S1_1)).squeeze S_ squeezes_S1_S_).sem
            ((Memref.whole cc0_scratch0).slice (Rect.unit (s := S512x1024) o0 S128x1024.size inb0) (fun _ => rfl))
            ((Memref.whole cc0_scratch0).slice (Rect.unit (s := S512x1024) o1 S128x1024.size inb1) (fun _ => rfl)) h1 h2) k) Q) := wait_recv KA KB K 22 c k' hk (src := ((Memref.whole cc0_scratch0).slice (Rect.unit (s := S512x1024) o0 S128x1024.size inb0) (fun _ => rfl))) (dst := ((Memref.whole cc0_scratch0).slice (Rect.unit (s := S512x1024) o1 S128x1024.size inb1) (fun _ => rfl))) (hsrc := h1) (hdst := h2) rfl cr_0_128

theorem wS_23 (c : Dev nD) (k' : ℕ) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ mid F 23 c)
      ⊢ iprop(((owing F k' c ∗ snt F 23 c ∗ pt cc0_scratch1 c (RB 3 c) fullShare (gB KB)) -∗ WP c (k ⟨⟩) Q)
        -∗ WP c (.op (.waitDma2 ((cc0_scratch20.slice (Rect.unit (s := S6) ![4] S1.size inb_S6_S1_4)).squeeze S_ squeezes_S1_S_).sem
            ((Memref.whole cc0_scratch1).slice (Rect.unit (s := S512x1024) o0 S128x1024.size inb0) (fun _ => rfl))
            ((Memref.whole cc0_scratch1).slice (Rect.unit (s := S512x1024) o1 S128x1024.size inb1) (fun _ => rfl)) h1 h2) k) Q) := wait_send KA KB K 23 c k' (src := ((Memref.whole cc0_scratch1).slice (Rect.unit (s := S512x1024) o0 S128x1024.size inb0) (fun _ => rfl))) (dst := ((Memref.whole cc0_scratch1).slice (Rect.unit (s := S512x1024) o1 S128x1024.size inb1) (fun _ => rfl))) (hsrc := h1) (hdst := h2) rfl cr_1_128

theorem wR_23 (c : Dev nD) (k' : ℕ) (hk : k' ≤ 2) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ snt F 23 c)
      ⊢ iprop(((owing F k' c ∗ fin F 23 c ∗ pt cc0_scratch1 c (RB 3 (px 8 c)) fullShare (gB KB)) -∗ WP c (k ⟨⟩) Q)
        -∗ WP c (.op (.waitDma2 ((cc0_scratch21.slice (Rect.unit (s := S6) ![4] S1.size inb_S6_S1_4)).squeeze S_ squeezes_S1_S_).sem
            ((Memref.whole cc0_scratch1).slice (Rect.unit (s := S512x1024) o0 S128x1024.size inb0) (fun _ => rfl))
            ((Memref.whole cc0_scratch1).slice (Rect.unit (s := S512x1024) o1 S128x1024.size inb1) (fun _ => rfl)) h1 h2) k) Q) := wait_recv KA KB K 23 c k' hk (src := ((Memref.whole cc0_scratch1).slice (Rect.unit (s := S512x1024) o0 S128x1024.size inb0) (fun _ => rfl))) (dst := ((Memref.whole cc0_scratch1).slice (Rect.unit (s := S512x1024) o1 S128x1024.size inb1) (fun _ => rfl))) (hsrc := h1) (hdst := h2) rfl cr_1_128

theorem wS_24 (c : Dev nD) (k' : ℕ) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ mid F 24 c)
      ⊢ iprop(((owing F k' c ∗ snt F 24 c ∗ pt cc0_scratch0 c (RA 4 c) fullShare.right (gA KA)) -∗ WP c (k ⟨⟩) Q)
        -∗ WP c (.op (.waitDma2 ((cc0_scratch20.slice (Rect.unit (s := S6) ![0] S1.size inb_S6_S1_0)).squeeze S_ squeezes_S1_S_).sem
            ((Memref.whole cc0_scratch0).slice (Rect.unit (s := S512x1024) o0 S256x1024.size inb0) (fun _ => rfl))
            ((Memref.whole cc0_scratch0).slice (Rect.unit (s := S512x1024) o1 S256x1024.size inb1) (fun _ => rfl)) h1 h2) k) Q) := wait_send KA KB K 24 c k' (src := ((Memref.whole cc0_scratch0).slice (Rect.unit (s := S512x1024) o0 S256x1024.size inb0) (fun _ => rfl))) (dst := ((Memref.whole cc0_scratch0).slice (Rect.unit (s := S512x1024) o1 S256x1024.size inb1) (fun _ => rfl))) (hsrc := h1) (hdst := h2) rfl cr_0_256

theorem wR_24 (c : Dev nD) (k' : ℕ) (hk : k' ≤ 1) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ snt F 24 c)
      ⊢ iprop(((owing F k' c ∗ fin F 24 c ∗ pt cc0_scratch0 c (RA 4 (px 1 c)) fullShare (gA KA)) -∗ WP c (k ⟨⟩) Q)
        -∗ WP c (.op (.waitDma2 ((cc0_scratch21.slice (Rect.unit (s := S6) ![0] S1.size inb_S6_S1_0)).squeeze S_ squeezes_S1_S_).sem
            ((Memref.whole cc0_scratch0).slice (Rect.unit (s := S512x1024) o0 S256x1024.size inb0) (fun _ => rfl))
            ((Memref.whole cc0_scratch0).slice (Rect.unit (s := S512x1024) o1 S256x1024.size inb1) (fun _ => rfl)) h1 h2) k) Q) := wait_recv KA KB K 24 c k' hk (src := ((Memref.whole cc0_scratch0).slice (Rect.unit (s := S512x1024) o0 S256x1024.size inb0) (fun _ => rfl))) (dst := ((Memref.whole cc0_scratch0).slice (Rect.unit (s := S512x1024) o1 S256x1024.size inb1) (fun _ => rfl))) (hsrc := h1) (hdst := h2) rfl cr_0_256

theorem wS_25 (c : Dev nD) (k' : ℕ) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ mid F 25 c)
      ⊢ iprop(((owing F k' c ∗ snt F 25 c ∗ pt cc0_scratch1 c (RB 4 c) fullShare.right (gB KB)) -∗ WP c (k ⟨⟩) Q)
        -∗ WP c (.op (.waitDma2 ((cc0_scratch20.slice (Rect.unit (s := S6) ![3] S1.size inb_S6_S1_3)).squeeze S_ squeezes_S1_S_).sem
            ((Memref.whole cc0_scratch1).slice (Rect.unit (s := S512x1024) o0 S256x1024.size inb0) (fun _ => rfl))
            ((Memref.whole cc0_scratch1).slice (Rect.unit (s := S512x1024) o1 S256x1024.size inb1) (fun _ => rfl)) h1 h2) k) Q) := wait_send KA KB K 25 c k' (src := ((Memref.whole cc0_scratch1).slice (Rect.unit (s := S512x1024) o0 S256x1024.size inb0) (fun _ => rfl))) (dst := ((Memref.whole cc0_scratch1).slice (Rect.unit (s := S512x1024) o1 S256x1024.size inb1) (fun _ => rfl))) (hsrc := h1) (hdst := h2) rfl cr_1_256

theorem wR_25 (c : Dev nD) (k' : ℕ) (hk : k' ≤ 0) {o0 : Fin 2 → ℕ} {inb0} {o1 : Fin 2 → ℕ} {inb1} {h1} {h2}
    {α : Type} {k : PUnit → Prog (TpuEff nD τ sig (Elt F) Λ₀ .tc) α} {Q : α → sProp 𝕄} :
    iprop(env KA KB K ∗ owing F k' c ∗ snt F 25 c)
      ⊢ iprop(((owing F k' c ∗ fin F 25 c ∗ pt cc0_scratch1 c (RB 4 (px 3 c)) fullShare (gB KB)) -∗ WP c (k ⟨⟩) Q)
        -∗ WP c (.op (.waitDma2 ((cc0_scratch21.slice (Rect.unit (s := S6) ![3] S1.size inb_S6_S1_3)).squeeze S_ squeezes_S1_S_).sem
            ((Memref.whole cc0_scratch1).slice (Rect.unit (s := S512x1024) o0 S256x1024.size inb0) (fun _ => rfl))
            ((Memref.whole cc0_scratch1).slice (Rect.unit (s := S512x1024) o1 S256x1024.size inb1) (fun _ => rfl)) h1 h2) k) Q) := wait_recv KA KB K 25 c k' hk (src := ((Memref.whole cc0_scratch1).slice (Rect.unit (s := S512x1024) o0 S256x1024.size inb0) (fun _ => rfl))) (dst := ((Memref.whole cc0_scratch1).slice (Rect.unit (s := S512x1024) o1 S256x1024.size inb1) (fun _ => rfl))) (hsrc := h1) (hdst := h2) rfl cr_1_256

end Cert.KernelIdealProof
-- ==== Proof.KernelIdealGhosts.lean ====
/-
Rows of a buffer split and joined: what the parts of the program need between one another.
-/
module

public import proofs.«01_k».proof.Proof.KernelIdealScore
public import proofs.«01_k».proof.Proof.KernelIdealSends
public import proofs.«01_k».proof.Proof.KernelIdealWaits

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (KA KB : Dev nD → Mat F) (K : Dev nD × Fin 53 → ℕ)

theorem pt_split {b : Ref sig .tc} {n : Dev nD} {I A B : Finset (Idx ((n : Thread nD τ).loc b))} {q : PosShare TreeShare} {f : Buf (Elt F) ((n : Thread nD τ).loc b)} (h : I = A ∪ B) (d : Disjoint A B) :
    pt b n I q f ⊢ iprop(pt b n A q f ∗ pt b n B q f) := by
  subst h
  exact (pointsTo_union d).1
theorem pt_join {b : Ref sig .tc} {n : Dev nD} {I A B : Finset (Idx ((n : Thread nD τ).loc b))} {q : PosShare TreeShare} {f : Buf (Elt F) ((n : Thread nD τ).loc b)} (h : I = A ∪ B) (d : Disjoint A B) :
    iprop(pt b n A q f ∗ pt b n B q f) ⊢ pt b n I q f := by
  subst h
  exact (pointsTo_union d).2
theorem own_split {b : Ref sig .tc} {n : Dev nD} {I A B : Finset (Idx ((n : Thread nD τ).loc b))} (h : I = A ∪ B) (d : Disjoint A B) :
    own (F := F) b n I ⊢ iprop(own (F := F) b n A ∗ own (F := F) b n B) := by
  iintro ⟨%f, H⟩
  ihave H := (pt_split h d) $$ H
  icases H with ⟨H1, H2⟩
  isplitl [H1]
  · iexists f; iexact H1
  iexists f; iexact H2
theorem own_join {b : Ref sig .tc} {n : Dev nD} {I A B : Finset (Idx ((n : Thread nD τ).loc b))} (h : I = A ∪ B) (d : Disjoint A B) :
    iprop(own (F := F) b n A ∗ own (F := F) b n B) ⊢ own (F := F) b n I := by
  subst h
  iintro ⟨⟨%f, H1⟩, ⟨%g, H2⟩⟩
  iexists _
  iapply (pointsTo_join d)
  isplitl [H1]; · iexact H1
  iexact H2
theorem pt_halve {b : Ref sig .tc} {n : Dev nD} {I : Finset (Idx ((n : Thread nD τ).loc b))} {q : PosShare TreeShare} {f : Buf (Elt F) ((n : Thread nD τ).loc b)} :
    pt b n I q f ⊢ iprop(pt b n I q.left f ∗ pt b n I q.right f) := (pointsTo_share (PosShare.mem_left_op_right q)).1
theorem pt_mend {b : Ref sig .tc} {n : Dev nD} {I : Finset (Idx ((n : Thread nD τ).loc b))} {q : PosShare TreeShare} {f : Buf (Elt F) ((n : Thread nD τ).loc b)} :
    iprop(pt b n I q.left f ∗ pt b n I q.right f) ⊢ pt b n I q f := (pointsTo_share (PosShare.mem_left_op_right q)).2

theorem accA (c : Dev nD) :
    pt cc0_scratch0 c Finset.univ fullShare (KA c) ⊢ iprop(pt cc0_scratch0 c (RA 3 (px 3 (px 1 c))) fullShare (KA c) ∗ pt cc0_scratch0 c (RA 3 (px 1 c)) fullShare (KA c) ∗ pt cc0_scratch0 c (RA 3 (px 3 c)) fullShare (KA c) ∗ pt cc0_scratch0 c (RA 3 c) fullShare (KA c)) := by
  iintro H
  ihave H := (pt_split (RA_univ c) (RA_univ_disj c)) $$ H
  icases H with ⟨H1, H2⟩
  ihave H1 := (pt_split (RA_4 c) (RA_4_disj c)) $$ H1
  icases H1 with ⟨H1, H3⟩
  ihave H2 := (pt_split (RA_4 (px 1 c)) (RA_4_disj (px 1 c))) $$ H2
  icases H2 with ⟨H2, H4⟩
  isplitl [H2]; · iexact H2
  isplitl [H4]; · iexact H4
  isplitl [H1]; · iexact H1
  iexact H3
theorem landA (c : Dev nD) :
    own (F := F) cc0_scratch2 (px 1 c) (Finset.univ) ⊢ iprop(own (F := F) cc0_scratch2 (px 1 c) (LA (sA (px 1 c))) ∗ own (F := F) cc0_scratch2 (px 1 c) (LA (kA (px 1 c)))) := by
  exact own_split (LA_univ (px 1 c)) (LA_disj (px 1 c))
theorem halfA (c : Dev nD) :
    pt cc0_scratch0 c (RA 3 c) fullShare (tA2 KA c) ⊢ iprop(pt cc0_scratch0 c (RA 2 (px 4 c)) fullShare (tA2 KA c) ∗ pt cc0_scratch0 c (RA 2 c) fullShare (tA2 KA c)) := by
  exact pt_split (RA_3 c) (RA_3_disj c)
theorem quartA (c : Dev nD) :
    pt cc0_scratch0 c (RA 2 c) fullShare (tA3 KA c) ⊢ iprop(pt cc0_scratch0 c (RA 0 (px 8 c)) fullShare (tA3 KA c) ∗ pt cc0_scratch0 c (RA 0 (px 16 c)) fullShare (tA3 KA c) ∗ pt cc0_scratch0 c (RA 0 (px 24 c)) fullShare (tA3 KA c) ∗ pt cc0_scratch0 c (RA 0 c) fullShare (tA3 KA c)) := by
  iintro H
  ihave H := (pt_split (RA_2 c) (RA_2_disj c).1) $$ H
  icases H with ⟨H1, H⟩
  ihave H := (pt_split rfl (RA_2_disj c).2.1) $$ H
  icases H with ⟨H2, H⟩
  ihave H := (pt_split rfl (RA_2_disj c).2.2) $$ H
  icases H with ⟨H3, H4⟩
  isplitl [H2]; · iexact H2
  isplitl [H3]; · iexact H3
  isplitl [H4]; · iexact H4
  iexact H1
theorem sumA (c : Dev nD) :
    pt cc0_scratch0 c (RA 0 c) fullShare (tA4 KA c) ⊢ iprop(pt cc0_scratch0 c (RA 0 c) fullShare.left (gA KA) ∗ pt cc0_scratch0 c (RA 0 c) fullShare.right.left (gA KA) ∗ pt cc0_scratch0 c (RA 0 c) fullShare.right.right (gA KA)) := by
  rw [show (pt cc0_scratch0 c (RA 0 c) fullShare (tA4 KA c) : sProp 𝕄) = pt cc0_scratch0 c (RA 0 c) fullShare (gA KA) from pointsTo_congr (gA_own KA c)]
  iintro H
  ihave H := pt_halve $$ H
  icases H with ⟨H1, H⟩
  ihave H := pt_halve $$ H
  icases H with ⟨H2, H3⟩
  isplitl [H1]; · iexact H1
  isplitl [H2]; · iexact H2
  iexact H3
theorem gather2A (c : Dev nD) :
    iprop(pt cc0_scratch0 c (RA 0 c) fullShare.left (gA KA) ∗ pt cc0_scratch0 c (RA 0 c) fullShare.right.left (gA KA) ∗ pt cc0_scratch0 c (RA 0 c) fullShare.right.right (gA KA) ∗ pt cc0_scratch0 c (RA 0 (px 8 c)) fullShare (gA KA) ∗ pt cc0_scratch0 c (RA 0 (px 16 c)) fullShare (gA KA) ∗ pt cc0_scratch0 c (RA 0 (px 24 c)) fullShare (gA KA)) ⊢ pt cc0_scratch0 c (RA 2 c) fullShare (gA KA) := by
  iintro ⟨H1, H2, H3, L1, L2, L3⟩
  ihave H := pt_mend $$ [H2 H3]
  · isplitl [H2]; · iexact H2
    iexact H3
  ihave H := pt_mend $$ [H1 H]
  · isplitl [H1]; · iexact H1
    iexact H
  ihave L := (pt_join (b := cc0_scratch0) (n := c) rfl (RA_2_disj c).2.2) $$ [L2 L3]
  · isplitl [L2]; · iexact L2
    iexact L3
  ihave L := (pt_join (b := cc0_scratch0) (n := c) rfl (RA_2_disj c).2.1) $$ [L1 L]
  · isplitl [L1]; · iexact L1
    iexact L
  iapply (pt_join (RA_2 c) (RA_2_disj c).1)
  isplitl [H]; · iexact H
  iexact L
theorem gather3A (c : Dev nD) :
    iprop(pt cc0_scratch0 c (RA 2 c) fullShare (gA KA) ∗ pt cc0_scratch0 c (RA 2 (px 4 c)) fullShare (gA KA)) ⊢ pt cc0_scratch0 c (RA 3 c) fullShare (gA KA) := by
  iintro ⟨H, L⟩
  iapply (pt_join (RA_3 c) (RA_3_disj c))
  isplitl [L]; · iexact L
  iexact H
theorem gather4A (c : Dev nD) :
    iprop(pt cc0_scratch0 c (RA 3 c) fullShare (gA KA) ∗ pt cc0_scratch0 c (RA 3 (px 3 c)) fullShare (gA KA)) ⊢ iprop(pt cc0_scratch0 c (RA 4 c) fullShare.left (gA KA) ∗ pt cc0_scratch0 c (RA 4 c) fullShare.right (gA KA)) := by
  iintro ⟨H, L⟩
  iapply pt_halve
  iapply (pt_join (RA_4 c) (RA_4_disj c))
  isplitl [L]; · iexact L
  iexact H
theorem gather5A (c : Dev nD) :
    iprop(pt cc0_scratch0 c (RA 4 c) fullShare.left (gA KA) ∗ pt cc0_scratch0 c (RA 4 c) fullShare.right (gA KA) ∗ pt cc0_scratch0 c (RA 4 (px 1 c)) fullShare (gA KA)) ⊢ pt cc0_scratch0 c Finset.univ fullShare (gA KA) := by
  iintro ⟨H1, H2, L⟩
  ihave H := pt_mend $$ [H1 H2]
  · isplitl [H1]; · iexact H1
    iexact H2
  iapply (pt_join (RA_univ c) (RA_univ_disj c))
  isplitl [H]; · iexact H
  iexact L
theorem backA (c : Dev nD) :
    iprop(own (F := F) cc0_scratch0 (px 1 c) (RA 3 (px 3 c)) ∗ own (F := F) cc0_scratch0 (px 1 c) (RA 3 c)) ⊢ own (F := F) cc0_scratch0 (px 1 c) (RA 4 c) := by
  exact own_join (RA_4 c) (RA_4_disj c)
theorem landedA (c : Dev nD) :
    iprop(pt cc0_scratch2 c (LA (sA c)) fullShare (shf (bA 4 c) (KA (px 1 c))) ∗ pt cc0_scratch2 c (LA (kA c)) fullShare (shf (bA 4 c) (KA (px 1 c)))) ⊢ own (F := F) cc0_scratch2 c Finset.univ := by
  iintro ⟨H1, H2⟩
  iexists _
  iapply (pt_join (LA_univ c) (LA_disj c))
  isplitl [H1]; · iexact H1
  iexact H2
theorem accB (c : Dev nD) :
    pt cc0_scratch1 c Finset.univ fullShare (KB c) ⊢ iprop(pt cc0_scratch1 c (RB 3 (px 8 (px 3 c))) fullShare (KB c) ∗ pt cc0_scratch1 c (RB 3 (px 3 c)) fullShare (KB c) ∗ pt cc0_scratch1 c (RB 3 (px 8 c)) fullShare (KB c) ∗ pt cc0_scratch1 c (RB 3 c) fullShare (KB c)) := by
  iintro H
  ihave H := (pt_split (RB_univ c) (RB_univ_disj c)) $$ H
  icases H with ⟨H1, H2⟩
  ihave H1 := (pt_split (RB_4 c) (RB_4_disj c)) $$ H1
  icases H1 with ⟨H1, H3⟩
  ihave H2 := (pt_split (RB_4 (px 3 c)) (RB_4_disj (px 3 c))) $$ H2
  icases H2 with ⟨H2, H4⟩
  isplitl [H2]; · iexact H2
  isplitl [H4]; · iexact H4
  isplitl [H1]; · iexact H1
  iexact H3
theorem landB (c : Dev nD) :
    own (F := F) cc0_scratch5 (px 3 c) (Finset.univ) ⊢ iprop(own (F := F) cc0_scratch5 (px 3 c) (LA (sB (px 3 c))) ∗ own (F := F) cc0_scratch5 (px 3 c) (LA (kB (px 3 c)))) := by
  exact own_split (LB_univ (px 3 c)) (LB_disj (px 3 c))
theorem halfB (c : Dev nD) :
    pt cc0_scratch1 c (RB 3 c) fullShare (tB2 KB c) ⊢ iprop(pt cc0_scratch1 c (RB 2 (px 16 c)) fullShare (tB2 KB c) ∗ pt cc0_scratch1 c (RB 2 c) fullShare (tB2 KB c)) := by
  exact pt_split (RB_3 c) (RB_3_disj c)
theorem quartB (c : Dev nD) :
    pt cc0_scratch1 c (RB 2 c) fullShare (tB3 KB c) ⊢ iprop(pt cc0_scratch1 c (RB 0 (px 1 c)) fullShare (tB3 KB c) ∗ pt cc0_scratch1 c (RB 0 (px 4 c)) fullShare (tB3 KB c) ∗ pt cc0_scratch1 c (RB 0 (px 5 c)) fullShare (tB3 KB c) ∗ pt cc0_scratch1 c (RB 0 c) fullShare (tB3 KB c)) := by
  iintro H
  ihave H := (pt_split (RB_2 c) (RB_2_disj c).1) $$ H
  icases H with ⟨H1, H⟩
  ihave H := (pt_split rfl (RB_2_disj c).2.1) $$ H
  icases H with ⟨H2, H⟩
  ihave H := (pt_split rfl (RB_2_disj c).2.2) $$ H
  icases H with ⟨H3, H4⟩
  isplitl [H2]; · iexact H2
  isplitl [H3]; · iexact H3
  isplitl [H4]; · iexact H4
  iexact H1
theorem sumB (c : Dev nD) :
    pt cc0_scratch1 c (RB 0 c) fullShare (tB4 KB c) ⊢ iprop(pt cc0_scratch1 c (RB 0 c) fullShare.left (gB KB) ∗ pt cc0_scratch1 c (RB 0 c) fullShare.right.left (gB KB) ∗ pt cc0_scratch1 c (RB 0 c) fullShare.right.right (gB KB)) := by
  rw [show (pt cc0_scratch1 c (RB 0 c) fullShare (tB4 KB c) : sProp 𝕄) = pt cc0_scratch1 c (RB 0 c) fullShare (gB KB) from pointsTo_congr (gB_own KB c)]
  iintro H
  ihave H := pt_halve $$ H
  icases H with ⟨H1, H⟩
  ihave H := pt_halve $$ H
  icases H with ⟨H2, H3⟩
  isplitl [H1]; · iexact H1
  isplitl [H2]; · iexact H2
  iexact H3
theorem gather2B (c : Dev nD) :
    iprop(pt cc0_scratch1 c (RB 0 c) fullShare.left (gB KB) ∗ pt cc0_scratch1 c (RB 0 c) fullShare.right.left (gB KB) ∗ pt cc0_scratch1 c (RB 0 c) fullShare.right.right (gB KB) ∗ pt cc0_scratch1 c (RB 0 (px 1 c)) fullShare (gB KB) ∗ pt cc0_scratch1 c (RB 0 (px 4 c)) fullShare (gB KB) ∗ pt cc0_scratch1 c (RB 0 (px 5 c)) fullShare (gB KB)) ⊢ pt cc0_scratch1 c (RB 2 c) fullShare (gB KB) := by
  iintro ⟨H1, H2, H3, L1, L2, L3⟩
  ihave H := pt_mend $$ [H2 H3]
  · isplitl [H2]; · iexact H2
    iexact H3
  ihave H := pt_mend $$ [H1 H]
  · isplitl [H1]; · iexact H1
    iexact H
  ihave L := (pt_join (b := cc0_scratch1) (n := c) rfl (RB_2_disj c).2.2) $$ [L2 L3]
  · isplitl [L2]; · iexact L2
    iexact L3
  ihave L := (pt_join (b := cc0_scratch1) (n := c) rfl (RB_2_disj c).2.1) $$ [L1 L]
  · isplitl [L1]; · iexact L1
    iexact L
  iapply (pt_join (RB_2 c) (RB_2_disj c).1)
  isplitl [H]; · iexact H
  iexact L
theorem gather3B (c : Dev nD) :
    iprop(pt cc0_scratch1 c (RB 2 c) fullShare (gB KB) ∗ pt cc0_scratch1 c (RB 2 (px 16 c)) fullShare (gB KB)) ⊢ pt cc0_scratch1 c (RB 3 c) fullShare (gB KB) := by
  iintro ⟨H, L⟩
  iapply (pt_join (RB_3 c) (RB_3_disj c))
  isplitl [L]; · iexact L
  iexact H
theorem gather4B (c : Dev nD) :
    iprop(pt cc0_scratch1 c (RB 3 c) fullShare (gB KB) ∗ pt cc0_scratch1 c (RB 3 (px 8 c)) fullShare (gB KB)) ⊢ iprop(pt cc0_scratch1 c (RB 4 c) fullShare.left (gB KB) ∗ pt cc0_scratch1 c (RB 4 c) fullShare.right (gB KB)) := by
  iintro ⟨H, L⟩
  iapply pt_halve
  iapply (pt_join (RB_4 c) (RB_4_disj c))
  isplitl [L]; · iexact L
  iexact H
theorem gather5B (c : Dev nD) :
    iprop(pt cc0_scratch1 c (RB 4 c) fullShare.left (gB KB) ∗ pt cc0_scratch1 c (RB 4 c) fullShare.right (gB KB) ∗ pt cc0_scratch1 c (RB 4 (px 3 c)) fullShare (gB KB)) ⊢ pt cc0_scratch1 c Finset.univ fullShare (gB KB) := by
  iintro ⟨H1, H2, L⟩
  ihave H := pt_mend $$ [H1 H2]
  · isplitl [H1]; · iexact H1
    iexact H2
  iapply (pt_join (RB_univ c) (RB_univ_disj c))
  isplitl [H]; · iexact H
  iexact L
theorem backB (c : Dev nD) :
    iprop(own (F := F) cc0_scratch1 (px 3 c) (RB 3 (px 8 c)) ∗ own (F := F) cc0_scratch1 (px 3 c) (RB 3 c)) ⊢ own (F := F) cc0_scratch1 (px 3 c) (RB 4 c) := by
  exact own_join (RB_4 c) (RB_4_disj c)
theorem landedB (c : Dev nD) :
    iprop(pt cc0_scratch5 c (LA (sB c)) fullShare (shf (bB 4 c) (KB (px 3 c))) ∗ pt cc0_scratch5 c (LA (kB c)) fullShare (shf (bB 4 c) (KB (px 3 c)))) ⊢ own (F := F) cc0_scratch5 c Finset.univ := by
  iintro ⟨H1, H2⟩
  iexists _
  iapply (pt_join (LB_univ c) (LB_disj c))
  isplitl [H1]; · iexact H1
  iexact H2

section Score
variable (fkr : S512x32.Idx → Elt F .bf16) (fq : S512x1024.Idx → Elt F .bf16) (fqr : S512x512.Idx → Elt F .bf16) (ka : Mat F)

theorem SC_eq (I : Finset S512x1024.Idx) (q : PosShare TreeShare) (n : ℕ) (c : Dev nD) :
    SC fkr fq fqr ka I q n c = iprop(pt cc0_scratch16 c Finset.univ fullShare fkr ∗ pt cc0_scratch14 c Finset.univ fullShare fq ∗ pt cc0_scratch15 c Finset.univ fullShare fqr
      ∗ pt cc0_scratch0 c I q ka ∗ prb fkr fq fqr ka n c) := rfl

/-- What the score phase starts with, -/
theorem SC_in (c : Dev nD) (f : S512x4096.Idx → Elt F .bf16) (I : Finset S512x1024.Idx) (q : PosShare TreeShare) :
    iprop(pt cc0_scratch16 c Finset.univ fullShare fkr ∗ pt cc0_scratch14 c Finset.univ fullShare fq ∗ pt cc0_scratch15 c Finset.univ fullShare fqr
      ∗ pt cc0_scratch0 c I q ka ∗ pt cc0_scratch17 c Finset.univ fullShare f) ⊢ SC fkr fq fqr ka I q 0 c := by
  rw [SC_eq]
  unfold prb
  iintro ⟨H1, H2, H3, H4, H5⟩
  isplitl [H1]; · iexact H1
  isplitl [H2]; · iexact H2
  isplitl [H3]; · iexact H3
  isplitl [H4]; · iexact H4
  iexists f
  isplitl [H5]; · iexact H5
  ipureintro
  intro i hi
  unfold dn at hi
  omega

/-- that its second half reads all rows of the first sum, -/
theorem SC_join (c : Dev nD) :
    iprop(SC fkr fq fqr (gA KA) (RA 4 c) fullShare.left 16 c ∗ pt cc0_scratch0 c (RA 4 c) fullShare.right (gA KA) ∗ pt cc0_scratch0 c (RA 4 (px 1 c)) fullShare (gA KA))
      ⊢ SC fkr fq fqr (gA KA) Finset.univ fullShare 16 c := by
  rw [SC_eq, SC_eq]
  iintro ⟨⟨H1, H2, H3, H4, H5⟩, H6, H7⟩
  isplitl [H1]; · iexact H1
  isplitl [H2]; · iexact H2
  isplitl [H3]; · iexact H3
  isplitl [H4 H6 H7]
  · iapply (gather5A KA c)
    isplitl [H4]; · iexact H4
    isplitl [H6]; · iexact H6
    iexact H7
  iexact H5

/-- and what it ends with. -/
theorem SC_out (c : Dev nD) (I : Finset S512x1024.Idx) (q : PosShare TreeShare) :
    SC fkr fq fqr ka I q 32 c ⊢ iprop(pt cc0_scratch16 c Finset.univ fullShare fkr ∗ pt cc0_scratch14 c Finset.univ fullShare fq ∗ pt cc0_scratch15 c Finset.univ fullShare fqr
      ∗ pt cc0_scratch0 c I q ka ∗ pt cc0_scratch17 c Finset.univ fullShare (PRM fkr fq fqr ka)) := by
  rw [SC_eq]
  unfold prb
  iintro ⟨H1, H2, H3, H4, ⟨%f, H5, %hf⟩⟩
  isplitl [H1]; · iexact H1
  isplitl [H2]; · iexact H2
  isplitl [H3]; · iexact H3
  isplitl [H4]; · iexact H4
  rw [prb_all fkr fq fqr ka c f hf]
  iexact H5

end Score

end Cert.KernelIdealProof
-- ==== Proof.KernelIdealPartsA.lean ====
/-
What the parts of the program do, up to the first sums over pairs of devices.
-/
module

public import proofs.«01_k».proof.Proof.KernelIdealGhosts

public import Idealize.ShloMosaic.Lib.Pipeline.Value

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (KA KB : Dev nD → Mat F) (K : Dev nD × Fin 53 → ℕ)

/-- A program that has returned. -/
theorem wp_done (c : Dev nD) {α : Type} (a : α) {Q : α → sProp 𝕄} : Q a ⊢ WP c (Prog.ret a) Q := by
  show _ ⊢ wp frame (wpE (defs₀ (F := F)) 𝒱₀ (c : Thread nD τ) none) Set.univ (Prog.ret a) Q
  rw [wp_ret]
  iintro H
  imodintro
  iexact H

/-- A barrier signal, to a device given by its mask. -/
theorem sgn (j : ℕ) (d : DD) (hd : d.val = 6 - j) (c n : Dev nD) {m v : ℕ} (hn : n = px m c) (hm : bm (6 - j) = m) (hv : d.val = v) (W : Waits sig Unit)
    {α : Type} {k : PUnit → Prog (TpuEff nD τ sig (Elt F) Λ₀ .tc) α} {Q : α → sProp 𝕄} :
    iprop(env KA KB K ∗ owes (c : Thread nD τ) (Obk (j + 1) c) W ∗ dutyTok ER (cell 0 (px m c)) 0 d ∗ barPay (px m c) v)
      ⊢ iprop((owes (c : Thread nD τ) (Obk j c) W -∗ WP c (k ⟨⟩) Q)
          -∗ WP c (.op (.semSignal (n : Thread nD τ) barS 1) k) Q) := by
  subst hm hv hn
  exact signal KA KB K j d hd c _ rfl W

theorem RA4_rows (c : Dev nD) : rows (256 * xA c) 256 ⊆ RA 4 c := by
  rw [← bA_xA]; exact Finset.Subset.refl _

theorem sAe : ∀ c : Dev nD, bA 3 (px 3 c) = bA 4 c + sA c := by decide +kernel
theorem kAe : ∀ c : Dev nD, bA 3 c = bA 4 c + kA c := by decide +kernel
theorem sBe : ∀ c : Dev nD, bB 3 (px 8 c) = bB 4 c + sB c := by decide +kernel
theorem kBe : ∀ c : Dev nD, bB 3 c = bB 4 c + kB c := by decide +kernel

variable {h0 : (Memref.whole cc0_stg0_0).IsWhole} {h1 : (Memref.whole cc0_stg1_0).IsWhole} {h2 : (Memref.whole cc0_stg2_0).IsWhole} {h3 : (Memref.whole cc0_stg3_0).IsWhole} {h4 : (Memref.whole cc0_stg4_0).IsWhole} {h5 : (Memref.whole cc0_stg5_0).IsWhole} {h6 : (Memref.whole cc0_stg6_0).IsWhole} {h7 : (Memref.whole cc0_stg7_0).IsWhole} {h8 : (Memref.whole cc0_stg8_0).IsWhole}
  {h9 : (Memref.whole cc0_scratch0).IsWhole} {h10 : (Memref.whole cc0_scratch1).IsWhole} {h11 : (Memref.whole cc0_scratch2).IsWhole} {h12 : (Memref.whole cc0_scratch3).IsWhole} {h13 : (Memref.whole cc0_scratch4).IsWhole} {h14 : (Memref.whole cc0_scratch5).IsWhole} {h15 : (Memref.whole cc0_scratch6).IsWhole} {h16 : (Memref.whole cc0_scratch7).IsWhole} {h17 : (Memref.whole cc0_scratch8).IsWhole} {h18 : (Memref.whole cc0_scratch9).IsWhole} {h19 : (Memref.whole cc0_scratch10).IsWhole} {h20 : (Memref.whole cc0_scratch11).IsWhole} {h21 : (Memref.whole cc0_scratch12).IsWhole} {h22 : (Memref.whole cc0_scratch13).IsWhole} {h23 : (Memref.whole cc0_scratch14).IsWhole} {h24 : (Memref.whole cc0_scratch15).IsWhole} {h25 : (Memref.whole cc0_scratch16).IsWhole} {h26 : (Memref.whole cc0_scratch17).IsWhole}

theorem part1  (c : Dev nD) {Q : (Σ' (d0 : Dev nD) (v19 : BitVec 32) (v29 : BitVec 32) (c2_i32 : BitVec 32) (v30 : BitVec 32) (v35 : BitVec 32) (v37 : BitVec 32), BitVec 1) → sProp 𝕄} :
    iprop(∀ (w1 : BitVec 32) (w2 : BitVec 32) (w3 : BitVec 32) (w4 : BitVec 32) (w5 : BitVec 32) (w6 : BitVec 32) (w7 : BitVec 1), Q ⟨c, w1, w2, w3, w4, w5, w6, w7⟩) ⊢ iprop(WP c (k0_part1 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27) Q) := by
  rw [k0_part1_eq_skeleton]; unfold k0_part1_skel
  simp only [semSignalWord, semWaitWord, Prog.lift, Prog.bind_op, Prog.bind_ret, Prog.pure_eq_ret, wp_deviceId]
  iintro Hk
  iapply wp_done c
  iapply Hk

theorem part2 (v19 : BitVec 32) (v29 : BitVec 32) (c2_i32 : BitVec 32) (v30 : BitVec 32) (v35 : BitVec 32) (v37 : BitVec 32) (v38 : BitVec 1) (c : Dev nD) {Q : (Σ' (v46 : BitVec 32) (v57 : BitVec 32) (v70 : BitVec 32) (v71 : BitVec 32) (v73 : BitVec 32) (v74 : BitVec 32) (v75 : BitVec 1), BitVec 1) → sProp 𝕄} :
    iprop(∀ (w0 : BitVec 32) (w1 : BitVec 32) (w2 : BitVec 32) (w3 : BitVec 32) (w4 : BitVec 32) (w5 : BitVec 32) (w6 : BitVec 1) (w7 : BitVec 1), Q ⟨w0, w1, w2, w3, w4, w5, w6, w7⟩) ⊢ iprop(WP c (k0_part2 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 v19 v29 c2_i32 v30 v35 v37 v38) Q) := by
  rw [k0_part2_eq_skeleton]; unfold k0_part2_skel
  simp only [semSignalWord, semWaitWord, Prog.lift, Prog.bind_op, Prog.bind_ret, Prog.pure_eq_ret, wp_deviceId]
  iintro Hk
  iapply wp_done c
  iapply Hk

theorem part3 (v19 : BitVec 32) (v46 : BitVec 32) (v71 : BitVec 32) (v73 : BitVec 32) (v74 : BitVec 32) (v75 : BitVec 1) (v76 : BitVec 1) (c : Dev nD) {Q : (Σ' (v83 : BitVec 32) (v94 : BitVec 32) (v105 : BitVec 32) (v108 : BitVec 32) (v109 : BitVec 32) (v110 : BitVec 1), BitVec 1) → sProp 𝕄} :
    iprop(∀ (w0 : BitVec 32) (w1 : BitVec 32) (w2 : BitVec 32) (w3 : BitVec 32) (w4 : BitVec 32) (w5 : BitVec 1) (w6 : BitVec 1), Q ⟨w0, w1, w2, w3, w4, w5, w6⟩) ⊢ iprop(WP c (k0_part3 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 v19 v46 v71 v73 v74 v75 v76) Q) := by
  rw [k0_part3_eq_skeleton]; unfold k0_part3_skel
  simp only [semSignalWord, semWaitWord, Prog.lift, Prog.bind_op, Prog.bind_ret, Prog.pure_eq_ret, wp_deviceId]
  iintro Hk
  iapply wp_done c
  iapply Hk

theorem part4 (v19 : BitVec 32) (v46 : BitVec 32) (v57 : BitVec 32) (v108 : BitVec 32) (v109 : BitVec 32) (v110 : BitVec 1) (v113 : BitVec 1) (c : Dev nD) {Q : (Σ' (v116 : BitVec 32) (v148 : BitVec 32) (v150 : BitVec 32) (v151 : BitVec 32) (v152 : BitVec 1), BitVec 32) → sProp 𝕄} :
    iprop(∀ (w0 : BitVec 32) (w1 : BitVec 32) (w2 : BitVec 32) (w3 : BitVec 32) (w4 : BitVec 1) (w5 : BitVec 32), Q ⟨w0, w1, w2, w3, w4, w5⟩) ⊢ iprop(WP c (k0_part4 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 v19 v46 v57 v108 v109 v110 v113) Q) := by
  rw [k0_part4_eq_skeleton]; unfold k0_part4_skel
  simp only [semSignalWord, semWaitWord, Prog.lift, Prog.bind_op, Prog.bind_ret, Prog.pure_eq_ret, wp_deviceId]
  iintro Hk
  iapply wp_done c
  iapply Hk

theorem part5 (v19 : BitVec 32) (v46 : BitVec 32) (v57 : BitVec 32) (v148 : BitVec 32) (v150 : BitVec 32) (v151 : BitVec 32) (v152 : BitVec 1) (c0_i32_78 : BitVec 32) (c : Dev nD) {Q : (Σ' (v178 : BitVec 32), BitVec 32) → sProp 𝕄} :
    iprop(∀ (w0 : BitVec 32) (w1 : BitVec 32), Q ⟨w0, w1⟩) ⊢ iprop(WP c (k0_part5 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 v19 v46 v57 v148 v150 v151 v152 c0_i32_78) Q) := by
  rw [k0_part5_eq_skeleton]; unfold k0_part5_skel
  simp only [semSignalWord, semWaitWord, Prog.lift, Prog.bind_op, Prog.bind_ret, Prog.pure_eq_ret, wp_deviceId]
  iintro Hk
  iapply wp_done c
  iapply Hk

theorem part6 (v19 : BitVec 32) (v46 : BitVec 32) (v57 : BitVec 32) (v70 : BitVec 32) (v83 : BitVec 32) (v94 : BitVec 32) (c : Dev nD) {Q : (Σ' (v209 : BitVec 32) (v224 : BitVec 32) (v227 : BitVec 32) (v230 : BitVec 32) (v231 : BitVec 32), BitVec 1) → sProp 𝕄} :
    iprop(∀ (w0 : BitVec 32) (w1 : BitVec 32) (w2 : BitVec 32) (w3 : BitVec 32) (w4 : BitVec 32) (w5 : BitVec 1), Q ⟨w0, w1, w2, w3, w4, w5⟩) ⊢ iprop(WP c (k0_part6 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 v19 v46 v57 v70 v83 v94) Q) := by
  rw [k0_part6_eq_skeleton]; unfold k0_part6_skel
  simp only [semSignalWord, semWaitWord, Prog.lift, Prog.bind_op, Prog.bind_ret, Prog.pure_eq_ret, wp_deviceId]
  iintro Hk
  iapply wp_done c
  iapply Hk

theorem part7 (v46 : BitVec 32) (v57 : BitVec 32) (v83 : BitVec 32) (v105 : BitVec 32) (v227 : BitVec 32) (v230 : BitVec 32) (v231 : BitVec 32) (v232 : BitVec 1) (c : Dev nD) {Q : (Σ' (v239 : BitVec 32) (v268 : BitVec 32) (v271 : BitVec 32) (v272 : BitVec 32) (c2_i32_137 : BitVec 32), BitVec 32) → sProp 𝕄} :
    iprop(∀ (w0 : BitVec 32) (w1 : BitVec 32) (w2 : BitVec 32) (w3 : BitVec 32) (w4 : BitVec 32) (w5 : BitVec 32), Q ⟨w0, w1, w2, w3, w4, w5⟩) ⊢ iprop(WP c (k0_part7 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 v46 v57 v83 v105 v227 v230 v231 v232) Q) := by
  rw [k0_part7_eq_skeleton]; unfold k0_part7_skel
  simp only [semSignalWord, semWaitWord, Prog.lift, Prog.bind_op, Prog.bind_ret, Prog.pure_eq_ret, wp_deviceId]
  iintro Hk
  iapply wp_done c
  iapply Hk

theorem part8 (v105 : BitVec 32) (v116 : BitVec 32) (v271 : BitVec 32) (v272 : BitVec 32) (c2_i32_137 : BitVec 32) (c0_i32_138 : BitVec 32) (c : Dev nD) {Q : (Σ' (v283 : BitVec 32) (v312 : BitVec 32), BitVec 32) → sProp 𝕄} :
    iprop(∀ (w0 : BitVec 32) (w1 : BitVec 32) (w2 : BitVec 32), Q ⟨w0, w1, w2⟩) ⊢ iprop(WP c (k0_part8 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 v105 v116 v271 v272 c2_i32_137 c0_i32_138) Q) := by
  rw [k0_part8_eq_skeleton]; unfold k0_part8_skel
  simp only [semSignalWord, semWaitWord, Prog.lift, Prog.bind_op, Prog.bind_ret, Prog.pure_eq_ret, wp_deviceId]
  iintro Hk
  iapply wp_done c
  iapply Hk

theorem part9 (v46 : BitVec 32) (v57 : BitVec 32) (v116 : BitVec 32) (v313 : BitVec 32) (c : Dev nD) {Q : (Σ' (v327 : BitVec 32) (v338 : BitVec 32) (v339 : BitVec 32), BitVec 1) → sProp 𝕄} :
    iprop(∀ (w0 : BitVec 32) (w1 : BitVec 32) (w2 : BitVec 32) (w3 : BitVec 1), Q ⟨w0, w1, w2, w3⟩) ⊢ iprop(WP c (k0_part9 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 v46 v57 v116 v313) Q) := by
  rw [k0_part9_eq_skeleton]; unfold k0_part9_skel
  simp only [semSignalWord, semWaitWord, Prog.lift, Prog.bind_op, Prog.bind_ret, Prog.pure_eq_ret, wp_deviceId]
  iintro Hk
  iapply wp_done c
  iapply Hk

theorem part10 (v19 : BitVec 32) (v46 : BitVec 32) (v338 : BitVec 32) (v339 : BitVec 32) (v353 : BitVec 1) (c : Dev nD) {Q : (Σ' (v356 : BitVec 32) (v379 : BitVec 32) (v380 : BitVec 32) (v391 : BitVec 1) (v392 : BitVec 32), BitVec 32) → sProp 𝕄} :
    iprop(∀ (w0 : BitVec 32) (w1 : BitVec 32) (w2 : BitVec 32) (w3 : BitVec 1) (w4 : BitVec 32) (w5 : BitVec 32), Q ⟨w0, w1, w2, w3, w4, w5⟩) ⊢ iprop(WP c (k0_part10 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 v19 v46 v338 v339 v353) Q) := by
  rw [k0_part10_eq_skeleton]; unfold k0_part10_skel
  simp only [semSignalWord, semWaitWord, Prog.lift, Prog.bind_op, Prog.bind_ret, Prog.pure_eq_ret, wp_deviceId]
  iintro Hk
  iapply wp_done c
  iapply Hk

theorem part11 (v19 : BitVec 32) (v46 : BitVec 32) (v57 : BitVec 32) (v70 : BitVec 32) (v379 : BitVec 32) (v380 : BitVec 32) (v391 : BitVec 1) (v392 : BitVec 32) (c0_i32_198 : BitVec 32) (c : Dev nD) {Q : (Σ' (v418 : BitVec 32) (v433 : BitVec 32), BitVec 32) → sProp 𝕄} :
    iprop(∀ (w0 : BitVec 32) (w1 : BitVec 32) (w2 : BitVec 32), Q ⟨w0, w1, w2⟩) ⊢ iprop(WP c (k0_part11 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 v19 v46 v57 v70 v379 v380 v391 v392 c0_i32_198) Q) := by
  rw [k0_part11_eq_skeleton]; unfold k0_part11_skel
  simp only [semSignalWord, semWaitWord, Prog.lift, Prog.bind_op, Prog.bind_ret, Prog.pure_eq_ret, wp_deviceId]
  iintro Hk
  iapply wp_done c
  iapply Hk

theorem part12 (v19 : BitVec 32) (v46 : BitVec 32) (v57 : BitVec 32) (v83 : BitVec 32) (v105 : BitVec 32) (c8_i32_217 : BitVec 32) (c : Dev nD) {Q : (Σ' (v448 : BitVec 32) (v463 : BitVec 32) (v467 : BitVec 32) (v470 : BitVec 32) (v471 : BitVec 32), BitVec 32) → sProp 𝕄} :
    iprop(∀ (w0 : BitVec 32) (w1 : BitVec 32) (w2 : BitVec 32) (w3 : BitVec 32) (w4 : BitVec 32) (w5 : BitVec 32), Q ⟨w0, w1, w2, w3, w4, w5⟩) ⊢ iprop(WP c (k0_part12 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 v19 v46 v57 v83 v105 c8_i32_217) Q) := by
  rw [k0_part12_eq_skeleton]; unfold k0_part12_skel
  simp only [semSignalWord, semWaitWord, Prog.lift, Prog.bind_op, Prog.bind_ret, Prog.pure_eq_ret, wp_deviceId]
  iintro Hk
  iapply wp_done c
  iapply Hk

theorem part13 (v19 : BitVec 32) (v46 : BitVec 32) (v57 : BitVec 32) (v94 : BitVec 32) (v467 : BitVec 32) (v470 : BitVec 32) (v471 : BitVec 32) (c0_i32_239 : BitVec 32) (c : Dev nD) {Q : (Σ' (v479 : BitVec 32) (v499 : BitVec 32) (v502 : BitVec 32) (v506 : BitVec 32) (v511 : BitVec 1), BitVec 32) → sProp 𝕄} :
    iprop(∀ (w0 : BitVec 32) (w1 : BitVec 32) (w2 : BitVec 32) (w3 : BitVec 32) (w4 : BitVec 1) (w5 : BitVec 32), Q ⟨w0, w1, w2, w3, w4, w5⟩) ⊢ iprop(WP c (k0_part13 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 v19 v46 v57 v94 v467 v470 v471 c0_i32_239) Q) := by
  rw [k0_part13_eq_skeleton]; unfold k0_part13_skel
  simp only [semSignalWord, semWaitWord, Prog.lift, Prog.bind_op, Prog.bind_ret, Prog.pure_eq_ret, wp_deviceId]
  iintro Hk
  iapply wp_done c
  iapply Hk

theorem part14 (v19 : BitVec 32) (v57 : BitVec 32) (v94 : BitVec 32) (v502 : BitVec 32) (v506 : BitVec 32) (v511 : BitVec 1) (v512 : BitVec 32) (c : Dev nD) {Q : (Σ' (v514 : BitVec 32) (v533 : BitVec 32) (v549 : BitVec 32) (v551 : BitVec 32) (c2_i32_278 : BitVec 32), BitVec 32) → sProp 𝕄} :
    iprop(∀ (w0 : BitVec 32) (w1 : BitVec 32) (w2 : BitVec 32) (w3 : BitVec 32) (w4 : BitVec 32) (w5 : BitVec 32), Q ⟨w0, w1, w2, w3, w4, w5⟩) ⊢ iprop(WP c (k0_part14 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 v19 v57 v94 v502 v506 v511 v512) Q) := by
  rw [k0_part14_eq_skeleton]; unfold k0_part14_skel
  simp only [semSignalWord, semWaitWord, Prog.lift, Prog.bind_op, Prog.bind_ret, Prog.pure_eq_ret, wp_deviceId]
  iintro Hk
  iapply wp_done c
  iapply Hk

theorem part15 (v19 : BitVec 32) (v46 : BitVec 32) (v57 : BitVec 32) (v70 : BitVec 32) (v94 : BitVec 32) (v551 : BitVec 32) (c2_i32_278 : BitVec 32) (v552 : BitVec 32) (c : Dev nD) {Q : (Σ' (v569 : BitVec 32) (v585 : BitVec 32) (v588 : BitVec 32) (v591 : BitVec 32), BitVec 32) → sProp 𝕄} :
    iprop(∀ (w0 : BitVec 32) (w1 : BitVec 32) (w2 : BitVec 32) (w3 : BitVec 32) (w4 : BitVec 32), Q ⟨w0, w1, w2, w3, w4⟩) ⊢ iprop(WP c (k0_part15 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 v19 v46 v57 v70 v94 v551 c2_i32_278 v552) Q) := by
  rw [k0_part15_eq_skeleton]; unfold k0_part15_skel
  simp only [semSignalWord, semWaitWord, Prog.lift, Prog.bind_op, Prog.bind_ret, Prog.pure_eq_ret, wp_deviceId]
  iintro Hk
  iapply wp_done c
  iapply Hk

theorem part16 (v19 : BitVec 32) (v46 : BitVec 32) (v57 : BitVec 32) (v83 : BitVec 32) (v94 : BitVec 32) (v105 : BitVec 32) (v588 : BitVec 32) (v591 : BitVec 32) (v592 : BitVec 32) (c : Dev nD) {Q : (Σ' (v600 : BitVec 32) (v615 : BitVec 32) (v630 : BitVec 32) (v631 : BitVec 32), BitVec 32) → sProp 𝕄} :
    iprop(∀ (w0 : BitVec 32) (w1 : BitVec 32) (w2 : BitVec 32) (w3 : BitVec 32) (w4 : BitVec 32), Q ⟨w0, w1, w2, w3, w4⟩) ⊢ iprop(WP c (k0_part16 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 v19 v46 v57 v83 v94 v105 v588 v591 v592) Q) := by
  rw [k0_part16_eq_skeleton]; unfold k0_part16_skel
  simp only [semSignalWord, semWaitWord, Prog.lift, Prog.bind_op, Prog.bind_ret, Prog.pure_eq_ret, wp_deviceId]
  iintro Hk
  iapply wp_done c
  iapply Hk

theorem part17 (v19 : BitVec 32) (v46 : BitVec 32) (v57 : BitVec 32) (v94 : BitVec 32) (v116 : BitVec 32) (v631 : BitVec 32) (c2_i32_319 : BitVec 32) (c : Dev nD) {Q : (Σ' (v645 : BitVec 32) (v660 : BitVec 32) (v664 : BitVec 32) (v667 : BitVec 32) (v668 : BitVec 32) (v669 : BitVec 1), BitVec 32) → sProp 𝕄} :
    iprop(∀ (w0 : BitVec 32) (w1 : BitVec 32) (w2 : BitVec 32) (w3 : BitVec 32) (w4 : BitVec 32) (w5 : BitVec 1) (w6 : BitVec 32), Q ⟨w0, w1, w2, w3, w4, w5, w6⟩) ⊢ iprop(WP c (k0_part17 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 v19 v46 v57 v94 v116 v631 c2_i32_319) Q) := by
  rw [k0_part17_eq_skeleton]; unfold k0_part17_skel
  simp only [semSignalWord, semWaitWord, Prog.lift, Prog.bind_op, Prog.bind_ret, Prog.pure_eq_ret, wp_deviceId]
  iintro Hk
  iapply wp_done c
  iapply Hk

theorem part18 (X0 : S2x256x1024.Idx → Elt F .bf16) (X1 : S1024x64.Idx → Elt F .bf16) (W : Waits sig Unit) (v585 : BitVec 32) (v600 : BitVec 32) (v615 : BitVec 32) (v630 : BitVec 32) (v645 : BitVec 32) (v660 : BitVec 32) (v664 : BitVec 32) (v667 : BitVec 32) (v668 : BitVec 32) (v669 : BitVec 1) (c0_i32_341 : BitVec 32) (c : Dev nD) {Q : (Σ' (v677 : Sems sig S_) (v694 : FVec F S512x1024 .bf16), Vec F S1024x64 .bf16) → sProp 𝕄} :
    iprop(env KA KB K ∗ owes (c : Thread nD τ) (Obk 7 c) W ∗ dutyTok ER (cell 0 (px 1 c)) 0 0 ∗ barPay (F := F) (px 1 c) 0 ∗ dutyTok ER (cell 0 (px 3 c)) 0 1 ∗ barPay (F := F) (px 3 c) 1 ∗ dutyTok ER (cell 0 (px 4 c)) 0 2 ∗ barPay (F := F) (px 4 c) 2 ∗ dutyTok ER (cell 0 (px 8 c)) 0 3 ∗ barPay (F := F) (px 8 c) 3 ∗ dutyTok ER (cell 0 (px 16 c)) 0 4 ∗ barPay (F := F) (px 16 c) 4 ∗ dutyTok ER (cell 0 (px 24 c)) 0 5 ∗ barPay (F := F) (px 24 c) 5 ∗ dutyTok ER (cell 0 (px 5 c)) 0 6 ∗ barPay (F := F) (px 5 c) 6 ∗ pt cc0_stg0_0 c Finset.univ fullShare X0 ∗ pt cc0_stg1_0 c Finset.univ fullShare X1) ⊢ iprop(((owes (c : Thread nD τ) (Obk 0 c) W ∗ pt cc0_stg0_0 c Finset.univ fullShare X0 ∗ pt cc0_stg1_0 c Finset.univ fullShare X1) -∗ Q ⟨(SemArray.scalar (sig.barrier 0 rfl)), (k0_pay2 (X0)), ((X1))⟩) -∗ WP c (k0_part18 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v585 v600 v615 v630 v645 v660 v664 v667 v668 v669 c0_i32_341) Q) := by
  rw [k0_part18_eq_skeleton]; unfold k0_part18_skel
  simp only [semSignalWord, semWaitWord, Prog.lift, Prog.bind_op, Prog.bind_ret, Prog.pure_eq_ret, wp_deviceId]
  iintro ⟨#He, HO, HK0, HY0, HK1, HY1, HK2, HY2, HK3, HY3, HK4, HY4, HK5, HY5, HK6, HY6, HX0, HX1⟩ Hk
  iapply (sgn KA KB K 6 0 rfl c _ (dv1 c) rfl (v := 0) rfl W) $$ [HO HK0 HY0]
  · isplitl []; · iexact He
    isplitl [HO]; · iexact HO
    isplitl [HK0]; · iexact HK0
    iexact HY0
  iintro HO
  iapply (sgn KA KB K 5 1 rfl c _ (dv2 c) rfl (v := 1) rfl W) $$ [HO HK1 HY1]
  · isplitl []; · iexact He
    isplitl [HO]; · iexact HO
    isplitl [HK1]; · iexact HK1
    iexact HY1
  iintro HO
  iapply (sgn KA KB K 4 2 rfl c _ (dv3 c) rfl (v := 2) rfl W) $$ [HO HK2 HY2]
  · isplitl []; · iexact He
    isplitl [HO]; · iexact HO
    isplitl [HK2]; · iexact HK2
    iexact HY2
  iintro HO
  iapply (sgn KA KB K 3 3 rfl c _ (dv4 c) rfl (v := 3) rfl W) $$ [HO HK3 HY3]
  · isplitl []; · iexact He
    isplitl [HO]; · iexact HO
    isplitl [HK3]; · iexact HK3
    iexact HY3
  iintro HO
  iapply (sgn KA KB K 2 4 rfl c _ (dv5 c) rfl (v := 4) rfl W) $$ [HO HK4 HY4]
  · isplitl []; · iexact He
    isplitl [HO]; · iexact HO
    isplitl [HK4]; · iexact HK4
    iexact HY4
  iintro HO
  iapply (sgn KA KB K 1 5 rfl c _ (dv6 c) rfl (v := 5) rfl W) $$ [HO HK5 HY5]
  · isplitl []; · iexact He
    isplitl [HO]; · iexact HO
    isplitl [HK5]; · iexact HK5
    iexact HY5
  iintro HO
  iapply (sgn KA KB K 0 6 rfl c _ (dv7 c) rfl (v := 6) rfl W) $$ [HO HK6 HY6]
  · isplitl []; · iexact He
    isplitl [HO]; · iexact HO
    isplitl [HK6]; · iexact HK6
    iexact HY6
  iintro HO
  iapply (read_whole c hz3) $$ HX0
  iintro HX0
  iapply (read_whole c hz2) $$ HX1
  iintro HX1
  iapply wp_done c
  iapply Hk
  isplitl [HO]; · iexact HO
  isplitl [HX0]; · iexact HX0
  iexact HX1

theorem part19 (X2 : S64x1024.Idx → Elt F .bf16) (X3 : S64x1024.Idx → Elt F .bf16) (z0 : Mat F) (z1 : Mat F) (W : Waits sig Unit) (v178 : BitVec 32) (v694 : FVec F S512x1024 .bf16) (v695 : Vec F S1024x64 .bf16) (c : Dev nD) {Q : (Σ' (v730 : BitVec 32), BitVec 32) → sProp 𝕄} :
    iprop(env KA KB K ∗ pt cc0_stg2_0 c Finset.univ fullShare X2 ∗ pt cc0_stg3_0 c Finset.univ fullShare X3 ∗ owes (c : Thread nD τ) (Obk 0 c) W ∗ cred (tallyAt (cell 0 c) () 7) ∗ atPos ER (cell 0 c) 0 ∅ 0 ∗ pt cc0_scratch0 c Finset.univ fullShare z0 ∗ pt cc0_scratch1 c Finset.univ fullShare z1) ⊢ iprop((∀ (w0 : BitVec 32) (w1 : BitVec 32), (pt cc0_stg2_0 c Finset.univ fullShare X2 ∗ pt cc0_stg3_0 c Finset.univ fullShare X3 ∗ owing F 26 c ∗ semVal (cell 0 c) 0 ∗ barPay (F := F) c 0 ∗ barPay (F := F) c 1 ∗ barPay (F := F) c 2 ∗ barPay (F := F) c 3 ∗ barPay (F := F) c 4 ∗ barPay (F := F) c 5 ∗ barPay (F := F) c 6 ∗ pt cc0_scratch0 c Finset.univ fullShare (k0_pay4 v694 v695 (X2)) ∗ pt cc0_scratch1 c Finset.univ fullShare (k0_pay5 v694 v695 (X3))) -∗ Q ⟨w0, w1⟩) -∗ WP c (k0_part19 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 v178 (SemArray.scalar (sig.barrier 0 rfl)) v694 v695) Q) := by
  rw [k0_part19_eq_skeleton]; unfold k0_part19_skel
  simp only [semSignalWord, semWaitWord, Prog.lift, Prog.bind_op, Prog.bind_ret, Prog.pure_eq_ret, wp_deviceId]
  iintro ⟨#He, HX2, HX3, HO, HBC, HBA, HA, HB⟩ Hk
  iapply (read_whole c hz2) $$ HX2
  iintro HX2
  iapply (read_whole c hz2) $$ HX3
  iintro HX3
  iapply (wait_bar KA KB K c W) $$ [HO HBC HBA]
  · isplitl []; · iexact He
    isplitl [HO]; · iexact HO
    isplitl [HBC]; · iexact HBC
    iexact HBA
  iintro ⟨HO, HSB, HV0, HV1, HV2, HV3, HV4, HV5, HV6⟩
  iapply (read_whole c hz2) $$ HA
  iintro HA
  iapply (write_whole c hz2) $$ HA
  iintro HA
  iapply (read_whole c hz2) $$ HB
  iintro HB
  iapply (write_whole c hz2) $$ HB
  iintro HB
  iapply wp_done c
  iapply Hk
  isplitl [HX2]; · iexact HX2
  isplitl [HX3]; · iexact HX3
  isplitl [HO]; · iexact HO
  isplitl [HSB]; · iexact HSB
  isplitl [HV0]; · iexact HV0
  isplitl [HV1]; · iexact HV1
  isplitl [HV2]; · iexact HV2
  isplitl [HV3]; · iexact HV3
  isplitl [HV4]; · iexact HV4
  isplitl [HV5]; · iexact HV5
  isplitl [HV6]; · iexact HV6
  isplitl [HA]; · iexact HA
  iexact HB

theorem part20 (v178 : BitVec 32) (v730 : BitVec 32) (c256_i32_385 : BitVec 32) (c : Dev nD) {Q : (Σ' (v731 : BitVec 32) (v768 : BitVec 32) (v769 : BitVec 32) (c2_i32_403 : BitVec 32) (v770 : BitVec 1), BitVec 32) → sProp 𝕄} :
    iprop(∀ (w0 : BitVec 32) (w1 : BitVec 32) (w2 : BitVec 32) (w3 : BitVec 32) (w4 : BitVec 1) (w5 : BitVec 32), Q ⟨w0, w1, w2, w3, w4, w5⟩) ⊢ iprop(WP c (k0_part20 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 v178 v730 c256_i32_385) Q) := by
  rw [k0_part20_eq_skeleton]; unfold k0_part20_skel
  simp only [semSignalWord, semWaitWord, Prog.lift, Prog.bind_op, Prog.bind_ret, Prog.pure_eq_ret, wp_deviceId]
  iintro Hk
  iapply wp_done c
  iapply Hk

theorem part21 (v418 : BitVec 32) (v731 : BitVec 32) (v768 : BitVec 32) (v769 : BitVec 32) (c2_i32_403 : BitVec 32) (v770 : BitVec 1) (c1_i32_405 : BitVec 32) (c : Dev nD) {Q : (Σ' (v806 : BitVec 32) (v807 : BitVec 32) (c16_i32_422 : BitVec 32) (v808 : BitVec 32) (v810 : BitVec 32), BitVec 32) → sProp 𝕄} :
    iprop(∀ (w0 : BitVec 32) (w1 : BitVec 32) (w2 : BitVec 32) (w3 : BitVec 32) (w4 : BitVec 32) (w5 : BitVec 32), Q ⟨w0, w1, w2, w3, w4, w5⟩) ⊢ iprop(WP c (k0_part21 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 v418 v731 v768 v769 c2_i32_403 v770 c1_i32_405) Q) := by
  rw [k0_part21_eq_skeleton]; unfold k0_part21_skel
  simp only [semSignalWord, semWaitWord, Prog.lift, Prog.bind_op, Prog.bind_ret, Prog.pure_eq_ret, wp_deviceId]
  iintro Hk
  iapply wp_done c
  iapply Hk

theorem part22 (v418 : BitVec 32) (v807 : BitVec 32) (c16_i32_422 : BitVec 32) (v808 : BitVec 32) (v810 : BitVec 32) (c0_i32_424 : BitVec 32) (c : Dev nD) {Q : (Σ' (v844 : BitVec 32) (v846 : BitVec 32) (v847 : BitVec 32) (v848 : BitVec 1), BitVec 1) → sProp 𝕄} :
    iprop(∀ (w0 : BitVec 32) (w1 : BitVec 32) (w2 : BitVec 32) (w3 : BitVec 1) (w4 : BitVec 1), Q ⟨w0, w1, w2, w3, w4⟩) ⊢ iprop(WP c (k0_part22 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 v418 v807 c16_i32_422 v808 v810 c0_i32_424) Q) := by
  rw [k0_part22_eq_skeleton]; unfold k0_part22_skel
  simp only [semSignalWord, semWaitWord, Prog.lift, Prog.bind_op, Prog.bind_ret, Prog.pure_eq_ret, wp_deviceId]
  iintro Hk
  iapply wp_done c
  iapply Hk

theorem part23 (v194 : BitVec 32) (v433 : BitVec 32) (v806 : BitVec 32) (v844 : BitVec 32) (v846 : BitVec 32) (v847 : BitVec 32) (v848 : BitVec 1) (v851 : BitVec 1) (c : Dev nD) {Q : (PUnit) → sProp 𝕄} :
    iprop(env KA KB K ∗ owing F 26 c ∗ pt cc0_scratch0 c (RA 3 (px 3 (px 1 c))) fullShare (KA c) ∗ own (F := F) cc0_scratch2 (px 1 c) (LA (sA (px 1 c))) ∗ pre F 0 c ∗ pt cc0_scratch0 c (RA 3 (px 1 c)) fullShare (KA c) ∗ own (F := F) cc0_scratch2 (px 1 c) (LA (kA (px 1 c))) ∗ pre F 1 c ∗ pt cc0_scratch1 c (RB 3 (px 8 (px 3 c))) fullShare (KB c) ∗ own (F := F) cc0_scratch5 (px 3 c) (LA (sB (px 3 c))) ∗ pre F 2 c) ⊢ iprop(((owing F 23 c ∗ mid F 0 c ∗ mid F 1 c ∗ mid F 2 c) -∗ Q ⟨⟩) -∗ WP c (k0_part23 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v194 v433 v806 v844 v846 v847 v848 v851) Q) := by
  rw [k0_part23_eq_skeleton]; unfold k0_part23_skel
  simp only [semSignalWord, semWaitWord, Prog.lift, Prog.bind_op, Prog.bind_ret, Prog.pure_eq_ret, wp_deviceId]
  iintro ⟨#He, HO, HP0, HD0, HT0, HP1, HD1, HT1, HP2, HD2, HT2⟩ Hk
  iapply (send_0 KA KB K c _ (dv8 c) (of2 c) (of1 c)) $$ [HO HP0 HD0 HT0]
  · isplitl []; · iexact He
    isplitl [HO]; · iexact HO
    isplitl [HP0]; · iexact HP0
    isplitl [HD0]; · iexact HD0
    iexact HT0
  iintro ⟨HO, HT0⟩
  iapply (send_1 KA KB K c _ (dv9 c) (of4 c) (of3 c)) $$ [HO HP1 HD1 HT1]
  · isplitl []; · iexact He
    isplitl [HO]; · iexact HO
    isplitl [HP1]; · iexact HP1
    isplitl [HD1]; · iexact HD1
    iexact HT1
  iintro ⟨HO, HT1⟩
  iapply (send_2 KA KB K c _ (dv10 c) (of6 c) (of5 c)) $$ [HO HP2 HD2 HT2]
  · isplitl []; · iexact He
    isplitl [HO]; · iexact HO
    isplitl [HP2]; · iexact HP2
    isplitl [HD2]; · iexact HD2
    iexact HT2
  iintro ⟨HO, HT2⟩
  iapply wp_done c
  iapply Hk
  isplitl [HO]; · iexact HO
  isplitl [HT0]; · iexact HT0
  isplitl [HT1]; · iexact HT1
  iexact HT2

theorem part24 (X4 : S1024x1024.Idx → Elt F .bf16) (X5 : S1024x512.Idx → Elt F .bf16) (X6 : S1024x32.Idx → Elt F .bf16) (z14 : S512x1024.Idx → Elt F .bf16) (z15 : S512x512.Idx → Elt F .bf16) (z16 : S512x32.Idx → Elt F .bf16) (v433 : BitVec 32) (v694 : FVec F S512x1024 .bf16) (c : Dev nD) {Q : (PUnit) → sProp 𝕄} :
    iprop(env KA KB K ∗ owing F 23 c ∗ pt cc0_scratch1 c (RB 3 (px 3 c)) fullShare (KB c) ∗ own (F := F) cc0_scratch5 (px 3 c) (LA (kB (px 3 c))) ∗ pre F 3 c ∗ pt cc0_stg4_0 c Finset.univ fullShare X4 ∗ pt cc0_scratch14 c Finset.univ fullShare z14 ∗ pt cc0_stg5_0 c Finset.univ fullShare X5 ∗ pt cc0_scratch15 c Finset.univ fullShare z15 ∗ pt cc0_stg6_0 c Finset.univ fullShare X6 ∗ pt cc0_scratch16 c Finset.univ fullShare z16) ⊢ iprop(((owing F 22 c ∗ mid F 3 c ∗ pt cc0_stg4_0 c Finset.univ fullShare X4 ∗ pt cc0_scratch14 c Finset.univ fullShare (k0_pay6 v694 (X4)) ∗ pt cc0_stg5_0 c Finset.univ fullShare X5 ∗ pt cc0_scratch15 c Finset.univ fullShare (k0_pay7 v694 (X5)) ∗ pt cc0_stg6_0 c Finset.univ fullShare X6 ∗ pt cc0_scratch16 c Finset.univ fullShare (k0_pay8 v694 (X6))) -∗ Q ⟨⟩) -∗ WP c (k0_part24 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v433 v694) Q) := by
  rw [k0_part24_eq_skeleton]; unfold k0_part24_skel
  simp only [semSignalWord, semWaitWord, Prog.lift, Prog.bind_op, Prog.bind_ret, Prog.pure_eq_ret, wp_deviceId]
  iintro ⟨#He, HO, HP3, HD3, HT3, HX4, HZ14, HX5, HZ15, HX6, HZ16⟩ Hk
  iapply (send_3 KA KB K c _ (dv11 c) (of8 c) (of7 c)) $$ [HO HP3 HD3 HT3]
  · isplitl []; · iexact He
    isplitl [HO]; · iexact HO
    isplitl [HP3]; · iexact HP3
    isplitl [HD3]; · iexact HD3
    iexact HT3
  iintro ⟨HO, HT3⟩
  iapply (read_whole c hz2) $$ HX4
  iintro HX4
  iapply (read_whole c hz2) $$ HZ14
  iintro HZ14
  iapply (write_whole c hz2) $$ HZ14
  iintro HZ14
  iapply (read_whole c hz2) $$ HX5
  iintro HX5
  iapply (read_whole c hz2) $$ HZ15
  iintro HZ15
  iapply (write_whole c hz2) $$ HZ15
  iintro HZ15
  iapply (read_whole c hz2) $$ HX6
  iintro HX6
  iapply (read_whole c hz2) $$ HZ16
  iintro HZ16
  iapply (write_whole c hz2) $$ HZ16
  iintro HZ16
  iapply wp_done c
  iapply Hk
  isplitl [HO]; · iexact HO
  isplitl [HT3]; · iexact HT3
  isplitl [HX4]; · iexact HX4
  isplitl [HZ14]; · iexact HZ14
  isplitl [HX5]; · iexact HX5
  isplitl [HZ15]; · iexact HZ15
  isplitl [HX6]; · iexact HX6
  iexact HZ16

theorem part25 (v178 : BitVec 32) (v194 : BitVec 32) (c : Dev nD) {Q : (Σ' (v947 : BitVec 32) (c8_i32_507 : BitVec 32) (v948 : BitVec 32) (v953 : BitVec 32), BitVec 1) → sProp 𝕄} :
    iprop(env KA KB K ∗ owing F 22 c ∗ mid F 0 c) ⊢ iprop((∀ (w0 : BitVec 32) (w1 : BitVec 32) (w2 : BitVec 32) (w3 : BitVec 32) (w4 : BitVec 1), (owing F 22 c ∗ fin F 0 c ∗ pt cc0_scratch2 c (LA (sA c)) fullShare (shf (bA 4 c) (KA (px 1 c))) ∗ own (F := F) cc0_scratch0 (px 1 c) (RA 3 (px 3 c))) -∗ Q ⟨w0, w1, w2, w3, w4⟩) -∗ WP c (k0_part25 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v178 v194) Q) := by
  rw [k0_part25_eq_skeleton]; unfold k0_part25_skel
  simp only [semSignalWord, semWaitWord, Prog.lift, Prog.bind_op, Prog.bind_ret, Prog.pure_eq_ret, wp_deviceId]
  iintro ⟨#He, HO, HT0⟩ Hk
  iapply (wS_0 KA KB K c 22) $$ [HO HT0]
  · isplitl []; · iexact He
    isplitl [HO]; · iexact HO
    iexact HT0
  iintro ⟨HO, HT0⟩
  iapply (wR_0 KA KB K c 22 (by decide)) $$ [HO HT0]
  · isplitl []; · iexact He
    isplitl [HO]; · iexact HO
    iexact HT0
  iintro ⟨HO, HT0, HL0, HG0⟩
  iapply wp_done c
  iapply Hk
  isplitl [HO]; · iexact HO
  isplitl [HT0]; · iexact HT0
  isplitl [HL0]; · iexact HL0
  iexact HG0

theorem part26 (v178 : BitVec 32) (v947 : BitVec 32) (c8_i32_507 : BitVec 32) (v948 : BitVec 32) (v953 : BitVec 32) (v954 : BitVec 1) (c : Dev nD) {Q : (Σ' (c8_i32_526 : BitVec 32) (v989 : BitVec 32) (v994 : BitVec 32), BitVec 32) → sProp 𝕄} :
    iprop(pt cc0_scratch0 c (RA 3 (px 3 c)) fullShare (KA c) ∗ pt cc0_scratch2 c (LA (sA c)) fullShare (shf (bA 4 c) (KA (px 1 c)))) ⊢ iprop((∀ (w0 : BitVec 32) (w1 : BitVec 32) (w2 : BitVec 32) (w3 : BitVec 32), (pt cc0_scratch0 c (RA 3 (px 3 c)) fullShare (tA1 KA c) ∗ pt cc0_scratch2 c (LA (sA c)) fullShare (shf (bA 4 c) (KA (px 1 c)))) -∗ Q ⟨w0, w1, w2, w3⟩) -∗ WP c (k0_part26 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v178 v947 c8_i32_507 v948 v953 v954) Q) := by
  rw [k0_part26_eq_skeleton]; unfold k0_part26_skel
  simp only [semSignalWord, semWaitWord, Prog.lift, Prog.bind_op, Prog.bind_ret, Prog.pure_eq_ret, wp_deviceId]
  iintro ⟨HP4, HL0⟩ Hk
  iapply (la_0_128 c (of9 c)) $$ HP4
  iintro HP4
  iapply (ll_2 c (of10 c) (sAe c)) $$ HL0
  iintro HL0
  iapply (la_0_128 c (of9 c)) $$ HP4
  iintro HP4
  iapply (st_0_128 c (tA1 KA c) (of9 c) (shapeCast_self _ _)) $$ HP4
  iintro HP4
  iapply wp_done c
  iapply Hk
  isplitl [HP4]; · iexact HP4
  iexact HL0

theorem part27 (v178 : BitVec 32) (v209 : BitVec 32) (c8_i32_526 : BitVec 32) (v989 : BitVec 32) (v994 : BitVec 32) (c0_i32_529 : BitVec 32) (c : Dev nD) {Q : (PUnit) → sProp 𝕄} :
    iprop(env KA KB K ∗ owing F 22 c ∗ pt cc0_scratch0 c (RA 3 (px 3 c)) fullShare (tA1 KA c) ∗ own (F := F) cc0_scratch3 (px 3 c) (Finset.univ) ∗ pre F 4 c) ⊢ iprop(((owing F 21 c ∗ mid F 4 c) -∗ Q ⟨⟩) -∗ WP c (k0_part27 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v178 v209 c8_i32_526 v989 v994 c0_i32_529) Q) := by
  rw [k0_part27_eq_skeleton]; unfold k0_part27_skel
  simp only [semSignalWord, semWaitWord, Prog.lift, Prog.bind_op, Prog.bind_ret, Prog.pure_eq_ret, wp_deviceId]
  iintro ⟨#He, HO, HP4, HD4, HT4⟩ Hk
  iapply (send_4 KA KB K c _ (dv12 c) (of11 c)) $$ [HO HP4 HD4 HT4]
  · isplitl []; · iexact He
    isplitl [HO]; · iexact HO
    isplitl [HP4]; · iexact HP4
    isplitl [HD4]; · iexact HD4
    iexact HT4
  iintro ⟨HO, HT4⟩
  iapply wp_done c
  iapply Hk
  isplitl [HO]; · iexact HO
  iexact HT4

theorem part28 (v418 : BitVec 32) (v433 : BitVec 32) (c : Dev nD) {Q : (Σ' (v1055 : BitVec 32) (v1056 : BitVec 32) (v1067 : BitVec 1), BitVec 32) → sProp 𝕄} :
    iprop(env KA KB K ∗ owing F 21 c ∗ mid F 2 c) ⊢ iprop((∀ (w0 : BitVec 32) (w1 : BitVec 32) (w2 : BitVec 1) (w3 : BitVec 32), (owing F 21 c ∗ fin F 2 c ∗ pt cc0_scratch5 c (LA (sB c)) fullShare (shf (bB 4 c) (KB (px 3 c))) ∗ own (F := F) cc0_scratch1 (px 3 c) (RB 3 (px 8 c))) -∗ Q ⟨w0, w1, w2, w3⟩) -∗ WP c (k0_part28 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v418 v433) Q) := by
  rw [k0_part28_eq_skeleton]; unfold k0_part28_skel
  simp only [semSignalWord, semWaitWord, Prog.lift, Prog.bind_op, Prog.bind_ret, Prog.pure_eq_ret, wp_deviceId]
  iintro ⟨#He, HO, HT2⟩ Hk
  iapply (wS_2 KA KB K c 21) $$ [HO HT2]
  · isplitl []; · iexact He
    isplitl [HO]; · iexact HO
    iexact HT2
  iintro ⟨HO, HT2⟩
  iapply (wR_2 KA KB K c 21 (by decide)) $$ [HO HT2]
  · isplitl []; · iexact He
    isplitl [HO]; · iexact HO
    iexact HT2
  iintro ⟨HO, HT2, HL2, HG2⟩
  iapply wp_done c
  iapply Hk
  isplitl [HO]; · iexact HO
  isplitl [HT2]; · iexact HT2
  isplitl [HL2]; · iexact HL2
  iexact HG2

theorem part29 (v418 : BitVec 32) (v1055 : BitVec 32) (v1056 : BitVec 32) (v1067 : BitVec 1) (v1068 : BitVec 32) (c : Dev nD) {Q : (Σ' (c8_i32_587 : BitVec 32) (v1097 : BitVec 32), BitVec 1) → sProp 𝕄} :
    iprop(pt cc0_scratch1 c (RB 3 (px 8 c)) fullShare (KB c) ∗ pt cc0_scratch5 c (LA (sB c)) fullShare (shf (bB 4 c) (KB (px 3 c)))) ⊢ iprop((∀ (w0 : BitVec 32) (w1 : BitVec 32) (w2 : BitVec 1), (pt cc0_scratch1 c (RB 3 (px 8 c)) fullShare (tB1 KB c) ∗ pt cc0_scratch5 c (LA (sB c)) fullShare (shf (bB 4 c) (KB (px 3 c)))) -∗ Q ⟨w0, w1, w2⟩) -∗ WP c (k0_part29 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v418 v1055 v1056 v1067 v1068) Q) := by
  rw [k0_part29_eq_skeleton]; unfold k0_part29_skel
  simp only [semSignalWord, semWaitWord, Prog.lift, Prog.bind_op, Prog.bind_ret, Prog.pure_eq_ret, wp_deviceId]
  iintro ⟨HP5, HL2⟩ Hk
  iapply (la_1_128 c (of12 c)) $$ HP5
  iintro HP5
  iapply (ll_5 c (of13 c) (sBe c)) $$ HL2
  iintro HL2
  iapply (la_1_128 c (of12 c)) $$ HP5
  iintro HP5
  iapply (st_1_128 c (tB1 KB c) (of12 c) (shapeCast_self _ _)) $$ HP5
  iintro HP5
  iapply wp_done c
  iapply Hk
  isplitl [HP5]; · iexact HP5
  iexact HL2

theorem part30 (v194 : BitVec 32) (v418 : BitVec 32) (v448 : BitVec 32) (c8_i32_587 : BitVec 32) (v1097 : BitVec 32) (v1108 : BitVec 1) (c : Dev nD) {Q : (BitVec 32) → sProp 𝕄} :
    iprop(env KA KB K ∗ owing F 21 c ∗ pt cc0_scratch1 c (RB 3 (px 8 c)) fullShare (tB1 KB c) ∗ own (F := F) cc0_scratch6 (px 8 c) (Finset.univ) ∗ pre F 5 c ∗ mid F 1 c) ⊢ iprop((∀ (w0 : BitVec 32), (owing F 20 c ∗ mid F 5 c ∗ snt F 1 c) -∗ Q w0) -∗ WP c (k0_part30 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v194 v418 v448 c8_i32_587 v1097 v1108) Q) := by
  rw [k0_part30_eq_skeleton]; unfold k0_part30_skel
  simp only [semSignalWord, semWaitWord, Prog.lift, Prog.bind_op, Prog.bind_ret, Prog.pure_eq_ret, wp_deviceId]
  iintro ⟨#He, HO, HP5, HD5, HT5, HT1⟩ Hk
  iapply (send_5 KA KB K c _ (dv13 c) (of14 c)) $$ [HO HP5 HD5 HT5]
  · isplitl []; · iexact He
    isplitl [HO]; · iexact HO
    isplitl [HP5]; · iexact HP5
    isplitl [HD5]; · iexact HD5
    iexact HT5
  iintro ⟨HO, HT5⟩
  iapply (wS_1 KA KB K c 20) $$ [HO HT1]
  · isplitl []; · iexact He
    isplitl [HO]; · iexact HO
    iexact HT1
  iintro ⟨HO, HT1⟩
  iapply wp_done c
  iapply Hk
  isplitl [HO]; · iexact HO
  isplitl [HT5]; · iexact HT5
  iexact HT1

theorem part31 (v178 : BitVec 32) (v1140 : BitVec 32) (c : Dev nD) {Q : (Σ' (v1163 : BitVec 32) (v1180 : BitVec 32), BitVec 32) → sProp 𝕄} :
    iprop(env KA KB K ∗ owing F 20 c ∗ snt F 1 c) ⊢ iprop((∀ (w0 : BitVec 32) (w1 : BitVec 32) (w2 : BitVec 32), (owing F 20 c ∗ fin F 1 c ∗ pt cc0_scratch2 c (LA (kA c)) fullShare (shf (bA 4 c) (KA (px 1 c))) ∗ own (F := F) cc0_scratch0 (px 1 c) (RA 3 c)) -∗ Q ⟨w0, w1, w2⟩) -∗ WP c (k0_part31 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v178 v1140) Q) := by
  rw [k0_part31_eq_skeleton]; unfold k0_part31_skel
  simp only [semSignalWord, semWaitWord, Prog.lift, Prog.bind_op, Prog.bind_ret, Prog.pure_eq_ret, wp_deviceId]
  iintro ⟨#He, HO, HT1⟩ Hk
  iapply (wR_1 KA KB K c 20 (by decide)) $$ [HO HT1]
  · isplitl []; · iexact He
    isplitl [HO]; · iexact HO
    iexact HT1
  iintro ⟨HO, HT1, HL1, HG1⟩
  iapply wp_done c
  iapply Hk
  isplitl [HO]; · iexact HO
  isplitl [HT1]; · iexact HT1
  isplitl [HL1]; · iexact HL1
  iexact HG1

theorem part32 (v433 : BitVec 32) (v1163 : BitVec 32) (v1180 : BitVec 32) (c1_i32_636 : BitVec 32) (c : Dev nD) {Q : (PUnit) → sProp 𝕄} :
    iprop(env KA KB K ∗ pt cc0_scratch0 c (RA 3 c) fullShare (KA c) ∗ pt cc0_scratch2 c (LA (kA c)) fullShare (shf (bA 4 c) (KA (px 1 c))) ∗ owing F 20 c ∗ mid F 3 c) ⊢ iprop(((pt cc0_scratch0 c (RA 3 c) fullShare (tA1 KA c) ∗ pt cc0_scratch2 c (LA (kA c)) fullShare (shf (bA 4 c) (KA (px 1 c))) ∗ owing F 20 c ∗ snt F 3 c) -∗ Q ⟨⟩) -∗ WP c (k0_part32 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v433 v1163 v1180 c1_i32_636) Q) := by
  rw [k0_part32_eq_skeleton]; unfold k0_part32_skel
  simp only [semSignalWord, semWaitWord, Prog.lift, Prog.bind_op, Prog.bind_ret, Prog.pure_eq_ret, wp_deviceId]
  iintro ⟨#He, HA3b, HL1, HO, HT3⟩ Hk
  iapply (la_0_128 c (of15 c)) $$ HA3b
  iintro HA3b
  iapply (ll_2 c (of16 c) (kAe c)) $$ HL1
  iintro HL1
  iapply (la_0_128 c (of15 c)) $$ HA3b
  iintro HA3b
  iapply (st_0_128 c (tA1 KA c) (of15 c) (shapeCast_self _ _)) $$ HA3b
  iintro HA3b
  iapply (wS_3 KA KB K c 20) $$ [HO HT3]
  · isplitl []; · iexact He
    isplitl [HO]; · iexact HO
    iexact HT3
  iintro ⟨HO, HT3⟩
  iapply wp_done c
  iapply Hk
  isplitl [HA3b]; · iexact HA3b
  isplitl [HL1]; · iexact HL1
  isplitl [HO]; · iexact HO
  iexact HT3

theorem part33 (v418 : BitVec 32) (c : Dev nD) {Q : (Σ' (v1235 : BitVec 32) (v1252 : BitVec 32) (v1253 : BitVec 32) (c2_i32_677 : BitVec 32) (v1254 : BitVec 1), BitVec 32) → sProp 𝕄} :
    iprop(env KA KB K ∗ owing F 20 c ∗ snt F 3 c) ⊢ iprop((∀ (w0 : BitVec 32) (w1 : BitVec 32) (w2 : BitVec 32) (w3 : BitVec 32) (w4 : BitVec 1) (w5 : BitVec 32), (owing F 20 c ∗ fin F 3 c ∗ pt cc0_scratch5 c (LA (kB c)) fullShare (shf (bB 4 c) (KB (px 3 c))) ∗ own (F := F) cc0_scratch1 (px 3 c) (RB 3 c)) -∗ Q ⟨w0, w1, w2, w3, w4, w5⟩) -∗ WP c (k0_part33 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v418) Q) := by
  rw [k0_part33_eq_skeleton]; unfold k0_part33_skel
  simp only [semSignalWord, semWaitWord, Prog.lift, Prog.bind_op, Prog.bind_ret, Prog.pure_eq_ret, wp_deviceId]
  iintro ⟨#He, HO, HT3⟩ Hk
  iapply (wR_3 KA KB K c 20 (by decide)) $$ [HO HT3]
  · isplitl []; · iexact He
    isplitl [HO]; · iexact HO
    iexact HT3
  iintro ⟨HO, HT3, HL3, HG3⟩
  iapply wp_done c
  iapply Hk
  isplitl [HO]; · iexact HO
  isplitl [HT3]; · iexact HT3
  isplitl [HL3]; · iexact HL3
  iexact HG3

theorem part34 (v209 : BitVec 32) (v1235 : BitVec 32) (v1252 : BitVec 32) (v1253 : BitVec 32) (c2_i32_677 : BitVec 32) (v1254 : BitVec 1) (c1_i32_679 : BitVec 32) (c : Dev nD) {Q : (PUnit) → sProp 𝕄} :
    iprop(env KA KB K ∗ pt cc0_scratch1 c (RB 3 c) fullShare (KB c) ∗ pt cc0_scratch5 c (LA (kB c)) fullShare (shf (bB 4 c) (KB (px 3 c))) ∗ owing F 20 c ∗ mid F 4 c) ⊢ iprop(((pt cc0_scratch1 c (RB 3 c) fullShare (tB1 KB c) ∗ pt cc0_scratch5 c (LA (kB c)) fullShare (shf (bB 4 c) (KB (px 3 c))) ∗ owing F 20 c ∗ snt F 4 c) -∗ Q ⟨⟩) -∗ WP c (k0_part34 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v209 v1235 v1252 v1253 c2_i32_677 v1254 c1_i32_679) Q) := by
  rw [k0_part34_eq_skeleton]; unfold k0_part34_skel
  simp only [semSignalWord, semWaitWord, Prog.lift, Prog.bind_op, Prog.bind_ret, Prog.pure_eq_ret, wp_deviceId]
  iintro ⟨#He, HB3b, HL3, HO, HT4⟩ Hk
  iapply (la_1_128 c (of17 c)) $$ HB3b
  iintro HB3b
  iapply (ll_5 c (of18 c) (kBe c)) $$ HL3
  iintro HL3
  iapply (la_1_128 c (of17 c)) $$ HB3b
  iintro HB3b
  iapply (st_1_128 c (tB1 KB c) (of17 c) (shapeCast_self _ _)) $$ HB3b
  iintro HB3b
  iapply (wS_4 KA KB K c 20) $$ [HO HT4]
  · isplitl []; · iexact He
    isplitl [HO]; · iexact HO
    iexact HT4
  iintro ⟨HO, HT4⟩
  iapply wp_done c
  iapply Hk
  isplitl [HB3b]; · iexact HB3b
  isplitl [HL3]; · iexact HL3
  isplitl [HO]; · iexact HO
  iexact HT4

theorem part35 (v178 : BitVec 32) (c : Dev nD) {Q : (Σ' (v1316 : BitVec 32) (v1327 : BitVec 1), BitVec 1) → sProp 𝕄} :
    iprop(env KA KB K ∗ owing F 20 c ∗ snt F 4 c ∗ pt cc0_scratch0 c (RA 3 c) fullShare (tA1 KA c)) ⊢ iprop((∀ (w0 : BitVec 32) (w1 : BitVec 1) (w2 : BitVec 1), (owing F 20 c ∗ fin F 4 c ∗ pt cc0_scratch3 c (Finset.univ) fullShare (shf (bA 3 c) (tA1 KA (px 3 c))) ∗ own (F := F) cc0_scratch0 (px 3 c) (RA 3 c) ∗ pt cc0_scratch0 c (RA 3 c) fullShare (tA2 KA c)) -∗ Q ⟨w0, w1, w2⟩) -∗ WP c (k0_part35 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v178) Q) := by
  rw [k0_part35_eq_skeleton]; unfold k0_part35_skel
  simp only [semSignalWord, semWaitWord, Prog.lift, Prog.bind_op, Prog.bind_ret, Prog.pure_eq_ret, wp_deviceId]
  iintro ⟨#He, HO, HT4, HA3b⟩ Hk
  iapply (wR_4 KA KB K c 20 (by decide)) $$ [HO HT4]
  · isplitl []; · iexact He
    isplitl [HO]; · iexact HO
    iexact HT4
  iintro ⟨HO, HT4, HL4, HG4⟩
  iapply (la_0_128 c (of19 c)) $$ HA3b
  iintro HA3b
  iapply (read_whole c hz2) $$ HL4
  iintro HL4
  iapply (la_0_128 c (of19 c)) $$ HA3b
  iintro HA3b
  iapply (st_0_128 c (tA2 KA c) (of19 c) (shapeCast_self _ _)) $$ HA3b
  iintro HA3b
  iapply wp_done c
  iapply Hk
  isplitl [HO]; · iexact HO
  isplitl [HT4]; · iexact HT4
  isplitl [HL4]; · iexact HL4
  isplitl [HG4]; · iexact HG4
  iexact HA3b

end Cert.KernelIdealProof
-- ==== Proof.KernelIdealPartsB.lean ====
/-
What the parts of the program do, from the second sums on to the gathers.
-/
module

public import proofs.«01_k».proof.Proof.KernelIdealPartsA

public import Idealize.ShloMosaic.Lib.Pipeline.Value

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (KA KB : Dev nD → Mat F) (K : Dev nD × Fin 53 → ℕ)

variable {h0 : (Memref.whole cc0_stg0_0).IsWhole} {h1 : (Memref.whole cc0_stg1_0).IsWhole} {h2 : (Memref.whole cc0_stg2_0).IsWhole} {h3 : (Memref.whole cc0_stg3_0).IsWhole} {h4 : (Memref.whole cc0_stg4_0).IsWhole} {h5 : (Memref.whole cc0_stg5_0).IsWhole} {h6 : (Memref.whole cc0_stg6_0).IsWhole} {h7 : (Memref.whole cc0_stg7_0).IsWhole} {h8 : (Memref.whole cc0_stg8_0).IsWhole}
  {h9 : (Memref.whole cc0_scratch0).IsWhole} {h10 : (Memref.whole cc0_scratch1).IsWhole} {h11 : (Memref.whole cc0_scratch2).IsWhole} {h12 : (Memref.whole cc0_scratch3).IsWhole} {h13 : (Memref.whole cc0_scratch4).IsWhole} {h14 : (Memref.whole cc0_scratch5).IsWhole} {h15 : (Memref.whole cc0_scratch6).IsWhole} {h16 : (Memref.whole cc0_scratch7).IsWhole} {h17 : (Memref.whole cc0_scratch8).IsWhole} {h18 : (Memref.whole cc0_scratch9).IsWhole} {h19 : (Memref.whole cc0_scratch10).IsWhole} {h20 : (Memref.whole cc0_scratch11).IsWhole} {h21 : (Memref.whole cc0_scratch12).IsWhole} {h22 : (Memref.whole cc0_scratch13).IsWhole} {h23 : (Memref.whole cc0_scratch14).IsWhole} {h24 : (Memref.whole cc0_scratch15).IsWhole} {h25 : (Memref.whole cc0_scratch16).IsWhole} {h26 : (Memref.whole cc0_scratch17).IsWhole}

theorem part36 (v224 : BitVec 32) (v448 : BitVec 32) (v1316 : BitVec 32) (v1327 : BitVec 1) (v1329 : BitVec 1) (c : Dev nD) {Q : (PUnit) → sProp 𝕄} :
    iprop(env KA KB K ∗ owing F 20 c ∗ pt cc0_scratch0 c (RA 2 (px 4 c)) fullShare (tA2 KA c) ∗ own (F := F) cc0_scratch4 (px 4 c) (Finset.univ) ∗ pre F 6 c ∗ mid F 5 c) ⊢ iprop(((owing F 19 c ∗ mid F 6 c ∗ snt F 5 c) -∗ Q ⟨⟩) -∗ WP c (k0_part36 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v224 v448 v1316 v1327 v1329) Q) := by
  rw [k0_part36_eq_skeleton]; unfold k0_part36_skel
  simp only [semSignalWord, semWaitWord, Prog.lift, Prog.bind_op, Prog.bind_ret, Prog.pure_eq_ret, wp_deviceId]
  iintro ⟨#He, HO, HP6, HD6, HT6, HT5⟩ Hk
  iapply (send_6 KA KB K c _ (dv14 c) (of20 c)) $$ [HO HP6 HD6 HT6]
  · isplitl []; · iexact He
    isplitl [HO]; · iexact HO
    isplitl [HP6]; · iexact HP6
    isplitl [HD6]; · iexact HD6
    iexact HT6
  iintro ⟨HO, HT6⟩
  iapply (wS_5 KA KB K c 19) $$ [HO HT5]
  · isplitl []; · iexact He
    isplitl [HO]; · iexact HO
    iexact HT5
  iintro ⟨HO, HT5⟩
  iapply wp_done c
  iapply Hk
  isplitl [HO]; · iexact HO
  isplitl [HT6]; · iexact HT6
  iexact HT5

theorem part37 (v418 : BitVec 32) (c : Dev nD) {Q : (Σ' (c4_i32_762 : BitVec 32) (v1391 : BitVec 32) (v1396 : BitVec 32) (v1398 : BitVec 32), BitVec 32) → sProp 𝕄} :
    iprop(env KA KB K ∗ owing F 19 c ∗ snt F 5 c ∗ pt cc0_scratch1 c (RB 3 c) fullShare (tB1 KB c)) ⊢ iprop((∀ (w0 : BitVec 32) (w1 : BitVec 32) (w2 : BitVec 32) (w3 : BitVec 32) (w4 : BitVec 32), (owing F 19 c ∗ fin F 5 c ∗ pt cc0_scratch6 c (Finset.univ) fullShare (shf (bB 3 c) (tB1 KB (px 8 c))) ∗ own (F := F) cc0_scratch1 (px 8 c) (RB 3 c) ∗ pt cc0_scratch1 c (RB 3 c) fullShare (tB2 KB c)) -∗ Q ⟨w0, w1, w2, w3, w4⟩) -∗ WP c (k0_part37 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v418) Q) := by
  rw [k0_part37_eq_skeleton]; unfold k0_part37_skel
  simp only [semSignalWord, semWaitWord, Prog.lift, Prog.bind_op, Prog.bind_ret, Prog.pure_eq_ret, wp_deviceId]
  iintro ⟨#He, HO, HT5, HB3b⟩ Hk
  iapply (wR_5 KA KB K c 19 (by decide)) $$ [HO HT5]
  · isplitl []; · iexact He
    isplitl [HO]; · iexact HO
    iexact HT5
  iintro ⟨HO, HT5, HL5, HG5⟩
  iapply (la_1_128 c (of21 c)) $$ HB3b
  iintro HB3b
  iapply (read_whole c hz2) $$ HL5
  iintro HL5
  iapply (la_1_128 c (of21 c)) $$ HB3b
  iintro HB3b
  iapply (st_1_128 c (tB2 KB c) (of21 c) (shapeCast_self _ _)) $$ HB3b
  iintro HB3b
  iapply wp_done c
  iapply Hk
  isplitl [HO]; · iexact HO
  isplitl [HT5]; · iexact HT5
  isplitl [HL5]; · iexact HL5
  isplitl [HG5]; · iexact HG5
  iexact HB3b

theorem part38 (v418 : BitVec 32) (v463 : BitVec 32) (c4_i32_762 : BitVec 32) (v1391 : BitVec 32) (v1396 : BitVec 32) (v1398 : BitVec 32) (c0_i32_766 : BitVec 32) (c : Dev nD) {Q : (PUnit) → sProp 𝕄} :
    iprop(env KA KB K ∗ owing F 19 c ∗ pt cc0_scratch1 c (RB 2 (px 16 c)) fullShare (tB2 KB c) ∗ own (F := F) cc0_scratch7 (px 16 c) (Finset.univ) ∗ pre F 7 c) ⊢ iprop(((owing F 18 c ∗ mid F 7 c) -∗ Q ⟨⟩) -∗ WP c (k0_part38 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v418 v463 c4_i32_762 v1391 v1396 v1398 c0_i32_766) Q) := by
  rw [k0_part38_eq_skeleton]; unfold k0_part38_skel
  simp only [semSignalWord, semWaitWord, Prog.lift, Prog.bind_op, Prog.bind_ret, Prog.pure_eq_ret, wp_deviceId]
  iintro ⟨#He, HO, HP7, HD7, HT7⟩ Hk
  iapply (send_7 KA KB K c _ (dv15 c) (of22 c)) $$ [HO HP7 HD7 HT7]
  · isplitl []; · iexact He
    isplitl [HO]; · iexact HO
    isplitl [HP7]; · iexact HP7
    isplitl [HD7]; · iexact HD7
    iexact HT7
  iintro ⟨HO, HT7⟩
  iapply wp_done c
  iapply Hk
  isplitl [HO]; · iexact HO
  iexact HT7

theorem part39 (v178 : BitVec 32) (v224 : BitVec 32) (c : Dev nD) {Q : (PUnit) → sProp 𝕄} :
    iprop(env KA KB K ∗ owing F 18 c ∗ mid F 6 c ∗ pt cc0_scratch0 c (RA 2 c) fullShare (tA2 KA c)) ⊢ iprop(((owing F 18 c ∗ fin F 6 c ∗ pt cc0_scratch4 c (Finset.univ) fullShare (shf (bA 2 c) (tA2 KA (px 4 c))) ∗ own (F := F) cc0_scratch0 (px 4 c) (RA 2 c) ∗ pt cc0_scratch0 c (RA 2 c) fullShare (tA3 KA c)) -∗ Q ⟨⟩) -∗ WP c (k0_part39 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v178 v224) Q) := by
  rw [k0_part39_eq_skeleton]; unfold k0_part39_skel
  simp only [semSignalWord, semWaitWord, Prog.lift, Prog.bind_op, Prog.bind_ret, Prog.pure_eq_ret, wp_deviceId]
  iintro ⟨#He, HO, HT6, HA2b⟩ Hk
  iapply (wS_6 KA KB K c 18) $$ [HO HT6]
  · isplitl []; · iexact He
    isplitl [HO]; · iexact HO
    iexact HT6
  iintro ⟨HO, HT6⟩
  iapply (wR_6 KA KB K c 18 (by decide)) $$ [HO HT6]
  · isplitl []; · iexact He
    isplitl [HO]; · iexact HO
    iexact HT6
  iintro ⟨HO, HT6, HL6, HG6⟩
  iapply (la_0_64 c (of23 c)) $$ HA2b
  iintro HA2b
  iapply (read_whole c hz2) $$ HL6
  iintro HL6
  iapply (la_0_64 c (of23 c)) $$ HA2b
  iintro HA2b
  iapply (st_0_64 c (tA3 KA c) (of23 c) (shapeCast_self _ _)) $$ HA2b
  iintro HA2b
  iapply wp_done c
  iapply Hk
  isplitl [HO]; · iexact HO
  isplitl [HT6]; · iexact HT6
  isplitl [HL6]; · iexact HL6
  isplitl [HG6]; · iexact HG6
  iexact HA2b

theorem part40 (v178 : BitVec 32) (v418 : BitVec 32) (v463 : BitVec 32) (c : Dev nD) {Q : (Σ' (c4_i32_834 : BitVec 32), BitVec 32) → sProp 𝕄} :
    iprop(env KA KB K ∗ owing F 18 c ∗ mid F 7 c ∗ pt cc0_scratch1 c (RB 2 c) fullShare (tB2 KB c)) ⊢ iprop((∀ (w0 : BitVec 32) (w1 : BitVec 32), (owing F 18 c ∗ fin F 7 c ∗ pt cc0_scratch7 c (Finset.univ) fullShare (shf (bB 2 c) (tB2 KB (px 16 c))) ∗ own (F := F) cc0_scratch1 (px 16 c) (RB 2 c) ∗ pt cc0_scratch1 c (RB 2 c) fullShare (tB3 KB c)) -∗ Q ⟨w0, w1⟩) -∗ WP c (k0_part40 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v178 v418 v463) Q) := by
  rw [k0_part40_eq_skeleton]; unfold k0_part40_skel
  simp only [semSignalWord, semWaitWord, Prog.lift, Prog.bind_op, Prog.bind_ret, Prog.pure_eq_ret, wp_deviceId]
  iintro ⟨#He, HO, HT7, HB2b⟩ Hk
  iapply (wS_7 KA KB K c 18) $$ [HO HT7]
  · isplitl []; · iexact He
    isplitl [HO]; · iexact HO
    iexact HT7
  iintro ⟨HO, HT7⟩
  iapply (wR_7 KA KB K c 18 (by decide)) $$ [HO HT7]
  · isplitl []; · iexact He
    isplitl [HO]; · iexact HO
    iexact HT7
  iintro ⟨HO, HT7, HL7, HG7⟩
  iapply (la_1_64 c (of24 c)) $$ HB2b
  iintro HB2b
  iapply (read_whole c hz2) $$ HL7
  iintro HL7
  iapply (la_1_64 c (of24 c)) $$ HB2b
  iintro HB2b
  iapply (st_1_64 c (tB3 KB c) (of24 c) (shapeCast_self _ _)) $$ HB2b
  iintro HB2b
  iapply wp_done c
  iapply Hk
  isplitl [HO]; · iexact HO
  isplitl [HT7]; · iexact HT7
  isplitl [HL7]; · iexact HL7
  isplitl [HG7]; · iexact HG7
  iexact HB2b

theorem part41 (v178 : BitVec 32) (v268 : BitVec 32) (v312 : BitVec 32) (v356 : BitVec 32) (v418 : BitVec 32) (c4_i32_834 : BitVec 32) (v1502 : BitVec 32) (c : Dev nD) {Q : (Σ' (v1528 : BitVec 32) (v1542 : BitVec 1), BitVec 32) → sProp 𝕄} :
    iprop(∀ (w0 : BitVec 32) (w1 : BitVec 1) (w2 : BitVec 32), Q ⟨w0, w1, w2⟩) ⊢ iprop(WP c (k0_part41 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 v178 v268 v312 v356 v418 c4_i32_834 v1502) Q) := by
  rw [k0_part41_eq_skeleton]; unfold k0_part41_skel
  simp only [semSignalWord, semWaitWord, Prog.lift, Prog.bind_op, Prog.bind_ret, Prog.pure_eq_ret, wp_deviceId]
  iintro Hk
  iapply wp_done c
  iapply Hk

theorem part42 (v239 : BitVec 32) (v283 : BitVec 32) (v327 : BitVec 32) (v499 : BitVec 32) (v533 : BitVec 32) (v569 : BitVec 32) (v1528 : BitVec 32) (v1542 : BitVec 1) (v1543 : BitVec 32) (c : Dev nD) {Q : (PUnit) → sProp 𝕄} :
    iprop(env KA KB K ∗ owing F 18 c ∗ pt cc0_scratch0 c (RA 0 (px 8 c)) fullShare (tA3 KA c) ∗ own (F := F) cc0_scratch8 (px 8 c) (Finset.univ) ∗ pre F 8 c ∗ pt cc0_scratch0 c (RA 0 (px 16 c)) fullShare (tA3 KA c) ∗ own (F := F) cc0_scratch9 (px 16 c) (Finset.univ) ∗ pre F 9 c) ⊢ iprop(((owing F 16 c ∗ mid F 8 c ∗ mid F 9 c) -∗ Q ⟨⟩) -∗ WP c (k0_part42 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v239 v283 v327 v499 v533 v569 v1528 v1542 v1543) Q) := by
  rw [k0_part42_eq_skeleton]; unfold k0_part42_skel
  simp only [semSignalWord, semWaitWord, Prog.lift, Prog.bind_op, Prog.bind_ret, Prog.pure_eq_ret, wp_deviceId]
  iintro ⟨#He, HO, HP8, HD8, HT8, HP9, HD9, HT9⟩ Hk
  iapply (send_8 KA KB K c _ (dv16 c) (of25 c)) $$ [HO HP8 HD8 HT8]
  · isplitl []; · iexact He
    isplitl [HO]; · iexact HO
    isplitl [HP8]; · iexact HP8
    isplitl [HD8]; · iexact HD8
    iexact HT8
  iintro ⟨HO, HT8⟩
  iapply (send_9 KA KB K c _ (dv17 c) (of26 c)) $$ [HO HP9 HD9 HT9]
  · isplitl []; · iexact He
    isplitl [HO]; · iexact HO
    isplitl [HP9]; · iexact HP9
    isplitl [HD9]; · iexact HD9
    iexact HT9
  iintro ⟨HO, HT9⟩
  iapply wp_done c
  iapply Hk
  isplitl [HO]; · iexact HO
  isplitl [HT8]; · iexact HT8
  iexact HT9

theorem part43 (v479 : BitVec 32) (v514 : BitVec 32) (v549 : BitVec 32) (c : Dev nD) {Q : (PUnit) → sProp 𝕄} :
    iprop(env KA KB K ∗ owing F 16 c ∗ pt cc0_scratch0 c (RA 0 (px 24 c)) fullShare (tA3 KA c) ∗ own (F := F) cc0_scratch10 (px 24 c) (Finset.univ) ∗ pre F 10 c ∗ pt cc0_scratch1 c (RB 0 (px 1 c)) fullShare (tB3 KB c) ∗ own (F := F) cc0_scratch11 (px 1 c) (Finset.univ) ∗ pre F 11 c ∗ pt cc0_scratch1 c (RB 0 (px 4 c)) fullShare (tB3 KB c) ∗ own (F := F) cc0_scratch12 (px 4 c) (Finset.univ) ∗ pre F 12 c ∗ pt cc0_scratch1 c (RB 0 (px 5 c)) fullShare (tB3 KB c) ∗ own (F := F) cc0_scratch13 (px 5 c) (Finset.univ) ∗ pre F 13 c) ⊢ iprop(((owing F 12 c ∗ mid F 10 c ∗ mid F 11 c ∗ mid F 12 c ∗ mid F 13 c) -∗ Q ⟨⟩) -∗ WP c (k0_part43 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v479 v514 v549) Q) := by
  rw [k0_part43_eq_skeleton]; unfold k0_part43_skel
  simp only [semSignalWord, semWaitWord, Prog.lift, Prog.bind_op, Prog.bind_ret, Prog.pure_eq_ret, wp_deviceId]
  iintro ⟨#He, HO, HP10, HD10, HT10, HP11, HD11, HT11, HP12, HD12, HT12, HP13, HD13, HT13⟩ Hk
  iapply (send_10 KA KB K c _ (dv18 c) (of27 c)) $$ [HO HP10 HD10 HT10]
  · isplitl []; · iexact He
    isplitl [HO]; · iexact HO
    isplitl [HP10]; · iexact HP10
    isplitl [HD10]; · iexact HD10
    iexact HT10
  iintro ⟨HO, HT10⟩
  iapply (send_11 KA KB K c _ (dv19 c) (of28 c)) $$ [HO HP11 HD11 HT11]
  · isplitl []; · iexact He
    isplitl [HO]; · iexact HO
    isplitl [HP11]; · iexact HP11
    isplitl [HD11]; · iexact HD11
    iexact HT11
  iintro ⟨HO, HT11⟩
  iapply (send_12 KA KB K c _ (dv20 c) (of29 c)) $$ [HO HP12 HD12 HT12]
  · isplitl []; · iexact He
    isplitl [HO]; · iexact HO
    isplitl [HP12]; · iexact HP12
    isplitl [HD12]; · iexact HD12
    iexact HT12
  iintro ⟨HO, HT12⟩
  iapply (send_13 KA KB K c _ (dv21 c) (of30 c)) $$ [HO HP13 HD13 HT13]
  · isplitl []; · iexact He
    isplitl [HO]; · iexact HO
    isplitl [HP13]; · iexact HP13
    isplitl [HD13]; · iexact HD13
    iexact HT13
  iintro ⟨HO, HT13⟩
  iapply wp_done c
  iapply Hk
  isplitl [HO]; · iexact HO
  isplitl [HT10]; · iexact HT10
  isplitl [HT11]; · iexact HT11
  isplitl [HT12]; · iexact HT12
  iexact HT13

theorem part44 (v239 : BitVec 32) (v283 : BitVec 32) (v327 : BitVec 32) (c : Dev nD) {Q : (PUnit) → sProp 𝕄} :
    iprop(env KA KB K ∗ owing F 12 c ∗ mid F 8 c ∗ mid F 9 c ∗ mid F 10 c) ⊢ iprop(((owing F 12 c ∗ fin F 8 c ∗ pt cc0_scratch8 c (Finset.univ) fullShare (shf (bA 0 c) (tA3 KA (px 8 c))) ∗ own (F := F) cc0_scratch0 (px 8 c) (RA 0 c) ∗ fin F 9 c ∗ pt cc0_scratch9 c (Finset.univ) fullShare (shf (bA 0 c) (tA3 KA (px 16 c))) ∗ own (F := F) cc0_scratch0 (px 16 c) (RA 0 c) ∗ snt F 10 c) -∗ Q ⟨⟩) -∗ WP c (k0_part44 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v239 v283 v327) Q) := by
  rw [k0_part44_eq_skeleton]; unfold k0_part44_skel
  simp only [semSignalWord, semWaitWord, Prog.lift, Prog.bind_op, Prog.bind_ret, Prog.pure_eq_ret, wp_deviceId]
  iintro ⟨#He, HO, HT8, HT9, HT10⟩ Hk
  iapply (wS_8 KA KB K c 12) $$ [HO HT8]
  · isplitl []; · iexact He
    isplitl [HO]; · iexact HO
    iexact HT8
  iintro ⟨HO, HT8⟩
  iapply (wR_8 KA KB K c 12 (by decide)) $$ [HO HT8]
  · isplitl []; · iexact He
    isplitl [HO]; · iexact HO
    iexact HT8
  iintro ⟨HO, HT8, HL8, HG8⟩
  iapply (wS_9 KA KB K c 12) $$ [HO HT9]
  · isplitl []; · iexact He
    isplitl [HO]; · iexact HO
    iexact HT9
  iintro ⟨HO, HT9⟩
  iapply (wR_9 KA KB K c 12 (by decide)) $$ [HO HT9]
  · isplitl []; · iexact He
    isplitl [HO]; · iexact HO
    iexact HT9
  iintro ⟨HO, HT9, HL9, HG9⟩
  iapply (wS_10 KA KB K c 12) $$ [HO HT10]
  · isplitl []; · iexact He
    isplitl [HO]; · iexact HO
    iexact HT10
  iintro ⟨HO, HT10⟩
  iapply wp_done c
  iapply Hk
  isplitl [HO]; · iexact HO
  isplitl [HT8]; · iexact HT8
  isplitl [HL8]; · iexact HL8
  isplitl [HG8]; · iexact HG8
  isplitl [HT9]; · iexact HT9
  isplitl [HL9]; · iexact HL9
  isplitl [HG9]; · iexact HG9
  iexact HT10

theorem part45 (v178 : BitVec 32) (v479 : BitVec 32) (c : Dev nD) {Q : (PUnit) → sProp 𝕄} :
    iprop(env KA KB K ∗ owing F 12 c ∗ snt F 10 c ∗ pt cc0_scratch0 c (RA 0 c) fullShare (tA3 KA c) ∗ pt cc0_scratch8 c (Finset.univ) fullShare (shf (bA 0 c) (tA3 KA (px 8 c))) ∗ pt cc0_scratch9 c (Finset.univ) fullShare (shf (bA 0 c) (tA3 KA (px 16 c))) ∗ mid F 11 c) ⊢ iprop(((owing F 12 c ∗ fin F 10 c ∗ pt cc0_scratch10 c (Finset.univ) fullShare (shf (bA 0 c) (tA3 KA (px 24 c))) ∗ own (F := F) cc0_scratch0 (px 24 c) (RA 0 c) ∗ pt cc0_scratch0 c (RA 0 c) fullShare (tA4 KA c) ∗ pt cc0_scratch8 c (Finset.univ) fullShare (shf (bA 0 c) (tA3 KA (px 8 c))) ∗ pt cc0_scratch9 c (Finset.univ) fullShare (shf (bA 0 c) (tA3 KA (px 16 c))) ∗ fin F 11 c ∗ pt cc0_scratch11 c (Finset.univ) fullShare (shf (bB 0 c) (tB3 KB (px 1 c))) ∗ own (F := F) cc0_scratch1 (px 1 c) (RB 0 c)) -∗ Q ⟨⟩) -∗ WP c (k0_part45 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v178 v479) Q) := by
  rw [k0_part45_eq_skeleton]; unfold k0_part45_skel
  simp only [semSignalWord, semWaitWord, Prog.lift, Prog.bind_op, Prog.bind_ret, Prog.pure_eq_ret, wp_deviceId]
  iintro ⟨#He, HO, HT10, HA0, HL8, HL9, HT11⟩ Hk
  iapply (wR_10 KA KB K c 12 (by decide)) $$ [HO HT10]
  · isplitl []; · iexact He
    isplitl [HO]; · iexact HO
    iexact HT10
  iintro ⟨HO, HT10, HL10, HG10⟩
  iapply (la_0_16 c (of31 c)) $$ HA0
  iintro HA0
  iapply (read_whole c hz2) $$ HL8
  iintro HL8
  iapply (read_whole c hz2) $$ HL9
  iintro HL9
  iapply (read_whole c hz2) $$ HL10
  iintro HL10
  iapply (la_0_16 c (of31 c)) $$ HA0
  iintro HA0
  iapply (st_0_16 c (tA4 KA c) (of31 c) (shapeCast_self _ _)) $$ HA0
  iintro HA0
  iapply (wS_11 KA KB K c 12) $$ [HO HT11]
  · isplitl []; · iexact He
    isplitl [HO]; · iexact HO
    iexact HT11
  iintro ⟨HO, HT11⟩
  iapply (wR_11 KA KB K c 12 (by decide)) $$ [HO HT11]
  · isplitl []; · iexact He
    isplitl [HO]; · iexact HO
    iexact HT11
  iintro ⟨HO, HT11, HL11, HG11⟩
  iapply wp_done c
  iapply Hk
  isplitl [HO]; · iexact HO
  isplitl [HT10]; · iexact HT10
  isplitl [HL10]; · iexact HL10
  isplitl [HG10]; · iexact HG10
  isplitl [HA0]; · iexact HA0
  isplitl [HL8]; · iexact HL8
  isplitl [HL9]; · iexact HL9
  isplitl [HT11]; · iexact HT11
  isplitl [HL11]; · iexact HL11
  iexact HG11

theorem part46 (v418 : BitVec 32) (v514 : BitVec 32) (v549 : BitVec 32) (c : Dev nD) {Q : (Σ' (v1675 : BitVec 32), FVec F S16x1024 .bf16) → sProp 𝕄} :
    iprop(env KA KB K ∗ owing F 12 c ∗ mid F 12 c ∗ mid F 13 c ∗ pt cc0_scratch1 c (RB 0 c) fullShare (tB3 KB c) ∗ pt cc0_scratch11 c (Finset.univ) fullShare (shf (bB 0 c) (tB3 KB (px 1 c)))) ⊢ iprop((∀ (w0 : BitVec 32), (owing F 12 c ∗ fin F 12 c ∗ pt cc0_scratch12 c (Finset.univ) fullShare (shf (bB 0 c) (tB3 KB (px 4 c))) ∗ own (F := F) cc0_scratch1 (px 4 c) (RB 0 c) ∗ fin F 13 c ∗ pt cc0_scratch13 c (Finset.univ) fullShare (shf (bB 0 c) (tB3 KB (px 5 c))) ∗ own (F := F) cc0_scratch1 (px 5 c) (RB 0 c) ∗ pt cc0_scratch1 c (RB 0 c) fullShare (tB3 KB c) ∗ pt cc0_scratch11 c (Finset.univ) fullShare (shf (bB 0 c) (tB3 KB (px 1 c)))) -∗ Q ⟨w0, (k0_pay18 (shf (bB 0 c) (tB3 KB c)) (shf (bB 0 c) (tB3 KB (px 1 c))) (shf (bB 0 c) (tB3 KB (px 4 c))))⟩) -∗ WP c (k0_part46 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v418 v514 v549) Q) := by
  rw [k0_part46_eq_skeleton]; unfold k0_part46_skel
  simp only [semSignalWord, semWaitWord, Prog.lift, Prog.bind_op, Prog.bind_ret, Prog.pure_eq_ret, wp_deviceId]
  iintro ⟨#He, HO, HT12, HT13, HB0, HL11⟩ Hk
  iapply (wS_12 KA KB K c 12) $$ [HO HT12]
  · isplitl []; · iexact He
    isplitl [HO]; · iexact HO
    iexact HT12
  iintro ⟨HO, HT12⟩
  iapply (wR_12 KA KB K c 12 (by decide)) $$ [HO HT12]
  · isplitl []; · iexact He
    isplitl [HO]; · iexact HO
    iexact HT12
  iintro ⟨HO, HT12, HL12, HG12⟩
  iapply (wS_13 KA KB K c 12) $$ [HO HT13]
  · isplitl []; · iexact He
    isplitl [HO]; · iexact HO
    iexact HT13
  iintro ⟨HO, HT13⟩
  iapply (wR_13 KA KB K c 12 (by decide)) $$ [HO HT13]
  · isplitl []; · iexact He
    isplitl [HO]; · iexact HO
    iexact HT13
  iintro ⟨HO, HT13, HL13, HG13⟩
  iapply (la_1_16 c (of32 c)) $$ HB0
  iintro HB0
  iapply (read_whole c hz2) $$ HL11
  iintro HL11
  iapply (read_whole c hz2) $$ HL12
  iintro HL12
  iapply wp_done c
  iapply Hk
  isplitl [HO]; · iexact HO
  isplitl [HT12]; · iexact HT12
  isplitl [HL12]; · iexact HL12
  isplitl [HG12]; · iexact HG12
  isplitl [HT13]; · iexact HT13
  isplitl [HL13]; · iexact HL13
  isplitl [HG13]; · iexact HG13
  isplitl [HB0]; · iexact HB0
  iexact HL11

theorem part47 (v178 : BitVec 32) (v239 : BitVec 32) (v283 : BitVec 32) (v327 : BitVec 32) (v418 : BitVec 32) (v1675 : BitVec 32) (c : Dev nD) {Q : (BitVec 32) → sProp 𝕄} :
    iprop(env KA KB K ∗ pt cc0_scratch13 c (Finset.univ) fullShare (shf (bB 0 c) (tB3 KB (px 5 c))) ∗ pt cc0_scratch1 c (RB 0 c) fullShare (tB3 KB c) ∗ owing F 12 c ∗ pt cc0_scratch0 c (RA 0 c) fullShare.left (gA KA) ∗ own (F := F) cc0_scratch0 (px 8 c) (RA 0 c) ∗ pre F 14 c ∗ pt cc0_scratch0 c (RA 0 c) fullShare.right.left (gA KA) ∗ own (F := F) cc0_scratch0 (px 16 c) (RA 0 c) ∗ pre F 15 c ∗ pt cc0_scratch0 c (RA 0 c) fullShare.right.right (gA KA) ∗ own (F := F) cc0_scratch0 (px 24 c) (RA 0 c) ∗ pre F 16 c) ⊢ iprop((∀ (w0 : BitVec 32), (pt cc0_scratch13 c (Finset.univ) fullShare (shf (bB 0 c) (tB3 KB (px 5 c))) ∗ pt cc0_scratch1 c (RB 0 c) fullShare (tB4 KB c) ∗ owing F 9 c ∗ mid F 14 c ∗ mid F 15 c ∗ mid F 16 c) -∗ Q w0) -∗ WP c (k0_part47 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v178 v239 v283 v327 v418 v1675 (k0_pay18 (shf (bB 0 c) (tB3 KB c)) (shf (bB 0 c) (tB3 KB (px 1 c))) (shf (bB 0 c) (tB3 KB (px 4 c))))) Q) := by
  rw [k0_part47_eq_skeleton]; unfold k0_part47_skel
  simp only [semSignalWord, semWaitWord, Prog.lift, Prog.bind_op, Prog.bind_ret, Prog.pure_eq_ret, wp_deviceId]
  iintro ⟨#He, HL13, HB0, HO, HP14, HD14, HT14, HP15, HD15, HT15, HP16, HD16, HT16⟩ Hk
  iapply (read_whole c hz2) $$ HL13
  iintro HL13
  iapply (la_1_16 c (of32 c)) $$ HB0
  iintro HB0
  iapply (st_1_16 c (tB4 KB c) (of32 c) (shapeCast_self _ _)) $$ HB0
  iintro HB0
  iapply (send_14 KA KB K c _ (dv22 c) (of33 c)) $$ [HO HP14 HD14 HT14]
  · isplitl []; · iexact He
    isplitl [HO]; · iexact HO
    isplitl [HP14]; · iexact HP14
    isplitl [HD14]; · iexact HD14
    iexact HT14
  iintro ⟨HO, HT14⟩
  iapply (send_15 KA KB K c _ (dv23 c) (of33 c)) $$ [HO HP15 HD15 HT15]
  · isplitl []; · iexact He
    isplitl [HO]; · iexact HO
    isplitl [HP15]; · iexact HP15
    isplitl [HD15]; · iexact HD15
    iexact HT15
  iintro ⟨HO, HT15⟩
  iapply (send_16 KA KB K c _ (dv24 c) (of33 c)) $$ [HO HP16 HD16 HT16]
  · isplitl []; · iexact He
    isplitl [HO]; · iexact HO
    isplitl [HP16]; · iexact HP16
    isplitl [HD16]; · iexact HD16
    iexact HT16
  iintro ⟨HO, HT16⟩
  iapply wp_done c
  iapply Hk
  isplitl [HL13]; · iexact HL13
  isplitl [HB0]; · iexact HB0
  isplitl [HO]; · iexact HO
  isplitl [HT14]; · iexact HT14
  isplitl [HT15]; · iexact HT15
  iexact HT16

theorem part48 (v239 : BitVec 32) (v479 : BitVec 32) (v514 : BitVec 32) (v549 : BitVec 32) (c1_i32_1020 : BitVec 32) (c : Dev nD) {Q : (PUnit) → sProp 𝕄} :
    iprop(env KA KB K ∗ owing F 9 c ∗ pt cc0_scratch1 c (RB 0 c) fullShare.left (gB KB) ∗ own (F := F) cc0_scratch1 (px 1 c) (RB 0 c) ∗ pre F 17 c ∗ pt cc0_scratch1 c (RB 0 c) fullShare.right.left (gB KB) ∗ own (F := F) cc0_scratch1 (px 4 c) (RB 0 c) ∗ pre F 18 c ∗ pt cc0_scratch1 c (RB 0 c) fullShare.right.right (gB KB) ∗ own (F := F) cc0_scratch1 (px 5 c) (RB 0 c) ∗ pre F 19 c ∗ mid F 14 c) ⊢ iprop(((owing F 6 c ∗ mid F 17 c ∗ mid F 18 c ∗ mid F 19 c ∗ snt F 14 c ∗ pt cc0_scratch0 c (RA 0 c) fullShare.left (gA KA)) -∗ Q ⟨⟩) -∗ WP c (k0_part48 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v239 v479 v514 v549 c1_i32_1020) Q) := by
  rw [k0_part48_eq_skeleton]; unfold k0_part48_skel
  simp only [semSignalWord, semWaitWord, Prog.lift, Prog.bind_op, Prog.bind_ret, Prog.pure_eq_ret, wp_deviceId]
  iintro ⟨#He, HO, HP17, HD17, HT17, HP18, HD18, HT18, HP19, HD19, HT19, HT14⟩ Hk
  iapply (send_17 KA KB K c _ (dv25 c) (of34 c)) $$ [HO HP17 HD17 HT17]
  · isplitl []; · iexact He
    isplitl [HO]; · iexact HO
    isplitl [HP17]; · iexact HP17
    isplitl [HD17]; · iexact HD17
    iexact HT17
  iintro ⟨HO, HT17⟩
  iapply (send_18 KA KB K c _ (dv26 c) (of34 c)) $$ [HO HP18 HD18 HT18]
  · isplitl []; · iexact He
    isplitl [HO]; · iexact HO
    isplitl [HP18]; · iexact HP18
    isplitl [HD18]; · iexact HD18
    iexact HT18
  iintro ⟨HO, HT18⟩
  iapply (send_19 KA KB K c _ (dv27 c) (of34 c)) $$ [HO HP19 HD19 HT19]
  · isplitl []; · iexact He
    isplitl [HO]; · iexact HO
    isplitl [HP19]; · iexact HP19
    isplitl [HD19]; · iexact HD19
    iexact HT19
  iintro ⟨HO, HT19⟩
  iapply (wS_14 KA KB K c 6) $$ [HO HT14]
  · isplitl []; · iexact He
    isplitl [HO]; · iexact HO
    iexact HT14
  iintro ⟨HO, HT14, HP14⟩
  iapply wp_done c
  iapply Hk
  isplitl [HO]; · iexact HO
  isplitl [HT17]; · iexact HT17
  isplitl [HT18]; · iexact HT18
  isplitl [HT19]; · iexact HT19
  isplitl [HT14]; · iexact HT14
  iexact HP14

theorem part49 (v283 : BitVec 32) (v327 : BitVec 32) (c : Dev nD) {Q : (PUnit) → sProp 𝕄} :
    iprop(env KA KB K ∗ owing F 6 c ∗ snt F 14 c ∗ mid F 15 c ∗ mid F 16 c) ⊢ iprop(((owing F 6 c ∗ fin F 14 c ∗ pt cc0_scratch0 c (RA 0 (px 8 c)) fullShare (gA KA) ∗ fin F 15 c ∗ pt cc0_scratch0 c (RA 0 c) fullShare.right.left (gA KA) ∗ pt cc0_scratch0 c (RA 0 (px 16 c)) fullShare (gA KA) ∗ fin F 16 c ∗ pt cc0_scratch0 c (RA 0 c) fullShare.right.right (gA KA) ∗ pt cc0_scratch0 c (RA 0 (px 24 c)) fullShare (gA KA)) -∗ Q ⟨⟩) -∗ WP c (k0_part49 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v283 v327) Q) := by
  rw [k0_part49_eq_skeleton]; unfold k0_part49_skel
  simp only [semSignalWord, semWaitWord, Prog.lift, Prog.bind_op, Prog.bind_ret, Prog.pure_eq_ret, wp_deviceId]
  iintro ⟨#He, HO, HT14, HT15, HT16⟩ Hk
  iapply (wR_14 KA KB K c 6 (by decide)) $$ [HO HT14]
  · isplitl []; · iexact He
    isplitl [HO]; · iexact HO
    iexact HT14
  iintro ⟨HO, HT14, HL14⟩
  iapply (wS_15 KA KB K c 6) $$ [HO HT15]
  · isplitl []; · iexact He
    isplitl [HO]; · iexact HO
    iexact HT15
  iintro ⟨HO, HT15, HP15⟩
  iapply (wR_15 KA KB K c 6 (by decide)) $$ [HO HT15]
  · isplitl []; · iexact He
    isplitl [HO]; · iexact HO
    iexact HT15
  iintro ⟨HO, HT15, HL15⟩
  iapply (wS_16 KA KB K c 6) $$ [HO HT16]
  · isplitl []; · iexact He
    isplitl [HO]; · iexact HO
    iexact HT16
  iintro ⟨HO, HT16, HP16⟩
  iapply (wR_16 KA KB K c 6 (by decide)) $$ [HO HT16]
  · isplitl []; · iexact He
    isplitl [HO]; · iexact HO
    iexact HT16
  iintro ⟨HO, HT16, HL16⟩
  iapply wp_done c
  iapply Hk
  isplitl [HO]; · iexact HO
  isplitl [HT14]; · iexact HT14
  isplitl [HL14]; · iexact HL14
  isplitl [HT15]; · iexact HT15
  isplitl [HP15]; · iexact HP15
  isplitl [HL15]; · iexact HL15
  isplitl [HT16]; · iexact HT16
  isplitl [HP16]; · iexact HP16
  iexact HL16

theorem part50 (v479 : BitVec 32) (v514 : BitVec 32) (v549 : BitVec 32) (c : Dev nD) {Q : (PUnit) → sProp 𝕄} :
    iprop(env KA KB K ∗ owing F 6 c ∗ mid F 17 c ∗ mid F 18 c ∗ mid F 19 c) ⊢ iprop(((owing F 6 c ∗ fin F 17 c ∗ pt cc0_scratch1 c (RB 0 c) fullShare.left (gB KB) ∗ pt cc0_scratch1 c (RB 0 (px 1 c)) fullShare (gB KB) ∗ fin F 18 c ∗ pt cc0_scratch1 c (RB 0 c) fullShare.right.left (gB KB) ∗ pt cc0_scratch1 c (RB 0 (px 4 c)) fullShare (gB KB) ∗ fin F 19 c ∗ pt cc0_scratch1 c (RB 0 c) fullShare.right.right (gB KB) ∗ pt cc0_scratch1 c (RB 0 (px 5 c)) fullShare (gB KB)) -∗ Q ⟨⟩) -∗ WP c (k0_part50 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v479 v514 v549) Q) := by
  rw [k0_part50_eq_skeleton]; unfold k0_part50_skel
  simp only [semSignalWord, semWaitWord, Prog.lift, Prog.bind_op, Prog.bind_ret, Prog.pure_eq_ret, wp_deviceId]
  iintro ⟨#He, HO, HT17, HT18, HT19⟩ Hk
  iapply (wS_17 KA KB K c 6) $$ [HO HT17]
  · isplitl []; · iexact He
    isplitl [HO]; · iexact HO
    iexact HT17
  iintro ⟨HO, HT17, HP17⟩
  iapply (wR_17 KA KB K c 6 (by decide)) $$ [HO HT17]
  · isplitl []; · iexact He
    isplitl [HO]; · iexact HO
    iexact HT17
  iintro ⟨HO, HT17, HL17⟩
  iapply (wS_18 KA KB K c 6) $$ [HO HT18]
  · isplitl []; · iexact He
    isplitl [HO]; · iexact HO
    iexact HT18
  iintro ⟨HO, HT18, HP18⟩
  iapply (wR_18 KA KB K c 6 (by decide)) $$ [HO HT18]
  · isplitl []; · iexact He
    isplitl [HO]; · iexact HO
    iexact HT18
  iintro ⟨HO, HT18, HL18⟩
  iapply (wS_19 KA KB K c 6) $$ [HO HT19]
  · isplitl []; · iexact He
    isplitl [HO]; · iexact HO
    iexact HT19
  iintro ⟨HO, HT19, HP19⟩
  iapply (wR_19 KA KB K c 6 (by decide)) $$ [HO HT19]
  · isplitl []; · iexact He
    isplitl [HO]; · iexact HO
    iexact HT19
  iintro ⟨HO, HT19, HL19⟩
  iapply wp_done c
  iapply Hk
  isplitl [HO]; · iexact HO
  isplitl [HT17]; · iexact HT17
  isplitl [HP17]; · iexact HP17
  isplitl [HL17]; · iexact HL17
  isplitl [HT18]; · iexact HT18
  isplitl [HP18]; · iexact HP18
  isplitl [HL18]; · iexact HL18
  isplitl [HT19]; · iexact HT19
  isplitl [HP19]; · iexact HP19
  iexact HL19

theorem part51 (v178 : BitVec 32) (v224 : BitVec 32) (v418 : BitVec 32) (c : Dev nD) {Q : (PUnit) → sProp 𝕄} :
    iprop(Q ⟨⟩) ⊢ iprop(WP c (k0_part51 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 v178 v224 v418) Q) := by
  rw [k0_part51_eq_skeleton]; unfold k0_part51_skel
  simp only [semSignalWord, semWaitWord, Prog.lift, Prog.bind_op, Prog.bind_ret, Prog.pure_eq_ret, wp_deviceId]
  iintro Hk
  iapply wp_done c
  iapply Hk

theorem part52 (v224 : BitVec 32) (v463 : BitVec 32) (c : Dev nD) {Q : (Σ' (v1864 : BitVec 32), BitVec 32) → sProp 𝕄} :
    iprop(env KA KB K ∗ owing F 6 c ∗ pt cc0_scratch0 c (RA 2 c) fullShare (gA KA) ∗ own (F := F) cc0_scratch0 (px 4 c) (RA 2 c) ∗ pre F 20 c ∗ pt cc0_scratch1 c (RB 2 c) fullShare (gB KB) ∗ own (F := F) cc0_scratch1 (px 16 c) (RB 2 c) ∗ pre F 21 c) ⊢ iprop((∀ (w0 : BitVec 32) (w1 : BitVec 32), (owing F 4 c ∗ fin F 20 c ∗ snt F 21 c ∗ pt cc0_scratch0 c (RA 2 c) fullShare (gA KA) ∗ pt cc0_scratch0 c (RA 2 (px 4 c)) fullShare (gA KA) ∗ pt cc0_scratch1 c (RB 2 c) fullShare (gB KB)) -∗ Q ⟨w0, w1⟩) -∗ WP c (k0_part52 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v224 v463) Q) := by
  rw [k0_part52_eq_skeleton]; unfold k0_part52_skel
  simp only [semSignalWord, semWaitWord, Prog.lift, Prog.bind_op, Prog.bind_ret, Prog.pure_eq_ret, wp_deviceId]
  iintro ⟨#He, HO, HP20, HD20, HT20, HP21, HD21, HT21⟩ Hk
  iapply (send_20 KA KB K c _ (dv28 c) (of35 c)) $$ [HO HP20 HD20 HT20]
  · isplitl []; · iexact He
    isplitl [HO]; · iexact HO
    isplitl [HP20]; · iexact HP20
    isplitl [HD20]; · iexact HD20
    iexact HT20
  iintro ⟨HO, HT20⟩
  iapply (send_21 KA KB K c _ (dv29 c) (of36 c)) $$ [HO HP21 HD21 HT21]
  · isplitl []; · iexact He
    isplitl [HO]; · iexact HO
    isplitl [HP21]; · iexact HP21
    isplitl [HD21]; · iexact HD21
    iexact HT21
  iintro ⟨HO, HT21⟩
  iapply (wS_20 KA KB K c 4) $$ [HO HT20]
  · isplitl []; · iexact He
    isplitl [HO]; · iexact HO
    iexact HT20
  iintro ⟨HO, HT20, HP20⟩
  iapply (wR_20 KA KB K c 4 (by decide)) $$ [HO HT20]
  · isplitl []; · iexact He
    isplitl [HO]; · iexact HO
    iexact HT20
  iintro ⟨HO, HT20, HL20⟩
  iapply (wS_21 KA KB K c 4) $$ [HO HT21]
  · isplitl []; · iexact He
    isplitl [HO]; · iexact HO
    iexact HT21
  iintro ⟨HO, HT21, HP21⟩
  iapply wp_done c
  iapply Hk
  isplitl [HO]; · iexact HO
  isplitl [HT20]; · iexact HT20
  isplitl [HT21]; · iexact HT21
  isplitl [HP20]; · iexact HP20
  isplitl [HL20]; · iexact HL20
  iexact HP21

theorem part53 (v178 : BitVec 32) (v418 : BitVec 32) (v1864 : BitVec 32) (c0_i32_1149 : BitVec 32) (c : Dev nD) {Q : (PUnit) → sProp 𝕄} :
    iprop(env KA KB K ∗ owing F 4 c ∗ snt F 21 c) ⊢ iprop(((owing F 4 c ∗ fin F 21 c ∗ pt cc0_scratch1 c (RB 2 (px 16 c)) fullShare (gB KB)) -∗ Q ⟨⟩) -∗ WP c (k0_part53 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v178 v418 v1864 c0_i32_1149) Q) := by
  rw [k0_part53_eq_skeleton]; unfold k0_part53_skel
  simp only [semSignalWord, semWaitWord, Prog.lift, Prog.bind_op, Prog.bind_ret, Prog.pure_eq_ret, wp_deviceId]
  iintro ⟨#He, HO, HT21⟩ Hk
  iapply (wR_21 KA KB K c 4 (by decide)) $$ [HO HT21]
  · isplitl []; · iexact He
    isplitl [HO]; · iexact HO
    iexact HT21
  iintro ⟨HO, HT21, HL21⟩
  iapply wp_done c
  iapply Hk
  isplitl [HO]; · iexact HO
  isplitl [HT21]; · iexact HT21
  iexact HL21

theorem part54 (v209 : BitVec 32) (v448 : BitVec 32) (c : Dev nD) {Q : (PUnit) → sProp 𝕄} :
    iprop(env KA KB K ∗ owing F 4 c ∗ pt cc0_scratch0 c (RA 3 c) fullShare (gA KA) ∗ own (F := F) cc0_scratch0 (px 3 c) (RA 3 c) ∗ pre F 22 c ∗ pt cc0_scratch1 c (RB 3 c) fullShare (gB KB) ∗ own (F := F) cc0_scratch1 (px 8 c) (RB 3 c) ∗ pre F 23 c) ⊢ iprop(((owing F 2 c ∗ fin F 22 c ∗ mid F 23 c ∗ pt cc0_scratch0 c (RA 3 c) fullShare (gA KA) ∗ pt cc0_scratch0 c (RA 3 (px 3 c)) fullShare (gA KA)) -∗ Q ⟨⟩) -∗ WP c (k0_part54 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v209 v448) Q) := by
  rw [k0_part54_eq_skeleton]; unfold k0_part54_skel
  simp only [semSignalWord, semWaitWord, Prog.lift, Prog.bind_op, Prog.bind_ret, Prog.pure_eq_ret, wp_deviceId]
  iintro ⟨#He, HO, HP22, HD22, HT22, HP23, HD23, HT23⟩ Hk
  iapply (send_22 KA KB K c _ (dv30 c) (of37 c)) $$ [HO HP22 HD22 HT22]
  · isplitl []; · iexact He
    isplitl [HO]; · iexact HO
    isplitl [HP22]; · iexact HP22
    isplitl [HD22]; · iexact HD22
    iexact HT22
  iintro ⟨HO, HT22⟩
  iapply (send_23 KA KB K c _ (dv31 c) (of38 c)) $$ [HO HP23 HD23 HT23]
  · isplitl []; · iexact He
    isplitl [HO]; · iexact HO
    isplitl [HP23]; · iexact HP23
    isplitl [HD23]; · iexact HD23
    iexact HT23
  iintro ⟨HO, HT23⟩
  iapply (wS_22 KA KB K c 2) $$ [HO HT22]
  · isplitl []; · iexact He
    isplitl [HO]; · iexact HO
    iexact HT22
  iintro ⟨HO, HT22, HP22⟩
  iapply (wR_22 KA KB K c 2 (by decide)) $$ [HO HT22]
  · isplitl []; · iexact He
    isplitl [HO]; · iexact HO
    iexact HT22
  iintro ⟨HO, HT22, HL22⟩
  iapply wp_done c
  iapply Hk
  isplitl [HO]; · iexact HO
  isplitl [HT22]; · iexact HT22
  isplitl [HT23]; · iexact HT23
  isplitl [HP22]; · iexact HP22
  iexact HL22

theorem part55 (v178 : BitVec 32) (v418 : BitVec 32) (v448 : BitVec 32) (c : Dev nD) {Q : (Σ' (v1960 : BitVec 32) (v1971 : BitVec 1), BitVec 32) → sProp 𝕄} :
    iprop(env KA KB K ∗ owing F 2 c ∗ mid F 23 c) ⊢ iprop((∀ (w0 : BitVec 32) (w1 : BitVec 1) (w2 : BitVec 32), (owing F 2 c ∗ fin F 23 c ∗ pt cc0_scratch1 c (RB 3 c) fullShare (gB KB) ∗ pt cc0_scratch1 c (RB 3 (px 8 c)) fullShare (gB KB)) -∗ Q ⟨w0, w1, w2⟩) -∗ WP c (k0_part55 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v178 v418 v448) Q) := by
  rw [k0_part55_eq_skeleton]; unfold k0_part55_skel
  simp only [semSignalWord, semWaitWord, Prog.lift, Prog.bind_op, Prog.bind_ret, Prog.pure_eq_ret, wp_deviceId]
  iintro ⟨#He, HO, HT23⟩ Hk
  iapply (wS_23 KA KB K c 2) $$ [HO HT23]
  · isplitl []; · iexact He
    isplitl [HO]; · iexact HO
    iexact HT23
  iintro ⟨HO, HT23, HP23⟩
  iapply (wR_23 KA KB K c 2 (by decide)) $$ [HO HT23]
  · isplitl []; · iexact He
    isplitl [HO]; · iexact HO
    iexact HT23
  iintro ⟨HO, HT23, HL23⟩
  iapply wp_done c
  iapply Hk
  isplitl [HO]; · iexact HO
  isplitl [HT23]; · iexact HT23
  isplitl [HP23]; · iexact HP23
  iexact HL23

theorem part56 (fkr : S512x32.Idx → Elt F .bf16) (fq : S512x1024.Idx → Elt F .bf16) (fqr : S512x512.Idx → Elt F .bf16) (v57 : BitVec 32) (v194 : BitVec 32) (v433 : BitVec 32) (v1960 : BitVec 32) (v1971 : BitVec 1) (v1972 : BitVec 32) (c : Dev nD) {Q : (Σ' (v1994 : BitVec 32) (v1996 : Vec F S256x32 .bf16) (v2006 : FVec F S256x256 .f32), FVec F S256 .f32) → sProp 𝕄} :
    iprop(env KA KB K ∗ owing F 2 c ∗ pt cc0_scratch0 c (RA 4 c) fullShare.right (gA KA) ∗ own (F := F) cc0_scratch0 (px 1 c) (RA 4 c) ∗ pre F 24 c ∗ pt cc0_scratch1 c (RB 4 c) fullShare.right (gB KB) ∗ own (F := F) cc0_scratch1 (px 3 c) (RB 4 c) ∗ pre F 25 c ∗ SC fkr fq fqr (gA KA) (RA 4 c) fullShare.left 0 c) ⊢ iprop((∀ (w0 : BitVec 32), (owing F 0 c ∗ mid F 24 c ∗ mid F 25 c ∗ SC fkr fq fqr (gA KA) (RA 4 c) fullShare.left 0 c) -∗ Q ⟨w0, ((sub (256 * xA c) 0 fkr)), (k0_pay20 (sub (256 * xA c) 0 fkr) (sub (256 * xA c) (64 * 0) fq) (sub (256 * xA c) (32 * 0) fqr) (sub (256 * xA c) (64 * 0) (gA KA))), (k0_pay21 (sub (256 * xA c) 0 fkr) (sub (256 * xA c) (64 * 0) fq) (sub (256 * xA c) (32 * 0) fqr) (sub (256 * xA c) (64 * 0) (gA KA)))⟩) -∗ WP c (k0_part56 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v57 v194 v433 v1960 v1971 v1972) Q) := by
  rw [k0_part56_eq_skeleton]; unfold k0_part56_skel
  simp only [semSignalWord, semWaitWord, Prog.lift, Prog.bind_op, Prog.bind_ret, Prog.pure_eq_ret, wp_deviceId]
  iintro ⟨#He, HO, HP24, HD24, HT24, HP25, HD25, HT25, HSC⟩ Hk
  iapply (send_24 KA KB K c _ (dv32 c) (of39 c)) $$ [HO HP24 HD24 HT24]
  · isplitl []; · iexact He
    isplitl [HO]; · iexact HO
    isplitl [HP24]; · iexact HP24
    isplitl [HD24]; · iexact HD24
    iexact HT24
  iintro ⟨HO, HT24⟩
  iapply (send_25 KA KB K c _ (dv33 c) (of40 c)) $$ [HO HP25 HD25 HT25]
  · isplitl []; · iexact He
    isplitl [HO]; · iexact HO
    isplitl [HP25]; · iexact HP25
    isplitl [HD25]; · iexact HD25
    iexact HT25
  iintro ⟨HO, HT25⟩
  iapply (rdKR fkr fq fqr (gA KA) c (of41 c)) $$ HSC
  iintro HSC
  iapply (rdQ fkr fq fqr (gA KA) (h := 0) c (of42 c)) $$ HSC
  iintro HSC
  iapply (rdQR fkr fq fqr (gA KA) (h := 0) c (of43 c)) $$ HSC
  iintro HSC
  iapply (rdA fkr fq fqr (gA KA) (h := 0) c (of42 c) (RA4_rows c)) $$ HSC
  iintro HSC
  iapply wp_done c
  iapply Hk
  isplitl [HO]; · iexact HO
  isplitl [HT24]; · iexact HT24
  isplitl [HT25]; · iexact HT25
  iexact HSC

end Cert.KernelIdealProof
-- ==== Proof.KernelIdealPartsC.lean ====
/-
What the parts of the program do: the scores and the result.
-/
module

public import proofs.«01_k».proof.Proof.KernelIdealPartsA

public import Idealize.ShloMosaic.Lib.Pipeline.Value

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (KA KB : Dev nD → Mat F) (K : Dev nD × Fin 53 → ℕ)

/-- Reads of blocks of the second sum, of the probabilities and of the result. -/
theorem ld_1_256x64 (c : Dev nD) {I : Finset S512x1024.Idx} {q : PosShare TreeShare} {f : S512x1024.Idx → Elt F .bf16} {o : Fin 2 → ℕ} {a b : ℕ} (ho : o = ![a, b]) {inb} {hl}
    (hI : rows a 256 ⊆ I) {α : Type} {k : (S256x64.Idx → Elt F .bf16) → Prog (TpuEff nD τ sig (Elt F) Λ₀ .tc) α} {Q : α → sProp 𝕄} :
    pt cc0_scratch1 c I q f ⊢ iprop((pt cc0_scratch1 c I q f -∗ WP c (k (sub a b f)) Q)
      -∗ WP c (.op (.load (Memref.whole cc0_scratch1) (Rect.unit (s := S512x1024) o S256x64.size inb).toLoadRect hl) k) Q) := by
  subst ho
  rw [show (sub a b f : S256x64.Idx → Elt F .bf16) = ((Memref.whole cc0_scratch1).access (Rect.unit (s := S512x1024) ![a, b] S256x64.size inb)).read (Elt F) f from
    funext fun y => (congrArg f (emb_rect inb y)).symm]
  exact wp_load_rect 𝒱₀ (c : Thread nD τ) none Set.univ (m := Memref.whole cc0_scratch1) (r := Rect.unit (s := S512x1024) ![a, b] S256x64.size inb) (hl := hl)
    (S := I) (q := q) (f := f) (((View.set_slice_whole cc0_scratch1 _).le.trans (rect_sub inb)).trans hI)
theorem ld_g8 (c : Dev nD) {I : Finset S512x1024.Idx} {q : PosShare TreeShare} {f : S512x1024.Idx → Elt F .f32} {o : Fin 2 → ℕ} {a b : ℕ} (ho : o = ![a, b]) {inb} {hl}
    (hI : rows a 256 ⊆ I) {α : Type} {k : (S256x1024.Idx → Elt F .f32) → Prog (TpuEff nD τ sig (Elt F) Λ₀ .tc) α} {Q : α → sProp 𝕄} :
    pt cc0_stg8_0 c I q f ⊢ iprop((pt cc0_stg8_0 c I q f -∗ WP c (k (sub a b f)) Q)
      -∗ WP c (.op (.load (Memref.whole cc0_stg8_0) (Rect.unit (s := S512x1024) o S256x1024.size inb).toLoadRect hl) k) Q) := by
  subst ho
  rw [show (sub a b f : S256x1024.Idx → Elt F .f32) = ((Memref.whole cc0_stg8_0).access (Rect.unit (s := S512x1024) ![a, b] S256x1024.size inb)).read (Elt F) f from
    funext fun y => (congrArg f (emb_rect inb y)).symm]
  exact wp_load_rect 𝒱₀ (c : Thread nD τ) none Set.univ (m := Memref.whole cc0_stg8_0) (r := Rect.unit (s := S512x1024) ![a, b] S256x1024.size inb) (hl := hl)
    (S := I) (q := q) (f := f) (((View.set_slice_whole cc0_stg8_0 _).le.trans (rect_sub inb)).trans hI)

variable {h0 : (Memref.whole cc0_stg0_0).IsWhole} {h1 : (Memref.whole cc0_stg1_0).IsWhole} {h2 : (Memref.whole cc0_stg2_0).IsWhole} {h3 : (Memref.whole cc0_stg3_0).IsWhole} {h4 : (Memref.whole cc0_stg4_0).IsWhole} {h5 : (Memref.whole cc0_stg5_0).IsWhole} {h6 : (Memref.whole cc0_stg6_0).IsWhole} {h7 : (Memref.whole cc0_stg7_0).IsWhole} {h8 : (Memref.whole cc0_stg8_0).IsWhole}
  {h9 : (Memref.whole cc0_scratch0).IsWhole} {h10 : (Memref.whole cc0_scratch1).IsWhole} {h11 : (Memref.whole cc0_scratch2).IsWhole} {h12 : (Memref.whole cc0_scratch3).IsWhole} {h13 : (Memref.whole cc0_scratch4).IsWhole} {h14 : (Memref.whole cc0_scratch5).IsWhole} {h15 : (Memref.whole cc0_scratch6).IsWhole} {h16 : (Memref.whole cc0_scratch7).IsWhole} {h17 : (Memref.whole cc0_scratch8).IsWhole} {h18 : (Memref.whole cc0_scratch9).IsWhole} {h19 : (Memref.whole cc0_scratch10).IsWhole} {h20 : (Memref.whole cc0_scratch11).IsWhole} {h21 : (Memref.whole cc0_scratch12).IsWhole} {h22 : (Memref.whole cc0_scratch13).IsWhole} {h23 : (Memref.whole cc0_scratch14).IsWhole} {h24 : (Memref.whole cc0_scratch15).IsWhole} {h25 : (Memref.whole cc0_scratch16).IsWhole} {h26 : (Memref.whole cc0_scratch17).IsWhole}

theorem part57 (fkr : S512x32.Idx → Elt F .bf16) (fq : S512x1024.Idx → Elt F .bf16) (fqr : S512x512.Idx → Elt F .bf16) (v1994 : BitVec 32) (c : Dev nD) {Q : (FVec F S256x256 .bf16) → sProp 𝕄} :
    iprop(SC fkr fq fqr (gA KA) (RA 4 c) fullShare.left 0 c) ⊢ iprop(((SC fkr fq fqr (gA KA) (RA 4 c) fullShare.left 2 c) -∗ Q ((k0_pay24 ((sub (256 * xA c) 0 fkr)) (sub (256 * xA c) (64 * 2) fq) (sub (256 * xA c) (32 * 2) fqr) (sub (256 * xA c) (64 * 2) (gA KA))))) -∗ WP c (k0_part57 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v1994 ((sub (256 * xA c) 0 fkr)) (k0_pay20 (sub (256 * xA c) 0 fkr) (sub (256 * xA c) (64 * 0) fq) (sub (256 * xA c) (32 * 0) fqr) (sub (256 * xA c) (64 * 0) (gA KA))) (k0_pay21 (sub (256 * xA c) 0 fkr) (sub (256 * xA c) (64 * 0) fq) (sub (256 * xA c) (32 * 0) fqr) (sub (256 * xA c) (64 * 0) (gA KA)))) Q) := by
  rw [k0_part57_eq_skeleton]; unfold k0_part57_skel
  simp only [semSignalWord, semWaitWord, Prog.lift, Prog.bind_op, Prog.bind_ret, Prog.pure_eq_ret, wp_deviceId]
  iintro ⟨HSC⟩ Hk
  iapply (rdP fkr fq fqr (gA KA) c (of44 c)) $$ HSC
  iintro %v2013
  iintro HSC
  iapply (wrP fkr fq fqr (gA KA) 0 c (by decide) (of44 c) ((k0_pay22 (k0_pay20 (sub (256 * xA c) 0 fkr) (sub (256 * xA c) (64 * 0) fq) (sub (256 * xA c) (32 * 0) fqr) (sub (256 * xA c) (64 * 0) (gA KA))) (k0_pay21 (sub (256 * xA c) 0 fkr) (sub (256 * xA c) (64 * 0) fq) (sub (256 * xA c) (32 * 0) fqr) (sub (256 * xA c) (64 * 0) (gA KA))))) rfl) $$ HSC
  iintro HSC
  iapply (rdQ fkr fq fqr (gA KA) (h := 1) c (of45 c)) $$ HSC
  iintro HSC
  iapply (rdQR fkr fq fqr (gA KA) (h := 1) c (of46 c)) $$ HSC
  iintro HSC
  iapply (rdA fkr fq fqr (gA KA) (h := 1) c (of45 c) (RA4_rows c)) $$ HSC
  iintro HSC
  iapply (rdP fkr fq fqr (gA KA) c (of47 c)) $$ HSC
  iintro %v2032
  iintro HSC
  iapply (wrP fkr fq fqr (gA KA) 1 c (by decide) (of47 c) ((k0_pay23 ((sub (256 * xA c) 0 fkr)) (sub (256 * xA c) (64 * 1) fq) (sub (256 * xA c) (32 * 1) fqr) (sub (256 * xA c) (64 * 1) (gA KA)))) rfl) $$ HSC
  iintro HSC
  iapply (rdQ fkr fq fqr (gA KA) (h := 2) c (of48 c)) $$ HSC
  iintro HSC
  iapply (rdQR fkr fq fqr (gA KA) (h := 2) c (of49 c)) $$ HSC
  iintro HSC
  iapply (rdA fkr fq fqr (gA KA) (h := 2) c (of48 c) (RA4_rows c)) $$ HSC
  iintro HSC
  iapply wp_done c
  iapply Hk
  iexact HSC

theorem part58 (fkr : S512x32.Idx → Elt F .bf16) (fq : S512x1024.Idx → Elt F .bf16) (fqr : S512x512.Idx → Elt F .bf16) (v1994 : BitVec 32) (c : Dev nD) {Q : (PUnit) → sProp 𝕄} :
    iprop(SC fkr fq fqr (gA KA) (RA 4 c) fullShare.left 2 c) ⊢ iprop(((SC fkr fq fqr (gA KA) (RA 4 c) fullShare.left 5 c) -∗ Q ⟨⟩) -∗ WP c (k0_part58 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v1994 ((sub (256 * xA c) 0 fkr)) ((k0_pay24 ((sub (256 * xA c) 0 fkr)) (sub (256 * xA c) (64 * 2) fq) (sub (256 * xA c) (32 * 2) fqr) (sub (256 * xA c) (64 * 2) (gA KA))))) Q) := by
  rw [k0_part58_eq_skeleton]; unfold k0_part58_skel
  simp only [semSignalWord, semWaitWord, Prog.lift, Prog.bind_op, Prog.bind_ret, Prog.pure_eq_ret, wp_deviceId]
  iintro ⟨HSC⟩ Hk
  iapply (rdP fkr fq fqr (gA KA) c (of50 c)) $$ HSC
  iintro %v2051
  iintro HSC
  iapply (wrP fkr fq fqr (gA KA) 2 c (by decide) (of50 c) ((k0_pay25 ((k0_pay24 ((sub (256 * xA c) 0 fkr)) (sub (256 * xA c) (64 * 2) fq) (sub (256 * xA c) (32 * 2) fqr) (sub (256 * xA c) (64 * 2) (gA KA)))))) rfl) $$ HSC
  iintro HSC
  iapply (rdQ fkr fq fqr (gA KA) (h := 3) c (of51 c)) $$ HSC
  iintro HSC
  iapply (rdQR fkr fq fqr (gA KA) (h := 3) c (of52 c)) $$ HSC
  iintro HSC
  iapply (rdA fkr fq fqr (gA KA) (h := 3) c (of51 c) (RA4_rows c)) $$ HSC
  iintro HSC
  iapply (rdP fkr fq fqr (gA KA) c (of53 c)) $$ HSC
  iintro %v2070
  iintro HSC
  iapply (wrP fkr fq fqr (gA KA) 3 c (by decide) (of53 c) ((k0_pay26 ((sub (256 * xA c) 0 fkr)) (sub (256 * xA c) (64 * 3) fq) (sub (256 * xA c) (32 * 3) fqr) (sub (256 * xA c) (64 * 3) (gA KA)))) rfl) $$ HSC
  iintro HSC
  iapply (rdQ fkr fq fqr (gA KA) (h := 4) c (of54 c)) $$ HSC
  iintro HSC
  iapply (rdQR fkr fq fqr (gA KA) (h := 4) c (of55 c)) $$ HSC
  iintro HSC
  iapply (rdA fkr fq fqr (gA KA) (h := 4) c (of54 c) (RA4_rows c)) $$ HSC
  iintro HSC
  iapply (rdP fkr fq fqr (gA KA) c (of56 c)) $$ HSC
  iintro %v2089
  iintro HSC
  iapply (wrP fkr fq fqr (gA KA) 4 c (by decide) (of56 c) ((k0_pay27 ((sub (256 * xA c) 0 fkr)) (sub (256 * xA c) (64 * 4) fq) (sub (256 * xA c) (32 * 4) fqr) (sub (256 * xA c) (64 * 4) (gA KA)))) rfl) $$ HSC
  iintro HSC
  iapply wp_done c
  iapply Hk
  iexact HSC

theorem part59 (fkr : S512x32.Idx → Elt F .bf16) (fq : S512x1024.Idx → Elt F .bf16) (fqr : S512x512.Idx → Elt F .bf16) (v1994 : BitVec 32) (c : Dev nD) {Q : (Σ' (v2131 : Vec F S256x64 .bf16), Vec F S256x32 .bf16) → sProp 𝕄} :
    iprop(SC fkr fq fqr (gA KA) (RA 4 c) fullShare.left 5 c) ⊢ iprop(((SC fkr fq fqr (gA KA) (RA 4 c) fullShare.left 7 c) -∗ Q ⟨((sub (256 * xA c) (64 * 7) fq)), ((sub (256 * xA c) (32 * 7) fqr))⟩) -∗ WP c (k0_part59 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v1994 ((sub (256 * xA c) 0 fkr))) Q) := by
  rw [k0_part59_eq_skeleton]; unfold k0_part59_skel
  simp only [semSignalWord, semWaitWord, Prog.lift, Prog.bind_op, Prog.bind_ret, Prog.pure_eq_ret, wp_deviceId]
  iintro ⟨HSC⟩ Hk
  iapply (rdQ fkr fq fqr (gA KA) (h := 5) c (of57 c)) $$ HSC
  iintro HSC
  iapply (rdQR fkr fq fqr (gA KA) (h := 5) c (of58 c)) $$ HSC
  iintro HSC
  iapply (rdA fkr fq fqr (gA KA) (h := 5) c (of57 c) (RA4_rows c)) $$ HSC
  iintro HSC
  iapply (rdP fkr fq fqr (gA KA) c (of59 c)) $$ HSC
  iintro %v2108
  iintro HSC
  iapply (wrP fkr fq fqr (gA KA) 5 c (by decide) (of59 c) ((k0_pay28 ((sub (256 * xA c) 0 fkr)) (sub (256 * xA c) (64 * 5) fq) (sub (256 * xA c) (32 * 5) fqr) (sub (256 * xA c) (64 * 5) (gA KA)))) rfl) $$ HSC
  iintro HSC
  iapply (rdQ fkr fq fqr (gA KA) (h := 6) c (of60 c)) $$ HSC
  iintro HSC
  iapply (rdQR fkr fq fqr (gA KA) (h := 6) c (of61 c)) $$ HSC
  iintro HSC
  iapply (rdA fkr fq fqr (gA KA) (h := 6) c (of60 c) (RA4_rows c)) $$ HSC
  iintro HSC
  iapply (rdP fkr fq fqr (gA KA) c (of62 c)) $$ HSC
  iintro %v2127
  iintro HSC
  iapply (wrP fkr fq fqr (gA KA) 6 c (by decide) (of62 c) ((k0_pay29 ((sub (256 * xA c) 0 fkr)) (sub (256 * xA c) (64 * 6) fq) (sub (256 * xA c) (32 * 6) fqr) (sub (256 * xA c) (64 * 6) (gA KA)))) rfl) $$ HSC
  iintro HSC
  iapply (rdQ fkr fq fqr (gA KA) (h := 7) c (of63 c)) $$ HSC
  iintro HSC
  iapply (rdQR fkr fq fqr (gA KA) (h := 7) c (of64 c)) $$ HSC
  iintro HSC
  iapply wp_done c
  iapply Hk
  iexact HSC

theorem part60 (fkr : S512x32.Idx → Elt F .bf16) (fq : S512x1024.Idx → Elt F .bf16) (fqr : S512x512.Idx → Elt F .bf16) (v1994 : BitVec 32) (c : Dev nD) {Q : (FVec F S256x256 .f32) → sProp 𝕄} :
    iprop(SC fkr fq fqr (gA KA) (RA 4 c) fullShare.left 7 c) ⊢ iprop(((SC fkr fq fqr (gA KA) (RA 4 c) fullShare.left 9 c) -∗ Q ((k0_pay32 ((sub (256 * xA c) 0 fkr)) (sub (256 * xA c) (64 * 9) fq) (sub (256 * xA c) (32 * 9) fqr) (sub (256 * xA c) (64 * 9) (gA KA))))) -∗ WP c (k0_part60 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v1994 ((sub (256 * xA c) 0 fkr)) ((sub (256 * xA c) (64 * 7) fq)) ((sub (256 * xA c) (32 * 7) fqr))) Q) := by
  rw [k0_part60_eq_skeleton]; unfold k0_part60_skel
  simp only [semSignalWord, semWaitWord, Prog.lift, Prog.bind_op, Prog.bind_ret, Prog.pure_eq_ret, wp_deviceId]
  iintro ⟨HSC⟩ Hk
  iapply (rdA fkr fq fqr (gA KA) (h := 7) c (of63 c) (RA4_rows c)) $$ HSC
  iintro HSC
  iapply (rdP fkr fq fqr (gA KA) c (of65 c)) $$ HSC
  iintro %v2146
  iintro HSC
  iapply (wrP fkr fq fqr (gA KA) 7 c (by decide) (of65 c) ((k0_pay30 ((sub (256 * xA c) 0 fkr)) ((sub (256 * xA c) (64 * 7) fq)) ((sub (256 * xA c) (32 * 7) fqr)) (sub (256 * xA c) (64 * 7) (gA KA)))) rfl) $$ HSC
  iintro HSC
  iapply (rdQ fkr fq fqr (gA KA) (h := 8) c (of66 c)) $$ HSC
  iintro HSC
  iapply (rdQR fkr fq fqr (gA KA) (h := 8) c (of67 c)) $$ HSC
  iintro HSC
  iapply (rdA fkr fq fqr (gA KA) (h := 8) c (of66 c) (RA4_rows c)) $$ HSC
  iintro HSC
  iapply (rdP fkr fq fqr (gA KA) c (of68 c)) $$ HSC
  iintro %v2165
  iintro HSC
  iapply (wrP fkr fq fqr (gA KA) 8 c (by decide) (of68 c) ((k0_pay31 ((sub (256 * xA c) 0 fkr)) (sub (256 * xA c) (64 * 8) fq) (sub (256 * xA c) (32 * 8) fqr) (sub (256 * xA c) (64 * 8) (gA KA)))) rfl) $$ HSC
  iintro HSC
  iapply (rdQ fkr fq fqr (gA KA) (h := 9) c (of69 c)) $$ HSC
  iintro HSC
  iapply (rdQR fkr fq fqr (gA KA) (h := 9) c (of70 c)) $$ HSC
  iintro HSC
  iapply (rdA fkr fq fqr (gA KA) (h := 9) c (of69 c) (RA4_rows c)) $$ HSC
  iintro HSC
  iapply wp_done c
  iapply Hk
  iexact HSC

theorem part61 (fkr : S512x32.Idx → Elt F .bf16) (fq : S512x1024.Idx → Elt F .bf16) (fqr : S512x512.Idx → Elt F .bf16) (v1994 : BitVec 32) (c : Dev nD) {Q : (FVec F S256x256 .f32) → sProp 𝕄} :
    iprop(SC fkr fq fqr (gA KA) (RA 4 c) fullShare.left 9 c) ⊢ iprop(((SC fkr fq fqr (gA KA) (RA 4 c) fullShare.left 11 c) -∗ Q ((k0_pay35 ((sub (256 * xA c) 0 fkr)) (sub (256 * xA c) (64 * 11) fq) (sub (256 * xA c) (32 * 11) fqr) (sub (256 * xA c) (64 * 11) (gA KA))))) -∗ WP c (k0_part61 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v1994 ((sub (256 * xA c) 0 fkr)) ((k0_pay32 ((sub (256 * xA c) 0 fkr)) (sub (256 * xA c) (64 * 9) fq) (sub (256 * xA c) (32 * 9) fqr) (sub (256 * xA c) (64 * 9) (gA KA))))) Q) := by
  rw [k0_part61_eq_skeleton]; unfold k0_part61_skel
  simp only [semSignalWord, semWaitWord, Prog.lift, Prog.bind_op, Prog.bind_ret, Prog.pure_eq_ret, wp_deviceId]
  iintro ⟨HSC⟩ Hk
  iapply (rdP fkr fq fqr (gA KA) c (of71 c)) $$ HSC
  iintro %v2184
  iintro HSC
  iapply (wrP fkr fq fqr (gA KA) 9 c (by decide) (of71 c) ((k0_pay33 ((k0_pay32 ((sub (256 * xA c) 0 fkr)) (sub (256 * xA c) (64 * 9) fq) (sub (256 * xA c) (32 * 9) fqr) (sub (256 * xA c) (64 * 9) (gA KA)))))) rfl) $$ HSC
  iintro HSC
  iapply (rdQ fkr fq fqr (gA KA) (h := 10) c (of72 c)) $$ HSC
  iintro HSC
  iapply (rdQR fkr fq fqr (gA KA) (h := 10) c (of73 c)) $$ HSC
  iintro HSC
  iapply (rdA fkr fq fqr (gA KA) (h := 10) c (of72 c) (RA4_rows c)) $$ HSC
  iintro HSC
  iapply (rdP fkr fq fqr (gA KA) c (of74 c)) $$ HSC
  iintro %v2203
  iintro HSC
  iapply (wrP fkr fq fqr (gA KA) 10 c (by decide) (of74 c) ((k0_pay34 ((sub (256 * xA c) 0 fkr)) (sub (256 * xA c) (64 * 10) fq) (sub (256 * xA c) (32 * 10) fqr) (sub (256 * xA c) (64 * 10) (gA KA)))) rfl) $$ HSC
  iintro HSC
  iapply (rdQ fkr fq fqr (gA KA) (h := 11) c (of75 c)) $$ HSC
  iintro HSC
  iapply (rdQR fkr fq fqr (gA KA) (h := 11) c (of76 c)) $$ HSC
  iintro HSC
  iapply (rdA fkr fq fqr (gA KA) (h := 11) c (of75 c) (RA4_rows c)) $$ HSC
  iintro HSC
  iapply wp_done c
  iapply Hk
  iexact HSC

theorem part62 (fkr : S512x32.Idx → Elt F .bf16) (fq : S512x1024.Idx → Elt F .bf16) (fqr : S512x512.Idx → Elt F .bf16) (v1994 : BitVec 32) (c : Dev nD) {Q : (FVec F S256x256 .bf16) → sProp 𝕄} :
    iprop(SC fkr fq fqr (gA KA) (RA 4 c) fullShare.left 11 c) ⊢ iprop(((SC fkr fq fqr (gA KA) (RA 4 c) fullShare.left 13 c) -∗ Q ((k0_pay38 ((sub (256 * xA c) 0 fkr)) (sub (256 * xA c) (64 * 13) fq) (sub (256 * xA c) (32 * 13) fqr) (sub (256 * xA c) (64 * 13) (gA KA))))) -∗ WP c (k0_part62 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v1994 ((sub (256 * xA c) 0 fkr)) ((k0_pay35 ((sub (256 * xA c) 0 fkr)) (sub (256 * xA c) (64 * 11) fq) (sub (256 * xA c) (32 * 11) fqr) (sub (256 * xA c) (64 * 11) (gA KA))))) Q) := by
  rw [k0_part62_eq_skeleton]; unfold k0_part62_skel
  simp only [semSignalWord, semWaitWord, Prog.lift, Prog.bind_op, Prog.bind_ret, Prog.pure_eq_ret, wp_deviceId]
  iintro ⟨HSC⟩ Hk
  iapply (rdP fkr fq fqr (gA KA) c (of77 c)) $$ HSC
  iintro %v2222
  iintro HSC
  iapply (wrP fkr fq fqr (gA KA) 11 c (by decide) (of77 c) ((k0_pay36 ((k0_pay35 ((sub (256 * xA c) 0 fkr)) (sub (256 * xA c) (64 * 11) fq) (sub (256 * xA c) (32 * 11) fqr) (sub (256 * xA c) (64 * 11) (gA KA)))))) rfl) $$ HSC
  iintro HSC
  iapply (rdQ fkr fq fqr (gA KA) (h := 12) c (of78 c)) $$ HSC
  iintro HSC
  iapply (rdQR fkr fq fqr (gA KA) (h := 12) c (of79 c)) $$ HSC
  iintro HSC
  iapply (rdA fkr fq fqr (gA KA) (h := 12) c (of78 c) (RA4_rows c)) $$ HSC
  iintro HSC
  iapply (rdP fkr fq fqr (gA KA) c (of80 c)) $$ HSC
  iintro %v2241
  iintro HSC
  iapply (wrP fkr fq fqr (gA KA) 12 c (by decide) (of80 c) ((k0_pay37 ((sub (256 * xA c) 0 fkr)) (sub (256 * xA c) (64 * 12) fq) (sub (256 * xA c) (32 * 12) fqr) (sub (256 * xA c) (64 * 12) (gA KA)))) rfl) $$ HSC
  iintro HSC
  iapply (rdQ fkr fq fqr (gA KA) (h := 13) c (of81 c)) $$ HSC
  iintro HSC
  iapply (rdQR fkr fq fqr (gA KA) (h := 13) c (of82 c)) $$ HSC
  iintro HSC
  iapply (rdA fkr fq fqr (gA KA) (h := 13) c (of81 c) (RA4_rows c)) $$ HSC
  iintro HSC
  iapply (rdP fkr fq fqr (gA KA) c (of83 c)) $$ HSC
  iintro %v2260
  iintro HSC
  iapply wp_done c
  iapply Hk
  iexact HSC

theorem part63 (fkr : S512x32.Idx → Elt F .bf16) (fq : S512x1024.Idx → Elt F .bf16) (fqr : S512x512.Idx → Elt F .bf16) (v1994 : BitVec 32) (c : Dev nD) {Q : (PUnit) → sProp 𝕄} :
    iprop(SC fkr fq fqr (gA KA) (RA 4 c) fullShare.left 13 c) ⊢ iprop(((SC fkr fq fqr (gA KA) (RA 4 c) fullShare.left 16 c) -∗ Q ⟨⟩) -∗ WP c (k0_part63 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v1994 ((sub (256 * xA c) 0 fkr)) ((k0_pay38 ((sub (256 * xA c) 0 fkr)) (sub (256 * xA c) (64 * 13) fq) (sub (256 * xA c) (32 * 13) fqr) (sub (256 * xA c) (64 * 13) (gA KA))))) Q) := by
  rw [k0_part63_eq_skeleton]; unfold k0_part63_skel
  simp only [semSignalWord, semWaitWord, Prog.lift, Prog.bind_op, Prog.bind_ret, Prog.pure_eq_ret, wp_deviceId]
  iintro ⟨HSC⟩ Hk
  iapply (wrP fkr fq fqr (gA KA) 13 c (by decide) (of83 c) (((k0_pay38 ((sub (256 * xA c) 0 fkr)) (sub (256 * xA c) (64 * 13) fq) (sub (256 * xA c) (32 * 13) fqr) (sub (256 * xA c) (64 * 13) (gA KA))))) rfl) $$ HSC
  iintro HSC
  iapply (rdQ fkr fq fqr (gA KA) (h := 14) c (of84 c)) $$ HSC
  iintro HSC
  iapply (rdQR fkr fq fqr (gA KA) (h := 14) c (of85 c)) $$ HSC
  iintro HSC
  iapply (rdA fkr fq fqr (gA KA) (h := 14) c (of84 c) (RA4_rows c)) $$ HSC
  iintro HSC
  iapply (rdP fkr fq fqr (gA KA) c (of86 c)) $$ HSC
  iintro %v2279
  iintro HSC
  iapply (wrP fkr fq fqr (gA KA) 14 c (by decide) (of86 c) ((k0_pay39 ((sub (256 * xA c) 0 fkr)) (sub (256 * xA c) (64 * 14) fq) (sub (256 * xA c) (32 * 14) fqr) (sub (256 * xA c) (64 * 14) (gA KA)))) rfl) $$ HSC
  iintro HSC
  iapply (rdQ fkr fq fqr (gA KA) (h := 15) c (of87 c)) $$ HSC
  iintro HSC
  iapply (rdQR fkr fq fqr (gA KA) (h := 15) c (of88 c)) $$ HSC
  iintro HSC
  iapply (rdA fkr fq fqr (gA KA) (h := 15) c (of87 c) (RA4_rows c)) $$ HSC
  iintro HSC
  iapply (rdP fkr fq fqr (gA KA) c (of89 c)) $$ HSC
  iintro %v2298
  iintro HSC
  iapply (wrP fkr fq fqr (gA KA) 15 c (by decide) (of89 c) ((k0_pay40 ((sub (256 * xA c) 0 fkr)) (sub (256 * xA c) (64 * 15) fq) (sub (256 * xA c) (32 * 15) fqr) (sub (256 * xA c) (64 * 15) (gA KA)))) rfl) $$ HSC
  iintro HSC
  iapply wp_done c
  iapply Hk
  iexact HSC

theorem part64 (fkr : S512x32.Idx → Elt F .bf16) (fq : S512x1024.Idx → Elt F .bf16) (fqr : S512x512.Idx → Elt F .bf16) (v57 : BitVec 32) (v194 : BitVec 32) (c : Dev nD) {Q : (Σ' (v2312 : BitVec 32) (v2314 : Vec F S256x32 .bf16) (v2335 : Vec F S256x64 .bf16), Vec F S256x32 .bf16) → sProp 𝕄} :
    iprop(env KA KB K ∗ owing F 0 c ∗ mid F 24 c ∗ SC fkr fq fqr (gA KA) (RA 4 c) fullShare.left 16 c) ⊢ iprop((∀ (w0 : BitVec 32), (owing F 0 c ∗ fin F 24 c ∗ SC fkr fq fqr (gA KA) Finset.univ fullShare 17 c) -∗ Q ⟨w0, ((sub (256 * yA c) 0 fkr)), ((sub (256 * yA c) (64 * 1) fq)), ((sub (256 * yA c) (32 * 1) fqr))⟩) -∗ WP c (k0_part64 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v57 v194) Q) := by
  rw [k0_part64_eq_skeleton]; unfold k0_part64_skel
  simp only [semSignalWord, semWaitWord, Prog.lift, Prog.bind_op, Prog.bind_ret, Prog.pure_eq_ret, wp_deviceId]
  iintro ⟨#He, HO, HT24, HSC⟩ Hk
  iapply (wS_24 KA KB K c 0) $$ [HO HT24]
  · isplitl []; · iexact He
    isplitl [HO]; · iexact HO
    iexact HT24
  iintro ⟨HO, HT24, HP24⟩
  iapply (wR_24 KA KB K c 0 (by decide)) $$ [HO HT24]
  · isplitl []; · iexact He
    isplitl [HO]; · iexact HO
    iexact HT24
  iintro ⟨HO, HT24, HL24⟩
  ihave HSC := (SC_join KA fkr fq fqr c) $$ [HSC HP24 HL24]
  · isplitl [HSC]; · iexact HSC
    isplitl [HP24]; · iexact HP24
    iexact HL24
  iapply (rdKR fkr fq fqr (gA KA) c (of90 c)) $$ HSC
  iintro HSC
  iapply (rdQ fkr fq fqr (gA KA) (h := 0) c (of91 c)) $$ HSC
  iintro HSC
  iapply (rdQR fkr fq fqr (gA KA) (h := 0) c (of92 c)) $$ HSC
  iintro HSC
  iapply (rdA fkr fq fqr (gA KA) (h := 0) c (of91 c) (Finset.subset_univ _)) $$ HSC
  iintro HSC
  iapply (rdP fkr fq fqr (gA KA) c (of93 c)) $$ HSC
  iintro %v2331
  iintro HSC
  iapply (wrS fkr fq fqr (gA KA) 0 c (by decide) (of93 c) ((k0_pay41 (sub (256 * yA c) 0 fkr) (sub (256 * yA c) (64 * 0) fq) (sub (256 * yA c) (32 * 0) fqr) (sub (256 * yA c) (64 * 0) (gA KA)))) rfl) $$ HSC
  iintro HSC
  iapply (rdQ fkr fq fqr (gA KA) (h := 1) c (of94 c)) $$ HSC
  iintro HSC
  iapply (rdQR fkr fq fqr (gA KA) (h := 1) c (of95 c)) $$ HSC
  iintro HSC
  iapply wp_done c
  iapply Hk
  isplitl [HO]; · iexact HO
  isplitl [HT24]; · iexact HT24
  iexact HSC

theorem part65 (fkr : S512x32.Idx → Elt F .bf16) (fq : S512x1024.Idx → Elt F .bf16) (fqr : S512x512.Idx → Elt F .bf16) (v2312 : BitVec 32) (c : Dev nD) {Q : (FVec F S256x256 .f32) → sProp 𝕄} :
    iprop(SC fkr fq fqr (gA KA) Finset.univ fullShare 17 c) ⊢ iprop(((SC fkr fq fqr (gA KA) Finset.univ fullShare 19 c) -∗ Q ((k0_pay44 ((sub (256 * yA c) 0 fkr)) (sub (256 * yA c) (64 * 3) fq) (sub (256 * yA c) (32 * 3) fqr) (sub (256 * yA c) (64 * 3) (gA KA))))) -∗ WP c (k0_part65 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v2312 ((sub (256 * yA c) 0 fkr)) ((sub (256 * yA c) (64 * 1) fq)) ((sub (256 * yA c) (32 * 1) fqr))) Q) := by
  rw [k0_part65_eq_skeleton]; unfold k0_part65_skel
  simp only [semSignalWord, semWaitWord, Prog.lift, Prog.bind_op, Prog.bind_ret, Prog.pure_eq_ret, wp_deviceId]
  iintro ⟨HSC⟩ Hk
  iapply (rdA fkr fq fqr (gA KA) (h := 1) c (of94 c) (Finset.subset_univ _)) $$ HSC
  iintro HSC
  iapply (rdP fkr fq fqr (gA KA) c (of96 c)) $$ HSC
  iintro %v2350
  iintro HSC
  iapply (wrS fkr fq fqr (gA KA) 1 c (by decide) (of96 c) ((k0_pay42 ((sub (256 * yA c) 0 fkr)) ((sub (256 * yA c) (64 * 1) fq)) ((sub (256 * yA c) (32 * 1) fqr)) (sub (256 * yA c) (64 * 1) (gA KA)))) rfl) $$ HSC
  iintro HSC
  iapply (rdQ fkr fq fqr (gA KA) (h := 2) c (of97 c)) $$ HSC
  iintro HSC
  iapply (rdQR fkr fq fqr (gA KA) (h := 2) c (of98 c)) $$ HSC
  iintro HSC
  iapply (rdA fkr fq fqr (gA KA) (h := 2) c (of97 c) (Finset.subset_univ _)) $$ HSC
  iintro HSC
  iapply (rdP fkr fq fqr (gA KA) c (of99 c)) $$ HSC
  iintro %v2369
  iintro HSC
  iapply (wrS fkr fq fqr (gA KA) 2 c (by decide) (of99 c) ((k0_pay43 ((sub (256 * yA c) 0 fkr)) (sub (256 * yA c) (64 * 2) fq) (sub (256 * yA c) (32 * 2) fqr) (sub (256 * yA c) (64 * 2) (gA KA)))) rfl) $$ HSC
  iintro HSC
  iapply (rdQ fkr fq fqr (gA KA) (h := 3) c (of100 c)) $$ HSC
  iintro HSC
  iapply (rdQR fkr fq fqr (gA KA) (h := 3) c (of101 c)) $$ HSC
  iintro HSC
  iapply (rdA fkr fq fqr (gA KA) (h := 3) c (of100 c) (Finset.subset_univ _)) $$ HSC
  iintro HSC
  iapply wp_done c
  iapply Hk
  iexact HSC

theorem part66 (fkr : S512x32.Idx → Elt F .bf16) (fq : S512x1024.Idx → Elt F .bf16) (fqr : S512x512.Idx → Elt F .bf16) (v2312 : BitVec 32) (c : Dev nD) {Q : (FVec F S256x256 .f32) → sProp 𝕄} :
    iprop(SC fkr fq fqr (gA KA) Finset.univ fullShare 19 c) ⊢ iprop(((SC fkr fq fqr (gA KA) Finset.univ fullShare 21 c) -∗ Q ((k0_pay47 ((sub (256 * yA c) 0 fkr)) (sub (256 * yA c) (64 * 5) fq) (sub (256 * yA c) (32 * 5) fqr) (sub (256 * yA c) (64 * 5) (gA KA))))) -∗ WP c (k0_part66 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v2312 ((sub (256 * yA c) 0 fkr)) ((k0_pay44 ((sub (256 * yA c) 0 fkr)) (sub (256 * yA c) (64 * 3) fq) (sub (256 * yA c) (32 * 3) fqr) (sub (256 * yA c) (64 * 3) (gA KA))))) Q) := by
  rw [k0_part66_eq_skeleton]; unfold k0_part66_skel
  simp only [semSignalWord, semWaitWord, Prog.lift, Prog.bind_op, Prog.bind_ret, Prog.pure_eq_ret, wp_deviceId]
  iintro ⟨HSC⟩ Hk
  iapply (rdP fkr fq fqr (gA KA) c (of102 c)) $$ HSC
  iintro %v2388
  iintro HSC
  iapply (wrS fkr fq fqr (gA KA) 3 c (by decide) (of102 c) ((k0_pay45 ((k0_pay44 ((sub (256 * yA c) 0 fkr)) (sub (256 * yA c) (64 * 3) fq) (sub (256 * yA c) (32 * 3) fqr) (sub (256 * yA c) (64 * 3) (gA KA)))))) rfl) $$ HSC
  iintro HSC
  iapply (rdQ fkr fq fqr (gA KA) (h := 4) c (of103 c)) $$ HSC
  iintro HSC
  iapply (rdQR fkr fq fqr (gA KA) (h := 4) c (of104 c)) $$ HSC
  iintro HSC
  iapply (rdA fkr fq fqr (gA KA) (h := 4) c (of103 c) (Finset.subset_univ _)) $$ HSC
  iintro HSC
  iapply (rdP fkr fq fqr (gA KA) c (of105 c)) $$ HSC
  iintro %v2407
  iintro HSC
  iapply (wrS fkr fq fqr (gA KA) 4 c (by decide) (of105 c) ((k0_pay46 ((sub (256 * yA c) 0 fkr)) (sub (256 * yA c) (64 * 4) fq) (sub (256 * yA c) (32 * 4) fqr) (sub (256 * yA c) (64 * 4) (gA KA)))) rfl) $$ HSC
  iintro HSC
  iapply (rdQ fkr fq fqr (gA KA) (h := 5) c (of106 c)) $$ HSC
  iintro HSC
  iapply (rdQR fkr fq fqr (gA KA) (h := 5) c (of107 c)) $$ HSC
  iintro HSC
  iapply (rdA fkr fq fqr (gA KA) (h := 5) c (of106 c) (Finset.subset_univ _)) $$ HSC
  iintro HSC
  iapply wp_done c
  iapply Hk
  iexact HSC

theorem part67 (fkr : S512x32.Idx → Elt F .bf16) (fq : S512x1024.Idx → Elt F .bf16) (fqr : S512x512.Idx → Elt F .bf16) (v2312 : BitVec 32) (c : Dev nD) {Q : (FVec F S256x256 .bf16) → sProp 𝕄} :
    iprop(SC fkr fq fqr (gA KA) Finset.univ fullShare 21 c) ⊢ iprop(((SC fkr fq fqr (gA KA) Finset.univ fullShare 23 c) -∗ Q ((k0_pay50 ((sub (256 * yA c) 0 fkr)) (sub (256 * yA c) (64 * 7) fq) (sub (256 * yA c) (32 * 7) fqr) (sub (256 * yA c) (64 * 7) (gA KA))))) -∗ WP c (k0_part67 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v2312 ((sub (256 * yA c) 0 fkr)) ((k0_pay47 ((sub (256 * yA c) 0 fkr)) (sub (256 * yA c) (64 * 5) fq) (sub (256 * yA c) (32 * 5) fqr) (sub (256 * yA c) (64 * 5) (gA KA))))) Q) := by
  rw [k0_part67_eq_skeleton]; unfold k0_part67_skel
  simp only [semSignalWord, semWaitWord, Prog.lift, Prog.bind_op, Prog.bind_ret, Prog.pure_eq_ret, wp_deviceId]
  iintro ⟨HSC⟩ Hk
  iapply (rdP fkr fq fqr (gA KA) c (of108 c)) $$ HSC
  iintro %v2426
  iintro HSC
  iapply (wrS fkr fq fqr (gA KA) 5 c (by decide) (of108 c) ((k0_pay48 ((k0_pay47 ((sub (256 * yA c) 0 fkr)) (sub (256 * yA c) (64 * 5) fq) (sub (256 * yA c) (32 * 5) fqr) (sub (256 * yA c) (64 * 5) (gA KA)))))) rfl) $$ HSC
  iintro HSC
  iapply (rdQ fkr fq fqr (gA KA) (h := 6) c (of109 c)) $$ HSC
  iintro HSC
  iapply (rdQR fkr fq fqr (gA KA) (h := 6) c (of110 c)) $$ HSC
  iintro HSC
  iapply (rdA fkr fq fqr (gA KA) (h := 6) c (of109 c) (Finset.subset_univ _)) $$ HSC
  iintro HSC
  iapply (rdP fkr fq fqr (gA KA) c (of111 c)) $$ HSC
  iintro %v2445
  iintro HSC
  iapply (wrS fkr fq fqr (gA KA) 6 c (by decide) (of111 c) ((k0_pay49 ((sub (256 * yA c) 0 fkr)) (sub (256 * yA c) (64 * 6) fq) (sub (256 * yA c) (32 * 6) fqr) (sub (256 * yA c) (64 * 6) (gA KA)))) rfl) $$ HSC
  iintro HSC
  iapply (rdQ fkr fq fqr (gA KA) (h := 7) c (of112 c)) $$ HSC
  iintro HSC
  iapply (rdQR fkr fq fqr (gA KA) (h := 7) c (of113 c)) $$ HSC
  iintro HSC
  iapply (rdA fkr fq fqr (gA KA) (h := 7) c (of112 c) (Finset.subset_univ _)) $$ HSC
  iintro HSC
  iapply (rdP fkr fq fqr (gA KA) c (of114 c)) $$ HSC
  iintro %v2464
  iintro HSC
  iapply wp_done c
  iapply Hk
  iexact HSC

theorem part68 (fkr : S512x32.Idx → Elt F .bf16) (fq : S512x1024.Idx → Elt F .bf16) (fqr : S512x512.Idx → Elt F .bf16) (v2312 : BitVec 32) (c : Dev nD) {Q : (Vec F S256x64 .bf16) → sProp 𝕄} :
    iprop(SC fkr fq fqr (gA KA) Finset.univ fullShare 23 c) ⊢ iprop(((SC fkr fq fqr (gA KA) Finset.univ fullShare 26 c) -∗ Q ((sub (256 * yA c) (64 * 10) fq))) -∗ WP c (k0_part68 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v2312 ((sub (256 * yA c) 0 fkr)) ((k0_pay50 ((sub (256 * yA c) 0 fkr)) (sub (256 * yA c) (64 * 7) fq) (sub (256 * yA c) (32 * 7) fqr) (sub (256 * yA c) (64 * 7) (gA KA))))) Q) := by
  rw [k0_part68_eq_skeleton]; unfold k0_part68_skel
  simp only [semSignalWord, semWaitWord, Prog.lift, Prog.bind_op, Prog.bind_ret, Prog.pure_eq_ret, wp_deviceId]
  iintro ⟨HSC⟩ Hk
  iapply (wrS fkr fq fqr (gA KA) 7 c (by decide) (of114 c) (((k0_pay50 ((sub (256 * yA c) 0 fkr)) (sub (256 * yA c) (64 * 7) fq) (sub (256 * yA c) (32 * 7) fqr) (sub (256 * yA c) (64 * 7) (gA KA))))) rfl) $$ HSC
  iintro HSC
  iapply (rdQ fkr fq fqr (gA KA) (h := 8) c (of115 c)) $$ HSC
  iintro HSC
  iapply (rdQR fkr fq fqr (gA KA) (h := 8) c (of116 c)) $$ HSC
  iintro HSC
  iapply (rdA fkr fq fqr (gA KA) (h := 8) c (of115 c) (Finset.subset_univ _)) $$ HSC
  iintro HSC
  iapply (rdP fkr fq fqr (gA KA) c (of117 c)) $$ HSC
  iintro %v2483
  iintro HSC
  iapply (wrS fkr fq fqr (gA KA) 8 c (by decide) (of117 c) ((k0_pay51 ((sub (256 * yA c) 0 fkr)) (sub (256 * yA c) (64 * 8) fq) (sub (256 * yA c) (32 * 8) fqr) (sub (256 * yA c) (64 * 8) (gA KA)))) rfl) $$ HSC
  iintro HSC
  iapply (rdQ fkr fq fqr (gA KA) (h := 9) c (of118 c)) $$ HSC
  iintro HSC
  iapply (rdQR fkr fq fqr (gA KA) (h := 9) c (of119 c)) $$ HSC
  iintro HSC
  iapply (rdA fkr fq fqr (gA KA) (h := 9) c (of118 c) (Finset.subset_univ _)) $$ HSC
  iintro HSC
  iapply (rdP fkr fq fqr (gA KA) c (of120 c)) $$ HSC
  iintro %v2502
  iintro HSC
  iapply (wrS fkr fq fqr (gA KA) 9 c (by decide) (of120 c) ((k0_pay52 ((sub (256 * yA c) 0 fkr)) (sub (256 * yA c) (64 * 9) fq) (sub (256 * yA c) (32 * 9) fqr) (sub (256 * yA c) (64 * 9) (gA KA)))) rfl) $$ HSC
  iintro HSC
  iapply (rdQ fkr fq fqr (gA KA) (h := 10) c (of121 c)) $$ HSC
  iintro HSC
  iapply wp_done c
  iapply Hk
  iexact HSC

theorem part69 (fkr : S512x32.Idx → Elt F .bf16) (fq : S512x1024.Idx → Elt F .bf16) (fqr : S512x512.Idx → Elt F .bf16) (v2312 : BitVec 32) (c : Dev nD) {Q : (Σ' (v2546 : Vec F S256x32 .bf16), FVec F S256x256 .f32) → sProp 𝕄} :
    iprop(SC fkr fq fqr (gA KA) Finset.univ fullShare 26 c) ⊢ iprop(((SC fkr fq fqr (gA KA) Finset.univ fullShare 28 c) -∗ Q ⟨((sub (256 * yA c) (32 * 12) fqr)), (k0_pay55 (sub (256 * yA c) (64 * 12) fq) (sub (256 * yA c) (64 * 12) (gA KA)))⟩) -∗ WP c (k0_part69 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v2312 ((sub (256 * yA c) 0 fkr)) ((sub (256 * yA c) (64 * 10) fq))) Q) := by
  rw [k0_part69_eq_skeleton]; unfold k0_part69_skel
  simp only [semSignalWord, semWaitWord, Prog.lift, Prog.bind_op, Prog.bind_ret, Prog.pure_eq_ret, wp_deviceId]
  iintro ⟨HSC⟩ Hk
  iapply (rdQR fkr fq fqr (gA KA) (h := 10) c (of122 c)) $$ HSC
  iintro HSC
  iapply (rdA fkr fq fqr (gA KA) (h := 10) c (of121 c) (Finset.subset_univ _)) $$ HSC
  iintro HSC
  iapply (rdP fkr fq fqr (gA KA) c (of123 c)) $$ HSC
  iintro %v2521
  iintro HSC
  iapply (wrS fkr fq fqr (gA KA) 10 c (by decide) (of123 c) ((k0_pay53 ((sub (256 * yA c) 0 fkr)) ((sub (256 * yA c) (64 * 10) fq)) (sub (256 * yA c) (32 * 10) fqr) (sub (256 * yA c) (64 * 10) (gA KA)))) rfl) $$ HSC
  iintro HSC
  iapply (rdQ fkr fq fqr (gA KA) (h := 11) c (of124 c)) $$ HSC
  iintro HSC
  iapply (rdQR fkr fq fqr (gA KA) (h := 11) c (of125 c)) $$ HSC
  iintro HSC
  iapply (rdA fkr fq fqr (gA KA) (h := 11) c (of124 c) (Finset.subset_univ _)) $$ HSC
  iintro HSC
  iapply (rdP fkr fq fqr (gA KA) c (of126 c)) $$ HSC
  iintro %v2540
  iintro HSC
  iapply (wrS fkr fq fqr (gA KA) 11 c (by decide) (of126 c) ((k0_pay54 ((sub (256 * yA c) 0 fkr)) (sub (256 * yA c) (64 * 11) fq) (sub (256 * yA c) (32 * 11) fqr) (sub (256 * yA c) (64 * 11) (gA KA)))) rfl) $$ HSC
  iintro HSC
  iapply (rdQ fkr fq fqr (gA KA) (h := 12) c (of127 c)) $$ HSC
  iintro HSC
  iapply (rdQR fkr fq fqr (gA KA) (h := 12) c (of128 c)) $$ HSC
  iintro HSC
  iapply (rdA fkr fq fqr (gA KA) (h := 12) c (of127 c) (Finset.subset_univ _)) $$ HSC
  iintro HSC
  iapply wp_done c
  iapply Hk
  iexact HSC

theorem part70 (fkr : S512x32.Idx → Elt F .bf16) (fq : S512x1024.Idx → Elt F .bf16) (fqr : S512x512.Idx → Elt F .bf16) (v2312 : BitVec 32) (c : Dev nD) {Q : (Σ' (v2590 : FVec F S256x256 .f32), FVec F S256 .f32) → sProp 𝕄} :
    iprop(SC fkr fq fqr (gA KA) Finset.univ fullShare 28 c) ⊢ iprop(((SC fkr fq fqr (gA KA) Finset.univ fullShare 30 c) -∗ Q ⟨(k0_pay58 ((sub (256 * yA c) 0 fkr)) (sub (256 * yA c) (64 * 14) fq) (sub (256 * yA c) (32 * 14) fqr) (sub (256 * yA c) (64 * 14) (gA KA))), (k0_pay59 ((sub (256 * yA c) 0 fkr)) (sub (256 * yA c) (64 * 14) fq) (sub (256 * yA c) (32 * 14) fqr) (sub (256 * yA c) (64 * 14) (gA KA)))⟩) -∗ WP c (k0_part70 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v2312 ((sub (256 * yA c) 0 fkr)) ((sub (256 * yA c) (32 * 12) fqr)) (k0_pay55 (sub (256 * yA c) (64 * 12) fq) (sub (256 * yA c) (64 * 12) (gA KA)))) Q) := by
  rw [k0_part70_eq_skeleton]; unfold k0_part70_skel
  simp only [semSignalWord, semWaitWord, Prog.lift, Prog.bind_op, Prog.bind_ret, Prog.pure_eq_ret, wp_deviceId]
  iintro ⟨HSC⟩ Hk
  iapply (rdP fkr fq fqr (gA KA) c (of129 c)) $$ HSC
  iintro %v2559
  iintro HSC
  iapply (wrS fkr fq fqr (gA KA) 12 c (by decide) (of129 c) ((k0_pay56 ((sub (256 * yA c) 0 fkr)) ((sub (256 * yA c) (32 * 12) fqr)) (k0_pay55 (sub (256 * yA c) (64 * 12) fq) (sub (256 * yA c) (64 * 12) (gA KA))))) rfl) $$ HSC
  iintro HSC
  iapply (rdQ fkr fq fqr (gA KA) (h := 13) c (of130 c)) $$ HSC
  iintro HSC
  iapply (rdQR fkr fq fqr (gA KA) (h := 13) c (of131 c)) $$ HSC
  iintro HSC
  iapply (rdA fkr fq fqr (gA KA) (h := 13) c (of130 c) (Finset.subset_univ _)) $$ HSC
  iintro HSC
  iapply (rdP fkr fq fqr (gA KA) c (of132 c)) $$ HSC
  iintro %v2578
  iintro HSC
  iapply (wrS fkr fq fqr (gA KA) 13 c (by decide) (of132 c) ((k0_pay57 ((sub (256 * yA c) 0 fkr)) (sub (256 * yA c) (64 * 13) fq) (sub (256 * yA c) (32 * 13) fqr) (sub (256 * yA c) (64 * 13) (gA KA)))) rfl) $$ HSC
  iintro HSC
  iapply (rdQ fkr fq fqr (gA KA) (h := 14) c (of133 c)) $$ HSC
  iintro HSC
  iapply (rdQR fkr fq fqr (gA KA) (h := 14) c (of134 c)) $$ HSC
  iintro HSC
  iapply (rdA fkr fq fqr (gA KA) (h := 14) c (of133 c) (Finset.subset_univ _)) $$ HSC
  iintro HSC
  iapply wp_done c
  iapply Hk
  iexact HSC

theorem part71 (fkr : S512x32.Idx → Elt F .bf16) (fq : S512x1024.Idx → Elt F .bf16) (fqr : S512x512.Idx → Elt F .bf16) (v433 : BitVec 32) (v2312 : BitVec 32) (c : Dev nD) {Q : (PUnit) → sProp 𝕄} :
    iprop(env KA KB K ∗ SC fkr fq fqr (gA KA) Finset.univ fullShare 30 c ∗ owing F 0 c ∗ mid F 25 c) ⊢ iprop(((SC fkr fq fqr (gA KA) Finset.univ fullShare 32 c ∗ owing F 0 c ∗ fin F 25 c ∗ pt cc0_scratch1 c (RB 4 c) fullShare.right (gB KB) ∗ pt cc0_scratch1 c (RB 4 (px 3 c)) fullShare (gB KB)) -∗ Q ⟨⟩) -∗ WP c (k0_part71 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 c v433 v2312 ((sub (256 * yA c) 0 fkr)) (k0_pay58 ((sub (256 * yA c) 0 fkr)) (sub (256 * yA c) (64 * 14) fq) (sub (256 * yA c) (32 * 14) fqr) (sub (256 * yA c) (64 * 14) (gA KA))) (k0_pay59 ((sub (256 * yA c) 0 fkr)) (sub (256 * yA c) (64 * 14) fq) (sub (256 * yA c) (32 * 14) fqr) (sub (256 * yA c) (64 * 14) (gA KA)))) Q) := by
  rw [k0_part71_eq_skeleton]; unfold k0_part71_skel
  simp only [semSignalWord, semWaitWord, Prog.lift, Prog.bind_op, Prog.bind_ret, Prog.pure_eq_ret, wp_deviceId]
  iintro ⟨#He, HSC, HO, HT25⟩ Hk
  iapply (rdP fkr fq fqr (gA KA) c (of135 c)) $$ HSC
  iintro %v2597
  iintro HSC
  iapply (wrS fkr fq fqr (gA KA) 14 c (by decide) (of135 c) ((k0_pay60 (k0_pay58 ((sub (256 * yA c) 0 fkr)) (sub (256 * yA c) (64 * 14) fq) (sub (256 * yA c) (32 * 14) fqr) (sub (256 * yA c) (64 * 14) (gA KA))) (k0_pay59 ((sub (256 * yA c) 0 fkr)) (sub (256 * yA c) (64 * 14) fq) (sub (256 * yA c) (32 * 14) fqr) (sub (256 * yA c) (64 * 14) (gA KA))))) rfl) $$ HSC
  iintro HSC
  iapply (rdQ fkr fq fqr (gA KA) (h := 15) c (of136 c)) $$ HSC
  iintro HSC
  iapply (rdQR fkr fq fqr (gA KA) (h := 15) c (of137 c)) $$ HSC
  iintro HSC
  iapply (rdA fkr fq fqr (gA KA) (h := 15) c (of136 c) (Finset.subset_univ _)) $$ HSC
  iintro HSC
  iapply (rdP fkr fq fqr (gA KA) c (of138 c)) $$ HSC
  iintro %v2616
  iintro HSC
  iapply (wrS fkr fq fqr (gA KA) 15 c (by decide) (of138 c) ((k0_pay61 ((sub (256 * yA c) 0 fkr)) (sub (256 * yA c) (64 * 15) fq) (sub (256 * yA c) (32 * 15) fqr) (sub (256 * yA c) (64 * 15) (gA KA)))) rfl) $$ HSC
  iintro HSC
  iapply (wS_25 KA KB K c 0) $$ [HO HT25]
  · isplitl []; · iexact He
    isplitl [HO]; · iexact HO
    iexact HT25
  iintro ⟨HO, HT25, HP25⟩
  iapply (wR_25 KA KB K c 0 (by decide)) $$ [HO HT25]
  · isplitl []; · iexact He
    isplitl [HO]; · iexact HO
    iexact HT25
  iintro ⟨HO, HT25, HL25⟩
  iapply wp_done c
  iapply Hk
  isplitl [HSC]; · iexact HSC
  isplitl [HO]; · iexact HO
  isplitl [HT25]; · iexact HT25
  isplitl [HP25]; · iexact HP25
  iexact HL25

theorem part72 (X7 : S1024x1024.Idx → Elt F .bf16) (fkr : S512x32.Idx → Elt F .bf16) (fq : S512x1024.Idx → Elt F .bf16) (fqr : S512x512.Idx → Elt F .bf16)  (c : Dev nD) {Q : (Σ' (v2630 : FVec F S1024x1024 .bf16) (v2634 : FVec F S256x64 .bf16) (v2638 : FVec F S256x64 .bf16) (v2642 : FVec F S256x64 .bf16) (v2646 : FVec F S256x64 .bf16) (v2650 : FVec F S256x64 .bf16), FVec F S256x64 .bf16) → sProp 𝕄} :
    iprop(pt cc0_stg7_0 c Finset.univ fullShare X7 ∗ pt cc0_scratch1 c Finset.univ fullShare (gB KB) ∗ pt cc0_scratch17 c Finset.univ fullShare (PRM fkr fq fqr (gA KA))) ⊢ iprop(((pt cc0_stg7_0 c Finset.univ fullShare X7 ∗ pt cc0_scratch1 c Finset.univ fullShare (gB KB) ∗ pt cc0_scratch17 c Finset.univ fullShare (PRM fkr fq fqr (gA KA))) -∗ Q ⟨(k0_pay62 (X7)), (k0_pay63 (sub 0 0 (gB KB)) (sub 0 0 (PRM fkr fq fqr (gA KA)))), (k0_pay64 (sub 0 64 (gB KB)) (sub 0 256 (PRM fkr fq fqr (gA KA)))), (k0_pay65 (sub 0 128 (gB KB)) (sub 0 512 (PRM fkr fq fqr (gA KA)))), (k0_pay66 (sub 0 192 (gB KB)) (sub 0 768 (PRM fkr fq fqr (gA KA)))), (k0_pay67 (sub 0 256 (gB KB)) (sub 0 1024 (PRM fkr fq fqr (gA KA)))), (k0_pay68 (sub 0 320 (gB KB)) (sub 0 1280 (PRM fkr fq fqr (gA KA))))⟩) -∗ WP c (k0_part72 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27) Q) := by
  rw [k0_part72_eq_skeleton]; unfold k0_part72_skel
  simp only [semSignalWord, semWaitWord, Prog.lift, Prog.bind_op, Prog.bind_ret, Prog.pure_eq_ret, wp_deviceId]
  iintro ⟨HX7, HGB, HPR⟩ Hk
  iapply (read_whole c hz2) $$ HX7
  iintro HX7
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply wp_done c
  iapply Hk
  isplitl [HX7]; · iexact HX7
  isplitl [HGB]; · iexact HGB
  iexact HPR

theorem part73 (fkr : S512x32.Idx → Elt F .bf16) (fq : S512x1024.Idx → Elt F .bf16) (fqr : S512x512.Idx → Elt F .bf16)  (c : Dev nD) {Q : (Σ' (v2658 : FVec F S256x64 .bf16) (v2662 : FVec F S256x64 .bf16) (v2666 : FVec F S256x64 .bf16) (v2670 : FVec F S256x64 .bf16) (v2674 : FVec F S256x64 .bf16) (v2678 : FVec F S256x64 .bf16), FVec F S256x64 .f32) → sProp 𝕄} :
    iprop(pt cc0_scratch1 c Finset.univ fullShare (gB KB) ∗ pt cc0_scratch17 c Finset.univ fullShare (PRM fkr fq fqr (gA KA))) ⊢ iprop(((pt cc0_scratch1 c Finset.univ fullShare (gB KB) ∗ pt cc0_scratch17 c Finset.univ fullShare (PRM fkr fq fqr (gA KA))) -∗ Q ⟨(k0_pay69 (sub 0 384 (gB KB)) (sub 0 1536 (PRM fkr fq fqr (gA KA)))), (k0_pay70 (sub 0 448 (gB KB)) (sub 0 1792 (PRM fkr fq fqr (gA KA)))), (k0_pay71 (sub 0 512 (gB KB)) (sub 0 2048 (PRM fkr fq fqr (gA KA)))), (k0_pay72 (sub 0 576 (gB KB)) (sub 0 2304 (PRM fkr fq fqr (gA KA)))), (k0_pay73 (sub 0 640 (gB KB)) (sub 0 2560 (PRM fkr fq fqr (gA KA)))), (k0_pay74 (sub 0 704 (gB KB)) (sub 0 2816 (PRM fkr fq fqr (gA KA)))), (k0_pay75 (sub 0 768 (gB KB)) (sub 0 3072 (PRM fkr fq fqr (gA KA))))⟩) -∗ WP c (k0_part73 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27) Q) := by
  rw [k0_part73_eq_skeleton]; unfold k0_part73_skel
  simp only [semSignalWord, semWaitWord, Prog.lift, Prog.bind_op, Prog.bind_ret, Prog.pure_eq_ret, wp_deviceId]
  iintro ⟨HGB, HPR⟩ Hk
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply wp_done c
  iapply Hk
  isplitl [HGB]; · iexact HGB
  iexact HPR

theorem part74 (fkr : S512x32.Idx → Elt F .bf16) (fq : S512x1024.Idx → Elt F .bf16) (fqr : S512x512.Idx → Elt F .bf16) (z8 : S512x1024.Idx → Elt F .f32) (v2630 : FVec F S1024x1024 .bf16) (v2634 : FVec F S256x64 .bf16) (v2638 : FVec F S256x64 .bf16) (v2642 : FVec F S256x64 .bf16) (v2646 : FVec F S256x64 .bf16) (v2650 : FVec F S256x64 .bf16) (v2654 : FVec F S256x64 .bf16) (v2658 : FVec F S256x64 .bf16) (v2662 : FVec F S256x64 .bf16) (v2666 : FVec F S256x64 .bf16) (v2670 : FVec F S256x64 .bf16) (v2674 : FVec F S256x64 .bf16) (v2678 : FVec F S256x64 .bf16) (v2681 : FVec F S256x64 .f32) (c : Dev nD) {Q : (Σ' (v2701 : FVec F S256x64 .bf16) (v2705 : FVec F S256x64 .bf16) (v2706 : Vec F S256x64 .bf16) (v2707 : Vec F S256x256 .bf16), FVec F S256x64 .f32) → sProp 𝕄} :
    iprop(pt cc0_scratch1 c Finset.univ fullShare (gB KB) ∗ pt cc0_scratch17 c Finset.univ fullShare (PRM fkr fq fqr (gA KA)) ∗ pt cc0_stg8_0 c Finset.univ fullShare z8) ⊢ iprop((∀ (g : S512x1024.Idx → Elt F .f32), ⌜(∀ y : S256x1024.Idx, g (matAt (0 + (y 0).val) (0 + (y 1).val)) = (k0_pay76 v2630 v2634 v2638 v2642 v2646 v2650 v2654 v2658 v2662 v2666 v2670 v2674 v2678 v2681 (sub 0 832 (gB KB)) (sub 0 3328 (PRM fkr fq fqr (gA KA))) (sub 0 896 (gB KB)) (sub 0 3584 (PRM fkr fq fqr (gA KA))) (sub 0 960 (gB KB)) (sub 0 3840 (PRM fkr fq fqr (gA KA)))) y)⌝ -∗ (pt cc0_scratch1 c Finset.univ fullShare (gB KB) ∗ pt cc0_scratch17 c Finset.univ fullShare (PRM fkr fq fqr (gA KA)) ∗ pt cc0_stg8_0 c Finset.univ fullShare g) -∗ Q ⟨(k0_pay77 (sub 256 0 (gB KB)) (sub 256 0 (PRM fkr fq fqr (gA KA)))), (k0_pay78 (sub 256 64 (gB KB)) (sub 256 256 (PRM fkr fq fqr (gA KA)))), ((sub 256 128 (gB KB))), ((sub 256 512 (PRM fkr fq fqr (gA KA)))), (constant S256x64 .f32 0x00000000#32)⟩) -∗ WP c (k0_part74 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 v2630 v2634 v2638 v2642 v2646 v2650 v2654 v2658 v2662 v2666 v2670 v2674 v2678 v2681) Q) := by
  rw [k0_part74_eq_skeleton]; unfold k0_part74_skel
  simp only [semSignalWord, semWaitWord, Prog.lift, Prog.bind_op, Prog.bind_ret, Prog.pure_eq_ret, wp_deviceId]
  iintro ⟨HGB, HPR, HOUT⟩ Hk
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply (ld_g8 c rfl (Finset.subset_univ _)) $$ HOUT
  iintro HOUT
  iapply (sb_g8 c rfl) $$ HOUT
  iintro %g %hg HOUT
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply wp_done c
  iapply Hk $$ %g %(fun y => hg.1 y)
  isplitl [HGB]; · iexact HGB
  isplitl [HPR]; · iexact HPR
  iexact HOUT

theorem part75 (fkr : S512x32.Idx → Elt F .bf16) (fq : S512x1024.Idx → Elt F .bf16) (fqr : S512x512.Idx → Elt F .bf16) (v2706 : Vec F S256x64 .bf16) (v2707 : Vec F S256x256 .bf16) (cst_1545 : FVec F S256x64 .f32) (c : Dev nD) {Q : (Σ' (v2709 : FVec F S256x64 .bf16) (v2713 : FVec F S256x64 .bf16) (v2717 : FVec F S256x64 .bf16) (v2721 : FVec F S256x64 .bf16) (v2725 : FVec F S256x64 .bf16) (v2729 : FVec F S256x64 .bf16) (v2733 : FVec F S256x64 .bf16), Vec F S256x64 .bf16) → sProp 𝕄} :
    iprop(pt cc0_scratch1 c Finset.univ fullShare (gB KB) ∗ pt cc0_scratch17 c Finset.univ fullShare (PRM fkr fq fqr (gA KA))) ⊢ iprop(((pt cc0_scratch1 c Finset.univ fullShare (gB KB) ∗ pt cc0_scratch17 c Finset.univ fullShare (PRM fkr fq fqr (gA KA))) -∗ Q ⟨(k0_pay79 v2706 v2707 cst_1545), (k0_pay80 (sub 256 192 (gB KB)) (sub 256 768 (PRM fkr fq fqr (gA KA)))), (k0_pay81 (sub 256 256 (gB KB)) (sub 256 1024 (PRM fkr fq fqr (gA KA)))), (k0_pay82 (sub 256 320 (gB KB)) (sub 256 1280 (PRM fkr fq fqr (gA KA)))), (k0_pay83 (sub 256 384 (gB KB)) (sub 256 1536 (PRM fkr fq fqr (gA KA)))), (k0_pay84 (sub 256 448 (gB KB)) (sub 256 1792 (PRM fkr fq fqr (gA KA)))), (k0_pay85 (sub 256 512 (gB KB)) (sub 256 2048 (PRM fkr fq fqr (gA KA)))), ((sub 256 576 (gB KB)))⟩) -∗ WP c (k0_part75 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 v2706 v2707 cst_1545) Q) := by
  rw [k0_part75_eq_skeleton]; unfold k0_part75_skel
  simp only [semSignalWord, semWaitWord, Prog.lift, Prog.bind_op, Prog.bind_ret, Prog.pure_eq_ret, wp_deviceId]
  iintro ⟨HGB, HPR⟩ Hk
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply wp_done c
  iapply Hk
  isplitl [HGB]; · iexact HGB
  iexact HPR

theorem part76 (fkr : S512x32.Idx → Elt F .bf16) (fq : S512x1024.Idx → Elt F .bf16) (fqr : S512x512.Idx → Elt F .bf16) (v2701 : FVec F S256x64 .bf16) (v2705 : FVec F S256x64 .bf16) (v2709 : FVec F S256x64 .bf16) (v2713 : FVec F S256x64 .bf16) (v2717 : FVec F S256x64 .bf16) (v2721 : FVec F S256x64 .bf16) (v2725 : FVec F S256x64 .bf16) (v2729 : FVec F S256x64 .bf16) (v2733 : FVec F S256x64 .bf16) (v2734 : Vec F S256x64 .bf16) (c : Dev nD) {Q : (FVec F S256x1024 .bf16) → sProp 𝕄} :
    iprop(pt cc0_scratch17 c Finset.univ fullShare (PRM fkr fq fqr (gA KA)) ∗ pt cc0_scratch1 c Finset.univ fullShare (gB KB)) ⊢ iprop(((pt cc0_scratch17 c Finset.univ fullShare (PRM fkr fq fqr (gA KA)) ∗ pt cc0_scratch1 c Finset.univ fullShare (gB KB)) -∗ Q ((k0_pay86 v2701 v2705 v2709 v2713 v2717 v2721 v2725 v2729 v2733 v2734 (sub 256 2304 (PRM fkr fq fqr (gA KA))) (sub 256 640 (gB KB)) (sub 256 2560 (PRM fkr fq fqr (gA KA))) (sub 256 704 (gB KB)) (sub 256 2816 (PRM fkr fq fqr (gA KA))) (sub 256 768 (gB KB)) (sub 256 3072 (PRM fkr fq fqr (gA KA))) (sub 256 832 (gB KB)) (sub 256 3328 (PRM fkr fq fqr (gA KA))) (sub 256 896 (gB KB)) (sub 256 3584 (PRM fkr fq fqr (gA KA))) (sub 256 960 (gB KB)) (sub 256 3840 (PRM fkr fq fqr (gA KA)))))) -∗ WP c (k0_part76 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27 v2701 v2705 v2709 v2713 v2717 v2721 v2725 v2729 v2733 v2734) Q) := by
  rw [k0_part76_eq_skeleton]; unfold k0_part76_skel
  simp only [semSignalWord, semWaitWord, Prog.lift, Prog.bind_op, Prog.bind_ret, Prog.pure_eq_ret, wp_deviceId]
  iintro ⟨HPR, HGB⟩ Hk
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply (ld_1_256x64 c rfl (Finset.subset_univ _)) $$ HGB
  iintro HGB
  iapply (ld_17_256x256 c rfl (Finset.subset_univ _)) $$ HPR
  iintro HPR
  iapply wp_done c
  iapply Hk
  isplitl [HPR]; · iexact HPR
  iexact HGB

end Cert.KernelIdealProof
-- ==== Proof.KernelIdealFirst.lean ====
/-
The kernel from its first operation to its last: the parts put together.
-/
module

public import proofs.«01_k».proof.Proof.KernelIdealPartsB
public import proofs.«01_k».proof.Proof.KernelIdealPartsC

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (KA KB : Dev nD → Mat F) (K : Dev nD × Fin 53 → ℕ)

variable {h0 : (Memref.whole cc0_stg0_0).IsWhole} {h1 : (Memref.whole cc0_stg1_0).IsWhole} {h2 : (Memref.whole cc0_stg2_0).IsWhole} {h3 : (Memref.whole cc0_stg3_0).IsWhole} {h4 : (Memref.whole cc0_stg4_0).IsWhole} {h5 : (Memref.whole cc0_stg5_0).IsWhole} {h6 : (Memref.whole cc0_stg6_0).IsWhole} {h7 : (Memref.whole cc0_stg7_0).IsWhole} {h8 : (Memref.whole cc0_stg8_0).IsWhole}
  {h9 : (Memref.whole cc0_scratch0).IsWhole} {h10 : (Memref.whole cc0_scratch1).IsWhole} {h11 : (Memref.whole cc0_scratch2).IsWhole} {h12 : (Memref.whole cc0_scratch3).IsWhole} {h13 : (Memref.whole cc0_scratch4).IsWhole} {h14 : (Memref.whole cc0_scratch5).IsWhole} {h15 : (Memref.whole cc0_scratch6).IsWhole} {h16 : (Memref.whole cc0_scratch7).IsWhole} {h17 : (Memref.whole cc0_scratch8).IsWhole} {h18 : (Memref.whole cc0_scratch9).IsWhole} {h19 : (Memref.whole cc0_scratch10).IsWhole} {h20 : (Memref.whole cc0_scratch11).IsWhole} {h21 : (Memref.whole cc0_scratch12).IsWhole} {h22 : (Memref.whole cc0_scratch13).IsWhole} {h23 : (Memref.whole cc0_scratch14).IsWhole} {h24 : (Memref.whole cc0_scratch15).IsWhole} {h25 : (Memref.whole cc0_scratch16).IsWhole} {h26 : (Memref.whole cc0_scratch17).IsWhole}

/-- One program after another. -/
theorem wp_seq (c : Dev nD) {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := Entails.of_eq (wp_bind (Fr := frame) (wpE := wpE (defs₀ (F := F)) 𝒱₀ (c : Thread nD τ) none) (E := Set.univ) (p := p) (k := k) (Q := Q)).symm

theorem bars_0 (c : Dev nD) : barPay (F := F) c 0 ⊢ iprop(own (F := F) cc0_scratch2 (px 1 c) Finset.univ ∗ own (F := F) cc0_scratch11 (px 1 c) Finset.univ) := BIBase.Entails.rfl
theorem bars_1 (c : Dev nD) : barPay (F := F) c 1 ⊢ iprop(own (F := F) cc0_scratch3 (px 3 c) Finset.univ ∗ own (F := F) cc0_scratch5 (px 3 c) Finset.univ) := BIBase.Entails.rfl
theorem bars_2 (c : Dev nD) : barPay (F := F) c 2 ⊢ iprop(own (F := F) cc0_scratch4 (px 4 c) Finset.univ ∗ own (F := F) cc0_scratch12 (px 4 c) Finset.univ) := BIBase.Entails.rfl
theorem bars_3 (c : Dev nD) : barPay (F := F) c 3 ⊢ iprop(own (F := F) cc0_scratch8 (px 8 c) Finset.univ ∗ own (F := F) cc0_scratch6 (px 8 c) Finset.univ) := BIBase.Entails.rfl
theorem bars_4 (c : Dev nD) : barPay (F := F) c 4 ⊢ iprop(own (F := F) cc0_scratch9 (px 16 c) Finset.univ ∗ own (F := F) cc0_scratch7 (px 16 c) Finset.univ) := BIBase.Entails.rfl
theorem bars_5 (c : Dev nD) : barPay (F := F) c 5 ⊢ iprop(own (F := F) cc0_scratch10 (px 24 c) Finset.univ) := BIBase.Entails.rfl
theorem bars_6 (c : Dev nD) : barPay (F := F) c 6 ⊢ iprop(own (F := F) cc0_scratch13 (px 5 c) Finset.univ) := BIBase.Entails.rfl

/-- What a device starts with: the words of the barrier and of the transfers, and the buffers, -/
def start (W : Waits sig Unit) (X0 : S2x256x1024.Idx → Elt F .bf16) (X1 : S1024x64.Idx → Elt F .bf16) (X2 X3 : S64x1024.Idx → Elt F .bf16) (X4 : S1024x1024.Idx → Elt F .bf16) (X5 : S1024x512.Idx → Elt F .bf16) (X6 : S1024x32.Idx → Elt F .bf16)
    (z0 z1 : Mat F) (z14 : S512x1024.Idx → Elt F .bf16) (z15 : S512x512.Idx → Elt F .bf16) (z16 : S512x32.Idx → Elt F .bf16) (z17 : S512x4096.Idx → Elt F .bf16) (c : Dev nD) : sProp 𝕄 :=
  iprop(owes (c : Thread nD τ) (Obk 7 c) W ∗ dutyTok ER (cell 0 (px 1 c)) 0 0 ∗ barPay (F := F) (px 1 c) 0 ∗ dutyTok ER (cell 0 (px 3 c)) 0 1 ∗ barPay (F := F) (px 3 c) 1 ∗ dutyTok ER (cell 0 (px 4 c)) 0 2 ∗ barPay (F := F) (px 4 c) 2 ∗ dutyTok ER (cell 0 (px 8 c)) 0 3 ∗ barPay (F := F) (px 8 c) 3 ∗ dutyTok ER (cell 0 (px 16 c)) 0 4 ∗ barPay (F := F) (px 16 c) 4 ∗ dutyTok ER (cell 0 (px 24 c)) 0 5 ∗ barPay (F := F) (px 24 c) 5 ∗ dutyTok ER (cell 0 (px 5 c)) 0 6 ∗ barPay (F := F) (px 5 c) 6 ∗ cred (tallyAt (cell 0 c) () 7) ∗ atPos ER (cell 0 c) 0 ∅ 0 ∗ pre F 0 c ∗ pre F 1 c ∗ pre F 2 c ∗ pre F 3 c ∗ pre F 4 c ∗ pre F 5 c ∗ pre F 6 c ∗ pre F 7 c ∗ pre F 8 c ∗ pre F 9 c ∗ pre F 10 c ∗ pre F 11 c ∗ pre F 12 c ∗ pre F 13 c ∗ pre F 14 c ∗ pre F 15 c ∗ pre F 16 c ∗ pre F 17 c ∗ pre F 18 c ∗ pre F 19 c ∗ pre F 20 c ∗ pre F 21 c ∗ pre F 22 c ∗ pre F 23 c ∗ pre F 24 c ∗ pre F 25 c ∗ pt cc0_stg0_0 c Finset.univ fullShare X0 ∗ pt cc0_stg1_0 c Finset.univ fullShare X1 ∗ pt cc0_stg2_0 c Finset.univ fullShare X2 ∗ pt cc0_stg3_0 c Finset.univ fullShare X3 ∗ pt cc0_stg4_0 c Finset.univ fullShare X4 ∗ pt cc0_stg5_0 c Finset.univ fullShare X5 ∗ pt cc0_stg6_0 c Finset.univ fullShare X6 ∗ pt cc0_scratch0 c Finset.univ fullShare z0 ∗ pt cc0_scratch1 c Finset.univ fullShare z1 ∗ pt cc0_scratch14 c Finset.univ fullShare z14 ∗ pt cc0_scratch15 c Finset.univ fullShare z15 ∗ pt cc0_scratch16 c Finset.univ fullShare z16 ∗ pt cc0_scratch17 c Finset.univ fullShare z17)

/-- and what it holds when the gathers of the first sum are under way. -/
def midway (X0 : S2x256x1024.Idx → Elt F .bf16) (X1 : S1024x64.Idx → Elt F .bf16) (X2 X3 : S64x1024.Idx → Elt F .bf16) (X4 : S1024x1024.Idx → Elt F .bf16) (X5 : S1024x512.Idx → Elt F .bf16) (X6 : S1024x32.Idx → Elt F .bf16) (fkr : S512x32.Idx → Elt F .bf16) (fq : S512x1024.Idx → Elt F .bf16) (fqr : S512x512.Idx → Elt F .bf16) (c : Dev nD) : sProp 𝕄 :=
  iprop(owing F 0 c ∗ semVal (cell 0 c) 0 ∗ fin F 0 c ∗ fin F 1 c ∗ fin F 2 c ∗ fin F 3 c ∗ fin F 4 c ∗ fin F 5 c ∗ fin F 6 c ∗ fin F 7 c ∗ fin F 8 c ∗ fin F 9 c ∗ fin F 10 c ∗ fin F 11 c ∗ fin F 12 c ∗ fin F 13 c ∗ fin F 14 c ∗ fin F 15 c ∗ fin F 16 c ∗ fin F 17 c ∗ fin F 18 c ∗ fin F 19 c ∗ fin F 20 c ∗ fin F 21 c ∗ fin F 22 c ∗ fin F 23 c ∗ mid F 24 c ∗ mid F 25 c ∗ pt cc0_stg0_0 c Finset.univ fullShare X0 ∗ pt cc0_stg1_0 c Finset.univ fullShare X1 ∗ pt cc0_stg2_0 c Finset.univ fullShare X2 ∗ pt cc0_stg3_0 c Finset.univ fullShare X3 ∗ pt cc0_stg4_0 c Finset.univ fullShare X4 ∗ pt cc0_stg5_0 c Finset.univ fullShare X5 ∗ pt cc0_stg6_0 c Finset.univ fullShare X6 ∗ SC fkr fq fqr (gA KA) (RA 4 c) fullShare.left 9 c ∗ pt cc0_scratch1 c (RB 4 c) fullShare.left (gB KB) ∗ pt cc0_scratch2 c (LA (sA c)) fullShare (shf (bA 4 c) (KA (px 1 c))) ∗ pt cc0_scratch2 c (LA (kA c)) fullShare (shf (bA 4 c) (KA (px 1 c))) ∗ pt cc0_scratch5 c (LA (sB c)) fullShare (shf (bB 4 c) (KB (px 3 c))) ∗ pt cc0_scratch5 c (LA (kB c)) fullShare (shf (bB 4 c) (KB (px 3 c))) ∗ pt cc0_scratch3 c (Finset.univ) fullShare (shf (bA 3 c) (tA1 KA (px 3 c))) ∗ pt cc0_scratch6 c (Finset.univ) fullShare (shf (bB 3 c) (tB1 KB (px 8 c))) ∗ pt cc0_scratch4 c (Finset.univ) fullShare (shf (bA 2 c) (tA2 KA (px 4 c))) ∗ pt cc0_scratch7 c (Finset.univ) fullShare (shf (bB 2 c) (tB2 KB (px 16 c))) ∗ pt cc0_scratch8 c (Finset.univ) fullShare (shf (bA 0 c) (tA3 KA (px 8 c))) ∗ pt cc0_scratch9 c (Finset.univ) fullShare (shf (bA 0 c) (tA3 KA (px 16 c))) ∗ pt cc0_scratch10 c (Finset.univ) fullShare (shf (bA 0 c) (tA3 KA (px 24 c))) ∗ pt cc0_scratch11 c (Finset.univ) fullShare (shf (bB 0 c) (tB3 KB (px 1 c))) ∗ pt cc0_scratch12 c (Finset.univ) fullShare (shf (bB 0 c) (tB3 KB (px 4 c))) ∗ pt cc0_scratch13 c (Finset.univ) fullShare (shf (bB 0 c) (tB3 KB (px 5 c))))

/-- The first sixty parts. -/
theorem run_first (c : Dev nD) (W : Waits sig Unit) (X0 : S2x256x1024.Idx → Elt F .bf16) (X1 : S1024x64.Idx → Elt F .bf16) (X2 X3 : S64x1024.Idx → Elt F .bf16) (X4 : S1024x1024.Idx → Elt F .bf16) (X5 : S1024x512.Idx → Elt F .bf16) (X6 : S1024x32.Idx → Elt F .bf16) (z0 z1 : Mat F) (z14 : S512x1024.Idx → Elt F .bf16) (z15 : S512x512.Idx → Elt F .bf16) (z16 : S512x32.Idx → Elt F .bf16) (z17 : S512x4096.Idx → Elt F .bf16)
    (fkr : S512x32.Idx → Elt F .bf16) (fq : S512x1024.Idx → Elt F .bf16) (fqr : S512x512.Idx → Elt F .bf16) (hKA : KA c = k0_pay4 (k0_pay2 X0) X1 X2) (hKB : KB c = k0_pay5 (k0_pay2 X0) X1 X3)
    (hq : fq = k0_pay6 (k0_pay2 X0) X4) (hqr : fqr = k0_pay7 (k0_pay2 X0) X5) (hkr : fkr = k0_pay8 (k0_pay2 X0) X6) {Q : (Σ' (d0 : Dev nD) (v57 : BitVec 32) (v194 : BitVec 32) (v433 : BitVec 32) (v1994 : BitVec 32) (v1996 : Vec F S256x32 .bf16), FVec F S256x256 .f32) → sProp 𝕄} :
    iprop(env KA KB K ∗ start W X0 X1 X2 X3 X4 X5 X6 z0 z1 z14 z15 z16 z17 c)
      ⊢ iprop((∀ (w1 w2 w3 w4 : BitVec 32), midway KA KB X0 X1 X2 X3 X4 X5 X6 fkr fq fqr c -∗ Q ⟨c, w1, w2, w3, w4, (sub (256 * xA c) 0 fkr), (k0_pay32 ((sub (256 * xA c) 0 fkr)) (sub (256 * xA c) (64 * 9) fq) (sub (256 * xA c) (32 * 9) fqr) (sub (256 * xA c) (64 * 9) (gA KA)))⟩)
        -∗ WP c (k0_part77 _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27) Q) := by
  unfold start midway
  rw [k0_part77_eq_skeleton]; unfold k0_part77_skel
  iintro ⟨#He, HO, HK0, HY0, HK1, HY1, HK2, HY2, HK3, HY3, HK4, HY4, HK5, HY5, HK6, HY6, HBC, HBA, HT0, HT1, HT2, HT3, HT4, HT5, HT6, HT7, HT8, HT9, HT10, HT11, HT12, HT13, HT14, HT15, HT16, HT17, HT18, HT19, HT20, HT21, HT22, HT23, HT24, HT25, HX0, HX1, HX2, HX3, HX4, HX5, HX6, HA, HB, HZ14, HZ15, HZ16, HR17⟩ Hk
  iapply (wp_seq c)
  iapply (part1 c)
  iintro %w1_1 %w2_1 %w3_1 %w4_1 %w5_1 %w6_1 %w7_1
  iapply (wp_seq c)
  iapply (part2 _ _ _ _ _ _ _ c)
  iintro %w0_2 %w1_2 %w2_2 %w3_2 %w4_2 %w5_2 %w6_2 %w7_2
  iapply (wp_seq c)
  iapply (part3 _ _ _ _ _ _ _ c)
  iintro %w0_3 %w1_3 %w2_3 %w3_3 %w4_3 %w5_3 %w6_3
  iapply (wp_seq c)
  iapply (part4 _ _ _ _ _ _ _ c)
  iintro %w0_4 %w1_4 %w2_4 %w3_4 %w4_4 %w5_4
  iapply (wp_seq c)
  iapply (part5 _ _ _ _ _ _ _ _ c)
  iintro %w0_5 %w1_5
  iapply (wp_seq c)
  iapply (part6 _ _ _ _ _ _ c)
  iintro %w0_6 %w1_6 %w2_6 %w3_6 %w4_6 %w5_6
  iapply (wp_seq c)
  iapply (part7 _ _ _ _ _ _ _ _ c)
  iintro %w0_7 %w1_7 %w2_7 %w3_7 %w4_7 %w5_7
  iapply (wp_seq c)
  iapply (part8 _ _ _ _ _ _ c)
  iintro %w0_8 %w1_8 %w2_8
  iapply (wp_seq c)
  iapply (part9 _ _ _ _ c)
  iintro %w0_9 %w1_9 %w2_9 %w3_9
  iapply (wp_seq c)
  iapply (part10 _ _ _ _ _ c)
  iintro %w0_10 %w1_10 %w2_10 %w3_10 %w4_10 %w5_10
  iapply (wp_seq c)
  iapply (part11 _ _ _ _ _ _ _ _ _ c)
  iintro %w0_11 %w1_11 %w2_11
  iapply (wp_seq c)
  iapply (part12 _ _ _ _ _ _ c)
  iintro %w0_12 %w1_12 %w2_12 %w3_12 %w4_12 %w5_12
  iapply (wp_seq c)
  iapply (part13 _ _ _ _ _ _ _ _ c)
  iintro %w0_13 %w1_13 %w2_13 %w3_13 %w4_13 %w5_13
  iapply (wp_seq c)
  iapply (part14 _ _ _ _ _ _ _ c)
  iintro %w0_14 %w1_14 %w2_14 %w3_14 %w4_14 %w5_14
  iapply (wp_seq c)
  iapply (part15 _ _ _ _ _ _ _ _ c)
  iintro %w0_15 %w1_15 %w2_15 %w3_15 %w4_15
  iapply (wp_seq c)
  iapply (part16 _ _ _ _ _ _ _ _ _ c)
  iintro %w0_16 %w1_16 %w2_16 %w3_16 %w4_16
  iapply (wp_seq c)
  iapply (part17 _ _ _ _ _ _ _ c)
  iintro %w0_17 %w1_17 %w2_17 %w3_17 %w4_17 %w5_17 %w6_17
  iapply (wp_seq c)
  iapply (part18 KA KB K X0 X1 W _ _ _ _ _ _ _ _ _ _ _ c) $$ [HO HK0 HY0 HK1 HY1 HK2 HY2 HK3 HY3 HK4 HY4 HK5 HY5 HK6 HY6 HX0 HX1]
  · isplitl []; · iexact He
    isplitl [HO]; · iexact HO
    isplitl [HK0]; · iexact HK0
    isplitl [HY0]; · iexact HY0
    isplitl [HK1]; · iexact HK1
    isplitl [HY1]; · iexact HY1
    isplitl [HK2]; · iexact HK2
    isplitl [HY2]; · iexact HY2
    isplitl [HK3]; · iexact HK3
    isplitl [HY3]; · iexact HY3
    isplitl [HK4]; · iexact HK4
    isplitl [HY4]; · iexact HY4
    isplitl [HK5]; · iexact HK5
    isplitl [HY5]; · iexact HY5
    isplitl [HK6]; · iexact HK6
    isplitl [HY6]; · iexact HY6
    isplitl [HX0]; · iexact HX0
    iexact HX1
  iintro  ⟨HO, HX0, HX1⟩
  iapply (wp_seq c)
  iapply (part19 KA KB K X2 X3 z0 z1 W _ _ _ c) $$ [HX2 HX3 HO HBC HBA HA HB]
  · isplitl []; · iexact He
    isplitl [HX2]; · iexact HX2
    isplitl [HX3]; · iexact HX3
    isplitl [HO]; · iexact HO
    isplitl [HBC]; · iexact HBC
    isplitl [HBA]; · iexact HBA
    isplitl [HA]; · iexact HA
    iexact HB
  iintro %w0_19 %w1_19 ⟨HX2, HX3, HO, HSB, HV0, HV1, HV2, HV3, HV4, HV5, HV6, HA, HB⟩
  ihave Hx := (Entails.of_eq (congrArg (fun f => pt cc0_scratch0 c Finset.univ fullShare f) hKA.symm)) $$ HA
  icases Hx with HA
  ihave Hx := (Entails.of_eq (congrArg (fun f => pt cc0_scratch1 c Finset.univ fullShare f) hKB.symm)) $$ HB
  icases Hx with HB
  ihave Hx := (accA KA c) $$ HA
  icases Hx with ⟨HP0, HP1, HP4, HA3b⟩
  ihave Hx := (accB KB c) $$ HB
  icases Hx with ⟨HP2, HP3, HP5, HB3b⟩
  ihave Hx := (bars_0 c) $$ HV0
  icases Hx with ⟨HU, HD11⟩
  ihave Hx := (landA c) $$ HU
  icases Hx with ⟨HD0, HD1⟩
  ihave Hx := (bars_1 c) $$ HV1
  icases Hx with ⟨HD4, HU⟩
  ihave Hx := (landB c) $$ HU
  icases Hx with ⟨HD2, HD3⟩
  ihave Hx := (bars_2 c) $$ HV2
  icases Hx with ⟨HD6, HD12⟩
  ihave Hx := (bars_3 c) $$ HV3
  icases Hx with ⟨HD8, HD5⟩
  ihave Hx := (bars_4 c) $$ HV4
  icases Hx with ⟨HD9, HD7⟩
  ihave Hx := (bars_5 c) $$ HV5
  icases Hx with HD10
  ihave Hx := (bars_6 c) $$ HV6
  icases Hx with HD13
  iapply (wp_seq c)
  iapply (part20 _ _ _ c)
  iintro %w0_20 %w1_20 %w2_20 %w3_20 %w4_20 %w5_20
  iapply (wp_seq c)
  iapply (part21 _ _ _ _ _ _ _ c)
  iintro %w0_21 %w1_21 %w2_21 %w3_21 %w4_21 %w5_21
  iapply (wp_seq c)
  iapply (part22 _ _ _ _ _ _ c)
  iintro %w0_22 %w1_22 %w2_22 %w3_22 %w4_22
  iapply (wp_seq c)
  iapply (part23 KA KB K _ _ _ _ _ _ _ _ c) $$ [HO HP0 HD0 HT0 HP1 HD1 HT1 HP2 HD2 HT2]
  · isplitl []; · iexact He
    isplitl [HO]; · iexact HO
    isplitl [HP0]; · iexact HP0
    isplitl [HD0]; · iexact HD0
    isplitl [HT0]; · iexact HT0
    isplitl [HP1]; · iexact HP1
    isplitl [HD1]; · iexact HD1
    isplitl [HT1]; · iexact HT1
    isplitl [HP2]; · iexact HP2
    isplitl [HD2]; · iexact HD2
    iexact HT2
  iintro  ⟨HO, HT0, HT1, HT2⟩
  iapply (wp_seq c)
  iapply (part24 KA KB K X4 X5 X6 z14 z15 z16 _ _ c) $$ [HO HP3 HD3 HT3 HX4 HZ14 HX5 HZ15 HX6 HZ16]
  · isplitl []; · iexact He
    isplitl [HO]; · iexact HO
    isplitl [HP3]; · iexact HP3
    isplitl [HD3]; · iexact HD3
    isplitl [HT3]; · iexact HT3
    isplitl [HX4]; · iexact HX4
    isplitl [HZ14]; · iexact HZ14
    isplitl [HX5]; · iexact HX5
    isplitl [HZ15]; · iexact HZ15
    isplitl [HX6]; · iexact HX6
    iexact HZ16
  iintro  ⟨HO, HT3, HX4, HZ14, HX5, HZ15, HX6, HZ16⟩
  ihave Hx := (Entails.of_eq (congrArg (fun f => pt cc0_scratch14 c Finset.univ fullShare f) hq.symm)) $$ HZ14
  icases Hx with HZ14
  ihave Hx := (Entails.of_eq (congrArg (fun f => pt cc0_scratch15 c Finset.univ fullShare f) hqr.symm)) $$ HZ15
  icases Hx with HZ15
  ihave Hx := (Entails.of_eq (congrArg (fun f => pt cc0_scratch16 c Finset.univ fullShare f) hkr.symm)) $$ HZ16
  icases Hx with HZ16
  iapply (wp_seq c)
  iapply (part25 KA KB K _ _ c) $$ [HO HT0]
  · isplitl []; · iexact He
    isplitl [HO]; · iexact HO
    iexact HT0
  iintro %w0_25 %w1_25 %w2_25 %w3_25 %w4_25 ⟨HO, HT0, HL0, HG0⟩
  iapply (wp_seq c)
  iapply (part26 KA _ _ _ _ _ _ c) $$ [HP4 HL0]
  · isplitl [HP4]; · iexact HP4
    iexact HL0
  iintro %w0_26 %w1_26 %w2_26 %w3_26 ⟨HP4, HL0⟩
  iapply (wp_seq c)
  iapply (part27 KA KB K _ _ _ _ _ _ c) $$ [HO HP4 HD4 HT4]
  · isplitl []; · iexact He
    isplitl [HO]; · iexact HO
    isplitl [HP4]; · iexact HP4
    isplitl [HD4]; · iexact HD4
    iexact HT4
  iintro  ⟨HO, HT4⟩
  iapply (wp_seq c)
  iapply (part28 KA KB K _ _ c) $$ [HO HT2]
  · isplitl []; · iexact He
    isplitl [HO]; · iexact HO
    iexact HT2
  iintro %w0_28 %w1_28 %w2_28 %w3_28 ⟨HO, HT2, HL2, HG2⟩
  iapply (wp_seq c)
  iapply (part29 KB _ _ _ _ _ c) $$ [HP5 HL2]
  · isplitl [HP5]; · iexact HP5
    iexact HL2
  iintro %w0_29 %w1_29 %w2_29 ⟨HP5, HL2⟩
  iapply (wp_seq c)
  iapply (part30 KA KB K _ _ _ _ _ _ c) $$ [HO HP5 HD5 HT5 HT1]
  · isplitl []; · iexact He
    isplitl [HO]; · iexact HO
    isplitl [HP5]; · iexact HP5
    isplitl [HD5]; · iexact HD5
    isplitl [HT5]; · iexact HT5
    iexact HT1
  iintro %w0_30 ⟨HO, HT5, HT1⟩
  iapply (wp_seq c)
  iapply (part31 KA KB K _ _ c) $$ [HO HT1]
  · isplitl []; · iexact He
    isplitl [HO]; · iexact HO
    iexact HT1
  iintro %w0_31 %w1_31 %w2_31 ⟨HO, HT1, HL1, HG1⟩
  ihave Hx := (backA c) $$ [HG0 HG1]
  · isplitl [HG0]; · iexact HG0
    iexact HG1
  icases Hx with HD24
  iapply (wp_seq c)
  iapply (part32 KA KB K _ _ _ _ c) $$ [HA3b HL1 HO HT3]
  · isplitl []; · iexact He
    isplitl [HA3b]; · iexact HA3b
    isplitl [HL1]; · iexact HL1
    isplitl [HO]; · iexact HO
    iexact HT3
  iintro  ⟨HA3b, HL1, HO, HT3⟩
  iapply (wp_seq c)
  iapply (part33 KA KB K _ c) $$ [HO HT3]
  · isplitl []; · iexact He
    isplitl [HO]; · iexact HO
    iexact HT3
  iintro %w0_33 %w1_33 %w2_33 %w3_33 %w4_33 %w5_33 ⟨HO, HT3, HL3, HG3⟩
  ihave Hx := (backB c) $$ [HG2 HG3]
  · isplitl [HG2]; · iexact HG2
    iexact HG3
  icases Hx with HD25
  iapply (wp_seq c)
  iapply (part34 KA KB K _ _ _ _ _ _ _ c) $$ [HB3b HL3 HO HT4]
  · isplitl []; · iexact He
    isplitl [HB3b]; · iexact HB3b
    isplitl [HL3]; · iexact HL3
    isplitl [HO]; · iexact HO
    iexact HT4
  iintro  ⟨HB3b, HL3, HO, HT4⟩
  iapply (wp_seq c)
  iapply (part35 KA KB K _ c) $$ [HO HT4 HA3b]
  · isplitl []; · iexact He
    isplitl [HO]; · iexact HO
    isplitl [HT4]; · iexact HT4
    iexact HA3b
  iintro %w0_35 %w1_35 %w2_35 ⟨HO, HT4, HL4, HG4, HA3b⟩
  ihave Hx := (halfA KA c) $$ HA3b
  icases Hx with ⟨HP6, HA2b⟩
  icases HG4 with HD22
  iapply (wp_seq c)
  iapply (part36 KA KB K _ _ _ _ _ c) $$ [HO HP6 HD6 HT6 HT5]
  · isplitl []; · iexact He
    isplitl [HO]; · iexact HO
    isplitl [HP6]; · iexact HP6
    isplitl [HD6]; · iexact HD6
    isplitl [HT6]; · iexact HT6
    iexact HT5
  iintro  ⟨HO, HT6, HT5⟩
  iapply (wp_seq c)
  iapply (part37 KA KB K _ c) $$ [HO HT5 HB3b]
  · isplitl []; · iexact He
    isplitl [HO]; · iexact HO
    isplitl [HT5]; · iexact HT5
    iexact HB3b
  iintro %w0_37 %w1_37 %w2_37 %w3_37 %w4_37 ⟨HO, HT5, HL5, HG5, HB3b⟩
  ihave Hx := (halfB KB c) $$ HB3b
  icases Hx with ⟨HP7, HB2b⟩
  icases HG5 with HD23
  iapply (wp_seq c)
  iapply (part38 KA KB K _ _ _ _ _ _ _ c) $$ [HO HP7 HD7 HT7]
  · isplitl []; · iexact He
    isplitl [HO]; · iexact HO
    isplitl [HP7]; · iexact HP7
    isplitl [HD7]; · iexact HD7
    iexact HT7
  iintro  ⟨HO, HT7⟩
  iapply (wp_seq c)
  iapply (part39 KA KB K _ _ c) $$ [HO HT6 HA2b]
  · isplitl []; · iexact He
    isplitl [HO]; · iexact HO
    isplitl [HT6]; · iexact HT6
    iexact HA2b
  iintro  ⟨HO, HT6, HL6, HG6, HA2b⟩
  ihave Hx := (quartA KA c) $$ HA2b
  icases Hx with ⟨HP8, HP9, HP10, HA0⟩
  icases HG6 with HD20
  iapply (wp_seq c)
  iapply (part40 KA KB K _ _ _ c) $$ [HO HT7 HB2b]
  · isplitl []; · iexact He
    isplitl [HO]; · iexact HO
    isplitl [HT7]; · iexact HT7
    iexact HB2b
  iintro %w0_40 %w1_40 ⟨HO, HT7, HL7, HG7, HB2b⟩
  ihave Hx := (quartB KB c) $$ HB2b
  icases Hx with ⟨HP11, HP12, HP13, HB0⟩
  icases HG7 with HD21
  iapply (wp_seq c)
  iapply (part41 _ _ _ _ _ _ _ c)
  iintro %w0_41 %w1_41 %w2_41
  iapply (wp_seq c)
  iapply (part42 KA KB K _ _ _ _ _ _ _ _ _ c) $$ [HO HP8 HD8 HT8 HP9 HD9 HT9]
  · isplitl []; · iexact He
    isplitl [HO]; · iexact HO
    isplitl [HP8]; · iexact HP8
    isplitl [HD8]; · iexact HD8
    isplitl [HT8]; · iexact HT8
    isplitl [HP9]; · iexact HP9
    isplitl [HD9]; · iexact HD9
    iexact HT9
  iintro  ⟨HO, HT8, HT9⟩
  iapply (wp_seq c)
  iapply (part43 KA KB K _ _ _ c) $$ [HO HP10 HD10 HT10 HP11 HD11 HT11 HP12 HD12 HT12 HP13 HD13 HT13]
  · isplitl []; · iexact He
    isplitl [HO]; · iexact HO
    isplitl [HP10]; · iexact HP10
    isplitl [HD10]; · iexact HD10
    isplitl [HT10]; · iexact HT10
    isplitl [HP11]; · iexact HP11
    isplitl [HD11]; · iexact HD11
    isplitl [HT11]; · iexact HT11
    isplitl [HP12]; · iexact HP12
    isplitl [HD12]; · iexact HD12
    isplitl [HT12]; · iexact HT12
    isplitl [HP13]; · iexact HP13
    isplitl [HD13]; · iexact HD13
    iexact HT13
  iintro  ⟨HO, HT10, HT11, HT12, HT13⟩
  iapply (wp_seq c)
  iapply (part44 KA KB K _ _ _ c) $$ [HO HT8 HT9 HT10]
  · isplitl []; · iexact He
    isplitl [HO]; · iexact HO
    isplitl [HT8]; · iexact HT8
    isplitl [HT9]; · iexact HT9
    iexact HT10
  iintro  ⟨HO, HT8, HL8, HG8, HT9, HL9, HG9, HT10⟩
  iapply (wp_seq c)
  iapply (part45 KA KB K _ _ c) $$ [HO HT10 HA0 HL8 HL9 HT11]
  · isplitl []; · iexact He
    isplitl [HO]; · iexact HO
    isplitl [HT10]; · iexact HT10
    isplitl [HA0]; · iexact HA0
    isplitl [HL8]; · iexact HL8
    isplitl [HL9]; · iexact HL9
    iexact HT11
  iintro  ⟨HO, HT10, HL10, HG10, HA0, HL8, HL9, HT11, HL11, HG11⟩
  ihave Hx := (sumA KA c) $$ HA0
  icases Hx with ⟨HP14, HP15, HP16⟩
  icases HG8 with HD14
  icases HG9 with HD15
  icases HG10 with HD16
  iapply (wp_seq c)
  iapply (part46 KA KB K _ _ _ c) $$ [HO HT12 HT13 HB0 HL11]
  · isplitl []; · iexact He
    isplitl [HO]; · iexact HO
    isplitl [HT12]; · iexact HT12
    isplitl [HT13]; · iexact HT13
    isplitl [HB0]; · iexact HB0
    iexact HL11
  iintro %w0_46 ⟨HO, HT12, HL12, HG12, HT13, HL13, HG13, HB0, HL11⟩
  icases HG11 with HD17
  icases HG12 with HD18
  icases HG13 with HD19
  iapply (wp_seq c)
  iapply (part47 KA KB K _ _ _ _ _ _ c) $$ [HL13 HB0 HO HP14 HD14 HT14 HP15 HD15 HT15 HP16 HD16 HT16]
  · isplitl []; · iexact He
    isplitl [HL13]; · iexact HL13
    isplitl [HB0]; · iexact HB0
    isplitl [HO]; · iexact HO
    isplitl [HP14]; · iexact HP14
    isplitl [HD14]; · iexact HD14
    isplitl [HT14]; · iexact HT14
    isplitl [HP15]; · iexact HP15
    isplitl [HD15]; · iexact HD15
    isplitl [HT15]; · iexact HT15
    isplitl [HP16]; · iexact HP16
    isplitl [HD16]; · iexact HD16
    iexact HT16
  iintro %w0_47 ⟨HL13, HB0, HO, HT14, HT15, HT16⟩
  ihave Hx := (sumB KB c) $$ HB0
  icases Hx with ⟨HP17, HP18, HP19⟩
  iapply (wp_seq c)
  iapply (part48 KA KB K _ _ _ _ _ c) $$ [HO HP17 HD17 HT17 HP18 HD18 HT18 HP19 HD19 HT19 HT14]
  · isplitl []; · iexact He
    isplitl [HO]; · iexact HO
    isplitl [HP17]; · iexact HP17
    isplitl [HD17]; · iexact HD17
    isplitl [HT17]; · iexact HT17
    isplitl [HP18]; · iexact HP18
    isplitl [HD18]; · iexact HD18
    isplitl [HT18]; · iexact HT18
    isplitl [HP19]; · iexact HP19
    isplitl [HD19]; · iexact HD19
    isplitl [HT19]; · iexact HT19
    iexact HT14
  iintro  ⟨HO, HT17, HT18, HT19, HT14, HP14⟩
  iapply (wp_seq c)
  iapply (part49 KA KB K _ _ c) $$ [HO HT14 HT15 HT16]
  · isplitl []; · iexact He
    isplitl [HO]; · iexact HO
    isplitl [HT14]; · iexact HT14
    isplitl [HT15]; · iexact HT15
    iexact HT16
  iintro  ⟨HO, HT14, HL14, HT15, HP15, HL15, HT16, HP16, HL16⟩
  iapply (wp_seq c)
  iapply (part50 KA KB K _ _ _ c) $$ [HO HT17 HT18 HT19]
  · isplitl []; · iexact He
    isplitl [HO]; · iexact HO
    isplitl [HT17]; · iexact HT17
    isplitl [HT18]; · iexact HT18
    iexact HT19
  iintro  ⟨HO, HT17, HP17, HL17, HT18, HP18, HL18, HT19, HP19, HL19⟩
  ihave Hx := (gather2A KA c) $$ [HP14 HP15 HP16 HL14 HL15 HL16]
  · isplitl [HP14]; · iexact HP14
    isplitl [HP15]; · iexact HP15
    isplitl [HP16]; · iexact HP16
    isplitl [HL14]; · iexact HL14
    isplitl [HL15]; · iexact HL15
    iexact HL16
  icases Hx with HP20
  ihave Hx := (gather2B KB c) $$ [HP17 HP18 HP19 HL17 HL18 HL19]
  · isplitl [HP17]; · iexact HP17
    isplitl [HP18]; · iexact HP18
    isplitl [HP19]; · iexact HP19
    isplitl [HL17]; · iexact HL17
    isplitl [HL18]; · iexact HL18
    iexact HL19
  icases Hx with HP21
  iapply (wp_seq c)
  iapply (part51 _ _ _ c)
  iapply (wp_seq c)
  iapply (part52 KA KB K _ _ c) $$ [HO HP20 HD20 HT20 HP21 HD21 HT21]
  · isplitl []; · iexact He
    isplitl [HO]; · iexact HO
    isplitl [HP20]; · iexact HP20
    isplitl [HD20]; · iexact HD20
    isplitl [HT20]; · iexact HT20
    isplitl [HP21]; · iexact HP21
    isplitl [HD21]; · iexact HD21
    iexact HT21
  iintro %w0_52 %w1_52 ⟨HO, HT20, HT21, HP20, HL20, HP21⟩
  iapply (wp_seq c)
  iapply (part53 KA KB K _ _ _ _ c) $$ [HO HT21]
  · isplitl []; · iexact He
    isplitl [HO]; · iexact HO
    iexact HT21
  iintro  ⟨HO, HT21, HL21⟩
  ihave Hx := (gather3A KA c) $$ [HP20 HL20]
  · isplitl [HP20]; · iexact HP20
    iexact HL20
  icases Hx with HP22
  ihave Hx := (gather3B KB c) $$ [HP21 HL21]
  · isplitl [HP21]; · iexact HP21
    iexact HL21
  icases Hx with HP23
  iapply (wp_seq c)
  iapply (part54 KA KB K _ _ c) $$ [HO HP22 HD22 HT22 HP23 HD23 HT23]
  · isplitl []; · iexact He
    isplitl [HO]; · iexact HO
    isplitl [HP22]; · iexact HP22
    isplitl [HD22]; · iexact HD22
    isplitl [HT22]; · iexact HT22
    isplitl [HP23]; · iexact HP23
    isplitl [HD23]; · iexact HD23
    iexact HT23
  iintro  ⟨HO, HT22, HT23, HP22, HL22⟩
  iapply (wp_seq c)
  iapply (part55 KA KB K _ _ _ c) $$ [HO HT23]
  · isplitl []; · iexact He
    isplitl [HO]; · iexact HO
    iexact HT23
  iintro %w0_55 %w1_55 %w2_55 ⟨HO, HT23, HP23, HL23⟩
  ihave Hx := (gather4A KA c) $$ [HP22 HL22]
  · isplitl [HP22]; · iexact HP22
    iexact HL22
  icases Hx with ⟨HAL, HP24⟩
  ihave Hx := (gather4B KB c) $$ [HP23 HL23]
  · isplitl [HP23]; · iexact HP23
    iexact HL23
  icases Hx with ⟨HBL, HP25⟩
  ihave Hx := (SC_in fkr fq fqr (gA KA) c z17 (RA 4 c) fullShare.left) $$ [HZ16 HZ14 HZ15 HAL HR17]
  · isplitl [HZ16]; · iexact HZ16
    isplitl [HZ14]; · iexact HZ14
    isplitl [HZ15]; · iexact HZ15
    isplitl [HAL]; · iexact HAL
    iexact HR17
  icases Hx with HSC
  iapply (wp_seq c)
  iapply (part56 KA KB K fkr fq fqr _ _ _ _ _ _ c) $$ [HO HP24 HD24 HT24 HP25 HD25 HT25 HSC]
  · isplitl []; · iexact He
    isplitl [HO]; · iexact HO
    isplitl [HP24]; · iexact HP24
    isplitl [HD24]; · iexact HD24
    isplitl [HT24]; · iexact HT24
    isplitl [HP25]; · iexact HP25
    isplitl [HD25]; · iexact HD25
    isplitl [HT25]; · iexact HT25
    iexact HSC
  iintro %w0_56 ⟨HO, HT24, HT25, HSC⟩
  iapply (wp_seq c)
  iapply (part57 KA fkr fq fqr _ c) $$ [HSC]
  · iexact HSC
  iintro  HSC
  iapply (wp_seq c)
  iapply (part58 KA fkr fq fqr _ c) $$ [HSC]
  · iexact HSC
  iintro  HSC
  iapply (wp_seq c)
  iapply (part59 KA fkr fq fqr _ c) $$ [HSC]
  · iexact HSC
  iintro  HSC
  iapply (wp_seq c)
  iapply (part60 KA fkr fq fqr _ c) $$ [HSC]
  · iexact HSC
  iintro  HSC
  iapply wp_done c
  iapply Hk
  isplitl [HO]; · iexact HO
  isplitl [HSB]; · iexact HSB
  isplitl [HT0]; · iexact HT0
  isplitl [HT1]; · iexact HT1
  isplitl [HT2]; · iexact HT2
  isplitl [HT3]; · iexact HT3
  isplitl [HT4]; · iexact HT4
  isplitl [HT5]; · iexact HT5
  isplitl [HT6]; · iexact HT6
  isplitl [HT7]; · iexact HT7
  isplitl [HT8]; · iexact HT8
  isplitl [HT9]; · iexact HT9
  isplitl [HT10]; · iexact HT10
  isplitl [HT11]; · iexact HT11
  isplitl [HT12]; · iexact HT12
  isplitl [HT13]; · iexact HT13
  isplitl [HT14]; · iexact HT14
  isplitl [HT15]; · iexact HT15
  isplitl [HT16]; · iexact HT16
  isplitl [HT17]; · iexact HT17
  isplitl [HT18]; · iexact HT18
  isplitl [HT19]; · iexact HT19
  isplitl [HT20]; · iexact HT20
  isplitl [HT21]; · iexact HT21
  isplitl [HT22]; · iexact HT22
  isplitl [HT23]; · iexact HT23
  isplitl [HT24]; · iexact HT24
  isplitl [HT25]; · iexact HT25
  isplitl [HX0]; · iexact HX0
  isplitl [HX1]; · iexact HX1
  isplitl [HX2]; · iexact HX2
  isplitl [HX3]; · iexact HX3
  isplitl [HX4]; · iexact HX4
  isplitl [HX5]; · iexact HX5
  isplitl [HX6]; · iexact HX6
  isplitl [HSC]; · iexact HSC
  isplitl [HBL]; · iexact HBL
  isplitl [HL0]; · iexact HL0
  isplitl [HL1]; · iexact HL1
  isplitl [HL2]; · iexact HL2
  isplitl [HL3]; · iexact HL3
  isplitl [HL4]; · iexact HL4
  isplitl [HL5]; · iexact HL5
  isplitl [HL6]; · iexact HL6
  isplitl [HL7]; · iexact HL7
  isplitl [HL8]; · iexact HL8
  isplitl [HL9]; · iexact HL9
  isplitl [HL10]; · iexact HL10
  isplitl [HL11]; · iexact HL11
  isplitl [HL12]; · iexact HL12
  iexact HL13

end Cert.KernelIdealProof
-- ==== Proof.KernelIdealWhole.lean ====
/-
The whole kernel: the rest of its parts and what it leaves behind.
-/
module

public import proofs.«01_k».proof.Proof.KernelIdealFirst

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (KA KB : Dev nD → Mat F) (K : Dev nD × Fin 53 → ℕ)

variable {h0 : (Memref.whole cc0_stg0_0).IsWhole} {h1 : (Memref.whole cc0_stg1_0).IsWhole} {h2 : (Memref.whole cc0_stg2_0).IsWhole} {h3 : (Memref.whole cc0_stg3_0).IsWhole} {h4 : (Memref.whole cc0_stg4_0).IsWhole} {h5 : (Memref.whole cc0_stg5_0).IsWhole} {h6 : (Memref.whole cc0_stg6_0).IsWhole} {h7 : (Memref.whole cc0_stg7_0).IsWhole} {h8 : (Memref.whole cc0_stg8_0).IsWhole}
  {h9 : (Memref.whole cc0_scratch0).IsWhole} {h10 : (Memref.whole cc0_scratch1).IsWhole} {h11 : (Memref.whole cc0_scratch2).IsWhole} {h12 : (Memref.whole cc0_scratch3).IsWhole} {h13 : (Memref.whole cc0_scratch4).IsWhole} {h14 : (Memref.whole cc0_scratch5).IsWhole} {h15 : (Memref.whole cc0_scratch6).IsWhole} {h16 : (Memref.whole cc0_scratch7).IsWhole} {h17 : (Memref.whole cc0_scratch8).IsWhole} {h18 : (Memref.whole cc0_scratch9).IsWhole} {h19 : (Memref.whole cc0_scratch10).IsWhole} {h20 : (Memref.whole cc0_scratch11).IsWhole} {h21 : (Memref.whole cc0_scratch12).IsWhole} {h22 : (Memref.whole cc0_scratch13).IsWhole} {h23 : (Memref.whole cc0_scratch14).IsWhole} {h24 : (Memref.whole cc0_scratch15).IsWhole} {h25 : (Memref.whole cc0_scratch16).IsWhole} {h26 : (Memref.whole cc0_scratch17).IsWhole}

/-- The first 256 rows of the result, from the gathered values, the weights of the softmax and the last matrix, -/
def top (gb : Mat F) (p : S512x4096.Idx → Elt F .bf16) (w : S1024x1024.Idx → Elt F .bf16) : S256x1024.Idx → Elt F .f32 :=
  (k0_pay76 (k0_pay62 (w)) (k0_pay63 (sub 0 0 gb) (sub 0 0 p)) (k0_pay64 (sub 0 64 gb) (sub 0 256 p)) (k0_pay65 (sub 0 128 gb) (sub 0 512 p)) (k0_pay66 (sub 0 192 gb) (sub 0 768 p)) (k0_pay67 (sub 0 256 gb) (sub 0 1024 p)) (k0_pay68 (sub 0 320 gb) (sub 0 1280 p)) (k0_pay69 (sub 0 384 gb) (sub 0 1536 p)) (k0_pay70 (sub 0 448 gb) (sub 0 1792 p)) (k0_pay71 (sub 0 512 gb) (sub 0 2048 p)) (k0_pay72 (sub 0 576 gb) (sub 0 2304 p)) (k0_pay73 (sub 0 640 gb) (sub 0 2560 p)) (k0_pay74 (sub 0 704 gb) (sub 0 2816 p)) (k0_pay75 (sub 0 768 gb) (sub 0 3072 p)) (sub 0 832 gb) (sub 0 3328 p) (sub 0 896 gb) (sub 0 3584 p) (sub 0 960 gb) (sub 0 3840 p))
/-- the other 256 rows, -/
def low (gb : Mat F) (p : S512x4096.Idx → Elt F .bf16) (w : S1024x1024.Idx → Elt F .bf16) : S256x1024.Idx → Elt F .f32 :=
  k0_pay1 (k0_pay62 (w)) ((k0_pay86 (k0_pay77 (sub 256 0 gb) (sub 256 0 p)) (k0_pay78 (sub 256 64 gb) (sub 256 256 p)) (k0_pay79 ((sub 256 128 gb)) ((sub 256 512 p)) (constant S256x64 .f32 0x00000000#32)) (k0_pay80 (sub 256 192 gb) (sub 256 768 p)) (k0_pay81 (sub 256 256 gb) (sub 256 1024 p)) (k0_pay82 (sub 256 320 gb) (sub 256 1280 p)) (k0_pay83 (sub 256 384 gb) (sub 256 1536 p)) (k0_pay84 (sub 256 448 gb) (sub 256 1792 p)) (k0_pay85 (sub 256 512 gb) (sub 256 2048 p)) ((sub 256 576 gb)) (sub 256 2304 p) (sub 256 640 gb) (sub 256 2560 p) (sub 256 704 gb) (sub 256 2816 p) (sub 256 768 gb) (sub 256 3072 p) (sub 256 832 gb) (sub 256 3328 p) (sub 256 896 gb) (sub 256 3584 p) (sub 256 960 gb) (sub 256 3840 p)))
/-- and the result. -/
def OUT (gb : Mat F) (p : S512x4096.Idx → Elt F .bf16) (w : S1024x1024.Idx → Elt F .bf16) : S512x1024.Idx → Elt F .f32 :=
  fun i => if (i 0).val < 256 then top gb p w (matAt (i 0).val (i 1).val) else low gb p w (matAt ((i 0).val - 256) (i 1).val)

theorem eq_OUT {gb : Mat F} {p : S512x4096.Idx → Elt F .bf16} {w : S1024x1024.Idx → Elt F .bf16} {g h : S512x1024.Idx → Elt F .f32}
    (hg : ∀ y : S256x1024.Idx, g (matAt (0 + (y 0).val) (0 + (y 1).val)) = top gb p w y)
    (hh : (∀ y : S256x1024.Idx, h (matAt (256 + (y 0).val) (0 + (y 1).val)) = low gb p w y)
      ∧ ∀ i, ¬((256 ≤ (i 0).val ∧ (i 0).val < 256 + 256) ∧ (0 ≤ (i 1).val ∧ (i 1).val < 0 + 1024)) → h i = g i) : h = OUT gb p w := by
  funext i
  have h0 : (i 0).val < 512 := (i 0).isLt
  have h1 : (i 1).val < 1024 := (i 1).isLt
  unfold OUT
  by_cases hi : (i 0).val < 256
  · rw [if_pos hi, hh.2 i (by omega), ← hg]
    congr 1
    funext a
    apply Fin.ext
    match a with
    | 0 => show _ = (0 + (i 0).val % 256) % 512; omega
    | 1 => show _ = (0 + (i 1).val % 1024) % 1024; omega
  · rw [if_neg hi, ← hh.1]
    congr 1
    funext a
    apply Fin.ext
    match a with
    | 0 => show _ = (256 + ((i 0).val - 256) % 256) % 512; omega
    | 1 => show _ = (0 + (i 1).val % 1024) % 1024; omega

/-- What the kernel leaves: every counter at zero, the operands as they were, the result, and its buffers. -/
def done (X0 : S2x256x1024.Idx → Elt F .bf16) (X1 : S1024x64.Idx → Elt F .bf16) (X2 X3 : S64x1024.Idx → Elt F .bf16) (X4 : S1024x1024.Idx → Elt F .bf16) (X5 : S1024x512.Idx → Elt F .bf16) (X6 : S1024x32.Idx → Elt F .bf16) (X7 : S1024x1024.Idx → Elt F .bf16) (fkr : S512x32.Idx → Elt F .bf16) (fq : S512x1024.Idx → Elt F .bf16) (fqr : S512x512.Idx → Elt F .bf16) (c : Dev nD) : sProp 𝕄 :=
  iprop(owing F 0 c ∗ semVal (cell 0 c) 0 ∗ fin F 0 c ∗ fin F 1 c ∗ fin F 2 c ∗ fin F 3 c ∗ fin F 4 c ∗ fin F 5 c ∗ fin F 6 c ∗ fin F 7 c ∗ fin F 8 c ∗ fin F 9 c ∗ fin F 10 c ∗ fin F 11 c ∗ fin F 12 c ∗ fin F 13 c ∗ fin F 14 c ∗ fin F 15 c ∗ fin F 16 c ∗ fin F 17 c ∗ fin F 18 c ∗ fin F 19 c ∗ fin F 20 c ∗ fin F 21 c ∗ fin F 22 c ∗ fin F 23 c ∗ fin F 24 c ∗ fin F 25 c ∗ pt cc0_stg0_0 c Finset.univ fullShare X0 ∗ pt cc0_stg1_0 c Finset.univ fullShare X1 ∗ pt cc0_stg2_0 c Finset.univ fullShare X2 ∗ pt cc0_stg3_0 c Finset.univ fullShare X3 ∗ pt cc0_stg4_0 c Finset.univ fullShare X4 ∗ pt cc0_stg5_0 c Finset.univ fullShare X5 ∗ pt cc0_stg6_0 c Finset.univ fullShare X6 ∗ pt cc0_stg7_0 c Finset.univ fullShare X7 ∗ pt cc0_stg8_0 c Finset.univ fullShare (OUT (gB KB) (PRM fkr fq fqr (gA KA)) X7) ∗ own (F := F) cc0_scratch0 c Finset.univ ∗ own (F := F) cc0_scratch1 c Finset.univ ∗ own (F := F) cc0_scratch2 c Finset.univ ∗ own (F := F) cc0_scratch3 c Finset.univ ∗ own (F := F) cc0_scratch4 c Finset.univ ∗ own (F := F) cc0_scratch5 c Finset.univ ∗ own (F := F) cc0_scratch6 c Finset.univ ∗ own (F := F) cc0_scratch7 c Finset.univ ∗ own (F := F) cc0_scratch8 c Finset.univ ∗ own (F := F) cc0_scratch9 c Finset.univ ∗ own (F := F) cc0_scratch10 c Finset.univ ∗ own (F := F) cc0_scratch11 c Finset.univ ∗ own (F := F) cc0_scratch12 c Finset.univ ∗ own (F := F) cc0_scratch13 c Finset.univ ∗ own (F := F) cc0_scratch14 c Finset.univ ∗ own (F := F) cc0_scratch15 c Finset.univ ∗ own (F := F) cc0_scratch16 c Finset.univ ∗ own (F := F) cc0_scratch17 c Finset.univ)

/-- The kernel on one device. -/
theorem run_body (c : Dev nD) (W : Waits sig Unit) (X0 : S2x256x1024.Idx → Elt F .bf16) (X1 : S1024x64.Idx → Elt F .bf16) (X2 X3 : S64x1024.Idx → Elt F .bf16) (X4 : S1024x1024.Idx → Elt F .bf16) (X5 : S1024x512.Idx → Elt F .bf16) (X6 : S1024x32.Idx → Elt F .bf16) (X7 : S1024x1024.Idx → Elt F .bf16) (z0 z1 : Mat F) (z8 : S512x1024.Idx → Elt F .f32) (z14 : S512x1024.Idx → Elt F .bf16) (z15 : S512x512.Idx → Elt F .bf16) (z16 : S512x32.Idx → Elt F .bf16) (z17 : S512x4096.Idx → Elt F .bf16)
    (fkr : S512x32.Idx → Elt F .bf16) (fq : S512x1024.Idx → Elt F .bf16) (fqr : S512x512.Idx → Elt F .bf16) (hKA : KA c = k0_pay4 (k0_pay2 X0) X1 X2) (hKB : KB c = k0_pay5 (k0_pay2 X0) X1 X3)
    (hq : fq = k0_pay6 (k0_pay2 X0) X4) (hqr : fqr = k0_pay7 (k0_pay2 X0) X5) (hkr : fkr = k0_pay8 (k0_pay2 X0) X6) {Q : PUnit → sProp 𝕄} :
    iprop(env KA KB K ∗ start W X0 X1 X2 X3 X4 X5 X6 z0 z1 z14 z15 z16 z17 c ∗ pt cc0_stg7_0 c Finset.univ fullShare X7 ∗ pt cc0_stg8_0 c Finset.univ fullShare z8)
      ⊢ iprop((done KA KB X0 X1 X2 X3 X4 X5 X6 X7 fkr fq fqr c -∗ Q ⟨⟩) -∗ WP c (cc0_body _ h0 _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 _ h26 cc0_scratch18 cc0_scratch19 cc0_scratch20 cc0_scratch21 cc0_scratch22 cc0_scratch23 cc0_scratch24 cc0_scratch25 cc0_scratch26 cc0_scratch27) Q) := by
  rw [cc0_body_eq_skeleton]; unfold cc0_body_skel
  iintro ⟨#He, HS, HX7, HOUT⟩ Hk
  iapply (wp_seq c)
  iapply (run_first KA KB K c W X0 X1 X2 X3 X4 X5 X6 z0 z1 z14 z15 z16 z17 fkr fq fqr hKA hKB hq hqr hkr) $$ [HS]
  · isplitl []; · iexact He
    iexact HS
  iintro %w1 %w2 %w3 %w4 HM
  unfold midway done
  icases HM with ⟨HO, HSB, HT0, HT1, HT2, HT3, HT4, HT5, HT6, HT7, HT8, HT9, HT10, HT11, HT12, HT13, HT14, HT15, HT16, HT17, HT18, HT19, HT20, HT21, HT22, HT23, HT24, HT25, HX0, HX1, HX2, HX3, HX4, HX5, HX6, HSC, HBL, HL0, HL1, HL2, HL3, HL4, HL5, HL6, HL7, HL8, HL9, HL10, HL11, HL12, HL13⟩
  iapply (wp_seq c)
  iapply (part61 KA fkr fq fqr _ c) $$ [HSC]
  · iexact HSC
  iintro  HSC
  iapply (wp_seq c)
  iapply (part62 KA fkr fq fqr _ c) $$ [HSC]
  · iexact HSC
  iintro  HSC
  iapply (wp_seq c)
  iapply (part63 KA fkr fq fqr _ c) $$ [HSC]
  · iexact HSC
  iintro  HSC
  iapply (wp_seq c)
  iapply (part64 KA KB K fkr fq fqr _ _ c) $$ [HO HT24 HSC]
  · isplitl []; · iexact He
    isplitl [HO]; · iexact HO
    isplitl [HT24]; · iexact HT24
    iexact HSC
  iintro %w0_64 ⟨HO, HT24, HSC⟩
  iapply (wp_seq c)
  iapply (part65 KA fkr fq fqr _ c) $$ [HSC]
  · iexact HSC
  iintro  HSC
  iapply (wp_seq c)
  iapply (part66 KA fkr fq fqr _ c) $$ [HSC]
  · iexact HSC
  iintro  HSC
  iapply (wp_seq c)
  iapply (part67 KA fkr fq fqr _ c) $$ [HSC]
  · iexact HSC
  iintro  HSC
  iapply (wp_seq c)
  iapply (part68 KA fkr fq fqr _ c) $$ [HSC]
  · iexact HSC
  iintro  HSC
  iapply (wp_seq c)
  iapply (part69 KA fkr fq fqr _ c) $$ [HSC]
  · iexact HSC
  iintro  HSC
  iapply (wp_seq c)
  iapply (part70 KA fkr fq fqr _ c) $$ [HSC]
  · iexact HSC
  iintro  HSC
  iapply (wp_seq c)
  iapply (part71 KA KB K fkr fq fqr _ _ c) $$ [HSC HO HT25]
  · isplitl []; · iexact He
    isplitl [HSC]; · iexact HSC
    isplitl [HO]; · iexact HO
    iexact HT25
  iintro  ⟨HSC, HO, HT25, HP25, HL25⟩
  ihave Hx := (gather5B KB c) $$ [HBL HP25 HL25]
  · isplitl [HBL]; · iexact HBL
    isplitl [HP25]; · iexact HP25
    iexact HL25
  icases Hx with HGB
  ihave Hx := (SC_out fkr fq fqr (gA KA) c Finset.univ fullShare) $$ HSC
  icases Hx with ⟨HZ16, HZ14, HZ15, HA, HPR⟩
  iapply (wp_seq c)
  iapply (part72 KA KB X7 fkr fq fqr c) $$ [HX7 HGB HPR]
  · isplitl [HX7]; · iexact HX7
    isplitl [HGB]; · iexact HGB
    iexact HPR
  iintro  ⟨HX7, HGB, HPR⟩
  iapply (wp_seq c)
  iapply (part73 KA KB fkr fq fqr c) $$ [HGB HPR]
  · isplitl [HGB]; · iexact HGB
    iexact HPR
  iintro  ⟨HGB, HPR⟩
  iapply (wp_seq c)
  iapply (part74 KA KB fkr fq fqr z8 _ _ _ _ _ _ _ _ _ _ _ _ _ _ c) $$ [HGB HPR HOUT]
  · isplitl [HGB]; · iexact HGB
    isplitl [HPR]; · iexact HPR
    iexact HOUT
  iintro %g %hg  ⟨HGB, HPR, HOUT⟩
  iapply (wp_seq c)
  iapply (part75 KA KB fkr fq fqr _ _ _ c) $$ [HGB HPR]
  · isplitl [HGB]; · iexact HGB
    iexact HPR
  iintro  ⟨HGB, HPR⟩
  iapply (wp_seq c)
  iapply (part76 KA KB fkr fq fqr _ _ _ _ _ _ _ _ _ _ c) $$ [HPR HGB]
  · isplitl [HPR]; · iexact HPR
    iexact HGB
  iintro  ⟨HPR, HGB⟩
  simp only [Prog.lift, Prog.bind_op, Prog.bind_ret, Prog.pure_eq_ret]
  iapply (ld_g8 c rfl (Finset.subset_univ _)) $$ HOUT
  iintro HOUT
  iapply (sb_g8 c rfl) $$ HOUT
  iintro %g' %hg' HOUT
  iapply wp_done c
  ihave Hx := (Entails.of_eq (congrArg (fun f => pt cc0_stg8_0 c Finset.univ fullShare f) (eq_OUT (gb := gB KB) (p := PRM fkr fq fqr (gA KA)) (w := X7) hg hg'))) $$ HOUT
  icases Hx with HOUT
  ihave Hx := (landedA KA c) $$ [HL0 HL1]
  · isplitl [HL0]; · iexact HL0
    iexact HL1
  icases Hx with HW2
  ihave Hx := (landedB KB c) $$ [HL2 HL3]
  · isplitl [HL2]; · iexact HL2
    iexact HL3
  icases Hx with HW5
  iapply Hk
  isplitl [HO]; · iexact HO
  isplitl [HSB]; · iexact HSB
  isplitl [HT0]; · iexact HT0
  isplitl [HT1]; · iexact HT1
  isplitl [HT2]; · iexact HT2
  isplitl [HT3]; · iexact HT3
  isplitl [HT4]; · iexact HT4
  isplitl [HT5]; · iexact HT5
  isplitl [HT6]; · iexact HT6
  isplitl [HT7]; · iexact HT7
  isplitl [HT8]; · iexact HT8
  isplitl [HT9]; · iexact HT9
  isplitl [HT10]; · iexact HT10
  isplitl [HT11]; · iexact HT11
  isplitl [HT12]; · iexact HT12
  isplitl [HT13]; · iexact HT13
  isplitl [HT14]; · iexact HT14
  isplitl [HT15]; · iexact HT15
  isplitl [HT16]; · iexact HT16
  isplitl [HT17]; · iexact HT17
  isplitl [HT18]; · iexact HT18
  isplitl [HT19]; · iexact HT19
  isplitl [HT20]; · iexact HT20
  isplitl [HT21]; · iexact HT21
  isplitl [HT22]; · iexact HT22
  isplitl [HT23]; · iexact HT23
  isplitl [HT24]; · iexact HT24
  isplitl [HT25]; · iexact HT25
  isplitl [HX0]; · iexact HX0
  isplitl [HX1]; · iexact HX1
  isplitl [HX2]; · iexact HX2
  isplitl [HX3]; · iexact HX3
  isplitl [HX4]; · iexact HX4
  isplitl [HX5]; · iexact HX5
  isplitl [HX6]; · iexact HX6
  isplitl [HX7]; · iexact HX7
  isplitl [HOUT]; · iexact HOUT
  isplitl [HA]; · iexists _; iexact HA
  isplitl [HGB]; · iexists _; iexact HGB
  isplitl [HW2]; · iexact HW2
  isplitl [HL4]; · iexists _; iexact HL4
  isplitl [HL6]; · iexists _; iexact HL6
  isplitl [HW5]; · iexact HW5
  isplitl [HL5]; · iexists _; iexact HL5
  isplitl [HL7]; · iexists _; iexact HL7
  isplitl [HL8]; · iexists _; iexact HL8
  isplitl [HL9]; · iexists _; iexact HL9
  isplitl [HL10]; · iexists _; iexact HL10
  isplitl [HL11]; · iexists _; iexact HL11
  isplitl [HL12]; · iexists _; iexact HL12
  isplitl [HL13]; · iexists _; iexact HL13
  isplitl [HZ14]; · iexists _; iexact HZ14
  isplitl [HZ15]; · iexists _; iexact HZ15
  isplitl [HZ16]; · iexists _; iexact HZ16
  iexists _; iexact HPR

end Cert.KernelIdealProof
-- ==== Proof.KernelIdealLaunch.lean ====
/-
The launch: the records of the cells, the tokens dealt to the devices that pay with them, the credit each device starts with, and the run of the whole program.
-/
module

public import proofs.«01_k».proof.Proof.KernelIdealWhole
public import proofs.«01_k».proof.Proof.Gen.KernelIdeal.Launch
public import proofs.«01_k».proof.Proof.Gen.KernelIdeal.Frame
public import Idealize.ShloMosaic.Lib.Pipeline.CollectiveSegs

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device is given and computes -/

def in0 (c : Dev nD) : S2x256x1024.Idx → Elt F .bf16 := iblk m c (⟨0, by decide⟩ : Fin 9) t0_0
def in1 (c : Dev nD) : S1024x64.Idx → Elt F .bf16 := iblk m c (⟨1, by decide⟩ : Fin 9) t0_0
def in2 (c : Dev nD) : S64x1024.Idx → Elt F .bf16 := iblk m c (⟨2, by decide⟩ : Fin 9) t0_0
def in3 (c : Dev nD) : S64x1024.Idx → Elt F .bf16 := iblk m c (⟨3, by decide⟩ : Fin 9) t0_0
def in4 (c : Dev nD) : S1024x1024.Idx → Elt F .bf16 := iblk m c (⟨4, by decide⟩ : Fin 9) t0_0
def in5 (c : Dev nD) : S1024x512.Idx → Elt F .bf16 := iblk m c (⟨5, by decide⟩ : Fin 9) t0_0
def in6 (c : Dev nD) : S1024x32.Idx → Elt F .bf16 := iblk m c (⟨6, by decide⟩ : Fin 9) t0_0
def in7 (c : Dev nD) : S1024x1024.Idx → Elt F .bf16 := iblk m c (⟨7, by decide⟩ : Fin 9) t0_0

/-- A device's part of the keys and of the values; its queries and the rotated parts. -/
def dK (c : Dev nD) : Mat F := k0_pay4 (k0_pay2 (in0 m c)) (in1 m c) (in2 m c)
def dV (c : Dev nD) : Mat F := k0_pay5 (k0_pay2 (in0 m c)) (in1 m c) (in3 m c)
def dQ (c : Dev nD) : S512x1024.Idx → Elt F .bf16 := k0_pay6 (k0_pay2 (in0 m c)) (in4 m c)
def dQr (c : Dev nD) : S512x512.Idx → Elt F .bf16 := k0_pay7 (k0_pay2 (in0 m c)) (in5 m c)
def dKr (c : Dev nD) : S512x32.Idx → Elt F .bf16 := k0_pay8 (k0_pay2 (in0 m c)) (in6 m c)
/-- The result on device `c`. -/
def res (c : Dev nD) : S512x1024.Idx → Elt F .f32 := OUT (gB (dV m)) (PRM (dKr m c) (dQ m c) (dQr m c) (gA (dK m))) (in7 m c)

abbrev RD : Rounds.Schedule (GSem nD τ sig) DD 𝕄 := Rd (dK m) (dV m)

/-! ## Cells and tokens -/

/-- A device's cells other than the barrier: the send cells and the receive cells. -/
abbrev T2 : Type := Fin 26 ⊕ Fin 26
def kOf : Unit ⊕ T2 → Fin 53
  | .inl _ => 0
  | .inr (.inl t) => sK t
  | .inr (.inr t) => rK t
def kInv (k : Fin 53) : Unit ⊕ T2 :=
  if h : k.val = 0 then .inl () else if h' : k.val < 27 then .inr (.inl ⟨k.val - 1, by omega⟩) else .inr (.inr ⟨k.val - 27, by omega⟩)
def e53 : Unit ⊕ T2 ≃ Fin 53 := ⟨kOf, kInv, by decide +kernel, by decide +kernel⟩
theorem split53 (Φ : Fin 53 → sProp 𝕄) : bigSep Finset.univ Φ
    = iprop(Φ 0 ∗ (bigSep Finset.univ fun t : Fin 26 => Φ (sK t)) ∗ bigSep Finset.univ fun t : Fin 26 => Φ (rK t)) := by
  rw [bigSep_univ_equiv e53, BI.bigSep_univ_sum, BI.bigSep_univ_sum, show (Finset.univ : Finset Unit) = {()} from rfl, bigSep_singleton]; rfl

def osem : T2 → SemLoc sig := fun k => csem (kOf (.inr k))
theorem ownSemFacts : Pipeline.OwnSemFacts cfg0.spec osem := by decide +kernel

abbrev kcell (ck : Dev nD × Fin 53) : GSem nD τ sig := cell ck.2 ck.1
theorem kcell_inj : Function.Injective kcell := by
  rintro ⟨c, k⟩ ⟨c', k'⟩ h
  have h1 : c = c' := congrArg (fun g : GSem nD τ sig => g.1.1) h
  have h2 : some k = some k' := by rw [← dec_csem k, ← dec_csem k']; exact congrArg (fun g : GSem nD τ sig => dec g.2) h
  rw [h1, Option.some.inj h2]
def theCells : Finset (GSem nD τ sig) := Finset.univ.map ⟨kcell, kcell_inj⟩

/-- The duties of a device's cells: the barrier's seven, and one of each other cell. -/
def tokK : Fin 7 ⊕ T2 → Fin 53 × DD
  | .inl j => (0, j)
  | .inr k => (kOf (.inr k), 0)
theorem tokK_inj : Function.Injective tokK := by decide +kernel
abbrev tokOf (x : Dev nD × (Fin 7 ⊕ T2)) : GSem nD τ sig × ℕ × DD := (kcell (x.1, (tokK x.2).1), 0, (tokK x.2).2)
theorem tokOf_inj : Function.Injective tokOf := by
  rintro ⟨c, j⟩ ⟨c', j'⟩ h
  have h1 := kcell_inj (congrArg (fun x : GSem nD τ sig × ℕ × DD => x.1) h)
  have h2 : (tokK j).2 = (tokK j').2 := congrArg (fun x : GSem nD τ sig × ℕ × DD => x.2.2) h
  have hc : c = c' := congrArg Prod.fst h1
  have hk : tokK j = tokK j' := Prod.ext (congrArg Prod.snd h1) h2
  rw [hc, tokK_inj hk]
def theToks : Finset (GSem nD τ sig × ℕ × DD) := Finset.univ.map ⟨tokOf, tokOf_inj⟩

def u₀ : UU := (initOf (Pipeline.cells cfgs cellOf_inj) (Pipeline.launchToks cfgs cellOf_inj), initOf theCells theToks)

/-- The tokens of a device's own cells, -/
def toks (c : Dev nD) : sProp 𝕄 :=
  iprop((bigSep Finset.univ fun j : Fin 7 => dutyTok ER (cell 0 c) 0 j) ∗ (bigSep Finset.univ fun t : Fin 26 => dutyTok ER (cell (sK t) c) 0 0)
    ∗ bigSep Finset.univ fun t : Fin 26 => dutyTok ER (cell (rK t) c) 0 0)
/-- and of the cells it pays into. -/
def payToks (c : Dev nD) : sProp 𝕄 :=
  iprop((bigSep Finset.univ fun j : Fin 7 => dutyTok ER (cell 0 (px (bm j.val) c)) 0 j) ∗ (bigSep Finset.univ fun t : Fin 26 => dutyTok ER (cell (sK t) c) 0 0)
    ∗ bigSep Finset.univ fun t : Fin 26 => dutyTok ER (cell (rK t) (peer t c)) 0 0)

def G (c : Dev nD) : sProp 𝕄 :=
  iprop((bigSep Finset.univ fun k : Fin 53 => roundState ER (RD m) (kcell (c, k)) 0)
    ∗ (bigSep Finset.univ fun k : Fin 53 => iprop(atPos ER (kcell (c, k)) 0 ∅ 0 ∗ reached ER (kcell (c, k)) 0)) ∗ toks c)

def recs (K : Dev nD × Fin 53 → ℕ) : sProp 𝕄 :=
  iprop((bigSep Finset.univ fun ck : Dev nD × Fin 53 => cellInv ER (RD m) (K ck) (kcell ck))
    ∗ bigSep Finset.univ fun ck : Dev nD × Fin 53 => reached ER (kcell ck) 0)
instance recs_persistent (K : Dev nD × Fin 53 → ℕ) : BI.Persistent (recs m K) := by unfold recs; infer_instance
def linear (c : Dev nD) : sProp 𝕄 := iprop((bigSep Finset.univ fun k : Fin 53 => atPos ER (kcell (c, k)) 0 ∅ 0) ∗ payToks c)
def G' (c : Dev nD) : sProp 𝕄 := iprop(∃ K, recs m K ∗ linear c)

theorem fund : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : Fin 53 => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    exact bigSep_congr fun c _ => by unfold toks; rw [BI.bigSep_univ_sum, BI.bigSep_univ_sum]; rfl
  iintro HX
  imod (Rounds.fund ER (RD m) theCells theToks) $$ HX with ⟨Hst, Hr, Hat, Htok⟩
  imodintro
  ihave Hst' := (Entails.of_eq (hX fun g => roundState ER (RD m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscoped_eq (c : Dev nD) : (unscopedSems0 c : sProp 𝕄) = semVal (cell 0 c) 0 := by
  unfold unscopedSems0; rw [bigSep_eq_bigSepL_of_eq [SemLoc.reg barS] (by decide) (by decide)]; rfl
theorem ownSems_eq (c : Dev nD) : (Pipeline.ownSems0 (Ix := Unit) (Name := ℕ) (U := UU) (Lvl := ℕ) (Val := Elt F) (τ := τ) osem c : sProp 𝕄)
    = iprop((bigSep Finset.univ fun t : Fin 26 => semVal (cell (sK t) c) 0) ∗ bigSep Finset.univ fun t : Fin 26 => semVal (cell (rK t) c) 0) := by
  unfold Pipeline.ownSems0; rw [BI.bigSep_univ_sum]; rfl
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 53 => semVal (kcell (c, k)) 0 : sProp 𝕄) := by
  rw [ownSems_eq, unscoped_eq, split53]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (RD m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems_eq (F := F) c) $$ [Hos Hus]
  · isplitl [Hos] <;> iassumption
  imod (show iprop((bigSep Finset.univ fun k : Fin 53 => semVal (kcell (c, k)) 0) ∗ bigSep Finset.univ fun k : Fin 53 => roundState ER (RD m) (kcell (c, k)) 0)
      ⊢ (|={Set.univ}=> bigSep Finset.univ fun k => iprop(∃ κ : ℕ, cellInv ER (RD m) κ (kcell (c, k))) : sProp 𝕄) from by
        rw [← bigSep_sep']
        exact (bigSep_mono fun k _ => (Rounds.body_intro ER (RD m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A family over the devices, each member taken at a device's partner. -/
theorem around {n : ℕ} (f : Fin n → ℕ) (hf : ∀ j, f j < 32) (Φ : Dev nD → Fin n → sProp 𝕄) :
    (bigSep Finset.univ fun c : Dev nD => bigSep Finset.univ fun j : Fin n => Φ c j)
      = bigSep Finset.univ fun c : Dev nD => bigSep Finset.univ fun j : Fin n => Φ (px (f j) c) j := by
  rw [← bigSep_univ_prod (fun x : Dev nD × Fin n => Φ x.1 x.2), ← bigSep_univ_prod (fun x : Dev nD × Fin n => Φ (px (f x.2) x.1) x.2)]
  exact bigSep_univ_equiv ⟨fun x : Dev nD × Fin n => (px (f x.2) x.1, x.2), fun x => (px (f x.2) x.1, x.2),
    fun x => Prod.ext (px_px _ (hf x.2) x.1) rfl, fun x => Prod.ext (px_px _ (hf x.2) x.1) rfl⟩ (fun x => Φ x.1 x.2)

theorem toks_around : (bigSep Finset.univ fun c : Dev nD => (toks c : sProp 𝕄)) ⊢ bigSep Finset.univ fun c : Dev nD => payToks c := by
  unfold toks payToks
  rw [bigSep_sep', bigSep_sep', bigSep_sep', bigSep_sep', around (fun j : Fin 7 => bm j.val) (by decide) (fun c j => dutyTok ER (cell 0 c) 0 j),
    around (fun t : Fin 26 => pm t.val) (by decide) (fun c t => dutyTok ER (cell (rK t) c) 0 0)]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (RD m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 53 => iprop(∃ κ : ℕ, cellInv ER (RD m) κ (kcell ck))),
    bigSep_congr (s := Finset.univ) (fun (c : Dev nD) _ => bigSep_sep' Finset.univ (fun k : Fin 53 => (atPos ER (kcell (c, k)) 0 ∅ 0 : sProp 𝕄)) (fun k => reached ER (kcell (c, k)) 0)),
    bigSep_sep', ← bigSep_univ_prod (fun ck : Dev nD × Fin 53 => (reached ER (kcell ck) 0 : sProp 𝕄))]
  iintro ⟨HI, ⟨Hat, #HR⟩, Htok⟩
  ihave HK := (BI.bigSep_exists_pi Finset.univ (fun (ck : Dev nD × Fin 53) (κ : ℕ) => (cellInv ER (RD m) κ (kcell ck) : sProp 𝕄))) $$ HI
  icases HK with ⟨%K, #HI⟩
  ihave Htk := (toks_around (F := F)) $$ Htok
  iapply (with_persistent (R := recs m K) fun c _ => (show iprop(recs m K ∗ linear c) ⊢ G' m c by
    unfold G'; iintro H; iexists K; iexact H))
  isplitr
  · unfold recs; isplitl; · iexact HI
    iexact HR
  · unfold linear; rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem cell_eq_iff (k k' : Fin 53) (a b : Dev nD) : Iff (cell k a = cell k' b) (k = k' ∧ a = b) :=
  ⟨fun h => by have := kcell_inj (a₁ := (a, k)) (a₂ := (b, k')) h; exact ⟨congrArg Prod.snd this, congrArg Prod.fst this⟩, fun h => by rw [h.1, h.2]⟩

/-- Over all devices, what is owed to one cell by a summand that each device owes to a cell of its partner. -/
theorem sum_tally (k k' : Fin 53) (p n : ℕ) (hp : p < 32) (c : Dev nD) :
    ∑ d : Dev nD, (tallyAt (cell k' (px p d)) () n : CellTallies nD τ sig Unit) (cell k c) () = if k = k' then n else 0 := by
  have h : ∀ d : Dev nD, (tallyAt (cell k' (px p d)) () n : CellTallies nD τ sig Unit) (cell k c) () = if d = px p c then (if k = k' then n else 0) else 0 := fun d => by
    rw [tallyAt_apply]
    by_cases hd : d = px p c
    · subst hd; rw [px_px p hp, if_pos rfl]
      by_cases hk : k = k'
      · rw [if_pos ⟨by rw [hk], rfl⟩, if_pos hk]
      · rw [if_neg (fun h => hk ((cell_eq_iff _ _ _ _).mp h.1).1), if_neg hk]
    · rw [if_neg hd, if_neg (fun h => hd (by rw [((cell_eq_iff _ _ _ _).mp h.1).2, px_px p hp]))]
  rw [Finset.sum_congr rfl fun d _ => h d, Finset.sum_ite_eq' Finset.univ (px p c) fun _ => _, if_pos (Finset.mem_univ _)]

theorem pm_lt : ∀ t : Fin 26, pm t.val < 32 := by decide
theorem bm_lt : ∀ j : Fin 7, bm j.val < 32 := by decide

theorem sum_Ork_recv (k : ℕ) (hk : k ≤ 26) (t : Fin 26) (c : Dev nD) : ∑ d : Dev nD, Ork k d (cell (rK t) c) () = if 26 - k ≤ t.val then NN t.val else 0 := by
  induction k with
  | zero =>
    rw [if_neg (by have := t.isLt; omega)]
    exact Finset.sum_eq_zero fun d _ => rfl
  | succ k ih =>
    have e : ∀ d : Dev nD, Ork (k + 1) d (cell (rK t) c) () = Ork k d (cell (rK t) c) ()
        + (tallyAt (cell (rK ⟨25 - k, by omega⟩) (px (pm (25 - k)) d)) () (NN (25 - k)) : CellTallies nD τ sig Unit) (cell (rK t) c) () := fun d => rfl
    rw [Finset.sum_congr rfl fun d _ => e d, Finset.sum_add_distrib, ih (by omega), sum_tally _ _ _ _ (pm_lt ⟨25 - k, by omega⟩)]
    have ht := t.isLt
    by_cases h : t.val = 25 - k
    · rw [if_neg (by omega), if_pos (by unfold rK; exact Fin.ext (by show 27 + t.val = 27 + (25 - k); omega)), if_pos (by omega), h, Nat.zero_add]
    · have hr : rK t ≠ rK ⟨25 - k, by omega⟩ := fun h' => h (by have h3 : 27 + t.val = 27 + (25 - k) := congrArg Fin.val h'; omega)
      rw [if_neg hr, Nat.add_zero]
      by_cases h2 : 26 - k ≤ t.val
      · rw [if_pos h2, if_pos (by omega)]
      · rw [if_neg h2, if_neg (by omega)]

theorem sum_Ork_bar (k : ℕ) (c : Dev nD) : ∑ d : Dev nD, Ork k d (cell 0 c) () = 0 := by
  induction k with
  | zero => exact Finset.sum_eq_zero fun d _ => rfl
  | succ k ih =>
    have e : ∀ d : Dev nD, Ork (k + 1) d (cell 0 c) () = Ork k d (cell 0 c) ()
        + (tallyAt (cell (rK ⟨25 - k, by omega⟩) (px (pm (25 - k)) d)) () (NN (25 - k)) : CellTallies nD τ sig Unit) (cell 0 c) () := fun d => rfl
    rw [Finset.sum_congr rfl fun d _ => e d, Finset.sum_add_distrib, ih, sum_tally _ _ _ _ (pm_lt ⟨25 - k, by omega⟩),
      if_neg (fun h => by have h' : (0 : ℕ) = 27 + (25 - k) := congrArg Fin.val h; omega)]

theorem sum_Obk_recv (j : ℕ) (t : Fin 26) (c : Dev nD) : ∑ d : Dev nD, Obk j d (cell (rK t) c) () = NN t.val := by
  induction j with
  | zero => exact (sum_Ork_recv 26 le_rfl t c).trans (if_pos (by omega))
  | succ j ih =>
    have e : ∀ d : Dev nD, Obk (j + 1) d (cell (rK t) c) () = Obk j d (cell (rK t) c) ()
        + (tallyAt (cell 0 (px (bm (6 - j)) d)) () 1 : CellTallies nD τ sig Unit) (cell (rK t) c) () := fun d => rfl
    rw [Finset.sum_congr rfl fun d _ => e d, Finset.sum_add_distrib, ih, sum_tally _ _ _ _ (bm_lt ⟨6 - j, by omega⟩),
      if_neg (fun h => by have h' : 27 + t.val = (0 : ℕ) := congrArg Fin.val h; omega), Nat.add_zero]

theorem sum_Obk_bar (j : ℕ) (c : Dev nD) : ∑ d : Dev nD, Obk j d (cell 0 c) () = j := by
  induction j with
  | zero => exact sum_Ork_bar 26 c
  | succ j ih =>
    have e : ∀ d : Dev nD, Obk (j + 1) d (cell 0 c) () = Obk j d (cell 0 c) ()
        + (tallyAt (cell 0 (px (bm (6 - j)) d)) () 1 : CellTallies nD τ sig Unit) (cell 0 c) () := fun d => rfl
    rw [Finset.sum_congr rfl fun d _ => e d, Finset.sum_add_distrib, ih, sum_tally _ _ _ _ (bm_lt ⟨6 - j, by omega⟩), if_pos rfl]

theorem launch_bar (c : Dev nD) :
    tallyOn (cell 0 c) (launchCredit (Pipeline.owing (Obk 7)) 0 (cell 0 c)) = (tallyAt (cell 0 c) () 7 : CellTallies nD τ sig Unit) := by
  unfold tallyAt; refine congrArg _ (Finsupp.ext fun u => ?_); cases u
  rw [Pipeline.launchCredit_owing, Finsupp.single_eq_same, sum_Obk_bar]
theorem launch_recv (t : Fin 26) (c : Dev nD) :
    tallyOn (cell (rK t) c) (launchCredit (Pipeline.owing (Obk 7)) 0 (cell (rK t) c)) = (tallyAt (cell (rK t) c) () (NN t.val) : CellTallies nD τ sig Unit) := by
  unfold tallyAt; refine congrArg _ (Finsupp.ext fun u => ?_); cases u
  rw [Pipeline.launchCredit_owing, Finsupp.single_eq_same, sum_Obk_recv]

variable (F) in
def creds (c : Dev nD) : sProp 𝕄 :=
  iprop(cred (tallyAt (cell 0 c) () 7) ∗ bigSep Finset.univ fun t : Fin 26 => cred (tallyAt (cell (rK t) c) () (NN t.val)))

theorem rsem_inj : Function.Injective fun t : Fin 26 => csem (rK t) := fun t t' h => by
  have h2 : some (rK t) = some (rK t') := by rw [← dec_csem, ← dec_csem]; exact congrArg dec h
  have h3 : 27 + t.val = 27 + t'.val := congrArg Fin.val (Option.some.inj h2)
  exact Fin.ext (by omega)

theorem creds_of (c : Dev nD) : (Pipeline.launchCred (Obk 7) c : sProp 𝕄) ⊢ creds F c := by
  unfold Pipeline.launchCred creds
  rw [bigSep_univ_at _ (csem 0), launch_bar]
  refine sep_mono_right ?_
  rw [← bigSep_congr (s := Finset.univ) (fun (t : Fin 26) _ => congrArg (fun x => (cred x : sProp 𝕄)) (launch_recv t c))]
  refine (BI.bigSep_subset (t := Finset.univ.map ⟨fun t : Fin 26 => csem (rK t), rsem_inj⟩) ?_).trans (Entails.of_eq (bigSep_map _))
  intro s hs
  obtain ⟨t, -, rfl⟩ := Finset.mem_map.mp hs
  refine Finset.mem_erase.mpr ⟨fun h => ?_, Finset.mem_univ _⟩
  have h2 : some (rK t) = some (0 : Fin 53) := by rw [← dec_csem, ← dec_csem]; exact congrArg dec h
  have h3 : 27 + t.val = 0 := congrArg Fin.val (Option.some.inj h2)
  omega

/-! ## The proof data of the call -/

def Φ₀ (c : Dev nD) : sProp 𝕄 := iprop((G' m c ∗ creds F c ∗ levAts L lv) ∗ Pipeline.scopedRest cfg0.spec c)
def Φ₁ (c : Dev nD) : sProp 𝕄 :=
  iprop(unscopedSems0 c ∗ Pipeline.ownSems0 (Ix := Unit) (Name := ℕ) (U := UU) (Lvl := ℕ) (Val := Elt F) (τ := τ) osem c ∗ Pipeline.scopedRest cfg0.spec c)

def dats (_ : Fin 1) (c : Dev nD) : Dat τ (Elt F) Unit ℕ UU ℕ cfg0 c where
  A w := V m c (Pipeline.arrRef spec0 w)
  after w _ := match w with
    | ⟨0, _⟩ => in0 m c
    | ⟨1, _⟩ => in1 m c
    | ⟨2, _⟩ => in2 m c
    | ⟨3, _⟩ => in3 m c
    | ⟨4, _⟩ => in4 m c
    | ⟨5, _⟩ => in5 m c
    | ⟨6, _⟩ => in6 m c
    | ⟨7, _⟩ => in7 m c
    | ⟨8, _⟩ => res m c
  Φ t := match t with
    | ⟨0, _⟩ => Φ₀ m c
    | ⟨_ + 1, _⟩ => Φ₁ c
  q _ := fullShare
  owed t := match t with
    | ⟨0, _⟩ => Obk 7 c
    | ⟨_ + 1, _⟩ => 0

theorem bigSep_W (Φ : Fin cfg0.W → sProp 𝕄) : bigSep Finset.univ Φ = iprop(Φ (0 : Fin 9) ∗ Φ (1 : Fin 9) ∗ Φ (2 : Fin 9) ∗ Φ (3 : Fin 9) ∗ Φ (4 : Fin 9) ∗ Φ (5 : Fin 9) ∗ Φ (6 : Fin 9) ∗ Φ (7 : Fin 9) ∗ Φ (8 : Fin 9)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_0 (c : Dev nD) (d) : (dats m 0 c).before (0 : Fin 9) t0_0 d = in0 m c := by
  unfold Dat.before; rw [if_pos (show (cfg0.win (0 : Fin 9)).fetch t0_0 = true from rfl)]; rfl
theorem before_1 (c : Dev nD) (d) : (dats m 0 c).before (1 : Fin 9) t0_0 d = in1 m c := by
  unfold Dat.before; rw [if_pos (show (cfg0.win (1 : Fin 9)).fetch t0_0 = true from rfl)]; rfl
theorem before_2 (c : Dev nD) (d) : (dats m 0 c).before (2 : Fin 9) t0_0 d = in2 m c := by
  unfold Dat.before; rw [if_pos (show (cfg0.win (2 : Fin 9)).fetch t0_0 = true from rfl)]; rfl
theorem before_3 (c : Dev nD) (d) : (dats m 0 c).before (3 : Fin 9) t0_0 d = in3 m c := by
  unfold Dat.before; rw [if_pos (show (cfg0.win (3 : Fin 9)).fetch t0_0 = true from rfl)]; rfl
theorem before_4 (c : Dev nD) (d) : (dats m 0 c).before (4 : Fin 9) t0_0 d = in4 m c := by
  unfold Dat.before; rw [if_pos (show (cfg0.win (4 : Fin 9)).fetch t0_0 = true from rfl)]; rfl
theorem before_5 (c : Dev nD) (d) : (dats m 0 c).before (5 : Fin 9) t0_0 d = in5 m c := by
  unfold Dat.before; rw [if_pos (show (cfg0.win (5 : Fin 9)).fetch t0_0 = true from rfl)]; rfl
theorem before_6 (c : Dev nD) (d) : (dats m 0 c).before (6 : Fin 9) t0_0 d = in6 m c := by
  unfold Dat.before; rw [if_pos (show (cfg0.win (6 : Fin 9)).fetch t0_0 = true from rfl)]; rfl
theorem before_7 (c : Dev nD) (d) : (dats m 0 c).before (7 : Fin 9) t0_0 d = in7 m c := by
  unfold Dat.before; rw [if_pos (show (cfg0.win (7 : Fin 9)).fetch t0_0 = true from rfl)]; rfl

theorem chain26 (Φ : Fin 26 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25) := bigSep_univ_eq_bigSepL [0, 1, 2, 3, 4, 5, 6, 7, 8, 9, 10, 11, 12, 13, 14, 15, 16, 17, 18, 19, 20, 21, 22, 23, 24, 25] (by decide) (by decide) Φ
theorem chain7 (Φ : Fin 7 → sProp 𝕄) : bigSep Finset.univ Φ = iprop(Φ 0 ∗ Φ 1 ∗ Φ 2 ∗ Φ 3 ∗ Φ 4 ∗ Φ 5 ∗ Φ 6) := bigSep_univ_eq_bigSepL [0, 1, 2, 3, 4, 5, 6] (by decide) (by decide) Φ

theorem pres (c : Dev nD) : iprop(linear (F := F) c ∗ creds F c) ⊢ iprop((bigSep Finset.univ fun j : Fin 7 => dutyTok ER (cell 0 (px (bm j.val) c)) 0 j)
    ∗ cred (tallyAt (cell 0 c) () 7) ∗ atPos ER (cell 0 c) 0 ∅ 0 ∗ bigSep Finset.univ fun t : Fin 26 => pre F t c) := by
  unfold linear payToks creds pre
  rw [split53, bigSep_sep', bigSep_sep', bigSep_sep', bigSep_sep']
  iintro ⟨⟨⟨H0, HS, HR⟩, HJ, HTS, HTR⟩, HC, HCR⟩
  isplitl [HJ]; · iexact HJ
  isplitl [HC]; · iexact HC
  isplitl [H0]; · iexact H0
  isplitl [HTS]; · iexact HTS
  isplitl [HTR]; · iexact HTR
  isplitl [HS]; · iexact HS
  isplitl [HR]; · iexact HR
  iexact HCR

theorem mine_0 (c : Dev nD) : iprop(own (F := F) cc0_scratch2 c Finset.univ ∗ own (F := F) cc0_scratch11 c Finset.univ) ⊢ barPay (F := F) (px 1 c) 0 := by
  show _ ⊢ iprop(own (F := F) cc0_scratch2 (px 1 (px 1 c)) Finset.univ ∗ own (F := F) cc0_scratch11 (px 1 (px 1 c)) Finset.univ)
  rw [px_px 1 (by decide) c]
theorem mine_1 (c : Dev nD) : iprop(own (F := F) cc0_scratch3 c Finset.univ ∗ own (F := F) cc0_scratch5 c Finset.univ) ⊢ barPay (F := F) (px 3 c) 1 := by
  show _ ⊢ iprop(own (F := F) cc0_scratch3 (px 3 (px 3 c)) Finset.univ ∗ own (F := F) cc0_scratch5 (px 3 (px 3 c)) Finset.univ)
  rw [px_px 3 (by decide) c]
theorem mine_2 (c : Dev nD) : iprop(own (F := F) cc0_scratch4 c Finset.univ ∗ own (F := F) cc0_scratch12 c Finset.univ) ⊢ barPay (F := F) (px 4 c) 2 := by
  show _ ⊢ iprop(own (F := F) cc0_scratch4 (px 4 (px 4 c)) Finset.univ ∗ own (F := F) cc0_scratch12 (px 4 (px 4 c)) Finset.univ)
  rw [px_px 4 (by decide) c]
theorem mine_3 (c : Dev nD) : iprop(own (F := F) cc0_scratch8 c Finset.univ ∗ own (F := F) cc0_scratch6 c Finset.univ) ⊢ barPay (F := F) (px 8 c) 3 := by
  show _ ⊢ iprop(own (F := F) cc0_scratch8 (px 8 (px 8 c)) Finset.univ ∗ own (F := F) cc0_scratch6 (px 8 (px 8 c)) Finset.univ)
  rw [px_px 8 (by decide) c]
theorem mine_4 (c : Dev nD) : iprop(own (F := F) cc0_scratch9 c Finset.univ ∗ own (F := F) cc0_scratch7 c Finset.univ) ⊢ barPay (F := F) (px 16 c) 4 := by
  show _ ⊢ iprop(own (F := F) cc0_scratch9 (px 16 (px 16 c)) Finset.univ ∗ own (F := F) cc0_scratch7 (px 16 (px 16 c)) Finset.univ)
  rw [px_px 16 (by decide) c]
theorem mine_5 (c : Dev nD) : iprop(own (F := F) cc0_scratch10 c Finset.univ) ⊢ barPay (F := F) (px 24 c) 5 := by
  show _ ⊢ iprop(own (F := F) cc0_scratch10 (px 24 (px 24 c)) Finset.univ)
  rw [px_px 24 (by decide) c]
theorem mine_6 (c : Dev nD) : iprop(own (F := F) cc0_scratch13 c Finset.univ) ⊢ barPay (F := F) (px 5 c) 6 := by
  show _ ⊢ iprop(own (F := F) cc0_scratch13 (px 5 (px 5 c)) Finset.univ)
  rw [px_px 5 (by decide) c]

/-- What a device is given makes what its kernel starts with. -/
theorem start_of (c : Dev nD) (W : Waits sig Unit) (X0 : S2x256x1024.Idx → Elt F .bf16) (X1 : S1024x64.Idx → Elt F .bf16) (X2 X3 : S64x1024.Idx → Elt F .bf16) (X4 : S1024x1024.Idx → Elt F .bf16) (X5 : S1024x512.Idx → Elt F .bf16) (X6 : S1024x32.Idx → Elt F .bf16) :
    iprop((linear (F := F) c ∗ creds F c) ∗ owes (c : Thread nD τ) (Obk 7 c) W ∗ (pt cc0_stg0_0 c Finset.univ fullShare X0 ∗ pt cc0_stg1_0 c Finset.univ fullShare X1 ∗ pt cc0_stg2_0 c Finset.univ fullShare X2 ∗ pt cc0_stg3_0 c Finset.univ fullShare X3 ∗ pt cc0_stg4_0 c Finset.univ fullShare X4 ∗ pt cc0_stg5_0 c Finset.univ fullShare X5 ∗ pt cc0_stg6_0 c Finset.univ fullShare X6) ∗ (own (F := F) cc0_scratch0 c Finset.univ ∗ own (F := F) cc0_scratch1 c Finset.univ ∗ own (F := F) cc0_scratch2 c Finset.univ ∗ own (F := F) cc0_scratch3 c Finset.univ ∗ own (F := F) cc0_scratch4 c Finset.univ ∗ own (F := F) cc0_scratch5 c Finset.univ ∗ own (F := F) cc0_scratch6 c Finset.univ ∗ own (F := F) cc0_scratch7 c Finset.univ ∗ own (F := F) cc0_scratch8 c Finset.univ ∗ own (F := F) cc0_scratch9 c Finset.univ ∗ own (F := F) cc0_scratch10 c Finset.univ ∗ own (F := F) cc0_scratch11 c Finset.univ ∗ own (F := F) cc0_scratch12 c Finset.univ ∗ own (F := F) cc0_scratch13 c Finset.univ ∗ own (F := F) cc0_scratch14 c Finset.univ ∗ own (F := F) cc0_scratch15 c Finset.univ ∗ own (F := F) cc0_scratch16 c Finset.univ ∗ own (F := F) cc0_scratch17 c Finset.univ))
      ⊢ iprop(∃ (z0 z1 : Mat F) (z14 : S512x1024.Idx → Elt F .bf16) (z15 : S512x512.Idx → Elt F .bf16) (z16 : S512x32.Idx → Elt F .bf16) (z17 : S512x4096.Idx → Elt F .bf16),
        start W X0 X1 X2 X3 X4 X5 X6 z0 z1 z14 z15 z16 z17 c) := by
  iintro ⟨Hl, HO, ⟨HX0, HX1, HX2, HX3, HX4, HX5, HX6⟩, ⟨%f0, HB0⟩, ⟨%f1, HB1⟩, HB2, HB3, HB4, HB5, HB6, HB7, HB8, HB9, HB10, HB11, HB12, HB13, ⟨%f14, HB14⟩, ⟨%f15, HB15⟩, ⟨%f16, HB16⟩, ⟨%f17, HB17⟩⟩
  ihave Hp := (pres c) $$ Hl
  icases Hp with ⟨HJ, HBC, HBA, HP⟩
  ihave HJ' := (Entails.of_eq (chain7 _)) $$ HJ
  icases HJ' with ⟨HK0, HK1, HK2, HK3, HK4, HK5, HK6⟩
  ihave HP' := (Entails.of_eq (chain26 _)) $$ HP
  icases HP' with ⟨HT0, HT1, HT2, HT3, HT4, HT5, HT6, HT7, HT8, HT9, HT10, HT11, HT12, HT13, HT14, HT15, HT16, HT17, HT18, HT19, HT20, HT21, HT22, HT23, HT24, HT25⟩
  iexists f0; iexists f1; iexists f14; iexists f15; iexists f16; iexists f17
  unfold start
  isplitl [HO]; · iexact HO
  isplitl [HK0]; · iexact HK0
  isplitl [HB2 HB11]
  · iapply (mine_0 c)
    isplitl [HB2]; · iexact HB2
    iexact HB11
  isplitl [HK1]; · iexact HK1
  isplitl [HB3 HB5]
  · iapply (mine_1 c)
    isplitl [HB3]; · iexact HB3
    iexact HB5
  isplitl [HK2]; · iexact HK2
  isplitl [HB4 HB12]
  · iapply (mine_2 c)
    isplitl [HB4]; · iexact HB4
    iexact HB12
  isplitl [HK3]; · iexact HK3
  isplitl [HB8 HB6]
  · iapply (mine_3 c)
    isplitl [HB8]; · iexact HB8
    iexact HB6
  isplitl [HK4]; · iexact HK4
  isplitl [HB9 HB7]
  · iapply (mine_4 c)
    isplitl [HB9]; · iexact HB9
    iexact HB7
  isplitl [HK5]; · iexact HK5
  isplitl [HB10]
  · iapply (mine_5 c)
    iexact HB10
  isplitl [HK6]; · iexact HK6
  isplitl [HB13]
  · iapply (mine_6 c)
    iexact HB13
  isplitl [HBC]; · iexact HBC
  isplitl [HBA]; · iexact HBA
  isplitl [HT0]; · iexact HT0
  isplitl [HT1]; · iexact HT1
  isplitl [HT2]; · iexact HT2
  isplitl [HT3]; · iexact HT3
  isplitl [HT4]; · iexact HT4
  isplitl [HT5]; · iexact HT5
  isplitl [HT6]; · iexact HT6
  isplitl [HT7]; · iexact HT7
  isplitl [HT8]; · iexact HT8
  isplitl [HT9]; · iexact HT9
  isplitl [HT10]; · iexact HT10
  isplitl [HT11]; · iexact HT11
  isplitl [HT12]; · iexact HT12
  isplitl [HT13]; · iexact HT13
  isplitl [HT14]; · iexact HT14
  isplitl [HT15]; · iexact HT15
  isplitl [HT16]; · iexact HT16
  isplitl [HT17]; · iexact HT17
  isplitl [HT18]; · iexact HT18
  isplitl [HT19]; · iexact HT19
  isplitl [HT20]; · iexact HT20
  isplitl [HT21]; · iexact HT21
  isplitl [HT22]; · iexact HT22
  isplitl [HT23]; · iexact HT23
  isplitl [HT24]; · iexact HT24
  isplitl [HT25]; · iexact HT25
  isplitl [HX0]; · iexact HX0
  isplitl [HX1]; · iexact HX1
  isplitl [HX2]; · iexact HX2
  isplitl [HX3]; · iexact HX3
  isplitl [HX4]; · iexact HX4
  isplitl [HX5]; · iexact HX5
  isplitl [HX6]; · iexact HX6
  isplitl [HB0]; · iexact HB0
  isplitl [HB1]; · iexact HB1
  isplitl [HB14]; · iexact HB14
  isplitl [HB15]; · iexact HB15
  isplitl [HB16]; · iexact HB16
  iexact HB17

def bodyPost (c : Dev nD) : sProp 𝕄 := iprop(Φ₁ c ∗ (dats m 0 c).owesAt () t0_0.succ ∗ stg c cc0_stg0_0 (in0 m c) ∗ stg c cc0_stg1_0 (in1 m c) ∗ stg c cc0_stg2_0 (in2 m c) ∗ stg c cc0_stg3_0 (in3 m c) ∗ stg c cc0_stg4_0 (in4 m c) ∗ stg c cc0_stg5_0 (in5 m c) ∗ stg c cc0_stg6_0 (in6 m c) ∗ stg c cc0_stg7_0 (in7 m c) ∗ stg c cc0_stg8_0 (res m c))

/-- What the kernel leaves is what the call must end with. -/
theorem done_to (c : Dev nD) : done (dK m) (dV m) (in0 m c) (in1 m c) (in2 m c) (in3 m c) (in4 m c) (in5 m c) (in6 m c) (in7 m c) (dKr m c) (dQ m c) (dQr m c) c ⊢ bodyPost m c := by
  unfold done bodyPost Φ₁ owing
  rw [unscoped_eq, ownSems_eq, show Pipeline.scopedRest cfg0.spec c = Pipeline.scopedRest spec0 c from rfl, scopedRest0_eq, ← bigSep_sep', chain26]
  unfold Dat.owesAt Pipeline.owesWithin
  rw [show (dats m 0 c).owed t0_0.succ = 0 from rfl]
  iintro ⟨⟨%W, HO⟩, HSB, HT0, HT1, HT2, HT3, HT4, HT5, HT6, HT7, HT8, HT9, HT10, HT11, HT12, HT13, HT14, HT15, HT16, HT17, HT18, HT19, HT20, HT21, HT22, HT23, HT24, HT25, HX0, HX1, HX2, HX3, HX4, HX5, HX6, HX7, HX8, HB0, HB1, HB2, HB3, HB4, HB5, HB6, HB7, HB8, HB9, HB10, HB11, HB12, HB13, HB14, HB15, HB16, HB17⟩
  isplitl [HSB HT0 HT1 HT2 HT3 HT4 HT5 HT6 HT7 HT8 HT9 HT10 HT11 HT12 HT13 HT14 HT15 HT16 HT17 HT18 HT19 HT20 HT21 HT22 HT23 HT24 HT25 HB0 HB1 HB2 HB3 HB4 HB5 HB6 HB7 HB8 HB9 HB10 HB11 HB12 HB13 HB14 HB15 HB16 HB17]
  · isplitl [HSB]; · iexact HSB
    isplitl [HT0 HT1 HT2 HT3 HT4 HT5 HT6 HT7 HT8 HT9 HT10 HT11 HT12 HT13 HT14 HT15 HT16 HT17 HT18 HT19 HT20 HT21 HT22 HT23 HT24 HT25]
    · unfold fin
      isplitl [HT0]; · iexact HT0
      isplitl [HT1]; · iexact HT1
      isplitl [HT2]; · iexact HT2
      isplitl [HT3]; · iexact HT3
      isplitl [HT4]; · iexact HT4
      isplitl [HT5]; · iexact HT5
      isplitl [HT6]; · iexact HT6
      isplitl [HT7]; · iexact HT7
      isplitl [HT8]; · iexact HT8
      isplitl [HT9]; · iexact HT9
      isplitl [HT10]; · iexact HT10
      isplitl [HT11]; · iexact HT11
      isplitl [HT12]; · iexact HT12
      isplitl [HT13]; · iexact HT13
      isplitl [HT14]; · iexact HT14
      isplitl [HT15]; · iexact HT15
      isplitl [HT16]; · iexact HT16
      isplitl [HT17]; · iexact HT17
      isplitl [HT18]; · iexact HT18
      isplitl [HT19]; · iexact HT19
      isplitl [HT20]; · iexact HT20
      isplitl [HT21]; · iexact HT21
      isplitl [HT22]; · iexact HT22
      isplitl [HT23]; · iexact HT23
      isplitl [HT24]; · iexact HT24
      iexact HT25
    isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HB7]; · iexact HB7
    isplitl [HB8]; · iexact HB8
    isplitl [HB9]; · iexact HB9
    isplitl [HB10]; · iexact HB10
    isplitl [HB11]; · iexact HB11
    isplitl [HB12]; · iexact HB12
    isplitl [HB13]; · iexact HB13
    isplitl [HB14]; · iexact HB14
    isplitl [HB15]; · iexact HB15
    isplitl [HB16]; · iexact HB16
    iexact HB17
  isplitl [HO]
  · iexists W
    isplitr; · ipureintro; exact fun _ _ => Or.inl trivial
    iexact HO
  isplitl [HX0]
  · iexists _; isplitr; · (ipureintro; rfl)
    iexact HX0
  isplitl [HX1]
  · iexists _; isplitr; · (ipureintro; rfl)
    iexact HX1
  isplitl [HX2]
  · iexists _; isplitr; · (ipureintro; rfl)
    iexact HX2
  isplitl [HX3]
  · iexists _; isplitr; · (ipureintro; rfl)
    iexact HX3
  isplitl [HX4]
  · iexists _; isplitr; · (ipureintro; rfl)
    iexact HX4
  isplitl [HX5]
  · iexists _; isplitr; · (ipureintro; rfl)
    iexact HX5
  isplitl [HX6]
  · iexists _; isplitr; · (ipureintro; rfl)
    iexact HX6
  isplitl [HX7]
  · iexists _; isplitr; · (ipureintro; rfl)
    iexact HX7
  iexists _; isplitr; · (ipureintro; rfl)
  iexact HX8

def bodyPre (c : Dev nD) : sProp 𝕄 := iprop(Φ₀ m c ∗ (dats m 0 c).owesAt () t0_0.castSucc ∗ (∃ d, stg c cc0_stg0_0 ((dats m 0 c).before (0 : Fin 9) t0_0 d)) ∗ (∃ d, stg c cc0_stg1_0 ((dats m 0 c).before (1 : Fin 9) t0_0 d)) ∗ (∃ d, stg c cc0_stg2_0 ((dats m 0 c).before (2 : Fin 9) t0_0 d)) ∗ (∃ d, stg c cc0_stg3_0 ((dats m 0 c).before (3 : Fin 9) t0_0 d)) ∗ (∃ d, stg c cc0_stg4_0 ((dats m 0 c).before (4 : Fin 9) t0_0 d)) ∗ (∃ d, stg c cc0_stg5_0 ((dats m 0 c).before (5 : Fin 9) t0_0 d)) ∗ (∃ d, stg c cc0_stg6_0 ((dats m 0 c).before (6 : Fin 9) t0_0 d)) ∗ (∃ d, stg c cc0_stg7_0 ((dats m 0 c).before (7 : Fin 9) t0_0 d)) ∗ (∃ d, stg c cc0_stg8_0 ((dats m 0 c).before (8 : Fin 9) t0_0 d)))

/-- The call's body on one device. -/
theorem body_obligation (c : Dev nD) : BodyObligation (dats (F := F) m 0 c) (defs₀ (F := F)) 𝒱₀ () Set.univ := fun t => by
  rw [fin_N0 t]
  rw [bigSep_W, bigSep_W]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 cc0_scratch23 cc0_scratch24 cc0_scratch25 cc0_scratch26 cc0_scratch27) (fun _ => bodyPost m c)
  unfold bodyPre Φ₀ G' recs Dat.owesAt Pipeline.owesWithin
  rw [show (dats m 0 c).owed t0_0.castSucc = Obk 7 c from rfl, show Pipeline.scopedRest cfg0.spec c = Pipeline.scopedRest spec0 c from rfl, scopedRest0_eq]
  iintro ⟨⟨⟨⟨%K, ⟨#HI, #HR⟩, Hl⟩, Hc, #HL⟩, HS⟩, ⟨%W, -, HO⟩, ⟨%d0, %f0, %e0, HX0⟩, ⟨%d1, %f1, %e1, HX1⟩, ⟨%d2, %f2, %e2, HX2⟩, ⟨%d3, %f3, %e3, HX3⟩, ⟨%d4, %f4, %e4, HX4⟩, ⟨%d5, %f5, %e5, HX5⟩, ⟨%d6, %f6, %e6, HX6⟩, ⟨%d7, %f7, %e7, HX7⟩, ⟨%d8, %f8, %e8, HX8⟩⟩
  obtain rfl := e0.trans (before_0 m c d0)
  obtain rfl := e1.trans (before_1 m c d1)
  obtain rfl := e2.trans (before_2 m c d2)
  obtain rfl := e3.trans (before_3 m c d3)
  obtain rfl := e4.trans (before_4 m c d4)
  obtain rfl := e5.trans (before_5 m c d5)
  obtain rfl := e6.trans (before_6 m c d6)
  obtain rfl := e7.trans (before_7 m c d7)
  ihave Hst := (start_of c W (in0 m c) (in1 m c) (in2 m c) (in3 m c) (in4 m c) (in5 m c) (in6 m c)) $$ [Hl Hc HO HX0 HX1 HX2 HX3 HX4 HX5 HX6 HS]
  · isplitl [Hl Hc]
    · isplitl [Hl]; · iexact Hl
      iexact Hc
    isplitl [HO]; · iexact HO
    isplitl [HX0 HX1 HX2 HX3 HX4 HX5 HX6]
    · isplitl [HX0]; · iexact HX0
      isplitl [HX1]; · iexact HX1
      isplitl [HX2]; · iexact HX2
      isplitl [HX3]; · iexact HX3
      isplitl [HX4]; · iexact HX4
      isplitl [HX5]; · iexact HX5
      iexact HX6
    iexact HS
  icases Hst with ⟨%z0, %z1, %z14, %z15, %z16, %z17, Hst⟩
  iapply (run_body (dK m) (dV m) K c W (in0 m c) (in1 m c) (in2 m c) (in3 m c) (in4 m c) (in5 m c) (in6 m c) (in7 m c) z0 z1 f8 z14 z15 z16 z17 (dKr m c) (dQ m c) (dQr m c) rfl rfl rfl rfl rfl) $$ [Hst HX7 HX8]
  · isplitl []
    · unfold env
      isplitr; · iexact HI
      isplitr; · iexact HR
      iexact HL
    isplitl [Hst]; · iexact Hst
    isplitl [HX7]; · iexact HX7
    iexact HX8
  iintro HD
  iapply (done_to m c)
  iexact HD

/-! ## The run -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (Obk 7) c ∗ prngReg c (ρ c) ∗ G' m c)
      ⊢ |={Set.univ}=> iprop((G' m c ∗ creds F c ∗ levAts L lv) ∗ emp) := by
  iintro ⟨-, Hlev, Hcr, -, HG⟩
  ihave Hc := (creds_of (F := F) c) $$ Hcr
  imodintro
  isplitl
  · isplitl [HG]; · iexact HG
    isplitl [Hc]; · iexact Hc
    iexact Hlev
  · iempintro

theorem phi_in (c : Dev nD) :
    iprop((G' m c ∗ creds F c ∗ levAts L lv) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iexact Hr

theorem phi_out (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl]; exact BIBase.Entails.rfl

theorem lv_stage : ∀ (w : Fin 9) (s : Fin (spec0 w).nbuf), dec (.dma ((spec0 w).sem s)) = none := by decide +kernel

theorem waits (c : Dev nD) : (levAts L lv : sProp 𝕄) ⊢ Pipeline.cellsWaits cfgs (dats m) () 0 c :=
  Pipeline.cellsWaits_intro cfgs (dats m) () 0 c fun w s t => by
    have h : lv ((c : Thread nD τ), .dma ((spec0 w).sem s)) () = 0 := by unfold lv; rw [lv_stage]; rfl
    rcases t with ⟨_ | _, ht⟩
    · exact mayWait_stage c _ h
    · exact (mayWait_k c _ 0 0 (le_of_eq h) (by decide))

def QC : PUnit × MemSt nD τ sig (Elt F) → Prop := fun r =>
  ∀ c : Dev nD, ∀ w : Fin cfg0.W, r.2.mem ((cfg0.win w).arr.view.loc (c : Thread nD τ)) = (dats m 0 c).arrAt w cfg0.N

/-- Every run ends, with the arrays at what the proof data says and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := Obk 7) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := fun c => iprop(G' m c ∗ creds F c ∗ levAts L lv)) (Y := fun c => unscopedSems0 c) (Z := fun _ => iprop(emp))
    (hX := start_intro m ρ) (hin := phi_in m) (hout := phi_out m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdealProof
-- ==== Proof.KernelIdealFrame.lean ====
/-
The frame of the kernel for any float values, and the same of the kernel as printed: the two programs are one text.
-/
module

public import proofs.«01_k».proof.Proof.KernelIdealLaunch
public import proofs.«01_k».proof.Defs
public import proofs.«01_k».proof.Proof.Gen.Kernel
public import proofs.«01_k».proof.Proof.Gen.KernelIdeal

@[expose] public section

set_option maxRecDepth 65536

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

attribute [local instance] Cert.Kernel.Gen.facts Cert.KernelIdeal.Gen.facts

/-- A state the arrays are in as the proof data says has the arguments as they were. -/
theorem args_kept {m : (ℓ : Loc nD τ sig) → Buf (Elt F) ℓ} {r : PUnit × MemSt nD τ sig (Elt F)} (h : QC m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(h c (0 : Fin 9)).trans ((dats m 0 c).arrAt_in (0 : Fin 9) rfl _),
      (h c (1 : Fin 9)).trans ((dats m 0 c).arrAt_in (1 : Fin 9) rfl _),
      (h c (2 : Fin 9)).trans ((dats m 0 c).arrAt_in (2 : Fin 9) rfl _),
      (h c (3 : Fin 9)).trans ((dats m 0 c).arrAt_in (3 : Fin 9) rfl _),
      (h c (4 : Fin 9)).trans ((dats m 0 c).arrAt_in (4 : Fin 9) rfl _),
      (h c (5 : Fin 9)).trans ((dats m 0 c).arrAt_in (5 : Fin 9) rfl _),
      (h c (6 : Fin 9)).trans ((dats m 0 c).arrAt_in (6 : Fin 9) rfl _),
      (h c (7 : Fin 9)).trans ((dats m 0 c).arrAt_in (7 : Fin 9) rfl _)⟩

/-- Every run of the kernel ends, its arguments as they were and every counter at zero. -/
theorem frame_any (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨args_kept h.1, h.2⟩) (run_main m ρ)

/-- The body of the kernel as printed is that of its idealization, -/
theorem same_body : Cert.Kernel.cc0_body (F := F) = Cert.KernelIdeal.cc0_body (F := F) := rfl
theorem same_kernels : Cert.Kernel.defs₀ (F := F) = Cert.KernelIdeal.defs₀ (F := F) := by
  unfold Cert.Kernel.defs₀ Cert.KernelIdeal.defs₀
  refine congrArg (Defs.onTc (nD := 32) (τ := Cert.Kernel.τ) (sig := Cert.Kernel.sig) (Val := Elt F) (Λ := Cert.Kernel.Λ₀)) ?_
  funext l a
  match l, a with
  | 0, (t, s) => rfl
/-- and so are the tables of bodies and the main programs. -/
theorem same_defs : Cert.Kernel.defs (F := F) = Cert.KernelIdeal.defs (F := F) := congrArg (Pipeline.defs (Cert.Kernel.pcfgs (F := F))) same_kernels
theorem same_main : Cert.Kernel.main (F := F) = Cert.KernelIdeal.main (F := F) := rfl

/-- The same of the kernel as printed. -/
theorem frame_printed (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0) := by
  rw [same_defs, same_main]
  exact frame_any (F := F) m ρ

end Cert.KernelIdealProof
-- ==== Proof.AttentionMath.lean ====
/-
The arithmetic of the two programs, on extended reals and with no program in sight: products of matrices, softmax with and
without the subtraction of the maximum, and the sum over 2048 terms cut into 32 blocks of 64.
-/
module

public import Idealize.ShloMosaic.PureOps.Ideal.Laws

@[expose] public section

noncomputable section

namespace Cert.AttentionMath

open Idealize.ShloMosaic
open scoped BigOperators

/-- An extended real that is a real number. -/
def IsNum (x : EReal) : Prop := ∃ r : ℝ, x = (r : EReal)

theorem IsNum.add {x y : EReal} (hx : IsNum x) (hy : IsNum y) : IsNum (x + y) := by
  obtain ⟨a, rfl⟩ := hx; obtain ⟨b, rfl⟩ := hy; exact ⟨a + b, (EReal.coe_add a b).symm⟩

theorem IsNum.mul {x y : EReal} (hx : IsNum x) (hy : IsNum y) : IsNum (x * y) := by
  obtain ⟨a, rfl⟩ := hx; obtain ⟨b, rfl⟩ := hy; exact ⟨a * b, (EReal.coe_mul a b).symm⟩

/-- A number's absolute value is below `⊤`, and nothing else's is. -/
theorem isNum_of_abs_lt {x : EReal} (h : max x (-x) < ⊤) : IsNum x := by
  induction x using EReal.rec with
  | bot => simp at h
  | top => simp at h
  | coe r => exact ⟨r, rfl⟩

theorem coe_sum {n : ℕ} (f : Fin n → ℝ) : ((∑ i, f i : ℝ) : EReal) = ∑ i, (f i : EReal) := by
  have key : ∀ s : Finset (Fin n), ((∑ i ∈ s, f i : ℝ) : EReal) = ∑ i ∈ s, (f i : EReal) := fun s => by
    induction s using Finset.cons_induction with
    | empty => simp
    | cons a s ha ih => rw [Finset.sum_cons, Finset.sum_cons, EReal.coe_add, ih]
  exact key _

/-- Numbers, all at once. -/
theorem nums {ι : Type} {f : ι → EReal} (h : ∀ i, IsNum (f i)) : ∃ g : ι → ℝ, f = fun i => (g i : EReal) := by
  choose g hg using h
  exact ⟨g, funext hg⟩

theorem IsNum.sum {n : ℕ} {f : Fin n → EReal} (h : ∀ i, IsNum (f i)) : IsNum (∑ i, f i) := by
  obtain ⟨g, rfl⟩ := nums h
  exact ⟨_, (coe_sum g).symm⟩

/-- The maximum of numbers, at least one of them, is a number. -/
theorem isNum_max {n : ℕ} [NeZero n] {f : Fin n → EReal} (h : ∀ i, IsNum (f i)) : IsNum ((Finset.univ : Finset (Fin n)).fold max ⊥ f) := by
  have key : ∀ s : Finset (Fin n), s.Nonempty → IsNum (s.fold max ⊥ f) := fun s hs => by
    induction hs using Finset.Nonempty.cons_induction with
    | singleton a => rw [Finset.fold_singleton, max_eq_left bot_le]; exact h a
    | cons a s ha hs ih =>
      rw [Finset.fold_cons]
      rcases max_choice (f a) (s.fold max ⊥ f) with e | e <;> rw [e]
      exacts [h a, ih]
  exact key _ ⟨0, Finset.mem_univ _⟩

/-! ## Products of matrices -/

/-- The product of `A` and `B`, `n` the inner extent. -/
def mm (n : ℕ) (A B : ℕ → ℕ → EReal) (r c : ℕ) : EReal := ∑ k : Fin n, A r k.val * B k.val c

theorem mm_congr {n : ℕ} {A A' B B' : ℕ → ℕ → EReal} {r c : ℕ} (hA : ∀ k < n, A r k = A' r k) (hB : ∀ k < n, B k c = B' k c) :
    mm n A B r c = mm n A' B' r c :=
  Finset.sum_congr rfl fun k _ => by rw [hA k k.isLt, hB k k.isLt]

theorem isNum_mm {n : ℕ} {A B : ℕ → ℕ → EReal} (hA : ∀ r k, IsNum (A r k)) (hB : ∀ r k, IsNum (B r k)) (r c : ℕ) : IsNum (mm n A B r c) :=
  IsNum.sum fun _ => (hA _ _).mul (hB _ _)

/-- A product of inner extent 2048 is the sum of its 32 blocks of 64. -/
theorem mm_blocks (A B : ℕ → ℕ → EReal) (r c : ℕ) :
    ∑ d : Fin 32, mm 64 (fun r k => A r (64 * d.val + k)) (fun k c => B (64 * d.val + k) c) r c = mm 2048 A B r c := by
  unfold mm
  rw [← Fintype.sum_prod_type' (f := fun (d : Fin 32) (k : Fin 64) => A r (64 * d.val + k.val) * B (64 * d.val + k.val) c)]
  refine Fintype.sum_equiv (finProdFinEquiv : Fin 32 × Fin 64 ≃ Fin 2048) _ _ fun p => ?_
  have e : (finProdFinEquiv p : Fin (32 * 64)).val = 64 * p.1.val + p.2.val := by
    rw [finProdFinEquiv_apply_val]; omega
  show _ = A r (finProdFinEquiv p : Fin (32 * 64)).val * B (finProdFinEquiv p : Fin (32 * 64)).val c
  rw [e]

/-! ## The scores -/

/-- The score of head `h` of row `s` against row `t`, both of sequence `b`: the head's 64 columns and the 32 of its rotary part. -/
def score (Q K R T : ℕ → ℕ → EReal) (b h s t : ℕ) : EReal :=
  ∑ d : Fin 64, Q (256 * b + s) (64 * h + d.val) * K (256 * b + t) (64 * h + d.val)
    + ∑ d : Fin 32, R (256 * b + s) (32 * h + d.val) * T (256 * b + t) d.val

theorem sum_scaled {n : ℕ} {f g : Fin n → EReal} {σ : EReal} (hf : ∀ i, IsNum (f i)) (hg : ∀ i, IsNum (g i)) (hσ : IsNum σ) :
    ∑ i, f i * σ * g i = (∑ i, f i * g i) * σ := by
  obtain ⟨f, rfl⟩ := nums hf; obtain ⟨g, rfl⟩ := nums hg; obtain ⟨σ, rfl⟩ := hσ
  simp only [← EReal.coe_mul, ← coe_sum]
  rw [Finset.sum_mul]
  exact congrArg _ (Finset.sum_congr rfl fun i _ => by ring)

section
variable {Q K R T : ℕ → ℕ → EReal} {σ : EReal} (hQ : ∀ r k, IsNum (Q r k)) (hK : ∀ r k, IsNum (K r k)) (hR : ∀ r k, IsNum (R r k))
  (hT : ∀ r k, IsNum (T r k)) (hσ : IsNum σ)
include hQ hK hR hT

theorem isNum_score (b h s t : ℕ) : IsNum (score Q K R T b h s t) :=
  (IsNum.sum fun _ => (hQ _ _).mul (hK _ _)).add (IsNum.sum fun _ => (hR _ _).mul (hT _ _))

include hσ
/-- The scale applied to the queries is the scale applied to the scores. -/
theorem score_scaled (b h s t : ℕ) :
    score (fun r k => Q r k * σ) K (fun r k => R r k * σ) T b h s t = score Q K R T b h s t * σ := by
  unfold score
  rw [sum_scaled (fun _ => hQ _ _) (fun _ => hK _ _) hσ, sum_scaled (fun _ => hR _ _) (fun _ => hT _ _) hσ]
  obtain ⟨a, ha⟩ : IsNum (∑ d : Fin 64, Q (256 * b + s) (64 * h + d.val) * K (256 * b + t) (64 * h + d.val)) :=
    IsNum.sum fun _ => (hQ _ _).mul (hK _ _)
  obtain ⟨c, hc⟩ : IsNum (∑ d : Fin 32, R (256 * b + s) (32 * h + d.val) * T (256 * b + t) d.val) :=
    IsNum.sum fun _ => (hR _ _).mul (hT _ _)
  obtain ⟨w, rfl⟩ := hσ
  rw [ha, hc, ← EReal.coe_add, ← EReal.coe_mul, ← EReal.coe_mul, ← EReal.coe_mul, ← EReal.coe_add, add_mul]
end

/-! ## Softmax -/

/-- Softmax, nothing subtracted, -/
def soft {n : ℕ} (z : Fin n → EReal) (t : Fin n) : EReal := Ideal.div (Ideal.exp (z t)) (∑ u, Ideal.exp (z u))

/-- and with `M` subtracted. -/
def softSub {n : ℕ} (z : Fin n → EReal) (M : EReal) (t : Fin n) : EReal :=
  Ideal.div (Ideal.exp (z t - M)) (∑ u, Ideal.exp (z u - M))

theorem div_num (a b : ℝ) (hb : b ≠ 0) : Ideal.div (a : EReal) (b : EReal) = ((a / b : ℝ) : EReal) := by
  unfold Ideal.div
  rw [if_neg (by simpa using hb), ← EReal.coe_inv, ← EReal.coe_mul, div_eq_mul_inv]

/-- Of numbers they are the same. -/
theorem softSub_eq {n : ℕ} {z : Fin n → EReal} {M : EReal} (hz : ∀ t, IsNum (z t)) (hM : IsNum M) (t : Fin n) :
    softSub z M t = soft z t := by
  obtain ⟨z, rfl⟩ := nums hz; obtain ⟨M, rfl⟩ := hM
  have e : ∀ u, Ideal.exp ((z u : EReal) - (M : EReal)) = ((Real.exp (z u) * Real.exp (-M) : ℝ) : EReal) := fun u => by
    rw [← EReal.coe_sub, ← Real.exp_add, ← sub_eq_add_neg]; rfl
  have e' : ∀ u, Ideal.exp (z u : EReal) = ((Real.exp (z u) : ℝ) : EReal) := fun u => rfl
  have pos : 0 < ∑ u, Real.exp (z u) := Finset.sum_pos (fun u _ => Real.exp_pos _) ⟨t, Finset.mem_univ _⟩
  unfold softSub soft
  simp only [e, e', ← coe_sum]
  rw [← Finset.sum_mul, div_num _ _ (mul_ne_zero pos.ne' (Real.exp_ne_zero _)), div_num _ _ pos.ne',
    mul_div_mul_right _ _ (Real.exp_ne_zero _)]

/-! ## Attention -/

/-- Row `r`, column `n` of the heads' outputs side by side, `P` the weights and `V` the values. -/
def heads (P : ℕ → ℕ → ℕ → Fin 256 → EReal) (V : ℕ → ℕ → EReal) (r n : ℕ) : EReal :=
  ∑ t : Fin 256, P (r / 256) (n / 64) (r % 256) t * V (256 * (r / 256) + t.val) n

theorem heads_congr {P P' : ℕ → ℕ → ℕ → Fin 256 → EReal} {V V' : ℕ → ℕ → EReal} {r n : ℕ} (hP : ∀ t, P (r / 256) (n / 64) (r % 256) t = P' (r / 256) (n / 64) (r % 256) t)
    (hV : ∀ t : Fin 256, V (256 * (r / 256) + t.val) n = V' (256 * (r / 256) + t.val) n) : heads P V r n = heads P' V' r n :=
  Finset.sum_congr rfl fun t _ => by rw [hP, hV]

end Cert.AttentionMath

end
-- ==== Proof.AttentionRead.lean ====
/-
Arrays read by the numbers of a row and a column, and the operations both programs share, at the ideal values, read so.
A number past an extent is taken modulo it; the equations then hold of every number, and rewrite whole arrays.
-/
module

public import proofs.«01_k».proof.Proof.AttentionMath
public import Idealize.ShloMosaic.Lib.MatmulPlain
public import Idealize.ShloMosaic.Lib.ValueIdx
public import Idealize.ShloMosaic.Lib.IdealHost
public import Idealize.ShloMosaic.Lib.Pipeline.Value

@[expose] public section

noncomputable section

namespace Cert.AttentionMath

open Idealize.ShloMosaic Idealize.ShloMosaic.ValueIdx
open scoped BigOperators

/-- A matrix at a row and a column; -/
def at2 {R C : ℕ} [NeZero R] [NeZero C] (f : (⟨2, ![R, C]⟩ : Shape).Idx → EReal) (r k : ℕ) : EReal :=
  f (ix2 (Fin.ofNat R r) (Fin.ofNat C k))

/-- the two sequences' rows, one below the other, at a row and a column; -/
def at3 {C : ℕ} [NeZero C] (f : (⟨3, ![2, 256, C]⟩ : Shape).Idx → EReal) (r k : ℕ) : EReal :=
  f (ix3 (Fin.ofNat 2 (r / 256)) (Fin.ofNat 256 (r % 256)) (Fin.ofNat C k))

/-- and four coordinates. -/
def at4 {A B C D : ℕ} [NeZero A] [NeZero B] [NeZero C] [NeZero D] (f : (⟨4, ![A, B, C, D]⟩ : Shape).Idx → EReal) (a b c d : ℕ) : EReal :=
  f (ix4 (Fin.ofNat A a) (Fin.ofNat B b) (Fin.ofNat C c) (Fin.ofNat D d))

theorem ofNat_self {n : ℕ} [NeZero n] (i : Fin n) : Fin.ofNat n i.val = i := Fin.ext (Nat.mod_eq_of_lt i.isLt)

theorem eq_at2 {R C : ℕ} [NeZero R] [NeZero C] (f : (⟨2, ![R, C]⟩ : Shape).Idx → EReal) (j : (⟨2, ![R, C]⟩ : Shape).Idx) :
    f j = at2 f (j 0).val (j 1).val := by
  refine congrArg f (funext fun a => Fin.ext ?_)
  match a with
  | ⟨0, _⟩ => exact (Nat.mod_eq_of_lt (j 0).isLt).symm
  | ⟨1, _⟩ => exact (Nat.mod_eq_of_lt (j 1).isLt).symm

/-! ## Products -/

theorem at2_plain {M K N : ℕ} [NeZero M] [NeZero K] [NeZero N] {φ₁ φ₂ : FTy} {d : DotDims ⟨2, ![M, K]⟩ ⟨2, ![K, N]⟩ ⟨2, ![M, N]⟩}
    (hd : d = DotDims.plain M K N) (A : FVec Ideal ⟨2, ![M, K]⟩ φ₁) (B : FVec Ideal ⟨2, ![K, N]⟩ φ₂) :
    at2 (matmul d none A B (constant (F := Ideal) ⟨2, ![M, N]⟩ .f32 0x00000000#32)) = mm K (at2 A) (at2 B) := by
  subst hd
  funext r c
  refine (Ideal.matmul_plain_apply none A B _ _ _).trans ?_
  rw [constant_apply]
  refine (congrArg (· + _) Ideal.ofBits_zero_f32).trans ((zero_add _).trans ?_)
  exact Finset.sum_congr rfl fun k _ => by unfold at2; rw [ofNat_self]

theorem at2_transposed {M K N : ℕ} [NeZero M] [NeZero K] [NeZero N] {φ₁ φ₂ : FTy} {d : DotDims ⟨2, ![M, K]⟩ ⟨2, ![N, K]⟩ ⟨2, ![M, N]⟩}
    (hd : d = DotDims.transposedRhs M K N) (A : FVec Ideal ⟨2, ![M, K]⟩ φ₁) (B : FVec Ideal ⟨2, ![N, K]⟩ φ₂) (r c : ℕ) :
    at2 (matmul d none A B (constant (F := Ideal) ⟨2, ![M, N]⟩ .f32 0x00000000#32)) r c = ∑ k : Fin K, at2 A r k.val * at2 B c k.val := by
  subst hd
  refine (Ideal.matmul_transposedRhs_apply none A B _ _ _).trans ?_
  rw [constant_apply]
  refine (congrArg (· + _) Ideal.ofBits_zero_f32).trans ((zero_add _).trans ?_)
  exact Finset.sum_congr rfl fun k _ => by unfold at2; rw [ofNat_self]

/-- A product of the rows of two sequences with a matrix. -/
def rows (K N : ℕ) : DotDims ⟨3, ![2, 256, K]⟩ ⟨2, ![K, N]⟩ ⟨3, ![2, 256, N]⟩ where
  lhsContracting := [2]
  rhsContracting := [0]
  lhsNonContracting := [0, 1]
  rhsNonContracting := [1]
  lhsBatch := []
  rhsBatch := []
  wf := ⟨rfl, by simp, rfl, by simp, by simp, by simp, (by decide : (([] ++ [0, 1] ++ [2] : List (Fin 3))).Perm (List.finRange 3)),
    (by decide : (([] ++ [1] ++ [0] : List (Fin 2))).Perm (List.finRange 2)), rfl, by show 0 < 3; decide, fun a => by fin_cases a <;> rfl⟩

theorem at3_rows {K N : ℕ} [NeZero K] [NeZero N] {φ₁ φ₂ : FTy} {d : DotDims ⟨3, ![2, 256, K]⟩ ⟨2, ![K, N]⟩ ⟨3, ![2, 256, N]⟩}
    (hd : d = rows K N) (A : FVec Ideal ⟨3, ![2, 256, K]⟩ φ₁) (B : FVec Ideal ⟨2, ![K, N]⟩ φ₂) :
    at3 (Host.dotGeneral d none A B) = mm K (at3 A) (at2 B) := by
  subst hd
  funext r c
  have hr : (rows K N).contr.rank = 1 := rfl
  have hs : (rows K N).contr.size ⟨0, by rw [hr]; exact Nat.one_pos⟩ = K := rfl
  unfold at3
  simp only [Host.dotGeneral]
  rw [Ideal.dotGeneral_apply, ← Equiv.sum_comp (contrEquiv1 (rows K N) K hr hs).symm]
  refine Finset.sum_congr rfl fun k _ => ?_
  have hk := contrEquiv1_symm_val (rows K N) K hr hs k
  unfold at2
  rw [ofNat_self]
  refine congrArg₂ (· * ·) (congrArg A ?_) (congrArg B ?_) <;> funext a <;> apply Fin.ext
  · match a with
    | ⟨0, _⟩ => rfl
    | ⟨1, _⟩ => rfl
    | ⟨2, _⟩ => exact hk.trans (Nat.mod_eq_of_lt k.isLt).symm
  · match a with
    | ⟨0, _⟩ => exact hk
    | ⟨1, _⟩ => rfl

/-- Each head's queries against its keys. -/
def heads4 (E : ℕ) : DotDims ⟨4, ![2, 256, 16, E]⟩ ⟨4, ![2, 256, 16, E]⟩ ⟨4, ![2, 16, 256, 256]⟩ where
  lhsContracting := [3]
  rhsContracting := [3]
  lhsNonContracting := [1]
  rhsNonContracting := [1]
  lhsBatch := [0, 2]
  rhsBatch := [0, 2]
  wf := ⟨rfl, by simp, rfl, by simp, by simp, by simp, (by decide : (([0, 2] ++ [1] ++ [3] : List (Fin 4))).Perm (List.finRange 4)),
    (by decide : (([0, 2] ++ [1] ++ [3] : List (Fin 4))).Perm (List.finRange 4)), rfl, by show 0 < 4; decide, fun a => by fin_cases a <;> rfl⟩

theorem at4_heads {E : ℕ} [NeZero E] {φ₁ φ₂ : FTy} {d : DotDims ⟨4, ![2, 256, 16, E]⟩ ⟨4, ![2, 256, 16, E]⟩ ⟨4, ![2, 16, 256, 256]⟩}
    (hd : d = heads4 E) (A : FVec Ideal ⟨4, ![2, 256, 16, E]⟩ φ₁) (B : FVec Ideal ⟨4, ![2, 256, 16, E]⟩ φ₂) (b h s t : ℕ) :
    at4 (Host.dotGeneral d none A B) b h s t = ∑ k : Fin E, at4 A b s h k.val * at4 B b t h k.val := by
  subst hd
  have hr : (heads4 E).contr.rank = 1 := rfl
  have hs : (heads4 E).contr.size ⟨0, by rw [hr]; exact Nat.one_pos⟩ = E := rfl
  unfold at4
  simp only [Host.dotGeneral]
  rw [Ideal.dotGeneral_apply, ← Equiv.sum_comp (contrEquiv1 (heads4 E) E hr hs).symm]
  refine Finset.sum_congr rfl fun k _ => ?_
  have hk := contrEquiv1_symm_val (heads4 E) E hr hs k
  rw [ofNat_self]
  refine congrArg₂ (· * ·) (congrArg A ?_) (congrArg B ?_) <;> funext a <;> apply Fin.ext
  all_goals match a with
    | ⟨0, _⟩ => rfl
    | ⟨1, _⟩ => rfl
    | ⟨2, _⟩ => rfl
    | ⟨3, _⟩ => exact hk

/-- Each head's values, weighted. -/
def outs4 : DotDims ⟨4, ![2, 256, 16, 64]⟩ ⟨4, ![2, 16, 256, 256]⟩ ⟨4, ![2, 16, 64, 256]⟩ where
  lhsContracting := [1]
  rhsContracting := [3]
  lhsNonContracting := [3]
  rhsNonContracting := [2]
  lhsBatch := [0, 2]
  rhsBatch := [0, 1]
  wf := ⟨rfl, by simp, rfl, by simp, by simp, by simp, (by decide : (([0, 2] ++ [3] ++ [1] : List (Fin 4))).Perm (List.finRange 4)),
    (by decide : (([0, 1] ++ [2] ++ [3] : List (Fin 4))).Perm (List.finRange 4)), rfl, by show 0 < 4; decide, fun a => by fin_cases a <;> rfl⟩

theorem at4_outs {φ₁ φ₂ : FTy} {d : DotDims ⟨4, ![2, 256, 16, 64]⟩ ⟨4, ![2, 16, 256, 256]⟩ ⟨4, ![2, 16, 64, 256]⟩}
    (hd : d = outs4) (A : FVec Ideal ⟨4, ![2, 256, 16, 64]⟩ φ₁) (B : FVec Ideal ⟨4, ![2, 16, 256, 256]⟩ φ₂) (b h e s : ℕ) :
    at4 (Host.dotGeneral d none A B) b h e s = ∑ t : Fin 256, at4 A b t.val h e * at4 B b h s t.val := by
  subst hd
  have hr : outs4.contr.rank = 1 := rfl
  have hs : outs4.contr.size ⟨0, by rw [hr]; exact Nat.one_pos⟩ = 256 := rfl
  unfold at4
  simp only [Host.dotGeneral]
  rw [Ideal.dotGeneral_apply, ← Equiv.sum_comp (contrEquiv1 outs4 256 hr hs).symm]
  refine Finset.sum_congr rfl fun k _ => ?_
  have hk := contrEquiv1_symm_val outs4 256 hr hs k
  rw [ofNat_self]
  refine congrArg₂ (· * ·) (congrArg A ?_) (congrArg B ?_) <;> funext a <;> apply Fin.ext
  · match a with
    | ⟨0, _⟩ => rfl
    | ⟨1, _⟩ => exact hk
    | ⟨2, _⟩ => rfl
    | ⟨3, _⟩ => rfl
  · match a with
    | ⟨0, _⟩ => rfl
    | ⟨1, _⟩ => rfl
    | ⟨2, _⟩ => rfl
    | ⟨3, _⟩ => exact hk

/-! ## Casts of shape -/

/-- The two sequences' rows, one below the other. -/
theorem at2_stack (f : (⟨3, ![2, 256, 1024]⟩ : Shape).Idx → EReal) (h : (⟨3, ![2, 256, 1024]⟩ : Shape).ShapeCasts ⟨2, ![512, 1024]⟩) :
    at2 (shapeCast ⟨2, ![512, 1024]⟩ f h) = at3 f := by
  funext r k
  refine shapeCast_apply f h _ _ ?_
  rw [Shape.rowMajor_val_three, Shape.rowMajor_val_two]
  show ((r / 256 % 2) * 256 + r % 256 % 256) * 1024 + k % 1024 = (r % 512) * 1024 + k % 1024
  omega

/-- A row cut into its heads' parts. -/
theorem at4_split64 (f : (⟨3, ![2, 256, 1024]⟩ : Shape).Idx → EReal) (h : (⟨3, ![2, 256, 1024]⟩ : Shape).ShapeCasts ⟨4, ![2, 256, 16, 64]⟩)
    {b s y e : ℕ} (hs : s < 256) (hy : y < 16) (he : e < 64) : at4 (shapeCast ⟨4, ![2, 256, 16, 64]⟩ f h) b s y e = at3 f (256 * b + s) (64 * y + e) := by
  refine shapeCast_apply f h _ _ ?_
  rw [Shape.rowMajor_val_three, Shape.rowMajor_val_four]
  show (((256 * b + s) / 256 % 2) * 256 + (256 * b + s) % 256 % 256) * 1024 + (64 * y + e) % 1024
    = ((b % 2 * 256 + s % 256) * 16 + y % 16) * 64 + e % 64
  omega

theorem at4_split32 (f : (⟨3, ![2, 256, 512]⟩ : Shape).Idx → EReal) (h : (⟨3, ![2, 256, 512]⟩ : Shape).ShapeCasts ⟨4, ![2, 256, 16, 32]⟩)
    {b s y e : ℕ} (hs : s < 256) (hy : y < 16) (he : e < 32) : at4 (shapeCast ⟨4, ![2, 256, 16, 32]⟩ f h) b s y e = at3 f (256 * b + s) (32 * y + e) := by
  refine shapeCast_apply f h _ _ ?_
  rw [Shape.rowMajor_val_three, Shape.rowMajor_val_four]
  show (((256 * b + s) / 256 % 2) * 256 + (256 * b + s) % 256 % 256) * 512 + (32 * y + e) % 512
    = ((b % 2 * 256 + s % 256) * 16 + y % 16) * 32 + e % 32
  omega

theorem at4_split1 (f : (⟨3, ![2, 256, 32]⟩ : Shape).Idx → EReal) (h : (⟨3, ![2, 256, 32]⟩ : Shape).ShapeCasts ⟨4, ![2, 256, 1, 32]⟩)
    {b s y e : ℕ} (hs : s < 256) : at4 (shapeCast ⟨4, ![2, 256, 1, 32]⟩ f h) b s y e = at3 f (256 * b + s) e := by
  refine shapeCast_apply f h _ _ ?_
  rw [Shape.rowMajor_val_three, Shape.rowMajor_val_four]
  show (((256 * b + s) / 256 % 2) * 256 + (256 * b + s) % 256 % 256) * 32 + e % 32
    = ((b % 2 * 256 + s % 256) * 1 + y % 1) * 32 + e % 32
  omega

/-- The heads' parts side by side in a row. -/
theorem at3_join (f : (⟨4, ![2, 256, 16, 64]⟩ : Shape).Idx → EReal) (h : (⟨4, ![2, 256, 16, 64]⟩ : Shape).ShapeCasts ⟨3, ![2, 256, 1024]⟩)
    (r : ℕ) {n : ℕ} (hn : n < 1024) : at3 (shapeCast ⟨3, ![2, 256, 1024]⟩ f h) r n = at4 f (r / 256) (r % 256) (n / 64) (n % 64) := by
  refine shapeCast_apply f h _ _ ?_
  rw [Shape.rowMajor_val_three, Shape.rowMajor_val_four]
  show ((r / 256 % 2 * 256 + r % 256 % 256) * 16 + n / 64 % 16) * 64 + n % 64 % 64 = (r / 256 % 2 * 256 + r % 256 % 256) * 1024 + n % 1024
  omega

end Cert.AttentionMath

end
-- ==== Proof.AttentionReference.lean ====
/-
The reference's result at a row and a column: attention of the arguments, as AttentionMath.lean writes it.
-/
module

public import proofs.«01_k».proof.Proof.AttentionRead
public import proofs.«01_k».proof.Proof.Gen.ReferenceIdeal
public import proofs.«01_k».proof.Proof.Gen.ReferenceIdeal.Run

@[expose] public section

set_option maxRecDepth 8192

noncomputable section

namespace Cert.AttentionReference

open Idealize.ShloMosaic Idealize.ShloMosaic.ValueIdx Cert.ReferenceIdeal Cert.ReferenceIdeal.Gen Cert.ReferenceIdeal.Facts Cert.AttentionMath
open scoped BigOperators

/-- The scale, `96^(-1/2)` as a float word. -/
def scale : EReal := Ideal.ofBits .f32 0x3DD105EC#32

theorem isNum_scale : IsNum scale := by
  unfold scale
  simp only [Ideal.ofBits, Ideal.ieee]
  rw [if_neg (by decide), if_neg (by decide)]
  exact ⟨_, rfl⟩

section
variable (x : FVec Ideal S2x256x1024 .bf16) (wd : FVec Ideal S1024x2048 .bf16) (uk uv : FVec Ideal S2048x1024 .bf16)
  (wq : FVec Ideal S1024x1024 .bf16) (wqr : FVec Ideal S1024x512 .bf16) (wkr : FVec Ideal S1024x32 .bf16) (wo : FVec Ideal S1024x1024 .bf16)

/-- The compressed rows, -/
def cmp : FVec Ideal S2x256x2048 .f32 :=
  Host.dotGeneral dot_S2x256x1024_S1024x2048_S2x256x2048_2_0_01_1_n_n none (extf .f32 x bitsLt_bf16_f32) (extf .f32 wd bitsLt_bf16_f32)
/-- the keys or the values of all heads, -/
def kv (u : FVec Ideal S2048x1024 .bf16) : FVec Ideal S2x256x1024 .f32 :=
  Host.dotGeneral dot_S2x256x2048_S2048x1024_S2x256x1024_2_0_01_1_n_n none (cmp x wd) (extf .f32 u bitsLt_bf16_f32)
/-- the queries, -/
def qs : FVec Ideal S2x256x1024 .f32 :=
  Host.dotGeneral dot_S2x256x1024_S1024x1024_S2x256x1024_2_0_01_1_n_n none (extf .f32 x bitsLt_bf16_f32) (extf .f32 wq bitsLt_bf16_f32)
/-- their rotary part -/
def qr : FVec Ideal S2x256x512 .f32 :=
  Host.dotGeneral dot_S2x256x1024_S1024x512_S2x256x512_2_0_01_1_n_n none (extf .f32 x bitsLt_bf16_f32) (extf .f32 wqr bitsLt_bf16_f32)
/-- and the keys', -/
def kr : FVec Ideal S2x256x32 .f32 :=
  Host.dotGeneral dot_S2x256x1024_S1024x32_S2x256x32_2_0_01_1_n_n none (extf .f32 x bitsLt_bf16_f32) (extf .f32 wkr bitsLt_bf16_f32)

/-- the scaled scores, -/
def scr : FVec Ideal S2x16x256x256 .f32 :=
  mulf (addf
      (Host.dotGeneral dot_S2x256x16x64_S2x256x16x64_S2x16x256x256_3_3_1_1_02_02 none
        (shapeCast _ (qs x wq) shapeCasts_S2x256x1024_S2x256x16x64) (shapeCast _ (kv x wd uk) shapeCasts_S2x256x1024_S2x256x16x64))
      (Host.dotGeneral dot_S2x256x16x32_S2x256x16x32_S2x16x256x256_3_3_1_1_02_02 none
        (shapeCast _ (qr x wqr) shapeCasts_S2x256x512_S2x256x16x32)
        (broadcastInDim S2x256x16x32 ![0, 1, 2, 3] bcast_S2x256x1x32_S2x256x16x32_0_1_2_3 (shapeCast _ (kr x wkr) shapeCasts_S2x256x32_S2x256x1x32))))
    (broadcastInDim S2x16x256x256 ![] bcast_S_S2x16x256x256 (constant S_ .f32 0x3DD105EC#32))

/-- one number for each row, along the row, -/
def along (f : FVec Ideal S2x16x256 .f32) : FVec Ideal S2x16x256x256 .f32 :=
  broadcastInDim S2x16x256x256 ![0, 1, 2, 3] bcast_S2x16x256x1_S2x16x256x256_0_1_2_3
    (broadcastInDim S2x16x256x1 ![0, 1, 2] bcast_S2x16x256_S2x16x256x1_0_1_2 f)

/-- the scores' exponentials, each row's maximum subtracted, -/
def exps (z : FVec Ideal S2x16x256x256 .f32) : FVec Ideal S2x16x256x256 .f32 :=
  Host.exp (subf z (along (Host.reduce FloatOps.maximumf z (constant S_ .f32 0xFF800000#32) reducesTo_S2x16x256x256_S2x16x256_d3 h_S_)))

/-- the weights, -/
def wts (z : FVec Ideal S2x16x256x256 .f32) : FVec Ideal S2x16x256x256 .f32 :=
  Host.divf (exps z) (along (Host.reduceAdd (exps z) (constant S_ .f32 0x00000000#32) reducesTo_S2x16x256x256_S2x16x256_d3 h_S_))

/-- the heads' outputs side by side, -/
def outs : FVec Ideal S2x256x1024 .f32 :=
  shapeCast _ (transpose S2x256x16x64 [0, 3, 1, 2]
    (Host.dotGeneral dot_S2x256x16x64_S2x16x256x256_S2x16x64x256_1_3_3_2_02_01 none
      (shapeCast _ (kv x wd uv) shapeCasts_S2x256x1024_S2x256x16x64) (wts (scr x wd uk wq wqr wkr)))
    transposes_S2x16x64x256_S2x256x16x64_0_3_1_2) shapeCasts_S2x256x16x64_S2x256x1024

/-- and the result. -/
def result : FVec Ideal S512x1024 .f32 :=
  shapeCast _ (Host.dotGeneral dot_S2x256x1024_S1024x1024_S2x256x1024_2_0_01_1_n_n none (outs x wd uk uv wq wqr wkr) (extf .f32 wo bitsLt_bf16_f32))
    shapeCasts_S2x256x1024_S512x1024

/-! ## At a row and a column -/

theorem at3_cmp : at3 (cmp x wd) = mm 1024 (at3 x) (at2 wd) := at3_rows rfl _ _

theorem at3_kv (u : FVec Ideal S2048x1024 .bf16) : at3 (kv x wd u) = mm 2048 (mm 1024 (at3 x) (at2 wd)) (at2 u) := by
  rw [← at3_cmp]; exact at3_rows rfl _ _

theorem at3_qs : at3 (qs x wq) = mm 1024 (at3 x) (at2 wq) := at3_rows rfl _ _
theorem at3_qr : at3 (qr x wqr) = mm 1024 (at3 x) (at2 wqr) := at3_rows rfl _ _
theorem at3_kr : at3 (kr x wkr) = mm 1024 (at3 x) (at2 wkr) := at3_rows rfl _ _

/-- The scores of the arguments, before the scale. -/
def sc (b h s t : ℕ) : EReal :=
  score (mm 1024 (at3 x) (at2 wq)) (mm 2048 (mm 1024 (at3 x) (at2 wd)) (at2 uk)) (mm 1024 (at3 x) (at2 wqr)) (mm 1024 (at3 x) (at2 wkr)) b h s t

theorem at4_scr {b h s t : ℕ} (hh : h < 16) (hs : s < 256) (ht : t < 256) :
    at4 (scr x wd uk wq wqr wkr) b h s t = sc x wd uk wq wqr wkr b h s t * scale := by
  have e1 := at4_heads (E := 64) (d := dot_S2x256x16x64_S2x256x16x64_S2x16x256x256_3_3_1_1_02_02) rfl
    (shapeCast S2x256x16x64 (qs x wq) shapeCasts_S2x256x1024_S2x256x16x64) (shapeCast S2x256x16x64 (kv x wd uk) shapeCasts_S2x256x1024_S2x256x16x64) b h s t
  have e2 := at4_heads (E := 32) (d := dot_S2x256x16x32_S2x256x16x32_S2x16x256x256_3_3_1_1_02_02) rfl
    (shapeCast S2x256x16x32 (qr x wqr) shapeCasts_S2x256x512_S2x256x16x32)
    (broadcastInDim S2x256x16x32 ![0, 1, 2, 3] bcast_S2x256x1x32_S2x256x16x32_0_1_2_3 (shapeCast S2x256x1x32 (kr x wkr) shapeCasts_S2x256x32_S2x256x1x32)) b h s t
  refine (congrArg (· * scale) (congrArg₂ (· + ·) e1 e2)).trans (congrArg (· * scale) ?_)
  unfold sc score
  refine congrArg₂ (· + ·) (Finset.sum_congr rfl fun k _ => ?_) (Finset.sum_congr rfl fun k _ => ?_)
  · rw [at4_split64 _ _ hs hh k.isLt, at4_split64 _ _ ht hh k.isLt, at3_qs, at3_kv]
  · rw [at4_split32 _ _ hs hh k.isLt, at3_qr, ← at3_kr, ← at4_split1 (y := 0) (kr x wkr) shapeCasts_S2x256x32_S2x256x1x32 ht]
    refine congrArg (_ * ·) (broadcastInDim_apply _ _ _ _ _ fun a => ?_)
    match a with
    | ⟨0, _⟩ => rfl
    | ⟨1, _⟩ => rfl
    | ⟨2, _⟩ => rfl
    | ⟨3, _⟩ => rfl

theorem at4_along (f : FVec Ideal S2x16x256 .f32) (b h s t : ℕ) :
    at4 (along f) b h s t = f (ix3 (Fin.ofNat 2 b) (Fin.ofNat 16 h) (Fin.ofNat 256 s)) := by
  refine (broadcastInDim_apply _ bcast_S2x16x256x1_S2x16x256x256_0_1_2_3 _ _ (ix4 (Fin.ofNat 2 b) (Fin.ofNat 16 h) (Fin.ofNat 256 s) (0 : Fin 1)) fun a => ?_).trans
    (broadcastInDim_apply _ _ _ _ _ fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

theorem last_axis : S2x16x256x256.Reduces [3] S2x16x256 := by decide

theorem lift_last (b : Fin 2) (h : Fin 16) (s t : Fin 256) : last_axis.lift (ix3 b h s) t = ix4 b h s (Fin.ofNat 256 t.val) := by
  funext a; apply Fin.ext
  match a with
  | ⟨0, _⟩ => rfl
  | ⟨1, _⟩ => rfl
  | ⟨2, _⟩ => rfl
  | ⟨3, _⟩ => exact (Nat.mod_eq_of_lt t.isLt).symm

/-- A row of the scores. -/
def rowOf (z : FVec Ideal S2x16x256x256 .f32) (b h s : ℕ) (t : Fin 256) : EReal := at4 z b h s t.val

theorem max_last (z : FVec Ideal S2x16x256x256 .f32) (b h s : ℕ) :
    Host.reduce FloatOps.maximumf z (constant (F := Ideal) S_ .f32 0xFF800000#32) reducesTo_S2x16x256x256_S2x16x256_d3 h_S_
      (ix3 (Fin.ofNat 2 b) (Fin.ofNat 16 h) (Fin.ofNat 256 s)) = (Finset.univ : Finset (Fin 256)).fold max ⊥ (rowOf z b h s) := by
  refine (Host.reduce_eq_fold_single (max : EReal → EReal → EReal) z (constant (F := Ideal) S_ .f32 0xFF800000#32)
    reducesTo_S2x16x256x256_S2x16x256_d3 last_axis h_S_ _).trans ?_
  have e : constant (F := Ideal) S_ .f32 0xFF800000#32 (Shape.Idx.first h_S_) = (⊥ : EReal) := by
    rw [constant_apply]; show Ideal.ofBits .f32 0xFF800000#32 = ⊥; simp [Ideal.ofBits, Ideal.ieee]
  rw [e]
  refine Finset.fold_congr fun t _ => ?_
  exact congrArg z (lift_last _ _ _ t)

theorem sum_last (z : FVec Ideal S2x16x256x256 .f32) (b h s : ℕ) :
    Host.reduceAdd z (constant (F := Ideal) S_ .f32 0x00000000#32) reducesTo_S2x16x256x256_S2x16x256_d3 h_S_
      (ix3 (Fin.ofNat 2 b) (Fin.ofNat 16 h) (Fin.ofNat 256 s)) = ∑ t : Fin 256, rowOf z b h s t := by
  rw [hostReduceAdd_apply, Ideal.hostReduceAdd_single _ last_axis, constant_apply]
  refine (congrArg (· + _) Ideal.ofBits_zero_f32).trans ((zero_add _).trans ?_)
  exact Finset.sum_congr rfl fun t _ => congrArg z (lift_last _ _ _ t)

theorem at4_exps (z : FVec Ideal S2x16x256x256 .f32) (b h s t : ℕ) :
    at4 (exps z) b h s t = Ideal.exp (at4 z b h s t - (Finset.univ : Finset (Fin 256)).fold max ⊥ (rowOf z b h s)) := by
  have e : at4 (exps z) b h s t = Ideal.exp (at4 z b h s t - at4 (along (Host.reduce FloatOps.maximumf z
      (constant S_ .f32 0xFF800000#32) reducesTo_S2x16x256x256_S2x16x256_d3 h_S_)) b h s t) := rfl
  rw [e, at4_along, max_last]

theorem at4_wts (z : FVec Ideal S2x16x256x256 .f32) (b h s : ℕ) (t : Fin 256) :
    at4 (wts z) b h s t.val = softSub (rowOf z b h s) ((Finset.univ : Finset (Fin 256)).fold max ⊥ (rowOf z b h s)) t := by
  have e : at4 (wts z) b h s t.val = Ideal.div (at4 (exps z) b h s t.val)
      (at4 (along (Host.reduceAdd (exps z) (constant S_ .f32 0x00000000#32) reducesTo_S2x16x256x256_S2x16x256_d3 h_S_)) b h s t.val) := rfl
  rw [e, at4_along, sum_last, at4_exps]
  unfold softSub
  exact congrArg _ (Finset.sum_congr rfl fun u _ => at4_exps z b h s u.val)

theorem at3_outs {r n : ℕ} (hr : r < 512) (hn : n < 1024) :
    at3 (outs x wd uk uv wq wqr wkr) r n
      = heads (fun b h s => softSub (rowOf (scr x wd uk wq wqr wkr) b h s) ((Finset.univ : Finset (Fin 256)).fold max ⊥ (rowOf (scr x wd uk wq wqr wkr) b h s)))
          (mm 2048 (mm 1024 (at3 x) (at2 wd)) (at2 uv)) r n := by
  refine (at3_join _ _ r hn).trans ?_
  refine (transpose_apply _ _ _ _ (ix4 (Fin.ofNat 2 (r / 256)) (Fin.ofNat 16 (n / 64)) (Fin.ofNat 64 (n % 64)) (Fin.ofNat 256 (r % 256))) fun b => ?_).trans ?_
  · match b with
    | ⟨0, _⟩ => rfl
    | ⟨1, _⟩ => rfl
    | ⟨2, _⟩ => rfl
    | ⟨3, _⟩ => rfl
  · refine (at4_outs (d := dot_S2x256x16x64_S2x16x256x256_S2x16x64x256_1_3_3_2_02_01) rfl _ _ (r / 256) (n / 64) (n % 64) (r % 256)).trans ?_
    refine Finset.sum_congr rfl fun t _ => ?_
    rw [at4_split64 _ _ t.isLt (by omega) (by omega), at4_wts, at3_kv, mul_comm]
    have : 64 * (n / 64) + n % 64 = n := by omega
    rw [this]

/-- The reference's result. -/
theorem at2_result {r n : ℕ} (hr : r < 512) :
    at2 (result x wd uk uv wq wqr wkr wo) r n
      = mm 1024 (heads (fun b h s => softSub (rowOf (scr x wd uk wq wqr wkr) b h s) ((Finset.univ : Finset (Fin 256)).fold max ⊥ (rowOf (scr x wd uk wq wqr wkr) b h s)))
          (mm 2048 (mm 1024 (at3 x) (at2 wd)) (at2 uv))) (at2 wo) r n := by
  refine (congrFun (congrFun (at2_stack _ _) r) n).trans ((congrFun (congrFun (at3_rows rfl _ _) r) n).trans ?_)
  exact mm_congr (fun k hk => at3_outs x wd uk uv wq wqr wkr hr hk) fun _ _ => rfl

end

/-- It is what the reference's run leaves. -/
theorem run_result (m : (ℓ : Loc nD τ sig) → Buf (Elt Ideal) ℓ) (c : Dev nD) :
    Value.res_main_v38 (F := Ideal) m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := rfl

end Cert.AttentionReference

end
-- ==== Proof.AttentionKernel.lean ====
/-
The kernel's result at a row and a column, from the blocks a device is given and the summed keys and values.
-/
module

public import proofs.«01_k».proof.Proof.AttentionRead
public import proofs.«01_k».proof.Proof.AttentionReference
public import proofs.«01_k».proof.Proof.KernelIdealWhole

@[expose] public section

set_option maxRecDepth 8192

noncomputable section

namespace Cert.AttentionKernel

open Idealize.ShloMosaic Idealize.ShloMosaic.ValueIdx Cert.KernelIdeal Cert.KernelIdeal.Gen Cert.KernelIdealProof Cert.AttentionMath
open Cert.AttentionReference (scale)
open scoped BigOperators

theorem matAt_eq {R C : ℕ} [NeZero R] [NeZero C] (r k : ℕ) : (matAt r k : (⟨2, ![R, C]⟩ : Shape).Idx) = ix2 (Fin.ofNat R r) (Fin.ofNat C k) := by
  funext a
  match a with
  | ⟨0, _⟩ => rfl
  | ⟨1, _⟩ => rfl

theorem at2_sub {R C m n : ℕ} [NeZero R] [NeZero C] [NeZero m] [NeZero n] (a b : ℕ) (f : (⟨2, ![R, C]⟩ : Shape).Idx → EReal) {r k : ℕ} (hr : r < m) (hk : k < n) :
    at2 (sub a b f : (⟨2, ![m, n]⟩ : Shape).Idx → EReal) r k = at2 f (a + r) (b + k) := by
  show f (matAt (a + r % m) (b + k % n)) = _
  rw [matAt_eq, Nat.mod_eq_of_lt hr, Nat.mod_eq_of_lt hk]; rfl

/-! ## What a device computes from its blocks -/

section
variable (x : FVec Ideal S2x256x1024 .bf16) (a : FVec Ideal S512x1024 .bf16)

theorem at2_pay2 : at2 (k0_pay2 (F := Ideal) x) = at3 x := by
  show at2 (shapeCast S512x1024 (shapeCast S2x256x1024 x _) _) = _
  rw [shapeCast_self]
  exact at2_stack _ _

theorem at2_pay3 (w : FVec Ideal S1024x64 .bf16) : at2 (k0_pay3 (F := Ideal) a w) = mm 1024 (at2 a) (at2 w) := by
  refine (at2_plain (d := dot_S512x1024_S1024x64_S512x64_1_0_0_1_n_n) rfl a (shapeCast S1024x64 w shapeCasts_S1024x64_S1024x64)).trans ?_
  rw [shapeCast_self]

theorem at2_pay4 (w : FVec Ideal S1024x64 .bf16) (u : FVec Ideal S64x1024 .bf16) :
    at2 (k0_pay4 (F := Ideal) a w u) = mm 64 (mm 1024 (at2 a) (at2 w)) (at2 u) := by
  rw [← at2_pay3]
  refine Eq.trans ?_ ((at2_plain (d := dot_S512x64_S64x1024_S512x1024_1_0_0_1_n_n) rfl (k0_pay3 (F := Ideal) a w) (shapeCast S64x1024 u shapeCasts_S64x1024_S64x1024)).trans ?_)
  · exact congrArg at2 (shapeCast_self _ _)
  · rw [shapeCast_self]

theorem at2_pay6 (w : FVec Ideal S1024x1024 .bf16) : at2 (k0_pay6 (F := Ideal) a w) = fun r n => mm 1024 (at2 a) (at2 w) r n * scale := by
  refine (congrArg at2 (shapeCast_self _ _)).trans (funext fun r => funext fun n => congrArg (· * scale) ?_)
  refine (congrFun (congrFun (at2_plain (d := dot_S512x1024_S1024x1024_S512x1024_1_0_0_1_n_n) rfl a (shapeCast S1024x1024 w shapeCasts_S1024x1024_S1024x1024)) r) n).trans ?_
  rw [shapeCast_self]

theorem at2_pay7 (w : FVec Ideal S1024x512 .bf16) : at2 (k0_pay7 (F := Ideal) a w) = fun r n => mm 1024 (at2 a) (at2 w) r n * scale := by
  refine (congrArg at2 (shapeCast_self _ _)).trans (funext fun r => funext fun n => congrArg (· * scale) ?_)
  refine (congrFun (congrFun (at2_plain (d := dot_S512x1024_S1024x512_S512x512_1_0_0_1_n_n) rfl a (shapeCast S1024x512 w shapeCasts_S1024x512_S1024x512)) r) n).trans ?_
  rw [shapeCast_self]

theorem at2_pay8 (w : FVec Ideal S1024x32 .bf16) : at2 (k0_pay8 (F := Ideal) a w) = mm 1024 (at2 a) (at2 w) := by
  refine (congrArg at2 (shapeCast_self _ _)).trans ?_
  refine (at2_plain (d := dot_S512x1024_S1024x32_S512x32_1_0_0_1_n_n) rfl a (shapeCast S1024x32 w shapeCasts_S1024x32_S1024x32)).trans ?_
  rw [shapeCast_self]
end

/-! ## The weights -/

/-- A block of scores. -/
def blk (t : FVec Ideal S256x32 .bf16) (q : FVec Ideal S256x64 .bf16) (qr : FVec Ideal S256x32 .bf16) (k : FVec Ideal S256x64 .bf16) (r c : ℕ) : EReal :=
  ∑ d : Fin 64, at2 q r d.val * at2 k c d.val + ∑ d : Fin 32, at2 qr r d.val * at2 t c d.val

theorem last_axis : S256x256.Reduces [1] S256 := by decide

theorem lift_last (r c : Fin 256) : last_axis.lift (ix1 r) c = ix2 r (Fin.ofNat 256 c.val) := by
  funext a; apply Fin.ext
  match a with
  | ⟨0, _⟩ => rfl
  | ⟨1, _⟩ => exact (Nat.mod_eq_of_lt c.isLt).symm

/-- The exponentials of a block of scores. -/
def bexp (t : FVec Ideal S256x32 .bf16) (q : FVec Ideal S256x64 .bf16) (qr : FVec Ideal S256x32 .bf16) (k : FVec Ideal S256x64 .bf16) : FVec Ideal S256x256 .f32 :=
  exp (addf (matmul dot_S256x64_S256x64_S256x256_1_1_0_0_n_n none q k (constant S256x256 .f32 0x00000000#32))
    (matmul dot_S256x32_S256x32_S256x256_1_1_0_0_n_n none qr t (constant S256x256 .f32 0x00000000#32)))

theorem at2_bexp (t : FVec Ideal S256x32 .bf16) (q : FVec Ideal S256x64 .bf16) (qr : FVec Ideal S256x32 .bf16) (k : FVec Ideal S256x64 .bf16) (r c : ℕ) :
    at2 (bexp t q qr k) r c = Ideal.exp (blk t q qr k r c) :=
  congrArg Ideal.exp (congrArg₂ (· + ·) (at2_transposed rfl q k r c) (at2_transposed rfl qr t r c))

theorem at2_pay23 (t : FVec Ideal S256x32 .bf16) (q : FVec Ideal S256x64 .bf16) (qr : FVec Ideal S256x32 .bf16) (k : FVec Ideal S256x64 .bf16) (r : ℕ) (c : Fin 256) :
    at2 (k0_pay23 (F := Ideal) t q qr k) r c.val = soft (fun u : Fin 256 => blk t q qr k r u.val) c := by
  refine (congrFun (congrFun (congrArg at2 (shapeCast_self _ _)) r) c.val).trans ?_
  refine congrArg₂ Ideal.div (at2_bexp t q qr k r c.val) ?_
  refine (broadcastTo_apply _ _ _ (ix2 (Fin.ofNat 256 r) (0 : Fin 1)) fun a => ?_).trans ?_
  · match a with
    | ⟨0, _⟩ => rfl
    | ⟨1, _⟩ => rfl
  refine (shapeCast_apply _ _ _ (ix1 (Fin.ofNat 256 r)) ?_).trans ?_
  · rw [Shape.rowMajor_val_two, Shape.rowMajor_val_one]
    show r % 256 = r % 256 * 1 + 0
    omega
  refine (Ideal.multiReduction_add_single (bexp t q qr k) _ last_axis _ _ _).trans ?_
  exact Finset.sum_congr rfl fun u _ => (congrArg (bexp t q qr k) (lift_last _ u)).trans (at2_bexp t q qr k r u.val)

section
variable (t : FVec Ideal S512x32 .bf16) (q : FVec Ideal S512x1024 .bf16) (qr : FVec Ideal S512x512 .bf16) (k : FVec Ideal S512x1024 .bf16)

theorem at2_PRM {b h s : ℕ} (hb : b < 2) (hh : h < 16) (hs : s < 256) (u : Fin 256) :
    at2 (PRM (F := Ideal) t q qr k) (256 * b + s) (256 * h + u.val)
      = soft (fun v : Fin 256 => score (at2 q) (at2 k) (at2 qr) (at2 t) b h s v.val) u := by
  have hu := u.isLt
  have e : at2 (PRM (F := Ideal) t q qr k) (256 * b + s) (256 * h + u.val)
      = PB (F := Ideal) t q qr k ((256 * b + s) % 512 / 256) ((256 * h + u.val) % 4096 / 256)
          (matAt ((256 * b + s) % 512 % 256) ((256 * h + u.val) % 4096 % 256)) := rfl
  rw [e, show (256 * b + s) % 512 / 256 = b by omega, show (256 * h + u.val) % 4096 / 256 = h by omega,
    show (256 * b + s) % 512 % 256 = s by omega, show (256 * h + u.val) % 4096 % 256 = u.val by omega, matAt_eq]
  refine (at2_pay23 _ _ _ _ s u).trans (congrArg (soft · u) (funext fun v => ?_))
  unfold blk score
  have hv := v.isLt
  refine congrArg₂ (· + ·) (Finset.sum_congr rfl fun d _ => ?_) (Finset.sum_congr rfl fun d _ => ?_)
  · rw [at2_sub _ _ q hs d.isLt, at2_sub _ _ k hv d.isLt]
  · rw [at2_sub _ _ qr hs d.isLt, at2_sub _ _ t hv d.isLt, Nat.zero_add]
end

/-! ## The output -/

theorem at2_pay63 (v : FVec Ideal S256x64 .bf16) (p : FVec Ideal S256x256 .bf16) : at2 (k0_pay63 (F := Ideal) v p) = mm 256 (at2 p) (at2 v) :=
  at2_plain (d := dot_S256x256_S256x64_S256x64_1_0_0_1_n_n) rfl p v

/-- Sixteen heads side by side. -/
theorem at2_cat (g : Fin 16 → FVec Ideal S256x64 .bf16) (r : ℕ) {n : ℕ} (hn : n < 1024)
    (hc : Shape.Concatenates ((List.ofFn fun h : Fin 16 => (⟨S256x64, g h⟩ : (s : Shape) × (s.Idx → EReal))).map (·.1)) S256x1024 1) :
    at2 (concatenate S256x1024 1 (List.ofFn fun h : Fin 16 => (⟨S256x64, g h⟩ : (s : Shape) × (s.Idx → EReal))) hc) r n
      = at2 (g (Fin.ofNat 16 (n / 64))) r (n % 64) := by
  refine concatenate_ofFn_apply 1 g hc rfl 64 rfl _ (Fin.ofNat 16 (n / 64)) ?_ _ ?_ fun b hb => ?_
  · show n % 1024 / 64 = n / 64 % 16
    omega
  · show n % 64 % 64 = n % 1024 % 64
    omega
  · match b with
    | ⟨0, _⟩ => rfl
    | ⟨1, _⟩ => exact absurd rfl hb

section
variable (gb : FVec Ideal S512x1024 .bf16) (p : FVec Ideal S512x4096 .bf16) (w : FVec Ideal S1024x1024 .bf16)

/-- Head `h`'s output from row `x` on. -/
def headAt (x : ℕ) (h : Fin 16) : FVec Ideal S256x64 .bf16 := k0_pay63 (F := Ideal) (sub x (64 * h.val) gb) (sub x (256 * h.val) p)

theorem cat_ok (x : ℕ) : Shape.Concatenates ((List.ofFn fun h : Fin 16 => (⟨S256x64, headAt gb p x h⟩ : (s : Shape) × (s.Idx → EReal))).map (·.1)) S256x1024 1 := by
  have e : (List.ofFn fun h : Fin 16 => (⟨S256x64, headAt gb p x h⟩ : (s : Shape) × (s.Idx → EReal))).map (·.1) = List.replicate 16 S256x64 := by
    simp [List.map_ofFn, List.ofFn_const, Function.comp_def]
  rw [e]; decide

/-- The heads' outputs side by side from row `x` on, through the last product. -/
def half (x : ℕ) : FVec Ideal S256x1024 .f32 :=
  matmul (φ₁ := .bf16) dot_S256x1024_S1024x1024_S256x1024_1_0_0_1_n_n none
    (concatenate S256x1024 1 (List.ofFn fun h : Fin 16 => (⟨S256x64, headAt gb p x h⟩ : (s : Shape) × (s.Idx → EReal))) (cat_ok gb p x))
    (shapeCast S1024x1024 w shapeCasts_S1024x1024_S1024x1024) (constant S256x1024 .f32 0x00000000#32)

theorem top_eq : top (F := Ideal) gb p w = half gb p w 0 := rfl
theorem low_eq : low (F := Ideal) gb p w = half gb p w 256 := rfl

theorem at2_half {b r : ℕ} (hr : r < 256) (n : ℕ) :
    at2 (half gb p w (256 * b)) r n
      = mm 1024 (heads (fun b h s t => at2 p (256 * b + s) (256 * h + t.val)) (at2 gb)) (at2 w) (256 * b + r) n := by
  refine (congrFun (congrFun (at2_plain (φ₁ := .bf16) (d := dot_S256x1024_S1024x1024_S256x1024_1_0_0_1_n_n) rfl _ _) r) n).trans ?_
  rw [shapeCast_self]
  refine Finset.sum_congr rfl fun kk _ => congrArg (· * at2 w kk.val n) ?_
  obtain ⟨k, hk⟩ := kk
  show at2 (concatenate S256x1024 1 (List.ofFn fun h : Fin 16 => (⟨S256x64, headAt gb p (256 * b) h⟩ : (s : Shape) × (s.Idx → EReal))) (cat_ok gb p (256 * b))) r k = heads _ _ _ k
  rw [at2_cat _ r hk]
  unfold headAt
  rw [at2_pay63]
  unfold mm heads
  refine Finset.sum_congr rfl fun t _ => ?_
  rw [at2_sub _ _ p hr t.isLt, at2_sub _ _ gb t.isLt (Nat.mod_lt _ (by decide))]
  have e : (Fin.ofNat 16 (k / 64)).val = k / 64 := Nat.mod_eq_of_lt (by omega)
  rw [e, show (256 * b + r) / 256 = b by omega, show (256 * b + r) % 256 = r by omega, show 64 * (k / 64) + k % 64 = k by omega]

theorem at2_OUT {r : ℕ} (hr : r < 512) {n : ℕ} (hn : n < 1024) :
    at2 (OUT (F := Ideal) gb p w) r n
      = mm 1024 (heads (fun b h s t => at2 p (256 * b + s) (256 * h + t.val)) (at2 gb)) (at2 w) r n := by
  have e : at2 (OUT (F := Ideal) gb p w) r n
      = if r % 512 < 256 then top (F := Ideal) gb p w (matAt (r % 512) (n % 1024)) else low (F := Ideal) gb p w (matAt (r % 512 - 256) (n % 1024)) := rfl
  rw [e, Nat.mod_eq_of_lt hr, Nat.mod_eq_of_lt hn]
  by_cases h : r < 256
  · rw [if_pos h, matAt_eq, top_eq]
    refine (at2_half gb p w (b := 0) h n).trans ?_
    rw [show 256 * 0 + r = r by omega]
  · rw [if_neg h, matAt_eq, low_eq]
    refine (at2_half gb p w (b := 1) (show r - 256 < 256 by omega) n).trans ?_
    rw [show 256 * 1 + (r - 256) = r by omega]
end

end Cert.AttentionKernel

end
-- ==== Proof.AttentionMesh.lean ====
/-
The sums the exchanges leave: on every chunk the sum of all 32 devices' matrices, in whatever order it was taken.
-/
module

public import proofs.«01_k».proof.Proof.KernelIdealProtocol
public import Idealize.ShloMosaic.PureOps.Ideal.Laws

@[expose] public section

noncomputable section

namespace Cert.AttentionMesh

open Idealize.ShloMosaic Cert.KernelIdeal Cert.KernelIdealProof
open scoped BigOperators

/-- The devices whose matrices have reached device `c` after an exchange with `px a`, the ones before it being `l`. -/
def swap (a : ℕ) (l : Dev nD → List (Dev nD)) (c : Dev nD) : List (Dev nD) := l c ++ l (px a c)
/-- The devices after three such exchanges and the one among four. -/
def reach (a b d e f g : ℕ) (c : Dev nD) : List (Dev nD) :=
  let l := swap d (swap b (swap a fun c => [c]))
  l c ++ l (px e c) ++ l (px f c) ++ l (px g c)

theorem reachA : ∀ c, (reach 1 3 4 8 16 24 c).Perm (List.finRange 32) := by decide +kernel
theorem reachB : ∀ c, (reach 3 8 16 1 4 5 c).Perm (List.finRange 32) := by decide +kernel

/-- A device's matrix is the sum of the matrices of the devices on its list. -/
def SumOf (K : Dev nD → Mat Ideal) (t : Dev nD → Mat Ideal) (l : Dev nD → List (Dev nD)) : Prop :=
  ∀ c i, (t c i : EReal) = ((l c).map fun d => (K d i : EReal)).sum

variable (K : Dev nD → Mat Ideal)

theorem sumOf_self : SumOf K K fun c => [c] := fun c i => by simp

theorem SumOf.swap {t : Dev nD → Mat Ideal} {l : Dev nD → List (Dev nD)} (h : SumOf K t l) (a : ℕ) :
    SumOf K (fun c => madd (t c) (t (px a c))) (swap a l) := fun c i => by
  show (t c i : EReal) + (t (px a c) i : EReal) = _
  rw [h c i, h (px a c) i, AttentionMesh.swap, List.map_append, List.sum_append]

theorem SumOf.four {t : Dev nD → Mat Ideal} {l : Dev nD → List (Dev nD)} (h : SumOf K t l) (e f g : ℕ) :
    SumOf K (fun c => madd (madd (madd (t c) (t (px e c))) (t (px f c))) (t (px g c))) fun c => l c ++ l (px e c) ++ l (px f c) ++ l (px g c) := fun c i => by
  show (t c i : EReal) + (t (px e c) i : EReal) + (t (px f c) i : EReal) + (t (px g c) i : EReal) = _
  rw [h c i, h (px e c) i, h (px f c) i, h (px g c) i]
  simp only [List.map_append, List.sum_append]

theorem sum_all {l : List (Dev nD)} (h : l.Perm (List.finRange 32)) (i : S512x1024.Idx) :
    (l.map fun d => (K d i : EReal)).sum = ∑ d : Fin 32, (K d i : EReal) := by
  rw [(h.map _).sum_eq, Fin.sum_univ_def]

/-- Stream A's matrix, -/
theorem gA_eq (i : S512x1024.Idx) : (gA K i : EReal) = ∑ d : Fin 32, (K d i : EReal) :=
  (((((sumOf_self K).swap K 1).swap K 3).swap K 4).four K 8 16 24 _ i).trans (sum_all K (reachA _) i)

/-- and stream B's. -/
theorem gB_eq (i : S512x1024.Idx) : (gB K i : EReal) = ∑ d : Fin 32, (K d i : EReal) :=
  (((((sumOf_self K).swap K 3).swap K 8).swap K 16).four K 1 4 5 _ i).trans (sum_all K (reachB _) i)

end Cert.AttentionMesh

end
-- ==== Proof.AttentionEnds.lean ====
/-
What the kernel leaves in its result is the reference's, given the blocks and that what the scores come from is finite.
-/
module

public import proofs.«01_k».proof.Proof.AttentionKernel
public import proofs.«01_k».proof.Proof.AttentionMesh
public import proofs.«01_k».proof.Proof.KernelIdealLaunch
public import proofs.«01_k».proof.Defs
public import Idealize.ShloMosaic.Lib.Layout
public import Idealize.ShloMosaic.Lib.ReduceAll
public import Idealize.ShloMosaic.Lib.Pipeline.ValueKit.Geometry

@[expose] public section

set_option maxRecDepth 8192

noncomputable section

namespace Cert.AttentionEnds

open Idealize.ShloMosaic Idealize.ShloMosaic.ValueIdx Idealize.ShloMosaic.TcCoe Cert.KernelIdeal Cert.KernelIdeal.Gen Cert.KernelIdealProof Cert.AttentionMath Cert.AttentionKernel Cert.AttentionMesh
open Cert.AttentionReference (scale isNum_scale sc scr result rowOf)
open scoped BigOperators

/-! ## The windows: every argument and the result whole -/

section
variable (m : (ℓ : Loc nD τ sig) → Buf (Elt Ideal) ℓ) (c : Dev nD)

theorem in0_eq : in0 m c = m ((c : Thread nD τ).loc main_arg0) :=
  funext fun y => congrArg (V m c main_arg0) (funext fun a => Fin.ext (Pipeline.Window.rect_emb_val_of_index_zero win0_0 t0_0 a rfl y))
theorem in1_eq : in1 m c = m ((c : Thread nD τ).loc main_arg1) :=
  funext fun y => congrArg (V m c main_arg1) (funext fun a => Fin.ext (Pipeline.Window.rect_emb_val_of_index_zero win0_1 t0_0 a rfl y))
theorem in2_eq : in2 m c = m ((c : Thread nD τ).loc main_arg2) :=
  funext fun y => congrArg (V m c main_arg2) (funext fun a => Fin.ext (Pipeline.Window.rect_emb_val_of_index_zero win0_2 t0_0 a rfl y))
theorem in3_eq : in3 m c = m ((c : Thread nD τ).loc main_arg3) :=
  funext fun y => congrArg (V m c main_arg3) (funext fun a => Fin.ext (Pipeline.Window.rect_emb_val_of_index_zero win0_3 t0_0 a rfl y))
theorem in4_eq : in4 m c = m ((c : Thread nD τ).loc main_arg4) :=
  funext fun y => congrArg (V m c main_arg4) (funext fun a => Fin.ext (Pipeline.Window.rect_emb_val_of_index_zero win0_4 t0_0 a rfl y))
theorem in5_eq : in5 m c = m ((c : Thread nD τ).loc main_arg5) :=
  funext fun y => congrArg (V m c main_arg5) (funext fun a => Fin.ext (Pipeline.Window.rect_emb_val_of_index_zero win0_5 t0_0 a rfl y))
theorem in6_eq : in6 m c = m ((c : Thread nD τ).loc main_arg6) :=
  funext fun y => congrArg (V m c main_arg6) (funext fun a => Fin.ext (Pipeline.Window.rect_emb_val_of_index_zero win0_6 t0_0 a rfl y))
theorem in7_eq : in7 m c = m ((c : Thread nD τ).loc main_arg7) :=
  funext fun y => congrArg (V m c main_arg7) (funext fun a => Fin.ext (Pipeline.Window.rect_emb_val_of_index_zero win0_7 t0_0 a rfl y))

theorem out_eq : (dats m 0 c).arrAt (8 : Fin 9) cfg0.N = res m c :=
  (dats m 0 c).arrAt_eq_of_after_last (8 : Fin 9) t0_0 (by decide +kernel) (res m c) (fun j => rfl)
end

/-! ## The blocks -/

theorem at2_cols (w : (⟨2, ![1024, 2048]⟩ : Shape).Idx → EReal) (d : Fin 32) (r : ℕ) {k : ℕ} (hk : k < 64) :
    at2 (Layout.block ⟨2, ![1024, 64]⟩ ⟨2, ![1024, 2048]⟩ 1 32 d w) r k = at2 w r (64 * d.val + k) := by
  refine congrArg w (funext fun a => Fin.ext ?_)
  match a with
  | ⟨0, _⟩ => rfl
  | ⟨1, _⟩ =>
    show d.val * 64 + k % 64 = (64 * d.val + k) % 2048
    have := d.isLt
    omega

theorem at2_rows (w : (⟨2, ![2048, 1024]⟩ : Shape).Idx → EReal) (d : Fin 32) {k : ℕ} (hk : k < 64) (n : ℕ) :
    at2 (Layout.block ⟨2, ![64, 1024]⟩ ⟨2, ![2048, 1024]⟩ 0 32 d w) k n = at2 w (64 * d.val + k) n := by
  refine congrArg w (funext fun a => Fin.ext ?_)
  match a with
  | ⟨0, _⟩ =>
    show d.val * 64 + k % 64 = (64 * d.val + k) % 2048
    have := d.isLt
    omega
  | ⟨1, _⟩ => rfl

/-- The devices' parts of the keys (or of the values) sum to the whole. -/
theorem sum_parts (x : FVec Ideal S2x256x1024 .bf16) (w : (⟨2, ![1024, 2048]⟩ : Shape).Idx → EReal) (u : (⟨2, ![2048, 1024]⟩ : Shape).Idx → EReal) (r n : ℕ) :
    ∑ d : Fin 32, at2 (k0_pay4 (F := Ideal) (k0_pay2 x) (Layout.block ⟨2, ![1024, 64]⟩ ⟨2, ![1024, 2048]⟩ 1 32 d w)
        (Layout.block ⟨2, ![64, 1024]⟩ ⟨2, ![2048, 1024]⟩ 0 32 d u)) r n
      = mm 2048 (mm 1024 (at3 x) (at2 w)) (at2 u) r n := by
  rw [← mm_blocks]
  refine Finset.sum_congr rfl fun d _ => ?_
  rw [at2_pay4, at2_pay2]
  exact mm_congr (fun k hk => Finset.sum_congr rfl fun i _ => congrArg (at3 x r i.val * ·) (at2_cols w d i.val hk)) fun k hk => at2_rows u d hk n

/-! ## The result -/

section
variable (m : (ℓ : Loc nD τ sig) → Buf (Elt Ideal) ℓ)
  (x : FVec Ideal S2x256x1024 .bf16) (wd : (⟨2, ![1024, 2048]⟩ : Shape).Idx → EReal) (uk uv : (⟨2, ![2048, 1024]⟩ : Shape).Idx → EReal)
  (wq : FVec Ideal S1024x1024 .bf16) (wqr : FVec Ideal S1024x512 .bf16) (wkr : FVec Ideal S1024x32 .bf16) (wo : FVec Ideal S1024x1024 .bf16)
  (h0 : ∀ c, in0 m c = x) (h1 : ∀ c, in1 m c = Layout.block ⟨2, ![1024, 64]⟩ ⟨2, ![1024, 2048]⟩ 1 32 c wd)
  (h2 : ∀ c, in2 m c = Layout.block ⟨2, ![64, 1024]⟩ ⟨2, ![2048, 1024]⟩ 0 32 c uk)
  (h3 : ∀ c, in3 m c = Layout.block ⟨2, ![64, 1024]⟩ ⟨2, ![2048, 1024]⟩ 0 32 c uv)
  (h4 : ∀ c, in4 m c = wq) (h5 : ∀ c, in5 m c = wqr) (h6 : ∀ c, in6 m c = wkr) (h7 : ∀ c, in7 m c = wo)

include h0 h1 h2 in
theorem at2_keys : at2 (gA (dK m)) = mm 2048 (mm 1024 (at3 x) (at2 wd)) (at2 uk) := by
  funext r n
  refine (gA_eq (dK m) _).trans (Eq.trans (Finset.sum_congr rfl fun d _ => ?_) (sum_parts x wd uk r n))
  unfold dK
  rw [h0, h1, h2]; rfl

include h0 h1 h3 in
theorem at2_values : at2 (gB (dV m)) = mm 2048 (mm 1024 (at3 x) (at2 wd)) (at2 uv) := by
  funext r n
  refine (gB_eq (dV m) _).trans (Eq.trans (Finset.sum_congr rfl fun d _ => ?_) (sum_parts x wd uv r n))
  unfold dV
  rw [h0, h1, h3]; rfl

variable (n0 : ∀ j, IsNum (x j)) (n1 : ∀ j, IsNum (wd j)) (n2 : ∀ j, IsNum (uk j)) (n4 : ∀ j, IsNum (wq j)) (n5 : ∀ j, IsNum (wqr j)) (n6 : ∀ j, IsNum (wkr j))
include n0 n1 n2 n4 n5 n6

theorem isNum_sc (b h s t : ℕ) : IsNum (sc x wd uk wq wqr wkr b h s t) :=
  isNum_score (isNum_mm (fun _ _ => n0 _) fun _ _ => n4 _) (isNum_mm (isNum_mm (fun _ _ => n0 _) fun _ _ => n1 _) fun _ _ => n2 _)
    (isNum_mm (fun _ _ => n0 _) fun _ _ => n5 _) (isNum_mm (fun _ _ => n0 _) fun _ _ => n6 _) b h s t

/-- The two take the same weights. -/
theorem weights_eq {b h s : ℕ} (hh : h < 16) (hs : s < 256) (t : Fin 256) :
    soft (fun v : Fin 256 => score (fun r k => mm 1024 (at3 x) (at2 wq) r k * scale) (mm 2048 (mm 1024 (at3 x) (at2 wd)) (at2 uk))
        (fun r k => mm 1024 (at3 x) (at2 wqr) r k * scale) (mm 1024 (at3 x) (at2 wkr)) b h s v.val) t
      = softSub (rowOf (scr x wd uk wq wqr wkr) b h s) ((Finset.univ : Finset (Fin 256)).fold max ⊥ (rowOf (scr x wd uk wq wqr wkr) b h s)) t := by
  have e : rowOf (scr x wd uk wq wqr wkr) b h s = fun v : Fin 256 => sc x wd uk wq wqr wkr b h s v.val * scale :=
    funext fun v => AttentionReference.at4_scr x wd uk wq wqr wkr hh hs v.isLt
  have hn : ∀ v, IsNum (rowOf (scr x wd uk wq wqr wkr) b h s v) := fun v => by
    rw [e]; exact (isNum_sc x wd uk wq wqr wkr n0 n1 n2 n4 n5 n6 b h s v.val).mul isNum_scale
  rw [softSub_eq hn (isNum_max hn), e]
  refine congrArg (soft · t) (funext fun v => ?_)
  exact score_scaled (isNum_mm (fun _ _ => n0 _) fun _ _ => n4 _) (isNum_mm (isNum_mm (fun _ _ => n0 _) fun _ _ => n1 _) fun _ _ => n2 _)
    (isNum_mm (fun _ _ => n0 _) fun _ _ => n5 _) (isNum_mm (fun _ _ => n0 _) fun _ _ => n6 _) isNum_scale b h s v.val

include h0 h1 h2 h3 h4 h5 h6 h7
/-- Every device leaves the reference's result. -/
theorem res_eq (c : Dev nD) : res m c = result x wd uk uv wq wqr wkr wo := by
  funext j
  have hr : (j 0).val < 512 := (j 0).isLt
  have hn : (j 1).val < 1024 := (j 1).isLt
  rw [eq_at2 (res m c) j, eq_at2 (result x wd uk uv wq wqr wkr wo) j, AttentionReference.at2_result _ _ _ _ _ _ _ _ hr]
  unfold res
  rw [at2_OUT _ _ _ hr hn, h7, at2_values m x wd uv h0 h1 h3]
  refine mm_congr (fun k hk => heads_congr (fun t => ?_) fun _ => rfl) fun _ _ => rfl
  rw [at2_PRM _ _ _ _ (by omega) (by omega) (Nat.mod_lt _ (by decide)) t, at2_keys m x wd uk h0 h1 h2]
  unfold dQ dQr dKr
  rw [h0, h4, h5, h6, at2_pay6, at2_pay7, at2_pay8, at2_pay2]
  exact weights_eq x wd uk wq wqr wkr n0 n1 n2 n4 n5 n6 (by omega) (Nat.mod_lt _ (by decide)) t
end

/-! ## The precondition -/

/-- What the two printed forms of the precondition state. -/
theorem pre_facts : Cert.Pre_finite_scores_KernelIdeal.Facts := by constructor <;> decide +kernel
theorem pre_facts_reference : Cert.Pre_finite_scores_ReferenceIdeal.Facts := by constructor <;> decide +kernel

instance : Subsingleton (⟨0, ![]⟩ : Shape).Idx := ⟨fun _ _ => funext fun a => a.elim0⟩

/-- An array all of whose elements are below infinity in absolute value is an array of numbers. -/
theorem isNum_of_all {S : Shape} {axes : List (Fin S.rank)} (x : FVec Ideal S .bf16) (hb : (⟨0, ![]⟩ : Shape).BroadcastsInDim S ![])
    (hr : S.ReducesTo axes ⟨0, ![]⟩) (hu : 0 < (⟨0, ![]⟩ : Shape).numel) (j : (⟨0, ![]⟩ : Shape).Idx)
    (e : Host.reduce IntOp.andi (cmpf .olt (Host.absf x) (broadcastInDim S ![] hb (constant (F := Ideal) ⟨0, ![]⟩ .bf16 0x7F80#16)))
      (constantI ⟨0, ![]⟩ 1 1#1) hr hu j = 1#1) (i : S.Idx) : IsNum (x i) := by
  have h := Host.reduce_andi_all _ _ hr hu j e i
  have h' : BitVec.ofBool (decide (max (x i) (-x i) < Ideal.ofBits .bf16 0x7F80#16)) = 1#1 := h
  by_cases hlt : max (x i) (-x i) < Ideal.ofBits .bf16 0x7F80#16
  · exact isNum_of_abs_lt (lt_of_lt_of_le hlt le_top)
  · rw [decide_eq_false hlt] at h'
    exact absurd h' (by decide)

theorem both {p q : IVec ⟨0, ![]⟩ 1} {j : (⟨0, ![]⟩ : Shape).Idx} (h : andi p q j = 1#1) : p j = 1#1 ∧ q j = 1#1 := IntOp.andi_eq_one.1 h

attribute [local instance] pre_facts

/-- The precondition of one device's blocks. -/
theorem nums_of_pre (x : FVec Ideal S2x256x1024 .bf16) (wd : FVec Ideal S1024x64 .bf16) (uk uv : FVec Ideal S64x1024 .bf16)
    (wq : FVec Ideal S1024x1024 .bf16) (wqr : FVec Ideal S1024x512 .bf16) (wkr : FVec Ideal S1024x32 .bf16) (wo : FVec Ideal S1024x1024 .bf16)
    (h : Cert.Pre_finite_scores_KernelIdeal.fn (F := Ideal) x wd uk uv wq wqr wkr wo = fun _ => 1#1) :
    (∀ j, IsNum (x j)) ∧ (∀ j, IsNum (wd j)) ∧ (∀ j, IsNum (uk j)) ∧ (∀ j, IsNum (wq j)) ∧ (∀ j, IsNum (wqr j)) ∧ ∀ j, IsNum (wkr j) := by
  obtain ⟨h5, e6⟩ := both (congrFun h fun a => a.elim0)
  obtain ⟨h4, e5⟩ := both h5
  clear h h5
  obtain ⟨h2, e4⟩ := both h4
  obtain ⟨h1, e2⟩ := both h2
  obtain ⟨e0, e1⟩ := both h1
  clear h4 h2 h1
  exact ⟨isNum_of_all x _ _ _ _ e0, isNum_of_all wd _ _ _ _ e1, isNum_of_all uk _ _ _ _ e2,
    isNum_of_all wq _ _ _ _ e4, isNum_of_all wqr _ _ _ _ e5, isNum_of_all wkr _ _ _ _ e6⟩

/-- Every element of an array cut into columns is in some block, -/
theorem isNum_cols (w : (⟨2, ![1024, 2048]⟩ : Shape).Idx → EReal)
    (h : ∀ (d : Fin 32) j, IsNum ((Layout.block ⟨2, ![1024, 64]⟩ ⟨2, ![1024, 2048]⟩ 1 32 d w) j)) (j : (⟨2, ![1024, 2048]⟩ : Shape).Idx) : IsNum (w j) := by
  have hj : (j 1).val < 2048 := (j 1).isLt
  have e := at2_cols w ⟨(j 1).val / 64, by omega⟩ (j 0).val (Nat.mod_lt (j 1).val (by decide : 0 < 64))
  rw [Nat.div_add_mod] at e
  rw [eq_at2 w j, ← e]
  exact h _ _

/-- and of one cut into rows. -/
theorem isNum_rows (w : (⟨2, ![2048, 1024]⟩ : Shape).Idx → EReal)
    (h : ∀ (d : Fin 32) j, IsNum ((Layout.block ⟨2, ![64, 1024]⟩ ⟨2, ![2048, 1024]⟩ 0 32 d w) j)) (j : (⟨2, ![2048, 1024]⟩ : Shape).Idx) : IsNum (w j) := by
  have hj : (j 0).val < 2048 := (j 0).isLt
  have e := at2_rows w ⟨(j 0).val / 64, by omega⟩ (Nat.mod_lt (j 0).val (by decide : 0 < 64)) (j 1).val
  rw [Nat.div_add_mod] at e
  rw [eq_at2 w j, ← e]
  exact h _ _

end Cert.AttentionEnds

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdealFrame
public import proofs.«01_k».proof.Proof.AttentionEnds
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ => Cert.KernelIdealProof.frame_printed (F := Bits) m ρ

theorem frame_ideal : Cert.quiescent_KernelIdeal := fun m ρ _ => Cert.KernelIdealProof.frame_any (F := Ideal) m ρ

theorem frame_reference : Cert.quiescent_ReferenceIdeal := fun m ρ _ =>
  (θ_run _ _ _).mono (fun r h => ⟨fun c => (h c).2, Idealize.ShloMosaic.sem_eq_zero_of_no_sems (by decide) r.2⟩)
    (Cert.ReferenceIdeal.Value.run (F := Ideal) m ρ)

attribute [local instance] Cert.AttentionEnds.pre_facts Cert.AttentionEnds.pre_facts_reference

open Cert.AttentionEnds in
/-- Where what the scores come from is finite, every device's result is the reference's. -/
theorem same_result : Cert.algebraic_KernelIdeal_ReferenceIdeal_pre_finite_scores_KernelIdeal := by
  intro m g m' g' hpre hargs
  have hn := fun c => nums_of_pre _ _ _ _ _ _ _ _ (hpre c)
  have h0 := fun c => (Cert.AttentionEnds.in0_eq m c).trans (hargs c).1
  refine ⟨Cert.ReferenceIdeal.Value.res_main_v38 (F := Ideal) m' 0, (θ_run _ _ _).mono (fun r h c => ?_)
    (Cert.KernelIdealProof.run_main (F := Ideal) m g), ?_⟩
  · refine ⟨?_, Cert.KernelIdealProof.args_kept h.1 c⟩
    refine (h.1 c (8 : Fin 9)).trans ((out_eq m c).trans ?_)
    rw [Cert.AttentionReference.run_result]
    refine res_eq m _ _ _ _ _ _ _ _ h0 (fun c => (in1_eq m c).trans (hargs c).2.1) (fun c => (in2_eq m c).trans (hargs c).2.2.1)
      (fun c => (in3_eq m c).trans (hargs c).2.2.2.1) (fun c => (in4_eq m c).trans (hargs c).2.2.2.2.1) (fun c => (in5_eq m c).trans (hargs c).2.2.2.2.2.1)
      (fun c => (in6_eq m c).trans (hargs c).2.2.2.2.2.2.1) (fun c => (in7_eq m c).trans (hargs c).2.2.2.2.2.2.2) ?_ ?_ ?_ ?_ ?_ ?_ c
    · rw [← (hargs c).1]; exact (hn c).1
    · exact isNum_cols _ fun d => by rw [← (hargs d).2.1]; exact (hn d).2.1
    · exact isNum_rows _ fun d => by rw [← (hargs d).2.2.1]; exact (hn d).2.2.1
    · rw [← (hargs c).2.2.2.2.1]; exact (hn c).2.2.2.1
    · rw [← (hargs c).2.2.2.2.2.1]; exact (hn c).2.2.2.2.1
    · rw [← (hargs c).2.2.2.2.2.2.1]; exact (hn c).2.2.2.2.2
  · exact (θ_run _ _ _).mono (fun r h => h 0) (Cert.ReferenceIdeal.Value.run (F := Ideal) m' g')

theorem claim : Cert.Claim := ⟨Cert.Kernel.Gen.facts, Cert.KernelIdeal.Gen.facts, Cert.ReferenceIdeal.Gen.facts,
  Cert.AttentionEnds.pre_facts, Cert.AttentionEnds.pre_facts_reference, frame_kernel, frame_ideal, fun m ρ _ => frame_ideal m ρ trivial,
  frame_reference, fun m ρ _ => frame_reference m ρ trivial, trivial, same_result⟩

end Cert.Proof

end
